-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16)
      ∧ r.2.mem ((c.tc : Thread Cert.Kernel7.nD Cert.Kernel7.τ).loc Cert.Kernel7.main_arg17) = m ((c.tc : Thread Cert.Kernel7.nD Cert.Kernel7.τ).loc Cert.Kernel7.main_arg17)
      ∧ r.2.mem ((c.tc : Thread Cert.Kernel7.nD Cert.Kernel7.τ).loc Cert.Kernel7.main_arg18) = m ((c.tc : Thread Cert.Kernel7.nD Cert.Kernel7.τ).loc Cert.Kernel7.main_arg18)
      ∧ r.2.mem ((c.tc : Thread Cert.Kernel7.nD Cert.Kernel7.τ).loc Cert.Kernel7.main_arg19) = m ((c.tc : Thread Cert.Kernel7.nD Cert.Kernel7.τ).loc Cert.Kernel7.main_arg19)
      ∧ r.2.mem ((c.tc : Thread Cert.Kernel7.nD Cert.Kernel7.τ).loc Cert.Kernel7.main_arg20) = m ((c.tc : Thread Cert.Kernel7.nD Cert.Kernel7.τ).loc Cert.Kernel7.main_arg20)
      ∧ r.2.mem ((c.tc : Thread Cert.Kernel7.nD Cert.Kernel7.τ).loc Cert.Kernel7.main_arg21) = m ((c.tc : Thread Cert.Kernel7.nD Cert.Kernel7.τ).loc Cert.Kernel7.main_arg21)
      ∧ r.2.mem ((c.tc : Thread Cert.Kernel7.nD Cert.Kernel7.τ).loc Cert.Kernel7.main_arg22) = m ((c.tc : Thread Cert.Kernel7.nD Cert.Kernel7.τ).loc Cert.Kernel7.main_arg22)
      ∧ r.2.mem ((c.tc : Thread Cert.Kernel7.nD Cert.Kernel7.τ).loc Cert.Kernel7.main_arg23) = m ((c.tc : Thread Cert.Kernel7.nD Cert.Kernel7.τ).loc Cert.Kernel7.main_arg23)
      ∧ r.2.mem ((c.tc : Thread Cert.Kernel7.nD Cert.Kernel7.τ).loc Cert.Kernel7.main_arg24) = m ((c.tc : Thread Cert.Kernel7.nD Cert.Kernel7.τ).loc Cert.Kernel7.main_arg24)
      ∧ r.2.mem ((c.tc : Thread Cert.Kernel7.nD Cert.Kernel7.τ).loc Cert.Kernel7.main_arg25) = m ((c.tc : Thread Cert.Kernel7.nD Cert.Kernel7.τ).loc Cert.Kernel7.main_arg25)
      ∧ r.2.mem ((c.tc : Thread Cert.Kernel7.nD Cert.Kernel7.τ).loc Cert.Kernel7.main_arg26) = m ((c.tc : Thread Cert.Kernel7.nD Cert.Kernel7.τ).loc Cert.Kernel7.main_arg26)
      ∧ r.2.mem ((c.tc : Thread Cert.Kernel7.nD Cert.Kernel7.τ).loc Cert.Kernel7.main_arg27) = m ((c.tc : Thread Cert.Kernel7.nD Cert.Kernel7.τ).loc Cert.Kernel7.main_arg27)
      ∧ r.2.mem ((c.tc : Thread Cert.Kernel7.nD Cert.Kernel7.τ).loc Cert.Kernel7.main_arg28) = m ((c.tc : Thread Cert.Kernel7.nD Cert.Kernel7.τ).loc Cert.Kernel7.main_arg28)
      ∧ r.2.mem ((c.tc : Thread Cert.Kernel7.nD Cert.Kernel7.τ).loc Cert.Kernel7.main_arg29) = m ((c.tc : Thread Cert.Kernel7.nD Cert.Kernel7.τ).loc Cert.Kernel7.main_arg29)
      ∧ r.2.mem ((c.tc : Thread Cert.Kernel7.nD Cert.Kernel7.τ).loc Cert.Kernel7.main_arg30) = m ((c.tc : Thread Cert.Kernel7.nD Cert.Kernel7.τ).loc Cert.Kernel7.main_arg30)
      ∧ r.2.mem ((c.tc : Thread Cert.Kernel7.nD Cert.Kernel7.τ).loc Cert.Kernel7.main_arg31) = m ((c.tc : Thread Cert.Kernel7.nD Cert.Kernel7.τ).loc Cert.Kernel7.main_arg31)
      ∧ r.2.mem ((c.tc : Thread Cert.Kernel7.nD Cert.Kernel7.τ).loc Cert.Kernel7.main_arg32) = m ((c.tc : Thread Cert.Kernel7.nD Cert.Kernel7.τ).loc Cert.Kernel7.main_arg32)
      ∧ r.2.mem ((c.tc : Thread Cert.Kernel7.nD Cert.Kernel7.τ).loc Cert.Kernel7.main_arg33) = m ((c.tc : Thread Cert.Kernel7.nD Cert.Kernel7.τ).loc Cert.Kernel7.main_arg33)
      ∧ r.2.mem ((c.tc : Thread Cert.Kernel7.nD Cert.Kernel7.τ).loc Cert.Kernel7.main_arg34) = m ((c.tc : Thread Cert.Kernel7.nD Cert.Kernel7.τ).loc Cert.Kernel7.main_arg34)
      ∧ r.2.mem ((c.tc : Thread Cert.Kernel7.nD Cert.Kernel7.τ).loc Cert.Kernel7.main_arg35) = m ((c.tc : Thread Cert.Kernel7.nD Cert.Kernel7.τ).loc Cert.Kernel7.main_arg35)
      ∧ r.2.mem ((c.tc : Thread Cert.Kernel7.nD Cert.Kernel7.τ).loc Cert.Kernel7.main_arg36) = m ((c.tc : Thread Cert.Kernel7.nD Cert.Kernel7.τ).loc Cert.Kernel7.main_arg36)
      ∧ r.2.mem ((c.tc : Thread Cert.Kernel7.nD Cert.Kernel7.τ).loc Cert.Kernel7.main_arg37) = m ((c.tc : Thread Cert.Kernel7.nD Cert.Kernel7.τ).loc Cert.Kernel7.main_arg37)
      ∧ r.2.mem ((c.tc : Thread Cert.Kernel7.nD Cert.Kernel7.τ).loc Cert.Kernel7.main_arg38) = m ((c.tc : Thread Cert.Kernel7.nD Cert.Kernel7.τ).loc Cert.Kernel7.main_arg38)
      ∧ r.2.mem ((c.tc : Thread Cert.Kernel7.nD Cert.Kernel7.τ).loc Cert.Kernel7.main_arg39) = m ((c.tc : Thread Cert.Kernel7.nD Cert.Kernel7.τ).loc Cert.Kernel7.main_arg39)
      ∧ r.2.mem ((c.tc : Thread Cert.Kernel7.nD Cert.Kernel7.τ).loc Cert.Kernel7.main_arg40) = m ((c.tc : Thread Cert.Kernel7.nD Cert.Kernel7.τ).loc Cert.Kernel7.main_arg40)
      ∧ r.2.mem ((c.tc : Thread Cert.Kernel7.nD Cert.Kernel7.τ).loc Cert.Kernel7.main_arg41) = m ((c.tc : Thread Cert.Kernel7.nD Cert.Kernel7.τ).loc Cert.Kernel7.main_arg41)
      ∧ r.2.mem ((c.tc : Thread Cert.Kernel7.nD Cert.Kernel7.τ).loc Cert.Kernel7.main_arg42) = m ((c.tc : Thread Cert.Kernel7.nD Cert.Kernel7.τ).loc Cert.Kernel7.main_arg42)
      ∧ r.2.mem ((c.tc : Thread Cert.Kernel7.nD Cert.Kernel7.τ).loc Cert.Kernel7.main_arg43) = m ((c.tc : Thread Cert.Kernel7.nD Cert.Kernel7.τ).loc Cert.Kernel7.main_arg43)
      ∧ r.2.mem ((c.tc : Thread Cert.Kernel7.nD Cert.Kernel7.τ).loc Cert.Kernel7.main_arg44) = m ((c.tc : Thread Cert.Kernel7.nD Cert.Kernel7.τ).loc Cert.Kernel7.main_arg44)
      ∧ r.2.mem ((c.tc : Thread Cert.Kernel7.nD Cert.Kernel7.τ).loc Cert.Kernel7.main_arg45) = m ((c.tc : Thread Cert.Kernel7.nD Cert.Kernel7.τ).loc Cert.Kernel7.main_arg45)
      ∧ r.2.mem ((c.tc : Thread Cert.Kernel7.nD Cert.Kernel7.τ).loc Cert.Kernel7.main_arg46) = m ((c.tc : Thread Cert.Kernel7.nD Cert.Kernel7.τ).loc Cert.Kernel7.main_arg46)
      ∧ r.2.mem ((c.tc : Thread Cert.Kernel7.nD Cert.Kernel7.τ).loc Cert.Kernel7.main_arg47) = m ((c.tc : Thread Cert.Kernel7.nD Cert.Kernel7.τ).loc Cert.Kernel7.main_arg47)
      ∧ r.2.mem ((c.tc : Thread Cert.Kernel7.nD Cert.Kernel7.τ).loc Cert.Kernel7.main_arg48) = m ((c.tc : Thread Cert.Kernel7.nD Cert.Kernel7.τ).loc Cert.Kernel7.main_arg48)
      ∧ r.2.mem ((c.tc : Thread Cert.Kernel7.nD Cert.Kernel7.τ).loc Cert.Kernel7.main_arg49) = m ((c.tc : Thread Cert.Kernel7.nD Cert.Kernel7.τ).loc Cert.Kernel7.main_arg49)
      ∧ r.2.mem ((c.tc : Thread Cert.Kernel7.nD Cert.Kernel7.τ).loc Cert.Kernel7.main_arg50) = m ((c.tc : Thread Cert.Kernel7.nD Cert.Kernel7.τ).loc Cert.Kernel7.main_arg50)
      ∧ r.2.mem ((c.tc : Thread Cert.Kernel7.nD Cert.Kernel7.τ).loc Cert.Kernel7.main_arg51) = m ((c.tc : Thread Cert.Kernel7.nD Cert.Kernel7.τ).loc Cert.Kernel7.main_arg51)
      ∧ r.2.mem ((c.tc : Thread Cert.Kernel7.nD Cert.Kernel7.τ).loc Cert.Kernel7.main_arg52) = m ((c.tc : Thread Cert.Kernel7.nD Cert.Kernel7.τ).loc Cert.Kernel7.main_arg52)
      ∧ r.2.mem ((c.tc : Thread Cert.Kernel7.nD Cert.Kernel7.τ).loc Cert.Kernel7.main_arg53) = m ((c.tc : Thread Cert.Kernel7.nD Cert.Kernel7.τ).loc Cert.Kernel7.main_arg53)
      ∧ r.2.mem ((c.tc : Thread Cert.Kernel7.nD Cert.Kernel7.τ).loc Cert.Kernel7.main_arg54) = m ((c.tc : Thread Cert.Kernel7.nD Cert.Kernel7.τ).loc Cert.Kernel7.main_arg54)
      ∧ r.2.mem ((c.tc : Thread Cert.Kernel7.nD Cert.Kernel7.τ).loc Cert.Kernel7.main_arg55) = m ((c.tc : Thread Cert.Kernel7.nD Cert.Kernel7.τ).loc Cert.Kernel7.main_arg55))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
      ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
      ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
      ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
      ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
      ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
      ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
      ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
      ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
      ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
      ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
      ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
      ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
      ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29)
      ∧ r.2.mem ((c.tc : Thread Cert.Kernel7Ideal.nD Cert.Kernel7Ideal.τ).loc Cert.Kernel7Ideal.main_arg30) = m ((c.tc : Thread Cert.Kernel7Ideal.nD Cert.Kernel7Ideal.τ).loc Cert.Kernel7Ideal.main_arg30)
      ∧ r.2.mem ((c.tc : Thread Cert.Kernel7Ideal.nD Cert.Kernel7Ideal.τ).loc Cert.Kernel7Ideal.main_arg31) = m ((c.tc : Thread Cert.Kernel7Ideal.nD Cert.Kernel7Ideal.τ).loc Cert.Kernel7Ideal.main_arg31)
      ∧ r.2.mem ((c.tc : Thread Cert.Kernel7Ideal.nD Cert.Kernel7Ideal.τ).loc Cert.Kernel7Ideal.main_arg32) = m ((c.tc : Thread Cert.Kernel7Ideal.nD Cert.Kernel7Ideal.τ).loc Cert.Kernel7Ideal.main_arg32)
      ∧ r.2.mem ((c.tc : Thread Cert.Kernel7Ideal.nD Cert.Kernel7Ideal.τ).loc Cert.Kernel7Ideal.main_arg33) = m ((c.tc : Thread Cert.Kernel7Ideal.nD Cert.Kernel7Ideal.τ).loc Cert.Kernel7Ideal.main_arg33)
      ∧ r.2.mem ((c.tc : Thread Cert.Kernel7Ideal.nD Cert.Kernel7Ideal.τ).loc Cert.Kernel7Ideal.main_arg34) = m ((c.tc : Thread Cert.Kernel7Ideal.nD Cert.Kernel7Ideal.τ).loc Cert.Kernel7Ideal.main_arg34)
      ∧ r.2.mem ((c.tc : Thread Cert.Kernel7Ideal.nD Cert.Kernel7Ideal.τ).loc Cert.Kernel7Ideal.main_arg35) = m ((c.tc : Thread Cert.Kernel7Ideal.nD Cert.Kernel7Ideal.τ).loc Cert.Kernel7Ideal.main_arg35)
      ∧ r.2.mem ((c.tc : Thread Cert.Kernel7Ideal.nD Cert.Kernel7Ideal.τ).loc Cert.Kernel7Ideal.main_arg36) = m ((c.tc : Thread Cert.Kernel7Ideal.nD Cert.Kernel7Ideal.τ).loc Cert.Kernel7Ideal.main_arg36)
      ∧ r.2.mem ((c.tc : Thread Cert.Kernel7Ideal.nD Cert.Kernel7Ideal.τ).loc Cert.Kernel7Ideal.main_arg37) = m ((c.tc : Thread Cert.Kernel7Ideal.nD Cert.Kernel7Ideal.τ).loc Cert.Kernel7Ideal.main_arg37)
      ∧ r.2.mem ((c.tc : Thread Cert.Kernel7Ideal.nD Cert.Kernel7Ideal.τ).loc Cert.Kernel7Ideal.main_arg38) = m ((c.tc : Thread Cert.Kernel7Ideal.nD Cert.Kernel7Ideal.τ).loc Cert.Kernel7Ideal.main_arg38)
      ∧ r.2.mem ((c.tc : Thread Cert.Kernel7Ideal.nD Cert.Kernel7Ideal.τ).loc Cert.Kernel7Ideal.main_arg39) = m ((c.tc : Thread Cert.Kernel7Ideal.nD Cert.Kernel7Ideal.τ).loc Cert.Kernel7Ideal.main_arg39)
      ∧ r.2.mem ((c.tc : Thread Cert.Kernel7Ideal.nD Cert.Kernel7Ideal.τ).loc Cert.Kernel7Ideal.main_arg40) = m ((c.tc : Thread Cert.Kernel7Ideal.nD Cert.Kernel7Ideal.τ).loc Cert.Kernel7Ideal.main_arg40)
      ∧ r.2.mem ((c.tc : Thread Cert.Kernel7Ideal.nD Cert.Kernel7Ideal.τ).loc Cert.Kernel7Ideal.main_arg41) = m ((c.tc : Thread Cert.Kernel7Ideal.nD Cert.Kernel7Ideal.τ).loc Cert.Kernel7Ideal.main_arg41)
      ∧ r.2.mem ((c.tc : Thread Cert.Kernel7Ideal.nD Cert.Kernel7Ideal.τ).loc Cert.Kernel7Ideal.main_arg42) = m ((c.tc : Thread Cert.Kernel7Ideal.nD Cert.Kernel7Ideal.τ).loc Cert.Kernel7Ideal.main_arg42)
      ∧ r.2.mem ((c.tc : Thread Cert.Kernel7Ideal.nD Cert.Kernel7Ideal.τ).loc Cert.Kernel7Ideal.main_arg43) = m ((c.tc : Thread Cert.Kernel7Ideal.nD Cert.Kernel7Ideal.τ).loc Cert.Kernel7Ideal.main_arg43)
      ∧ r.2.mem ((c.tc : Thread Cert.Kernel7Ideal.nD Cert.Kernel7Ideal.τ).loc Cert.Kernel7Ideal.main_arg44) = m ((c.tc : Thread Cert.Kernel7Ideal.nD Cert.Kernel7Ideal.τ).loc Cert.Kernel7Ideal.main_arg44)
      ∧ r.2.mem ((c.tc : Thread Cert.Kernel7Ideal.nD Cert.Kernel7Ideal.τ).loc Cert.Kernel7Ideal.main_arg45) = m ((c.tc : Thread Cert.Kernel7Ideal.nD Cert.Kernel7Ideal.τ).loc Cert.Kernel7Ideal.main_arg45)
      ∧ r.2.mem ((c.tc : Thread Cert.Kernel7Ideal.nD Cert.Kernel7Ideal.τ).loc Cert.Kernel7Ideal.main_arg46) = m ((c.tc : Thread Cert.Kernel7Ideal.nD Cert.Kernel7Ideal.τ).loc Cert.Kernel7Ideal.main_arg46)
      ∧ r.2.mem ((c.tc : Thread Cert.Kernel7Ideal.nD Cert.Kernel7Ideal.τ).loc Cert.Kernel7Ideal.main_arg47) = m ((c.tc : Thread Cert.Kernel7Ideal.nD Cert.Kernel7Ideal.τ).loc Cert.Kernel7Ideal.main_arg47)
      ∧ r.2.mem ((c.tc : Thread Cert.Kernel7Ideal.nD Cert.Kernel7Ideal.τ).loc Cert.Kernel7Ideal.main_arg48) = m ((c.tc : Thread Cert.Kernel7Ideal.nD Cert.Kernel7Ideal.τ).loc Cert.Kernel7Ideal.main_arg48)
      ∧ r.2.mem ((c.tc : Thread Cert.Kernel7Ideal.nD Cert.Kernel7Ideal.τ).loc Cert.Kernel7Ideal.main_arg49) = m ((c.tc : Thread Cert.Kernel7Ideal.nD Cert.Kernel7Ideal.τ).loc Cert.Kernel7Ideal.main_arg49)
      ∧ r.2.mem ((c.tc : Thread Cert.Kernel7Ideal.nD Cert.Kernel7Ideal.τ).loc Cert.Kernel7Ideal.main_arg50) = m ((c.tc : Thread Cert.Kernel7Ideal.nD Cert.Kernel7Ideal.τ).loc Cert.Kernel7Ideal.main_arg50)
      ∧ r.2.mem ((c.tc : Thread Cert.Kernel7Ideal.nD Cert.Kernel7Ideal.τ).loc Cert.Kernel7Ideal.main_arg51) = m ((c.tc : Thread Cert.Kernel7Ideal.nD Cert.Kernel7Ideal.τ).loc Cert.Kernel7Ideal.main_arg51)
      ∧ r.2.mem ((c.tc : Thread Cert.Kernel7Ideal.nD Cert.Kernel7Ideal.τ).loc Cert.Kernel7Ideal.main_arg52) = m ((c.tc : Thread Cert.Kernel7Ideal.nD Cert.Kernel7Ideal.τ).loc Cert.Kernel7Ideal.main_arg52)
      ∧ r.2.mem ((c.tc : Thread Cert.Kernel7Ideal.nD Cert.Kernel7Ideal.τ).loc Cert.Kernel7Ideal.main_arg53) = m ((c.tc : Thread Cert.Kernel7Ideal.nD Cert.Kernel7Ideal.τ).loc Cert.Kernel7Ideal.main_arg53)
      ∧ r.2.mem ((c.tc : Thread Cert.Kernel7Ideal.nD Cert.Kernel7Ideal.τ).loc Cert.Kernel7Ideal.main_arg54) = m ((c.tc : Thread Cert.Kernel7Ideal.nD Cert.Kernel7Ideal.τ).loc Cert.Kernel7Ideal.main_arg54)
      ∧ r.2.mem ((c.tc : Thread Cert.Kernel7Ideal.nD Cert.Kernel7Ideal.τ).loc Cert.Kernel7Ideal.main_arg55) = m ((c.tc : Thread Cert.Kernel7Ideal.nD Cert.Kernel7Ideal.τ).loc Cert.Kernel7Ideal.main_arg55))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16)
      ∧ r.2.mem ((c.tc : Thread Cert.Reference7Ideal.nD Cert.Reference7Ideal.τ).loc Cert.Reference7Ideal.main_arg17) = m ((c.tc : Thread Cert.Reference7Ideal.nD Cert.Reference7Ideal.τ).loc Cert.Reference7Ideal.main_arg17)
      ∧ r.2.mem ((c.tc : Thread Cert.Reference7Ideal.nD Cert.Reference7Ideal.τ).loc Cert.Reference7Ideal.main_arg18) = m ((c.tc : Thread Cert.Reference7Ideal.nD Cert.Reference7Ideal.τ).loc Cert.Reference7Ideal.main_arg18)
      ∧ r.2.mem ((c.tc : Thread Cert.Reference7Ideal.nD Cert.Reference7Ideal.τ).loc Cert.Reference7Ideal.main_arg19) = m ((c.tc : Thread Cert.Reference7Ideal.nD Cert.Reference7Ideal.τ).loc Cert.Reference7Ideal.main_arg19)
      ∧ r.2.mem ((c.tc : Thread Cert.Reference7Ideal.nD Cert.Reference7Ideal.τ).loc Cert.Reference7Ideal.main_arg20) = m ((c.tc : Thread Cert.Reference7Ideal.nD Cert.Reference7Ideal.τ).loc Cert.Reference7Ideal.main_arg20)
      ∧ r.2.mem ((c.tc : Thread Cert.Reference7Ideal.nD Cert.Reference7Ideal.τ).loc Cert.Reference7Ideal.main_arg21) = m ((c.tc : Thread Cert.Reference7Ideal.nD Cert.Reference7Ideal.τ).loc Cert.Reference7Ideal.main_arg21)
      ∧ r.2.mem ((c.tc : Thread Cert.Reference7Ideal.nD Cert.Reference7Ideal.τ).loc Cert.Reference7Ideal.main_arg22) = m ((c.tc : Thread Cert.Reference7Ideal.nD Cert.Reference7Ideal.τ).loc Cert.Reference7Ideal.main_arg22)
      ∧ r.2.mem ((c.tc : Thread Cert.Reference7Ideal.nD Cert.Reference7Ideal.τ).loc Cert.Reference7Ideal.main_arg23) = m ((c.tc : Thread Cert.Reference7Ideal.nD Cert.Reference7Ideal.τ).loc Cert.Reference7Ideal.main_arg23)
      ∧ r.2.mem ((c.tc : Thread Cert.Reference7Ideal.nD Cert.Reference7Ideal.τ).loc Cert.Reference7Ideal.main_arg24) = m ((c.tc : Thread Cert.Reference7Ideal.nD Cert.Reference7Ideal.τ).loc Cert.Reference7Ideal.main_arg24)
      ∧ r.2.mem ((c.tc : Thread Cert.Reference7Ideal.nD Cert.Reference7Ideal.τ).loc Cert.Reference7Ideal.main_arg25) = m ((c.tc : Thread Cert.Reference7Ideal.nD Cert.Reference7Ideal.τ).loc Cert.Reference7Ideal.main_arg25)
      ∧ r.2.mem ((c.tc : Thread Cert.Reference7Ideal.nD Cert.Reference7Ideal.τ).loc Cert.Reference7Ideal.main_arg26) = m ((c.tc : Thread Cert.Reference7Ideal.nD Cert.Reference7Ideal.τ).loc Cert.Reference7Ideal.main_arg26)
      ∧ r.2.mem ((c.tc : Thread Cert.Reference7Ideal.nD Cert.Reference7Ideal.τ).loc Cert.Reference7Ideal.main_arg27) = m ((c.tc : Thread Cert.Reference7Ideal.nD Cert.Reference7Ideal.τ).loc Cert.Reference7Ideal.main_arg27)
      ∧ r.2.mem ((c.tc : Thread Cert.Reference7Ideal.nD Cert.Reference7Ideal.τ).loc Cert.Reference7Ideal.main_arg28) = m ((c.tc : Thread Cert.Reference7Ideal.nD Cert.Reference7Ideal.τ).loc Cert.Reference7Ideal.main_arg28)
      ∧ r.2.mem ((c.tc : Thread Cert.Reference7Ideal.nD Cert.Reference7Ideal.τ).loc Cert.Reference7Ideal.main_arg29) = m ((c.tc : Thread Cert.Reference7Ideal.nD Cert.Reference7Ideal.τ).loc Cert.Reference7Ideal.main_arg29)
      ∧ r.2.mem ((c.tc : Thread Cert.Reference7Ideal.nD Cert.Reference7Ideal.τ).loc Cert.Reference7Ideal.main_arg30) = m ((c.tc : Thread Cert.Reference7Ideal.nD Cert.Reference7Ideal.τ).loc Cert.Reference7Ideal.main_arg30)
      ∧ r.2.mem ((c.tc : Thread Cert.Reference7Ideal.nD Cert.Reference7Ideal.τ).loc Cert.Reference7Ideal.main_arg31) = m ((c.tc : Thread Cert.Reference7Ideal.nD Cert.Reference7Ideal.τ).loc Cert.Reference7Ideal.main_arg31)
      ∧ r.2.mem ((c.tc : Thread Cert.Reference7Ideal.nD Cert.Reference7Ideal.τ).loc Cert.Reference7Ideal.main_arg32) = m ((c.tc : Thread Cert.Reference7Ideal.nD Cert.Reference7Ideal.τ).loc Cert.Reference7Ideal.main_arg32)
      ∧ r.2.mem ((c.tc : Thread Cert.Reference7Ideal.nD Cert.Reference7Ideal.τ).loc Cert.Reference7Ideal.main_arg33) = m ((c.tc : Thread Cert.Reference7Ideal.nD Cert.Reference7Ideal.τ).loc Cert.Reference7Ideal.main_arg33)
      ∧ r.2.mem ((c.tc : Thread Cert.Reference7Ideal.nD Cert.Reference7Ideal.τ).loc Cert.Reference7Ideal.main_arg34) = m ((c.tc : Thread Cert.Reference7Ideal.nD Cert.Reference7Ideal.τ).loc Cert.Reference7Ideal.main_arg34)
      ∧ r.2.mem ((c.tc : Thread Cert.Reference7Ideal.nD Cert.Reference7Ideal.τ).loc Cert.Reference7Ideal.main_arg35) = m ((c.tc : Thread Cert.Reference7Ideal.nD Cert.Reference7Ideal.τ).loc Cert.Reference7Ideal.main_arg35)
      ∧ r.2.mem ((c.tc : Thread Cert.Reference7Ideal.nD Cert.Reference7Ideal.τ).loc Cert.Reference7Ideal.main_arg36) = m ((c.tc : Thread Cert.Reference7Ideal.nD Cert.Reference7Ideal.τ).loc Cert.Reference7Ideal.main_arg36)
      ∧ r.2.mem ((c.tc : Thread Cert.Reference7Ideal.nD Cert.Reference7Ideal.τ).loc Cert.Reference7Ideal.main_arg37) = m ((c.tc : Thread Cert.Reference7Ideal.nD Cert.Reference7Ideal.τ).loc Cert.Reference7Ideal.main_arg37)
      ∧ r.2.mem ((c.tc : Thread Cert.Reference7Ideal.nD Cert.Reference7Ideal.τ).loc Cert.Reference7Ideal.main_arg38) = m ((c.tc : Thread Cert.Reference7Ideal.nD Cert.Reference7Ideal.τ).loc Cert.Reference7Ideal.main_arg38)
      ∧ r.2.mem ((c.tc : Thread Cert.Reference7Ideal.nD Cert.Reference7Ideal.τ).loc Cert.Reference7Ideal.main_arg39) = m ((c.tc : Thread Cert.Reference7Ideal.nD Cert.Reference7Ideal.τ).loc Cert.Reference7Ideal.main_arg39)
      ∧ r.2.mem ((c.tc : Thread Cert.Reference7Ideal.nD Cert.Reference7Ideal.τ).loc Cert.Reference7Ideal.main_arg40) = m ((c.tc : Thread Cert.Reference7Ideal.nD Cert.Reference7Ideal.τ).loc Cert.Reference7Ideal.main_arg40)
      ∧ r.2.mem ((c.tc : Thread Cert.Reference7Ideal.nD Cert.Reference7Ideal.τ).loc Cert.Reference7Ideal.main_arg41) = m ((c.tc : Thread Cert.Reference7Ideal.nD Cert.Reference7Ideal.τ).loc Cert.Reference7Ideal.main_arg41)
      ∧ r.2.mem ((c.tc : Thread Cert.Reference7Ideal.nD Cert.Reference7Ideal.τ).loc Cert.Reference7Ideal.main_arg42) = m ((c.tc : Thread Cert.Reference7Ideal.nD Cert.Reference7Ideal.τ).loc Cert.Reference7Ideal.main_arg42)
      ∧ r.2.mem ((c.tc : Thread Cert.Reference7Ideal.nD Cert.Reference7Ideal.τ).loc Cert.Reference7Ideal.main_arg43) = m ((c.tc : Thread Cert.Reference7Ideal.nD Cert.Reference7Ideal.τ).loc Cert.Reference7Ideal.main_arg43)
      ∧ r.2.mem ((c.tc : Thread Cert.Reference7Ideal.nD Cert.Reference7Ideal.τ).loc Cert.Reference7Ideal.main_arg44) = m ((c.tc : Thread Cert.Reference7Ideal.nD Cert.Reference7Ideal.τ).loc Cert.Reference7Ideal.main_arg44)
      ∧ r.2.mem ((c.tc : Thread Cert.Reference7Ideal.nD Cert.Reference7Ideal.τ).loc Cert.Reference7Ideal.main_arg45) = m ((c.tc : Thread Cert.Reference7Ideal.nD Cert.Reference7Ideal.τ).loc Cert.Reference7Ideal.main_arg45)
      ∧ r.2.mem ((c.tc : Thread Cert.Reference7Ideal.nD Cert.Reference7Ideal.τ).loc Cert.Reference7Ideal.main_arg46) = m ((c.tc : Thread Cert.Reference7Ideal.nD Cert.Reference7Ideal.τ).loc Cert.Reference7Ideal.main_arg46)
      ∧ r.2.mem ((c.tc : Thread Cert.Reference7Ideal.nD Cert.Reference7Ideal.τ).loc Cert.Reference7Ideal.main_arg47) = m ((c.tc : Thread Cert.Reference7Ideal.nD Cert.Reference7Ideal.τ).loc Cert.Reference7Ideal.main_arg47)
      ∧ r.2.mem ((c.tc : Thread Cert.Reference7Ideal.nD Cert.Reference7Ideal.τ).loc Cert.Reference7Ideal.main_arg48) = m ((c.tc : Thread Cert.Reference7Ideal.nD Cert.Reference7Ideal.τ).loc Cert.Reference7Ideal.main_arg48)
      ∧ r.2.mem ((c.tc : Thread Cert.Reference7Ideal.nD Cert.Reference7Ideal.τ).loc Cert.Reference7Ideal.main_arg49) = m ((c.tc : Thread Cert.Reference7Ideal.nD Cert.Reference7Ideal.τ).loc Cert.Reference7Ideal.main_arg49)
      ∧ r.2.mem ((c.tc : Thread Cert.Reference7Ideal.nD Cert.Reference7Ideal.τ).loc Cert.Reference7Ideal.main_arg50) = m ((c.tc : Thread Cert.Reference7Ideal.nD Cert.Reference7Ideal.τ).loc Cert.Reference7Ideal.main_arg50)
      ∧ r.2.mem ((c.tc : Thread Cert.Reference7Ideal.nD Cert.Reference7Ideal.τ).loc Cert.Reference7Ideal.main_arg51) = m ((c.tc : Thread Cert.Reference7Ideal.nD Cert.Reference7Ideal.τ).loc Cert.Reference7Ideal.main_arg51)
      ∧ r.2.mem ((c.tc : Thread Cert.Reference7Ideal.nD Cert.Reference7Ideal.τ).loc Cert.Reference7Ideal.main_arg52) = m ((c.tc : Thread Cert.Reference7Ideal.nD Cert.Reference7Ideal.τ).loc Cert.Reference7Ideal.main_arg52)
      ∧ r.2.mem ((c.tc : Thread Cert.Reference7Ideal.nD Cert.Reference7Ideal.τ).loc Cert.Reference7Ideal.main_arg53) = m ((c.tc : Thread Cert.Reference7Ideal.nD Cert.Reference7Ideal.τ).loc Cert.Reference7Ideal.main_arg53)
      ∧ r.2.mem ((c.tc : Thread Cert.Reference7Ideal.nD Cert.Reference7Ideal.τ).loc Cert.Reference7Ideal.main_arg54) = m ((c.tc : Thread Cert.Reference7Ideal.nD Cert.Reference7Ideal.τ).loc Cert.Reference7Ideal.main_arg54)
      ∧ r.2.mem ((c.tc : Thread Cert.Reference7Ideal.nD Cert.Reference7Ideal.τ).loc Cert.Reference7Ideal.main_arg55) = m ((c.tc : Thread Cert.Reference7Ideal.nD Cert.Reference7Ideal.τ).loc Cert.Reference7Ideal.main_arg55))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)) (v4 : (c : Dev Cert.KernelIdeal.nD) → Buf (Elt Ideal) ((c.tc : Thread Cert.KernelIdeal.nD Cert.KernelIdeal.τ).loc Cert.KernelIdeal.main_v23_4)) (v5 : (c : Dev Cert.KernelIdeal.nD) → Buf (Elt Ideal) ((c.tc : Thread Cert.KernelIdeal.nD Cert.KernelIdeal.τ).loc Cert.KernelIdeal.main_v23_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_v23_4) = v4 c
          ∧ r.2.mem ((c.tc : Thread Cert.KernelIdeal.nD Cert.KernelIdeal.τ).loc Cert.KernelIdeal.main_v23_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_v96) = v4 c
          ∧ r.2.mem ((c.tc : Thread Cert.ReferenceIdeal.nD Cert.ReferenceIdeal.τ).loc Cert.ReferenceIdeal.main_v97) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)) (v3 : (c : Dev Cert.Kernel2Ideal.nD) → Buf (Elt Ideal) ((c.tc : Thread Cert.Kernel2Ideal.nD Cert.Kernel2Ideal.τ).loc Cert.Kernel2Ideal.main_v23_3)) (v4 : (c : Dev Cert.Kernel2Ideal.nD) → Buf (Elt Ideal) ((c.tc : Thread Cert.Kernel2Ideal.nD Cert.Kernel2Ideal.τ).loc Cert.Kernel2Ideal.main_v23_4)) (v5 : (c : Dev Cert.Kernel2Ideal.nD) → Buf (Elt Ideal) ((c.tc : Thread Cert.Kernel2Ideal.nD Cert.Kernel2Ideal.τ).loc Cert.Kernel2Ideal.main_v23_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_v23_3) = v3 c
          ∧ r.2.mem ((c.tc : Thread Cert.Kernel2Ideal.nD Cert.Kernel2Ideal.τ).loc Cert.Kernel2Ideal.main_v23_4) = v4 c
          ∧ r.2.mem ((c.tc : Thread Cert.Kernel2Ideal.nD Cert.Kernel2Ideal.τ).loc Cert.Kernel2Ideal.main_v23_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v92) = v0 c
          ∧ r.2.mem ((c.tc : Thread Cert.Reference2Ideal.nD Cert.Reference2Ideal.τ).loc Cert.Reference2Ideal.main_v94) = v1 c
          ∧ r.2.mem ((c.tc : Thread Cert.Reference2Ideal.nD Cert.Reference2Ideal.τ).loc Cert.Reference2Ideal.main_v96) = v2 c
          ∧ r.2.mem ((c.tc : Thread Cert.Reference2Ideal.nD Cert.Reference2Ideal.τ).loc Cert.Reference2Ideal.main_v97) = v3 c
          ∧ r.2.mem ((c.tc : Thread Cert.Reference2Ideal.nD Cert.Reference2Ideal.τ).loc Cert.Reference2Ideal.main_v98) = v4 c
          ∧ r.2.mem ((c.tc : Thread Cert.Reference2Ideal.nD Cert.Reference2Ideal.τ).loc Cert.Reference2Ideal.main_v99) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)) (v3 : (c : Dev Cert.Kernel3Ideal.nD) → Buf (Elt Ideal) ((c.tc : Thread Cert.Kernel3Ideal.nD Cert.Kernel3Ideal.τ).loc Cert.Kernel3Ideal.main_v9_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_v9_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_v33) = v2 c
          ∧ r.2.mem ((c.tc : Thread Cert.Reference3Ideal.nD Cert.Reference3Ideal.τ).loc Cert.Reference3Ideal.main_v66) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v9) = v2 c
          ∧ r.2.mem ((c.tc : Thread Cert.Reference4Ideal.nD Cert.Reference4Ideal.τ).loc Cert.Reference4Ideal.main_v42) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v26) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)
      ∧ m' ((c.tc : Thread Cert.Reference7Ideal.nD Cert.Reference7Ideal.τ).loc Cert.Reference7Ideal.main_arg17) = m ((c.tc : Thread Cert.Kernel7Ideal.nD Cert.Kernel7Ideal.τ).loc Cert.Kernel7Ideal.main_arg17)
      ∧ m' ((c.tc : Thread Cert.Reference7Ideal.nD Cert.Reference7Ideal.τ).loc Cert.Reference7Ideal.main_arg18) = m ((c.tc : Thread Cert.Kernel7Ideal.nD Cert.Kernel7Ideal.τ).loc Cert.Kernel7Ideal.main_arg18)
      ∧ m' ((c.tc : Thread Cert.Reference7Ideal.nD Cert.Reference7Ideal.τ).loc Cert.Reference7Ideal.main_arg19) = m ((c.tc : Thread Cert.Kernel7Ideal.nD Cert.Kernel7Ideal.τ).loc Cert.Kernel7Ideal.main_arg19)
      ∧ m' ((c.tc : Thread Cert.Reference7Ideal.nD Cert.Reference7Ideal.τ).loc Cert.Reference7Ideal.main_arg20) = m ((c.tc : Thread Cert.Kernel7Ideal.nD Cert.Kernel7Ideal.τ).loc Cert.Kernel7Ideal.main_arg20)
      ∧ m' ((c.tc : Thread Cert.Reference7Ideal.nD Cert.Reference7Ideal.τ).loc Cert.Reference7Ideal.main_arg21) = m ((c.tc : Thread Cert.Kernel7Ideal.nD Cert.Kernel7Ideal.τ).loc Cert.Kernel7Ideal.main_arg21)
      ∧ m' ((c.tc : Thread Cert.Reference7Ideal.nD Cert.Reference7Ideal.τ).loc Cert.Reference7Ideal.main_arg22) = m ((c.tc : Thread Cert.Kernel7Ideal.nD Cert.Kernel7Ideal.τ).loc Cert.Kernel7Ideal.main_arg22)
      ∧ m' ((c.tc : Thread Cert.Reference7Ideal.nD Cert.Reference7Ideal.τ).loc Cert.Reference7Ideal.main_arg23) = m ((c.tc : Thread Cert.Kernel7Ideal.nD Cert.Kernel7Ideal.τ).loc Cert.Kernel7Ideal.main_arg23)
      ∧ m' ((c.tc : Thread Cert.Reference7Ideal.nD Cert.Reference7Ideal.τ).loc Cert.Reference7Ideal.main_arg24) = m ((c.tc : Thread Cert.Kernel7Ideal.nD Cert.Kernel7Ideal.τ).loc Cert.Kernel7Ideal.main_arg24)
      ∧ m' ((c.tc : Thread Cert.Reference7Ideal.nD Cert.Reference7Ideal.τ).loc Cert.Reference7Ideal.main_arg25) = m ((c.tc : Thread Cert.Kernel7Ideal.nD Cert.Kernel7Ideal.τ).loc Cert.Kernel7Ideal.main_arg25)
      ∧ m' ((c.tc : Thread Cert.Reference7Ideal.nD Cert.Reference7Ideal.τ).loc Cert.Reference7Ideal.main_arg26) = m ((c.tc : Thread Cert.Kernel7Ideal.nD Cert.Kernel7Ideal.τ).loc Cert.Kernel7Ideal.main_arg26)
      ∧ m' ((c.tc : Thread Cert.Reference7Ideal.nD Cert.Reference7Ideal.τ).loc Cert.Reference7Ideal.main_arg27) = m ((c.tc : Thread Cert.Kernel7Ideal.nD Cert.Kernel7Ideal.τ).loc Cert.Kernel7Ideal.main_arg27)
      ∧ m' ((c.tc : Thread Cert.Reference7Ideal.nD Cert.Reference7Ideal.τ).loc Cert.Reference7Ideal.main_arg28) = m ((c.tc : Thread Cert.Kernel7Ideal.nD Cert.Kernel7Ideal.τ).loc Cert.Kernel7Ideal.main_arg28)
      ∧ m' ((c.tc : Thread Cert.Reference7Ideal.nD Cert.Reference7Ideal.τ).loc Cert.Reference7Ideal.main_arg29) = m ((c.tc : Thread Cert.Kernel7Ideal.nD Cert.Kernel7Ideal.τ).loc Cert.Kernel7Ideal.main_arg29)
      ∧ m' ((c.tc : Thread Cert.Reference7Ideal.nD Cert.Reference7Ideal.τ).loc Cert.Reference7Ideal.main_arg30) = m ((c.tc : Thread Cert.Kernel7Ideal.nD Cert.Kernel7Ideal.τ).loc Cert.Kernel7Ideal.main_arg30)
      ∧ m' ((c.tc : Thread Cert.Reference7Ideal.nD Cert.Reference7Ideal.τ).loc Cert.Reference7Ideal.main_arg31) = m ((c.tc : Thread Cert.Kernel7Ideal.nD Cert.Kernel7Ideal.τ).loc Cert.Kernel7Ideal.main_arg31)
      ∧ m' ((c.tc : Thread Cert.Reference7Ideal.nD Cert.Reference7Ideal.τ).loc Cert.Reference7Ideal.main_arg32) = m ((c.tc : Thread Cert.Kernel7Ideal.nD Cert.Kernel7Ideal.τ).loc Cert.Kernel7Ideal.main_arg32)
      ∧ m' ((c.tc : Thread Cert.Reference7Ideal.nD Cert.Reference7Ideal.τ).loc Cert.Reference7Ideal.main_arg33) = m ((c.tc : Thread Cert.Kernel7Ideal.nD Cert.Kernel7Ideal.τ).loc Cert.Kernel7Ideal.main_arg33)
      ∧ m' ((c.tc : Thread Cert.Reference7Ideal.nD Cert.Reference7Ideal.τ).loc Cert.Reference7Ideal.main_arg34) = m ((c.tc : Thread Cert.Kernel7Ideal.nD Cert.Kernel7Ideal.τ).loc Cert.Kernel7Ideal.main_arg34)
      ∧ m' ((c.tc : Thread Cert.Reference7Ideal.nD Cert.Reference7Ideal.τ).loc Cert.Reference7Ideal.main_arg35) = m ((c.tc : Thread Cert.Kernel7Ideal.nD Cert.Kernel7Ideal.τ).loc Cert.Kernel7Ideal.main_arg35)
      ∧ m' ((c.tc : Thread Cert.Reference7Ideal.nD Cert.Reference7Ideal.τ).loc Cert.Reference7Ideal.main_arg36) = m ((c.tc : Thread Cert.Kernel7Ideal.nD Cert.Kernel7Ideal.τ).loc Cert.Kernel7Ideal.main_arg36)
      ∧ m' ((c.tc : Thread Cert.Reference7Ideal.nD Cert.Reference7Ideal.τ).loc Cert.Reference7Ideal.main_arg37) = m ((c.tc : Thread Cert.Kernel7Ideal.nD Cert.Kernel7Ideal.τ).loc Cert.Kernel7Ideal.main_arg37)
      ∧ m' ((c.tc : Thread Cert.Reference7Ideal.nD Cert.Reference7Ideal.τ).loc Cert.Reference7Ideal.main_arg38) = m ((c.tc : Thread Cert.Kernel7Ideal.nD Cert.Kernel7Ideal.τ).loc Cert.Kernel7Ideal.main_arg38)
      ∧ m' ((c.tc : Thread Cert.Reference7Ideal.nD Cert.Reference7Ideal.τ).loc Cert.Reference7Ideal.main_arg39) = m ((c.tc : Thread Cert.Kernel7Ideal.nD Cert.Kernel7Ideal.τ).loc Cert.Kernel7Ideal.main_arg39)
      ∧ m' ((c.tc : Thread Cert.Reference7Ideal.nD Cert.Reference7Ideal.τ).loc Cert.Reference7Ideal.main_arg40) = m ((c.tc : Thread Cert.Kernel7Ideal.nD Cert.Kernel7Ideal.τ).loc Cert.Kernel7Ideal.main_arg40)
      ∧ m' ((c.tc : Thread Cert.Reference7Ideal.nD Cert.Reference7Ideal.τ).loc Cert.Reference7Ideal.main_arg41) = m ((c.tc : Thread Cert.Kernel7Ideal.nD Cert.Kernel7Ideal.τ).loc Cert.Kernel7Ideal.main_arg41)
      ∧ m' ((c.tc : Thread Cert.Reference7Ideal.nD Cert.Reference7Ideal.τ).loc Cert.Reference7Ideal.main_arg42) = m ((c.tc : Thread Cert.Kernel7Ideal.nD Cert.Kernel7Ideal.τ).loc Cert.Kernel7Ideal.main_arg42)
      ∧ m' ((c.tc : Thread Cert.Reference7Ideal.nD Cert.Reference7Ideal.τ).loc Cert.Reference7Ideal.main_arg43) = m ((c.tc : Thread Cert.Kernel7Ideal.nD Cert.Kernel7Ideal.τ).loc Cert.Kernel7Ideal.main_arg43)
      ∧ m' ((c.tc : Thread Cert.Reference7Ideal.nD Cert.Reference7Ideal.τ).loc Cert.Reference7Ideal.main_arg44) = m ((c.tc : Thread Cert.Kernel7Ideal.nD Cert.Kernel7Ideal.τ).loc Cert.Kernel7Ideal.main_arg44)
      ∧ m' ((c.tc : Thread Cert.Reference7Ideal.nD Cert.Reference7Ideal.τ).loc Cert.Reference7Ideal.main_arg45) = m ((c.tc : Thread Cert.Kernel7Ideal.nD Cert.Kernel7Ideal.τ).loc Cert.Kernel7Ideal.main_arg45)
      ∧ m' ((c.tc : Thread Cert.Reference7Ideal.nD Cert.Reference7Ideal.τ).loc Cert.Reference7Ideal.main_arg46) = m ((c.tc : Thread Cert.Kernel7Ideal.nD Cert.Kernel7Ideal.τ).loc Cert.Kernel7Ideal.main_arg46)
      ∧ m' ((c.tc : Thread Cert.Reference7Ideal.nD Cert.Reference7Ideal.τ).loc Cert.Reference7Ideal.main_arg47) = m ((c.tc : Thread Cert.Kernel7Ideal.nD Cert.Kernel7Ideal.τ).loc Cert.Kernel7Ideal.main_arg47)
      ∧ m' ((c.tc : Thread Cert.Reference7Ideal.nD Cert.Reference7Ideal.τ).loc Cert.Reference7Ideal.main_arg48) = m ((c.tc : Thread Cert.Kernel7Ideal.nD Cert.Kernel7Ideal.τ).loc Cert.Kernel7Ideal.main_arg48)
      ∧ m' ((c.tc : Thread Cert.Reference7Ideal.nD Cert.Reference7Ideal.τ).loc Cert.Reference7Ideal.main_arg49) = m ((c.tc : Thread Cert.Kernel7Ideal.nD Cert.Kernel7Ideal.τ).loc Cert.Kernel7Ideal.main_arg49)
      ∧ m' ((c.tc : Thread Cert.Reference7Ideal.nD Cert.Reference7Ideal.τ).loc Cert.Reference7Ideal.main_arg50) = m ((c.tc : Thread Cert.Kernel7Ideal.nD Cert.Kernel7Ideal.τ).loc Cert.Kernel7Ideal.main_arg50)
      ∧ m' ((c.tc : Thread Cert.Reference7Ideal.nD Cert.Reference7Ideal.τ).loc Cert.Reference7Ideal.main_arg51) = m ((c.tc : Thread Cert.Kernel7Ideal.nD Cert.Kernel7Ideal.τ).loc Cert.Kernel7Ideal.main_arg51)
      ∧ m' ((c.tc : Thread Cert.Reference7Ideal.nD Cert.Reference7Ideal.τ).loc Cert.Reference7Ideal.main_arg52) = m ((c.tc : Thread Cert.Kernel7Ideal.nD Cert.Kernel7Ideal.τ).loc Cert.Kernel7Ideal.main_arg52)
      ∧ m' ((c.tc : Thread Cert.Reference7Ideal.nD Cert.Reference7Ideal.τ).loc Cert.Reference7Ideal.main_arg53) = m ((c.tc : Thread Cert.Kernel7Ideal.nD Cert.Kernel7Ideal.τ).loc Cert.Kernel7Ideal.main_arg53)
      ∧ m' ((c.tc : Thread Cert.Reference7Ideal.nD Cert.Reference7Ideal.τ).loc Cert.Reference7Ideal.main_arg54) = m ((c.tc : Thread Cert.Kernel7Ideal.nD Cert.Kernel7Ideal.τ).loc Cert.Kernel7Ideal.main_arg54)
      ∧ m' ((c.tc : Thread Cert.Reference7Ideal.nD Cert.Reference7Ideal.τ).loc Cert.Reference7Ideal.main_arg55) = m ((c.tc : Thread Cert.Kernel7Ideal.nD Cert.Kernel7Ideal.τ).loc Cert.Kernel7Ideal.main_arg55)) →
    ∃ (v0 : (c : Dev Cert.Kernel7Ideal.nD) → Buf (Elt Ideal) ((c.tc : Thread Cert.Kernel7Ideal.nD Cert.Kernel7Ideal.τ).loc Cert.Kernel7Ideal.main_v19)) (v1 : (c : Dev Cert.Kernel7Ideal.nD) → Buf (Elt Ideal) ((c.tc : Thread Cert.Kernel7Ideal.nD Cert.Kernel7Ideal.τ).loc Cert.Kernel7Ideal.main_v34)) (v2 : (c : Dev Cert.Kernel7Ideal.nD) → Buf (Elt Ideal) ((c.tc : Thread Cert.Kernel7Ideal.nD Cert.Kernel7Ideal.τ).loc Cert.Kernel7Ideal.main_v49)) (v3 : (c : Dev Cert.Kernel7Ideal.nD) → Buf (Elt Ideal) ((c.tc : Thread Cert.Kernel7Ideal.nD Cert.Kernel7Ideal.τ).loc Cert.Kernel7Ideal.main_v20)) (v4 : (c : Dev Cert.Kernel7Ideal.nD) → Buf (Elt Ideal) ((c.tc : Thread Cert.Kernel7Ideal.nD Cert.Kernel7Ideal.τ).loc Cert.Kernel7Ideal.main_v35)) (v5 : (c : Dev Cert.Kernel7Ideal.nD) → Buf (Elt Ideal) ((c.tc : Thread Cert.Kernel7Ideal.nD Cert.Kernel7Ideal.τ).loc Cert.Kernel7Ideal.main_v50)) (v6 : (c : Dev Cert.Kernel7Ideal.nD) → Buf (Elt Ideal) ((c.tc : Thread Cert.Kernel7Ideal.nD Cert.Kernel7Ideal.τ).loc Cert.Kernel7Ideal.main_v21)) (v7 : (c : Dev Cert.Kernel7Ideal.nD) → Buf (Elt Ideal) ((c.tc : Thread Cert.Kernel7Ideal.nD Cert.Kernel7Ideal.τ).loc Cert.Kernel7Ideal.main_v36)) (v8 : (c : Dev Cert.Kernel7Ideal.nD) → Buf (Elt Ideal) ((c.tc : Thread Cert.Kernel7Ideal.nD Cert.Kernel7Ideal.τ).loc Cert.Kernel7Ideal.main_v51)) (v9 : (c : Dev Cert.Kernel7Ideal.nD) → Buf (Elt Ideal) ((c.tc : Thread Cert.Kernel7Ideal.nD Cert.Kernel7Ideal.τ).loc Cert.Kernel7Ideal.main_v22)) (v10 : (c : Dev Cert.Kernel7Ideal.nD) → Buf (Elt Ideal) ((c.tc : Thread Cert.Kernel7Ideal.nD Cert.Kernel7Ideal.τ).loc Cert.Kernel7Ideal.main_v37)) (v11 : (c : Dev Cert.Kernel7Ideal.nD) → Buf (Elt Ideal) ((c.tc : Thread Cert.Kernel7Ideal.nD Cert.Kernel7Ideal.τ).loc Cert.Kernel7Ideal.main_v52)) (v12 : (c : Dev Cert.Kernel7Ideal.nD) → Buf (Elt Ideal) ((c.tc : Thread Cert.Kernel7Ideal.nD Cert.Kernel7Ideal.τ).loc Cert.Kernel7Ideal.main_v23)) (v13 : (c : Dev Cert.Kernel7Ideal.nD) → Buf (Elt Ideal) ((c.tc : Thread Cert.Kernel7Ideal.nD Cert.Kernel7Ideal.τ).loc Cert.Kernel7Ideal.main_v38)) (v14 : (c : Dev Cert.Kernel7Ideal.nD) → Buf (Elt Ideal) ((c.tc : Thread Cert.Kernel7Ideal.nD Cert.Kernel7Ideal.τ).loc Cert.Kernel7Ideal.main_v53)) (v15 : (c : Dev Cert.Kernel7Ideal.nD) → Buf (Elt Ideal) ((c.tc : Thread Cert.Kernel7Ideal.nD Cert.Kernel7Ideal.τ).loc Cert.Kernel7Ideal.main_v24)) (v16 : (c : Dev Cert.Kernel7Ideal.nD) → Buf (Elt Ideal) ((c.tc : Thread Cert.Kernel7Ideal.nD Cert.Kernel7Ideal.τ).loc Cert.Kernel7Ideal.main_v39)) (v17 : (c : Dev Cert.Kernel7Ideal.nD) → Buf (Elt Ideal) ((c.tc : Thread Cert.Kernel7Ideal.nD Cert.Kernel7Ideal.τ).loc Cert.Kernel7Ideal.main_v54)) (v18 : (c : Dev Cert.Kernel7Ideal.nD) → Buf (Elt Ideal) ((c.tc : Thread Cert.Kernel7Ideal.nD Cert.Kernel7Ideal.τ).loc Cert.Kernel7Ideal.main_v25)) (v19 : (c : Dev Cert.Kernel7Ideal.nD) → Buf (Elt Ideal) ((c.tc : Thread Cert.Kernel7Ideal.nD Cert.Kernel7Ideal.τ).loc Cert.Kernel7Ideal.main_v40)) (v20 : (c : Dev Cert.Kernel7Ideal.nD) → Buf (Elt Ideal) ((c.tc : Thread Cert.Kernel7Ideal.nD Cert.Kernel7Ideal.τ).loc Cert.Kernel7Ideal.main_v55)) (v21 : (c : Dev Cert.Kernel7Ideal.nD) → Buf (Elt Ideal) ((c.tc : Thread Cert.Kernel7Ideal.nD Cert.Kernel7Ideal.τ).loc Cert.Kernel7Ideal.main_v26)) (v22 : (c : Dev Cert.Kernel7Ideal.nD) → Buf (Elt Ideal) ((c.tc : Thread Cert.Kernel7Ideal.nD Cert.Kernel7Ideal.τ).loc Cert.Kernel7Ideal.main_v41)) (v23 : (c : Dev Cert.Kernel7Ideal.nD) → Buf (Elt Ideal) ((c.tc : Thread Cert.Kernel7Ideal.nD Cert.Kernel7Ideal.τ).loc Cert.Kernel7Ideal.main_v56)) (v24 : (c : Dev Cert.Kernel7Ideal.nD) → Buf (Elt Ideal) ((c.tc : Thread Cert.Kernel7Ideal.nD Cert.Kernel7Ideal.τ).loc Cert.Kernel7Ideal.main_v27)) (v25 : (c : Dev Cert.Kernel7Ideal.nD) → Buf (Elt Ideal) ((c.tc : Thread Cert.Kernel7Ideal.nD Cert.Kernel7Ideal.τ).loc Cert.Kernel7Ideal.main_v42)) (v26 : (c : Dev Cert.Kernel7Ideal.nD) → Buf (Elt Ideal) ((c.tc : Thread Cert.Kernel7Ideal.nD Cert.Kernel7Ideal.τ).loc Cert.Kernel7Ideal.main_v57)) (v27 : (c : Dev Cert.Kernel7Ideal.nD) → Buf (Elt Ideal) ((c.tc : Thread Cert.Kernel7Ideal.nD Cert.Kernel7Ideal.τ).loc Cert.Kernel7Ideal.main_v28)) (v28 : (c : Dev Cert.Kernel7Ideal.nD) → Buf (Elt Ideal) ((c.tc : Thread Cert.Kernel7Ideal.nD Cert.Kernel7Ideal.τ).loc Cert.Kernel7Ideal.main_v43)) (v29 : (c : Dev Cert.Kernel7Ideal.nD) → Buf (Elt Ideal) ((c.tc : Thread Cert.Kernel7Ideal.nD Cert.Kernel7Ideal.τ).loc Cert.Kernel7Ideal.main_v58)) (v30 : (c : Dev Cert.Kernel7Ideal.nD) → Buf (Elt Ideal) ((c.tc : Thread Cert.Kernel7Ideal.nD Cert.Kernel7Ideal.τ).loc Cert.Kernel7Ideal.main_v29)) (v31 : (c : Dev Cert.Kernel7Ideal.nD) → Buf (Elt Ideal) ((c.tc : Thread Cert.Kernel7Ideal.nD Cert.Kernel7Ideal.τ).loc Cert.Kernel7Ideal.main_v44)) (v32 : (c : Dev Cert.Kernel7Ideal.nD) → Buf (Elt Ideal) ((c.tc : Thread Cert.Kernel7Ideal.nD Cert.Kernel7Ideal.τ).loc Cert.Kernel7Ideal.main_v59)) (v33 : (c : Dev Cert.Kernel7Ideal.nD) → Buf (Elt Ideal) ((c.tc : Thread Cert.Kernel7Ideal.nD Cert.Kernel7Ideal.τ).loc Cert.Kernel7Ideal.main_v30)) (v34 : (c : Dev Cert.Kernel7Ideal.nD) → Buf (Elt Ideal) ((c.tc : Thread Cert.Kernel7Ideal.nD Cert.Kernel7Ideal.τ).loc Cert.Kernel7Ideal.main_v45)) (v35 : (c : Dev Cert.Kernel7Ideal.nD) → Buf (Elt Ideal) ((c.tc : Thread Cert.Kernel7Ideal.nD Cert.Kernel7Ideal.τ).loc Cert.Kernel7Ideal.main_v60)) (v36 : (c : Dev Cert.Kernel7Ideal.nD) → Buf (Elt Ideal) ((c.tc : Thread Cert.Kernel7Ideal.nD Cert.Kernel7Ideal.τ).loc Cert.Kernel7Ideal.main_v31)) (v37 : (c : Dev Cert.Kernel7Ideal.nD) → Buf (Elt Ideal) ((c.tc : Thread Cert.Kernel7Ideal.nD Cert.Kernel7Ideal.τ).loc Cert.Kernel7Ideal.main_v46)) (v38 : (c : Dev Cert.Kernel7Ideal.nD) → Buf (Elt Ideal) ((c.tc : Thread Cert.Kernel7Ideal.nD Cert.Kernel7Ideal.τ).loc Cert.Kernel7Ideal.main_v61)) (v39 : (c : Dev Cert.Kernel7Ideal.nD) → Buf (Elt Ideal) ((c.tc : Thread Cert.Kernel7Ideal.nD Cert.Kernel7Ideal.τ).loc Cert.Kernel7Ideal.main_v32)) (v40 : (c : Dev Cert.Kernel7Ideal.nD) → Buf (Elt Ideal) ((c.tc : Thread Cert.Kernel7Ideal.nD Cert.Kernel7Ideal.τ).loc Cert.Kernel7Ideal.main_v47)) (v41 : (c : Dev Cert.Kernel7Ideal.nD) → Buf (Elt Ideal) ((c.tc : Thread Cert.Kernel7Ideal.nD Cert.Kernel7Ideal.τ).loc Cert.Kernel7Ideal.main_v62)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v19) = v0 c
          ∧ r.2.mem ((c.tc : Thread Cert.Kernel7Ideal.nD Cert.Kernel7Ideal.τ).loc Cert.Kernel7Ideal.main_v34) = v1 c
          ∧ r.2.mem ((c.tc : Thread Cert.Kernel7Ideal.nD Cert.Kernel7Ideal.τ).loc Cert.Kernel7Ideal.main_v49) = v2 c
          ∧ r.2.mem ((c.tc : Thread Cert.Kernel7Ideal.nD Cert.Kernel7Ideal.τ).loc Cert.Kernel7Ideal.main_v20) = v3 c
          ∧ r.2.mem ((c.tc : Thread Cert.Kernel7Ideal.nD Cert.Kernel7Ideal.τ).loc Cert.Kernel7Ideal.main_v35) = v4 c
          ∧ r.2.mem ((c.tc : Thread Cert.Kernel7Ideal.nD Cert.Kernel7Ideal.τ).loc Cert.Kernel7Ideal.main_v50) = v5 c
          ∧ r.2.mem ((c.tc : Thread Cert.Kernel7Ideal.nD Cert.Kernel7Ideal.τ).loc Cert.Kernel7Ideal.main_v21) = v6 c
          ∧ r.2.mem ((c.tc : Thread Cert.Kernel7Ideal.nD Cert.Kernel7Ideal.τ).loc Cert.Kernel7Ideal.main_v36) = v7 c
          ∧ r.2.mem ((c.tc : Thread Cert.Kernel7Ideal.nD Cert.Kernel7Ideal.τ).loc Cert.Kernel7Ideal.main_v51) = v8 c
          ∧ r.2.mem ((c.tc : Thread Cert.Kernel7Ideal.nD Cert.Kernel7Ideal.τ).loc Cert.Kernel7Ideal.main_v22) = v9 c
          ∧ r.2.mem ((c.tc : Thread Cert.Kernel7Ideal.nD Cert.Kernel7Ideal.τ).loc Cert.Kernel7Ideal.main_v37) = v10 c
          ∧ r.2.mem ((c.tc : Thread Cert.Kernel7Ideal.nD Cert.Kernel7Ideal.τ).loc Cert.Kernel7Ideal.main_v52) = v11 c
          ∧ r.2.mem ((c.tc : Thread Cert.Kernel7Ideal.nD Cert.Kernel7Ideal.τ).loc Cert.Kernel7Ideal.main_v23) = v12 c
          ∧ r.2.mem ((c.tc : Thread Cert.Kernel7Ideal.nD Cert.Kernel7Ideal.τ).loc Cert.Kernel7Ideal.main_v38) = v13 c
          ∧ r.2.mem ((c.tc : Thread Cert.Kernel7Ideal.nD Cert.Kernel7Ideal.τ).loc Cert.Kernel7Ideal.main_v53) = v14 c
          ∧ r.2.mem ((c.tc : Thread Cert.Kernel7Ideal.nD Cert.Kernel7Ideal.τ).loc Cert.Kernel7Ideal.main_v24) = v15 c
          ∧ r.2.mem ((c.tc : Thread Cert.Kernel7Ideal.nD Cert.Kernel7Ideal.τ).loc Cert.Kernel7Ideal.main_v39) = v16 c
          ∧ r.2.mem ((c.tc : Thread Cert.Kernel7Ideal.nD Cert.Kernel7Ideal.τ).loc Cert.Kernel7Ideal.main_v54) = v17 c
          ∧ r.2.mem ((c.tc : Thread Cert.Kernel7Ideal.nD Cert.Kernel7Ideal.τ).loc Cert.Kernel7Ideal.main_v25) = v18 c
          ∧ r.2.mem ((c.tc : Thread Cert.Kernel7Ideal.nD Cert.Kernel7Ideal.τ).loc Cert.Kernel7Ideal.main_v40) = v19 c
          ∧ r.2.mem ((c.tc : Thread Cert.Kernel7Ideal.nD Cert.Kernel7Ideal.τ).loc Cert.Kernel7Ideal.main_v55) = v20 c
          ∧ r.2.mem ((c.tc : Thread Cert.Kernel7Ideal.nD Cert.Kernel7Ideal.τ).loc Cert.Kernel7Ideal.main_v26) = v21 c
          ∧ r.2.mem ((c.tc : Thread Cert.Kernel7Ideal.nD Cert.Kernel7Ideal.τ).loc Cert.Kernel7Ideal.main_v41) = v22 c
          ∧ r.2.mem ((c.tc : Thread Cert.Kernel7Ideal.nD Cert.Kernel7Ideal.τ).loc Cert.Kernel7Ideal.main_v56) = v23 c
          ∧ r.2.mem ((c.tc : Thread Cert.Kernel7Ideal.nD Cert.Kernel7Ideal.τ).loc Cert.Kernel7Ideal.main_v27) = v24 c
          ∧ r.2.mem ((c.tc : Thread Cert.Kernel7Ideal.nD Cert.Kernel7Ideal.τ).loc Cert.Kernel7Ideal.main_v42) = v25 c
          ∧ r.2.mem ((c.tc : Thread Cert.Kernel7Ideal.nD Cert.Kernel7Ideal.τ).loc Cert.Kernel7Ideal.main_v57) = v26 c
          ∧ r.2.mem ((c.tc : Thread Cert.Kernel7Ideal.nD Cert.Kernel7Ideal.τ).loc Cert.Kernel7Ideal.main_v28) = v27 c
          ∧ r.2.mem ((c.tc : Thread Cert.Kernel7Ideal.nD Cert.Kernel7Ideal.τ).loc Cert.Kernel7Ideal.main_v43) = v28 c
          ∧ r.2.mem ((c.tc : Thread Cert.Kernel7Ideal.nD Cert.Kernel7Ideal.τ).loc Cert.Kernel7Ideal.main_v58) = v29 c
          ∧ r.2.mem ((c.tc : Thread Cert.Kernel7Ideal.nD Cert.Kernel7Ideal.τ).loc Cert.Kernel7Ideal.main_v29) = v30 c
          ∧ r.2.mem ((c.tc : Thread Cert.Kernel7Ideal.nD Cert.Kernel7Ideal.τ).loc Cert.Kernel7Ideal.main_v44) = v31 c
          ∧ r.2.mem ((c.tc : Thread Cert.Kernel7Ideal.nD Cert.Kernel7Ideal.τ).loc Cert.Kernel7Ideal.main_v59) = v32 c
          ∧ r.2.mem ((c.tc : Thread Cert.Kernel7Ideal.nD Cert.Kernel7Ideal.τ).loc Cert.Kernel7Ideal.main_v30) = v33 c
          ∧ r.2.mem ((c.tc : Thread Cert.Kernel7Ideal.nD Cert.Kernel7Ideal.τ).loc Cert.Kernel7Ideal.main_v45) = v34 c
          ∧ r.2.mem ((c.tc : Thread Cert.Kernel7Ideal.nD Cert.Kernel7Ideal.τ).loc Cert.Kernel7Ideal.main_v60) = v35 c
          ∧ r.2.mem ((c.tc : Thread Cert.Kernel7Ideal.nD Cert.Kernel7Ideal.τ).loc Cert.Kernel7Ideal.main_v31) = v36 c
          ∧ r.2.mem ((c.tc : Thread Cert.Kernel7Ideal.nD Cert.Kernel7Ideal.τ).loc Cert.Kernel7Ideal.main_v46) = v37 c
          ∧ r.2.mem ((c.tc : Thread Cert.Kernel7Ideal.nD Cert.Kernel7Ideal.τ).loc Cert.Kernel7Ideal.main_v61) = v38 c
          ∧ r.2.mem ((c.tc : Thread Cert.Kernel7Ideal.nD Cert.Kernel7Ideal.τ).loc Cert.Kernel7Ideal.main_v32) = v39 c
          ∧ r.2.mem ((c.tc : Thread Cert.Kernel7Ideal.nD Cert.Kernel7Ideal.τ).loc Cert.Kernel7Ideal.main_v47) = v40 c
          ∧ r.2.mem ((c.tc : Thread Cert.Kernel7Ideal.nD Cert.Kernel7Ideal.τ).loc Cert.Kernel7Ideal.main_v62) = v41 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
          ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
          ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
          ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
          ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
          ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
          ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
          ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
          ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
          ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
          ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
          ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
          ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
          ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29)
          ∧ r.2.mem ((c.tc : Thread Cert.Kernel7Ideal.nD Cert.Kernel7Ideal.τ).loc Cert.Kernel7Ideal.main_arg30) = m ((c.tc : Thread Cert.Kernel7Ideal.nD Cert.Kernel7Ideal.τ).loc Cert.Kernel7Ideal.main_arg30)
          ∧ r.2.mem ((c.tc : Thread Cert.Kernel7Ideal.nD Cert.Kernel7Ideal.τ).loc Cert.Kernel7Ideal.main_arg31) = m ((c.tc : Thread Cert.Kernel7Ideal.nD Cert.Kernel7Ideal.τ).loc Cert.Kernel7Ideal.main_arg31)
          ∧ r.2.mem ((c.tc : Thread Cert.Kernel7Ideal.nD Cert.Kernel7Ideal.τ).loc Cert.Kernel7Ideal.main_arg32) = m ((c.tc : Thread Cert.Kernel7Ideal.nD Cert.Kernel7Ideal.τ).loc Cert.Kernel7Ideal.main_arg32)
          ∧ r.2.mem ((c.tc : Thread Cert.Kernel7Ideal.nD Cert.Kernel7Ideal.τ).loc Cert.Kernel7Ideal.main_arg33) = m ((c.tc : Thread Cert.Kernel7Ideal.nD Cert.Kernel7Ideal.τ).loc Cert.Kernel7Ideal.main_arg33)
          ∧ r.2.mem ((c.tc : Thread Cert.Kernel7Ideal.nD Cert.Kernel7Ideal.τ).loc Cert.Kernel7Ideal.main_arg34) = m ((c.tc : Thread Cert.Kernel7Ideal.nD Cert.Kernel7Ideal.τ).loc Cert.Kernel7Ideal.main_arg34)
          ∧ r.2.mem ((c.tc : Thread Cert.Kernel7Ideal.nD Cert.Kernel7Ideal.τ).loc Cert.Kernel7Ideal.main_arg35) = m ((c.tc : Thread Cert.Kernel7Ideal.nD Cert.Kernel7Ideal.τ).loc Cert.Kernel7Ideal.main_arg35)
          ∧ r.2.mem ((c.tc : Thread Cert.Kernel7Ideal.nD Cert.Kernel7Ideal.τ).loc Cert.Kernel7Ideal.main_arg36) = m ((c.tc : Thread Cert.Kernel7Ideal.nD Cert.Kernel7Ideal.τ).loc Cert.Kernel7Ideal.main_arg36)
          ∧ r.2.mem ((c.tc : Thread Cert.Kernel7Ideal.nD Cert.Kernel7Ideal.τ).loc Cert.Kernel7Ideal.main_arg37) = m ((c.tc : Thread Cert.Kernel7Ideal.nD Cert.Kernel7Ideal.τ).loc Cert.Kernel7Ideal.main_arg37)
          ∧ r.2.mem ((c.tc : Thread Cert.Kernel7Ideal.nD Cert.Kernel7Ideal.τ).loc Cert.Kernel7Ideal.main_arg38) = m ((c.tc : Thread Cert.Kernel7Ideal.nD Cert.Kernel7Ideal.τ).loc Cert.Kernel7Ideal.main_arg38)
          ∧ r.2.mem ((c.tc : Thread Cert.Kernel7Ideal.nD Cert.Kernel7Ideal.τ).loc Cert.Kernel7Ideal.main_arg39) = m ((c.tc : Thread Cert.Kernel7Ideal.nD Cert.Kernel7Ideal.τ).loc Cert.Kernel7Ideal.main_arg39)
          ∧ r.2.mem ((c.tc : Thread Cert.Kernel7Ideal.nD Cert.Kernel7Ideal.τ).loc Cert.Kernel7Ideal.main_arg40) = m ((c.tc : Thread Cert.Kernel7Ideal.nD Cert.Kernel7Ideal.τ).loc Cert.Kernel7Ideal.main_arg40)
          ∧ r.2.mem ((c.tc : Thread Cert.Kernel7Ideal.nD Cert.Kernel7Ideal.τ).loc Cert.Kernel7Ideal.main_arg41) = m ((c.tc : Thread Cert.Kernel7Ideal.nD Cert.Kernel7Ideal.τ).loc Cert.Kernel7Ideal.main_arg41)
          ∧ r.2.mem ((c.tc : Thread Cert.Kernel7Ideal.nD Cert.Kernel7Ideal.τ).loc Cert.Kernel7Ideal.main_arg42) = m ((c.tc : Thread Cert.Kernel7Ideal.nD Cert.Kernel7Ideal.τ).loc Cert.Kernel7Ideal.main_arg42)
          ∧ r.2.mem ((c.tc : Thread Cert.Kernel7Ideal.nD Cert.Kernel7Ideal.τ).loc Cert.Kernel7Ideal.main_arg43) = m ((c.tc : Thread Cert.Kernel7Ideal.nD Cert.Kernel7Ideal.τ).loc Cert.Kernel7Ideal.main_arg43)
          ∧ r.2.mem ((c.tc : Thread Cert.Kernel7Ideal.nD Cert.Kernel7Ideal.τ).loc Cert.Kernel7Ideal.main_arg44) = m ((c.tc : Thread Cert.Kernel7Ideal.nD Cert.Kernel7Ideal.τ).loc Cert.Kernel7Ideal.main_arg44)
          ∧ r.2.mem ((c.tc : Thread Cert.Kernel7Ideal.nD Cert.Kernel7Ideal.τ).loc Cert.Kernel7Ideal.main_arg45) = m ((c.tc : Thread Cert.Kernel7Ideal.nD Cert.Kernel7Ideal.τ).loc Cert.Kernel7Ideal.main_arg45)
          ∧ r.2.mem ((c.tc : Thread Cert.Kernel7Ideal.nD Cert.Kernel7Ideal.τ).loc Cert.Kernel7Ideal.main_arg46) = m ((c.tc : Thread Cert.Kernel7Ideal.nD Cert.Kernel7Ideal.τ).loc Cert.Kernel7Ideal.main_arg46)
          ∧ r.2.mem ((c.tc : Thread Cert.Kernel7Ideal.nD Cert.Kernel7Ideal.τ).loc Cert.Kernel7Ideal.main_arg47) = m ((c.tc : Thread Cert.Kernel7Ideal.nD Cert.Kernel7Ideal.τ).loc Cert.Kernel7Ideal.main_arg47)
          ∧ r.2.mem ((c.tc : Thread Cert.Kernel7Ideal.nD Cert.Kernel7Ideal.τ).loc Cert.Kernel7Ideal.main_arg48) = m ((c.tc : Thread Cert.Kernel7Ideal.nD Cert.Kernel7Ideal.τ).loc Cert.Kernel7Ideal.main_arg48)
          ∧ r.2.mem ((c.tc : Thread Cert.Kernel7Ideal.nD Cert.Kernel7Ideal.τ).loc Cert.Kernel7Ideal.main_arg49) = m ((c.tc : Thread Cert.Kernel7Ideal.nD Cert.Kernel7Ideal.τ).loc Cert.Kernel7Ideal.main_arg49)
          ∧ r.2.mem ((c.tc : Thread Cert.Kernel7Ideal.nD Cert.Kernel7Ideal.τ).loc Cert.Kernel7Ideal.main_arg50) = m ((c.tc : Thread Cert.Kernel7Ideal.nD Cert.Kernel7Ideal.τ).loc Cert.Kernel7Ideal.main_arg50)
          ∧ r.2.mem ((c.tc : Thread Cert.Kernel7Ideal.nD Cert.Kernel7Ideal.τ).loc Cert.Kernel7Ideal.main_arg51) = m ((c.tc : Thread Cert.Kernel7Ideal.nD Cert.Kernel7Ideal.τ).loc Cert.Kernel7Ideal.main_arg51)
          ∧ r.2.mem ((c.tc : Thread Cert.Kernel7Ideal.nD Cert.Kernel7Ideal.τ).loc Cert.Kernel7Ideal.main_arg52) = m ((c.tc : Thread Cert.Kernel7Ideal.nD Cert.Kernel7Ideal.τ).loc Cert.Kernel7Ideal.main_arg52)
          ∧ r.2.mem ((c.tc : Thread Cert.Kernel7Ideal.nD Cert.Kernel7Ideal.τ).loc Cert.Kernel7Ideal.main_arg53) = m ((c.tc : Thread Cert.Kernel7Ideal.nD Cert.Kernel7Ideal.τ).loc Cert.Kernel7Ideal.main_arg53)
          ∧ r.2.mem ((c.tc : Thread Cert.Kernel7Ideal.nD Cert.Kernel7Ideal.τ).loc Cert.Kernel7Ideal.main_arg54) = m ((c.tc : Thread Cert.Kernel7Ideal.nD Cert.Kernel7Ideal.τ).loc Cert.Kernel7Ideal.main_arg54)
          ∧ r.2.mem ((c.tc : Thread Cert.Kernel7Ideal.nD Cert.Kernel7Ideal.τ).loc Cert.Kernel7Ideal.main_arg55) = m ((c.tc : Thread Cert.Kernel7Ideal.nD Cert.Kernel7Ideal.τ).loc Cert.Kernel7Ideal.main_arg55))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_v47) = v3 c
          ∧ r.2.mem ((c.tc : Thread Cert.Reference7Ideal.nD Cert.Reference7Ideal.τ).loc Cert.Reference7Ideal.main_v28) = v4 c
          ∧ r.2.mem ((c.tc : Thread Cert.Reference7Ideal.nD Cert.Reference7Ideal.τ).loc Cert.Reference7Ideal.main_v34) = v5 c
          ∧ r.2.mem ((c.tc : Thread Cert.Reference7Ideal.nD Cert.Reference7Ideal.τ).loc Cert.Reference7Ideal.main_v71) = v6 c
          ∧ r.2.mem ((c.tc : Thread Cert.Reference7Ideal.nD Cert.Reference7Ideal.τ).loc Cert.Reference7Ideal.main_v52) = v7 c
          ∧ r.2.mem ((c.tc : Thread Cert.Reference7Ideal.nD Cert.Reference7Ideal.τ).loc Cert.Reference7Ideal.main_v58) = v8 c
          ∧ r.2.mem ((c.tc : Thread Cert.Reference7Ideal.nD Cert.Reference7Ideal.τ).loc Cert.Reference7Ideal.main_v95) = v9 c
          ∧ r.2.mem ((c.tc : Thread Cert.Reference7Ideal.nD Cert.Reference7Ideal.τ).loc Cert.Reference7Ideal.main_v76) = v10 c
          ∧ r.2.mem ((c.tc : Thread Cert.Reference7Ideal.nD Cert.Reference7Ideal.τ).loc Cert.Reference7Ideal.main_v82) = v11 c
          ∧ r.2.mem ((c.tc : Thread Cert.Reference7Ideal.nD Cert.Reference7Ideal.τ).loc Cert.Reference7Ideal.main_v119) = v12 c
          ∧ r.2.mem ((c.tc : Thread Cert.Reference7Ideal.nD Cert.Reference7Ideal.τ).loc Cert.Reference7Ideal.main_v100) = v13 c
          ∧ r.2.mem ((c.tc : Thread Cert.Reference7Ideal.nD Cert.Reference7Ideal.τ).loc Cert.Reference7Ideal.main_v106) = v14 c
          ∧ r.2.mem ((c.tc : Thread Cert.Reference7Ideal.nD Cert.Reference7Ideal.τ).loc Cert.Reference7Ideal.main_v143) = v15 c
          ∧ r.2.mem ((c.tc : Thread Cert.Reference7Ideal.nD Cert.Reference7Ideal.τ).loc Cert.Reference7Ideal.main_v124) = v16 c
          ∧ r.2.mem ((c.tc : Thread Cert.Reference7Ideal.nD Cert.Reference7Ideal.τ).loc Cert.Reference7Ideal.main_v130) = v17 c
          ∧ r.2.mem ((c.tc : Thread Cert.Reference7Ideal.nD Cert.Reference7Ideal.τ).loc Cert.Reference7Ideal.main_v167) = v18 c
          ∧ r.2.mem ((c.tc : Thread Cert.Reference7Ideal.nD Cert.Reference7Ideal.τ).loc Cert.Reference7Ideal.main_v148) = v19 c
          ∧ r.2.mem ((c.tc : Thread Cert.Reference7Ideal.nD Cert.Reference7Ideal.τ).loc Cert.Reference7Ideal.main_v154) = v20 c
          ∧ r.2.mem ((c.tc : Thread Cert.Reference7Ideal.nD Cert.Reference7Ideal.τ).loc Cert.Reference7Ideal.main_v191) = v21 c
          ∧ r.2.mem ((c.tc : Thread Cert.Reference7Ideal.nD Cert.Reference7Ideal.τ).loc Cert.Reference7Ideal.main_v172) = v22 c
          ∧ r.2.mem ((c.tc : Thread Cert.Reference7Ideal.nD Cert.Reference7Ideal.τ).loc Cert.Reference7Ideal.main_v178) = v23 c
          ∧ r.2.mem ((c.tc : Thread Cert.Reference7Ideal.nD Cert.Reference7Ideal.τ).loc Cert.Reference7Ideal.main_v215) = v24 c
          ∧ r.2.mem ((c.tc : Thread Cert.Reference7Ideal.nD Cert.Reference7Ideal.τ).loc Cert.Reference7Ideal.main_v196) = v25 c
          ∧ r.2.mem ((c.tc : Thread Cert.Reference7Ideal.nD Cert.Reference7Ideal.τ).loc Cert.Reference7Ideal.main_v202) = v26 c
          ∧ r.2.mem ((c.tc : Thread Cert.Reference7Ideal.nD Cert.Reference7Ideal.τ).loc Cert.Reference7Ideal.main_v239) = v27 c
          ∧ r.2.mem ((c.tc : Thread Cert.Reference7Ideal.nD Cert.Reference7Ideal.τ).loc Cert.Reference7Ideal.main_v220) = v28 c
          ∧ r.2.mem ((c.tc : Thread Cert.Reference7Ideal.nD Cert.Reference7Ideal.τ).loc Cert.Reference7Ideal.main_v226) = v29 c
          ∧ r.2.mem ((c.tc : Thread Cert.Reference7Ideal.nD Cert.Reference7Ideal.τ).loc Cert.Reference7Ideal.main_v263) = v30 c
          ∧ r.2.mem ((c.tc : Thread Cert.Reference7Ideal.nD Cert.Reference7Ideal.τ).loc Cert.Reference7Ideal.main_v244) = v31 c
          ∧ r.2.mem ((c.tc : Thread Cert.Reference7Ideal.nD Cert.Reference7Ideal.τ).loc Cert.Reference7Ideal.main_v250) = v32 c
          ∧ r.2.mem ((c.tc : Thread Cert.Reference7Ideal.nD Cert.Reference7Ideal.τ).loc Cert.Reference7Ideal.main_v287) = v33 c
          ∧ r.2.mem ((c.tc : Thread Cert.Reference7Ideal.nD Cert.Reference7Ideal.τ).loc Cert.Reference7Ideal.main_v268) = v34 c
          ∧ r.2.mem ((c.tc : Thread Cert.Reference7Ideal.nD Cert.Reference7Ideal.τ).loc Cert.Reference7Ideal.main_v274) = v35 c
          ∧ r.2.mem ((c.tc : Thread Cert.Reference7Ideal.nD Cert.Reference7Ideal.τ).loc Cert.Reference7Ideal.main_v311) = v36 c
          ∧ r.2.mem ((c.tc : Thread Cert.Reference7Ideal.nD Cert.Reference7Ideal.τ).loc Cert.Reference7Ideal.main_v292) = v37 c
          ∧ r.2.mem ((c.tc : Thread Cert.Reference7Ideal.nD Cert.Reference7Ideal.τ).loc Cert.Reference7Ideal.main_v298) = v38 c
          ∧ r.2.mem ((c.tc : Thread Cert.Reference7Ideal.nD Cert.Reference7Ideal.τ).loc Cert.Reference7Ideal.main_v335) = v39 c
          ∧ r.2.mem ((c.tc : Thread Cert.Reference7Ideal.nD Cert.Reference7Ideal.τ).loc Cert.Reference7Ideal.main_v316) = v40 c
          ∧ r.2.mem ((c.tc : Thread Cert.Reference7Ideal.nD Cert.Reference7Ideal.τ).loc Cert.Reference7Ideal.main_v322) = v41 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16)
          ∧ r.2.mem ((c.tc : Thread Cert.Reference7Ideal.nD Cert.Reference7Ideal.τ).loc Cert.Reference7Ideal.main_arg17) = m' ((c.tc : Thread Cert.Reference7Ideal.nD Cert.Reference7Ideal.τ).loc Cert.Reference7Ideal.main_arg17)
          ∧ r.2.mem ((c.tc : Thread Cert.Reference7Ideal.nD Cert.Reference7Ideal.τ).loc Cert.Reference7Ideal.main_arg18) = m' ((c.tc : Thread Cert.Reference7Ideal.nD Cert.Reference7Ideal.τ).loc Cert.Reference7Ideal.main_arg18)
          ∧ r.2.mem ((c.tc : Thread Cert.Reference7Ideal.nD Cert.Reference7Ideal.τ).loc Cert.Reference7Ideal.main_arg19) = m' ((c.tc : Thread Cert.Reference7Ideal.nD Cert.Reference7Ideal.τ).loc Cert.Reference7Ideal.main_arg19)
          ∧ r.2.mem ((c.tc : Thread Cert.Reference7Ideal.nD Cert.Reference7Ideal.τ).loc Cert.Reference7Ideal.main_arg20) = m' ((c.tc : Thread Cert.Reference7Ideal.nD Cert.Reference7Ideal.τ).loc Cert.Reference7Ideal.main_arg20)
          ∧ r.2.mem ((c.tc : Thread Cert.Reference7Ideal.nD Cert.Reference7Ideal.τ).loc Cert.Reference7Ideal.main_arg21) = m' ((c.tc : Thread Cert.Reference7Ideal.nD Cert.Reference7Ideal.τ).loc Cert.Reference7Ideal.main_arg21)
          ∧ r.2.mem ((c.tc : Thread Cert.Reference7Ideal.nD Cert.Reference7Ideal.τ).loc Cert.Reference7Ideal.main_arg22) = m' ((c.tc : Thread Cert.Reference7Ideal.nD Cert.Reference7Ideal.τ).loc Cert.Reference7Ideal.main_arg22)
          ∧ r.2.mem ((c.tc : Thread Cert.Reference7Ideal.nD Cert.Reference7Ideal.τ).loc Cert.Reference7Ideal.main_arg23) = m' ((c.tc : Thread Cert.Reference7Ideal.nD Cert.Reference7Ideal.τ).loc Cert.Reference7Ideal.main_arg23)
          ∧ r.2.mem ((c.tc : Thread Cert.Reference7Ideal.nD Cert.Reference7Ideal.τ).loc Cert.Reference7Ideal.main_arg24) = m' ((c.tc : Thread Cert.Reference7Ideal.nD Cert.Reference7Ideal.τ).loc Cert.Reference7Ideal.main_arg24)
          ∧ r.2.mem ((c.tc : Thread Cert.Reference7Ideal.nD Cert.Reference7Ideal.τ).loc Cert.Reference7Ideal.main_arg25) = m' ((c.tc : Thread Cert.Reference7Ideal.nD Cert.Reference7Ideal.τ).loc Cert.Reference7Ideal.main_arg25)
          ∧ r.2.mem ((c.tc : Thread Cert.Reference7Ideal.nD Cert.Reference7Ideal.τ).loc Cert.Reference7Ideal.main_arg26) = m' ((c.tc : Thread Cert.Reference7Ideal.nD Cert.Reference7Ideal.τ).loc Cert.Reference7Ideal.main_arg26)
          ∧ r.2.mem ((c.tc : Thread Cert.Reference7Ideal.nD Cert.Reference7Ideal.τ).loc Cert.Reference7Ideal.main_arg27) = m' ((c.tc : Thread Cert.Reference7Ideal.nD Cert.Reference7Ideal.τ).loc Cert.Reference7Ideal.main_arg27)
          ∧ r.2.mem ((c.tc : Thread Cert.Reference7Ideal.nD Cert.Reference7Ideal.τ).loc Cert.Reference7Ideal.main_arg28) = m' ((c.tc : Thread Cert.Reference7Ideal.nD Cert.Reference7Ideal.τ).loc Cert.Reference7Ideal.main_arg28)
          ∧ r.2.mem ((c.tc : Thread Cert.Reference7Ideal.nD Cert.Reference7Ideal.τ).loc Cert.Reference7Ideal.main_arg29) = m' ((c.tc : Thread Cert.Reference7Ideal.nD Cert.Reference7Ideal.τ).loc Cert.Reference7Ideal.main_arg29)
          ∧ r.2.mem ((c.tc : Thread Cert.Reference7Ideal.nD Cert.Reference7Ideal.τ).loc Cert.Reference7Ideal.main_arg30) = m' ((c.tc : Thread Cert.Reference7Ideal.nD Cert.Reference7Ideal.τ).loc Cert.Reference7Ideal.main_arg30)
          ∧ r.2.mem ((c.tc : Thread Cert.Reference7Ideal.nD Cert.Reference7Ideal.τ).loc Cert.Reference7Ideal.main_arg31) = m' ((c.tc : Thread Cert.Reference7Ideal.nD Cert.Reference7Ideal.τ).loc Cert.Reference7Ideal.main_arg31)
          ∧ r.2.mem ((c.tc : Thread Cert.Reference7Ideal.nD Cert.Reference7Ideal.τ).loc Cert.Reference7Ideal.main_arg32) = m' ((c.tc : Thread Cert.Reference7Ideal.nD Cert.Reference7Ideal.τ).loc Cert.Reference7Ideal.main_arg32)
          ∧ r.2.mem ((c.tc : Thread Cert.Reference7Ideal.nD Cert.Reference7Ideal.τ).loc Cert.Reference7Ideal.main_arg33) = m' ((c.tc : Thread Cert.Reference7Ideal.nD Cert.Reference7Ideal.τ).loc Cert.Reference7Ideal.main_arg33)
          ∧ r.2.mem ((c.tc : Thread Cert.Reference7Ideal.nD Cert.Reference7Ideal.τ).loc Cert.Reference7Ideal.main_arg34) = m' ((c.tc : Thread Cert.Reference7Ideal.nD Cert.Reference7Ideal.τ).loc Cert.Reference7Ideal.main_arg34)
          ∧ r.2.mem ((c.tc : Thread Cert.Reference7Ideal.nD Cert.Reference7Ideal.τ).loc Cert.Reference7Ideal.main_arg35) = m' ((c.tc : Thread Cert.Reference7Ideal.nD Cert.Reference7Ideal.τ).loc Cert.Reference7Ideal.main_arg35)
          ∧ r.2.mem ((c.tc : Thread Cert.Reference7Ideal.nD Cert.Reference7Ideal.τ).loc Cert.Reference7Ideal.main_arg36) = m' ((c.tc : Thread Cert.Reference7Ideal.nD Cert.Reference7Ideal.τ).loc Cert.Reference7Ideal.main_arg36)
          ∧ r.2.mem ((c.tc : Thread Cert.Reference7Ideal.nD Cert.Reference7Ideal.τ).loc Cert.Reference7Ideal.main_arg37) = m' ((c.tc : Thread Cert.Reference7Ideal.nD Cert.Reference7Ideal.τ).loc Cert.Reference7Ideal.main_arg37)
          ∧ r.2.mem ((c.tc : Thread Cert.Reference7Ideal.nD Cert.Reference7Ideal.τ).loc Cert.Reference7Ideal.main_arg38) = m' ((c.tc : Thread Cert.Reference7Ideal.nD Cert.Reference7Ideal.τ).loc Cert.Reference7Ideal.main_arg38)
          ∧ r.2.mem ((c.tc : Thread Cert.Reference7Ideal.nD Cert.Reference7Ideal.τ).loc Cert.Reference7Ideal.main_arg39) = m' ((c.tc : Thread Cert.Reference7Ideal.nD Cert.Reference7Ideal.τ).loc Cert.Reference7Ideal.main_arg39)
          ∧ r.2.mem ((c.tc : Thread Cert.Reference7Ideal.nD Cert.Reference7Ideal.τ).loc Cert.Reference7Ideal.main_arg40) = m' ((c.tc : Thread Cert.Reference7Ideal.nD Cert.Reference7Ideal.τ).loc Cert.Reference7Ideal.main_arg40)
          ∧ r.2.mem ((c.tc : Thread Cert.Reference7Ideal.nD Cert.Reference7Ideal.τ).loc Cert.Reference7Ideal.main_arg41) = m' ((c.tc : Thread Cert.Reference7Ideal.nD Cert.Reference7Ideal.τ).loc Cert.Reference7Ideal.main_arg41)
          ∧ r.2.mem ((c.tc : Thread Cert.Reference7Ideal.nD Cert.Reference7Ideal.τ).loc Cert.Reference7Ideal.main_arg42) = m' ((c.tc : Thread Cert.Reference7Ideal.nD Cert.Reference7Ideal.τ).loc Cert.Reference7Ideal.main_arg42)
          ∧ r.2.mem ((c.tc : Thread Cert.Reference7Ideal.nD Cert.Reference7Ideal.τ).loc Cert.Reference7Ideal.main_arg43) = m' ((c.tc : Thread Cert.Reference7Ideal.nD Cert.Reference7Ideal.τ).loc Cert.Reference7Ideal.main_arg43)
          ∧ r.2.mem ((c.tc : Thread Cert.Reference7Ideal.nD Cert.Reference7Ideal.τ).loc Cert.Reference7Ideal.main_arg44) = m' ((c.tc : Thread Cert.Reference7Ideal.nD Cert.Reference7Ideal.τ).loc Cert.Reference7Ideal.main_arg44)
          ∧ r.2.mem ((c.tc : Thread Cert.Reference7Ideal.nD Cert.Reference7Ideal.τ).loc Cert.Reference7Ideal.main_arg45) = m' ((c.tc : Thread Cert.Reference7Ideal.nD Cert.Reference7Ideal.τ).loc Cert.Reference7Ideal.main_arg45)
          ∧ r.2.mem ((c.tc : Thread Cert.Reference7Ideal.nD Cert.Reference7Ideal.τ).loc Cert.Reference7Ideal.main_arg46) = m' ((c.tc : Thread Cert.Reference7Ideal.nD Cert.Reference7Ideal.τ).loc Cert.Reference7Ideal.main_arg46)
          ∧ r.2.mem ((c.tc : Thread Cert.Reference7Ideal.nD Cert.Reference7Ideal.τ).loc Cert.Reference7Ideal.main_arg47) = m' ((c.tc : Thread Cert.Reference7Ideal.nD Cert.Reference7Ideal.τ).loc Cert.Reference7Ideal.main_arg47)
          ∧ r.2.mem ((c.tc : Thread Cert.Reference7Ideal.nD Cert.Reference7Ideal.τ).loc Cert.Reference7Ideal.main_arg48) = m' ((c.tc : Thread Cert.Reference7Ideal.nD Cert.Reference7Ideal.τ).loc Cert.Reference7Ideal.main_arg48)
          ∧ r.2.mem ((c.tc : Thread Cert.Reference7Ideal.nD Cert.Reference7Ideal.τ).loc Cert.Reference7Ideal.main_arg49) = m' ((c.tc : Thread Cert.Reference7Ideal.nD Cert.Reference7Ideal.τ).loc Cert.Reference7Ideal.main_arg49)
          ∧ r.2.mem ((c.tc : Thread Cert.Reference7Ideal.nD Cert.Reference7Ideal.τ).loc Cert.Reference7Ideal.main_arg50) = m' ((c.tc : Thread Cert.Reference7Ideal.nD Cert.Reference7Ideal.τ).loc Cert.Reference7Ideal.main_arg50)
          ∧ r.2.mem ((c.tc : Thread Cert.Reference7Ideal.nD Cert.Reference7Ideal.τ).loc Cert.Reference7Ideal.main_arg51) = m' ((c.tc : Thread Cert.Reference7Ideal.nD Cert.Reference7Ideal.τ).loc Cert.Reference7Ideal.main_arg51)
          ∧ r.2.mem ((c.tc : Thread Cert.Reference7Ideal.nD Cert.Reference7Ideal.τ).loc Cert.Reference7Ideal.main_arg52) = m' ((c.tc : Thread Cert.Reference7Ideal.nD Cert.Reference7Ideal.τ).loc Cert.Reference7Ideal.main_arg52)
          ∧ r.2.mem ((c.tc : Thread Cert.Reference7Ideal.nD Cert.Reference7Ideal.τ).loc Cert.Reference7Ideal.main_arg53) = m' ((c.tc : Thread Cert.Reference7Ideal.nD Cert.Reference7Ideal.τ).loc Cert.Reference7Ideal.main_arg53)
          ∧ r.2.mem ((c.tc : Thread Cert.Reference7Ideal.nD Cert.Reference7Ideal.τ).loc Cert.Reference7Ideal.main_arg54) = m' ((c.tc : Thread Cert.Reference7Ideal.nD Cert.Reference7Ideal.τ).loc Cert.Reference7Ideal.main_arg54)
          ∧ r.2.mem ((c.tc : Thread Cert.Reference7Ideal.nD Cert.Reference7Ideal.τ).loc Cert.Reference7Ideal.main_arg55) = m' ((c.tc : Thread Cert.Reference7Ideal.nD Cert.Reference7Ideal.τ).loc Cert.Reference7Ideal.main_arg55))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S2176x1024 : Shape := ⟨2, ![2176, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S2176x1024 : S_.BroadcastsInDim S2176x1024 (![] : Fin 0 → Fin S2176x1024.rank)
  reducesTo_S2176x1024_S_d0_1 : S2176x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg6 : FVec F S2176x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2176x1024 .f32 := Host.absf main_arg6
  let main_cst_8 : FVec F S_ .f32 := constant S_ .f32 0x7F800000#32
  let main_v25 : FVec F S2176x1024 .f32 := broadcastInDim S2176x1024 ![] bcast_S_S2176x1024 main_cst_8
  let main_v26 : IVec S2176x1024 1 := cmpf .olt main_v24 main_v25
  let main_c_9 : IVec S_ 1 := constantI S_ 1 1#1
  let main_v27 : IVec S_ 1 := (fun x v => Host.reduce IntOp.andi x v reducesTo_S2176x1024_S_d0_1 h_S_) main_v26 main_c_9
  let main_v28 : IVec S_ 1 := andi main_v23 main_v27
  main_v28

def fn {F : FTy → Type} [FloatOps F] (main_arg0 : FVec F S2176x1024 .f32) (main_arg1 : FVec F S1024x2816 .f32) (main_arg2 : FVec F S1024x2816 .f32) (main_arg3 : FVec F S2816x1024 .f32) (main_arg4 : FVec F S1024 .f32) (main_arg5 : FVec F S1024 .f32) (main_arg6 : FVec F S2176x1024 .f32) : IVec S_ 1 :=
  let main_v0 : FVec F S2176x1024 .f32 := Host.absf main_arg0
  let main_cst : FVec F S_ .f32 := constant S_ .f32 0x7F800000#32
  let main_v1 : FVec F S2176x1024 .f32 := broadcastInDim S2176x1024 ![] bcast_S_S2176x1024 main_cst
  let main_v2 : IVec S2176x1024 1 := cmpf .olt main_v0 main_v1
  let main_c : IVec S_ 1 := constantI S_ 1 1#1
  let main_v3 : IVec S_ 1 := (fun x v => Host.reduce IntOp.andi x v reducesTo_S2176x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg6 main_v13 main_v16
-- ==== Pre_finite2.lean ====
abbrev S2176x1024 : Shape := ⟨2, ![2176, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S2176x1024 : S_.BroadcastsInDim S2176x1024 (![] : Fin 0 → Fin S2176x1024.rank)
  reducesTo_S2176x1024_S_d0_1 : S2176x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg6 : FVec F S2176x1024 .f32) (main_arg7 : FVec F S2176x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2176x1024 .f32 := Host.absf main_arg6
  let main_cst_8 : FVec F S_ .f32 := constant S_ .f32 0x7F800000#32
  let main_v25 : FVec F S2176x1024 .f32 := broadcastInDim S2176x1024 ![] bcast_S_S2176x1024 main_cst_8
  let main_v26 : IVec S2176x1024 1 := cmpf .olt main_v24 main_v25
  let main_c_9 : IVec S_ 1 := constantI S_ 1 1#1
  let main_v27 : IVec S_ 1 := (fun x v => Host.reduce IntOp.andi x v reducesTo_S2176x1024_S_d0_1 h_S_) main_v26 main_c_9
  let main_v28 : IVec S_ 1 := andi main_v23 main_v27
  let main_v29 : FVec F S2176x1024 .f32 := Host.absf main_arg7
  let main_cst_10 : FVec F S_ .f32 := constant S_ .f32 0x7F800000#32
  let main_v30 : FVec F S2176x1024 .f32 := broadcastInDim S2176x1024 ![] bcast_S_S2176x1024 main_cst_10
  let main_v31 : IVec S2176x1024 1 := cmpf .olt main_v29 main_v30
  let main_c_11 : IVec S_ 1 := constantI S_ 1 1#1
  let main_v32 : IVec S_ 1 := (fun x v => Host.reduce IntOp.andi x v reducesTo_S2176x1024_S_d0_1 h_S_) main_v31 main_c_11
  let main_v33 : IVec S_ 1 := andi main_v28 main_v32
  main_v33

def fn {F : FTy → Type} [FloatOps F] (main_arg0 : FVec F S2176x1024 .f32) (main_arg1 : FVec F S1024x2816 .f32) (main_arg2 : FVec F S1024x2816 .f32) (main_arg3 : FVec F S2816x1024 .f32) (main_arg4 : FVec F S1024 .f32) (main_arg5 : FVec F S1024 .f32) (main_arg6 : FVec F S2176x1024 .f32) (main_arg7 : FVec F S2176x1024 .f32) : IVec S_ 1 :=
  let main_v0 : FVec F S2176x1024 .f32 := Host.absf main_arg0
  let main_cst : FVec F S_ .f32 := constant S_ .f32 0x7F800000#32
  let main_v1 : FVec F S2176x1024 .f32 := broadcastInDim S2176x1024 ![] bcast_S_S2176x1024 main_cst
  let main_v2 : IVec S2176x1024 1 := cmpf .olt main_v0 main_v1
  let main_c : IVec S_ 1 := constantI S_ 1 1#1
  let main_v3 : IVec S_ 1 := (fun x v => Host.reduce IntOp.andi x v reducesTo_S2176x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg6 main_arg7 main_v13 main_v16
-- ==== Kernel.lean ====
abbrev S2176x1024 : Shape := ⟨2, ![2176, 1024]⟩
abbrev S1024x2816 : Shape := ⟨2, ![1024, 2816]⟩
abbrev S2816x1024 : Shape := ⟨2, ![2816, 1024]⟩
abbrev S1024 : Shape := ⟨1, ![1024]⟩
abbrev S2176x2816 : Shape := ⟨2, ![2176, 2816]⟩
abbrev S_ : Shape := ⟨0, ![]⟩
abbrev S1x1024 : Shape := ⟨2, ![1, 1024]⟩
abbrev S2176x11x256 : Shape := ⟨3, ![2176, 11, 256]⟩
abbrev S11x2176x256 : Shape := ⟨3, ![11, 2176, 256]⟩
abbrev S1x2176x256 : Shape := ⟨3, ![1, 2176, 256]⟩
abbrev S256x1024 : Shape := ⟨2, ![256, 1024]⟩
abbrev S1024x2176 : Shape := ⟨2, ![1024, 2176]⟩
abbrev S2176x256 : Shape := ⟨2, ![2176, 256]⟩
abbrev S2x1x128x1024 : Shape := ⟨4, ![2, 1, 128, 1024]⟩
abbrev S2x128x1024 : Shape := ⟨3, ![2, 128, 1024]⟩
abbrev S2x3 : Shape := ⟨2, ![2, 3]⟩
abbrev S1 : Shape := ⟨1, ![1]⟩
abbrev S1x1 : Shape := ⟨2, ![1, 1]⟩
abbrev S1x1x128x1024 : Shape := ⟨4, ![1, 1, 128, 1024]⟩
abbrev S128x1024 : Shape := ⟨2, ![128, 1024]⟩
abbrev S1x128x1024 : Shape := ⟨3, ![1, 128, 1024]⟩
abbrev S128 : Shape := ⟨1, ![128]⟩
abbrev S128x1 : Shape := ⟨2, ![128, 1]⟩
abbrev S1024x128 : Shape := ⟨2, ![1024, 128]⟩
abbrev S272x1024 : Shape := ⟨2, ![272, 1024]⟩
abbrev S272x256 : Shape := ⟨2, ![272, 256]⟩
abbrev S1x272x256 : Shape := ⟨3, ![1, 272, 256]⟩
abbrev S1024x256 : Shape := ⟨2, ![1024, 256]⟩

abbrev nBuf : Space → Nat
  | .hbm => 46
  | .vmem => 29
  | .smem => 0
  | _ => 0

abbrev bufTy : (tb : Table) → Fin (tcTables nBuf tb) → BufTy
  | .hbm, ⟨0, _⟩ => ⟨S2176x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S2176x1024, .f32⟩
  | .hbm, ⟨7, _⟩ => ⟨S2176x2816, .f32⟩
  | .hbm, ⟨8, _⟩ => ⟨S2176x2816, .f32⟩
  | .hbm, ⟨9, _⟩ => ⟨S_, .f32⟩
  | .hbm, ⟨10, _⟩ => ⟨S2176x1024, .f32⟩
  | .hbm, ⟨11, _⟩ => ⟨S2176x1024, .f32⟩
  | .hbm, ⟨12, _⟩ => ⟨S2176x2816, .f32⟩
  | .hbm, ⟨13, _⟩ => ⟨S2176x2816, .f32⟩
  | .hbm, ⟨14, _⟩ => ⟨S_, .f32⟩
  | .hbm, ⟨15, _⟩ => ⟨S2176x2816, .f32⟩
  | .hbm, ⟨16, _⟩ => ⟨S2176x2816, .f32⟩
  | .hbm, ⟨17, _⟩ => ⟨S_, .f32⟩
  | .hbm, ⟨18, _⟩ => ⟨S2176x2816, .f32⟩
  | .hbm, ⟨19, _⟩ => ⟨S2176x2816, .f32⟩
  | .hbm, ⟨20, _⟩ => ⟨S2176x2816, .f32⟩
  | .hbm, ⟨21, _⟩ => ⟨S2176x2816, .f32⟩
  | .hbm, ⟨22, _⟩ => ⟨S2176x1024, .f32⟩
  | .hbm, ⟨23, _⟩ => ⟨S_, .f32⟩
  | .hbm, ⟨24, _⟩ => ⟨S2176x1024, .f32⟩
  | .hbm, ⟨25, _⟩ => ⟨S2176x1024, .f32⟩
  | .hbm, ⟨26, _⟩ => ⟨S2176x1024, .f32⟩
  | .hbm, ⟨27, _⟩ => ⟨S1x1024, .f32⟩
  | .hbm, ⟨28, _⟩ => ⟨S2176x1024, .bf16⟩
  | .hbm, ⟨29, _⟩ => ⟨S2176x11x256, .f32⟩
  | .hbm, ⟨30, _⟩ => ⟨S11x2176x256, .f32⟩
  | .hbm, ⟨31, _⟩ => ⟨S11x2176x256, .bf16⟩
  | .hbm, ⟨32, _⟩ => ⟨S2176x11x256, .f32⟩
  | .hbm, ⟨33, _⟩ => ⟨S11x2176x256, .f32⟩
  | .hbm, ⟨34, _⟩ => ⟨S11x2176x256, .bf16⟩
  | .hbm, ⟨35, _⟩ => ⟨S2816x1024, .f32⟩
  | .hbm, ⟨36, _⟩ => ⟨S2816x1024, .bf16⟩
  | .hbm, ⟨37, _⟩ => ⟨S2816x1024, .f32⟩
  | .hbm, ⟨38, _⟩ => ⟨S2816x1024, .bf16⟩
  | .hbm, ⟨39, _⟩ => ⟨S2816x1024, .bf16⟩
  | .hbm, ⟨40, _⟩ => ⟨S2176x1024, .f32⟩
  | .hbm, ⟨41, _⟩ => ⟨S2816x1024, .bf16⟩
  | .hbm, ⟨42, _⟩ => ⟨S2816x1024, .bf16⟩
  | .hbm, ⟨43, _⟩ => ⟨S2816x1024, .bf16⟩
  | .hbm, ⟨44, _⟩ => ⟨S1x1024, .f32⟩
  | .hbm, ⟨45, _⟩ => ⟨S1x1024, .f32⟩
  | .local _ .vmem, ⟨0, _⟩ => ⟨S1x1024, .f32⟩
  | .local _ .vmem, ⟨1, _⟩ => ⟨S1x2176x256, .bf16⟩
  | .local _ .vmem, ⟨2, _⟩ => ⟨S1x2176x256, .bf16⟩
  | .local _ .vmem, ⟨3, _⟩ => ⟨S1x2176x256, .bf16⟩
  | .local _ .vmem, ⟨4, _⟩ => ⟨S1x2176x256, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | .local _ .vmem, ⟨19, _⟩ => ⟨S2176x1024, .bf16⟩
  | .local _ .vmem, ⟨20, _⟩ => ⟨S1024x2176, .bf16⟩
  | .local _ .vmem, ⟨21, _⟩ => ⟨S1024x2176, .bf16⟩
  | .local _ .vmem, ⟨22, _⟩ => ⟨S2176x1024, .f32⟩
  | .local _ .vmem, ⟨23, _⟩ => ⟨S2176x256, .bf16⟩
  | .local _ .vmem, ⟨24, _⟩ => ⟨S2176x256, .bf16⟩
  | .local _ .vmem, ⟨25, _⟩ => ⟨S2176x256, .bf16⟩
  | .local _ .vmem, ⟨26, _⟩ => ⟨S2x1x128x1024, .f32⟩
  | .local _ .vmem, ⟨27, _⟩ => ⟨S2x128x1024, .f32⟩
  | .local _ .vmem, ⟨28, _⟩ => ⟨S2x128x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23_0 : Ref sig .tc := ⟨.hbm, 40, rfl⟩
abbrev main_v23_1 : Ref sig .tc := ⟨.hbm, 41, rfl⟩
abbrev main_v23_2 : Ref sig .tc := ⟨.hbm, 42, rfl⟩
abbrev main_v23_3 : Ref sig .tc := ⟨.hbm, 43, rfl⟩
abbrev main_v23_4 : Ref sig .tc := ⟨.hbm, 44, rfl⟩
abbrev main_v23_5 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S2176x1024 : Shape := ⟨2, ![2176, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S2176x2816 : Shape := ⟨2, ![2176, 2816]⟩
abbrev S2176 : Shape := ⟨1, ![2176]⟩
abbrev S2176x1 : Shape := ⟨2, ![2176, 1]⟩
abbrev S1x1024 : Shape := ⟨2, ![1, 1024]⟩

abbrev nBuf : Space → Nat
  | .hbm => 142
  | .vmem => 0
  | .smem => 0
  | _ => 0

abbrev hbmTy0_0 (i : Nat) : BufTy := match i % 128 with
  | 0 => ⟨S2176x1024, .f32⟩
  | 1 => ⟨S1024x2816, .f32⟩
  | 2 => ⟨S1024x2816, .f32⟩
  | 3 => ⟨S2816x1024, .f32⟩
  | 4 => ⟨S1024, .f32⟩
  | 5 => ⟨S1024, .f32⟩
  | 6 => ⟨S2176x1024, .f32⟩
  | 7 => ⟨S_, .f32⟩
  | 8 => ⟨S2176x1024, .f32⟩
  | 9 => ⟨S2176x1024, .f32⟩
  | 10 => ⟨S2176x2816, .f32⟩
  | 11 => ⟨S2176x2816, .f32⟩
  | 12 => ⟨S2176x2816, .f32⟩
  | 13 => ⟨S_, .f32⟩
  | 14 => ⟨S2176x2816, .f32⟩
  | 15 => ⟨S2176x2816, .f32⟩
  | 16 => ⟨S_, .f32⟩
  | 17 => ⟨S2176x2816, .f32⟩
  | 18 => ⟨S2176x2816, .f32⟩
  | 19 => ⟨S_, .f32⟩
  | 20 => ⟨S2176x2816, .f32⟩
  | 21 => ⟨S2176x2816, .f32⟩
  | 22 => ⟨S2176x2816, .f32⟩
  | 23 => ⟨S2176x2816, .f32⟩
  | 24 => ⟨S2176x2816, .f32⟩
  | 25 => ⟨S2176x2816, .f32⟩
  | 26 => ⟨S2176x1024, .f32⟩
  | 27 => ⟨S_, .f32⟩
  | 28 => ⟨S2176x1024, .f32⟩
  | 29 => ⟨S2176x1024, .f32⟩
  | 30 => ⟨S2176x1024, .f32⟩
  | 31 => ⟨S_, .f32⟩
  | 32 => ⟨S2176, .f32⟩
  | 33 => ⟨S2176x1, .f32⟩
  | 34 => ⟨S_, .f32⟩
  | 35 => ⟨S2176x1, .f32⟩
  | 36 => ⟨S2176x1, .f32⟩
  | 37 => ⟨S2176x1024, .f32⟩
  | 38 => ⟨S2176x1024, .f32⟩
  | 39 => ⟨S2176x1024, .f32⟩
  | 40 => ⟨S_, .f32⟩
  | 41 => ⟨S2176x1024, .f32⟩
  | 42 => ⟨S2176x1024, .f32⟩
  | 43 => ⟨S_, .f32⟩
  | 44 => ⟨S2176, .f32⟩
  | 45 => ⟨S2176x1, .f32⟩
  | 46 => ⟨S_, .f32⟩
  | 47 => ⟨S2176x1, .f32⟩
  | 48 => ⟨S2176x1, .f32⟩
  | 49 => ⟨S2176x1024, .f32⟩
  | 50 => ⟨S2176x1024, .f32⟩
  | 51 => ⟨S_, .f32⟩
  | 52 => ⟨S2176x1, .f32⟩
  | 53 => ⟨S2176x1, .f32⟩
  | 54 => ⟨S2176x1, .f32⟩
  | 55 => ⟨S2176x1, .f32⟩
  | 56 => ⟨S_, .f32⟩
  | 57 => ⟨S2176x1, .f32⟩
  | 58 => ⟨S2176x1, .f32⟩
  | 59 => ⟨S2176x1024, .f32⟩
  | 60 => ⟨S2176x1024, .f32⟩
  | 61 => ⟨S1x1024, .f32⟩
  | 62 => ⟨S2176x1024, .f32⟩
  | 63 => ⟨S2176x1024, .f32⟩
  | 64 => ⟨S1x1024, .f32⟩
  | 65 => ⟨S2176x1024, .f32⟩
  | 66 => ⟨S2176x1024, .f32⟩
  | 67 => ⟨S2176x1024, .f32⟩
  | 68 => ⟨S_, .f32⟩
  | 69 => ⟨S1024, .f32⟩
  | 70 => ⟨S1x1024, .f32⟩
  | 71 => ⟨S_, .f32⟩
  | 72 => ⟨S1024, .f32⟩
  | 73 => ⟨S2176x1024, .f32⟩
  | 74 => ⟨S_, .f32⟩
  | 75 => ⟨S1024, .f32⟩
  | 76 => ⟨S1x1024, .f32⟩
  | 77 => ⟨S2176x1024, .f32⟩
  | 78 => ⟨S2176x1024, .f32⟩
  | 79 => ⟨S_, .f32⟩
  | 80 => ⟨S1024, .f32⟩
  | 81 => ⟨S2176x1024, .f32⟩
  | 82 => ⟨S_, .f32⟩
  | 83 => ⟨S2176, .f32⟩
  | 84 => ⟨S2176x1, .f32⟩
  | 85 => ⟨S2176x1024, .f32⟩
  | 86 => ⟨S2176x1024, .f32⟩
  | 87 => ⟨S2176x1, .f32⟩
  | 88 => ⟨S2176x1024, .f32⟩
  | 89 => ⟨S_, .f32⟩
  | 90 => ⟨S2176, .f32⟩
  | 91 => ⟨S2176x1, .f32⟩
  | 92 => ⟨S_, .f32⟩
  | 93 => ⟨S2176x1, .f32⟩
  | 94 => ⟨S2176x1, .f32⟩
  | 95 => ⟨S_, .f32⟩
  | 96 => ⟨S2176, .f32⟩
  | 97 => ⟨S2176x1024, .f32⟩
  | 98 => ⟨S2176x1024, .f32⟩
  | 99 => ⟨S2176x1024, .f32⟩
  | 100 => ⟨S_, .f32⟩
  | 101 => ⟨S2176, .f32⟩
  | 102 => ⟨S2176x1, .f32⟩
  | 103 => ⟨S2176x1024, .f32⟩
  | 104 => ⟨S2176x1, .f32⟩
  | 105 => ⟨S_, .f32⟩
  | 106 => ⟨S2176x1, .f32⟩
  | 107 => ⟨S2176x1, .f32⟩
  | 108 => ⟨S_, .f32⟩
  | 109 => ⟨S2176, .f32⟩
  | 110 => ⟨S2176x1024, .f32⟩
  | 111 => ⟨S2176x1024, .f32⟩
  | 112 => ⟨S_, .f32⟩
  | 113 => ⟨S2176x1024, .f32⟩
  | 114 => ⟨S2176x1024, .f32⟩
  | 115 => ⟨S1024x2816, .f32⟩
  | 116 => ⟨S2816x1024, .f32⟩
  | 117 => ⟨S2176x2816, .f32⟩
  | 118 => ⟨S2176x2816, .f32⟩
  | 119 => ⟨S2176x2816, .f32⟩
  | 120 => ⟨S2816x1024, .f32⟩
  | 121 => ⟨S1024x2816, .f32⟩
  | 122 => ⟨S2176x1024, .f32⟩
  | 123 => ⟨S2176x2816, .f32⟩
  | 124 => ⟨S2176x2816, .f32⟩
  | 125 => ⟨S2176x2816, .f32⟩
  | 126 => ⟨S2176x2816, .f32⟩
  | 127 => ⟨S2816x1024, .f32⟩
  | _ => ⟨S2176x1024, .f32⟩

abbrev hbmTy0_1 (i : Nat) : BufTy := match i % 128 with
  | 0 => ⟨S1024x2816, .f32⟩
  | 1 => ⟨S2176x1024, .f32⟩
  | 2 => ⟨S2176x1024, .f32⟩
  | 3 => ⟨S_, .f32⟩
  | 4 => ⟨S2176x1024, .f32⟩
  | 5 => ⟨S2176x1024, .f32⟩
  | 6 => ⟨S2176x1024, .f32⟩
  | 7 => ⟨S2816x1024, .f32⟩
  | 8 => ⟨S2816x1024, .bf16⟩
  | 9 => ⟨S2816x1024, .f32⟩
  | 10 => ⟨S2816x1024, .bf16⟩
  | 11 => ⟨S2816x1024, .bf16⟩
  | 12 => ⟨S1x1024, .f32⟩
  | 13 => ⟨S1x1024, .f32⟩
  | _ => ⟨S2176x1024, .f32⟩

abbrev hbmTy (i : Nat) : BufTy := match i / 128 with
  | 0 => hbmTy0_0 i
  | 1 => hbmTy0_1 i
  | _ => ⟨S2176x1024, .f32⟩

abbrev bufTy : (tb : Table) → Fin (tcTables nBuf tb) → BufTy
  | .hbm, ⟨i, _⟩ => hbmTy i
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v3_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v3_1 : Ref sig .tc := ⟨.hbm, 22, rfl⟩
abbrev main_v3_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_6 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_cst_10 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_cst_14 : Ref sig .tc := ⟨.hbm, 92, rfl⟩
abbrev main_v58 : Ref sig .tc := ⟨.hbm, 93, rfl⟩
abbrev main_v59 : Ref sig .tc := ⟨.hbm, 94, rfl⟩
abbrev main_cst_15 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_16 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_17 : Ref sig .tc := ⟨.hbm, 105, rfl⟩
abbrev main_v68 : Ref sig .tc := ⟨.hbm, 106, rfl⟩
abbrev main_v69 : Ref sig .tc := ⟨.hbm, 107, rfl⟩
abbrev main_cst_18 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_19 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_20 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩

abbrev nD : Nat := 1
abbrev τ : Topo := Topo.v7x

variable {F : FTy → Type} [FloatOps F]
-- ==== Kernel2.lean ====
abbrev S2176x1024 : Shape := ⟨2, ![2176, 1024]⟩
abbrev S1024x2816 : Shape := ⟨2, ![1024, 2816]⟩
abbrev S2816x1024 : Shape := ⟨2, ![2816, 1024]⟩
abbrev S1024 : Shape := ⟨1, ![1024]⟩
abbrev S2176x2816 : Shape := ⟨2, ![2176, 2816]⟩
abbrev S_ : Shape := ⟨0, ![]⟩
abbrev S1x1024 : Shape := ⟨2, ![1, 1024]⟩
abbrev S2176x11x256 : Shape := ⟨3, ![2176, 11, 256]⟩
abbrev S11x2176x256 : Shape := ⟨3, ![11, 2176, 256]⟩
abbrev S1x2176x256 : Shape := ⟨3, ![1, 2176, 256]⟩
abbrev S256x1024 : Shape := ⟨2, ![256, 1024]⟩
abbrev S1024x2176 : Shape := ⟨2, ![1024, 2176]⟩
abbrev S2176x256 : Shape := ⟨2, ![2176, 256]⟩
abbrev S2x2x128x1024 : Shape := ⟨4, ![2, 2, 128, 1024]⟩
abbrev S2x128x1024 : Shape := ⟨3, ![2, 128, 1024]⟩
abbrev S2x4 : Shape := ⟨2, ![2, 4]⟩
abbrev S1 : Shape := ⟨1, ![1]⟩
abbrev S1x1 : Shape := ⟨2, ![1, 1]⟩
abbrev S1x1x128x1024 : Shape := ⟨4, ![1, 1, 128, 1024]⟩
abbrev S128x1024 : Shape := ⟨2, ![128, 1024]⟩
abbrev S1x128x1024 : Shape := ⟨3, ![1, 128, 1024]⟩
abbrev S128 : Shape := ⟨1, ![128]⟩
abbrev S128x1 : Shape := ⟨2, ![128, 1]⟩
abbrev S1024x128 : Shape := ⟨2, ![1024, 128]⟩
abbrev S272x1024 : Shape := ⟨2, ![272, 1024]⟩
abbrev S272x256 : Shape := ⟨2, ![272, 256]⟩
abbrev S1x272x256 : Shape := ⟨3, ![1, 272, 256]⟩
abbrev S1024x256 : Shape := ⟨2, ![1024, 256]⟩

abbrev nBuf : Space → Nat
  | .hbm => 47
  | .vmem => 29
  | .smem => 0
  | _ => 0

abbrev bufTy : (tb : Table) → Fin (tcTables nBuf tb) → BufTy
  | .hbm, ⟨0, _⟩ => ⟨S2176x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S2176x1024, .f32⟩
  | .hbm, ⟨7, _⟩ => ⟨S2176x1024, .f32⟩
  | .hbm, ⟨8, _⟩ => ⟨S2176x2816, .f32⟩
  | .hbm, ⟨9, _⟩ => ⟨S2176x2816, .f32⟩
  | .hbm, ⟨10, _⟩ => ⟨S_, .f32⟩
  | .hbm, ⟨11, _⟩ => ⟨S2176x1024, .f32⟩
  | .hbm, ⟨12, _⟩ => ⟨S2176x1024, .f32⟩
  | .hbm, ⟨13, _⟩ => ⟨S2176x2816, .f32⟩
  | .hbm, ⟨14, _⟩ => ⟨S2176x2816, .f32⟩
  | .hbm, ⟨15, _⟩ => ⟨S_, .f32⟩
  | .hbm, ⟨16, _⟩ => ⟨S2176x2816, .f32⟩
  | .hbm, ⟨17, _⟩ => ⟨S2176x2816, .f32⟩
  | .hbm, ⟨18, _⟩ => ⟨S_, .f32⟩
  | .hbm, ⟨19, _⟩ => ⟨S2176x2816, .f32⟩
  | .hbm, ⟨20, _⟩ => ⟨S2176x2816, .f32⟩
  | .hbm, ⟨21, _⟩ => ⟨S2176x2816, .f32⟩
  | .hbm, ⟨22, _⟩ => ⟨S2176x2816, .f32⟩
  | .hbm, ⟨23, _⟩ => ⟨S2176x1024, .f32⟩
  | .hbm, ⟨24, _⟩ => ⟨S_, .f32⟩
  | .hbm, ⟨25, _⟩ => ⟨S2176x1024, .f32⟩
  | .hbm, ⟨26, _⟩ => ⟨S2176x1024, .f32⟩
  | .hbm, ⟨27, _⟩ => ⟨S2176x1024, .f32⟩
  | .hbm, ⟨28, _⟩ => ⟨S1x1024, .f32⟩
  | .hbm, ⟨29, _⟩ => ⟨S2176x1024, .bf16⟩
  | .hbm, ⟨30, _⟩ => ⟨S2176x11x256, .f32⟩
  | .hbm, ⟨31, _⟩ => ⟨S11x2176x256, .f32⟩
  | .hbm, ⟨32, _⟩ => ⟨S11x2176x256, .bf16⟩
  | .hbm, ⟨33, _⟩ => ⟨S2176x11x256, .f32⟩
  | .hbm, ⟨34, _⟩ => ⟨S11x2176x256, .f32⟩
  | .hbm, ⟨35, _⟩ => ⟨S11x2176x256, .bf16⟩
  | .hbm, ⟨36, _⟩ => ⟨S2816x1024, .f32⟩
  | .hbm, ⟨37, _⟩ => ⟨S2816x1024, .bf16⟩
  | .hbm, ⟨38, _⟩ => ⟨S2816x1024, .f32⟩
  | .hbm, ⟨39, _⟩ => ⟨S2816x1024, .bf16⟩
  | .hbm, ⟨40, _⟩ => ⟨S2816x1024, .bf16⟩
  | .hbm, ⟨41, _⟩ => ⟨S2176x1024, .f32⟩
  | .hbm, ⟨42, _⟩ => ⟨S2816x1024, .bf16⟩
  | .hbm, ⟨43, _⟩ => ⟨S2816x1024, .bf16⟩
  | .hbm, ⟨44, _⟩ => ⟨S2816x1024, .bf16⟩
  | .hbm, ⟨45, _⟩ => ⟨S1x1024, .f32⟩
  | .hbm, ⟨46, _⟩ => ⟨S1x1024, .f32⟩
  | .local _ .vmem, ⟨0, _⟩ => ⟨S1x1024, .f32⟩
  | .local _ .vmem, ⟨1, _⟩ => ⟨S1x2176x256, .bf16⟩
  | .local _ .vmem, ⟨2, _⟩ => ⟨S1x2176x256, .bf16⟩
  | .local _ .vmem, ⟨3, _⟩ => ⟨S1x2176x256, .bf16⟩
  | .local _ .vmem, ⟨4, _⟩ => ⟨S1x2176x256, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | .local _ .vmem, ⟨19, _⟩ => ⟨S2176x1024, .bf16⟩
  | .local _ .vmem, ⟨20, _⟩ => ⟨S1024x2176, .bf16⟩
  | .local _ .vmem, ⟨21, _⟩ => ⟨S1024x2176, .bf16⟩
  | .local _ .vmem, ⟨22, _⟩ => ⟨S2176x1024, .f32⟩
  | .local _ .vmem, ⟨23, _⟩ => ⟨S2176x256, .bf16⟩
  | .local _ .vmem, ⟨24, _⟩ => ⟨S2176x256, .bf16⟩
  | .local _ .vmem, ⟨25, _⟩ => ⟨S2176x256, .bf16⟩
  | .local _ .vmem, ⟨26, _⟩ => ⟨S2x2x128x1024, .f32⟩
  | .local _ .vmem, ⟨27, _⟩ => ⟨S2x128x1024, .f32⟩
  | .local _ .vmem, ⟨28, _⟩ => ⟨S2x128x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev main_v23_2 : Ref sig .tc := ⟨.hbm, 43, rfl⟩
abbrev main_v23_3 : Ref sig .tc := ⟨.hbm, 44, rfl⟩
abbrev main_v23_4 : Ref sig .tc := ⟨.hbm, 45, rfl⟩
abbrev main_v23_5 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S2176x1024 : Shape := ⟨2, ![2176, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S2176x2816 : Shape := ⟨2, ![2176, 2816]⟩
abbrev S2176 : Shape := ⟨1, ![2176]⟩
abbrev S2176x1 : Shape := ⟨2, ![2176, 1]⟩
abbrev S1x1024 : Shape := ⟨2, ![1, 1024]⟩

abbrev nBuf : Space → Nat
  | .hbm => 146
  | .vmem => 0
  | .smem => 0
  | _ => 0

abbrev hbmTy0_0 (i : Nat) : BufTy := match i % 128 with
  | 0 => ⟨S2176x1024, .f32⟩
  | 1 => ⟨S1024x2816, .f32⟩
  | 2 => ⟨S1024x2816, .f32⟩
  | 3 => ⟨S2816x1024, .f32⟩
  | 4 => ⟨S1024, .f32⟩
  | 5 => ⟨S1024, .f32⟩
  | 6 => ⟨S2176x1024, .f32⟩
  | 7 => ⟨S2176x1024, .f32⟩
  | 8 => ⟨S_, .f32⟩
  | 9 => ⟨S2176x1024, .f32⟩
  | 10 => ⟨S2176x1024, .f32⟩
  | 11 => ⟨S2176x2816, .f32⟩
  | 12 => ⟨S2176x2816, .f32⟩
  | 13 => ⟨S2176x2816, .f32⟩
  | 14 => ⟨S_, .f32⟩
  | 15 => ⟨S2176x2816, .f32⟩
  | 16 => ⟨S2176x2816, .f32⟩
  | 17 => ⟨S_, .f32⟩
  | 18 => ⟨S2176x2816, .f32⟩
  | 19 => ⟨S2176x2816, .f32⟩
  | 20 => ⟨S_, .f32⟩
  | 21 => ⟨S2176x2816, .f32⟩
  | 22 => ⟨S2176x2816, .f32⟩
  | 23 => ⟨S2176x2816, .f32⟩
  | 24 => ⟨S2176x2816, .f32⟩
  | 25 => ⟨S2176x2816, .f32⟩
  | 26 => ⟨S2176x2816, .f32⟩
  | 27 => ⟨S2176x1024, .f32⟩
  | 28 => ⟨S_, .f32⟩
  | 29 => ⟨S2176x1024, .f32⟩
  | 30 => ⟨S2176x1024, .f32⟩
  | 31 => ⟨S2176x1024, .f32⟩
  | 32 => ⟨S_, .f32⟩
  | 33 => ⟨S2176, .f32⟩
  | 34 => ⟨S2176x1, .f32⟩
  | 35 => ⟨S_, .f32⟩
  | 36 => ⟨S2176x1, .f32⟩
  | 37 => ⟨S2176x1, .f32⟩
  | 38 => ⟨S2176x1024, .f32⟩
  | 39 => ⟨S2176x1024, .f32⟩
  | 40 => ⟨S2176x1024, .f32⟩
  | 41 => ⟨S_, .f32⟩
  | 42 => ⟨S2176x1024, .f32⟩
  | 43 => ⟨S2176x1024, .f32⟩
  | 44 => ⟨S_, .f32⟩
  | 45 => ⟨S2176, .f32⟩
  | 46 => ⟨S2176x1, .f32⟩
  | 47 => ⟨S_, .f32⟩
  | 48 => ⟨S2176x1, .f32⟩
  | 49 => ⟨S2176x1, .f32⟩
  | 50 => ⟨S2176x1024, .f32⟩
  | 51 => ⟨S2176x1024, .f32⟩
  | 52 => ⟨S_, .f32⟩
  | 53 => ⟨S2176x1, .f32⟩
  | 54 => ⟨S2176x1, .f32⟩
  | 55 => ⟨S2176x1, .f32⟩
  | 56 => ⟨S2176x1, .f32⟩
  | 57 => ⟨S_, .f32⟩
  | 58 => ⟨S2176x1, .f32⟩
  | 59 => ⟨S2176x1, .f32⟩
  | 60 => ⟨S2176x1024, .f32⟩
  | 61 => ⟨S2176x1024, .f32⟩
  | 62 => ⟨S1x1024, .f32⟩
  | 63 => ⟨S2176x1024, .f32⟩
  | 64 => ⟨S2176x1024, .f32⟩
  | 65 => ⟨S1x1024, .f32⟩
  | 66 => ⟨S2176x1024, .f32⟩
  | 67 => ⟨S2176x1024, .f32⟩
  | 68 => ⟨S_, .f32⟩
  | 69 => ⟨S2176x1024, .f32⟩
  | 70 => ⟨S2176x1024, .f32⟩
  | 71 => ⟨S2176x1024, .f32⟩
  | 72 => ⟨S_, .f32⟩
  | 73 => ⟨S1024, .f32⟩
  | 74 => ⟨S1x1024, .f32⟩
  | 75 => ⟨S_, .f32⟩
  | 76 => ⟨S1024, .f32⟩
  | 77 => ⟨S2176x1024, .f32⟩
  | 78 => ⟨S_, .f32⟩
  | 79 => ⟨S1024, .f32⟩
  | 80 => ⟨S1x1024, .f32⟩
  | 81 => ⟨S2176x1024, .f32⟩
  | 82 => ⟨S2176x1024, .f32⟩
  | 83 => ⟨S_, .f32⟩
  | 84 => ⟨S1024, .f32⟩
  | 85 => ⟨S2176x1024, .f32⟩
  | 86 => ⟨S_, .f32⟩
  | 87 => ⟨S2176, .f32⟩
  | 88 => ⟨S2176x1, .f32⟩
  | 89 => ⟨S2176x1024, .f32⟩
  | 90 => ⟨S2176x1024, .f32⟩
  | 91 => ⟨S2176x1, .f32⟩
  | 92 => ⟨S2176x1024, .f32⟩
  | 93 => ⟨S_, .f32⟩
  | 94 => ⟨S2176, .f32⟩
  | 95 => ⟨S2176x1, .f32⟩
  | 96 => ⟨S_, .f32⟩
  | 97 => ⟨S2176x1, .f32⟩
  | 98 => ⟨S2176x1, .f32⟩
  | 99 => ⟨S_, .f32⟩
  | 100 => ⟨S2176, .f32⟩
  | 101 => ⟨S2176x1024, .f32⟩
  | 102 => ⟨S2176x1024, .f32⟩
  | 103 => ⟨S2176x1024, .f32⟩
  | 104 => ⟨S_, .f32⟩
  | 105 => ⟨S2176, .f32⟩
  | 106 => ⟨S2176x1, .f32⟩
  | 107 => ⟨S2176x1024, .f32⟩
  | 108 => ⟨S2176x1, .f32⟩
  | 109 => ⟨S_, .f32⟩
  | 110 => ⟨S2176x1, .f32⟩
  | 111 => ⟨S2176x1, .f32⟩
  | 112 => ⟨S_, .f32⟩
  | 113 => ⟨S2176, .f32⟩
  | 114 => ⟨S2176x1024, .f32⟩
  | 115 => ⟨S2176x1024, .f32⟩
  | 116 => ⟨S_, .f32⟩
  | 117 => ⟨S2176x1024, .f32⟩
  | 118 => ⟨S2176x1024, .f32⟩
  | 119 => ⟨S1024x2816, .f32⟩
  | 120 => ⟨S2816x1024, .f32⟩
  | 121 => ⟨S2176x2816, .f32⟩
  | 122 => ⟨S2176x2816, .f32⟩
  | 123 => ⟨S2176x2816, .f32⟩
  | 124 => ⟨S2816x1024, .f32⟩
  | 125 => ⟨S1024x2816, .f32⟩
  | 126 => ⟨S2176x1024, .f32⟩
  | 127 => ⟨S2176x2816, .f32⟩
  | _ => ⟨S2176x1024, .f32⟩

abbrev hbmTy0_1 (i : Nat) : BufTy := match i % 128 with
  | 0 => ⟨S2176x2816, .f32⟩
  | 1 => ⟨S2176x2816, .f32⟩
  | 2 => ⟨S2176x2816, .f32⟩
  | 3 => ⟨S2816x1024, .f32⟩
  | 4 => ⟨S1024x2816, .f32⟩
  | 5 => ⟨S2176x1024, .f32⟩
  | 6 => ⟨S2176x1024, .f32⟩
  | 7 => ⟨S_, .f32⟩
  | 8 => ⟨S2176x1024, .f32⟩
  | 9 => ⟨S2176x1024, .f32⟩
  | 10 => ⟨S2176x1024, .f32⟩
  | 11 => ⟨S2816x1024, .f32⟩
  | 12 => ⟨S2816x1024, .bf16⟩
  | 13 => ⟨S2816x1024, .f32⟩
  | 14 => ⟨S2816x1024, .bf16⟩
  | 15 => ⟨S2816x1024, .bf16⟩
  | 16 => ⟨S1x1024, .f32⟩
  | 17 => ⟨S1x1024, .f32⟩
  | _ => ⟨S2176x1024, .f32⟩

abbrev hbmTy (i : Nat) : BufTy := match i / 128 with
  | 0 => hbmTy0_0 i
  | 1 => hbmTy0_1 i
  | _ => ⟨S2176x1024, .f32⟩

abbrev bufTy : (tb : Table) → Fin (tcTables nBuf tb) → BufTy
  | .hbm, ⟨i, _⟩ => hbmTy i
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v3_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v3_1 : Ref sig .tc := ⟨.hbm, 23, rfl⟩
abbrev main_v3_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_v11 : Ref sig .tc := ⟨.hbm, 34, rfl⟩
abbrev main_cst_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_v17 : Ref sig .tc := ⟨.hbm, 42, rfl⟩
abbrev main_v18 : Ref sig .tc := ⟨.hbm, 43, rfl⟩
abbrev main_cst_4 : Ref sig .tc := ⟨.hbm, 44, rfl⟩
abbrev main_v19 : Ref sig .tc := ⟨.hbm, 45, rfl⟩
abbrev main_v20 : Ref sig .tc := ⟨.hbm, 46, rfl⟩
abbrev main_cst_5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_6 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_7 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_v43 : Ref sig .tc := ⟨.hbm, 74, rfl⟩
abbrev main_cst_10 : Ref sig .tc := ⟨.hbm, 75, rfl⟩
abbrev main_v44 : Ref sig .tc := ⟨.hbm, 76, rfl⟩
abbrev main_v45 : Ref sig .tc := ⟨.hbm, 77, rfl⟩
abbrev main_cst_11 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_12 : Ref sig .tc := ⟨.hbm, 83, rfl⟩
abbrev main_v50 : Ref sig .tc := ⟨.hbm, 84, rfl⟩
abbrev main_v51 : Ref sig .tc := ⟨.hbm, 85, rfl⟩
abbrev main_cst_13 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_14 : Ref sig .tc := ⟨.hbm, 93, rfl⟩
abbrev main_v58 : Ref sig .tc := ⟨.hbm, 94, rfl⟩
abbrev main_v59 : Ref sig .tc := ⟨.hbm, 95, rfl⟩
abbrev main_cst_15 : Ref sig .tc := ⟨.hbm, 96, rfl⟩
abbrev main_v60 : Ref sig .tc := ⟨.hbm, 97, rfl⟩
abbrev main_v61 : Ref sig .tc := ⟨.hbm, 98, rfl⟩
abbrev main_cst_16 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_17 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_18 : Ref sig .tc := ⟨.hbm, 109, rfl⟩
abbrev main_v70 : Ref sig .tc := ⟨.hbm, 110, rfl⟩
abbrev main_v71 : Ref sig .tc := ⟨.hbm, 111, rfl⟩
abbrev main_cst_19 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_20 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_21 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩

abbrev nD : Nat := 1
abbrev τ : Topo := Topo.v7x

variable {F : FTy → Type} [FloatOps F]
-- ==== Kernel3.lean ====
abbrev S2176x1024 : Shape := ⟨2, ![2176, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S11x2176x256 : Shape := ⟨3, ![11, 2176, 256]⟩
abbrev S256x1024 : Shape := ⟨2, ![256, 1024]⟩
abbrev S1x2176x256 : Shape := ⟨3, ![1, 2176, 256]⟩
abbrev S2x544x1024 : Shape := ⟨3, ![2, 544, 1024]⟩
abbrev S2 : Shape := ⟨1, ![2]⟩
abbrev S8 : Shape := ⟨1, ![8]⟩
abbrev S1 : Shape := ⟨1, ![1]⟩
abbrev S_ : Shape := ⟨0, ![]⟩
abbrev S1x544x1024 : Shape := ⟨3, ![1, 544, 1024]⟩
abbrev S544x1024 : Shape := ⟨2, ![544, 1024]⟩
abbrev S544 : Shape := ⟨1, ![544]⟩
abbrev S544x1 : Shape := ⟨2, ![544, 1]⟩
abbrev S544x256 : Shape := ⟨2, ![544, 256]⟩
abbrev S1x544x256 : Shape := ⟨3, ![1, 544, 256]⟩

abbrev nBuf : Space → Nat
  | .hbm => 21
  | .vmem => 17
  | .smem => 0
  | _ => 0

abbrev bufTy : (tb : Table) → Fin (tcTables nBuf tb) → BufTy
  | .hbm, ⟨0, _⟩ => ⟨S2176x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S2816x1024, .bf16⟩
  | .hbm, ⟨15, _⟩ => ⟨S1x1024, .f32⟩
  | .hbm, ⟨16, _⟩ => ⟨S1x1024, .f32⟩
  | .hbm, ⟨17, _⟩ => ⟨S11x2176x256, .bf16⟩
  | .hbm, ⟨18, _⟩ => ⟨S11x2176x256, .bf16⟩
  | .hbm, ⟨19, _⟩ => ⟨S2176x1024, .f32⟩
  | .hbm, ⟨20, _⟩ => ⟨S2176x1024, .bf16⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1x2176x256, .bf16⟩
  | .local _ .vmem, ⟨11, _⟩ => ⟨S1x2176x256, .bf16⟩
  | .local _ .vmem, ⟨12, _⟩ => ⟨S1x2176x256, .bf16⟩
  | .local _ .vmem, ⟨13, _⟩ => ⟨S1x2176x256, .bf16⟩
  | .local _ .vmem, ⟨14, _⟩ => ⟨S2176x1024, .f32⟩
  | .local _ .vmem, ⟨15, _⟩ => ⟨S2176x1024, .bf16⟩
  | .local _ .vmem, ⟨16, _⟩ => ⟨S2x544x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v3 : BitVec 1 := Scalar.cmpi .slt arg0 c10_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c10_i32_2 : BitVec 32 := 10#32
  let v6 : BitVec 1 := Scalar.cmpi .eq arg0 c10_i32_2
  let v7 : BitVec 32 := Scalar.extui v6
  let c0_i32_3 : BitVec 32 := 0#32
  let v8 : BitVec 1 := Scalar.cmpi .ne v7 c0_i32_3
  v8

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2176x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2176x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S2176x1024 : Shape := ⟨2, ![2176, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2176 : Shape := ⟨1, ![2176]⟩
abbrev S2176x1 : Shape := ⟨2, ![2176, 1]⟩
abbrev S1x1024 : Shape := ⟨2, ![1, 1024]⟩
abbrev S2176x2816 : Shape := ⟨2, ![2176, 2816]⟩
abbrev S2176x11x256 : Shape := ⟨3, ![2176, 11, 256]⟩
abbrev S11x2176x256 : Shape := ⟨3, ![11, 2176, 256]⟩

abbrev nBuf : Space → Nat
  | .hbm => 95
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S2176, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1024, .f32⟩
  | .hbm, ⟨15, _⟩ => ⟨S2176x1024, .f32⟩
  | .hbm, ⟨16, _⟩ => ⟨S2176x1024, .f32⟩
  | .hbm, ⟨17, _⟩ => ⟨S_, .f32⟩
  | .hbm, ⟨18, _⟩ => ⟨S2176, .f32⟩
  | .hbm, ⟨19, _⟩ => ⟨S2176x1, .f32⟩
  | .hbm, ⟨20, _⟩ => ⟨S_, .f32⟩
  | .hbm, ⟨21, _⟩ => ⟨S2176x1, .f32⟩
  | .hbm, ⟨22, _⟩ => ⟨S2176x1, .f32⟩
  | .hbm, ⟨23, _⟩ => ⟨S2176x1024, .f32⟩
  | .hbm, ⟨24, _⟩ => ⟨S2176x1024, .f32⟩
  | .hbm, ⟨25, _⟩ => ⟨S_, .f32⟩
  | .hbm, ⟨26, _⟩ => ⟨S2176x1, .f32⟩
  | .hbm, ⟨27, _⟩ => ⟨S2176x1, .f32⟩
  | .hbm, ⟨28, _⟩ => ⟨S2176x1, .f32⟩
  | .hbm, ⟨29, _⟩ => ⟨S2176x1024, .f32⟩
  | .hbm, ⟨30, _⟩ => ⟨S2176x1024, .f32⟩
  | .hbm, ⟨31, _⟩ => ⟨S1x1024, .f32⟩
  | .hbm, ⟨32, _⟩ => ⟨S2176x1024, .f32⟩
  | .hbm, ⟨33, _⟩ => ⟨S2176x1024, .f32⟩
  | .hbm, ⟨34, _⟩ => ⟨S1x1024, .f32⟩
  | .hbm, ⟨35, _⟩ => ⟨S2176x1024, .f32⟩
  | .hbm, ⟨36, _⟩ => ⟨S2176x1024, .f32⟩
  | .hbm, ⟨37, _⟩ => ⟨S_, .f32⟩
  | .hbm, ⟨38, _⟩ => ⟨S2176x1024, .f32⟩
  | .hbm, ⟨39, _⟩ => ⟨S2176x1024, .f32⟩
  | .hbm, ⟨40, _⟩ => ⟨S2176x2816, .f32⟩
  | .hbm, ⟨41, _⟩ => ⟨S2176x2816, .f32⟩
  | .hbm, ⟨42, _⟩ => ⟨S2176x2816, .f32⟩
  | .hbm, ⟨43, _⟩ => ⟨S_, .f32⟩
  | .hbm, ⟨44, _⟩ => ⟨S2176x2816, .f32⟩
  | .hbm, ⟨45, _⟩ => ⟨S2176x2816, .f32⟩
  | .hbm, ⟨46, _⟩ => ⟨S_, .f32⟩
  | .hbm, ⟨47, _⟩ => ⟨S2176x2816, .f32⟩
  | .hbm, ⟨48, _⟩ => ⟨S2176x2816, .f32⟩
  | .hbm, ⟨49, _⟩ => ⟨S2176x2816, .f32⟩
  | .hbm, ⟨50, _⟩ => ⟨S2176x2816, .f32⟩
  | .hbm, ⟨51, _⟩ => ⟨S2176x2816, .f32⟩
  | .hbm, ⟨52, _⟩ => ⟨S2176x1024, .f32⟩
  | .hbm, ⟨53, _⟩ => ⟨S_, .f32⟩
  | .hbm, ⟨54, _⟩ => ⟨S2176x1024, .f32⟩
  | .hbm, ⟨55, _⟩ => ⟨S2176x1024, .f32⟩
  | .hbm, ⟨56, _⟩ => ⟨S2176x1024, .f32⟩
  | .hbm, ⟨57, _⟩ => ⟨S2176x2816, .f32⟩
  | .hbm, ⟨58, _⟩ => ⟨S2176x11x256, .f32⟩
  | .hbm, ⟨59, _⟩ => ⟨S11x2176x256, .f32⟩
  | .hbm, ⟨60, _⟩ => ⟨S11x2176x256, .bf16⟩
  | .hbm, ⟨61, _⟩ => ⟨S2176x2816, .f32⟩
  | .hbm, ⟨62, _⟩ => ⟨S2176x11x256, .f32⟩
  | .hbm, ⟨63, _⟩ => ⟨S11x2176x256, .f32⟩
  | .hbm, ⟨64, _⟩ => ⟨S11x2176x256, .bf16⟩
  | .hbm, ⟨65, _⟩ => ⟨S_, .f32⟩
  | .hbm, ⟨66, _⟩ => ⟨S2176, .f32⟩
  | .hbm, ⟨67, _⟩ => ⟨S2176x1, .f32⟩
  | .hbm, ⟨68, _⟩ => ⟨S_, .f32⟩
  | .hbm, ⟨69, _⟩ => ⟨S2176x1, .f32⟩
  | .hbm, ⟨70, _⟩ => ⟨S2176x1, .f32⟩
  | .hbm, ⟨71, _⟩ => ⟨S2176x1024, .f32⟩
  | .hbm, ⟨72, _⟩ => ⟨S2176x1024, .f32⟩
  | .hbm, ⟨73, _⟩ => ⟨S2176x1024, .f32⟩
  | .hbm, ⟨74, _⟩ => ⟨S_, .f32⟩
  | .hbm, ⟨75, _⟩ => ⟨S2176, .f32⟩
  | .hbm, ⟨76, _⟩ => ⟨S2176x1, .f32⟩
  | .hbm, ⟨77, _⟩ => ⟨S_, .f32⟩
  | .hbm, ⟨78, _⟩ => ⟨S2176x1, .f32⟩
  | .hbm, ⟨79, _⟩ => ⟨S2176x1, .f32⟩
  | .hbm, ⟨80, _⟩ => ⟨S2176x1024, .f32⟩
  | .hbm, ⟨81, _⟩ => ⟨S2176x1024, .f32⟩
  | .hbm, ⟨82, _⟩ => ⟨S_, .f32⟩
  | .hbm, ⟨83, _⟩ => ⟨S2176x1, .f32⟩
  | .hbm, ⟨84, _⟩ => ⟨S2176x1, .f32⟩
  | .hbm, ⟨85, _⟩ => ⟨S2176x1, .f32⟩
  | .hbm, ⟨86, _⟩ => ⟨S2176x1024, .f32⟩
  | .hbm, ⟨87, _⟩ => ⟨S2176x1024, .f32⟩
  | .hbm, ⟨88, _⟩ => ⟨S1x1024, .f32⟩
  | .hbm, ⟨89, _⟩ => ⟨S2176x1024, .f32⟩
  | .hbm, ⟨90, _⟩ => ⟨S2176x1024, .f32⟩
  | .hbm, ⟨91, _⟩ => ⟨S1x1024, .f32⟩
  | .hbm, ⟨92, _⟩ => ⟨S2176x1024, .f32⟩
  | .hbm, ⟨93, _⟩ => ⟨S2176x1024, .f32⟩
  | .hbm, ⟨94, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩

abbrev nD : Nat := 1
abbrev τ : Topo := Topo.v7x

variable {F : FTy → Type} [FloatOps F]
-- ==== Kernel4.lean ====
abbrev S2176x1024 : Shape := ⟨2, ![2176, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S11x2176x256 : Shape := ⟨3, ![11, 2176, 256]⟩
abbrev S256x1024 : Shape := ⟨2, ![256, 1024]⟩
abbrev S1x2176x256 : Shape := ⟨3, ![1, 2176, 256]⟩
abbrev S2x544x1024 : Shape := ⟨3, ![2, 544, 1024]⟩
abbrev S2 : Shape := ⟨1, ![2]⟩
abbrev S8 : Shape := ⟨1, ![8]⟩
abbrev S1 : Shape := ⟨1, ![1]⟩
abbrev S_ : Shape := ⟨0, ![]⟩
abbrev S1x544x1024 : Shape := ⟨3, ![1, 544, 1024]⟩
abbrev S544x1024 : Shape := ⟨2, ![544, 1024]⟩
abbrev S544x256 : Shape := ⟨2, ![544, 256]⟩
abbrev S1x544x256 : Shape := ⟨3, ![1, 544, 256]⟩
abbrev S544 : Shape := ⟨1, ![544]⟩
abbrev S544x1 : Shape := ⟨2, ![544, 1]⟩

abbrev nBuf : Space → Nat
  | .hbm => 17
  | .vmem => 17
  | .smem => 0
  | _ => 0

abbrev bufTy : (tb : Table) → Fin (tcTables nBuf tb) → BufTy
  | .hbm, ⟨0, _⟩ => ⟨S2176x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S11x2176x256, .bf16⟩
  | .hbm, ⟨14, _⟩ => ⟨S11x2176x256, .bf16⟩
  | .hbm, ⟨15, _⟩ => ⟨S2176x1024, .f32⟩
  | .hbm, ⟨16, _⟩ => ⟨S2176x1024, .bf16⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1x2176x256, .bf16⟩
  | .local _ .vmem, ⟨11, _⟩ => ⟨S1x2176x256, .bf16⟩
  | .local _ .vmem, ⟨12, _⟩ => ⟨S1x2176x256, .bf16⟩
  | .local _ .vmem, ⟨13, _⟩ => ⟨S1x2176x256, .bf16⟩
  | .local _ .vmem, ⟨14, _⟩ => ⟨S2176x1024, .f32⟩
  | .local _ .vmem, ⟨15, _⟩ => ⟨S2176x1024, .bf16⟩
  | .local _ .vmem, ⟨16, _⟩ => ⟨S2x544x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v3 : BitVec 1 := Scalar.cmpi .slt arg0 c10_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c10_i32_2 : BitVec 32 := 10#32
  let v6 : BitVec 1 := Scalar.cmpi .eq arg0 c10_i32_2
  let v7 : BitVec 32 := Scalar.extui v6
  let c0_i32_3 : BitVec 32 := 0#32
  let v8 : BitVec 1 := Scalar.cmpi .ne v7 c0_i32_3
  v8

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2176x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2176x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S2176x1024 : Shape := ⟨2, ![2176, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S2176x2816 : Shape := ⟨2, ![2176, 2816]⟩
abbrev S2176x11x256 : Shape := ⟨3, ![2176, 11, 256]⟩
abbrev S11x2176x256 : Shape := ⟨3, ![11, 2176, 256]⟩
abbrev S2176 : Shape := ⟨1, ![2176]⟩
abbrev S2176x1 : Shape := ⟨2, ![2176, 1]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S2176x1024, .f32⟩
  | .hbm, ⟨8, _⟩ => ⟨S2176x1024, .f32⟩
  | .hbm, ⟨9, _⟩ => ⟨S2176x2816, .f32⟩
  | .hbm, ⟨10, _⟩ => ⟨S2176x2816, .f32⟩
  | .hbm, ⟨11, _⟩ => ⟨S2176x2816, .f32⟩
  | .hbm, ⟨12, _⟩ => ⟨S_, .f32⟩
  | .hbm, ⟨13, _⟩ => ⟨S2176x2816, .f32⟩
  | .hbm, ⟨14, _⟩ => ⟨S2176x2816, .f32⟩
  | .hbm, ⟨15, _⟩ => ⟨S_, .f32⟩
  | .hbm, ⟨16, _⟩ => ⟨S2176x2816, .f32⟩
  | .hbm, ⟨17, _⟩ => ⟨S2176x2816, .f32⟩
  | .hbm, ⟨18, _⟩ => ⟨S2176x2816, .f32⟩
  | .hbm, ⟨19, _⟩ => ⟨S2176x2816, .f32⟩
  | .hbm, ⟨20, _⟩ => ⟨S2176x2816, .f32⟩
  | .hbm, ⟨21, _⟩ => ⟨S2176x1024, .f32⟩
  | .hbm, ⟨22, _⟩ => ⟨S_, .f32⟩
  | .hbm, ⟨23, _⟩ => ⟨S2176x1024, .f32⟩
  | .hbm, ⟨24, _⟩ => ⟨S2176x1024, .f32⟩
  | .hbm, ⟨25, _⟩ => ⟨S2176x1024, .f32⟩
  | .hbm, ⟨26, _⟩ => ⟨S2176x2816, .f32⟩
  | .hbm, ⟨27, _⟩ => ⟨S2176x11x256, .f32⟩
  | .hbm, ⟨28, _⟩ => ⟨S11x2176x256, .f32⟩
  | .hbm, ⟨29, _⟩ => ⟨S11x2176x256, .bf16⟩
  | .hbm, ⟨30, _⟩ => ⟨S2176x2816, .f32⟩
  | .hbm, ⟨31, _⟩ => ⟨S2176x11x256, .f32⟩
  | .hbm, ⟨32, _⟩ => ⟨S11x2176x256, .f32⟩
  | .hbm, ⟨33, _⟩ => ⟨S11x2176x256, .bf16⟩
  | .hbm, ⟨34, _⟩ => ⟨S_, .f32⟩
  | .hbm, ⟨35, _⟩ => ⟨S2176, .f32⟩
  | .hbm, ⟨36, _⟩ => ⟨S2176x1, .f32⟩
  | .hbm, ⟨37, _⟩ => ⟨S_, .f32⟩
  | .hbm, ⟨38, _⟩ => ⟨S2176x1, .f32⟩
  | .hbm, ⟨39, _⟩ => ⟨S2176x1, .f32⟩
  | .hbm, ⟨40, _⟩ => ⟨S2176x1024, .f32⟩
  | .hbm, ⟨41, _⟩ => ⟨S2176x1024, .f32⟩
  | .hbm, ⟨42, _⟩ => ⟨S2176x1024, .f32⟩
  | .hbm, ⟨43, _⟩ => ⟨S_, .f32⟩
  | .hbm, ⟨44, _⟩ => ⟨S2176, .f32⟩
  | .hbm, ⟨45, _⟩ => ⟨S2176x1, .f32⟩
  | .hbm, ⟨46, _⟩ => ⟨S_, .f32⟩
  | .hbm, ⟨47, _⟩ => ⟨S2176x1, .f32⟩
  | .hbm, ⟨48, _⟩ => ⟨S2176x1, .f32⟩
  | .hbm, ⟨49, _⟩ => ⟨S2176x1024, .f32⟩
  | .hbm, ⟨50, _⟩ => ⟨S2176x1024, .f32⟩
  | .hbm, ⟨51, _⟩ => ⟨S_, .f32⟩
  | .hbm, ⟨52, _⟩ => ⟨S2176x1, .f32⟩
  | .hbm, ⟨53, _⟩ => ⟨S2176x1, .f32⟩
  | .hbm, ⟨54, _⟩ => ⟨S2176x1, .f32⟩
  | .hbm, ⟨55, _⟩ => ⟨S2176x1024, .f32⟩
  | .hbm, ⟨56, _⟩ => ⟨S2176x1024, .f32⟩
  | .hbm, ⟨57, _⟩ => ⟨S1x1024, .f32⟩
  | .hbm, ⟨58, _⟩ => ⟨S2176x1024, .f32⟩
  | .hbm, ⟨59, _⟩ => ⟨S2176x1024, .f32⟩
  | .hbm, ⟨60, _⟩ => ⟨S1x1024, .f32⟩
  | .hbm, ⟨61, _⟩ => ⟨S2176x1024, .f32⟩
  | .hbm, ⟨62, _⟩ => ⟨S2176x1024, .f32⟩
  | .hbm, ⟨63, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Kernel5.lean ====
abbrev S2x128x2476 : Shape := ⟨3, ![2, 128, 2476]⟩
abbrev S_ : Shape := ⟨0, ![]⟩
abbrev S1 : Shape := ⟨1, ![1]⟩
abbrev S1x256x2476 : Shape := ⟨3, ![1, 256, 2476]⟩
abbrev S1x128x2476 : Shape := ⟨3, ![1, 128, 2476]⟩
abbrev S128x2476 : Shape := ⟨2, ![128, 2476]⟩

abbrev nBuf : Space → Nat
  | .hbm => 12
  | .vmem => 14
  | .smem => 1
  | _ => 0

abbrev bufTy : (tb : Table) → Fin (tcTables nBuf tb) → BufTy
  | .hbm, ⟨0, _⟩ => ⟨S2x128x2476, .f32⟩
  | .hbm, ⟨1, _⟩ => ⟨S2x128x2476, .f32⟩
  | .hbm, ⟨2, _⟩ => ⟨S2x128x2476, .f32⟩
  | .hbm, ⟨3, _⟩ => ⟨S2x128x2476, .f32⟩
  | .hbm, ⟨4, _⟩ => ⟨S_, .i32⟩
  | .hbm, ⟨5, _⟩ => ⟨S1x256x2476, .f32⟩
  | .hbm, ⟨6, _⟩ => ⟨S1x256x2476, .f32⟩
  | .hbm, ⟨7, _⟩ => ⟨S1x256x2476, .f32⟩
  | .hbm, ⟨8, _⟩ => ⟨S1x256x2476, .f32⟩
  | .hbm, ⟨9, _⟩ => ⟨S1x256x2476, .f32⟩
  | .hbm, ⟨10, _⟩ => ⟨S1x256x2476, .f32⟩
  | .hbm, ⟨11, _⟩ => ⟨S1x256x2476, .f32⟩
  | .local _ .vmem, ⟨0, _⟩ => ⟨S1x128x2476, .f32⟩
  | .local _ .vmem, ⟨1, _⟩ => ⟨S1x128x2476, .f32⟩
  | .local _ .vmem, ⟨2, _⟩ => ⟨S1x128x2476, .f32⟩
  | .local _ .vmem, ⟨3, _⟩ => ⟨S1x128x2476, .f32⟩
  | .local _ .vmem, ⟨4, _⟩ => ⟨S1x128x2476, .f32⟩
  | .local _ .vmem, ⟨5, _⟩ => ⟨S1x128x2476, .f32⟩
  | .local _ .vmem, ⟨6, _⟩ => ⟨S1x128x2476, .f32⟩
  | .local _ .vmem, ⟨7, _⟩ => ⟨S1x128x2476, .f32⟩
  | .local _ .vmem, ⟨8, _⟩ => ⟨S1x128x2476, .f32⟩
  | .local _ .vmem, ⟨9, _⟩ => ⟨S1x128x2476, .f32⟩
  | .local _ .vmem, ⟨10, _⟩ => ⟨S1x128x2476, .f32⟩
  | .local _ .vmem, ⟨11, _⟩ => ⟨S1x128x2476, .f32⟩
  | .local _ .vmem, ⟨12, _⟩ => ⟨S1x128x2476, .f32⟩
  | .local _ .vmem, ⟨13, _⟩ => ⟨S1x128x2476, .f32⟩
  | .local _ .smem, ⟨0, _⟩ => ⟨S1, .i32⟩
  | _, _ => ⟨S2x128x2476, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2476 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2476 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2476 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2476 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2476 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2476 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2476 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S2x128x2476 : Shape := ⟨3, ![2, 128, 2476]⟩
abbrev S_ : Shape := ⟨0, ![]⟩
abbrev S1x256x2476 : Shape := ⟨3, ![1, 256, 2476]⟩

abbrev nBuf : Space → Nat
  | .hbm => 40
  | .vmem => 0
  | .smem => 0
  | _ => 0

abbrev bufTy : (tb : Table) → Fin (tcTables nBuf tb) → BufTy
  | .hbm, ⟨0, _⟩ => ⟨S2x128x2476, .f32⟩
  | .hbm, ⟨1, _⟩ => ⟨S2x128x2476, .f32⟩
  | .hbm, ⟨2, _⟩ => ⟨S2x128x2476, .f32⟩
  | .hbm, ⟨3, _⟩ => ⟨S2x128x2476, .f32⟩
  | .hbm, ⟨4, _⟩ => ⟨S_, .f32⟩
  | .hbm, ⟨5, _⟩ => ⟨S2x128x2476, .f32⟩
  | .hbm, ⟨6, _⟩ => ⟨S2x128x2476, .f32⟩
  | .hbm, ⟨7, _⟩ => ⟨S_, .f32⟩
  | .hbm, ⟨8, _⟩ => ⟨S2x128x2476, .f32⟩
  | .hbm, ⟨9, _⟩ => ⟨S2x128x2476, .f32⟩
  | .hbm, ⟨10, _⟩ => ⟨S2x128x2476, .f32⟩
  | .hbm, ⟨11, _⟩ => ⟨S_, .f32⟩
  | .hbm, ⟨12, _⟩ => ⟨S2x128x2476, .f32⟩
  | .hbm, ⟨13, _⟩ => ⟨S2x128x2476, .f32⟩
  | .hbm, ⟨14, _⟩ => ⟨S2x128x2476, .f32⟩
  | .hbm, ⟨15, _⟩ => ⟨S_, .f32⟩
  | .hbm, ⟨16, _⟩ => ⟨S2x128x2476, .f32⟩
  | .hbm, ⟨17, _⟩ => ⟨S2x128x2476, .f32⟩
  | .hbm, ⟨18, _⟩ => ⟨S2x128x2476, .f32⟩
  | .hbm, ⟨19, _⟩ => ⟨S_, .f32⟩
  | .hbm, ⟨20, _⟩ => ⟨S2x128x2476, .f32⟩
  | .hbm, ⟨21, _⟩ => ⟨S2x128x2476, .f32⟩
  | .hbm, ⟨22, _⟩ => ⟨S_, .f32⟩
  | .hbm, ⟨23, _⟩ => ⟨S2x128x2476, .f32⟩
  | .hbm, ⟨24, _⟩ => ⟨S2x128x2476, .f32⟩
  | .hbm, ⟨25, _⟩ => ⟨S2x128x2476, .f32⟩
  | .hbm, ⟨26, _⟩ => ⟨S_, .f32⟩
  | .hbm, ⟨27, _⟩ => ⟨S2x128x2476, .f32⟩
  | .hbm, ⟨28, _⟩ => ⟨S2x128x2476, .f32⟩
  | .hbm, ⟨29, _⟩ => ⟨S2x128x2476, .f32⟩
  | .hbm, ⟨30, _⟩ => ⟨S_, .f32⟩
  | .hbm, ⟨31, _⟩ => ⟨S2x128x2476, .f32⟩
  | .hbm, ⟨32, _⟩ => ⟨S2x128x2476, .f32⟩
  | .hbm, ⟨33, _⟩ => ⟨S2x128x2476, .f32⟩
  | .hbm, ⟨34, _⟩ => ⟨S_, .f32⟩
  | .hbm, ⟨35, _⟩ => ⟨S2x128x2476, .f32⟩
  | .hbm, ⟨36, _⟩ => ⟨S2x128x2476, .f32⟩
  | .hbm, ⟨37, _⟩ => ⟨S1x256x2476, .f32⟩
  | .hbm, ⟨38, _⟩ => ⟨S1x256x2476, .f32⟩
  | .hbm, ⟨39, _⟩ => ⟨S1x256x2476, .f32⟩
  | _, _ => ⟨S2x128x2476, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel6.lean ====
abbrev S16x128 : Shape := ⟨2, ![16, 128]⟩
abbrev S_ : Shape := ⟨0, ![]⟩
abbrev S1 : Shape := ⟨1, ![1]⟩
abbrev S1x16x128 : Shape := ⟨3, ![1, 16, 128]⟩

abbrev nBuf : Space → Nat
  | .hbm => 12
  | .vmem => 7
  | .smem => 1
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .i32⟩
  | .hbm, ⟨5, _⟩ => ⟨S1x16x128, .f32⟩
  | .hbm, ⟨6, _⟩ => ⟨S1x16x128, .f32⟩
  | .hbm, ⟨7, _⟩ => ⟨S1x16x128, .f32⟩
  | .hbm, ⟨8, _⟩ => ⟨S1x16x128, .f32⟩
  | .hbm, ⟨9, _⟩ => ⟨S1x16x128, .f32⟩
  | .hbm, ⟨10, _⟩ => ⟨S1x16x128, .f32⟩
  | .hbm, ⟨11, _⟩ => ⟨S1x16x128, .f32⟩
  | .local _ .vmem, ⟨0, _⟩ => ⟨S1x16x128, .f32⟩
  | .local _ .vmem, ⟨1, _⟩ => ⟨S1x16x128, .f32⟩
  | .local _ .vmem, ⟨2, _⟩ => ⟨S1x16x128, .f32⟩
  | .local _ .vmem, ⟨3, _⟩ => ⟨S1x16x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .smem, ⟨0, _⟩ => ⟨S1, .i32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference6Ideal.lean ====
abbrev S16x128 : Shape := ⟨2, ![16, 128]⟩
abbrev S_ : Shape := ⟨0, ![]⟩
abbrev S1x16x128 : Shape := ⟨3, ![1, 16, 128]⟩

abbrev nBuf : Space → Nat
  | .hbm => 40
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | .hbm, ⟨37, _⟩ => ⟨S1x16x128, .f32⟩
  | .hbm, ⟨38, _⟩ => ⟨S1x16x128, .f32⟩
  | .hbm, ⟨39, _⟩ => ⟨S1x16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel7.lean ====
abbrev S2x1024 : Shape := ⟨2, ![2, 1024]⟩
abbrev S2x768 : Shape := ⟨2, ![2, 768]⟩
abbrev S2x512 : Shape := ⟨2, ![2, 512]⟩
abbrev S2x256 : Shape := ⟨2, ![2, 256]⟩
abbrev S2x128 : Shape := ⟨2, ![2, 128]⟩
abbrev S2x8 : Shape := ⟨2, ![2, 8]⟩
abbrev S2x4 : Shape := ⟨2, ![2, 4]⟩
abbrev S2x7836 : Shape := ⟨2, ![2, 7836]⟩
abbrev S_ : Shape := ⟨0, ![]⟩
abbrev S2x8192 : Shape := ⟨2, ![2, 8192]⟩
abbrev S16x1024 : Shape := ⟨2, ![16, 1024]⟩
abbrev S1 : Shape := ⟨1, ![1]⟩
abbrev S1x16x1024 : Shape := ⟨3, ![1, 16, 1024]⟩

abbrev nBuf : Space → Nat
  | .hbm => 129
  | .vmem => 7
  | .smem => 1
  | _ => 0

abbrev hbmTy0_0 (i : Nat) : BufTy := match i % 128 with
  | 0 => ⟨S2x1024, .f32⟩
  | 1 => ⟨S2x1024, .f32⟩
  | 2 => ⟨S2x1024, .f32⟩
  | 3 => ⟨S2x1024, .f32⟩
  | 4 => ⟨S2x1024, .f32⟩
  | 5 => ⟨S2x1024, .f32⟩
  | 6 => ⟨S2x1024, .f32⟩
  | 7 => ⟨S2x1024, .f32⟩
  | 8 => ⟨S2x1024, .f32⟩
  | 9 => ⟨S2x1024, .f32⟩
  | 10 => ⟨S2x1024, .f32⟩
  | 11 => ⟨S2x1024, .f32⟩
  | 12 => ⟨S2x1024, .f32⟩
  | 13 => ⟨S2x1024, .f32⟩
  | 14 => ⟨S2x1024, .f32⟩
  | 15 => ⟨S2x1024, .f32⟩
  | 16 => ⟨S2x1024, .f32⟩
  | 17 => ⟨S2x1024, .f32⟩
  | 18 => ⟨S2x1024, .f32⟩
  | 19 => ⟨S2x1024, .f32⟩
  | 20 => ⟨S2x1024, .f32⟩
  | 21 => ⟨S2x1024, .f32⟩
  | 22 => ⟨S2x1024, .f32⟩
  | 23 => ⟨S2x1024, .f32⟩
  | 24 => ⟨S2x768, .f32⟩
  | 25 => ⟨S2x768, .f32⟩
  | 26 => ⟨S2x768, .f32⟩
  | 27 => ⟨S2x768, .f32⟩
  | 28 => ⟨S2x512, .f32⟩
  | 29 => ⟨S2x512, .f32⟩
  | 30 => ⟨S2x512, .f32⟩
  | 31 => ⟨S2x512, .f32⟩
  | 32 => ⟨S2x256, .f32⟩
  | 33 => ⟨S2x256, .f32⟩
  | 34 => ⟨S2x256, .f32⟩
  | 35 => ⟨S2x256, .f32⟩
  | 36 => ⟨S2x128, .f32⟩
  | 37 => ⟨S2x128, .f32⟩
  | 38 => ⟨S2x128, .f32⟩
  | 39 => ⟨S2x128, .f32⟩
  | 40 => ⟨S2x8, .f32⟩
  | 41 => ⟨S2x8, .f32⟩
  | 42 => ⟨S2x8, .f32⟩
  | 43 => ⟨S2x8, .f32⟩
  | 44 => ⟨S2x8, .f32⟩
  | 45 => ⟨S2x8, .f32⟩
  | 46 => ⟨S2x8, .f32⟩
  | 47 => ⟨S2x8, .f32⟩
  | 48 => ⟨S2x8, .f32⟩
  | 49 => ⟨S2x8, .f32⟩
  | 50 => ⟨S2x8, .f32⟩
  | 51 => ⟨S2x8, .f32⟩
  | 52 => ⟨S2x4, .f32⟩
  | 53 => ⟨S2x4, .f32⟩
  | 54 => ⟨S2x4, .f32⟩
  | 55 => ⟨S2x4, .f32⟩
  | 56 => ⟨S2x7836, .f32⟩
  | 57 => ⟨S_, .i32⟩
  | 58 => ⟨S_, .f32⟩
  | 59 => ⟨S2x8192, .f32⟩
  | 60 => ⟨S16x1024, .f32⟩
  | 61 => ⟨S2x7836, .f32⟩
  | 62 => ⟨S_, .i32⟩
  | 63 => ⟨S_, .f32⟩
  | 64 => ⟨S2x8192, .f32⟩
  | 65 => ⟨S16x1024, .f32⟩
  | 66 => ⟨S2x7836, .f32⟩
  | 67 => ⟨S_, .i32⟩
  | 68 => ⟨S_, .f32⟩
  | 69 => ⟨S2x8192, .f32⟩
  | 70 => ⟨S16x1024, .f32⟩
  | 71 => ⟨S2x7836, .f32⟩
  | 72 => ⟨S_, .i32⟩
  | 73 => ⟨S_, .f32⟩
  | 74 => ⟨S2x8192, .f32⟩
  | 75 => ⟨S16x1024, .f32⟩
  | 76 => ⟨S_, .i32⟩
  | 77 => ⟨S1x16x1024, .f32⟩
  | 78 => ⟨S1x16x1024, .f32⟩
  | 79 => ⟨S1x16x1024, .f32⟩
  | 80 => ⟨S1x16x1024, .f32⟩
  | 81 => ⟨S1x16x1024, .f32⟩
  | 82 => ⟨S1x16x1024, .f32⟩
  | 83 => ⟨S1x16x1024, .f32⟩
  | 84 => ⟨S2x8192, .f32⟩
  | 85 => ⟨S2x1024, .f32⟩
  | 86 => ⟨S2x1024, .f32⟩
  | 87 => ⟨S2x1024, .f32⟩
  | 88 => ⟨S2x1024, .f32⟩
  | 89 => ⟨S2x1024, .f32⟩
  | 90 => ⟨S2x1024, .f32⟩
  | 91 => ⟨S2x768, .f32⟩
  | 92 => ⟨S2x512, .f32⟩
  | 93 => ⟨S2x256, .f32⟩
  | 94 => ⟨S2x128, .f32⟩
  | 95 => ⟨S2x8, .f32⟩
  | 96 => ⟨S2x8, .f32⟩
  | 97 => ⟨S2x8, .f32⟩
  | 98 => ⟨S2x4, .f32⟩
  | 99 => ⟨S2x8192, .f32⟩
  | 100 => ⟨S2x1024, .f32⟩
  | 101 => ⟨S2x1024, .f32⟩
  | 102 => ⟨S2x1024, .f32⟩
  | 103 => ⟨S2x1024, .f32⟩
  | 104 => ⟨S2x1024, .f32⟩
  | 105 => ⟨S2x1024, .f32⟩
  | 106 => ⟨S2x768, .f32⟩
  | 107 => ⟨S2x512, .f32⟩
  | 108 => ⟨S2x256, .f32⟩
  | 109 => ⟨S2x128, .f32⟩
  | 110 => ⟨S2x8, .f32⟩
  | 111 => ⟨S2x8, .f32⟩
  | 112 => ⟨S2x8, .f32⟩
  | 113 => ⟨S2x4, .f32⟩
  | 114 => ⟨S2x8192, .f32⟩
  | 115 => ⟨S2x1024, .f32⟩
  | 116 => ⟨S2x1024, .f32⟩
  | 117 => ⟨S2x1024, .f32⟩
  | 118 => ⟨S2x1024, .f32⟩
  | 119 => ⟨S2x1024, .f32⟩
  | 120 => ⟨S2x1024, .f32⟩
  | 121 => ⟨S2x768, .f32⟩
  | 122 => ⟨S2x512, .f32⟩
  | 123 => ⟨S2x256, .f32⟩
  | 124 => ⟨S2x128, .f32⟩
  | 125 => ⟨S2x8, .f32⟩
  | 126 => ⟨S2x8, .f32⟩
  | 127 => ⟨S2x8, .f32⟩
  | _ => ⟨S2x1024, .f32⟩

abbrev hbmTy0_1 (i : Nat) : BufTy := match i % 128 with
  | 0 => ⟨S2x4, .f32⟩
  | _ => ⟨S2x1024, .f32⟩

abbrev hbmTy (i : Nat) : BufTy := match i / 128 with
  | 0 => hbmTy0_0 i
  | 1 => hbmTy0_1 i
  | _ => ⟨S2x1024, .f32⟩

abbrev bufTy : (tb : Table) → Fin (tcTables nBuf tb) → BufTy
  | .hbm, ⟨i, _⟩ => hbmTy i
  | .local _ .vmem, ⟨0, _⟩ => ⟨S1x16x1024, .f32⟩
  | .local _ .vmem, ⟨1, _⟩ => ⟨S1x16x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x16x1024, .f32⟩
  | .local _ .smem, ⟨0, _⟩ => ⟨S1, .i32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_v0 : Ref sig .tc := ⟨.hbm, 56, rfl⟩
abbrev main_c : Ref sig .tc := ⟨.hbm, 57, rfl⟩
abbrev main_call0_v0 : Ref sig .tc := ⟨.hbm, 58, rfl⟩
abbrev main_v1 : Ref sig .tc := ⟨.hbm, 59, rfl⟩
abbrev main_v2 : Ref sig .tc := ⟨.hbm, 60, rfl⟩
abbrev main_v3 : Ref sig .tc := ⟨.hbm, 61, rfl⟩
abbrev main_c_0 : Ref sig .tc := ⟨.hbm, 62, rfl⟩
abbrev main_call1_v0 : Ref sig .tc := ⟨.hbm, 63, rfl⟩
abbrev main_v4 : Ref sig .tc := ⟨.hbm, 64, rfl⟩
abbrev main_v5 : Ref sig .tc := ⟨.hbm, 65, rfl⟩
abbrev main_v6 : Ref sig .tc := ⟨.hbm, 66, rfl⟩
abbrev main_c_1 : Ref sig .tc := ⟨.hbm, 67, rfl⟩
abbrev main_call2_v0 : Ref sig .tc := ⟨.hbm, 68, rfl⟩
abbrev main_v7 : Ref sig .tc := ⟨.hbm, 69, rfl⟩
abbrev main_v8 : Ref sig .tc := ⟨.hbm, 70, rfl⟩
abbrev main_v9 : Ref sig .tc := ⟨.hbm, 71, rfl⟩
abbrev main_c_2 : Ref sig .tc := ⟨.hbm, 72, rfl⟩
abbrev main_call3_v0 : Ref sig .tc := ⟨.hbm, 73, rfl⟩
abbrev main_v10 : Ref sig .tc := ⟨.hbm, 74, rfl⟩
abbrev main_v11 : Ref sig .tc := ⟨.hbm, 75, rfl⟩
abbrev main_c_3 : Ref sig .tc := ⟨.hbm, 76, rfl⟩
abbrev main_v13 : Ref sig .tc := ⟨.hbm, 77, rfl⟩
abbrev main_v14 : Ref sig .tc := ⟨.hbm, 78, rfl⟩
abbrev main_v15 : Ref sig .tc := ⟨.hbm, 79, rfl⟩
abbrev main_v16 : Ref sig .tc := ⟨.hbm, 80, rfl⟩
abbrev main_v17_0 : Ref sig .tc := ⟨.hbm, 81, rfl⟩
abbrev main_v17_1 : Ref sig .tc := ⟨.hbm, 82, rfl⟩
abbrev main_v17_2 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v12 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v12.idx], fun | 0 => main_v12.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference7Ideal.lean ====
abbrev S2x1024 : Shape := ⟨2, ![2, 1024]⟩
abbrev S2x768 : Shape := ⟨2, ![2, 768]⟩
abbrev S2x512 : Shape := ⟨2, ![2, 512]⟩
abbrev S2x256 : Shape := ⟨2, ![2, 256]⟩
abbrev S2x128 : Shape := ⟨2, ![2, 128]⟩
abbrev S2x8 : Shape := ⟨2, ![2, 8]⟩
abbrev S2x4 : Shape := ⟨2, ![2, 4]⟩
abbrev S_ : Shape := ⟨0, ![]⟩

abbrev nBuf : Space → Nat
  | .hbm => 518
  | .vmem => 0
  | .smem => 0
  | _ => 0

abbrev hbmTy0_0 (i : Nat) : BufTy := match i % 128 with
  | 0 => ⟨S2x1024, .f32⟩
  | 1 => ⟨S2x1024, .f32⟩
  | 2 => ⟨S2x1024, .f32⟩
  | 3 => ⟨S2x1024, .f32⟩
  | 4 => ⟨S2x1024, .f32⟩
  | 5 => ⟨S2x1024, .f32⟩
  | 6 => ⟨S2x1024, .f32⟩
  | 7 => ⟨S2x1024, .f32⟩
  | 8 => ⟨S2x1024, .f32⟩
  | 9 => ⟨S2x1024, .f32⟩
  | 10 => ⟨S2x1024, .f32⟩
  | 11 => ⟨S2x1024, .f32⟩
  | 12 => ⟨S2x1024, .f32⟩
  | 13 => ⟨S2x1024, .f32⟩
  | 14 => ⟨S2x1024, .f32⟩
  | 15 => ⟨S2x1024, .f32⟩
  | 16 => ⟨S2x1024, .f32⟩
  | 17 => ⟨S2x1024, .f32⟩
  | 18 => ⟨S2x1024, .f32⟩
  | 19 => ⟨S2x1024, .f32⟩
  | 20 => ⟨S2x1024, .f32⟩
  | 21 => ⟨S2x1024, .f32⟩
  | 22 => ⟨S2x1024, .f32⟩
  | 23 => ⟨S2x1024, .f32⟩
  | 24 => ⟨S2x768, .f32⟩
  | 25 => ⟨S2x768, .f32⟩
  | 26 => ⟨S2x768, .f32⟩
  | 27 => ⟨S2x768, .f32⟩
  | 28 => ⟨S2x512, .f32⟩
  | 29 => ⟨S2x512, .f32⟩
  | 30 => ⟨S2x512, .f32⟩
  | 31 => ⟨S2x512, .f32⟩
  | 32 => ⟨S2x256, .f32⟩
  | 33 => ⟨S2x256, .f32⟩
  | 34 => ⟨S2x256, .f32⟩
  | 35 => ⟨S2x256, .f32⟩
  | 36 => ⟨S2x128, .f32⟩
  | 37 => ⟨S2x128, .f32⟩
  | 38 => ⟨S2x128, .f32⟩
  | 39 => ⟨S2x128, .f32⟩
  | 40 => ⟨S2x8, .f32⟩
  | 41 => ⟨S2x8, .f32⟩
  | 42 => ⟨S2x8, .f32⟩
  | 43 => ⟨S2x8, .f32⟩
  | 44 => ⟨S2x8, .f32⟩
  | 45 => ⟨S2x8, .f32⟩
  | 46 => ⟨S2x8, .f32⟩
  | 47 => ⟨S2x8, .f32⟩
  | 48 => ⟨S2x8, .f32⟩
  | 49 => ⟨S2x8, .f32⟩
  | 50 => ⟨S2x8, .f32⟩
  | 51 => ⟨S2x8, .f32⟩
  | 52 => ⟨S2x4, .f32⟩
  | 53 => ⟨S2x4, .f32⟩
  | 54 => ⟨S2x4, .f32⟩
  | 55 => ⟨S2x4, .f32⟩
  | 56 => ⟨S_, .f32⟩
  | 57 => ⟨S2x1024, .f32⟩
  | 58 => ⟨S2x1024, .f32⟩
  | 59 => ⟨S_, .f32⟩
  | 60 => ⟨S2x1024, .f32⟩
  | 61 => ⟨S2x1024, .f32⟩
  | 62 => ⟨S2x1024, .f32⟩
  | 63 => ⟨S_, .f32⟩
  | 64 => ⟨S2x1024, .f32⟩
  | 65 => ⟨S2x1024, .f32⟩
  | 66 => ⟨S2x1024, .f32⟩
  | 67 => ⟨S_, .f32⟩
  | 68 => ⟨S2x1024, .f32⟩
  | 69 => ⟨S2x1024, .f32⟩
  | 70 => ⟨S2x1024, .f32⟩
  | 71 => ⟨S_, .f32⟩
  | 72 => ⟨S2x1024, .f32⟩
  | 73 => ⟨S2x1024, .f32⟩
  | 74 => ⟨S_, .f32⟩
  | 75 => ⟨S2x1024, .f32⟩
  | 76 => ⟨S2x1024, .f32⟩
  | 77 => ⟨S2x1024, .f32⟩
  | 78 => ⟨S_, .f32⟩
  | 79 => ⟨S2x1024, .f32⟩
  | 80 => ⟨S2x1024, .f32⟩
  | 81 => ⟨S2x1024, .f32⟩
  | 82 => ⟨S_, .f32⟩
  | 83 => ⟨S2x1024, .f32⟩
  | 84 => ⟨S2x1024, .f32⟩
  | 85 => ⟨S2x1024, .f32⟩
  | 86 => ⟨S_, .f32⟩
  | 87 => ⟨S2x1024, .f32⟩
  | 88 => ⟨S2x1024, .f32⟩
  | 89 => ⟨S_, .f32⟩
  | 90 => ⟨S2x1024, .f32⟩
  | 91 => ⟨S2x1024, .f32⟩
  | 92 => ⟨S_, .f32⟩
  | 93 => ⟨S2x1024, .f32⟩
  | 94 => ⟨S2x1024, .f32⟩
  | 95 => ⟨S2x1024, .f32⟩
  | 96 => ⟨S_, .f32⟩
  | 97 => ⟨S2x1024, .f32⟩
  | 98 => ⟨S2x1024, .f32⟩
  | 99 => ⟨S2x1024, .f32⟩
  | 100 => ⟨S_, .f32⟩
  | 101 => ⟨S2x1024, .f32⟩
  | 102 => ⟨S2x1024, .f32⟩
  | 103 => ⟨S2x1024, .f32⟩
  | 104 => ⟨S_, .f32⟩
  | 105 => ⟨S2x1024, .f32⟩
  | 106 => ⟨S2x1024, .f32⟩
  | 107 => ⟨S_, .f32⟩
  | 108 => ⟨S2x1024, .f32⟩
  | 109 => ⟨S2x1024, .f32⟩
  | 110 => ⟨S2x1024, .f32⟩
  | 111 => ⟨S_, .f32⟩
  | 112 => ⟨S2x1024, .f32⟩
  | 113 => ⟨S2x1024, .f32⟩
  | 114 => ⟨S2x1024, .f32⟩
  | 115 => ⟨S_, .f32⟩
  | 116 => ⟨S2x1024, .f32⟩
  | 117 => ⟨S2x1024, .f32⟩
  | 118 => ⟨S2x1024, .f32⟩
  | 119 => ⟨S_, .f32⟩
  | 120 => ⟨S2x1024, .f32⟩
  | 121 => ⟨S2x1024, .f32⟩
  | 122 => ⟨S_, .f32⟩
  | 123 => ⟨S2x1024, .f32⟩
  | 124 => ⟨S2x1024, .f32⟩
  | 125 => ⟨S_, .f32⟩
  | 126 => ⟨S2x1024, .f32⟩
  | 127 => ⟨S2x1024, .f32⟩
  | _ => ⟨S2x1024, .f32⟩

abbrev hbmTy0_1 (i : Nat) : BufTy := match i % 128 with
  | 0 => ⟨S2x1024, .f32⟩
  | 1 => ⟨S_, .f32⟩
  | 2 => ⟨S2x1024, .f32⟩
  | 3 => ⟨S2x1024, .f32⟩
  | 4 => ⟨S2x1024, .f32⟩
  | 5 => ⟨S_, .f32⟩
  | 6 => ⟨S2x1024, .f32⟩
  | 7 => ⟨S2x1024, .f32⟩
  | 8 => ⟨S2x1024, .f32⟩
  | 9 => ⟨S_, .f32⟩
  | 10 => ⟨S2x1024, .f32⟩
  | 11 => ⟨S2x1024, .f32⟩
  | 12 => ⟨S_, .f32⟩
  | 13 => ⟨S2x1024, .f32⟩
  | 14 => ⟨S2x1024, .f32⟩
  | 15 => ⟨S2x1024, .f32⟩
  | 16 => ⟨S_, .f32⟩
  | 17 => ⟨S2x1024, .f32⟩
  | 18 => ⟨S2x1024, .f32⟩
  | 19 => ⟨S2x1024, .f32⟩
  | 20 => ⟨S_, .f32⟩
  | 21 => ⟨S2x1024, .f32⟩
  | 22 => ⟨S2x1024, .f32⟩
  | 23 => ⟨S2x1024, .f32⟩
  | 24 => ⟨S_, .f32⟩
  | 25 => ⟨S2x1024, .f32⟩
  | 26 => ⟨S2x1024, .f32⟩
  | 27 => ⟨S_, .f32⟩
  | 28 => ⟨S2x1024, .f32⟩
  | 29 => ⟨S2x1024, .f32⟩
  | 30 => ⟨S_, .f32⟩
  | 31 => ⟨S2x1024, .f32⟩
  | 32 => ⟨S2x1024, .f32⟩
  | 33 => ⟨S2x1024, .f32⟩
  | 34 => ⟨S_, .f32⟩
  | 35 => ⟨S2x1024, .f32⟩
  | 36 => ⟨S2x1024, .f32⟩
  | 37 => ⟨S2x1024, .f32⟩
  | 38 => ⟨S_, .f32⟩
  | 39 => ⟨S2x1024, .f32⟩
  | 40 => ⟨S2x1024, .f32⟩
  | 41 => ⟨S2x1024, .f32⟩
  | 42 => ⟨S_, .f32⟩
  | 43 => ⟨S2x1024, .f32⟩
  | 44 => ⟨S2x1024, .f32⟩
  | 45 => ⟨S_, .f32⟩
  | 46 => ⟨S2x1024, .f32⟩
  | 47 => ⟨S2x1024, .f32⟩
  | 48 => ⟨S2x1024, .f32⟩
  | 49 => ⟨S_, .f32⟩
  | 50 => ⟨S2x1024, .f32⟩
  | 51 => ⟨S2x1024, .f32⟩
  | 52 => ⟨S2x1024, .f32⟩
  | 53 => ⟨S_, .f32⟩
  | 54 => ⟨S2x1024, .f32⟩
  | 55 => ⟨S2x1024, .f32⟩
  | 56 => ⟨S2x1024, .f32⟩
  | 57 => ⟨S_, .f32⟩
  | 58 => ⟨S2x1024, .f32⟩
  | 59 => ⟨S2x1024, .f32⟩
  | 60 => ⟨S_, .f32⟩
  | 61 => ⟨S2x1024, .f32⟩
  | 62 => ⟨S2x1024, .f32⟩
  | 63 => ⟨S_, .f32⟩
  | 64 => ⟨S2x1024, .f32⟩
  | 65 => ⟨S2x1024, .f32⟩
  | 66 => ⟨S2x1024, .f32⟩
  | 67 => ⟨S_, .f32⟩
  | 68 => ⟨S2x1024, .f32⟩
  | 69 => ⟨S2x1024, .f32⟩
  | 70 => ⟨S2x1024, .f32⟩
  | 71 => ⟨S_, .f32⟩
  | 72 => ⟨S2x1024, .f32⟩
  | 73 => ⟨S2x1024, .f32⟩
  | 74 => ⟨S2x1024, .f32⟩
  | 75 => ⟨S_, .f32⟩
  | 76 => ⟨S2x1024, .f32⟩
  | 77 => ⟨S2x1024, .f32⟩
  | 78 => ⟨S_, .f32⟩
  | 79 => ⟨S2x1024, .f32⟩
  | 80 => ⟨S2x1024, .f32⟩
  | 81 => ⟨S2x1024, .f32⟩
  | 82 => ⟨S_, .f32⟩
  | 83 => ⟨S2x1024, .f32⟩
  | 84 => ⟨S2x1024, .f32⟩
  | 85 => ⟨S2x1024, .f32⟩
  | 86 => ⟨S_, .f32⟩
  | 87 => ⟨S2x1024, .f32⟩
  | 88 => ⟨S2x1024, .f32⟩
  | 89 => ⟨S2x1024, .f32⟩
  | 90 => ⟨S_, .f32⟩
  | 91 => ⟨S2x1024, .f32⟩
  | 92 => ⟨S2x1024, .f32⟩
  | 93 => ⟨S_, .f32⟩
  | 94 => ⟨S2x1024, .f32⟩
  | 95 => ⟨S2x1024, .f32⟩
  | 96 => ⟨S_, .f32⟩
  | 97 => ⟨S2x1024, .f32⟩
  | 98 => ⟨S2x1024, .f32⟩
  | 99 => ⟨S2x1024, .f32⟩
  | 100 => ⟨S_, .f32⟩
  | 101 => ⟨S2x1024, .f32⟩
  | 102 => ⟨S2x1024, .f32⟩
  | 103 => ⟨S2x1024, .f32⟩
  | 104 => ⟨S_, .f32⟩
  | 105 => ⟨S2x1024, .f32⟩
  | 106 => ⟨S2x1024, .f32⟩
  | 107 => ⟨S2x1024, .f32⟩
  | 108 => ⟨S_, .f32⟩
  | 109 => ⟨S2x1024, .f32⟩
  | 110 => ⟨S2x1024, .f32⟩
  | 111 => ⟨S_, .f32⟩
  | 112 => ⟨S2x1024, .f32⟩
  | 113 => ⟨S2x1024, .f32⟩
  | 114 => ⟨S2x1024, .f32⟩
  | 115 => ⟨S_, .f32⟩
  | 116 => ⟨S2x1024, .f32⟩
  | 117 => ⟨S2x1024, .f32⟩
  | 118 => ⟨S2x1024, .f32⟩
  | 119 => ⟨S_, .f32⟩
  | 120 => ⟨S2x1024, .f32⟩
  | 121 => ⟨S2x1024, .f32⟩
  | 122 => ⟨S2x1024, .f32⟩
  | 123 => ⟨S_, .f32⟩
  | 124 => ⟨S2x1024, .f32⟩
  | 125 => ⟨S2x1024, .f32⟩
  | 126 => ⟨S_, .f32⟩
  | 127 => ⟨S2x768, .f32⟩
  | _ => ⟨S2x1024, .f32⟩

abbrev hbmTy0_2 (i : Nat) : BufTy := match i % 128 with
  | 0 => ⟨S2x768, .f32⟩
  | 1 => ⟨S_, .f32⟩
  | 2 => ⟨S2x768, .f32⟩
  | 3 => ⟨S2x768, .f32⟩
  | 4 => ⟨S2x768, .f32⟩
  | 5 => ⟨S_, .f32⟩
  | 6 => ⟨S2x768, .f32⟩
  | 7 => ⟨S2x768, .f32⟩
  | 8 => ⟨S2x768, .f32⟩
  | 9 => ⟨S_, .f32⟩
  | 10 => ⟨S2x768, .f32⟩
  | 11 => ⟨S2x768, .f32⟩
  | 12 => ⟨S2x768, .f32⟩
  | 13 => ⟨S_, .f32⟩
  | 14 => ⟨S2x768, .f32⟩
  | 15 => ⟨S2x768, .f32⟩
  | 16 => ⟨S_, .f32⟩
  | 17 => ⟨S2x768, .f32⟩
  | 18 => ⟨S2x768, .f32⟩
  | 19 => ⟨S2x768, .f32⟩
  | 20 => ⟨S_, .f32⟩
  | 21 => ⟨S2x768, .f32⟩
  | 22 => ⟨S2x768, .f32⟩
  | 23 => ⟨S2x768, .f32⟩
  | 24 => ⟨S_, .f32⟩
  | 25 => ⟨S2x768, .f32⟩
  | 26 => ⟨S2x768, .f32⟩
  | 27 => ⟨S2x768, .f32⟩
  | 28 => ⟨S_, .f32⟩
  | 29 => ⟨S2x768, .f32⟩
  | 30 => ⟨S2x768, .f32⟩
  | 31 => ⟨S_, .f32⟩
  | 32 => ⟨S2x512, .f32⟩
  | 33 => ⟨S2x512, .f32⟩
  | 34 => ⟨S_, .f32⟩
  | 35 => ⟨S2x512, .f32⟩
  | 36 => ⟨S2x512, .f32⟩
  | 37 => ⟨S2x512, .f32⟩
  | 38 => ⟨S_, .f32⟩
  | 39 => ⟨S2x512, .f32⟩
  | 40 => ⟨S2x512, .f32⟩
  | 41 => ⟨S2x512, .f32⟩
  | 42 => ⟨S_, .f32⟩
  | 43 => ⟨S2x512, .f32⟩
  | 44 => ⟨S2x512, .f32⟩
  | 45 => ⟨S2x512, .f32⟩
  | 46 => ⟨S_, .f32⟩
  | 47 => ⟨S2x512, .f32⟩
  | 48 => ⟨S2x512, .f32⟩
  | 49 => ⟨S_, .f32⟩
  | 50 => ⟨S2x512, .f32⟩
  | 51 => ⟨S2x512, .f32⟩
  | 52 => ⟨S2x512, .f32⟩
  | 53 => ⟨S_, .f32⟩
  | 54 => ⟨S2x512, .f32⟩
  | 55 => ⟨S2x512, .f32⟩
  | 56 => ⟨S2x512, .f32⟩
  | 57 => ⟨S_, .f32⟩
  | 58 => ⟨S2x512, .f32⟩
  | 59 => ⟨S2x512, .f32⟩
  | 60 => ⟨S2x512, .f32⟩
  | 61 => ⟨S_, .f32⟩
  | 62 => ⟨S2x512, .f32⟩
  | 63 => ⟨S2x512, .f32⟩
  | 64 => ⟨S_, .f32⟩
  | 65 => ⟨S2x256, .f32⟩
  | 66 => ⟨S2x256, .f32⟩
  | 67 => ⟨S_, .f32⟩
  | 68 => ⟨S2x256, .f32⟩
  | 69 => ⟨S2x256, .f32⟩
  | 70 => ⟨S2x256, .f32⟩
  | 71 => ⟨S_, .f32⟩
  | 72 => ⟨S2x256, .f32⟩
  | 73 => ⟨S2x256, .f32⟩
  | 74 => ⟨S2x256, .f32⟩
  | 75 => ⟨S_, .f32⟩
  | 76 => ⟨S2x256, .f32⟩
  | 77 => ⟨S2x256, .f32⟩
  | 78 => ⟨S2x256, .f32⟩
  | 79 => ⟨S_, .f32⟩
  | 80 => ⟨S2x256, .f32⟩
  | 81 => ⟨S2x256, .f32⟩
  | 82 => ⟨S_, .f32⟩
  | 83 => ⟨S2x256, .f32⟩
  | 84 => ⟨S2x256, .f32⟩
  | 85 => ⟨S2x256, .f32⟩
  | 86 => ⟨S_, .f32⟩
  | 87 => ⟨S2x256, .f32⟩
  | 88 => ⟨S2x256, .f32⟩
  | 89 => ⟨S2x256, .f32⟩
  | 90 => ⟨S_, .f32⟩
  | 91 => ⟨S2x256, .f32⟩
  | 92 => ⟨S2x256, .f32⟩
  | 93 => ⟨S2x256, .f32⟩
  | 94 => ⟨S_, .f32⟩
  | 95 => ⟨S2x256, .f32⟩
  | 96 => ⟨S2x256, .f32⟩
  | 97 => ⟨S_, .f32⟩
  | 98 => ⟨S2x128, .f32⟩
  | 99 => ⟨S2x128, .f32⟩
  | 100 => ⟨S_, .f32⟩
  | 101 => ⟨S2x128, .f32⟩
  | 102 => ⟨S2x128, .f32⟩
  | 103 => ⟨S2x128, .f32⟩
  | 104 => ⟨S_, .f32⟩
  | 105 => ⟨S2x128, .f32⟩
  | 106 => ⟨S2x128, .f32⟩
  | 107 => ⟨S2x128, .f32⟩
  | 108 => ⟨S_, .f32⟩
  | 109 => ⟨S2x128, .f32⟩
  | 110 => ⟨S2x128, .f32⟩
  | 111 => ⟨S2x128, .f32⟩
  | 112 => ⟨S_, .f32⟩
  | 113 => ⟨S2x128, .f32⟩
  | 114 => ⟨S2x128, .f32⟩
  | 115 => ⟨S_, .f32⟩
  | 116 => ⟨S2x128, .f32⟩
  | 117 => ⟨S2x128, .f32⟩
  | 118 => ⟨S2x128, .f32⟩
  | 119 => ⟨S_, .f32⟩
  | 120 => ⟨S2x128, .f32⟩
  | 121 => ⟨S2x128, .f32⟩
  | 122 => ⟨S2x128, .f32⟩
  | 123 => ⟨S_, .f32⟩
  | 124 => ⟨S2x128, .f32⟩
  | 125 => ⟨S2x128, .f32⟩
  | 126 => ⟨S2x128, .f32⟩
  | 127 => ⟨S_, .f32⟩
  | _ => ⟨S2x1024, .f32⟩

abbrev hbmTy0_3 (i : Nat) : BufTy := match i % 128 with
  | 0 => ⟨S2x128, .f32⟩
  | 1 => ⟨S2x128, .f32⟩
  | 2 => ⟨S_, .f32⟩
  | 3 => ⟨S2x8, .f32⟩
  | 4 => ⟨S2x8, .f32⟩
  | 5 => ⟨S_, .f32⟩
  | 6 => ⟨S2x8, .f32⟩
  | 7 => ⟨S2x8, .f32⟩
  | 8 => ⟨S2x8, .f32⟩
  | 9 => ⟨S_, .f32⟩
  | 10 => ⟨S2x8, .f32⟩
  | 11 => ⟨S2x8, .f32⟩
  | 12 => ⟨S2x8, .f32⟩
  | 13 => ⟨S_, .f32⟩
  | 14 => ⟨S2x8, .f32⟩
  | 15 => ⟨S2x8, .f32⟩
  | 16 => ⟨S2x8, .f32⟩
  | 17 => ⟨S_, .f32⟩
  | 18 => ⟨S2x8, .f32⟩
  | 19 => ⟨S2x8, .f32⟩
  | 20 => ⟨S_, .f32⟩
  | 21 => ⟨S2x8, .f32⟩
  | 22 => ⟨S2x8, .f32⟩
  | 23 => ⟨S2x8, .f32⟩
  | 24 => ⟨S_, .f32⟩
  | 25 => ⟨S2x8, .f32⟩
  | 26 => ⟨S2x8, .f32⟩
  | 27 => ⟨S2x8, .f32⟩
  | 28 => ⟨S_, .f32⟩
  | 29 => ⟨S2x8, .f32⟩
  | 30 => ⟨S2x8, .f32⟩
  | 31 => ⟨S2x8, .f32⟩
  | 32 => ⟨S_, .f32⟩
  | 33 => ⟨S2x8, .f32⟩
  | 34 => ⟨S2x8, .f32⟩
  | 35 => ⟨S_, .f32⟩
  | 36 => ⟨S2x8, .f32⟩
  | 37 => ⟨S2x8, .f32⟩
  | 38 => ⟨S_, .f32⟩
  | 39 => ⟨S2x8, .f32⟩
  | 40 => ⟨S2x8, .f32⟩
  | 41 => ⟨S2x8, .f32⟩
  | 42 => ⟨S_, .f32⟩
  | 43 => ⟨S2x8, .f32⟩
  | 44 => ⟨S2x8, .f32⟩
  | 45 => ⟨S2x8, .f32⟩
  | 46 => ⟨S_, .f32⟩
  | 47 => ⟨S2x8, .f32⟩
  | 48 => ⟨S2x8, .f32⟩
  | 49 => ⟨S2x8, .f32⟩
  | 50 => ⟨S_, .f32⟩
  | 51 => ⟨S2x8, .f32⟩
  | 52 => ⟨S2x8, .f32⟩
  | 53 => ⟨S_, .f32⟩
  | 54 => ⟨S2x8, .f32⟩
  | 55 => ⟨S2x8, .f32⟩
  | 56 => ⟨S2x8, .f32⟩
  | 57 => ⟨S_, .f32⟩
  | 58 => ⟨S2x8, .f32⟩
  | 59 => ⟨S2x8, .f32⟩
  | 60 => ⟨S2x8, .f32⟩
  | 61 => ⟨S_, .f32⟩
  | 62 => ⟨S2x8, .f32⟩
  | 63 => ⟨S2x8, .f32⟩
  | 64 => ⟨S2x8, .f32⟩
  | 65 => ⟨S_, .f32⟩
  | 66 => ⟨S2x8, .f32⟩
  | 67 => ⟨S2x8, .f32⟩
  | 68 => ⟨S_, .f32⟩
  | 69 => ⟨S2x8, .f32⟩
  | 70 => ⟨S2x8, .f32⟩
  | 71 => ⟨S_, .f32⟩
  | 72 => ⟨S2x8, .f32⟩
  | 73 => ⟨S2x8, .f32⟩
  | 74 => ⟨S2x8, .f32⟩
  | 75 => ⟨S_, .f32⟩
  | 76 => ⟨S2x8, .f32⟩
  | 77 => ⟨S2x8, .f32⟩
  | 78 => ⟨S2x8, .f32⟩
  | 79 => ⟨S_, .f32⟩
  | 80 => ⟨S2x8, .f32⟩
  | 81 => ⟨S2x8, .f32⟩
  | 82 => ⟨S2x8, .f32⟩
  | 83 => ⟨S_, .f32⟩
  | 84 => ⟨S2x8, .f32⟩
  | 85 => ⟨S2x8, .f32⟩
  | 86 => ⟨S_, .f32⟩
  | 87 => ⟨S2x8, .f32⟩
  | 88 => ⟨S2x8, .f32⟩
  | 89 => ⟨S2x8, .f32⟩
  | 90 => ⟨S_, .f32⟩
  | 91 => ⟨S2x8, .f32⟩
  | 92 => ⟨S2x8, .f32⟩
  | 93 => ⟨S2x8, .f32⟩
  | 94 => ⟨S_, .f32⟩
  | 95 => ⟨S2x8, .f32⟩
  | 96 => ⟨S2x8, .f32⟩
  | 97 => ⟨S2x8, .f32⟩
  | 98 => ⟨S_, .f32⟩
  | 99 => ⟨S2x8, .f32⟩
  | 100 => ⟨S2x8, .f32⟩
  | 101 => ⟨S_, .f32⟩
  | 102 => ⟨S2x4, .f32⟩
  | 103 => ⟨S2x4, .f32⟩
  | 104 => ⟨S_, .f32⟩
  | 105 => ⟨S2x4, .f32⟩
  | 106 => ⟨S2x4, .f32⟩
  | 107 => ⟨S2x4, .f32⟩
  | 108 => ⟨S_, .f32⟩
  | 109 => ⟨S2x4, .f32⟩
  | 110 => ⟨S2x4, .f32⟩
  | 111 => ⟨S2x4, .f32⟩
  | 112 => ⟨S_, .f32⟩
  | 113 => ⟨S2x4, .f32⟩
  | 114 => ⟨S2x4, .f32⟩
  | 115 => ⟨S2x4, .f32⟩
  | 116 => ⟨S_, .f32⟩
  | 117 => ⟨S2x4, .f32⟩
  | 118 => ⟨S2x4, .f32⟩
  | 119 => ⟨S_, .f32⟩
  | 120 => ⟨S2x4, .f32⟩
  | 121 => ⟨S2x4, .f32⟩
  | 122 => ⟨S2x4, .f32⟩
  | 123 => ⟨S_, .f32⟩
  | 124 => ⟨S2x4, .f32⟩
  | 125 => ⟨S2x4, .f32⟩
  | 126 => ⟨S2x4, .f32⟩
  | 127 => ⟨S_, .f32⟩
  | _ => ⟨S2x1024, .f32⟩

abbrev hbmTy0_4 (i : Nat) : BufTy := match i % 128 with
  | 0 => ⟨S2x4, .f32⟩
  | 1 => ⟨S2x4, .f32⟩
  | 2 => ⟨S2x4, .f32⟩
  | 3 => ⟨S_, .f32⟩
  | 4 => ⟨S2x4, .f32⟩
  | 5 => ⟨S2x4, .f32⟩
  | _ => ⟨S2x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_cst : Ref sig .tc := ⟨.hbm, 56, rfl⟩
abbrev main_v0 : Ref sig .tc := ⟨.hbm, 57, rfl⟩
abbrev main_v1 : Ref sig .tc := ⟨.hbm, 58, rfl⟩
abbrev main_cst_0 : Ref sig .tc := ⟨.hbm, 59, rfl⟩
abbrev main_v2 : Ref sig .tc := ⟨.hbm, 60, rfl⟩
abbrev main_v3 : Ref sig .tc := ⟨.hbm, 61, rfl⟩
abbrev main_v4 : Ref sig .tc := ⟨.hbm, 62, rfl⟩
abbrev main_cst_1 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_cst_2 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_cst_3 : Ref sig .tc := ⟨.hbm, 71, rfl⟩
abbrev main_v11 : Ref sig .tc := ⟨.hbm, 72, rfl⟩
abbrev main_v12 : Ref sig .tc := ⟨.hbm, 73, rfl⟩
abbrev main_cst_4 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_cst_5 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_cst_6 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_cst_7 : Ref sig .tc := ⟨.hbm, 86, rfl⟩
abbrev main_v22 : Ref sig .tc := ⟨.hbm, 87, rfl⟩
abbrev main_v23 : Ref sig .tc := ⟨.hbm, 88, rfl⟩
abbrev main_cst_8 : Ref sig .tc := ⟨.hbm, 89, rfl⟩
abbrev main_v24 : Ref sig .tc := ⟨.hbm, 90, rfl⟩
abbrev main_v25 : Ref sig .tc := ⟨.hbm, 91, rfl⟩
abbrev main_cst_9 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_cst_10 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_cst_11 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_cst_12 : Ref sig .tc := ⟨.hbm, 104, rfl⟩
abbrev main_v35 : Ref sig .tc := ⟨.hbm, 105, rfl⟩
abbrev main_v36 : Ref sig .tc := ⟨.hbm, 106, rfl⟩
abbrev main_cst_13 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_cst_14 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_cst_15 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_cst_16 : Ref sig .tc := ⟨.hbm, 119, rfl⟩
abbrev main_v46 : Ref sig .tc := ⟨.hbm, 120, rfl⟩
abbrev main_v47 : Ref sig .tc := ⟨.hbm, 121, rfl⟩
abbrev main_cst_17 : Ref sig .tc := ⟨.hbm, 122, rfl⟩
abbrev main_v48 : Ref sig .tc := ⟨.hbm, 123, rfl⟩
abbrev main_v49 : Ref sig .tc := ⟨.hbm, 124, rfl⟩
abbrev main_cst_18 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_cst_19 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_cst_20 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_cst_21 : Ref sig .tc := ⟨.hbm, 137, rfl⟩
abbrev main_v59 : Ref sig .tc := ⟨.hbm, 138, rfl⟩
abbrev main_v60 : Ref sig .tc := ⟨.hbm, 139, rfl⟩
abbrev main_cst_22 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_cst_23 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_cst_24 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_cst_25 : Ref sig .tc := ⟨.hbm, 152, rfl⟩
abbrev main_v70 : Ref sig .tc := ⟨.hbm, 153, rfl⟩
abbrev main_v71 : Ref sig .tc := ⟨.hbm, 154, rfl⟩
abbrev main_cst_26 : Ref sig .tc := ⟨.hbm, 155, rfl⟩
abbrev main_v72 : Ref sig .tc := ⟨.hbm, 156, rfl⟩
abbrev main_v73 : Ref sig .tc := ⟨.hbm, 157, rfl⟩
abbrev main_cst_27 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_cst_28 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_cst_29 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_cst_30 : Ref sig .tc := ⟨.hbm, 170, rfl⟩
abbrev main_v83 : Ref sig .tc := ⟨.hbm, 171, rfl⟩
abbrev main_v84 : Ref sig .tc := ⟨.hbm, 172, rfl⟩
abbrev main_cst_31 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_cst_32 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_cst_33 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_cst_34 : Ref sig .tc := ⟨.hbm, 185, rfl⟩
abbrev main_v94 : Ref sig .tc := ⟨.hbm, 186, rfl⟩
abbrev main_v95 : Ref sig .tc := ⟨.hbm, 187, rfl⟩
abbrev main_cst_35 : Ref sig .tc := ⟨.hbm, 188, rfl⟩
abbrev main_v96 : Ref sig .tc := ⟨.hbm, 189, rfl⟩
abbrev main_v97 : Ref sig .tc := ⟨.hbm, 190, rfl⟩
abbrev main_cst_36 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_cst_37 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_cst_38 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_cst_39 : Ref sig .tc := ⟨.hbm, 203, rfl⟩
abbrev main_v107 : Ref sig .tc := ⟨.hbm, 204, rfl⟩
abbrev main_v108 : Ref sig .tc := ⟨.hbm, 205, rfl⟩
abbrev main_cst_40 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_cst_41 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_cst_42 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_cst_43 : Ref sig .tc := ⟨.hbm, 218, rfl⟩
abbrev main_v118 : Ref sig .tc := ⟨.hbm, 219, rfl⟩
abbrev main_v119 : Ref sig .tc := ⟨.hbm, 220, rfl⟩
abbrev main_cst_44 : Ref sig .tc := ⟨.hbm, 221, rfl⟩
abbrev main_v120 : Ref sig .tc := ⟨.hbm, 222, rfl⟩
abbrev main_v121 : Ref sig .tc := ⟨.hbm, 223, rfl⟩
abbrev main_cst_45 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_cst_46 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_cst_47 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_cst_48 : Ref sig .tc := ⟨.hbm, 236, rfl⟩
abbrev main_v131 : Ref sig .tc := ⟨.hbm, 237, rfl⟩
abbrev main_v132 : Ref sig .tc := ⟨.hbm, 238, rfl⟩
abbrev main_cst_49 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_cst_50 : Ref sig .tc := ⟨.hbm, 243, rfl⟩
abbrev main_v136 : Ref sig .tc := ⟨.hbm, 244, rfl⟩
abbrev main_v137 : Ref sig .tc := ⟨.hbm, 245, rfl⟩
abbrev main_v138 : Ref sig .tc := ⟨.hbm, 246, rfl⟩
abbrev main_cst_51 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_cst_52 : Ref sig .tc := ⟨.hbm, 251, rfl⟩
abbrev main_v142 : Ref sig .tc := ⟨.hbm, 252, rfl⟩
abbrev main_v143 : Ref sig .tc := ⟨.hbm, 253, rfl⟩
abbrev main_cst_53 : Ref sig .tc := ⟨.hbm, 254, rfl⟩
abbrev main_v144 : Ref sig .tc := ⟨.hbm, 255, rfl⟩
abbrev main_v145 : Ref sig .tc := ⟨.hbm, 256, rfl⟩
abbrev main_cst_54 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩
abbrev main_cst_55 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_cst_56 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_cst_57 : Ref sig .tc := ⟨.hbm, 269, rfl⟩
abbrev main_v155 : Ref sig .tc := ⟨.hbm, 270, rfl⟩
abbrev main_v156 : Ref sig .tc := ⟨.hbm, 271, rfl⟩
abbrev main_cst_58 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_cst_59 : Ref sig .tc := ⟨.hbm, 276, rfl⟩
abbrev main_v160 : Ref sig .tc := ⟨.hbm, 277, rfl⟩
abbrev main_v161 : Ref sig .tc := ⟨.hbm, 278, rfl⟩
abbrev main_v162 : Ref sig .tc := ⟨.hbm, 279, rfl⟩
abbrev main_cst_60 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_cst_61 : Ref sig .tc := ⟨.hbm, 284, rfl⟩
abbrev main_v166 : Ref sig .tc := ⟨.hbm, 285, rfl⟩
abbrev main_v167 : Ref sig .tc := ⟨.hbm, 286, rfl⟩
abbrev main_cst_62 : Ref sig .tc := ⟨.hbm, 287, rfl⟩
abbrev main_v168 : Ref sig .tc := ⟨.hbm, 288, rfl⟩
abbrev main_v169 : Ref sig .tc := ⟨.hbm, 289, rfl⟩
abbrev main_cst_63 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_cst_64 : Ref sig .tc := ⟨.hbm, 294, rfl⟩
abbrev main_v173 : Ref sig .tc := ⟨.hbm, 295, rfl⟩
abbrev main_v174 : Ref sig .tc := ⟨.hbm, 296, rfl⟩
abbrev main_v175 : Ref sig .tc := ⟨.hbm, 297, rfl⟩
abbrev main_cst_65 : Ref sig .tc := ⟨.hbm, 298, rfl⟩
abbrev main_v176 : Ref sig .tc := ⟨.hbm, 299, rfl⟩
abbrev main_v177 : Ref sig .tc := ⟨.hbm, 300, rfl⟩
abbrev main_v178 : Ref sig .tc := ⟨.hbm, 301, rfl⟩
abbrev main_cst_66 : Ref sig .tc := ⟨.hbm, 302, rfl⟩
abbrev main_v179 : Ref sig .tc := ⟨.hbm, 303, rfl⟩
abbrev main_v180 : Ref sig .tc := ⟨.hbm, 304, rfl⟩
abbrev main_cst_67 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_cst_68 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_cst_69 : Ref sig .tc := ⟨.hbm, 313, rfl⟩
abbrev main_v187 : Ref sig .tc := ⟨.hbm, 314, rfl⟩
abbrev main_v188 : Ref sig .tc := ⟨.hbm, 315, rfl⟩
abbrev main_v189 : Ref sig .tc := ⟨.hbm, 316, rfl⟩
abbrev main_cst_70 : Ref sig .tc := ⟨.hbm, 317, rfl⟩
abbrev main_v190 : Ref sig .tc := ⟨.hbm, 318, rfl⟩
abbrev main_v191 : Ref sig .tc := ⟨.hbm, 319, rfl⟩
abbrev main_cst_71 : Ref sig .tc := ⟨.hbm, 320, rfl⟩
abbrev main_v192 : Ref sig .tc := ⟨.hbm, 321, rfl⟩
abbrev main_v193 : Ref sig .tc := ⟨.hbm, 322, rfl⟩
abbrev main_cst_72 : Ref sig .tc := ⟨.hbm, 323, rfl⟩
abbrev main_v194 : Ref sig .tc := ⟨.hbm, 324, rfl⟩
abbrev main_v195 : Ref sig .tc := ⟨.hbm, 325, rfl⟩
abbrev main_v196 : Ref sig .tc := ⟨.hbm, 326, rfl⟩
abbrev main_cst_73 : Ref sig .tc := ⟨.hbm, 327, rfl⟩
abbrev main_v197 : Ref sig .tc := ⟨.hbm, 328, rfl⟩
abbrev main_v198 : Ref sig .tc := ⟨.hbm, 329, rfl⟩
abbrev main_v199 : Ref sig .tc := ⟨.hbm, 330, rfl⟩
abbrev main_cst_74 : Ref sig .tc := ⟨.hbm, 331, rfl⟩
abbrev main_v200 : Ref sig .tc := ⟨.hbm, 332, rfl⟩
abbrev main_v201 : Ref sig .tc := ⟨.hbm, 333, rfl⟩
abbrev main_v202 : Ref sig .tc := ⟨.hbm, 334, rfl⟩
abbrev main_cst_75 : Ref sig .tc := ⟨.hbm, 335, rfl⟩
abbrev main_v203 : Ref sig .tc := ⟨.hbm, 336, rfl⟩
abbrev main_v204 : Ref sig .tc := ⟨.hbm, 337, rfl⟩
abbrev main_cst_76 : Ref sig .tc := ⟨.hbm, 338, rfl⟩
abbrev main_v205 : Ref sig .tc := ⟨.hbm, 339, rfl⟩
abbrev main_v206 : Ref sig .tc := ⟨.hbm, 340, rfl⟩
abbrev main_v207 : Ref sig .tc := ⟨.hbm, 341, rfl⟩
abbrev main_cst_77 : Ref sig .tc := ⟨.hbm, 342, rfl⟩
abbrev main_v208 : Ref sig .tc := ⟨.hbm, 343, rfl⟩
abbrev main_v209 : Ref sig .tc := ⟨.hbm, 344, rfl⟩
abbrev main_v210 : Ref sig .tc := ⟨.hbm, 345, rfl⟩
abbrev main_cst_78 : Ref sig .tc := ⟨.hbm, 346, rfl⟩
abbrev main_v211 : Ref sig .tc := ⟨.hbm, 347, rfl⟩
abbrev main_v212 : Ref sig .tc := ⟨.hbm, 348, rfl⟩
abbrev main_v213 : Ref sig .tc := ⟨.hbm, 349, rfl⟩
abbrev main_cst_79 : Ref sig .tc := ⟨.hbm, 350, rfl⟩
abbrev main_v214 : Ref sig .tc := ⟨.hbm, 351, rfl⟩
abbrev main_v215 : Ref sig .tc := ⟨.hbm, 352, rfl⟩
abbrev main_cst_80 : Ref sig .tc := ⟨.hbm, 353, rfl⟩
abbrev main_v216 : Ref sig .tc := ⟨.hbm, 354, rfl⟩
abbrev main_v217 : Ref sig .tc := ⟨.hbm, 355, rfl⟩
abbrev main_cst_81 : Ref sig .tc := ⟨.hbm, 356, rfl⟩
abbrev main_v218 : Ref sig .tc := ⟨.hbm, 357, rfl⟩
abbrev main_v219 : Ref sig .tc := ⟨.hbm, 358, rfl⟩
abbrev main_v220 : Ref sig .tc := ⟨.hbm, 359, rfl⟩
abbrev main_cst_82 : Ref sig .tc := ⟨.hbm, 360, rfl⟩
abbrev main_v221 : Ref sig .tc := ⟨.hbm, 361, rfl⟩
abbrev main_v222 : Ref sig .tc := ⟨.hbm, 362, rfl⟩
abbrev main_v223 : Ref sig .tc := ⟨.hbm, 363, rfl⟩
abbrev main_cst_83 : Ref sig .tc := ⟨.hbm, 364, rfl⟩
abbrev main_v224 : Ref sig .tc := ⟨.hbm, 365, rfl⟩
abbrev main_v225 : Ref sig .tc := ⟨.hbm, 366, rfl⟩
abbrev main_v226 : Ref sig .tc := ⟨.hbm, 367, rfl⟩
abbrev main_cst_84 : Ref sig .tc := ⟨.hbm, 368, rfl⟩
abbrev main_v227 : Ref sig .tc := ⟨.hbm, 369, rfl⟩
abbrev main_v228 : Ref sig .tc := ⟨.hbm, 370, rfl⟩
abbrev main_cst_85 : Ref sig .tc := ⟨.hbm, 371, rfl⟩
abbrev main_v229 : Ref sig .tc := ⟨.hbm, 372, rfl⟩
abbrev main_v230 : Ref sig .tc := ⟨.hbm, 373, rfl⟩
abbrev main_v231 : Ref sig .tc := ⟨.hbm, 374, rfl⟩
abbrev main_cst_86 : Ref sig .tc := ⟨.hbm, 375, rfl⟩
abbrev main_v232 : Ref sig .tc := ⟨.hbm, 376, rfl⟩
abbrev main_v233 : Ref sig .tc := ⟨.hbm, 377, rfl⟩
abbrev main_v234 : Ref sig .tc := ⟨.hbm, 378, rfl⟩
abbrev main_cst_87 : Ref sig .tc := ⟨.hbm, 379, rfl⟩
abbrev main_v235 : Ref sig .tc := ⟨.hbm, 380, rfl⟩
abbrev main_v236 : Ref sig .tc := ⟨.hbm, 381, rfl⟩
abbrev main_v237 : Ref sig .tc := ⟨.hbm, 382, rfl⟩
abbrev main_cst_88 : Ref sig .tc := ⟨.hbm, 383, rfl⟩
abbrev main_v238 : Ref sig .tc := ⟨.hbm, 384, rfl⟩
abbrev main_v239 : Ref sig .tc := ⟨.hbm, 385, rfl⟩
abbrev main_cst_89 : Ref sig .tc := ⟨.hbm, 386, rfl⟩
abbrev main_v240 : Ref sig .tc := ⟨.hbm, 387, rfl⟩
abbrev main_v241 : Ref sig .tc := ⟨.hbm, 388, rfl⟩
abbrev main_cst_90 : Ref sig .tc := ⟨.hbm, 389, rfl⟩
abbrev main_v242 : Ref sig .tc := ⟨.hbm, 390, rfl⟩
abbrev main_v243 : Ref sig .tc := ⟨.hbm, 391, rfl⟩
abbrev main_v244 : Ref sig .tc := ⟨.hbm, 392, rfl⟩
abbrev main_cst_91 : Ref sig .tc := ⟨.hbm, 393, rfl⟩
abbrev main_v245 : Ref sig .tc := ⟨.hbm, 394, rfl⟩
abbrev main_v246 : Ref sig .tc := ⟨.hbm, 395, rfl⟩
abbrev main_v247 : Ref sig .tc := ⟨.hbm, 396, rfl⟩
abbrev main_cst_92 : Ref sig .tc := ⟨.hbm, 397, rfl⟩
abbrev main_v248 : Ref sig .tc := ⟨.hbm, 398, rfl⟩
abbrev main_v249 : Ref sig .tc := ⟨.hbm, 399, rfl⟩
abbrev main_v250 : Ref sig .tc := ⟨.hbm, 400, rfl⟩
abbrev main_cst_93 : Ref sig .tc := ⟨.hbm, 401, rfl⟩
abbrev main_v251 : Ref sig .tc := ⟨.hbm, 402, rfl⟩
abbrev main_v252 : Ref sig .tc := ⟨.hbm, 403, rfl⟩
abbrev main_cst_94 : Ref sig .tc := ⟨.hbm, 404, rfl⟩
abbrev main_v253 : Ref sig .tc := ⟨.hbm, 405, rfl⟩
abbrev main_v254 : Ref sig .tc := ⟨.hbm, 406, rfl⟩
abbrev main_v255 : Ref sig .tc := ⟨.hbm, 407, rfl⟩
abbrev main_cst_95 : Ref sig .tc := ⟨.hbm, 408, rfl⟩
abbrev main_v256 : Ref sig .tc := ⟨.hbm, 409, rfl⟩
abbrev main_v257 : Ref sig .tc := ⟨.hbm, 410, rfl⟩
abbrev main_v258 : Ref sig .tc := ⟨.hbm, 411, rfl⟩
abbrev main_cst_96 : Ref sig .tc := ⟨.hbm, 412, rfl⟩
abbrev main_v259 : Ref sig .tc := ⟨.hbm, 413, rfl⟩
abbrev main_v260 : Ref sig .tc := ⟨.hbm, 414, rfl⟩
abbrev main_v261 : Ref sig .tc := ⟨.hbm, 415, rfl⟩
abbrev main_cst_97 : Ref sig .tc := ⟨.hbm, 416, rfl⟩
abbrev main_v262 : Ref sig .tc := ⟨.hbm, 417, rfl⟩
abbrev main_v263 : Ref sig .tc := ⟨.hbm, 418, rfl⟩
abbrev main_cst_98 : Ref sig .tc := ⟨.hbm, 419, rfl⟩
abbrev main_v264 : Ref sig .tc := ⟨.hbm, 420, rfl⟩
abbrev main_v265 : Ref sig .tc := ⟨.hbm, 421, rfl⟩
abbrev main_cst_99 : Ref sig .tc := ⟨.hbm, 422, rfl⟩
abbrev main_v266 : Ref sig .tc := ⟨.hbm, 423, rfl⟩
abbrev main_v267 : Ref sig .tc := ⟨.hbm, 424, rfl⟩
abbrev main_v268 : Ref sig .tc := ⟨.hbm, 425, rfl⟩
abbrev main_cst_100 : Ref sig .tc := ⟨.hbm, 426, rfl⟩
abbrev main_v269 : Ref sig .tc := ⟨.hbm, 427, rfl⟩
abbrev main_v270 : Ref sig .tc := ⟨.hbm, 428, rfl⟩
abbrev main_v271 : Ref sig .tc := ⟨.hbm, 429, rfl⟩
abbrev main_cst_101 : Ref sig .tc := ⟨.hbm, 430, rfl⟩
abbrev main_v272 : Ref sig .tc := ⟨.hbm, 431, rfl⟩
abbrev main_v273 : Ref sig .tc := ⟨.hbm, 432, rfl⟩
abbrev main_v274 : Ref sig .tc := ⟨.hbm, 433, rfl⟩
abbrev main_cst_102 : Ref sig .tc := ⟨.hbm, 434, rfl⟩
abbrev main_v275 : Ref sig .tc := ⟨.hbm, 435, rfl⟩
abbrev main_v276 : Ref sig .tc := ⟨.hbm, 436, rfl⟩
abbrev main_cst_103 : Ref sig .tc := ⟨.hbm, 437, rfl⟩
abbrev main_v277 : Ref sig .tc := ⟨.hbm, 438, rfl⟩
abbrev main_v278 : Ref sig .tc := ⟨.hbm, 439, rfl⟩
abbrev main_v279 : Ref sig .tc := ⟨.hbm, 440, rfl⟩
abbrev main_cst_104 : Ref sig .tc := ⟨.hbm, 441, rfl⟩
abbrev main_v280 : Ref sig .tc := ⟨.hbm, 442, rfl⟩
abbrev main_v281 : Ref sig .tc := ⟨.hbm, 443, rfl⟩
abbrev main_v282 : Ref sig .tc := ⟨.hbm, 444, rfl⟩
abbrev main_cst_105 : Ref sig .tc := ⟨.hbm, 445, rfl⟩
abbrev main_v283 : Ref sig .tc := ⟨.hbm, 446, rfl⟩
abbrev main_v284 : Ref sig .tc := ⟨.hbm, 447, rfl⟩
abbrev main_v285 : Ref sig .tc := ⟨.hbm, 448, rfl⟩
abbrev main_cst_106 : Ref sig .tc := ⟨.hbm, 449, rfl⟩
abbrev main_v286 : Ref sig .tc := ⟨.hbm, 450, rfl⟩
abbrev main_v287 : Ref sig .tc := ⟨.hbm, 451, rfl⟩
abbrev main_cst_107 : Ref sig .tc := ⟨.hbm, 452, rfl⟩
abbrev main_v288 : Ref sig .tc := ⟨.hbm, 453, rfl⟩
abbrev main_v289 : Ref sig .tc := ⟨.hbm, 454, rfl⟩
abbrev main_cst_108 : Ref sig .tc := ⟨.hbm, 455, rfl⟩
abbrev main_v290 : Ref sig .tc := ⟨.hbm, 456, rfl⟩
abbrev main_v291 : Ref sig .tc := ⟨.hbm, 457, rfl⟩
abbrev main_v292 : Ref sig .tc := ⟨.hbm, 458, rfl⟩
abbrev main_cst_109 : Ref sig .tc := ⟨.hbm, 459, rfl⟩
abbrev main_v293 : Ref sig .tc := ⟨.hbm, 460, rfl⟩
abbrev main_v294 : Ref sig .tc := ⟨.hbm, 461, rfl⟩
abbrev main_v295 : Ref sig .tc := ⟨.hbm, 462, rfl⟩
abbrev main_cst_110 : Ref sig .tc := ⟨.hbm, 463, rfl⟩
abbrev main_v296 : Ref sig .tc := ⟨.hbm, 464, rfl⟩
abbrev main_v297 : Ref sig .tc := ⟨.hbm, 465, rfl⟩
abbrev main_v298 : Ref sig .tc := ⟨.hbm, 466, rfl⟩
abbrev main_cst_111 : Ref sig .tc := ⟨.hbm, 467, rfl⟩
abbrev main_v299 : Ref sig .tc := ⟨.hbm, 468, rfl⟩
abbrev main_v300 : Ref sig .tc := ⟨.hbm, 469, rfl⟩
abbrev main_cst_112 : Ref sig .tc := ⟨.hbm, 470, rfl⟩
abbrev main_v301 : Ref sig .tc := ⟨.hbm, 471, rfl⟩
abbrev main_v302 : Ref sig .tc := ⟨.hbm, 472, rfl⟩
abbrev main_v303 : Ref sig .tc := ⟨.hbm, 473, rfl⟩
abbrev main_cst_113 : Ref sig .tc := ⟨.hbm, 474, rfl⟩
abbrev main_v304 : Ref sig .tc := ⟨.hbm, 475, rfl⟩
abbrev main_v305 : Ref sig .tc := ⟨.hbm, 476, rfl⟩
abbrev main_v306 : Ref sig .tc := ⟨.hbm, 477, rfl⟩
abbrev main_cst_114 : Ref sig .tc := ⟨.hbm, 478, rfl⟩
abbrev main_v307 : Ref sig .tc := ⟨.hbm, 479, rfl⟩
abbrev main_v308 : Ref sig .tc := ⟨.hbm, 480, rfl⟩
abbrev main_v309 : Ref sig .tc := ⟨.hbm, 481, rfl⟩
abbrev main_cst_115 : Ref sig .tc := ⟨.hbm, 482, rfl⟩
abbrev main_v310 : Ref sig .tc := ⟨.hbm, 483, rfl⟩
abbrev main_v311 : Ref sig .tc := ⟨.hbm, 484, rfl⟩
abbrev main_cst_116 : Ref sig .tc := ⟨.hbm, 485, rfl⟩
abbrev main_v312 : Ref sig .tc := ⟨.hbm, 486, rfl⟩
abbrev main_v313 : Ref sig .tc := ⟨.hbm, 487, rfl⟩
abbrev main_cst_117 : Ref sig .tc := ⟨.hbm, 488, rfl⟩
abbrev main_v314 : Ref sig .tc := ⟨.hbm, 489, rfl⟩
abbrev main_v315 : Ref sig .tc := ⟨.hbm, 490, rfl⟩
abbrev main_v316 : Ref sig .tc := ⟨.hbm, 491, rfl⟩
abbrev main_cst_118 : Ref sig .tc := ⟨.hbm, 492, rfl⟩
abbrev main_v317 : Ref sig .tc := ⟨.hbm, 493, rfl⟩
abbrev main_v318 : Ref sig .tc := ⟨.hbm, 494, rfl⟩
abbrev main_v319 : Ref sig .tc := ⟨.hbm, 495, rfl⟩
abbrev main_cst_119 : Ref sig .tc := ⟨.hbm, 496, rfl⟩
abbrev main_v320 : Ref sig .tc := ⟨.hbm, 497, rfl⟩
abbrev main_v321 : Ref sig .tc := ⟨.hbm, 498, rfl⟩
abbrev main_v322 : Ref sig .tc := ⟨.hbm, 499, rfl⟩
abbrev main_cst_120 : Ref sig .tc := ⟨.hbm, 500, rfl⟩
abbrev main_v323 : Ref sig .tc := ⟨.hbm, 501, rfl⟩
abbrev main_v324 : Ref sig .tc := ⟨.hbm, 502, rfl⟩
abbrev main_cst_121 : Ref sig .tc := ⟨.hbm, 503, rfl⟩
abbrev main_v325 : Ref sig .tc := ⟨.hbm, 504, rfl⟩
abbrev main_v326 : Ref sig .tc := ⟨.hbm, 505, rfl⟩
abbrev main_v327 : Ref sig .tc := ⟨.hbm, 506, rfl⟩
abbrev main_cst_122 : Ref sig .tc := ⟨.hbm, 507, rfl⟩
abbrev main_v328 : Ref sig .tc := ⟨.hbm, 508, rfl⟩
abbrev main_v329 : Ref sig .tc := ⟨.hbm, 509, rfl⟩
abbrev main_v330 : Ref sig .tc := ⟨.hbm, 510, rfl⟩
abbrev main_cst_123 : Ref sig .tc := ⟨.hbm, 511, rfl⟩
abbrev main_v331 : Ref sig .tc := ⟨.hbm, 512, rfl⟩
abbrev main_v332 : Ref sig .tc := ⟨.hbm, 513, rfl⟩
abbrev main_v333 : Ref sig .tc := ⟨.hbm, 514, rfl⟩
abbrev main_cst_124 : Ref sig .tc := ⟨.hbm, 515, rfl⟩
abbrev main_v334 : Ref sig .tc := ⟨.hbm, 516, rfl⟩
abbrev main_v335 : Ref sig .tc := ⟨.hbm, 517, rfl⟩

abbrev nD : Nat := 1
abbrev τ : Topo := Topo.v7x

variable {F : FTy → Type} [FloatOps F]
-- ==== Proof.Tiles.lean ====
module

public import Idealize.ShloMosaic.Lib.Pipeline.ValueKit
public import Idealize.ShloMosaic.Lib.Pointwise
public import Idealize.ShloMosaic.Lib.ViewIndex

@[expose] public section

/-!
  # Tiles

  A matrix can be cut into bands of `n` rows (or of `n` columns). This module says, for any kind of entry, what the
  bands are, how a matrix is put together from bands, and what is read back from a buffer that was filled band by
  band, or from a two-slot buffer after a copy into one of its slots.
-/

noncomputable section

namespace Ffn

open Idealize.ShloMosaic

variable {α : Type}

/-- A matrix shape. -/
abbrev Mat (m n : ℕ) : Shape := ⟨2, ![m, n]⟩

/-- The `n` rows of a matrix from row `o` on. -/
def rowsFrom {N C : ℕ} [NeZero N] (n o : ℕ) (X : (Mat N C).Idx → α) : (Mat n C).Idx → α :=
  fun x => X (ix2 (⟨(o + (x 0 : Fin n).val) % N, Nat.mod_lt _ (NeZero.pos N)⟩ : Fin N) (x 1 : Fin C))

/-- Rows `n k, …, n k + n - 1` of a matrix. -/
def rows {N C : ℕ} [NeZero N] (n k : ℕ) (X : (Mat N C).Idx → α) : (Mat n C).Idx → α := rowsFrom n (k * n) X

/-- The matrix whose `k`th band of `n` rows is `g k`. -/
def byRows {N C : ℕ} (n : ℕ) [NeZero n] (g : ℕ → (Mat n C).Idx → α) : (Mat N C).Idx → α :=
  fun y => g ((y 0 : Fin N).val / n) (ix2 (⟨(y 0 : Fin N).val % n, Nat.mod_lt _ (NeZero.pos n)⟩ : Fin n) (y 1 : Fin C))

/-- The matrix whose `k`th band of `n` columns is `g k`. -/
def byCols {N R : ℕ} (n : ℕ) [NeZero n] (g : ℕ → (Mat R n).Idx → α) : (Mat R N).Idx → α :=
  fun y => g ((y 1 : Fin N).val / n) (ix2 (y 0 : Fin R) (⟨(y 1 : Fin N).val % n, Nat.mod_lt _ (NeZero.pos n)⟩ : Fin n))

theorem byRows_emb {N C n : ℕ} [NeZero n] (g : ℕ → (Mat n C).Idx → α) {o : ℕ} (k : ℕ) (ho : o = k * n)
    (inb : ∀ a, (![o, 0] : Fin 2 → ℕ) a + (![n, C] : Fin 2 → ℕ) a ≤ (Mat N C).size a) (x : (Mat n C).Idx) :
    byRows (N := N) n g ((Rect.unit (s := Mat N C) ![o, 0] ![n, C] inb).emb x) = g k x := by
  have hx : (x 0).val < n := (x 0).isLt
  have e0 : ((Rect.unit (s := Mat N C) ![o, 0] ![n, C] inb).emb x 0).val = k * n + (x 0).val := by
    show o + 1 * (x 0).val = _; omega
  have e1 : ((Rect.unit (s := Mat N C) ![o, 0] ![n, C] inb).emb x 1).val = (x 1).val := by
    show 0 + 1 * (x 1).val = _; omega
  have hn : 0 < n := NeZero.pos n
  unfold byRows
  have h0 : ((Rect.unit (s := Mat N C) ![o, 0] ![n, C] inb).emb x 0).val / n = k := by
    rw [e0, Nat.mul_comm, Nat.mul_add_div hn, Nat.div_eq_of_lt hx, Nat.add_zero]
  have h1 : ((Rect.unit (s := Mat N C) ![o, 0] ![n, C] inb).emb x 0).val % n = (x 0).val := by
    rw [e0, Nat.mul_comm, Nat.mul_add_mod, Nat.mod_eq_of_lt hx]
  rw [h0]
  refine congrArg (g k) (funext fun a => ?_)
  match a with
  | ⟨0, _⟩ => exact Fin.ext h1
  | ⟨1, _⟩ => exact Fin.ext e1

theorem byCols_emb {N R n : ℕ} [NeZero n] (g : ℕ → (Mat R n).Idx → α) {o : ℕ} (k : ℕ) (ho : o = k * n)
    (inb : ∀ a, (![0, o] : Fin 2 → ℕ) a + (![R, n] : Fin 2 → ℕ) a ≤ (Mat R N).size a) (x : (Mat R n).Idx) :
    byCols (N := N) n g ((Rect.unit (s := Mat R N) ![0, o] ![R, n] inb).emb x) = g k x := by
  have hx : (x 1).val < n := (x 1).isLt
  have e0 : ((Rect.unit (s := Mat R N) ![0, o] ![R, n] inb).emb x 1).val = k * n + (x 1).val := by
    show o + 1 * (x 1).val = _; omega
  have e1 : ((Rect.unit (s := Mat R N) ![0, o] ![R, n] inb).emb x 0).val = (x 0).val := by
    show 0 + 1 * (x 0).val = _; omega
  have hn : 0 < n := NeZero.pos n
  unfold byCols
  have h0 : ((Rect.unit (s := Mat R N) ![0, o] ![R, n] inb).emb x 1).val / n = k := by
    rw [e0, Nat.mul_comm, Nat.mul_add_div hn, Nat.div_eq_of_lt hx, Nat.add_zero]
  have h1 : ((Rect.unit (s := Mat R N) ![0, o] ![R, n] inb).emb x 1).val % n = (x 1).val := by
    rw [e0, Nat.mul_comm, Nat.mul_add_mod, Nat.mod_eq_of_lt hx]
  rw [h0]
  refine congrArg (g k) (funext fun a => ?_)
  match a with
  | ⟨0, _⟩ => exact Fin.ext e1
  | ⟨1, _⟩ => exact Fin.ext h1

/-- `byRows_emb` with the band's number read off the offset. -/
theorem byRows_at {N C n : ℕ} [NeZero n] (g : ℕ → (Mat n C).Idx → α) {o : ℕ}
    (inb : ∀ a, (![o, 0] : Fin 2 → ℕ) a + (![n, C] : Fin 2 → ℕ) a ≤ (Mat N C).size a) (x : (Mat n C).Idx) (ho : o / n * n = o) :
    g (o / n) x = byRows (N := N) n g ((Rect.unit (s := Mat N C) ![o, 0] ![n, C] inb).emb x) :=
  (byRows_emb g (o / n) ho.symm inb x).symm

/-- `byCols_emb` with the band's number read off the offset. -/
theorem byCols_at {N R n : ℕ} [NeZero n] (g : ℕ → (Mat R n).Idx → α) {o : ℕ}
    (inb : ∀ a, (![0, o] : Fin 2 → ℕ) a + (![R, n] : Fin 2 → ℕ) a ≤ (Mat R N).size a) (x : (Mat R n).Idx) (ho : o / n * n = o) :
    g (o / n) x = byCols (N := N) n g ((Rect.unit (s := Mat R N) ![0, o] ![R, n] inb).emb x) :=
  (byCols_emb g (o / n) ho.symm inb x).symm

/-- The rows from a literal offset on. -/
theorem unit_rowsFrom {N C n : ℕ} [NeZero N] (X : (Mat N C).Idx → α) {o : ℕ}
    (inb : ∀ a, (![o, 0] : Fin 2 → ℕ) a + (![n, C] : Fin 2 → ℕ) a ≤ (Mat N C).size a) (x : (Mat n C).Idx) :
    X ((Rect.unit (s := Mat N C) ![o, 0] ![n, C] inb).emb x) = rowsFrom n o X x := by
  unfold rowsFrom
  refine congrArg X (funext fun a => ?_)
  have hx : (x 0).val < n := (x 0).isLt
  have hb : o + n ≤ N := inb 0
  match a with
  | ⟨0, _⟩ =>
    refine Fin.ext ?_
    show o + 1 * (x 0).val = (o + (x 0).val) % N
    rw [Nat.mod_eq_of_lt (by omega)]; omega
  | ⟨1, _⟩ => refine Fin.ext ?_; show 0 + 1 * (x 1).val = (x 1).val; omega

/-- The band at a literal offset. -/
theorem unit_rows {N C n : ℕ} [NeZero N] (X : (Mat N C).Idx → α) {o : ℕ} (k : ℕ) (ho : o = k * n)
    (inb : ∀ a, (![o, 0] : Fin 2 → ℕ) a + (![n, C] : Fin 2 → ℕ) a ≤ (Mat N C).size a) (x : (Mat n C).Idx) :
    X ((Rect.unit (s := Mat N C) ![o, 0] ![n, C] inb).emb x) = rows n k X x := by
  subst ho; exact unit_rowsFrom X inb x

/-- A band of a matrix put together from bands is that band. -/
theorem rows_byRows {N C n : ℕ} [NeZero N] [NeZero n] (g : ℕ → (Mat n C).Idx → α) (k : ℕ) (hk : k * n + n ≤ N) :
    rows n k (byRows (N := N) n g) = g k := by
  funext x
  have inb : ∀ a, (![k * n, 0] : Fin 2 → ℕ) a + (![n, C] : Fin 2 → ℕ) a ≤ (Mat N C).size a := fun a => by
    match a with
    | ⟨0, _⟩ => exact hk
    | ⟨1, _⟩ => show 0 + C ≤ C; omega
  rw [← unit_rows (byRows (N := N) n g) k rfl inb x]
  exact byRows_emb g k rfl inb x

/-- Two boxes that lie apart on one axis are disjoint. -/
theorem disjoint_boxes {s : Shape} (off size off' size' : Fin s.rank → ℕ) (inb : ∀ a, off a + size a ≤ s.size a)
    (inb' : ∀ a, off' a + size' a ≤ s.size a) (a : Fin s.rank) (h : off a + size a ≤ off' a ∨ off' a + size' a ≤ off a) :
    Disjoint (Rect.unit off size inb).set (Rect.unit off' size' inb').set := by
  refine Finset.disjoint_left.mpr fun y hy hy' => ?_
  have h1 := Rect.mem_set_unit.mp hy a
  have h2 := Rect.mem_set_unit.mp hy' a
  omega

section Buffers
variable {sig : RefSig} {κ : Kind} {sp : Space} {S : Shape} {e : EltTy} {Val : EltTy → Type}

/-- What is read back from a buffer that was filled piece by piece: the whole `G`, once each piece is its part of `G`
    and the pieces cover the buffer. -/
theorem read_writes_of_pieces [∀ e, Nonempty (Val e)] (v : View sig κ sp S e) (f : v.ty.Contents Val) (L : List (View.Piece Val S e)) (G : S.Idx → Val e)
    (hL : ∀ p ∈ L, ∀ x, p.2 x = G (p.1.emb x)) (hc : ∀ y, ∃ p ∈ L, y ∈ p.1.set) :
    v.read Val (v.writes Val f L) = G := by
  rw [View.read_writes_eq_canon v f L hc]
  funext y
  exact View.canon_apply_of_pieces G L hL y (hc y)

/-- The vector `x` of one slot, as a load of that slot sees it (with unit axes in front). -/
def up {s s' : Shape} (h : s'.numel = s.numel) (x : s'.Idx → α) : s.Idx → α := fun i => x ((Shape.reshapeEquiv h).symm i)

theorem up_reshape {s s' : Shape} (h : s'.numel = s.numel) (x : s'.Idx → α) (j : s'.Idx) :
    up h x (Shape.reshapeEquiv h j) = x j := by
  unfold up; rw [Equiv.symm_apply_apply]

/-- A slot reads back what was last copied into it. -/
theorem load_slot (v : View sig κ sp S e) (r : Rect S) {s' : Shape} (hq : s'.numel = r.shape.numel)
    (f : v.ty.Contents Val) (x : s'.Idx → Val e) :
    v.readAt Val r.toLoadRect (((v.slice r).reshape s' hq).write Val f x Finset.univ) = up hq x := by
  funext i
  have := View.read_write_reshape (Val := Val) (v.slice r) hq f x ((Shape.reshapeEquiv hq).symm i)
  rw [Equiv.apply_symm_apply] at this
  exact this

/-- A slot reads back what was last copied into it, whatever is copied into the other slot afterwards. -/
theorem load_slot_under (v : View sig κ sp S e) (r r' : Rect S)
    {s' s'' : Shape} (hq : s'.numel = r.shape.numel) (hq' : s''.numel = r'.shape.numel) (hd : Disjoint r.set r'.set)
    (f : v.ty.Contents Val) (x : s'.Idx → Val e) (y : s''.Idx → Val e) :
    v.readAt Val r.toLoadRect (((v.slice r').reshape s'' hq').write Val
      (((v.slice r).reshape s' hq).write Val f x Finset.univ) y Finset.univ) = up hq x := by
  rw [← load_slot v r hq f x]
  funext i
  refine congrFun (View.read_congr (v := v.slice r) fun z hz => ?_) i
  refine View.write_of_not_mem _ _ _ ?_
  have : ((v.slice r').reshape s'' hq').setOn Finset.univ = (v.slice r').set := by
    exact View.set_reshape _ _
  rw [this]
  have h1 : Disjoint (v.slice r).set (v.slice r').set := View.disjoint_slice hd
  exact Finset.disjoint_left.mp h1 hz

end Buffers

end Ffn

end
-- ==== Proof.Chunk.lean ====
module

public import proofs.«01_k».proof.Proof.Gen.KernelIdeal.Skeleton
public import proofs.«01_k».proof.Proof.Tiles

@[expose] public section

/-!
  # What the first grid point computes from a band of 128 rows

  The first grid point walks over the rows in 17 bands of 128. Of every band it takes the incoming gradient `dy` and the
  saved pre-normalisation rows `r`, and from them the gradient of the normalisation. The functions here are the
  operations of the first band; every other band does the same ones.
-/

noncomputable section

namespace Cert.KernelIdeal.Gen

open Idealize.ShloMosaic Idealize.ShloMosaic.TcCoe Ffn

variable {F : FTy → Type} [FloatOps F]

theorem numel4 : S128x1024.numel = S1x1x128x1024.numel := by decide
theorem numel3 : S128x1024.numel = S1x128x1024.numel := by decide

/-- A band of rows as the kernel loads it from a slot of the gradient's buffer. -/
abbrev up4 (x : Vec F S128x1024 .f32) : Vec F S1x1x128x1024 .f32 := up numel4 x
/-- A band of rows as the kernel loads it from a slot of a two-slot buffer. -/
abbrev up3 {e : EltTy} (x : Vec F S128x1024 e) : Vec F S1x128x1024 e := up numel3 x

/-- The residual part of the gradient of `h`, of one band. -/
def bandDh (v0 : Vec F S1x1x128x1024 .f32) (vr : Vec F S1x128x1024 .f32) (g : Vec F S1x1024 .f32) : FVec F S128x1024 .f32 :=
  k0_pay13 (k0_pay5 vr) (k0_pay6 vr) (k0_pay8 v0 g) (k0_pay9 v0 vr g)
/-- The gradient of the block's output, of one band. -/
def bandDf (v0 : Vec F S1x1x128x1024 .f32) (vr : Vec F S1x128x1024 .f32) (g : Vec F S1x1024 .f32) : FVec F S128x1024 .bf16 :=
  k0_pay15 (k0_pay5 vr) (k0_pay6 vr) (k0_pay8 v0 g) (k0_pay9 v0 vr g)
/-- The same, transposed. -/
def bandDfT (v0 : Vec F S1x1x128x1024 .f32) (vr : Vec F S1x128x1024 .f32) (g : Vec F S1x1024 .f32) : FVec F S1024x128 .bf16 :=
  k0_pay16 (k0_pay5 vr) (k0_pay6 vr) (k0_pay8 v0 g) (k0_pay9 v0 vr g)
/-- A band of the block's input, transposed. -/
def bandHT (vh : Vec F S1x128x1024 .bf16) : FVec F S1024x128 .bf16 := k0_pay17 vh
/-- The gradient of the scale, one band added. -/
def bandDg (acc : FVec F S1x1024 .f32) (v0 : Vec F S1x1x128x1024 .f32) (vr : Vec F S1x128x1024 .f32) : FVec F S1x1024 .f32 :=
  k0_pay11 acc (k0_pay3 v0) (k0_pay6 vr)
/-- The gradient of the shift, one band added. -/
def bandDb (acc : FVec F S1x1024 .f32) (v0 : Vec F S1x1x128x1024 .f32) : FVec F S1x1024 .f32 := k0_pay12 acc (k0_pay3 v0)

/-! ## Loads from the two-slot buffers

A load reads the band last copied into its slot; the copy of the next band into the other slot, which may lie on top, does
not show. -/

section Slots
variable {Val : EltTy → Type} {e : EltTy}

theorem load3_0 (v : View sig .tc .vmem S2x128x1024 e) (i0 i1 q0 q1) (f : v.ty.Contents Val) (x y : S128x1024.Idx → Val e) :
    v.readAt Val (Rect.unit (s := S2x128x1024) ![0, 0, 0] S1x128x1024.size i0).toLoadRect
      (((v.slice (Rect.unit (s := S2x128x1024) ![1, 0, 0] S1x128x1024.size i1)).reshape S128x1024 q1).write Val (((v.slice (Rect.unit (s := S2x128x1024) ![0, 0, 0] S1x128x1024.size i0)).reshape S128x1024 q0).write Val f x Finset.univ) y Finset.univ) = up numel3 x :=
  load_slot_under v _ _ q0 q1 (disjoint_boxes _ _ _ _ _ _ 0 (.inl (by decide))) f x y

theorem load3_1 (v : View sig .tc .vmem S2x128x1024 e) (i0 i1 q0 q1) (f : v.ty.Contents Val) (x y : S128x1024.Idx → Val e) :
    v.readAt Val (Rect.unit (s := S2x128x1024) ![1, 0, 0] S1x128x1024.size i1).toLoadRect
      (((v.slice (Rect.unit (s := S2x128x1024) ![0, 0, 0] S1x128x1024.size i0)).reshape S128x1024 q0).write Val (((v.slice (Rect.unit (s := S2x128x1024) ![1, 0, 0] S1x128x1024.size i1)).reshape S128x1024 q1).write Val f x Finset.univ) y Finset.univ) = up numel3 x :=
  load_slot_under v _ _ q1 q0 (disjoint_boxes _ _ _ _ _ _ 0 (.inr (by decide))) f x y

theorem load3 (v : View sig .tc .vmem S2x128x1024 e) (i0 q0) (f : v.ty.Contents Val) (x : S128x1024.Idx → Val e) :
    v.readAt Val (Rect.unit (s := S2x128x1024) ![0, 0, 0] S1x128x1024.size i0).toLoadRect (((v.slice (Rect.unit (s := S2x128x1024) ![0, 0, 0] S1x128x1024.size i0)).reshape S128x1024 q0).write Val f x Finset.univ) = up numel3 x :=
  load_slot v _ q0 f x

theorem load4_0 (v : View sig .tc .vmem S2x1x128x1024 e) (i0 i1 q0 q1) (f : v.ty.Contents Val) (x y : S128x1024.Idx → Val e) :
    v.readAt Val (Rect.unit (s := S2x1x128x1024) ![0, 0, 0, 0] S1x1x128x1024.size i0).toLoadRect
      (((v.slice (Rect.unit (s := S2x1x128x1024) ![1, 0, 0, 0] S1x1x128x1024.size i1)).reshape S128x1024 q1).write Val (((v.slice (Rect.unit (s := S2x1x128x1024) ![0, 0, 0, 0] S1x1x128x1024.size i0)).reshape S128x1024 q0).write Val f x Finset.univ) y Finset.univ) = up numel4 x :=
  load_slot_under v _ _ q0 q1 (disjoint_boxes _ _ _ _ _ _ 0 (.inl (by decide))) f x y

theorem load4_1 (v : View sig .tc .vmem S2x1x128x1024 e) (i0 i1 q0 q1) (f : v.ty.Contents Val) (x y : S128x1024.Idx → Val e) :
    v.readAt Val (Rect.unit (s := S2x1x128x1024) ![1, 0, 0, 0] S1x1x128x1024.size i1).toLoadRect
      (((v.slice (Rect.unit (s := S2x1x128x1024) ![0, 0, 0, 0] S1x1x128x1024.size i0)).reshape S128x1024 q0).write Val (((v.slice (Rect.unit (s := S2x1x128x1024) ![1, 0, 0, 0] S1x1x128x1024.size i1)).reshape S128x1024 q1).write Val f x Finset.univ) y Finset.univ) = up numel4 x :=
  load_slot_under v _ _ q1 q0 (disjoint_boxes _ _ _ _ _ _ 0 (.inr (by decide))) f x y

theorem load4 (v : View sig .tc .vmem S2x1x128x1024 e) (i0 q0) (f : v.ty.Contents Val) (x : S128x1024.Idx → Val e) :
    v.readAt Val (Rect.unit (s := S2x1x128x1024) ![0, 0, 0, 0] S1x1x128x1024.size i0).toLoadRect (((v.slice (Rect.unit (s := S2x1x128x1024) ![0, 0, 0, 0] S1x1x128x1024.size i0)).reshape S128x1024 q0).write Val f x Finset.univ) = up numel4 x :=
  load_slot v _ q0 f x

/-- A copied band is the band of the source. -/
theorem copied_band {sp : Space} (v : View sig .tc sp S2176x1024 e) (o : ℕ) (inb) (f : v.ty.Contents Val) :
    ReadAs.same.apply (View.read (s := S128x1024) Val (v.slice (Rect.unit (s := S2176x1024) ![o, 0] S128x1024.size inb)) f)
      = rowsFrom (N := 2176) (C := 1024) 128 o (v.read Val f) :=
  funext fun x => unit_rowsFrom (N := 2176) (C := 1024) (n := 128) (v.read Val f) inb x

end Slots

variable (dy r : Vec F S2176x1024 .f32) (hb : Vec F S2176x1024 .bf16) (g : Vec F S1x1024 .f32)

/-- The residual part of the gradient of `h`, all rows. -/
def allDh : Vec F S2176x1024 .f32 := byRows (N := 2176) 128 fun k => bandDh (up4 (rows 128 k dy)) (up3 (rows 128 k r)) g
/-- The gradient of the block's output, all rows. -/
def allDf : Vec F S2176x1024 .bf16 := byRows (N := 2176) 128 fun k => bandDf (up4 (rows 128 k dy)) (up3 (rows 128 k r)) g
/-- The gradient of the block's output, transposed. -/
def allDfT : Vec F S1024x2176 .bf16 := byCols (N := 2176) 128 fun k => bandDfT (up4 (rows 128 k dy)) (up3 (rows 128 k r)) g
/-- The block's input, transposed. -/
def allHT : Vec F S1024x2176 .bf16 := byCols (N := 2176) 128 fun k => bandHT (up3 (rows 128 k hb))
/-- The gradient of the scale over the first `n` bands. -/
def sumDg : ℕ → FVec F S1x1024 .f32
  | 0 => k0_pay1
  | n + 1 => bandDg (sumDg n) (up4 (rows 128 n dy)) (up3 (rows 128 n r))
/-- The gradient of the shift over the first `n` bands. -/
def sumDb : ℕ → FVec F S1x1024 .f32
  | 0 => k0_pay2
  | n + 1 => bandDb (sumDb n) (up4 (rows 128 n dy))

end Cert.KernelIdeal.Gen

end
-- ==== Proof.Pass1.lean ====
module

public import proofs.«01_k».proof.Proof.Chunk
public import proofs.«01_k».proof.Proof.Gen.KernelIdeal.Frame
public import Idealize.ShloMosaic.Lib.Tactic

@[expose] public section

/-!
  # The first grid point's walk over the rows

  The region that the first grid point alone runs: 17 bands of rows are copied in, each into the slot the band before
  the last one has left, and what is computed from each band is stored. The statement names what the four carried
  buffers hold afterwards; the last band's two transposed stores are made after the region named here, so of those two
  buffers it says what they will hold after them.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn

variable {F : FTy → Type} [FloatOps F]

local notation "𝕄" => MT nD τ sig Unit (Elt F) ℕ (Pipeline.UD sig nD τ) ℕ

/-- The contents of a buffer on a core. -/
abbrev Cont (c : Dev nD) {sp : Space} {S : Shape} {e : EltTy} (M : Memref sig .tc sp S e) : Type :=
  Buf (Elt F) (M.view.loc (c : Thread nD τ))

/-- A buffer of a core held whole, with its contents. -/
abbrev holds (c : Dev nD) {sp : Space} {S : Shape} {e : EltTy} (M : Memref sig .tc sp S e) (f : Cont (F := F) c M) : sProp 𝕄 :=
  M.view.loc (c : Thread nD τ) ↦{fullShare} f

/-- What a buffer holds is known once all that is read from it is. -/
theorem holds_unread (c : Dev nD) {sp : Space} {S : Shape} {e : EltTy} (M : Memref sig .tc sp S e) (hM : M.IsWhole) (X : S.Idx → Elt F e) :
    (iprop(∃ f : Cont (F := F) c M, ⌜M.view.read (Elt F) f = X⌝ ∗ (M.view.loc (c : Thread nD τ) ↦[M.view.set]{fullShare} f)) : sProp 𝕄)
      ⊢ (M.view.loc (c : Thread nD τ) ↦[M.view.set]{fullShare} hM.unread X) := by
  iintro ⟨%f, %h, H⟩
  obtain rfl := hM.eq_unread h
  iexact H

/-- A row vector as loaded from its buffer. -/
abbrev rowAt (c : Dev nD) (M : Memref sig .tc .vmem S1x1024 .f32) (f : Cont (F := F) c M) : Vec F S1x1024 .f32 :=
  M.view.readAt (Elt F) (Rect.unit (s := S1x1024) ![0, 0] S1x1024.size inb_S1x1024_S1x1024_0_0).toLoadRect f

set_option maxHeartbeats 5396000 in
set_option sl_exec.dmaWindow true in
set_option sl_exec.dmaWindowSet true in
theorem pass1 (c : Dev nD) (i : grid0.Coords)

    (arg3 : Memref sig .tc .vmem S1x1024 .f32) (harg3 : arg3.IsWhole)
    (arg5 : Memref sig .tc .vmem S1x2176x256 .bf16) (harg5 : arg5.IsWhole) (arg6 : Memref sig .tc .vmem S1x2176x256 .bf16) (harg6 : arg6.IsWhole)
    (arg7 : Memref sig .tc .vmem S256x1024 .bf16) (harg7 : arg7.IsWhole) (arg8 : Memref sig .tc .vmem S256x1024 .bf16) (harg8 : arg8.IsWhole)
    (arg9 : Memref sig .tc .vmem S256x1024 .bf16) (harg9 : arg9.IsWhole)
    (arg11 : Memref sig .tc .vmem S256x1024 .bf16) (harg11 : arg11.IsWhole) (arg12 : Memref sig .tc .vmem S256x1024 .bf16) (harg12 : arg12.IsWhole)
    (arg13 : Memref sig .tc .vmem S256x1024 .bf16) (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S2176x1024 .bf16) (harg16 : arg16.IsWhole)
    (arg17 : Memref sig .tc .vmem S1024x2176 .bf16) (harg17 : arg17.IsWhole) (arg18 : Memref sig .tc .vmem S1024x2176 .bf16) (harg18 : arg18.IsWhole)
    (arg19 : Memref sig .tc .vmem S2176x1024 .f32) (harg19 : arg19.IsWhole) (arg20 : Memref sig .tc .vmem S2176x256 .bf16) (harg20 : arg20.IsWhole)
    (arg21 : Memref sig .tc .vmem S2176x256 .bf16) (harg21 : arg21.IsWhole) (arg22 : Memref sig .tc .vmem S2176x256 .bf16) (harg22 : arg22.IsWhole)
    (arg23 : Memref sig .tc .vmem S2x1x128x1024 .f32) (harg23 : arg23.IsWhole) (arg24 : Memref sig .tc .vmem S2x128x1024 .f32) (harg24 : arg24.IsWhole)
    (arg25 : Memref sig .tc .vmem S2x128x1024 .bf16) (harg25 : arg25.IsWhole)
    (dy : Cont (F := F) c (Memref.whole main_arg6)) (r : Cont (F := F) c (Memref.whole main_v9))
    (hb : Cont (F := F) c (Memref.whole main_v11)) (farg3 : Cont (F := F) c arg3)
    (farg16 : Cont (F := F) c arg16) (farg17 : Cont (F := F) c arg17) (farg18 : Cont (F := F) c arg18) (farg19 : Cont (F := F) c arg19) (farg23 : Cont (F := F) c arg23) (farg24 : Cont (F := F) c arg24) (farg25 : Cont (F := F) c arg25)
    (W : Waits sig Unit) :
    iprop((arg3.view.loc (c : Thread nD τ) ↦[arg3.view.set]{fullShare} farg3) ∗
      (arg16.view.loc (c : Thread nD τ) ↦[arg16.view.set]{fullShare} farg16) ∗
      (arg17.view.loc (c : Thread nD τ) ↦[arg17.view.set]{fullShare} farg17) ∗
      (arg18.view.loc (c : Thread nD τ) ↦[arg18.view.set]{fullShare} farg18) ∗
      (arg19.view.loc (c : Thread nD τ) ↦[arg19.view.set]{fullShare} farg19) ∗
      (arg23.view.loc (c : Thread nD τ) ↦[arg23.view.set]{fullShare} farg23) ∗
      (arg24.view.loc (c : Thread nD τ) ↦[arg24.view.set]{fullShare} farg24) ∗
      (arg25.view.loc (c : Thread nD τ) ↦[arg25.view.set]{fullShare} farg25) ∗
      semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗
      holds c (Memref.whole main_arg6) dy ∗ holds c (Memref.whole main_v9) r ∗ holds c (Memref.whole main_v11) hb ∗
      owes (c : Thread nD τ) 0 W)
    ⊢ wp frame (wpE (defs₀ (F := F)) Variants.none c none) Set.univ
        (k0_part54 i (Memref.whole main_arg6) (Memref.isWhole_whole _) (Memref.whole main_v9) (Memref.isWhole_whole _) arg3 harg3 (Memref.whole main_v11) (Memref.isWhole_whole _) arg5 harg5 arg6 harg6 arg7 harg7 arg8 harg8 arg9 harg9 (Memref.whole main_v23_0) (Memref.isWhole_whole _) arg11 harg11 arg12 harg12 arg13 harg13 arg14 harg14 arg15 harg15 arg16 harg16 arg17 harg17 arg18 harg18 arg19 harg19 arg20 harg20 arg21 harg21 arg22 harg22 arg23 harg23 arg24 harg24 arg25 harg25 cc0_scratch10 cc0_scratch11)
        (fun res => iprop(
          (arg3.view.loc (c : Thread nD τ) ↦[arg3.view.set]{fullShare} farg3) ∗
          (arg16.view.loc (c : Thread nD τ) ↦[arg16.view.set]{fullShare} harg16.unread (allDf dy r (rowAt c arg3 farg3))) ∗
          (arg19.view.loc (c : Thread nD τ) ↦[arg19.view.set]{fullShare} harg19.unread (allDh dy r (rowAt c arg3 farg3))) ∗
          (∃ f, ⌜arg18.view.read (Elt F) (arg18.view.writes (Elt F) f [⟨Rect.unit (s := S1024x2176) ![0, 2048] S1024x128.size inb_S1024x2176_S1024x128_0_2048, res.2.2⟩]) = allDfT dy r (rowAt c arg3 farg3)⌝ ∗ (arg18.view.loc (c : Thread nD τ) ↦[arg18.view.set]{fullShare} f)) ∗
          (∃ f, ∃ f', ⌜arg17.view.read (Elt F) (arg17.view.writes (Elt F) f [⟨Rect.unit (s := S1024x2176) ![0, 2048] S1024x128.size inb_S1024x2176_S1024x128_0_2048,
              k0_pay240 (arg25.view.readAt (Elt F) (Rect.unit (s := S2x128x1024) ![0, 0, 0] S1x128x1024.size inb_S2x128x1024_S1x128x1024_0_0_0).toLoadRect f')⟩]) = allHT hb⌝ ∗
            (arg17.view.loc (c : Thread nD τ) ↦[arg17.view.set]{fullShare} f) ∗ (arg25.view.loc (c : Thread nD τ) ↦[arg25.view.set]{fullShare} f')) ∗
          ⌜res.1 = sumDg dy r 17⌝ ∗ ⌜res.2.1 = sumDb dy 17⌝ ∗
          (∃ f, (arg23.view.loc (c : Thread nD τ) ↦[arg23.view.set]{fullShare} f)) ∗ (∃ f, (arg24.view.loc (c : Thread nD τ) ↦[arg24.view.set]{fullShare} f)) ∗
          semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗
          holds c (Memref.whole main_arg6) dy ∗ holds c (Memref.whole main_v9) r ∗ holds c (Memref.whole main_v11) hb ∗
          (∃ W', owes (c : Thread nD τ) 0 W'))) := by
  simp only [k0_part54_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
  iintro ⟨Harg3, Harg16, Harg17, Harg18, Harg19, Harg23, Harg24, Harg25, Hq0, Hq1, Hq2, Hq3, Hq4, Hq5, Hh0, Hh1, Hh2, HW⟩
  sl_exec
  sl_step
  have a0 : pass1.sl.v498 c arg23 dy farg23 = up4 (rows 128 0 dy) := (load4_0 ..).trans (congrArg _ (copied_band (Memref.whole main_arg6).view 0 _ dy))
  have a1 : pass1.sl.v598 c arg23 dy farg23 = up4 (rows 128 1 dy) := (load4_1 ..).trans (congrArg _ (copied_band (Memref.whole main_arg6).view 128 _ dy))
  have a2 : pass1.sl.v698 c arg23 dy farg23 = up4 (rows 128 2 dy) := (load4_0 ..).trans (congrArg _ (copied_band (Memref.whole main_arg6).view 256 _ dy))
  have a3 : pass1.sl.v798 c arg23 dy farg23 = up4 (rows 128 3 dy) := (load4_1 ..).trans (congrArg _ (copied_band (Memref.whole main_arg6).view 384 _ dy))
  have a4 : pass1.sl.v898 c arg23 dy farg23 = up4 (rows 128 4 dy) := (load4_0 ..).trans (congrArg _ (copied_band (Memref.whole main_arg6).view 512 _ dy))
  have a5 : pass1.sl.v998 c arg23 dy farg23 = up4 (rows 128 5 dy) := (load4_1 ..).trans (congrArg _ (copied_band (Memref.whole main_arg6).view 640 _ dy))
  have a6 : pass1.sl.v1098 c arg23 dy farg23 = up4 (rows 128 6 dy) := (load4_0 ..).trans (congrArg _ (copied_band (Memref.whole main_arg6).view 768 _ dy))
  have a7 : pass1.sl.v1198 c arg23 dy farg23 = up4 (rows 128 7 dy) := (load4_1 ..).trans (congrArg _ (copied_band (Memref.whole main_arg6).view 896 _ dy))
  have a8 : pass1.sl.v1298 c arg23 dy farg23 = up4 (rows 128 8 dy) := (load4_0 ..).trans (congrArg _ (copied_band (Memref.whole main_arg6).view 1024 _ dy))
  have a9 : pass1.sl.v1398 c arg23 dy farg23 = up4 (rows 128 9 dy) := (load4_1 ..).trans (congrArg _ (copied_band (Memref.whole main_arg6).view 1152 _ dy))
  have a10 : pass1.sl.v1498 c arg23 dy farg23 = up4 (rows 128 10 dy) := (load4_0 ..).trans (congrArg _ (copied_band (Memref.whole main_arg6).view 1280 _ dy))
  have a11 : pass1.sl.v1598 c arg23 dy farg23 = up4 (rows 128 11 dy) := (load4_1 ..).trans (congrArg _ (copied_band (Memref.whole main_arg6).view 1408 _ dy))
  have a12 : pass1.sl.v1698 c arg23 dy farg23 = up4 (rows 128 12 dy) := (load4_0 ..).trans (congrArg _ (copied_band (Memref.whole main_arg6).view 1536 _ dy))
  have a13 : pass1.sl.v1798 c arg23 dy farg23 = up4 (rows 128 13 dy) := (load4_1 ..).trans (congrArg _ (copied_band (Memref.whole main_arg6).view 1664 _ dy))
  have a14 : pass1.sl.v1898 c arg23 dy farg23 = up4 (rows 128 14 dy) := (load4_0 ..).trans (congrArg _ (copied_band (Memref.whole main_arg6).view 1792 _ dy))
  have a15 : pass1.sl.v1998 c arg23 dy farg23 = up4 (rows 128 15 dy) := (load4_1 ..).trans (congrArg _ (copied_band (Memref.whole main_arg6).view 1920 _ dy))
  have a16 : pass1.sl.v2083 c arg23 dy farg23 = up4 (rows 128 16 dy) := (load4 ..).trans (congrArg _ (copied_band (Memref.whole main_arg6).view 2048 _ dy))
  have b0 : pass1.sl.v502 c arg24 r farg24 = up3 (rows 128 0 r) := (load3_0 ..).trans (congrArg _ (copied_band (Memref.whole main_v9).view 0 _ r))
  have b1 : pass1.sl.v602 c arg24 r farg24 = up3 (rows 128 1 r) := (load3_1 ..).trans (congrArg _ (copied_band (Memref.whole main_v9).view 128 _ r))
  have b2 : pass1.sl.v702 c arg24 r farg24 = up3 (rows 128 2 r) := (load3_0 ..).trans (congrArg _ (copied_band (Memref.whole main_v9).view 256 _ r))
  have b3 : pass1.sl.v802 c arg24 r farg24 = up3 (rows 128 3 r) := (load3_1 ..).trans (congrArg _ (copied_band (Memref.whole main_v9).view 384 _ r))
  have b4 : pass1.sl.v902 c arg24 r farg24 = up3 (rows 128 4 r) := (load3_0 ..).trans (congrArg _ (copied_band (Memref.whole main_v9).view 512 _ r))
  have b5 : pass1.sl.v1002 c arg24 r farg24 = up3 (rows 128 5 r) := (load3_1 ..).trans (congrArg _ (copied_band (Memref.whole main_v9).view 640 _ r))
  have b6 : pass1.sl.v1102 c arg24 r farg24 = up3 (rows 128 6 r) := (load3_0 ..).trans (congrArg _ (copied_band (Memref.whole main_v9).view 768 _ r))
  have b7 : pass1.sl.v1202 c arg24 r farg24 = up3 (rows 128 7 r) := (load3_1 ..).trans (congrArg _ (copied_band (Memref.whole main_v9).view 896 _ r))
  have b8 : pass1.sl.v1302 c arg24 r farg24 = up3 (rows 128 8 r) := (load3_0 ..).trans (congrArg _ (copied_band (Memref.whole main_v9).view 1024 _ r))
  have b9 : pass1.sl.v1402 c arg24 r farg24 = up3 (rows 128 9 r) := (load3_1 ..).trans (congrArg _ (copied_band (Memref.whole main_v9).view 1152 _ r))
  have b10 : pass1.sl.v1502 c arg24 r farg24 = up3 (rows 128 10 r) := (load3_0 ..).trans (congrArg _ (copied_band (Memref.whole main_v9).view 1280 _ r))
  have b11 : pass1.sl.v1602 c arg24 r farg24 = up3 (rows 128 11 r) := (load3_1 ..).trans (congrArg _ (copied_band (Memref.whole main_v9).view 1408 _ r))
  have b12 : pass1.sl.v1702 c arg24 r farg24 = up3 (rows 128 12 r) := (load3_0 ..).trans (congrArg _ (copied_band (Memref.whole main_v9).view 1536 _ r))
  have b13 : pass1.sl.v1802 c arg24 r farg24 = up3 (rows 128 13 r) := (load3_1 ..).trans (congrArg _ (copied_band (Memref.whole main_v9).view 1664 _ r))
  have b14 : pass1.sl.v1902 c arg24 r farg24 = up3 (rows 128 14 r) := (load3_0 ..).trans (congrArg _ (copied_band (Memref.whole main_v9).view 1792 _ r))
  have b15 : pass1.sl.v2002 c arg24 r farg24 = up3 (rows 128 15 r) := (load3_1 ..).trans (congrArg _ (copied_band (Memref.whole main_v9).view 1920 _ r))
  have b16 : pass1.sl.v2087 c arg24 r farg24 = up3 (rows 128 16 r) := (load3 ..).trans (congrArg _ (copied_band (Memref.whole main_v9).view 2048 _ r))
  have h0 : pass1.sl.v562 c arg25 hb farg25 = up3 (rows 128 0 hb) := (load3_0 ..).trans (congrArg _ (copied_band (Memref.whole main_v11).view 0 _ hb))
  have h1 : pass1.sl.v662 c arg25 hb farg25 = up3 (rows 128 1 hb) := (load3_1 ..).trans (congrArg _ (copied_band (Memref.whole main_v11).view 128 _ hb))
  have h2 : pass1.sl.v762 c arg25 hb farg25 = up3 (rows 128 2 hb) := (load3_0 ..).trans (congrArg _ (copied_band (Memref.whole main_v11).view 256 _ hb))
  have h3 : pass1.sl.v862 c arg25 hb farg25 = up3 (rows 128 3 hb) := (load3_1 ..).trans (congrArg _ (copied_band (Memref.whole main_v11).view 384 _ hb))
  have h4 : pass1.sl.v962 c arg25 hb farg25 = up3 (rows 128 4 hb) := (load3_0 ..).trans (congrArg _ (copied_band (Memref.whole main_v11).view 512 _ hb))
  have h5 : pass1.sl.v1062 c arg25 hb farg25 = up3 (rows 128 5 hb) := (load3_1 ..).trans (congrArg _ (copied_band (Memref.whole main_v11).view 640 _ hb))
  have h6 : pass1.sl.v1162 c arg25 hb farg25 = up3 (rows 128 6 hb) := (load3_0 ..).trans (congrArg _ (copied_band (Memref.whole main_v11).view 768 _ hb))
  have h7 : pass1.sl.v1262 c arg25 hb farg25 = up3 (rows 128 7 hb) := (load3_1 ..).trans (congrArg _ (copied_band (Memref.whole main_v11).view 896 _ hb))
  have h8 : pass1.sl.v1362 c arg25 hb farg25 = up3 (rows 128 8 hb) := (load3_0 ..).trans (congrArg _ (copied_band (Memref.whole main_v11).view 1024 _ hb))
  have h9 : pass1.sl.v1462 c arg25 hb farg25 = up3 (rows 128 9 hb) := (load3_1 ..).trans (congrArg _ (copied_band (Memref.whole main_v11).view 1152 _ hb))
  have h10 : pass1.sl.v1562 c arg25 hb farg25 = up3 (rows 128 10 hb) := (load3_0 ..).trans (congrArg _ (copied_band (Memref.whole main_v11).view 1280 _ hb))
  have h11 : pass1.sl.v1662 c arg25 hb farg25 = up3 (rows 128 11 hb) := (load3_1 ..).trans (congrArg _ (copied_band (Memref.whole main_v11).view 1408 _ hb))
  have h12 : pass1.sl.v1762 c arg25 hb farg25 = up3 (rows 128 12 hb) := (load3_0 ..).trans (congrArg _ (copied_band (Memref.whole main_v11).view 1536 _ hb))
  have h13 : pass1.sl.v1862 c arg25 hb farg25 = up3 (rows 128 13 hb) := (load3_1 ..).trans (congrArg _ (copied_band (Memref.whole main_v11).view 1664 _ hb))
  have h14 : pass1.sl.v1962 c arg25 hb farg25 = up3 (rows 128 14 hb) := (load3_0 ..).trans (congrArg _ (copied_band (Memref.whole main_v11).view 1792 _ hb))
  have h15 : pass1.sl.v2062 c arg25 hb farg25 = up3 (rows 128 15 hb) := (load3_1 ..).trans (congrArg _ (copied_band (Memref.whole main_v11).view 1920 _ hb))
  isplitl [Harg3]
  · iexact Harg3
  isplitl [Harg16]
  · iapply (holds_unread c arg16 harg16 _); iexists _; isplitr
    swap; · iexact Harg16
    ipureintro
    refine read_writes_of_pieces _ _ _ _ ?_ (View.cover_of_tiled _ ![128, 1024] (by rfl))
    repeat' refine List.forall_mem_cons.2 ⟨fun x => ?_, ?_⟩
    on_goal 18 => exact fun p hp => absurd hp List.not_mem_nil
    all_goals
      refine Eq.trans ?_ (byRows_at (N := 2176) (C := 1024) (n := 128) _ (by decide) x (by rfl))
      simp only [Nat.reduceDiv, Nat.zero_div, ← a0, ← b0, ← a1, ← b1, ← a2, ← b2, ← a3, ← b3, ← a4, ← b4, ←
        a5, ← b5, ← a6, ← b6, ← a7, ← b7, ← a8, ← b8, ← a9, ← b9, ← a10, ← b10, ← a11, ← b11, ← a12, ← b12, ←
        a13, ← b13, ← a14, ← b14, ← a15, ← b15, ← a16, ← b16]
      rfl
  isplitl [Harg19]
  · iapply (holds_unread c arg19 harg19 _); iexists _; isplitr
    swap; · iexact Harg19
    ipureintro
    refine read_writes_of_pieces _ _ _ _ ?_ (View.cover_of_tiled _ ![128, 1024] (by rfl))
    repeat' refine List.forall_mem_cons.2 ⟨fun x => ?_, ?_⟩
    on_goal 18 => exact fun p hp => absurd hp List.not_mem_nil
    all_goals
      refine Eq.trans ?_ (byRows_at (N := 2176) (C := 1024) (n := 128) _ (by decide) x (by rfl))
      simp only [Nat.reduceDiv, Nat.zero_div, ← a0, ← b0, ← a1, ← b1, ← a2, ← b2, ← a3, ← b3, ← a4, ← b4, ←
        a5, ← b5, ← a6, ← b6, ← a7, ← b7, ← a8, ← b8, ← a9, ← b9, ← a10, ← b10, ← a11, ← b11, ← a12, ← b12, ←
        a13, ← b13, ← a14, ← b14, ← a15, ← b15, ← a16, ← b16]
      rfl
  isplitl [Harg18]
  · iexists _; isplitr
    swap; · iexact Harg18
    ipureintro
    refine read_writes_of_pieces arg18.view farg18 (_ :: _) _ ?_ (View.cover_of_tiled _ ![1024, 128] (by rfl))
    repeat' refine List.forall_mem_cons.2 ⟨fun x => ?_, ?_⟩
    on_goal 18 => exact fun p hp => absurd hp List.not_mem_nil
    all_goals
      refine Eq.trans ?_ (byCols_at (N := 2176) (R := 1024) (n := 128) _ (by decide) x (by rfl))
      simp only [Nat.reduceDiv, Nat.zero_div, ← a0, ← b0, ← a1, ← b1, ← a2, ← b2, ← a3, ← b3, ← a4, ← b4, ←
        a5, ← b5, ← a6, ← b6, ← a7, ← b7, ← a8, ← b8, ← a9, ← b9, ← a10, ← b10, ← a11, ← b11, ← a12, ← b12, ←
        a13, ← b13, ← a14, ← b14, ← a15, ← b15, ← a16, ← b16]
      rfl
  isplitl [Harg17 Harg25]
  · iexists _, _; isplitr
    swap; · isplitl [Harg17]; · iexact Harg17
            iexact Harg25
    ipureintro
    refine read_writes_of_pieces arg17.view farg17 (_ :: _) _ ?_ (View.cover_of_tiled _ ![1024, 128] (by rfl))
    repeat' refine List.forall_mem_cons.2 ⟨fun x => ?_, ?_⟩
    on_goal 18 => exact fun p hp => absurd hp List.not_mem_nil
    all_goals
      refine Eq.trans ?_ (byCols_at (N := 2176) (R := 1024) (n := 128) _ (by decide) x (by rfl))
      simp only [Nat.reduceDiv, Nat.zero_div, ← h0, ← h1, ← h2, ← h3, ← h4, ← h5, ← h6, ← h7, ← h8, ← h9, ←
        h10, ← h11, ← h12, ← h13, ← h14, ← h15]
      first
      | rfl
      | iterate 4 sl_unfold_run_names
        rw [load3, copied_band]
        rfl
  isplitr
  · ipureintro
    simp only [sumDg, ← a0, ← b0, ← a1, ← b1, ← a2, ← b2, ← a3, ← b3, ← a4, ← b4, ← a5, ← b5, ← a6, ← b6, ← a7,
      ← b7, ← a8, ← b8, ← a9, ← b9, ← a10, ← b10, ← a11, ← b11, ← a12, ← b12, ← a13, ← b13, ← a14, ← b14, ← a15,
      ← b15, ← a16, ← b16]
    rfl
  isplitr
  · ipureintro
    simp only [sumDb, ← a0, ← b0, ← a1, ← b1, ← a2, ← b2, ← a3, ← b3, ← a4, ← b4, ← a5, ← b5, ← a6, ← b6, ← a7,
      ← b7, ← a8, ← b8, ← a9, ← b9, ← a10, ← b10, ← a11, ← b11, ← a12, ← b12, ← a13, ← b13, ← a14, ← b14, ← a15,
      ← b15, ← a16, ← b16]
    rfl
  isplitl [Harg23]
  · iexists _; iexact Harg23
  isplitl [Harg24]
  · iexists _; iexact Harg24
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  isplitl [Hh2]; · iexact Hh2
  iexists _; iexact HW

end Cert.KernelIdeal.Gen

end
-- ==== Proof.Gate.lean ====
module

public import proofs.«01_k».proof.Proof.Chunk
public import Idealize.ShloMosaic.Lib.VecWindow

@[expose] public section

/-!
  # One grid point's work on its 256 columns of the hidden layer

  At every grid point the kernel walks over eight bands of 272 rows. From a band of the upstream gradient and of the
  saved pre-activations it makes a band of the two gate gradients and of the activations, and adds a band's share to the
  input gradient. The matrices here are what the four buffers hold when the walk is over.
-/

noncomputable section

namespace Cert.KernelIdeal.Gen

open Idealize.ShloMosaic Idealize.ShloMosaic.TcCoe Ffn

variable {F : FTy → Type} [FloatOps F]

/-- The `k`th band of 272 rows of a point's block of pre-activations. -/
def band (k : ℕ) (x : Vec F S1x2176x256 .bf16) : Vec F S1x272x256 .bf16 :=
  fun j => x (ix3 (0 : Fin 1) (⟨(k * 272 + (j 1 : Fin 272).val) % 2176, Nat.mod_lt _ (by decide)⟩ : Fin 2176) (j 2 : Fin 256))

variable (df : Vec F S2176x1024 .bf16) (wd wg wu : Vec F S256x1024 .bf16) (u v : Vec F S1x2176x256 .bf16)
  (dh : Vec F S2176x1024 .f32)

/-- The gradient of the gated pre-activation. -/
def allDu : Vec F S2176x256 .bf16 :=
  byRows (N := 2176) (C := 256) 272 fun k => k0_pay247 (rows (N := 2176) (C := 1024) 272 k df) wd (band k u) (band k v)

/-- The gradient of the linear pre-activation. -/
def allDv : Vec F S2176x256 .bf16 :=
  byRows (N := 2176) (C := 256) 272 fun k => k0_pay248 (k0_pay246 (rows (N := 2176) (C := 1024) 272 k df) wd (band k u))

/-- The activations. -/
def allAc : Vec F S2176x256 .bf16 :=
  byRows (N := 2176) (C := 256) 272 fun k => k0_pay249 (k0_pay242 (band k u)) (k0_pay243 (band k v)) (k0_pay244 (band k u))

/-- The input gradient with this point's share added. -/
def nextDh : Vec F S2176x1024 .f32 :=
  byRows (N := 2176) (C := 1024) 272 fun k =>
    k0_pay250 (k0_pay245 (rows (N := 2176) (C := 1024) 272 k df) wd (band k u) (band k v))
      (k0_pay246 (rows (N := 2176) (C := 1024) 272 k df) wd (band k u)) (rows (N := 2176) (C := 1024) 272 k dh) wg wu

section Loads
variable {e : EltTy} {Val : EltTy → Type}

/-- A load of a whole buffer with known contents. -/
theorem load_whole {S : Shape} (M : Memref sig .tc .vmem S e) (hM : M.IsWhole) (X : S.Idx → Val e) {off : Fin S.rank → ℕ} (inb) :
    M.view.readAt Val (Rect.unit (s := S) off S.size inb).toLoadRect (hM.unread X) = X := by
  rw [View.readAt_full, hM.read_unread]

/-- A load of a whole buffer that the stores before it have covered. -/
theorem load_covered [∀ e, Nonempty (Val e)] {S : Shape} {sp : Space} (v : View sig .tc sp S e) (L : List (View.Piece Val S e)) (G : S.Idx → Val e)
    {off : Fin S.rank → ℕ} (inb) (hL : ∀ p ∈ L, ∀ x, p.2 x = G (p.1.emb x)) (hc : ∀ y, ∃ p ∈ L, y ∈ p.1.set) :
    v.readCov L (Rect.unit (s := S) off S.size inb).toLoadRect = G :=
  (View.readAt_full v _ inb).trans (read_writes_of_pieces v _ L G hL hc)

/-- A load of 272 rows of a buffer with known contents. -/
theorem load_rows (M : Memref sig .tc .vmem S2176x1024 e) (hM : M.IsWhole) (X : S2176x1024.Idx → Val e) (o : ℕ) (inb) :
    M.view.readAt Val (Rect.unit (s := S2176x1024) ![o, 0] S272x1024.size inb).toLoadRect (hM.unread X)
      = rowsFrom (N := 2176) (C := 1024) 272 o X := by
  funext x
  refine Eq.trans ?_ (unit_rowsFrom (N := 2176) (C := 1024) (n := 272) X inb x)
  exact congrFun (hM.read_unread X) _

/-- A load of 272 rows of a block of pre-activations. -/
theorem load_band (M : Memref sig .tc .vmem S1x2176x256 .bf16) (hM : M.IsWhole) (X : Vec F S1x2176x256 .bf16) (o : ℕ) (inb)
    (ho : o / 272 * 272 = o) :
    M.view.readAt (Elt F) (Rect.unit (s := S1x2176x256) ![0, o, 0] S1x272x256.size inb).toLoadRect (hM.unread X) = band (o / 272) X := by
  funext x
  refine Eq.trans (congrFun (hM.read_unread X) _) ?_
  unfold band
  refine congrArg X (funext fun a => ?_)
  have h1 : (x 1).val < 272 := (x 1).isLt
  have h0 : (x 0).val < 1 := (x 0).isLt
  have hb : o + 272 ≤ 2176 := inb 1
  match a with
  | ⟨0, _⟩ => refine Fin.ext ?_; show 0 + 1 * (x 0).val = 0; omega
  | ⟨1, _⟩ =>
    refine Fin.ext ?_
    show o + 1 * (x 1).val = (o / 272 * 272 + (x 1).val) % 2176
    rw [ho, Nat.mod_eq_of_lt (by omega)]; omega
  | ⟨2, _⟩ => refine Fin.ext ?_; show 0 + 1 * (x 2).val = (x 2).val; omega

end Loads

/-- The word that says whether the point is the grid's last. -/
abbrev lastWord (i : grid0.Coords) : BitVec 1 :=
  Scalar.cmpi .ne (Scalar.extui (Scalar.cmpi .eq (BitVec.ofNat 32 (i 0).val) 10#32)) 0#32

end Cert.KernelIdeal.Gen

end
-- ==== Proof.Entry.lean ====
module

public import proofs.«01_k».proof.Proof.Pass1
public import proofs.«01_k».proof.Proof.Gate
public import proofs.«01_k».proof.Proof.Gen.KernelIdeal.Points
public import Idealize.ShloMosaic.Lib.Pipeline.FrameValue

@[expose] public section

/-!
  # What the launch hands the grid

  The buffers the kernel's body names at a grid point, the cells it signals on, and the launch's invariant written out
  over them.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to the grid, over the algebra that counts transfers. -/
theorem hmain_counted (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- The body takes its first branch at the first point only. -/
theorem at_first (t : Fin cfg0.N) : k0_cond1 (grid0.coords t) = 1#1 ↔ t.val = 0 := by
  have ht : t.val < 11 := Nat.lt_of_lt_of_eq t.isLt N_0
  have e0 : (grid0.coords t 0).val = t.val / 1 % 11 := Pipeline.Grid.coords_val t 0 (by decide) rfl
  refine Iff.trans (b := t.val % 11 = 0) ?_ (by omega)
  simp only [k0_cond1, e0]
  word_cmp

/-- The body takes its other two branches at the last point only. -/
theorem at_last (t : Fin cfg0.N) : lastWord (grid0.coords t) = 1#1 ↔ t.val = 10 := by
  have ht : t.val < 11 := Nat.lt_of_lt_of_eq t.isLt N_0
  have e0 : (grid0.coords t 0).val = t.val / 1 % 11 := Pipeline.Grid.coords_val t 0 (by decide) rfl
  refine Iff.trans (b := t.val % 11 = 10) ?_ (by omega)
  simp only [lastWord, e0]
  word_cmp

abbrev stg0 (t : Fin cfg0.N) : Memref sig .tc .vmem S1x1024 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S1x2176x256 .bf16 := win0_1.stage (cfg0.slots t 1)
abbrev whole1 (t : Fin cfg0.N) : (stg1 t).IsWhole := hstage0_1 ((cfg0.slots t 1).cast nbuf0_1)
abbrev stg2 (t : Fin cfg0.N) : Memref sig .tc .vmem S1x2176x256 .bf16 := win0_2.stage (cfg0.slots t 2)
abbrev whole2 (t : Fin cfg0.N) : (stg2 t).IsWhole := hstage0_2 ((cfg0.slots t 2).cast nbuf0_2)
abbrev stg3 (t : Fin cfg0.N) : Memref sig .tc .vmem S256x1024 .bf16 := win0_3.stage (cfg0.slots t 3)
abbrev whole3 (t : Fin cfg0.N) : (stg3 t).IsWhole := hstage0_3 ((cfg0.slots t 3).cast nbuf0_3)
abbrev stg4 (t : Fin cfg0.N) : Memref sig .tc .vmem S256x1024 .bf16 := win0_4.stage (cfg0.slots t 4)
abbrev whole4 (t : Fin cfg0.N) : (stg4 t).IsWhole := hstage0_4 ((cfg0.slots t 4).cast nbuf0_4)
abbrev stg5 (t : Fin cfg0.N) : Memref sig .tc .vmem S256x1024 .bf16 := win0_5.stage (cfg0.slots t 5)
abbrev whole5 (t : Fin cfg0.N) : (stg5 t).IsWhole := hstage0_5 ((cfg0.slots t 5).cast nbuf0_5)
abbrev stg6 (t : Fin cfg0.N) : Memref sig .tc .vmem S256x1024 .bf16 := win0_6.stage (cfg0.slots t 6)
abbrev whole6 (t : Fin cfg0.N) : (stg6 t).IsWhole := hstage0_6 ((cfg0.slots t 6).cast nbuf0_6)
abbrev stg7 (t : Fin cfg0.N) : Memref sig .tc .vmem S256x1024 .bf16 := win0_7.stage (cfg0.slots t 7)
abbrev whole7 (t : Fin cfg0.N) : (stg7 t).IsWhole := hstage0_7 ((cfg0.slots t 7).cast nbuf0_7)
abbrev stg8 (t : Fin cfg0.N) : Memref sig .tc .vmem S256x1024 .bf16 := win0_8.stage (cfg0.slots t 8)
abbrev whole8 (t : Fin cfg0.N) : (stg8 t).IsWhole := hstage0_8 ((cfg0.slots t 8).cast nbuf0_8)
abbrev stg9 (t : Fin cfg0.N) : Memref sig .tc .vmem S1x1024 .f32 := win0_9.stage (cfg0.slots t 9)
abbrev whole9 (t : Fin cfg0.N) : (stg9 t).IsWhole := hstage0_9 ((cfg0.slots t 9).cast nbuf0_9)
abbrev stg10 (t : Fin cfg0.N) : Memref sig .tc .vmem S1x1024 .f32 := win0_10.stage (cfg0.slots t 10)
abbrev whole10 (t : Fin cfg0.N) : (stg10 t).IsWhole := hstage0_10 ((cfg0.slots t 10).cast nbuf0_10)

abbrev sc0 : Memref sig .tc .vmem S2176x1024 .bf16 := Memref.whole cc0_scratch0
abbrev sc1 : Memref sig .tc .vmem S1024x2176 .bf16 := Memref.whole cc0_scratch1
abbrev sc2 : Memref sig .tc .vmem S1024x2176 .bf16 := Memref.whole cc0_scratch2
abbrev sc3 : Memref sig .tc .vmem S2176x1024 .f32 := Memref.whole cc0_scratch3
abbrev sc4 : Memref sig .tc .vmem S2176x256 .bf16 := Memref.whole cc0_scratch4
abbrev sc5 : Memref sig .tc .vmem S2176x256 .bf16 := Memref.whole cc0_scratch5
abbrev sc6 : Memref sig .tc .vmem S2176x256 .bf16 := Memref.whole cc0_scratch6
abbrev sc7 : Memref sig .tc .vmem S2x1x128x1024 .f32 := Memref.whole cc0_scratch7
abbrev sc8 : Memref sig .tc .vmem S2x128x1024 .f32 := Memref.whole cc0_scratch8
abbrev sc9 : Memref sig .tc .vmem S2x128x1024 .bf16 := Memref.whole cc0_scratch9

/-- The cells the body signals its own transfers on. -/
abbrev ownCells : Fin 7 → SemLoc sig := ![SemLoc.dma 19, SemLoc.dma 20, SemLoc.dma 21, SemLoc.dma 22, SemLoc.dma 23, SemLoc.dma 24, SemLoc.dma 25]

theorem ownCells_facts : Pipeline.OwnSemFacts spec0 ownCells := by decide

/-- The operands the body only reads, by its own transfers. -/
def readRefs : Finset (Ref sig .tc) := {main_arg6, main_v9, main_v11}
/-- The result the body writes, by its own transfer. -/
def dhRef : Finset (Ref sig .tc) := {main_v23_0}

theorem readRefs_sub : readRefs ⊆ Pipeline.restRefs sig spec0 := by decide
theorem dhRef_sub : dhRef ⊆ Pipeline.restRefs sig spec0 \ readRefs := by decide

theorem ownCells_eq (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) := by
  rw [Pipeline.ownSems0_eq_of_list c ownCells [0, 1, 2, 3, 4, 5, 6] (by decide) (by decide)]; rfl

theorem readRefs_eq (c : Dev nD) :
    (bigSep readRefs (fun b => ((c : Thread nD τ).loc b) ↦{fullShare} V m c b) : sProp 𝕄)
      = iprop(holds c (Memref.whole main_arg6) (V m c main_arg6) ∗ holds c (Memref.whole main_v9) (V m c main_v9) ∗ holds c (Memref.whole main_v11) (V m c main_v11)) := by
  rw [BI.bigSep_eq_bigSepL_of_eq [main_arg6, main_v9, main_v11] (by decide) (by decide)]; rfl

theorem dhRef_eq (c : Dev nD) (G : (b : Ref sig .tc) → Buf (Elt F) ((c : Thread nD τ).loc b)) :
    (Pipeline.routed dhRef c G : sProp 𝕄) = holds c (Memref.whole main_v23_0) (G main_v23_0) := by
  unfold Pipeline.routed; rw [BI.bigSep_eq_bigSepL_of_eq [main_v23_0] (by decide) (by decide)]; rfl

/-- The launch's invariant, conjunct by conjunct: the scratch buffers at any contents, the generator register, the cells
    at zero, the operands read, and the result at given contents. -/
theorem entry_eq (c : Dev nD) (G : (c : Dev nD) → (b : Ref sig .tc) → Buf (Elt F) ((c : Thread nD τ).loc b)) :
    (Pipeline.ΦDRG ownCells spec0 readRefs dhRef (V m) G c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)
          ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0)
          ∗ iprop(holds c (Memref.whole main_arg6) (V m c main_arg6) ∗ holds c (Memref.whole main_v9) (V m c main_v9) ∗ holds c (Memref.whole main_v11) (V m c main_v11))
          ∗ holds c (Memref.whole main_v23_0) (G c main_v23_0)) := by
  rw [Pipeline.ΦDRG_eq, scopedRest0_eq, ownCells_eq, readRefs_eq, dhRef_eq]; simp only [sc0, sc1, sc2, sc3, sc4, sc5, sc6, sc7, sc8, sc9, owns_whole]; try rfl

end Cert.KernelIdeal.Gen

end
-- ==== Proof.RunA.lean ====
module

public import proofs.«01_k».proof.Proof.Gate
public import proofs.«01_k».proof.Proof.Pass1
public import Idealize.ShloMosaic.Lib.Tactic

@[expose] public section

/-!
  # The first grid point
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn

variable {F : FTy → Type} [FloatOps F]

local notation "𝕄" => MT nD τ sig Unit (Elt F) ℕ (Pipeline.UD sig nD τ) ℕ

set_option maxHeartbeats 5396000 in
set_option sl_exec.dmaWindow true in
set_option sl_exec.dmaWindowSet true in
theorem runA (c : Dev nD) (i : grid0.Coords)

    (arg3 : Memref sig .tc .vmem S1x1024 .f32) (harg3 : arg3.IsWhole)
    (arg5 : Memref sig .tc .vmem S1x2176x256 .bf16) (harg5 : arg5.IsWhole) (arg6 : Memref sig .tc .vmem S1x2176x256 .bf16) (harg6 : arg6.IsWhole)
    (arg7 : Memref sig .tc .vmem S256x1024 .bf16) (harg7 : arg7.IsWhole) (arg8 : Memref sig .tc .vmem S256x1024 .bf16) (harg8 : arg8.IsWhole)
    (arg9 : Memref sig .tc .vmem S256x1024 .bf16) (harg9 : arg9.IsWhole)
    (arg11 : Memref sig .tc .vmem S256x1024 .bf16) (harg11 : arg11.IsWhole) (arg12 : Memref sig .tc .vmem S256x1024 .bf16) (harg12 : arg12.IsWhole)
    (arg13 : Memref sig .tc .vmem S256x1024 .bf16) (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S2176x1024 .bf16) (harg16 : arg16.IsWhole)
    (arg17 : Memref sig .tc .vmem S1024x2176 .bf16) (harg17 : arg17.IsWhole) (arg18 : Memref sig .tc .vmem S1024x2176 .bf16) (harg18 : arg18.IsWhole)
    (arg19 : Memref sig .tc .vmem S2176x1024 .f32) (harg19 : arg19.IsWhole) (arg20 : Memref sig .tc .vmem S2176x256 .bf16) (harg20 : arg20.IsWhole)
    (arg21 : Memref sig .tc .vmem S2176x256 .bf16) (harg21 : arg21.IsWhole) (arg22 : Memref sig .tc .vmem S2176x256 .bf16) (harg22 : arg22.IsWhole)
    (arg23 : Memref sig .tc .vmem S2x1x128x1024 .f32) (harg23 : arg23.IsWhole) (arg24 : Memref sig .tc .vmem S2x128x1024 .f32) (harg24 : arg24.IsWhole)
    (arg25 : Memref sig .tc .vmem S2x128x1024 .bf16) (harg25 : arg25.IsWhole)
    (hc0 : k0_cond1 i = 1#1) (hc1 : ¬ lastWord i = 1#1)
    (g : Vec F S1x1024 .f32) (u : Vec F S1x2176x256 .bf16) (v : Vec F S1x2176x256 .bf16) (wg : Vec F S256x1024 .bf16) (wu : Vec F S256x1024 .bf16) (wd : Vec F S256x1024 .bf16)
    (dy : Cont (F := F) c (Memref.whole main_arg6)) (r : Cont (F := F) c (Memref.whole main_v9)) (hb : Cont (F := F) c (Memref.whole main_v11)) (W : Waits sig Unit) (K : PUnit → sProp 𝕄) :
    iprop(owns (c : Thread nD τ) arg3 fullShare g ∗
      owns (c : Thread nD τ) arg5 fullShare u ∗
      owns (c : Thread nD τ) arg6 fullShare v ∗
      owns (c : Thread nD τ) arg7 fullShare wg ∗
      owns (c : Thread nD τ) arg8 fullShare wu ∗
      owns (c : Thread nD τ) arg9 fullShare wd ∗
      (∃ d, owns (c : Thread nD τ) arg11 fullShare d) ∗
      (∃ d, owns (c : Thread nD τ) arg12 fullShare d) ∗
      (∃ d, owns (c : Thread nD τ) arg13 fullShare d) ∗
      (∃ d, owns (c : Thread nD τ) arg14 fullShare d) ∗
      (∃ d, owns (c : Thread nD τ) arg15 fullShare d) ∗
      (∃ d, owns (c : Thread nD τ) arg16 fullShare d) ∗
      (∃ d, owns (c : Thread nD τ) arg17 fullShare d) ∗
      (∃ d, owns (c : Thread nD τ) arg18 fullShare d) ∗
      (∃ d, owns (c : Thread nD τ) arg19 fullShare d) ∗
      (∃ d, owns (c : Thread nD τ) arg20 fullShare d) ∗
      (∃ d, owns (c : Thread nD τ) arg21 fullShare d) ∗
      (∃ d, owns (c : Thread nD τ) arg22 fullShare d) ∗
      (∃ d, owns (c : Thread nD τ) arg23 fullShare d) ∗
      (∃ d, owns (c : Thread nD τ) arg24 fullShare d) ∗
      (∃ d, owns (c : Thread nD τ) arg25 fullShare d) ∗
      semVal ((c : Thread nD τ), SemLoc.dma 19) 0 ∗
      semVal ((c : Thread nD τ), SemLoc.dma 20) 0 ∗
      semVal ((c : Thread nD τ), SemLoc.dma 21) 0 ∗
      semVal ((c : Thread nD τ), SemLoc.dma 22) 0 ∗
      semVal ((c : Thread nD τ), SemLoc.dma 23) 0 ∗
      semVal ((c : Thread nD τ), SemLoc.dma 24) 0 ∗
      holds c (Memref.whole main_arg6) dy ∗
      holds c (Memref.whole main_v9) r ∗
      holds c (Memref.whole main_v11) hb ∗
      owes (c : Thread nD τ) 0 W ∗
      (iprop(owns (c : Thread nD τ) arg3 fullShare g ∗
        owns (c : Thread nD τ) arg5 fullShare u ∗
        owns (c : Thread nD τ) arg6 fullShare v ∗
        owns (c : Thread nD τ) arg7 fullShare wg ∗
        owns (c : Thread nD τ) arg8 fullShare wu ∗
        owns (c : Thread nD τ) arg9 fullShare wd ∗
        owns (c : Thread nD τ) arg11 fullShare (k0_pay329 (allHT hb) (allDu (allDf dy r g) wd u v)) ∗
        owns (c : Thread nD τ) arg12 fullShare (k0_pay330 (allHT hb) (allDv (allDf dy r g) wd u)) ∗
        owns (c : Thread nD τ) arg13 fullShare (k0_pay331 (allDfT dy r g) (allAc u v)) ∗
        owns (c : Thread nD τ) arg14 fullShare (sumDg dy r 17) ∗
        owns (c : Thread nD τ) arg15 fullShare (sumDb dy 17) ∗
        owns (c : Thread nD τ) arg16 fullShare (allDf dy r g) ∗
        owns (c : Thread nD τ) arg17 fullShare (allHT hb) ∗
        owns (c : Thread nD τ) arg18 fullShare (allDfT dy r g) ∗
        owns (c : Thread nD τ) arg19 fullShare (nextDh (allDf dy r g) wd wg wu u v (allDh dy r g)) ∗
        (∃ d, owns (c : Thread nD τ) arg20 fullShare d) ∗
        (∃ d, owns (c : Thread nD τ) arg21 fullShare d) ∗
        (∃ d, owns (c : Thread nD τ) arg22 fullShare d) ∗
        (∃ d, owns (c : Thread nD τ) arg23 fullShare d) ∗
        (∃ d, owns (c : Thread nD τ) arg24 fullShare d) ∗
        (∃ d, owns (c : Thread nD τ) arg25 fullShare d) ∗
        semVal ((c : Thread nD τ), SemLoc.dma 19) 0 ∗
        semVal ((c : Thread nD τ), SemLoc.dma 20) 0 ∗
        semVal ((c : Thread nD τ), SemLoc.dma 21) 0 ∗
        semVal ((c : Thread nD τ), SemLoc.dma 22) 0 ∗
        semVal ((c : Thread nD τ), SemLoc.dma 23) 0 ∗
        semVal ((c : Thread nD τ), SemLoc.dma 24) 0 ∗
        holds c (Memref.whole main_arg6) dy ∗
        holds c (Memref.whole main_v9) r ∗
        holds c (Memref.whole main_v11) hb ∗
        (∃ W', owes (c : Thread nD τ) 0 W')) -∗ K ⟨⟩))
    ⊢ wp frame (wpE (defs₀ (F := F)) Variants.none c none) Set.univ
        (cc0_ffn_bwd_seq i (Memref.whole main_arg6) (Memref.isWhole_whole _) (Memref.whole main_v9) (Memref.isWhole_whole _) arg3 harg3 (Memref.whole main_v11) (Memref.isWhole_whole _) arg5 harg5 arg6 harg6 arg7 harg7 arg8 harg8 arg9 harg9 (Memref.whole main_v23_0) (Memref.isWhole_whole _) arg11 harg11 arg12 harg12 arg13 harg13 arg14 harg14 arg15 harg15 arg16 harg16 arg17 harg17 arg18 harg18 arg19 harg19 arg20 harg20 arg21 harg21 arg22 harg22 arg23 harg23 arg24 harg24 arg25 harg25 cc0_scratch10 cc0_scratch11) K := by
  simp only [cc0_ffn_bwd_seq_eq_skeleton]; unfold cc0_ffn_bwd_seq_skel
  simp only [k0_part67_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
  unfold owns
  iintro ⟨⟨%f3, %hf3, H3⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hq0, Hq1, Hq2, Hq3, Hq4, Hq5, Hh0, Hh1, Hh2, HW, Hk⟩
  obtain rfl := harg3.eq_unread hf3; obtain rfl := harg5.eq_unread hf5; obtain rfl := harg6.eq_unread hf6; obtain rfl := harg7.eq_unread hf7; obtain rfl := harg8.eq_unread hf8; obtain rfl := harg9.eq_unread hf9
  have hcut := pass1 c i arg3 harg3 arg5 harg5 arg6 harg6 arg7 harg7 arg8 harg8 arg9 harg9 arg11 harg11 arg12 harg12 arg13 harg13 arg14 harg14 arg15 harg15 arg16 harg16 arg17 harg17 arg18 harg18 arg19 harg19 arg20 harg20 arg21 harg21 arg22 harg22 arg23 harg23 arg24 harg24 arg25 harg25 dy r hb (harg3.unread g) f16 f17 f18 f19 f23 f24 f25 W
  rw [show rowAt c arg3 (harg3.unread g) = g from load_whole ..] at hcut
  sl_exec (disch := first | sl_exact hc0 | sl_exact hc1)
  sl_step
  iapply Hk
  isplitl [Hk0_part54_0]
  · iexists _; isplitr; · ipureintro; exact hf3
    iexact Hk0_part54_0
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H11]
  · iexists _; isplitr
    swap; · iexact H11
    ipureintro
    rw [View.read_writes_full]
    refine congrArg₂ _ ((View.readAt_full ..).trans hk0_part54_5) ?_
    iterate 2 sl_unfold_run_names
    refine load_covered _ _ _ _ ?_ (View.cover_of_tiled _ ![272, 256] (by rfl))
    repeat' refine List.forall_mem_cons.2 ⟨fun x => ?_, ?_⟩
    on_goal 9 => exact fun p hp => absurd hp List.not_mem_nil
    all_goals
      refine Eq.trans ?_ (byRows_at (N := 2176) (C := 256) (n := 272) _ (by decide) x (by rfl))
      iterate 6 sl_unfold_run_names
      repeat' first | rw [load_whole] | rw [load_rows] | rw [load_band _ _ _ _ _ (by rfl)]
      try rfl
  isplitl [H12]
  · iexists _; isplitr
    swap; · iexact H12
    ipureintro
    rw [View.read_writes_full]
    refine congrArg₂ _ ((View.readAt_full ..).trans hk0_part54_5) ?_
    iterate 2 sl_unfold_run_names
    refine load_covered _ _ _ _ ?_ (View.cover_of_tiled _ ![272, 256] (by rfl))
    repeat' refine List.forall_mem_cons.2 ⟨fun x => ?_, ?_⟩
    on_goal 9 => exact fun p hp => absurd hp List.not_mem_nil
    all_goals
      refine Eq.trans ?_ (byRows_at (N := 2176) (C := 256) (n := 272) _ (by decide) x (by rfl))
      iterate 6 sl_unfold_run_names
      repeat' first | rw [load_whole] | rw [load_rows] | rw [load_band _ _ _ _ _ (by rfl)]
      try rfl
  isplitl [H13]
  · iexists _; isplitr
    swap; · iexact H13
    ipureintro
    rw [View.read_writes_full]
    refine congrArg₂ _ ((View.readAt_full ..).trans hk0_part54_3) ?_
    iterate 2 sl_unfold_run_names
    refine load_covered _ _ _ _ ?_ (View.cover_of_tiled _ ![272, 256] (by rfl))
    repeat' refine List.forall_mem_cons.2 ⟨fun x => ?_, ?_⟩
    on_goal 9 => exact fun p hp => absurd hp List.not_mem_nil
    all_goals
      refine Eq.trans ?_ (byRows_at (N := 2176) (C := 256) (n := 272) _ (by decide) x (by rfl))
      iterate 6 sl_unfold_run_names
      repeat' first | rw [load_whole] | rw [load_rows] | rw [load_band _ _ _ _ _ (by rfl)]
      try rfl
  isplitl [H14]
  · iexists _; isplitr
    swap; · iexact H14
    ipureintro
    rw [View.read_writes_full]
    exact hk0_part54_8
  isplitl [H15]
  · iexists _; isplitr
    swap; · iexact H15
    ipureintro
    rw [View.read_writes_full]
    exact hk0_part54_9
  isplitl [Hk0_part54_1]
  · iexists _; isplitr; · ipureintro; exact harg16.read_unread _
    iexact Hk0_part54_1
  isplitl [Hk0_part54_6]
  · iexists _; isplitr
    swap; · iexact Hk0_part54_6
    ipureintro
    exact hk0_part54_5
  isplitl [Hk0_part54_4]
  · iexists _; isplitr
    swap; · iexact Hk0_part54_4
    ipureintro
    exact hk0_part54_3
  isplitl [Hk0_part54_2]
  · iexists _; isplitr
    swap; · iexact Hk0_part54_2
    ipureintro
    refine read_writes_of_pieces _ _ _ _ ?_ (View.cover_of_tiled _ ![272, 1024] (by rfl))
    repeat' refine List.forall_mem_cons.2 ⟨fun x => ?_, ?_⟩
    on_goal 9 => exact fun p hp => absurd hp List.not_mem_nil
    all_goals
      refine Eq.trans ?_ (byRows_at (N := 2176) (C := 1024) (n := 272) _ (by decide) x (by rfl))
      iterate 6 sl_unfold_run_names
      repeat' first | rw [load_whole] | rw [load_rows] | rw [load_band _ _ _ _ _ (by rfl)]
      try rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [Hk0_part54_10]
  · iexists _, _; isplitr; swap; · iexact Hk0_part54_10
    ipureintro; rfl
  isplitl [Hk0_part54_11]
  · iexists _, _; isplitr; swap; · iexact Hk0_part54_11
    ipureintro; rfl
  isplitl [Hk0_part54_7]
  · iexists _, _; isplitr; swap; · iexact Hk0_part54_7
    ipureintro; rfl
  iframe Hk0_part54_12 Hk0_part54_13 Hk0_part54_14 Hk0_part54_15 Hk0_part54_16 Hk0_part54_17 Hk0_part54_18 Hk0_part54_19 Hk0_part54_20
  iexists _; iexact Hk0_part54_21

end Cert.KernelIdeal.Gen

end
-- ==== Proof.RunB.lean ====
module

public import proofs.«01_k».proof.Proof.Gate
public import proofs.«01_k».proof.Proof.Gen.KernelIdeal.Frame
public import Idealize.ShloMosaic.Lib.Tactic

@[expose] public section

/-!
  # A grid point that is neither the first nor the last
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn

variable {F : FTy → Type} [FloatOps F]

local notation "𝕄" => MT nD τ sig Unit (Elt F) ℕ (Pipeline.UD sig nD τ) ℕ

set_option maxHeartbeats 5396000 in
set_option sl_exec.dmaWindow true in
set_option sl_exec.dmaWindowSet true in
theorem runB (c : Dev nD) (i : grid0.Coords)

    (arg3 : Memref sig .tc .vmem S1x1024 .f32) (harg3 : arg3.IsWhole)
    (arg5 : Memref sig .tc .vmem S1x2176x256 .bf16) (harg5 : arg5.IsWhole) (arg6 : Memref sig .tc .vmem S1x2176x256 .bf16) (harg6 : arg6.IsWhole)
    (arg7 : Memref sig .tc .vmem S256x1024 .bf16) (harg7 : arg7.IsWhole) (arg8 : Memref sig .tc .vmem S256x1024 .bf16) (harg8 : arg8.IsWhole)
    (arg9 : Memref sig .tc .vmem S256x1024 .bf16) (harg9 : arg9.IsWhole)
    (arg11 : Memref sig .tc .vmem S256x1024 .bf16) (harg11 : arg11.IsWhole) (arg12 : Memref sig .tc .vmem S256x1024 .bf16) (harg12 : arg12.IsWhole)
    (arg13 : Memref sig .tc .vmem S256x1024 .bf16) (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S2176x1024 .bf16) (harg16 : arg16.IsWhole)
    (arg17 : Memref sig .tc .vmem S1024x2176 .bf16) (harg17 : arg17.IsWhole) (arg18 : Memref sig .tc .vmem S1024x2176 .bf16) (harg18 : arg18.IsWhole)
    (arg19 : Memref sig .tc .vmem S2176x1024 .f32) (harg19 : arg19.IsWhole) (arg20 : Memref sig .tc .vmem S2176x256 .bf16) (harg20 : arg20.IsWhole)
    (arg21 : Memref sig .tc .vmem S2176x256 .bf16) (harg21 : arg21.IsWhole) (arg22 : Memref sig .tc .vmem S2176x256 .bf16) (harg22 : arg22.IsWhole)
    (arg23 : Memref sig .tc .vmem S2x1x128x1024 .f32) (harg23 : arg23.IsWhole) (arg24 : Memref sig .tc .vmem S2x128x1024 .f32) (harg24 : arg24.IsWhole)
    (arg25 : Memref sig .tc .vmem S2x128x1024 .bf16) (harg25 : arg25.IsWhole)
    (hc0 : ¬ k0_cond1 i = 1#1) (hc1 : ¬ lastWord i = 1#1)
    (u : Vec F S1x2176x256 .bf16) (v : Vec F S1x2176x256 .bf16) (wg : Vec F S256x1024 .bf16) (wu : Vec F S256x1024 .bf16) (wd : Vec F S256x1024 .bf16)
    (df : Vec F S2176x1024 .bf16) (ht : Vec F S1024x2176 .bf16) (dft : Vec F S1024x2176 .bf16) (dh : Vec F S2176x1024 .f32) (K : PUnit → sProp 𝕄) :
    iprop(owns (c : Thread nD τ) arg5 fullShare u ∗
      owns (c : Thread nD τ) arg6 fullShare v ∗
      owns (c : Thread nD τ) arg7 fullShare wg ∗
      owns (c : Thread nD τ) arg8 fullShare wu ∗
      owns (c : Thread nD τ) arg9 fullShare wd ∗
      (∃ d, owns (c : Thread nD τ) arg11 fullShare d) ∗
      (∃ d, owns (c : Thread nD τ) arg12 fullShare d) ∗
      (∃ d, owns (c : Thread nD τ) arg13 fullShare d) ∗
      owns (c : Thread nD τ) arg16 fullShare df ∗
      owns (c : Thread nD τ) arg17 fullShare ht ∗
      owns (c : Thread nD τ) arg18 fullShare dft ∗
      owns (c : Thread nD τ) arg19 fullShare dh ∗
      (∃ d, owns (c : Thread nD τ) arg20 fullShare d) ∗
      (∃ d, owns (c : Thread nD τ) arg21 fullShare d) ∗
      (∃ d, owns (c : Thread nD τ) arg22 fullShare d) ∗
      (iprop(owns (c : Thread nD τ) arg5 fullShare u ∗
        owns (c : Thread nD τ) arg6 fullShare v ∗
        owns (c : Thread nD τ) arg7 fullShare wg ∗
        owns (c : Thread nD τ) arg8 fullShare wu ∗
        owns (c : Thread nD τ) arg9 fullShare wd ∗
        owns (c : Thread nD τ) arg11 fullShare (k0_pay329 ht (allDu df wd u v)) ∗
        owns (c : Thread nD τ) arg12 fullShare (k0_pay330 ht (allDv df wd u)) ∗
        owns (c : Thread nD τ) arg13 fullShare (k0_pay331 dft (allAc u v)) ∗
        owns (c : Thread nD τ) arg16 fullShare df ∗
        owns (c : Thread nD τ) arg17 fullShare ht ∗
        owns (c : Thread nD τ) arg18 fullShare dft ∗
        owns (c : Thread nD τ) arg19 fullShare (nextDh df wd wg wu u v dh) ∗
        (∃ d, owns (c : Thread nD τ) arg20 fullShare d) ∗
        (∃ d, owns (c : Thread nD τ) arg21 fullShare d) ∗
        (∃ d, owns (c : Thread nD τ) arg22 fullShare d)) -∗ K ⟨⟩))
    ⊢ wp frame (wpE (defs₀ (F := F)) Variants.none c none) Set.univ
        (cc0_ffn_bwd_seq i (Memref.whole main_arg6) (Memref.isWhole_whole _) (Memref.whole main_v9) (Memref.isWhole_whole _) arg3 harg3 (Memref.whole main_v11) (Memref.isWhole_whole _) arg5 harg5 arg6 harg6 arg7 harg7 arg8 harg8 arg9 harg9 (Memref.whole main_v23_0) (Memref.isWhole_whole _) arg11 harg11 arg12 harg12 arg13 harg13 arg14 harg14 arg15 harg15 arg16 harg16 arg17 harg17 arg18 harg18 arg19 harg19 arg20 harg20 arg21 harg21 arg22 harg22 arg23 harg23 arg24 harg24 arg25 harg25 cc0_scratch10 cc0_scratch11) K := by
  simp only [cc0_ffn_bwd_seq_eq_skeleton]; unfold cc0_ffn_bwd_seq_skel
  simp only [k0_part67_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
  unfold owns
  iintro ⟨⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%d13, %f13, -, H13⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, Hk⟩
  obtain rfl := harg5.eq_unread hf5; obtain rfl := harg6.eq_unread hf6; obtain rfl := harg7.eq_unread hf7; obtain rfl := harg8.eq_unread hf8; obtain rfl := harg9.eq_unread hf9; obtain rfl := harg16.eq_unread hf16; obtain rfl := harg17.eq_unread hf17; obtain rfl := harg18.eq_unread hf18; obtain rfl := harg19.eq_unread hf19
  sl_exec (disch := first | sl_exact hc0 | sl_exact hc1)
  sl_step
  iapply Hk
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H11]
  · iexists _; isplitr
    swap; · iexact H11
    ipureintro
    rw [View.read_writes_full, load_whole]
    refine congrArg _ ?_
    iterate 2 sl_unfold_run_names
    refine load_covered _ _ _ _ ?_ (View.cover_of_tiled _ ![272, 256] (by rfl))
    repeat' refine List.forall_mem_cons.2 ⟨fun x => ?_, ?_⟩
    on_goal 9 => exact fun p hp => absurd hp List.not_mem_nil
    all_goals
      refine Eq.trans ?_ (byRows_at (N := 2176) (C := 256) (n := 272) _ (by decide) x (by rfl))
      iterate 6 sl_unfold_run_names
      repeat' first | rw [load_whole] | rw [load_rows] | rw [load_band _ _ _ _ _ (by rfl)]
      try rfl
  isplitl [H12]
  · iexists _; isplitr
    swap; · iexact H12
    ipureintro
    rw [View.read_writes_full, load_whole]
    refine congrArg _ ?_
    iterate 2 sl_unfold_run_names
    refine load_covered _ _ _ _ ?_ (View.cover_of_tiled _ ![272, 256] (by rfl))
    repeat' refine List.forall_mem_cons.2 ⟨fun x => ?_, ?_⟩
    on_goal 9 => exact fun p hp => absurd hp List.not_mem_nil
    all_goals
      refine Eq.trans ?_ (byRows_at (N := 2176) (C := 256) (n := 272) _ (by decide) x (by rfl))
      iterate 6 sl_unfold_run_names
      repeat' first | rw [load_whole] | rw [load_rows] | rw [load_band _ _ _ _ _ (by rfl)]
      try rfl
  isplitl [H13]
  · iexists _; isplitr
    swap; · iexact H13
    ipureintro
    rw [View.read_writes_full, load_whole]
    refine congrArg _ ?_
    iterate 2 sl_unfold_run_names
    refine load_covered _ _ _ _ ?_ (View.cover_of_tiled _ ![272, 256] (by rfl))
    repeat' refine List.forall_mem_cons.2 ⟨fun x => ?_, ?_⟩
    on_goal 9 => exact fun p hp => absurd hp List.not_mem_nil
    all_goals
      refine Eq.trans ?_ (byRows_at (N := 2176) (C := 256) (n := 272) _ (by decide) x (by rfl))
      iterate 6 sl_unfold_run_names
      repeat' first | rw [load_whole] | rw [load_rows] | rw [load_band _ _ _ _ _ (by rfl)]
      try rfl
  isplitl [H16]
  · iexists _; isplitr; · ipureintro; exact hf16
    iexact H16
  isplitl [H17]
  · iexists _; isplitr; · ipureintro; exact hf17
    iexact H17
  isplitl [H18]
  · iexists _; isplitr; · ipureintro; exact hf18
    iexact H18
  isplitl [H19]
  · iexists _; isplitr
    swap; · iexact H19
    ipureintro
    refine read_writes_of_pieces _ _ _ _ ?_ (View.cover_of_tiled _ ![272, 1024] (by rfl))
    repeat' refine List.forall_mem_cons.2 ⟨fun x => ?_, ?_⟩
    on_goal 9 => exact fun p hp => absurd hp List.not_mem_nil
    all_goals
      refine Eq.trans ?_ (byRows_at (N := 2176) (C := 1024) (n := 272) _ (by decide) x (by rfl))
      iterate 6 sl_unfold_run_names
      repeat' first | rw [load_whole] | rw [load_rows] | rw [load_band _ _ _ _ _ (by rfl)]
      try rfl
  isplitl [H20]
  · iexists _, _; isplitr; swap; · iexact H20
    ipureintro; rfl
  isplitl [H21]
  · iexists _, _; isplitr; swap; · iexact H21
    ipureintro; rfl
  iexists _, _; isplitr; swap; · iexact H22
  ipureintro; rfl

end Cert.KernelIdeal.Gen

end
-- ==== Proof.Grid.lean ====
module

public import Idealize.ShloMosaic.Lib.Pipeline.TableIdle
public import proofs.«01_k».proof.Proof.Entry
public import proofs.«01_k».proof.Proof.RunA
public import proofs.«01_k».proof.Proof.RunB
public import proofs.«01_k».proof.Proof.RunC

@[expose] public section

/-!
  # The grid

  What each grid point leaves in the kernel's windows and scratch buffers, and the body's triple at every point.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! The blocks a point is given: the scale, the two pre-activations, the three weights. -/
abbrev gam (c : Dev nD) (t : Fin cfg0.N) : Vec F S1x1024 .f32 := iblk m c 0 t
abbrev ub (c : Dev nD) (t : Fin cfg0.N) : Vec F S1x2176x256 .bf16 := iblk m c 1 t
abbrev vb (c : Dev nD) (t : Fin cfg0.N) : Vec F S1x2176x256 .bf16 := iblk m c 2 t
abbrev wgb (c : Dev nD) (t : Fin cfg0.N) : Vec F S256x1024 .bf16 := iblk m c 3 t
abbrev wub (c : Dev nD) (t : Fin cfg0.N) : Vec F S256x1024 .bf16 := iblk m c 4 t
abbrev wdb (c : Dev nD) (t : Fin cfg0.N) : Vec F S256x1024 .bf16 := iblk m c 5 t

/-- The `n`th point. -/
def pt (n : ℕ) : Fin cfg0.N := ⟨n % 11, lt_of_lt_of_eq (Nat.mod_lt _ (by decide)) (show cfg0.N = 11 from N_0).symm⟩
theorem pt_val (t : Fin cfg0.N) : pt t.val = t :=
  Fin.ext (Nat.mod_eq_of_lt (lt_of_lt_of_eq t.isLt (show cfg0.N = 11 from N_0)))

/-! What the first point leaves for all the others. -/
def dfAll (c : Dev nD) : Vec F S2176x1024 .bf16 := allDf (V m c main_arg6) (V m c main_v9) (gam m c (pt 0))
def htAll (c : Dev nD) : Vec F S1024x2176 .bf16 := allHT (V m c main_v11)
def dftAll (c : Dev nD) : Vec F S1024x2176 .bf16 := allDfT (V m c main_arg6) (V m c main_v9) (gam m c (pt 0))

/-- The input gradient as accumulated before the `n`th point. -/
def dhAt (c : Dev nD) : ℕ → Vec F S2176x1024 .f32
  | 0 => allDh (V m c main_arg6) (V m c main_v9) (gam m c (pt 0))
  | n + 1 => nextDh (dfAll m c) (wdb m c (pt n)) (wgb m c (pt n)) (wub m c (pt n)) (ub m c (pt n)) (vb m c (pt n)) (dhAt c n)

theorem dhAt_succ (c : Dev nD) (t : Fin cfg0.N) :
    dhAt m c (t.val + 1) = nextDh (dfAll m c) (wdb m c t) (wgb m c t) (wub m c t) (ub m c t) (vb m c t) (dhAt m c t.val) := by
  show nextDh (dfAll m c) (wdb m c (pt t.val)) (wgb m c (pt t.val)) (wub m c (pt t.val)) (ub m c (pt t.val)) (vb m c (pt t.val)) _ = _
  rw [pt_val]

/-! The three weight gradients' blocks, and the scale's and the bias's gradients. -/
def dwgB (c : Dev nD) (t : Fin cfg0.N) : Vec F S256x1024 .bf16 := k0_pay329 (htAll m c) (allDu (dfAll m c) (wdb m c t) (ub m c t) (vb m c t))
def dwuB (c : Dev nD) (t : Fin cfg0.N) : Vec F S256x1024 .bf16 := k0_pay330 (htAll m c) (allDv (dfAll m c) (wdb m c t) (ub m c t))
def dwdB (c : Dev nD) (t : Fin cfg0.N) : Vec F S256x1024 .bf16 := k0_pay331 (dftAll m c) (allAc (ub m c t) (vb m c t))
def dgR (c : Dev nD) : Vec F S1x1024 .f32 := sumDg (V m c main_arg6) (V m c main_v9) 17
def dbR (c : Dev nD) : Vec F S1x1024 .f32 := sumDb (V m c main_arg6) 17

/-- The result of the body's own transfer, and every other buffer as the grid finds it. -/
def G (c : Dev nD) : (b : Ref sig .tc) → Buf (Elt F) ((c : Thread nD τ).loc b) :=
  Function.update (fun b => V m c b) main_v23_0 (dhAt m c 11)
theorem G_dh (c : Dev nD) : G m c main_v23_0 = dhAt m c 11 := Function.update_self ..

/-- What holds between the points: after the first, the scratch buffers it filled and the gradient so far. -/
def between (c : Dev nD) : ℕ → sProp 𝕄
  | 0 => Pipeline.ΦDRG ownCells spec0 readRefs dhRef (V m) (V m) c
  | n + 1 => iprop(iprop(owns (c : Thread nD τ) sc0 fullShare (dfAll m c) ∗ owns (c : Thread nD τ) sc1 fullShare (htAll m c) ∗ owns (c : Thread nD τ) sc2 fullShare (dftAll m c)
          ∗ owns (c : Thread nD τ) sc3 fullShare (dhAt m c (n + 1)) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)
        ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0)
        ∗ iprop(holds c (Memref.whole main_arg6) (V m c main_arg6) ∗ holds c (Memref.whole main_v9) (V m c main_v9) ∗ holds c (Memref.whole main_v11) (V m c main_v11))
        ∗ (∃ f, ⌜n + 1 = 11 → f = dhAt m c 11⌝ ∗ holds c (Memref.whole main_v23_0) f))

/-- The proof data: what every point leaves in every window. -/
def dats : (p : Fin 1) → (c : Dev nD) → Dat τ (Elt F) Unit ℕ (Pipeline.UD sig nD τ) ℕ (cfgs p) c := fun _ c =>
  { A := fun w => V m c (Pipeline.arrRef spec0 w)
    after := fun w t => match w with
      | ⟨0, _⟩ => iblk m c 0 t
      | ⟨1, _⟩ => iblk m c 1 t
      | ⟨2, _⟩ => iblk m c 2 t
      | ⟨3, _⟩ => iblk m c 3 t
      | ⟨4, _⟩ => iblk m c 4 t
      | ⟨5, _⟩ => iblk m c 5 t
      | ⟨6, _⟩ => dwgB m c t
      | ⟨7, _⟩ => dwuB m c t
      | ⟨8, _⟩ => dwdB m c t
      | ⟨9, _⟩ => dgR m c
      | ⟨10, _⟩ => dbR m c
    Φ := fun t => between m c t.val
    q := fun _ => fullShare
    owed := fun _ => 0 }

theorem arrays (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dwgB m c t := by dsimp only [dats]
theorem after7 (c : Dev nD) (t : Fin cfg0.N) : (dats m 0 c).after 7 t = dwuB m c t := by dsimp only [dats]
theorem after8 (c : Dev nD) (t : Fin cfg0.N) : (dats m 0 c).after 8 t = dwdB m c t := by dsimp only [dats]
theorem after9 (c : Dev nD) (t : Fin cfg0.N) : (dats m 0 c).after 9 t = dgR m c := by dsimp only [dats]
theorem after10 (c : Dev nD) (t : Fin cfg0.N) : (dats m 0 c).after 10 t = dbR m c := by dsimp only [dats]

/-- An input window holds its block before the body runs. -/
theorem before_in (c : Dev nD) (t : Fin cfg0.N) :
    (∀ d, (dats m 0 c).before 0 t d = iblk m c 0 t)
    ∧ (∀ d, (dats m 0 c).before 1 t d = iblk m c 1 t)
    ∧ (∀ d, (dats m 0 c).before 2 t d = iblk m c 2 t)
    ∧ (∀ d, (dats m 0 c).before 3 t d = iblk m c 3 t)
    ∧ (∀ d, (dats m 0 c).before 4 t d = iblk m c 4 t)
    ∧ (∀ d, (dats m 0 c).before 5 t d = iblk m c 5 t) := by
  refine ⟨?_, ?_, ?_, ?_, ?_, ?_⟩ <;> intro d <;>
    refine ((dats m 0 c).before_in_eq_fetched _ rfl (fun _ => rfl) (fun _ _ _ => rfl) (fun t => ?_) t d).trans
      (by unfold Dat.fetched Dat.blockOf iblk; rw [arrays]; try rfl) <;>
    first | rw [after0] | rw [after1] | rw [after2] | rw [after3] | rw [after4] | rw [after5]
  all_goals unfold Dat.blockOf iblk; rw [arrays]; try rfl

theorem idle9 (t : Fin cfg0.N) : cfg0.idle 9 (cfg0.grid.coords t) = !(k0_cond1 (grid0.coords t) == 1#1) := rfl
theorem fresh9 (n : ℕ) (h0 : n ≠ 0) (h : n < 11) : cfg0.fresh 9 n = false := by
  rw [cfg0.fresh_tab 9 (fun n => n == 0 || n == 11) rfl
    ((by decide +kernel : ∀ t : Fin grid0.N, (t.val + 1 == 0 || t.val + 1 == 11) = (win0_9.flush t || (!(k0_cond1 (grid0.coords t) == 1#1) && (t.val == 0 || t.val == 11)))))
    n (h.le.trans (le_of_eq (show cfg0.N = 11 from N_0).symm))]
  simp only [Bool.or_eq_false_iff, beq_eq_false_iff_ne]
  omega
theorem before9 (c : Dev nD) (t : Fin cfg0.N) (h : t.val ≠ 0) (d) : (dats m 0 c).before 9 t d = dgR m c := by
  rw [(dats m 0 c).before_out_traj 9 rfl (fun _ _ => rfl) (fun t _ _ _ => by rw [after9, after9]) _ t rfl d,
    fresh9 _ h (lt_of_lt_of_eq t.isLt (show cfg0.N = 11 from N_0)), if_neg Bool.false_ne_true, after9]
/-- The block is stored at the first point and kept until the last, which sends it back. -/
theorem leaves9 (c : Dev nD) (t : Fin cfg0.N) : owns (c : Thread nD τ) (stg9 t) fullShare (dgR m c) ⊢ (dats m 0 c).leavesExact 9 t := by
  have hN : t.val < 11 := lt_of_lt_of_eq t.isLt (show cfg0.N = 11 from N_0)
  by_cases h0 : t.val = 0
  · unfold Dat.leavesExact
    rw [idle9, (at_first t).mpr h0, after9]
    exact .rfl
  by_cases h1 : t.val = 10
  · unfold Dat.leavesExact
    rw [idle9, (flush0_9 t).mpr (by omega), after9, beq_eq_false_iff_ne.mpr (fun h => h0 ((at_first t).mp h))]
    exact .rfl
  · rw [(dats m 0 c).leavesExact_idle 9 t (by rw [idle9, beq_eq_false_iff_ne.mpr (fun h => h0 ((at_first t).mp h))]; rfl)
      (Bool.eq_false_iff.mpr fun h => by have := (flush0_9 t).mp h; omega)]
    iintro H
    iexists (dgR m c)
    rw [before9 m c t h0]
    iexact H

theorem idle10 (t : Fin cfg0.N) : cfg0.idle 10 (cfg0.grid.coords t) = !(k0_cond1 (grid0.coords t) == 1#1) := rfl
theorem fresh10 (n : ℕ) (h0 : n ≠ 0) (h : n < 11) : cfg0.fresh 10 n = false := by
  rw [cfg0.fresh_tab 10 (fun n => n == 0 || n == 11) rfl
    ((by decide +kernel : ∀ t : Fin grid0.N, (t.val + 1 == 0 || t.val + 1 == 11) = (win0_10.flush t || (!(k0_cond1 (grid0.coords t) == 1#1) && (t.val == 0 || t.val == 11)))))
    n (h.le.trans (le_of_eq (show cfg0.N = 11 from N_0).symm))]
  simp only [Bool.or_eq_false_iff, beq_eq_false_iff_ne]
  omega
theorem before10 (c : Dev nD) (t : Fin cfg0.N) (h : t.val ≠ 0) (d) : (dats m 0 c).before 10 t d = dbR m c := by
  rw [(dats m 0 c).before_out_traj 10 rfl (fun _ _ => rfl) (fun t _ _ _ => by rw [after10, after10]) _ t rfl d,
    fresh10 _ h (lt_of_lt_of_eq t.isLt (show cfg0.N = 11 from N_0)), if_neg Bool.false_ne_true, after10]
/-- The block is stored at the first point and kept until the last, which sends it back. -/
theorem leaves10 (c : Dev nD) (t : Fin cfg0.N) : owns (c : Thread nD τ) (stg10 t) fullShare (dbR m c) ⊢ (dats m 0 c).leavesExact 10 t := by
  have hN : t.val < 11 := lt_of_lt_of_eq t.isLt (show cfg0.N = 11 from N_0)
  by_cases h0 : t.val = 0
  · unfold Dat.leavesExact
    rw [idle10, (at_first t).mpr h0, after10]
    exact .rfl
  by_cases h1 : t.val = 10
  · unfold Dat.leavesExact
    rw [idle10, (flush0_10 t).mpr (by omega), after10, beq_eq_false_iff_ne.mpr (fun h => h0 ((at_first t).mp h))]
    exact .rfl
  · rw [(dats m 0 c).leavesExact_idle 10 t (by rw [idle10, beq_eq_false_iff_ne.mpr (fun h => h0 ((at_first t).mp h))]; rfl)
      (Bool.eq_false_iff.mpr fun h => by have := (flush0_10 t).mp h; omega)]
    iintro H
    iexists (dbR m c)
    rw [before10 m c t h0]
    iexact H
/-- What is left in a window that is never idle. -/
theorem leaves_in (c : Dev nD) (t : Fin cfg0.N) :
    (dats m 0 c).leavesExact 0 t = owns (c : Thread nD τ) (stg0 t) fullShare (iblk m c 0 t)
    ∧ (dats m 0 c).leavesExact 1 t = owns (c : Thread nD τ) (stg1 t) fullShare (iblk m c 1 t)
    ∧ (dats m 0 c).leavesExact 2 t = owns (c : Thread nD τ) (stg2 t) fullShare (iblk m c 2 t)
    ∧ (dats m 0 c).leavesExact 3 t = owns (c : Thread nD τ) (stg3 t) fullShare (iblk m c 3 t)
    ∧ (dats m 0 c).leavesExact 4 t = owns (c : Thread nD τ) (stg4 t) fullShare (iblk m c 4 t)
    ∧ (dats m 0 c).leavesExact 5 t = owns (c : Thread nD τ) (stg5 t) fullShare (iblk m c 5 t)
    ∧ (dats m 0 c).leavesExact 6 t = owns (c : Thread nD τ) (stg6 t) fullShare (dwgB m c t)
    ∧ (dats m 0 c).leavesExact 7 t = owns (c : Thread nD τ) (stg7 t) fullShare (dwuB m c t)
    ∧ (dats m 0 c).leavesExact 8 t = owns (c : Thread nD τ) (stg8 t) fullShare (dwdB m c t) := by
  refine ⟨?_, ?_, ?_, ?_, ?_, ?_, ?_, ?_, ?_⟩ <;> unfold Dat.leavesExact
  · rw [show cfg0.idle 0 (cfg0.grid.coords t) = false from rfl, after0]
  · rw [show cfg0.idle 1 (cfg0.grid.coords t) = false from rfl, after1]
  · rw [show cfg0.idle 2 (cfg0.grid.coords t) = false from rfl, after2]
  · rw [show cfg0.idle 3 (cfg0.grid.coords t) = false from rfl, after3]
  · rw [show cfg0.idle 4 (cfg0.grid.coords t) = false from rfl, after4]
  · rw [show cfg0.idle 5 (cfg0.grid.coords t) = false from rfl, after5]
  · rw [show cfg0.idle 6 (cfg0.grid.coords t) = false from rfl, after6]
  · rw [show cfg0.idle 7 (cfg0.grid.coords t) = false from rfl, after7]
  · rw [show cfg0.idle 8 (cfg0.grid.coords t) = false from rfl, after8]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem Phi_castSucc (c : Dev nD) (t : Fin cfg0.N) : (dats m 0 c).Φ t.castSucc = between m c t.val := by dsimp only [dats]; rfl
theorem Phi_succ (c : Dev nD) (t : Fin cfg0.N) : (dats m 0 c).Φ t.succ = between m c (t.val + 1) := by dsimp only [dats]; rfl

set_option maxHeartbeats 4000000 in
/-- The body at any point. -/
theorem body_at (c : Dev nD) (t : Fin cfg0.N) :
    bodyPre m c t ⊢ wp frame (wpE (defs₀ (F := F)) Variants.none c none) Set.univ (bodyAt0 (F := F) t) (fun _ => bodyPost m c t) := by
  have hN : t.val < 11 := lt_of_lt_of_eq t.isLt (show cfg0.N = 11 from N_0)
  unfold bodyPre bodyPost bodyAt0
  simp only [before_in m c t]
  rw [Phi_castSucc, Phi_succ, between.eq_2, dhAt_succ]
  simp only [leaves_in m c t]
  unfold Dat.owesAt Pipeline.owesWithin
  rw [show (dats m 0 c).owed t.castSucc = 0 from rfl, show (dats m 0 c).owed t.succ = 0 from rfl]
  by_cases h0 : t.val = 0
  · have ht : t = pt 0 := Fin.ext h0
    have e : (between m c t.val : sProp 𝕄) = Pipeline.ΦDRG ownCells spec0 readRefs dhRef (V m) (V m) c := by rw [h0]; rfl
    rw [e, entry_eq, show dhAt m c t.val = allDh (V m c main_arg6) (V m c main_v9) (gam m c t) by rw [h0, ht]; rfl,
      show dfAll m c = allDf (V m c main_arg6) (V m c main_v9) (gam m c t) by rw [ht]; rfl,
      show dftAll m c = allDfT (V m c main_arg6) (V m c main_v9) (gam m c t) by rw [ht]; rfl,
      show htAll m c = allHT (V m c main_v11) from rfl]
    unfold dwgB dwuB dwdB
    rw [show dfAll m c = allDf (V m c main_arg6) (V m c main_v9) (gam m c t) by rw [ht]; rfl,
      show dftAll m c = allDfT (V m c main_arg6) (V m c main_v9) (gam m c t) by rw [ht]; rfl,
      show htAll m c = allHT (V m c main_v11) from rfl]
    iintro ⟨⟨⟨S0, S1, S2, S3, S4, S5, S6, S7, S8, S9⟩, Hg, ⟨Q0, Q1, Q2, Q3, Q4, Q5, Q6⟩, ⟨B0, B1, B2⟩, Hd⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((at_first t).mpr h0) (fun h => absurd ((at_last t).mp h) (by omega))
      (gam m c t) (ub m c t) (vb m c t) (wgb m c t) (wub m c t) (wdb m c t) (V m c main_arg6) (V m c main_v9) (V m c main_v11) W)
    iframe H0 H1 H2 H3 H4 H5
    isplitl [H6]; · iexists _; iexact H6
    isplitl [H7]; · iexists _; iexact H7
    isplitl [H8]; · iexists _; iexact H8
    isplitl [H9]; · iexists _; iexact H9
    isplitl [H10]; · iexists _; iexact H10
    iframe S0 S1 S2 S3 S4 S5 S6 S7 S8 S9 Q0 Q1 Q2 Q3 Q4 Q5 B0 B1 B2 HW
    iintro ⟨H0, H1, H2, H3, H4, H5, H6, H7, H8, H9, H10, S0, S1, S2, S3, S4, S5, S6, S7, S8, S9, Q0, Q1, Q2, Q3, Q4, Q5, B0, B1, B2, ⟨%W', HW⟩⟩
    isplitl [S0 S1 S2 S3 S4 S5 S6 S7 S8 S9 Hg Q0 Q1 Q2 Q3 Q4 Q5 Q6 B0 B1 B2 Hd]
    · isplitl [S0 S1 S2 S3 S4 S5 S6 S7 S8 S9]
      · iframe S0 S1 S2 S3 S4 S5 S6 S7 S8 S9
      isplitl [Hg]; · iexact Hg
      isplitl [Q0 Q1 Q2 Q3 Q4 Q5 Q6]
      · iframe Q0 Q1 Q2 Q3 Q4 Q5 Q6
      isplitl [B0 B1 B2]
      · iframe B0 B1 B2
      iexists _; isplitr
      swap; · iexact Hd
      ipureintro; intro h; omega
    isplitl [HW]
    · iexists _; isplitr
      swap; · iexact HW
      ipureintro; exact fun _ _ => Or.inl trivial
    iframe H0 H1 H2 H3 H4 H5 H6 H7 H8
    isplitl [H9]; · iapply (leaves9 m c t); iexact H9
    iapply (leaves10 m c t); iexact H10
  obtain ⟨n, hn⟩ : ∃ n, t.val = n + 1 := ⟨t.val - 1, by omega⟩
  have e : (between m c t.val : sProp 𝕄) = between m c (n + 1) := by rw [hn]
  have e9 : ∀ d, (dats m 0 c).before 9 t d = dgR m c := fun d => before9 m c t h0 d
  have e10 : ∀ d, (dats m 0 c).before 10 t d = dbR m c := fun d => before10 m c t h0 d
  simp only [e9, e10]
  rw [e, between.eq_2, ← hn]
  unfold dwgB dwuB dwdB
  by_cases h1 : t.val = 10
  · iintro ⟨⟨⟨S0, S1, S2, S3, S4, S5, S6, S7, S8, S9⟩, Hg, ⟨Q0, Q1, Q2, Q3, Q4, Q5, Q6⟩, ⟨B0, B1, B2⟩, ⟨%fd, -, Hd⟩⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runC c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => absurd ((at_first t).mp h) h0) ((at_last t).mpr h1)
      (ub m c t) (vb m c t) (wgb m c t) (wub m c t) (wdb m c t) (dfAll m c) (htAll m c) (dftAll m c) (dhAt m c t.val) W)
    iframe H1 H2 H3 H4 H5
    isplitl [H6]; · iexists _; iexact H6
    isplitl [H7]; · iexists _; iexact H7
    isplitl [H8]; · iexists _; iexact H8
    iframe S0 S1 S2 S3 S4 S5 S6 Q6
    isplitl [Hd]; · iexists _; iexact Hd
    isplitl [HW]; · iexact HW
    iintro ⟨H1, H2, H3, H4, H5, H6, H7, H8, S0, S1, S2, S3, S4, S5, S6, Q6, Hd, ⟨%W2, HW⟩⟩
    isplitl [S0 S1 S2 S3 S4 S5 S6 S7 S8 S9 Hg Q0 Q1 Q2 Q3 Q4 Q5 Q6 B0 B1 B2 Hd]
    · isplitl [S0 S1 S2 S3 S4 S5 S6 S7 S8 S9]
      · iframe S0 S1 S2 S3 S4 S5 S6 S7 S8 S9
      isplitl [Hg]; · iexact Hg
      isplitl [Q0 Q1 Q2 Q3 Q4 Q5 Q6]
      · iframe Q0 Q1 Q2 Q3 Q4 Q5 Q6
      isplitl [B0 B1 B2]
      · iframe B0 B1 B2
      iexists _; isplitr
      swap; · iexact Hd
      ipureintro
      intro _
      rw [show dhAt m c 11 = dhAt m c (t.val + 1) by rw [h1], dhAt_succ]
    isplitl [HW]
    · iexists _; isplitr
      swap; · iexact HW
      ipureintro; exact fun _ _ => Or.inl trivial
    iframe H0 H1 H2 H3 H4 H5 H6 H7 H8
    isplitl [H9]; · iapply (leaves9 m c t); iexact H9
    iapply (leaves10 m c t); iexact H10
  · iintro ⟨⟨⟨S0, S1, S2, S3, S4, S5, S6, S7, S8, S9⟩, Hg, ⟨Q0, Q1, Q2, Q3, Q4, Q5, Q6⟩, ⟨B0, B1, B2⟩, ⟨%fd, -, Hd⟩⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runB c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => absurd ((at_first t).mp h) h0) (fun h => absurd ((at_last t).mp h) h1)
      (ub m c t) (vb m c t) (wgb m c t) (wub m c t) (wdb m c t) (dfAll m c) (htAll m c) (dftAll m c) (dhAt m c t.val) )
    iframe H1 H2 H3 H4 H5
    isplitl [H6]; · iexists _; iexact H6
    isplitl [H7]; · iexists _; iexact H7
    isplitl [H8]; · iexists _; iexact H8
    iframe S0 S1 S2 S3 S4 S5 S6
    iintro ⟨H1, H2, H3, H4, H5, H6, H7, H8, S0, S1, S2, S3, S4, S5, S6⟩
    isplitl [S0 S1 S2 S3 S4 S5 S6 S7 S8 S9 Hg Q0 Q1 Q2 Q3 Q4 Q5 Q6 B0 B1 B2 Hd]
    · isplitl [S0 S1 S2 S3 S4 S5 S6 S7 S8 S9]
      · iframe S0 S1 S2 S3 S4 S5 S6 S7 S8 S9
      isplitl [Hg]; · iexact Hg
      isplitl [Q0 Q1 Q2 Q3 Q4 Q5 Q6]
      · iframe Q0 Q1 Q2 Q3 Q4 Q5 Q6
      isplitl [B0 B1 B2]
      · iframe B0 B1 B2
      iexists _; isplitr
      swap; · iexact Hd
      ipureintro
      intro h; omega
    isplitl [HW]
    · iexists _; isplitr
      swap; · iexact HW
      ipureintro; exact fun _ _ => Or.inl trivial
    iframe H0 H1 H2 H3 H4 H5 H6 H7 H8
    isplitl [H9]; · iapply (leaves9 m c t); iexact H9
    iapply (leaves10 m c t); iexact H10

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_at m c t) rfl .rfl fun _ => .rfl

theorem enter (c : Dev nD) : Pipeline.ΦDRG ownCells spec0 readRefs dhRef (V m) (V m) c ⊢ (dats m 0 c).Φ 0 := by
  rw [show (dats m 0 c).Φ 0 = between m c 0 from rfl]
  exact .rfl

/-- After the last point the launch takes the buffers back, the result at its contents. -/
theorem leave (c : Dev nD) : (dats m 0 c).Φ (Fin.last cfg0.N) ⊢ Pipeline.ΦDRG ownCells spec0 readRefs dhRef (V m) (G m) c := by
  rw [show (dats m 0 c).Φ (Fin.last cfg0.N) = between m c cfg0.N from rfl, show cfg0.N = 10 + 1 from N_0, between.eq_2, entry_eq, G_dh]
  iintro ⟨⟨S0, S1, S2, S3, S4, S5, S6, S7, S8, S9⟩, Hg, HQ, HB, ⟨%f, %hf, Hd⟩⟩
  obtain rfl := hf rfl
  isplitl [S0 S1 S2 S3 S4 S5 S6 S7 S8 S9]
  · isplitl [S0]; · iexists _; iexact S0
    isplitl [S1]; · iexists _; iexact S1
    isplitl [S2]; · iexists _; iexact S2
    isplitl [S3]; · iexists _; iexact S3
    iframe S4 S5 S6 S7 S8 S9
  iframe Hg HQ HB Hd

set_option backward.isDefEq.respectTransparency.types false in
/-- The whole run: every final state has the windows' arrays at what the points left in them, the result of the body's
    transfer at its contents, every other buffer as the grid found it, and every counter at zero. -/
theorem run_main : θ_run defs (onTc (τ := τ) (main (F := F))) (s₀ m ρ)
    (fun r => Pipeline.FramePostRG cfgs (dats m) 0 dhRef (V m) (G m) r ∧ r.2.sem = fun _ => 0) :=
  Pipeline.θ_run_frame_dmaRG (Q' := _) cfgs (dats m) (0 : Fin 1) launch0 ownCells defs₀ Variants.none ownCells_facts readRefs dhRef
    readRefs_sub dhRef_sub m ρ main
    (hbody := fun c => (body_obligation m c).loose) (hshare := fun c => (dats m 0 c).share_full fun _ => rfl)
    (howed := fun _ _ => rfl) (V := V m) (hmain := hmain_counted m Variants.none) (hA := arrays m) (G := G m) (hin := enter m) (hout := leave m)
    (hQ' := fun _ h => h)

/-- The arguments end unchanged, and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c)⟩,
      h.2⟩) (run_main m ρ)

end Cert.KernelIdeal.Gen

end
-- ==== Proof.Transfer.lean ====
module

public import proofs.«01_k».proof.Proof.Grid
public import proofs.«01_k».proof.Proof.Gen.Kernel

@[expose] public section

/-!
  # The printed kernel

  The kernel as printed and the kernel as read over the reals are one text: the run proved of the one, for any float
  values, is the run of the other.
-/

set_option maxRecDepth 65536
set_option maxHeartbeats 4000000

noncomputable section

namespace Cert.Kernel.Gen

open Idealize.ShloMosaic Idealize.ShloMosaic.TcCoe Idealize.SL.Sem

variable {F : FTy → Type} [FloatOps F] (h : Cert.KernelIdeal.Facts) (h' : Cert.Kernel.Facts)

/-- The two kernel bodies are one program. -/
theorem body_eq : @Cert.Kernel.cc0_ffn_bwd_seq F _ h' = @Cert.KernelIdeal.cc0_ffn_bwd_seq F _ h := rfl

/-- The two body tables are one. -/
theorem table_eq : @Cert.Kernel.defs₀ F _ h' = @Cert.KernelIdeal.defs₀ F _ h := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l a
  match l, a with
  | 0, (t, s) =>
    show @Cert.Kernel.cc0_ffn_bwd_seq F _ h' _ _ _ _ _ _ _ _ _ _ _ _ _ _ _ _ _ _ _ _ _ _ _ _ _ _ _ _ _ _ _ _ _ _ _ _ _ _ _ _ _ _ _ _ _ _ _ _ _ _ _ _ _ = _
    rw [body_eq h h']
    rfl

/-- The two label tables are one. -/
theorem defs_eq : @Cert.Kernel.defs F _ h' = @Cert.KernelIdeal.defs F _ h := by
  unfold Cert.Kernel.defs Cert.KernelIdeal.defs
  rw [table_eq h h']
  rfl

/-- The two host programs are one. -/
theorem main_eq : @Cert.Kernel.main F _ h' = @Cert.KernelIdeal.main F _ h := rfl

/-- The printed kernel's arguments end unchanged, and every counter at zero. -/
theorem frame_any [hK : Cert.Kernel.Facts] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_eq Cert.KernelIdeal.Gen.facts hK, main_eq Cert.KernelIdeal.Gen.facts hK]
  exact Cert.KernelIdeal.Gen.frame_any m ρ

end Cert.Kernel.Gen

end
-- ==== Proof.Frames.lean ====
module

public import proofs.«01_k».proof.Defs
public import proofs.«01_k».proof.Proof.Transfer
public import proofs.«01_k».proof.Proof.Gen.ReferenceIdeal.Run

@[expose] public section

/-!
  # The frames

  Each program runs to its end, leaves its arguments as they were and every counter at zero.
-/

noncomputable section

namespace Cert.Proof

open Idealize.ShloMosaic Idealize.SL.Sem

theorem frame_p : @Cert.quiescent_Kernel Cert.Kernel.Gen.facts := fun m ρ _ => Cert.Kernel.Gen.frame_any m ρ

theorem frame_pi : @Cert.quiescent_KernelIdeal Cert.KernelIdeal.Gen.facts := fun m ρ _ => Cert.KernelIdeal.Gen.frame_any m ρ

/-- The reference has no counters. -/
theorem frame_ri : @Cert.quiescent_ReferenceIdeal Cert.ReferenceIdeal.Gen.facts := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

end Cert.Proof

end
-- ==== Proof.Model.lean ====
module

public import Idealize.ShloMosaic.Lib.Pointwise
public import Idealize.ShloMosaic.Lib.Pipeline.ValueKit

@[expose] public section

/-!
  # The gradient over the reals

  The backward pass of one feed-forward block `Norm(alpha h + 1/2 F(h))` written with real numbers, `F` the gated
  network. Every array of the kernel and of the reference is shown, entry by entry, to be one of the functions here.
  The kernel and the reference differ in how they write the gradient of the normalisation and of the gate; `refDr_eq`,
  `refU_eq` and `refV_eq` say that the two ways agree.
-/

noncomputable section

namespace Ffn.Real

open Idealize.ShloMosaic

/-! ## The constants -/

/-- The real number `m * 2 ^ e`, which a float's bits spell. -/
def dyadic (m : ℕ) (e : ℤ) : ℝ := m * (2 : ℝ) ^ e

def alpha : ℝ := dyadic 11863283 (-23)
def eps : ℝ := dyadic 10995116 (-40)

theorem eps_pos : 0 < eps := by unfold eps dyadic; positivity

theorem lit_1024 : Ideal.ofBits .f32 0x44800000#32 = ((1024 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul, -EReal.coe_neg]; norm_num
theorem lit_two : Ideal.ofBits .f32 0x40000000#32 = ((2 : ℝ) : EReal) := by
  simp [Ideal.ofBits, Ideal.ieee, -EReal.coe_mul]; norm_num
theorem lit_alpha : Ideal.ofBits .f32 0x3FB504F3#32 = (alpha : EReal) := by
  simp [Ideal.ofBits, Ideal.ieee, -EReal.coe_mul, alpha, dyadic]
theorem lit_eps : Ideal.ofBits .f32 0x3727C5AC#32 = (eps : EReal) := by
  simp [Ideal.ofBits, Ideal.ieee, -EReal.coe_mul, eps, dyadic]

/-! ## Operations on reals among the extended reals -/

theorem coe_sum {ι : Type} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

theorem sum_mul_val {n : ℕ} {a b : Fin n → EReal} {p q : Fin n → ℝ} (ha : ∀ x, a x = (p x : EReal)) (hb : ∀ x, b x = (q x : EReal)) :
    ∑ x, a x * b x = ((∑ x, p x * q x : ℝ) : EReal) := by
  simp only [ha, hb, ← EReal.coe_mul, coe_sum]

theorem coe_div (x : ℝ) {y : ℝ} (h : y ≠ 0) : Ideal.div (x : EReal) (y : EReal) = ((x / y : ℝ) : EReal) := by
  rw [Ideal.div_coe h, ← EReal.coe_mul, mul_one_div]

theorem coe_rsqrt {x : ℝ} (h : 0 < x) : Ideal.rsqrt (x : EReal) = (((Real.sqrt x)⁻¹ : ℝ) : EReal) := by
  rw [Ideal.rsqrt_coe, if_neg (not_lt.mpr h.le), if_neg h.ne']

/-! ## One row of the normalisation -/

section Row
variable (d r γ : Fin 1024 → ℝ)

def mean (x : Fin 1024 → ℝ) : ℝ := (∑ j, x j) / 1024
def cen (j : Fin 1024) : ℝ := r j - mean r
def var : ℝ := mean fun j => cen r j * cen r j
/-- One over the standard deviation. -/
def inv : ℝ := (Real.sqrt (var r + eps))⁻¹
/-- The normalised row. -/
def xh (j : Fin 1024) : ℝ := cen r j * inv r
/-- The gradient of the normalised row. -/
def dxh (j : Fin 1024) : ℝ := d j * γ j
/-- The gradient of the row before the normalisation. -/
def dr (j : Fin 1024) : ℝ :=
  inv r * ((dxh d γ j - mean (dxh d γ)) - xh r j * mean fun j => dxh d γ j * xh r j)

theorem var_nonneg : 0 ≤ var r := div_nonneg (Finset.sum_nonneg fun j _ => mul_self_nonneg _) (by norm_num)
theorem var_eps_pos : 0 < var r + eps := add_pos_of_nonneg_of_pos (var_nonneg r) eps_pos

theorem sum_cen : ∑ j, cen r j = 0 := by
  unfold cen mean
  rw [Finset.sum_sub_distrib, Finset.sum_const, Finset.card_univ, Fintype.card_fin, nsmul_eq_mul]
  push_cast
  ring

/-- The gradient of the variance, as differentiation of the formulas gives it, shared out over the row. -/
def refQ : ℝ := (∑ j, cen r j * dxh d γ j) * (-(1 / 2) * (inv r / (var r + eps))) / 1024
/-- The gradient of the row as differentiation of the formulas gives it. -/
def refDr (j : Fin 1024) : ℝ :=
  dxh d γ j * inv r + refQ d r γ * (2 * cen r j)
    + ((∑ j, -(dxh d γ j * inv r)) + ∑ j, -(refQ d r γ * (2 * cen r j))) / 1024

theorem inv_sq : inv r / (var r + eps) = inv r * inv r * inv r := by
  have h : (var r + eps)⁻¹ = (Real.sqrt (var r + eps))⁻¹ * (Real.sqrt (var r + eps))⁻¹ := by
    rw [← mul_inv, Real.mul_self_sqrt (var_eps_pos r).le]
  unfold inv
  rw [div_eq_mul_inv, h, mul_assoc]

theorem refDr_eq (j : Fin 1024) : refDr d r γ j = dr d r γ j := by
  have h2 : ∑ j, refQ d r γ * (2 * cen r j) = 0 := by
    rw [← Finset.mul_sum, ← Finset.mul_sum, sum_cen]; ring
  have h1 : ∑ j, dxh d γ j * inv r = (∑ j, dxh d γ j) * inv r := (Finset.sum_mul ..).symm
  have h3 : (∑ j, dxh d γ j * xh r j) = (∑ j, cen r j * dxh d γ j) * inv r := by
    rw [Finset.sum_mul]; exact Finset.sum_congr rfl fun j _ => by unfold xh; ring
  unfold refDr dr
  rw [Finset.sum_neg_distrib, Finset.sum_neg_distrib, h1, h2]
  unfold refQ
  rw [inv_sq]
  unfold mean
  rw [h3]
  unfold xh
  ring

end Row

/-! ## The gate -/

def sgm (x : ℝ) : ℝ := (1 + Real.exp (-x))⁻¹
/-- The gradient of the gated pre-activation `u` beside the linear one `v`, from the gradient `a` of their activation. -/
def gateU (a u v : ℝ) : ℝ := a * v * (sgm u * (1 + u * (1 - sgm u)))
def gateV (a u : ℝ) : ℝ := a * u * sgm u
def act (u v : ℝ) : ℝ := u * sgm u * v

/-- The same two gradients as differentiation of the formulas gives them. -/
theorem refU_eq (a u v : ℝ) : a * v * sgm u + u * (a * v) * (sgm u * (1 - sgm u)) = gateU a u v := by unfold gateU; ring
theorem refV_eq (a u : ℝ) : u * sgm u * a = gateV a u := by unfold gateV; ring

theorem one_exp_pos (x : ℝ) : 0 < 1 + Real.exp x := by positivity

theorem coe_sgm (x : ℝ) : Ideal.div 1 (1 + Ideal.exp (-(x : EReal))) = (sgm x : EReal) := by
  rw [← EReal.coe_neg, Ideal.exp_coe, ← EReal.coe_one, ← EReal.coe_add, coe_div _ (one_exp_pos _).ne']
  unfold sgm; rw [one_div]

/-! ## The whole block -/

section Block
variable (H : Fin 2176 → Fin 1024 → ℝ) (Wg Wu : Fin 1024 → Fin 2816 → ℝ) (Wd : Fin 2816 → Fin 1024 → ℝ)
  (γ : Fin 1024 → ℝ) (D : Fin 2176 → Fin 1024 → ℝ)

/-- A product of the block's input with a weight. -/
def pre (W : Fin 1024 → Fin 2816 → ℝ) (i : Fin 2176) (f : Fin 2816) : ℝ := ∑ j, H i j * W j f
def acts (i : Fin 2176) (f : Fin 2816) : ℝ := act (pre H Wg i f) (pre H Wu i f)
/-- The rows before the normalisation. -/
def res (i : Fin 2176) (j : Fin 1024) : ℝ := alpha * H i j + 1 / 2 * ∑ f, acts H Wg Wu i f * Wd f j
def dR (i : Fin 2176) (j : Fin 1024) : ℝ := dr (D i) (res H Wg Wu Wd i) γ j
def dF (i : Fin 2176) (j : Fin 1024) : ℝ := 1 / 2 * dR H Wg Wu Wd γ D i j
def dA (i : Fin 2176) (f : Fin 2816) : ℝ := ∑ j, dF H Wg Wu Wd γ D i j * Wd f j
def dU (i : Fin 2176) (f : Fin 2816) : ℝ := gateU (dA H Wg Wu Wd γ D i f) (pre H Wg i f) (pre H Wu i f)
def dV (i : Fin 2176) (f : Fin 2816) : ℝ := gateV (dA H Wg Wu Wd γ D i f) (pre H Wg i f)

/-! The six results. -/
def gH (i : Fin 2176) (j : Fin 1024) : ℝ :=
  alpha * dR H Wg Wu Wd γ D i j
    + ((∑ f, dU H Wg Wu Wd γ D i f * Wg j f) + ∑ f, dV H Wg Wu Wd γ D i f * Wu j f)
def gWg (f : Fin 2816) (j : Fin 1024) : ℝ := ∑ i, H i j * dU H Wg Wu Wd γ D i f
def gWu (f : Fin 2816) (j : Fin 1024) : ℝ := ∑ i, H i j * dV H Wg Wu Wd γ D i f
def gWd (f : Fin 2816) (j : Fin 1024) : ℝ := ∑ i, dF H Wg Wu Wd γ D i j * acts H Wg Wu i f
def gG (j : Fin 1024) : ℝ := ∑ i, D i j * xh (res H Wg Wu Wd i) j
def gB (j : Fin 1024) : ℝ := ∑ i, D i j

end Block

/-- A table of reals as an array of a program. -/
def arr2 {a b : ℕ} (f : Fin a → Fin b → ℝ) : (⟨2, ![a, b]⟩ : Shape).Idx → EReal := fun y => f (y 0) (y 1)

theorem arr2_of {a b : ℕ} {f : Fin a → Fin b → ℝ} {X : (⟨2, ![a, b]⟩ : Shape).Idx → EReal} (h : ∀ i j, X (ix2 i j) = (f i j : EReal)) :
    X = arr2 f := by
  funext y
  obtain ⟨i, j, rfl⟩ : ∃ (i : Fin a) (j : Fin b), y = ix2 i j := ⟨y 0, y 1, by
    funext k
    match k with
    | ⟨0, _⟩ => rfl
    | ⟨1, _⟩ => rfl⟩
  exact h i j

end Ffn.Real

end
-- ==== Proof.BandValue.lean ====
module

public import proofs.«01_k».proof.Proof.Chunk
public import proofs.«01_k».proof.Proof.Model

@[expose] public section

/-!
  # The first grid point's work, entry by entry

  Over the reals the arrays that the first grid point makes from the incoming gradient and the saved rows are the
  model's: the residual part of the input gradient, the gradient of the block's output and its transpose, the transposed
  input, and the gradients of the scale and the shift.
-/

noncomputable section

namespace Cert.KernelIdeal.Gen

open Idealize.ShloMosaic Idealize.ShloMosaic.TcCoe Ffn Ffn.Real

theorem n1024 : (1024 : ℝ) ≠ 0 := by norm_num

/-! ## One band -/

section Band
variable {v0 : Vec Ideal S1x1x128x1024 .f32} {vr : Vec Ideal S1x128x1024 .f32} {g : Vec Ideal S1x1024 .f32}
  {d r : Fin 128 → Fin 1024 → ℝ} {γ : Fin 1024 → ℝ}
  (h0 : ∀ i j, v0 (ix4 (0 : Fin 1) (0 : Fin 1) i j) = (d i j : EReal)) (hr : ∀ i j, vr (ix3 (0 : Fin 1) i j) = (r i j : EReal))
  (hg : ∀ j, g (ix2 (0 : Fin 1) j) = (γ j : EReal))

include h0 in
theorem pay3_val (i : Fin 128) (j : Fin 1024) : k0_pay3 v0 (ix2 i j) = (d i j : EReal) := by
  pointwise [k0_pay3]
  exact h0 i j

include hr in
theorem pay4_val (i : Fin 128) (j : Fin 1024) : k0_pay4 vr (ix2 i j) = (cen (r i) j : EReal) := by
  pointwise [k0_pay4]
  simp only [hr, lit_1024, coe_sum, coe_div _ n1024, ← EReal.coe_sub]
  rfl

include hr in
theorem pay5_val (i : Fin 128) : k0_pay5 vr (ix2 i (0 : Fin 1)) = (inv (r i) : EReal) := by
  pointwise [k0_pay5]
  simp only [pay4_val hr, lit_1024, lit_eps, ← EReal.coe_mul, coe_sum, coe_div _ n1024, ← EReal.coe_add]
  exact coe_rsqrt (var_eps_pos (r i))

include hr in
theorem pay6_val (i : Fin 128) (j : Fin 1024) : k0_pay6 vr (ix2 i j) = (xh (r i) j : EReal) := by
  pointwise [k0_pay6]
  rw [pay4_val hr, pay5_val hr, ← EReal.coe_mul]
  rfl

include h0 hg in
theorem pay7_val (i : Fin 128) (j : Fin 1024) : k0_pay7 v0 g (ix2 i j) = (dxh (d i) γ j : EReal) := by
  pointwise [k0_pay7]
  rw [pay3_val h0, hg, ← EReal.coe_mul]
  rfl

include h0 hg in
theorem pay8_val (i : Fin 128) (j : Fin 1024) :
    k0_pay8 v0 g (ix2 i j) = ((dxh (d i) γ j - mean (dxh (d i) γ) : ℝ) : EReal) := by
  pointwise [k0_pay8]
  simp only [pay7_val h0 hg, lit_1024, coe_sum, coe_div _ n1024, ← EReal.coe_sub]
  rfl

include h0 hr hg in
theorem pay9_val (i : Fin 128) :
    k0_pay9 v0 vr g (ix2 i (0 : Fin 1)) = ((mean fun j => dxh (d i) γ j * xh (r i) j : ℝ) : EReal) := by
  pointwise [k0_pay9]
  simp only [pay7_val h0 hg, pay6_val hr, lit_1024, ← EReal.coe_mul, coe_sum, coe_div _ n1024]
  rfl

include h0 hr hg in
theorem pay10_val (i : Fin 128) (j : Fin 1024) :
    k0_pay10 (k0_pay5 vr) (k0_pay6 vr) (k0_pay8 v0 g) (k0_pay9 v0 vr g) (ix2 i j) = (dr (d i) (r i) γ j : EReal) := by
  pointwise [k0_pay10]
  rw [pay5_val hr, pay6_val hr, pay8_val h0 hg, pay9_val h0 hr hg]
  simp only [← EReal.coe_mul, ← EReal.coe_sub]
  rfl

include h0 hr hg in
theorem bandDh_val (i : Fin 128) (j : Fin 1024) : bandDh v0 vr g (ix2 i j) = ((alpha * dr (d i) (r i) γ j : ℝ) : EReal) := by
  unfold bandDh
  pointwise [k0_pay13]
  rw [pay10_val h0 hr hg, lit_alpha, ← EReal.coe_mul]

include h0 hr hg in
theorem bandDf_val (i : Fin 128) (j : Fin 1024) : bandDf v0 vr g (ix2 i j) = ((1 / 2 * dr (d i) (r i) γ j : ℝ) : EReal) := by
  unfold bandDf
  pointwise [k0_pay15, k0_pay14]
  rw [pay10_val h0 hr hg, lit_half, ← EReal.coe_mul]

include h0 hr hg in
theorem bandDfT_val (i : Fin 128) (j : Fin 1024) : bandDfT v0 vr g (ix2 j i) = ((1 / 2 * dr (d i) (r i) γ j : ℝ) : EReal) := by
  unfold bandDfT
  pointwise [k0_pay16, k0_pay14]
  rw [pay10_val h0 hr hg, lit_half, ← EReal.coe_mul]

include h0 hr in
theorem bandDg_val (acc : FVec Ideal S1x1024 .f32) (j : Fin 1024) :
    bandDg acc v0 vr (ix2 (0 : Fin 1) j) = acc (ix2 (0 : Fin 1) j) + ((∑ i, d i j * xh (r i) j : ℝ) : EReal) := by
  unfold bandDg
  pointwise [k0_pay11]
  simp only [pay3_val h0, pay6_val hr, ← EReal.coe_mul, coe_sum]

include h0 in
theorem bandDb_val (acc : FVec Ideal S1x1024 .f32) (j : Fin 1024) :
    bandDb acc v0 (ix2 (0 : Fin 1) j) = acc (ix2 (0 : Fin 1) j) + ((∑ i, d i j : ℝ) : EReal) := by
  unfold bandDb
  pointwise [k0_pay12]
  simp only [pay3_val h0, coe_sum]

end Band

theorem bandHT_val {vh : Vec Ideal S1x128x1024 .bf16} (i : Fin 128) (j : Fin 1024) :
    bandHT vh (ix2 j i) = vh (ix3 (0 : Fin 1) i j) := by
  unfold bandHT
  pointwise [k0_pay17]

/-! ## A band as the kernel loads it -/

theorem up4_at (x : Vec Ideal S128x1024 .f32) (i : Fin 128) (j : Fin 1024) :
    up4 x (ix4 (0 : Fin 1) (0 : Fin 1) i j) = x (ix2 i j) := by
  have h : shapeCast S128x1024 (up4 x) shapeCasts_S1x1x128x1024_S128x1024 (ix2 i j) = up4 x (ix4 (0 : Fin 1) (0 : Fin 1) i j) := by
    pointwise
  exact h.symm.trans (up_reshape numel4 x (ix2 i j))

theorem up3_at {e : EltTy} (x : Vec Ideal S128x1024 e) (i : Fin 128) (j : Fin 1024) :
    up3 x (ix3 (0 : Fin 1) i j) = x (ix2 i j) := by
  have h : shapeCast S128x1024 (up3 x) shapeCasts_S1x128x1024_S128x1024 (ix2 i j) = up3 x (ix3 (0 : Fin 1) i j) := by
    pointwise
  exact h.symm.trans (up_reshape numel3 x (ix2 i j))

/-! ## All rows -/

/-- Row `i` of band `k`. -/
def rowOf (n k : ℕ) (i : Fin n) : Fin 2176 := ⟨(k * n + i.val) % 2176, Nat.mod_lt _ (by decide)⟩

theorem rows_at {C n : ℕ} (k : ℕ) (X : (Mat 2176 C).Idx → EReal) (i : Fin n) (j : Fin C) :
    rows n k X (ix2 i j) = X (ix2 (rowOf n k i) j) := rfl

theorem rowOf_div (n : ℕ) [NeZero n] (i : Fin 2176) :
    rowOf n (i.val / n) ⟨i.val % n, Nat.mod_lt _ (NeZero.pos n)⟩ = i :=
  Fin.ext (by
    show (i.val / n * n + i.val % n) % 2176 = i.val
    rw [Nat.mul_comm, Nat.div_add_mod, Nat.mod_eq_of_lt i.isLt])

theorem rowOf_lt {n : ℕ} (k : ℕ) (i : Fin n) (h : k * n + i.val < 2176) : rowOf n k i = ⟨k * n + i.val, h⟩ :=
  Fin.ext (Nat.mod_eq_of_lt h)

section All
variable {dy r : Vec Ideal S2176x1024 .f32} {hb : Vec Ideal S2176x1024 .bf16} {g : Vec Ideal S1x1024 .f32}
  {D R : Fin 2176 → Fin 1024 → ℝ} {γ : Fin 1024 → ℝ}
  (h0 : ∀ i j, dy (ix2 i j) = (D i j : EReal)) (hr : ∀ i j, r (ix2 i j) = (R i j : EReal))
  (hg : ∀ j, g (ix2 (0 : Fin 1) j) = (γ j : EReal))

include h0 in
theorem band_dy (k : ℕ) (i : Fin 128) (j : Fin 1024) :
    up4 (rows (N := 2176) (C := 1024) 128 k dy) (ix4 (0 : Fin 1) (0 : Fin 1) i j) = (D (rowOf 128 k i) j : EReal) := by
  rw [up4_at]; exact h0 _ _

include hr in
theorem band_r (k : ℕ) (i : Fin 128) (j : Fin 1024) :
    up3 (rows (N := 2176) (C := 1024) 128 k r) (ix3 (0 : Fin 1) i j) = (R (rowOf 128 k i) j : EReal) := by
  rw [up3_at]; exact hr _ _

include h0 hr hg in
theorem allDh_val (i : Fin 2176) (j : Fin 1024) : allDh dy r g (ix2 i j) = ((alpha * dr (D i) (R i) γ j : ℝ) : EReal) := by
  refine (bandDh_val (band_dy h0 (i.val / 128)) (band_r hr (i.val / 128)) hg _ j).trans ?_
  exact congrArg (fun a => ((alpha * dr (D a) (R a) γ j : ℝ) : EReal)) (rowOf_div 128 i)

include h0 hr hg in
theorem allDf_val (i : Fin 2176) (j : Fin 1024) : allDf dy r g (ix2 i j) = ((1 / 2 * dr (D i) (R i) γ j : ℝ) : EReal) := by
  refine (bandDf_val (band_dy h0 (i.val / 128)) (band_r hr (i.val / 128)) hg _ j).trans ?_
  exact congrArg (fun a => ((1 / 2 * dr (D a) (R a) γ j : ℝ) : EReal)) (rowOf_div 128 i)

include h0 hr hg in
theorem allDfT_val (i : Fin 2176) (j : Fin 1024) : allDfT dy r g (ix2 j i) = ((1 / 2 * dr (D i) (R i) γ j : ℝ) : EReal) := by
  refine (bandDfT_val (band_dy h0 (i.val / 128)) (band_r hr (i.val / 128)) hg _ j).trans ?_
  exact congrArg (fun a => ((1 / 2 * dr (D a) (R a) γ j : ℝ) : EReal)) (rowOf_div 128 i)

theorem allHT_val (i : Fin 2176) (j : Fin 1024) : allHT hb (ix2 j i) = hb (ix2 i j) := by
  refine (bandHT_val (vh := up3 (rows (N := 2176) (C := 1024) 128 (i.val / 128) hb)) _ j).trans ?_
  rw [up3_at]
  exact congrArg (fun a => hb (ix2 a j)) (rowOf_div 128 i)

/-- A sum over the bands is the sum over the rows. -/
theorem sum_bands (f : Fin 2176 → ℝ) : ∑ k : Fin 17, ∑ i : Fin 128, f (rowOf 128 k.val i) = ∑ i, f i :=
  Fin.sum_mul_add_congr (fun s k hl => by rw [rowOf_lt _ _ hl]) rfl

include h0 hr in
theorem sumDg_val (j : Fin 1024) (n : ℕ) : sumDg dy r n (ix2 (0 : Fin 1) j)
    = ((∑ k ∈ Finset.range n, ∑ i : Fin 128, D (rowOf 128 k i) j * xh (R (rowOf 128 k i)) j : ℝ) : EReal) := by
  induction n with
  | zero =>
    unfold sumDg
    pointwise [k0_pay1]
    simp
  | succ n ih =>
    rw [Finset.sum_range_succ, EReal.coe_add, ← ih]
    exact bandDg_val (band_dy h0 n) (band_r hr n) _ j

include h0 in
theorem sumDb_val (j : Fin 1024) (n : ℕ) : sumDb dy n (ix2 (0 : Fin 1) j)
    = ((∑ k ∈ Finset.range n, ∑ i : Fin 128, D (rowOf 128 k i) j : ℝ) : EReal) := by
  induction n with
  | zero =>
    unfold sumDb
    pointwise [k0_pay2]
    simp
  | succ n ih =>
    rw [Finset.sum_range_succ, EReal.coe_add, ← ih]
    exact bandDb_val (band_dy h0 n) _ j

include h0 hr in
theorem dg_val (j : Fin 1024) : sumDg dy r 17 (ix2 (0 : Fin 1) j) = ((∑ i, D i j * xh (R i) j : ℝ) : EReal) := by
  rw [sumDg_val h0 hr, Finset.sum_range, sum_bands fun i => D i j * xh (R i) j]

include h0 in
theorem db_val (j : Fin 1024) : sumDb dy 17 (ix2 (0 : Fin 1) j) = ((∑ i, D i j : ℝ) : EReal) := by
  rw [sumDb_val h0, Finset.sum_range, sum_bands fun i => D i j]

end All

end Cert.KernelIdeal.Gen

end
-- ==== Proof.GateValue.lean ====
module

public import proofs.«01_k».proof.Proof.Gate
public import proofs.«01_k».proof.Proof.BandValue

@[expose] public section

/-!
  # One grid point's work on its 256 columns, entry by entry

  Over the reals the gate gradients, the activations, the three weight gradients' blocks and the share of the input
  gradient that one grid point computes are the model's.
-/

noncomputable section

namespace Cert.KernelIdeal.Gen

open Idealize.ShloMosaic Idealize.ShloMosaic.TcCoe Ffn Ffn.Real

/-! ## One band of 272 rows -/

section Band
variable {df : Vec Ideal S272x1024 .bf16} {wd wg wu : Vec Ideal S256x1024 .bf16} {u v : Vec Ideal S1x272x256 .bf16}
  {dF : Fin 272 → Fin 1024 → ℝ} {Wd Wg Wu : Fin 256 → Fin 1024 → ℝ} {U V : Fin 272 → Fin 256 → ℝ}
  (hdf : ∀ i j, df (ix2 i j) = (dF i j : EReal)) (hwd : ∀ f j, wd (ix2 f j) = (Wd f j : EReal))
  (hwg : ∀ f j, wg (ix2 f j) = (Wg f j : EReal)) (hwu : ∀ f j, wu (ix2 f j) = (Wu f j : EReal))
  (hu : ∀ i f, u (ix3 (0 : Fin 1) i f) = (U i f : EReal)) (hv : ∀ i f, v (ix3 (0 : Fin 1) i f) = (V i f : EReal))

include hdf hwd in
theorem pay241_val (i : Fin 272) (f : Fin 256) : k0_pay241 df wd (ix2 i f) = ((∑ j, dF i j * Wd f j : ℝ) : EReal) := by
  pointwise [k0_pay241]
  simp only [hdf, hwd, ← EReal.coe_mul, coe_sum]

include hu in
theorem pay244_val (i : Fin 272) (f : Fin 256) : k0_pay244 u (ix2 i f) = (sgm (U i f) : EReal) := by
  pointwise [k0_pay244, k0_pay242]
  rw [hu, zero_sub]
  exact coe_sgm _

include hdf hwd hu hv in
theorem pay245_val (i : Fin 272) (f : Fin 256) :
    k0_pay245 df wd u v (ix2 i f) = (gateU (∑ j, dF i j * Wd f j) (U i f) (V i f) : EReal) := by
  pointwise [k0_pay245, k0_pay242, k0_pay243]
  rw [pay241_val hdf hwd, pay244_val hu, hu, hv]
  simp only [← EReal.coe_mul, ← EReal.coe_one, ← EReal.coe_sub, ← EReal.coe_add]
  rfl

include hdf hwd hu in
theorem pay246_val (i : Fin 272) (f : Fin 256) :
    k0_pay246 df wd u (ix2 i f) = (gateV (∑ j, dF i j * Wd f j) (U i f) : EReal) := by
  pointwise [k0_pay246, k0_pay242]
  rw [pay241_val hdf hwd, pay244_val hu, hu]
  simp only [← EReal.coe_mul]
  rfl

include hdf hwd hu hv in
theorem pay247_val (i : Fin 272) (f : Fin 256) :
    k0_pay247 df wd u v (ix2 i f) = (gateU (∑ j, dF i j * Wd f j) (U i f) (V i f) : EReal) := by
  pointwise [k0_pay247]
  exact pay245_val hdf hwd hu hv i f

include hdf hwd hu in
theorem pay248_val (i : Fin 272) (f : Fin 256) :
    k0_pay248 (k0_pay246 df wd u) (ix2 i f) = (gateV (∑ j, dF i j * Wd f j) (U i f) : EReal) := by
  pointwise [k0_pay248]
  exact pay246_val hdf hwd hu i f

include hu hv in
theorem pay249_val (i : Fin 272) (f : Fin 256) :
    k0_pay249 (k0_pay242 u) (k0_pay243 v) (k0_pay244 u) (ix2 i f) = (act (U i f) (V i f) : EReal) := by
  pointwise [k0_pay249, k0_pay242, k0_pay243]
  rw [pay244_val hu, hu, hv]
  simp only [← EReal.coe_mul]
  rfl

include hdf hwd hwg hwu hu hv in
theorem pay250_val (x : Vec Ideal S272x1024 .f32) (i : Fin 272) (j : Fin 1024) :
    k0_pay250 (k0_pay245 df wd u v) (k0_pay246 df wd u) x wg wu (ix2 i j) = x (ix2 i j)
      + (((∑ f, gateU (∑ j, dF i j * Wd f j) (U i f) (V i f) * Wg f j) + ∑ f, gateV (∑ j, dF i j * Wd f j) (U i f) * Wu f j : ℝ) : EReal) := by
  pointwise [k0_pay250]
  simp only [pay245_val hdf hwd hu hv, pay246_val hdf hwd hu, hwg, hwu, ← EReal.coe_mul, coe_sum, ← EReal.coe_add]

end Band

/-! ## All rows -/

section All
variable {df : Vec Ideal S2176x1024 .bf16} {wd wg wu : Vec Ideal S256x1024 .bf16} {u v : Vec Ideal S1x2176x256 .bf16}
  {dF : Fin 2176 → Fin 1024 → ℝ} {Wd Wg Wu : Fin 256 → Fin 1024 → ℝ} {U V : Fin 2176 → Fin 256 → ℝ}
  (hdf : ∀ i j, df (ix2 i j) = (dF i j : EReal)) (hwd : ∀ f j, wd (ix2 f j) = (Wd f j : EReal))
  (hwg : ∀ f j, wg (ix2 f j) = (Wg f j : EReal)) (hwu : ∀ f j, wu (ix2 f j) = (Wu f j : EReal))
  (hu : ∀ i f, u (ix3 (0 : Fin 1) i f) = (U i f : EReal)) (hv : ∀ i f, v (ix3 (0 : Fin 1) i f) = (V i f : EReal))

theorem band_at {x : Vec Ideal S1x2176x256 .bf16} {X : Fin 2176 → Fin 256 → ℝ} (hx : ∀ i f, x (ix3 (0 : Fin 1) i f) = (X i f : EReal))
    (k : ℕ) (i : Fin 272) (f : Fin 256) : band k x (ix3 (0 : Fin 1) i f) = (X (rowOf 272 k i) f : EReal) := hx _ _

theorem rows_df (hdf : ∀ i j, df (ix2 i j) = (dF i j : EReal)) (k : ℕ) (i : Fin 272) (j : Fin 1024) :
    rows (N := 2176) (C := 1024) 272 k df (ix2 i j) = (dF (rowOf 272 k i) j : EReal) := hdf _ _

include hdf hwd hu hv in
theorem allDu_val (i : Fin 2176) (f : Fin 256) :
    allDu df wd u v (ix2 i f) = (gateU (∑ j, dF i j * Wd f j) (U i f) (V i f) : EReal) :=
  (pay247_val (rows_df hdf (i.val / 272)) hwd (band_at hu (i.val / 272)) (band_at hv (i.val / 272)) _ f).trans
    (congrArg (fun a => (gateU (∑ j, dF a j * Wd f j) (U a f) (V a f) : EReal)) (rowOf_div 272 i))

include hdf hwd hu in
theorem allDv_val (i : Fin 2176) (f : Fin 256) :
    allDv df wd u (ix2 i f) = (gateV (∑ j, dF i j * Wd f j) (U i f) : EReal) :=
  (pay248_val (rows_df hdf (i.val / 272)) hwd (band_at hu (i.val / 272)) _ f).trans
    (congrArg (fun a => (gateV (∑ j, dF a j * Wd f j) (U a f) : EReal)) (rowOf_div 272 i))

include hu hv in
theorem allAc_val (i : Fin 2176) (f : Fin 256) : allAc u v (ix2 i f) = (act (U i f) (V i f) : EReal) :=
  (pay249_val (band_at hu (i.val / 272)) (band_at hv (i.val / 272)) _ f).trans
    (congrArg (fun a => (act (U a f) (V a f) : EReal)) (rowOf_div 272 i))

include hdf hwd hwg hwu hu hv in
theorem nextDh_val (dh : Vec Ideal S2176x1024 .f32) (i : Fin 2176) (j : Fin 1024) :
    nextDh df wd wg wu u v dh (ix2 i j) = dh (ix2 i j)
      + (((∑ f, gateU (∑ j, dF i j * Wd f j) (U i f) (V i f) * Wg f j) + ∑ f, gateV (∑ j, dF i j * Wd f j) (U i f) * Wu f j : ℝ) : EReal) :=
  (pay250_val (rows_df hdf (i.val / 272)) hwd hwg hwu (band_at hu (i.val / 272)) (band_at hv (i.val / 272))
      (rows (N := 2176) (C := 1024) 272 (i.val / 272) dh) _ j).trans
    (congrArg (fun a => dh (ix2 a j) + (((∑ f, gateU (∑ j, dF a j * Wd f j) (U a f) (V a f) * Wg f j)
      + ∑ f, gateV (∑ j, dF a j * Wd f j) (U a f) * Wu f j : ℝ) : EReal)) (rowOf_div 272 i))

end All

/-! ## The weight gradients' blocks -/

section Weights
variable {x : Vec Ideal S1024x2176 .bf16} {y : Vec Ideal S2176x256 .bf16} {X : Fin 2176 → Fin 1024 → ℝ} {Y : Fin 2176 → Fin 256 → ℝ}
  (hx : ∀ i j, x (ix2 j i) = (X i j : EReal)) (hy : ∀ i f, y (ix2 i f) = (Y i f : EReal))

include hx hy in
theorem pay329_val (f : Fin 256) (j : Fin 1024) : k0_pay329 x y (ix2 f j) = ((∑ i, X i j * Y i f : ℝ) : EReal) := by
  pointwise [k0_pay329]
  simp only [hx, hy, ← EReal.coe_mul, coe_sum]

include hx hy in
theorem pay330_val (f : Fin 256) (j : Fin 1024) : k0_pay330 x y (ix2 f j) = ((∑ i, X i j * Y i f : ℝ) : EReal) := by
  pointwise [k0_pay330]
  simp only [hx, hy, ← EReal.coe_mul, coe_sum]

include hx hy in
theorem pay331_val (f : Fin 256) (j : Fin 1024) : k0_pay331 x y (ix2 f j) = ((∑ i, X i j * Y i f : ℝ) : EReal) := by
  pointwise [k0_pay331]
  simp only [hx, hy, ← EReal.coe_mul, coe_sum]

end Weights

end Cert.KernelIdeal.Gen

end
-- ==== Proof.EntryValue.lean ====
module

public import proofs.«01_k».proof.Proof.Grid
public import proofs.«01_k».proof.Proof.GateValue

@[expose] public section

/-!
  # What the host computes before the grid, entry by entry

  The arguments are real numbers, so the arrays that the host prepares for the kernel are real too: the saved rows
  before the normalisation, the two pre-activations cut into blocks of 256 columns, and the weights.
-/

noncomputable section

namespace Cert.KernelIdeal.Gen

open Idealize.ShloMosaic Idealize.ShloMosaic.TcCoe Ffn Ffn.Real

/-- The rows before the normalisation, as the host computes them. -/
theorem res_val {H : Fin 2176 → Fin 1024 → ℝ} {Wg Wu : Fin 1024 → Fin 2816 → ℝ} {Wd : Fin 2816 → Fin 1024 → ℝ}
    (i : Fin 2176) (j : Fin 1024) {a : Fin 1024 → EReal} {g u : Fin 1024 → Fin 2816 → EReal} {w : Fin 2816 → EReal}
    (ha : ∀ x, a x = (H i x : EReal)) (hg : ∀ x f, g x f = (Wg x f : EReal)) (hu : ∀ x f, u x f = (Wu x f : EReal))
    (hw : ∀ f, w f = (Wd f j : EReal)) :
    Ideal.ofBits .f32 0x3FB504F3#32 * a j + Ideal.ofBits .f32 0x3F000000#32
        * ∑ f, ((∑ x, a x * g x f) * Ideal.div 1 (1 + Ideal.exp (-∑ x, a x * g x f)) * ∑ x, a x * u x f) * w f
      = (res H Wg Wu Wd i j : EReal) := by
  simp only [ha, hg, hu, hw, coe_sgm, lit_alpha, lit_half, ← EReal.coe_mul, coe_sum, ← EReal.coe_add]
  rfl

variable (m : (ℓ : Loc nD τ sig) → Buf (Elt Ideal) ℓ) (c : Dev nD)

/-- The arguments are the real numbers given. -/
structure Args (H : Fin 2176 → Fin 1024 → ℝ) (Wg Wu : Fin 1024 → Fin 2816 → ℝ) (Wd : Fin 2816 → Fin 1024 → ℝ)
    (γ : Fin 1024 → ℝ) (D : Fin 2176 → Fin 1024 → ℝ) : Prop where
  h : ∀ i j, m ((c : Thread nD τ).loc main_arg0) (ix2 i j) = (H i j : EReal)
  wg : ∀ j f, m ((c : Thread nD τ).loc main_arg1) (ix2 j f) = (Wg j f : EReal)
  wu : ∀ j f, m ((c : Thread nD τ).loc main_arg2) (ix2 j f) = (Wu j f : EReal)
  wd : ∀ f j, m ((c : Thread nD τ).loc main_arg3) (ix2 f j) = (Wd f j : EReal)
  g : ∀ j, m ((c : Thread nD τ).loc main_arg4) (ix1 j) = (γ j : EReal)
  ct : ∀ i j, m ((c : Thread nD τ).loc main_arg6) (ix2 i j) = (D i j : EReal)

variable {m c} {H : Fin 2176 → Fin 1024 → ℝ} {Wg Wu : Fin 1024 → Fin 2816 → ℝ} {Wd : Fin 2816 → Fin 1024 → ℝ}
  {γ : Fin 1024 → ℝ} {D : Fin 2176 → Fin 1024 → ℝ} (A : Args m c H Wg Wu Wd γ D)

include A

theorem V6_val (i : Fin 2176) (j : Fin 1024) : V m c main_arg6 (ix2 i j) = (D i j : EReal) := by
  rw [V_main_arg6]; exact A.ct i j

theorem V9_val (i : Fin 2176) (j : Fin 1024) : V m c main_v9 (ix2 i j) = (res H Wg Wu Wd i j : EReal) := by
  simp only [V, hostOps0, hostOps0_1, hostOps0_2, List.flatten_cons, List.flatten_nil, List.cons_append, List.nil_append, List.append_nil]
  entry_read
  simp only [StableHlo.TRef.toBuf, StableHlo.TRef.ofBuf, cast_eq]
  pointwise
  exact res_val i j (a := fun x => m (c, Proc.tc.devRef main_arg0) (ix2 i x)) (g := fun x f => m (c, Proc.tc.devRef main_arg1) (ix2 x f))
    (u := fun x f => m (c, Proc.tc.devRef main_arg2) (ix2 x f)) (w := fun f => m (c, Proc.tc.devRef main_arg3) (ix2 f j))
    (A.h i) A.wg A.wu (fun f => A.wd f j)

theorem V14_val (t : Fin 11) (i : Fin 2176) (f : Fin 256) (h : t.val * 256 + f.val < 2816) :
    V m c main_v14 (ix3 t i f) = (pre H Wg i ⟨t.val * 256 + f.val, h⟩ : EReal) := by
  simp only [V, hostOps0, hostOps0_1, hostOps0_2, List.flatten_cons, List.flatten_nil, List.cons_append, List.nil_append, List.append_nil]
  entry_read
  pointwise
  exact sum_mul_val (A.h i) (fun x => A.wg x _)

theorem V17_val (t : Fin 11) (i : Fin 2176) (f : Fin 256) (h : t.val * 256 + f.val < 2816) :
    V m c main_v17 (ix3 t i f) = (pre H Wu i ⟨t.val * 256 + f.val, h⟩ : EReal) := by
  simp only [V, hostOps0, hostOps0_1, hostOps0_2, List.flatten_cons, List.flatten_nil, List.cons_append, List.nil_append, List.append_nil]
  entry_read
  pointwise
  exact sum_mul_val (A.h i) (fun x => A.wu x _)

theorem V19_val (f : Fin 2816) (j : Fin 1024) : V m c main_v19 (ix2 f j) = (Wg j f : EReal) := by
  simp only [V, hostOps0, hostOps0_1, hostOps0_2, List.flatten_cons, List.flatten_nil, List.cons_append, List.nil_append, List.append_nil]
  entry_read
  pointwise
  exact A.wg j f
theorem V21_val (f : Fin 2816) (j : Fin 1024) : V m c main_v21 (ix2 f j) = (Wu j f : EReal) := by
  simp only [V, hostOps0, hostOps0_1, hostOps0_2, List.flatten_cons, List.flatten_nil, List.cons_append, List.nil_append, List.append_nil]
  entry_read
  pointwise
  exact A.wu j f
theorem V22_val (f : Fin 2816) (j : Fin 1024) : V m c main_v22 (ix2 f j) = (Wd f j : EReal) := by
  simp only [V, hostOps0, hostOps0_1, hostOps0_2, List.flatten_cons, List.flatten_nil, List.cons_append, List.nil_append, List.append_nil]
  entry_read
  pointwise
  exact A.wd f j
theorem V10_val (j : Fin 1024) : V m c main_v10 (ix2 (0 : Fin 1) j) = (γ j : EReal) := by
  simp only [V, hostOps0, hostOps0_1, hostOps0_2, List.flatten_cons, List.flatten_nil, List.cons_append, List.nil_append, List.append_nil]
  entry_read
  pointwise
  exact A.g j
theorem V11_val (i : Fin 2176) (j : Fin 1024) : V m c main_v11 (ix2 i j) = (H i j : EReal) := by
  simp only [V, hostOps0, hostOps0_1, hostOps0_2, List.flatten_cons, List.flatten_nil, List.cons_append, List.nil_append, List.append_nil]
  entry_read
  pointwise
  exact A.h i j

end Cert.KernelIdeal.Gen

end
-- ==== Proof.KernelValue.lean ====
module

public import proofs.«01_k».proof.Proof.EntryValue

@[expose] public section

/-!
  # What the kernel leaves in its six results

  Point by point the kernel's blocks are the model's, and so are the arrays they make up.
-/

noncomputable section

namespace Cert.KernelIdeal.Gen

open Idealize.ShloMosaic Idealize.ShloMosaic.TcCoe Ffn Ffn.Real

variable {m : (ℓ : Loc nD τ sig) → Buf (Elt Ideal) ℓ} {c : Dev nD}
  {H : Fin 2176 → Fin 1024 → ℝ} {Wg Wu : Fin 1024 → Fin 2816 → ℝ} {Wd : Fin 2816 → Fin 1024 → ℝ}
  {γ : Fin 1024 → ℝ} {D : Fin 2176 → Fin 1024 → ℝ} (A : Args m c H Wg Wu Wd γ D)

/-! ## The blocks a point is given -/

theorem lt11 (t : Fin cfg0.N) : t.val < 11 := lt_of_lt_of_eq t.isLt (show cfg0.N = 11 from N_0)

theorem idx0 : ∀ t : Fin cfg0.N, win0_0.index t = ![0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

/-- Column `f` of point `t`'s block of columns. -/
def colOf (t : Fin cfg0.N) (f : Fin 256) : Fin 2816 := ⟨t.val * 256 + f.val, by have := lt11 t; omega⟩

theorem gam_at (t : Fin cfg0.N) (j : Fin 1024) : gam m c t (ix2 (0 : Fin 1) j) = V m c main_v10 (ix2 (0 : Fin 1) j) := by
  blk_ext [gam, iblk, idx0 t]
theorem ub_at (t : Fin cfg0.N) (i : Fin 2176) (f : Fin 256) :
    ub m c t (ix3 (0 : Fin 1) i f) = V m c main_v14 (ix3 (⟨t.val, lt11 t⟩ : Fin 11) i f) := by
  blk_ext [ub, iblk, idx1 t]
theorem vb_at (t : Fin cfg0.N) (i : Fin 2176) (f : Fin 256) :
    vb m c t (ix3 (0 : Fin 1) i f) = V m c main_v17 (ix3 (⟨t.val, lt11 t⟩ : Fin 11) i f) := by
  blk_ext [vb, iblk, idx2 t]
theorem wgb_at (t : Fin cfg0.N) (f : Fin 256) (j : Fin 1024) : wgb m c t (ix2 f j) = V m c main_v19 (ix2 (colOf t f) j) := by
  blk_ext [wgb, iblk, idx3 t, colOf]
theorem wub_at (t : Fin cfg0.N) (f : Fin 256) (j : Fin 1024) : wub m c t (ix2 f j) = V m c main_v21 (ix2 (colOf t f) j) := by
  blk_ext [wub, iblk, idx4 t, colOf]
theorem wdb_at (t : Fin cfg0.N) (f : Fin 256) (j : Fin 1024) : wdb m c t (ix2 f j) = V m c main_v22 (ix2 (colOf t f) j) := by
  blk_ext [wdb, iblk, idx5 t, colOf]

section Blocks
include A

theorem gam_val (t : Fin cfg0.N) (j : Fin 1024) : gam m c t (ix2 (0 : Fin 1) j) = (γ j : EReal) := (gam_at t j).trans (V10_val A j)
theorem ub_val (t : Fin cfg0.N) (i : Fin 2176) (f : Fin 256) : ub m c t (ix3 (0 : Fin 1) i f) = (pre H Wg i (colOf t f) : EReal) :=
  (ub_at t i f).trans (V14_val A _ i f _)
theorem vb_val (t : Fin cfg0.N) (i : Fin 2176) (f : Fin 256) : vb m c t (ix3 (0 : Fin 1) i f) = (pre H Wu i (colOf t f) : EReal) :=
  (vb_at t i f).trans (V17_val A _ i f _)
theorem wgb_val (t : Fin cfg0.N) (f : Fin 256) (j : Fin 1024) : wgb m c t (ix2 f j) = (Wg j (colOf t f) : EReal) :=
  (wgb_at t f j).trans (V19_val A _ j)
theorem wub_val (t : Fin cfg0.N) (f : Fin 256) (j : Fin 1024) : wub m c t (ix2 f j) = (Wu j (colOf t f) : EReal) :=
  (wub_at t f j).trans (V21_val A _ j)
theorem wdb_val (t : Fin cfg0.N) (f : Fin 256) (j : Fin 1024) : wdb m c t (ix2 f j) = (Wd (colOf t f) j : EReal) :=
  (wdb_at t f j).trans (V22_val A _ j)

/-! ## What the first point leaves -/

theorem dfAll_val (i : Fin 2176) (j : Fin 1024) : dfAll m c (ix2 i j) = (dF H Wg Wu Wd γ D i j : EReal) :=
  allDf_val (V6_val A) (V9_val A) (gam_val A (pt 0)) i j
theorem dftAll_val (i : Fin 2176) (j : Fin 1024) : dftAll m c (ix2 j i) = (dF H Wg Wu Wd γ D i j : EReal) :=
  allDfT_val (V6_val A) (V9_val A) (gam_val A (pt 0)) i j
theorem htAll_val (i : Fin 2176) (j : Fin 1024) : htAll m c (ix2 j i) = (H i j : EReal) :=
  (allHT_val i j).trans (V11_val A i j)

/-! ## The weight gradients' blocks -/

theorem dwgB_val (t : Fin cfg0.N) (f : Fin 256) (j : Fin 1024) : dwgB m c t (ix2 f j) = (gWg H Wg Wu Wd γ D (colOf t f) j : EReal) :=
  pay329_val (htAll_val A) (allDu_val (dfAll_val A) (wdb_val A t) (ub_val A t) (vb_val A t)) f j
theorem dwuB_val (t : Fin cfg0.N) (f : Fin 256) (j : Fin 1024) : dwuB m c t (ix2 f j) = (gWu H Wg Wu Wd γ D (colOf t f) j : EReal) :=
  pay330_val (htAll_val A) (allDv_val (dfAll_val A) (wdb_val A t) (ub_val A t)) f j
theorem dwdB_val (t : Fin cfg0.N) (f : Fin 256) (j : Fin 1024) : dwdB m c t (ix2 f j) = (gWd H Wg Wu Wd γ D (colOf t f) j : EReal) :=
  pay331_val (dftAll_val A) (allAc_val (ub_val A t) (vb_val A t)) f j

/-! ## The input gradient -/

theorem dhAt_val (i : Fin 2176) (j : Fin 1024) (n : ℕ) : dhAt m c n (ix2 i j)
    = ((alpha * dR H Wg Wu Wd γ D i j + ∑ k ∈ Finset.range n,
        ((∑ f, dU H Wg Wu Wd γ D i (colOf (pt k) f) * Wg j (colOf (pt k) f))
          + ∑ f, dV H Wg Wu Wd γ D i (colOf (pt k) f) * Wu j (colOf (pt k) f)) : ℝ) : EReal) := by
  induction n with
  | zero =>
    rw [Finset.sum_range_zero, add_zero]
    exact allDh_val (V6_val A) (V9_val A) (gam_val A (pt 0)) i j
  | succ n ih =>
    rw [Finset.sum_range_succ, ← add_assoc, EReal.coe_add, ← ih]
    exact nextDh_val (dfAll_val A) (wdb_val A (pt n)) (wgb_val A (pt n)) (wub_val A (pt n)) (ub_val A (pt n)) (vb_val A (pt n)) _ i j

omit A in
theorem sum_points (g : Fin 2816 → ℝ) : ∑ k : Fin 11, ∑ f : Fin 256, g (colOf (pt k.val) f) = ∑ f, g f :=
  Fin.sum_mul_add_congr (fun s k hl => congrArg g (Fin.ext (by
    show s.val % 11 * 256 + k.val = s.val * 256 + k.val
    rw [Nat.mod_eq_of_lt s.isLt]))) rfl

theorem dh_val (i : Fin 2176) (j : Fin 1024) : dhAt m c 11 (ix2 i j) = (gH H Wg Wu Wd γ D i j : EReal) := by
  rw [dhAt_val A, Finset.sum_add_distrib, Finset.sum_range, Finset.sum_range,
    sum_points fun f => dU H Wg Wu Wd γ D i f * Wg j f, sum_points fun f => dV H Wg Wu Wd γ D i f * Wu j f]
  rfl

/-! ## The windows' arrays after the last point -/

omit A in
/-- A block of 256 rows lies where the whole table has those rows. -/
theorem block_arr {g : Fin 2816 → Fin 1024 → ℝ} (t : Fin cfg0.N) {X : (Mat 256 1024).Idx → EReal}
    (h : ∀ f j, X (ix2 f j) = (g (colOf t f) j : EReal)) (y : (Mat 256 1024).Idx) {z : (Mat 2816 1024).Idx}
    (h0 : (z 0).val = t.val * 256 + (y 0).val) (h1 : (z 1).val = (y 1).val) : X y = arr2 g z := by
  rw [arr2_of h]
  unfold arr2
  rw [show z 0 = colOf t (y 0) from Fin.ext h0, show z 1 = y 1 from Fin.ext h1]

theorem out6 : (dats m 0 c).arrAt 6 cfg0.N = arr2 (gWg H Wg Wu Wd γ D) := by
  refine (dats m 0 c).arrAt_eq_of_covers 6 _ (by decide +kernel) fun t hf y => ?_
  blk_simp
  rw [after6]
  refine block_arr t (dwgB_val A t) y ?_ ?_
  · blk_simp [idx6 t]
  · blk_simp [idx6 t]

theorem out7 : (dats m 0 c).arrAt 7 cfg0.N = arr2 (gWu H Wg Wu Wd γ D) := by
  refine (dats m 0 c).arrAt_eq_of_covers 7 _ (by decide +kernel) fun t hf y => ?_
  blk_simp
  rw [after7]
  refine block_arr t (dwuB_val A t) y ?_ ?_
  · blk_simp [idx7 t]
  · blk_simp [idx7 t]

theorem out8 : (dats m 0 c).arrAt 8 cfg0.N = arr2 (gWd H Wg Wu Wd γ D) := by
  refine (dats m 0 c).arrAt_eq_of_covers 8 _ (by decide +kernel) fun t hf y => ?_
  blk_simp
  rw [after8]
  refine block_arr t (dwdB_val A t) y ?_ ?_
  · blk_simp [idx8 t]
  · blk_simp [idx8 t]

theorem out9 : (dats m 0 c).arrAt 9 cfg0.N = arr2 fun (_ : Fin 1) => gG H Wg Wu Wd D := by
  refine (dats m 0 c).arrAt_eq_of_after_last 9 t0_10 (by decide +kernel) _ fun y => ?_
  blk_simp
  rw [after9]
  refine congrFun (arr2_of fun i j => ?_) y
  rw [Fin.fin_one_eq_zero i]
  exact dg_val (V6_val A) (V9_val A) j

theorem out10 : (dats m 0 c).arrAt 10 cfg0.N = arr2 fun (_ : Fin 1) => gB D := by
  refine (dats m 0 c).arrAt_eq_of_after_last 10 t0_10 (by decide +kernel) _ fun y => ?_
  blk_simp
  rw [after10]
  refine congrFun (arr2_of fun i j => ?_) y
  rw [Fin.fin_one_eq_zero i]
  exact db_val (V6_val A) j

theorem out_dh : G m c main_v23_0 = arr2 (gH H Wg Wu Wd γ D) := by
  rw [G_dh]
  exact arr2_of (dh_val A)

end Blocks

end Cert.KernelIdeal.Gen

end
-- ==== Proof.RefValue.lean ====
module

public import proofs.«01_k».proof.Proof.Gen.ReferenceIdeal.Read
public import proofs.«01_k».proof.Proof.Model

@[expose] public section

/-!
  # The reference's arrays, entry by entry

  Over real arguments every array of the reference is the model's, in the order in which the reference computes them.
-/

noncomputable section

namespace Cert.ReferenceIdeal.Read

open Idealize.ShloMosaic Ffn.Real Cert.ReferenceIdeal.Facts

theorem n1024 : (1024 : ℝ) ≠ 0 := by norm_num

variable {x0 : (⟨S2176x1024, .f32⟩ : BufTy).Contents (Elt Ideal)} {x1 x2 : (⟨S1024x2816, .f32⟩ : BufTy).Contents (Elt Ideal)}
  {x3 : (⟨S2816x1024, .f32⟩ : BufTy).Contents (Elt Ideal)} {x4 : (⟨S1024, .f32⟩ : BufTy).Contents (Elt Ideal)}
  {x6 : (⟨S2176x1024, .f32⟩ : BufTy).Contents (Elt Ideal)}
  {H : Fin 2176 → Fin 1024 → ℝ} {Wg Wu : Fin 1024 → Fin 2816 → ℝ} {Wd : Fin 2816 → Fin 1024 → ℝ}
  {γ : Fin 1024 → ℝ} {D : Fin 2176 → Fin 1024 → ℝ}
  (h0 : ∀ i j, x0 (ix2 i j) = (H i j : EReal)) (h1 : ∀ j f, x1 (ix2 j f) = (Wg j f : EReal)) (h2 : ∀ j f, x2 (ix2 j f) = (Wu j f : EReal))
  (h3 : ∀ f j, x3 (ix2 f j) = (Wd f j : EReal)) (h4 : ∀ j, x4 (ix1 j) = (γ j : EReal)) (h6 : ∀ i j, x6 (ix2 i j) = (D i j : EReal))

/-! ## The forward pass -/

section Gate
include h0 h1

theorem r2 (i : Fin 2176) (f : Fin 2816) : val_main_v2 x0 x1 (ix2 i f) = (pre H Wg i f : EReal) := by
  pointwise [val_main_v2]
  exact sum_mul_val (h0 i) (fun x => h1 x f)

theorem r3_2 (i : Fin 2176) (f : Fin 2816) : val_main_v3_2 x0 x1 (ix2 i f) = (sgm (pre H Wg i f) : EReal) := by
  pointwise [val_main_v3_2, val_main_call0_v4, val_main_call0_cst_0, val_main_call0_v3, val_main_call0_v2, val_main_call0_cst, val_main_call0_v1, val_main_call0_v0]
  rw [r2 h0 h1]
  exact coe_sgm _

theorem r3_1 (i : Fin 2176) (f : Fin 2816) :
    val_main_v3_1 x0 x1 (ix2 i f) = ((sgm (pre H Wg i f) * (1 - sgm (pre H Wg i f)) : ℝ) : EReal) := by
  pointwise [val_main_v3_1, val_main_call0_v7, val_main_call0_v6, val_main_call0_cst_1]
  rw [r3_2 h0 h1, ← EReal.coe_one, ← EReal.coe_sub, ← EReal.coe_mul]

theorem r3_0 (i : Fin 2176) (f : Fin 2816) :
    val_main_v3_0 x0 x1 (ix2 i f) = ((pre H Wg i f * sgm (pre H Wg i f) : ℝ) : EReal) := by
  pointwise [val_main_v3_0]
  rw [r2 h0 h1, r3_2 h0 h1, ← EReal.coe_mul]

end Gate

include h0 h2 in
theorem r4 (i : Fin 2176) (f : Fin 2816) : val_main_v4 x0 x2 (ix2 i f) = (pre H Wu i f : EReal) := by
  pointwise [val_main_v4]
  exact sum_mul_val (h0 i) (fun x => h2 x f)

include h0 h1 h2 in
theorem r5 (i : Fin 2176) (f : Fin 2816) : val_main_v5 x0 x1 x2 (ix2 i f) = (acts H Wg Wu i f : EReal) := by
  pointwise [val_main_v5]
  rw [r3_0 h0 h1, r4 h0 h2, ← EReal.coe_mul]
  rfl

section Norm
include h0 h1 h2 h3

theorem r9 (i : Fin 2176) (j : Fin 1024) : val_main_v9 x0 x1 x2 x3 (ix2 i j) = (res H Wg Wu Wd i j : EReal) := by
  pointwise [val_main_v9, val_main_v1, val_main_v0, val_main_cst, val_main_v8, val_main_v7, val_main_cst_0, val_main_v6]
  simp only [r5 h0 h1 h2, h0, h3, lit_alpha, lit_half, ← EReal.coe_mul, coe_sum, ← EReal.coe_add]
  rfl

theorem r13 (i : Fin 2176) : val_main_v13 x0 x1 x2 x3 (ix2 i (0 : Fin 1)) = (mean (res H Wg Wu Wd i) : EReal) := by
  pointwise [val_main_v13, val_main_v12, val_main_cst_2, val_main_v11, val_main_v10, val_main_cst_1]
  simp only [r9 h0 h1 h2 h3, lit_1024, coe_sum, coe_div _ n1024]
  rfl

theorem r15 (i : Fin 2176) (j : Fin 1024) : val_main_v15 x0 x1 x2 x3 (ix2 i j) = (cen (res H Wg Wu Wd i) j : EReal) := by
  pointwise [val_main_v15, val_main_v14]
  rw [r9 h0 h1 h2 h3, r13 h0 h1 h2 h3, ← EReal.coe_sub]
  rfl

theorem r24 (i : Fin 2176) (j : Fin 1024) : val_main_v24 x0 x1 x2 x3 (ix2 i j) = (cen (res H Wg Wu Wd i) j : EReal) := by
  pointwise [val_main_v24, val_main_v23]
  rw [r9 h0 h1 h2 h3, r13 h0 h1 h2 h3, ← EReal.coe_sub]
  rfl

theorem r18 (i : Fin 2176) (j : Fin 1024) : val_main_v18 x0 x1 x2 x3 (ix2 i j) = ((2 * cen (res H Wg Wu Wd i) j : ℝ) : EReal) := by
  pointwise [val_main_v18, val_main_v17, val_main_cst_3]
  rw [r15 h0 h1 h2 h3, lit_two, ← EReal.coe_mul]

theorem r26 (i : Fin 2176) : val_main_v26 x0 x1 x2 x3 (ix2 i (0 : Fin 1)) = ((var (res H Wg Wu Wd i) + eps : ℝ) : EReal) := by
  pointwise [val_main_v26, val_main_v25, val_main_cst_6, val_main_v22, val_main_v21, val_main_cst_5, val_main_v20, val_main_v19, val_main_cst_4, val_main_v16]
  simp only [r15 h0 h1 h2 h3, lit_1024, lit_eps, ← EReal.coe_mul, coe_sum, coe_div _ n1024, ← EReal.coe_add]
  rfl

theorem r27 (i : Fin 2176) : val_main_v27 x0 x1 x2 x3 (ix2 i (0 : Fin 1)) = (inv (res H Wg Wu Wd i) : EReal) := by
  pointwise [val_main_v27]
  rw [r26 h0 h1 h2 h3]
  exact coe_rsqrt (var_eps_pos _)

theorem r30 (i : Fin 2176) : val_main_v30 x0 x1 x2 x3 (ix2 i (0 : Fin 1))
    = ((-(1 / 2) * (inv (res H Wg Wu Wd i) / (var (res H Wg Wu Wd i) + eps)) : ℝ) : EReal) := by
  pointwise [val_main_v30, val_main_v29, val_main_cst_7, val_main_v28]
  rw [r27 h0 h1 h2 h3, r26 h0 h1 h2 h3, lit_neg_half, coe_div _ (var_eps_pos _).ne', ← EReal.coe_mul]

theorem r32 (i : Fin 2176) (j : Fin 1024) : val_main_v32 x0 x1 x2 x3 (ix2 i j) = (xh (res H Wg Wu Wd i) j : EReal) := by
  pointwise [val_main_v32, val_main_v31]
  rw [r24 h0 h1 h2 h3, r27 h0 h1 h2 h3, ← EReal.coe_mul]
  rfl

end Norm

/-! ## The scale and the shift -/

include h6 in
theorem r39 (i : Fin 2176) (j : Fin 1024) : val_main_v39 x6 (ix2 i j) = (D i j : EReal) := by
  pointwise [val_main_v39]
  exact h6 i j

include h6 in
theorem r97 (j : Fin 1024) : val_main_v97 x6 (ix2 (0 : Fin 1) j) = (gB D j : EReal) := by
  pointwise [val_main_v97, val_main_v42, val_main_v41, val_main_v40, val_main_cst_8, val_main_cst_9]
  rw [Fin.sum_univ_one]
  simp only [h6, coe_sum]
  rfl

include h0 h1 h2 h3 h6 in
theorem r96 (j : Fin 1024) : val_main_v96 x0 x1 x2 x3 x6 (ix2 (0 : Fin 1) j) = (gG H Wg Wu Wd D j : EReal) := by
  pointwise [val_main_v96, val_main_v48, val_main_v45, val_main_v44, val_main_v43, val_main_cst_10, val_main_cst_11]
  rw [Fin.sum_univ_one]
  simp only [r32 h0 h1 h2 h3, r39 h6, ← EReal.coe_mul, coe_sum]
  exact congrArg _ (Finset.sum_congr rfl fun i _ => mul_comm _ _)

/-! ## The normalisation's gradient -/

include h4 h6 in
theorem r47 (i : Fin 2176) (j : Fin 1024) : val_main_v47 x4 x6 (ix2 i j) = (dxh (D i) γ j : EReal) := by
  pointwise [val_main_v47, val_main_v46, val_main_v33]
  rw [r39 h6, h4, ← EReal.coe_mul]
  rfl

section Back
include h0 h1 h2 h3 h4 h6

theorem r53 (i : Fin 2176) (j : Fin 1024) :
    val_main_v53 x0 x1 x2 x3 x4 x6 (ix2 i j) = ((dxh (D i) γ j * inv (res H Wg Wu Wd i) : ℝ) : EReal) := by
  pointwise [val_main_v53, val_main_v52]
  rw [r47 h4 h6, r27 h0 h1 h2 h3, ← EReal.coe_mul]

theorem r60 (i : Fin 2176) : val_main_v60 x0 x1 x2 x3 x4 x6 (ix1 i) = (refQ (D i) (res H Wg Wu Wd i) γ : EReal) := by
  pointwise [val_main_v60, val_main_cst_15, val_main_v59, val_main_v58, val_main_cst_14, val_main_v54, val_main_v51, val_main_v50, val_main_cst_12, val_main_v49]
  rw [Fin.sum_univ_one]
  simp only [r24 h0 h1 h2 h3, r47 h4 h6, r30 h0 h1 h2 h3, lit_1024, ← EReal.coe_mul, coe_sum, coe_div _ n1024]
  rfl

theorem r62 (i : Fin 2176) (j : Fin 1024) : val_main_v62 x0 x1 x2 x3 x4 x6 (ix2 i j)
    = ((refQ (D i) (res H Wg Wu Wd i) γ * (2 * cen (res H Wg Wu Wd i) j) : ℝ) : EReal) := by
  pointwise [val_main_v62, val_main_v61]
  rw [r60 h0 h1 h2 h3 h4 h6, r18 h0 h1 h2 h3, ← EReal.coe_mul]

theorem r70 (i : Fin 2176) : val_main_v70 x0 x1 x2 x3 x4 x6 (ix1 i)
    = ((((∑ j, -(dxh (D i) γ j * inv (res H Wg Wu Wd i))) + ∑ j, -(refQ (D i) (res H Wg Wu Wd i) γ * (2 * cen (res H Wg Wu Wd i) j))) / 1024 : ℝ) : EReal) := by
  pointwise [val_main_v70, val_main_cst_18, val_main_v69, val_main_v68, val_main_cst_17, val_main_v67, val_main_v57, val_main_v56, val_main_cst_13, val_main_v55,
    val_main_v65, val_main_v64, val_main_cst_16, val_main_v63]
  rw [Fin.sum_univ_one]
  simp only [r53 h0 h1 h2 h3 h4 h6, r62 h0 h1 h2 h3 h4 h6, lit_1024, ← EReal.coe_neg, coe_sum, ← EReal.coe_add, coe_div _ n1024]

theorem r72 (i : Fin 2176) (j : Fin 1024) : val_main_v72 x0 x1 x2 x3 x4 x6 (ix2 i j) = (dR H Wg Wu Wd γ D i j : EReal) := by
  pointwise [val_main_v72, val_main_v71, val_main_v66]
  rw [r53 h0 h1 h2 h3 h4 h6, r62 h0 h1 h2 h3 h4 h6, r70 h0 h1 h2 h3 h4 h6, ← EReal.coe_add, ← EReal.coe_add]
  exact congrArg _ (refDr_eq (D i) (res H Wg Wu Wd i) γ j)

/-! ## The network's gradients -/

theorem r74 (i : Fin 2176) (j : Fin 1024) : val_main_v74 x0 x1 x2 x3 x4 x6 (ix2 i j) = (dF H Wg Wu Wd γ D i j : EReal) := by
  pointwise [val_main_v74, val_main_v73, val_main_cst_19]
  rw [r72 h0 h1 h2 h3 h4 h6, lit_half, ← EReal.coe_mul]
  rfl

theorem r77 (i : Fin 2176) (f : Fin 2816) : val_main_v77 x0 x1 x2 x3 x4 x6 (ix2 i f) = (dA H Wg Wu Wd γ D i f : EReal) := by
  pointwise [val_main_v77]
  exact sum_mul_val (r74 h0 h1 h2 h3 h4 h6 i) (h3 f)

theorem r78 (i : Fin 2176) (f : Fin 2816) : val_main_v78 x0 x1 x2 x3 x4 x6 (ix2 i f) = (dV H Wg Wu Wd γ D i f : EReal) := by
  pointwise [val_main_v78]
  rw [r3_0 h0 h1, r77 h0 h1 h2 h3 h4 h6, ← EReal.coe_mul]
  exact congrArg _ (refV_eq _ _)

theorem r83 (i : Fin 2176) (f : Fin 2816) : val_main_v83 x0 x1 x2 x3 x4 x6 (ix2 i f) = (dU H Wg Wu Wd γ D i f : EReal) := by
  pointwise [val_main_v83, val_main_call1_v0, val_main_call1_v1, val_main_call1_v2, val_main_v79]
  rw [r77 h0 h1 h2 h3 h4 h6, r4 h0 h2, r3_2 h0 h1, r2 h0 h1, r3_1 h0 h1]
  simp only [← EReal.coe_mul, ← EReal.coe_add]
  exact congrArg _ (refU_eq _ _ _)

theorem r90 (i : Fin 2176) (j : Fin 1024) : val_main_v90 x0 x1 x2 x3 x4 x6 (ix2 i j) = (gH H Wg Wu Wd γ D i j : EReal) := by
  pointwise [val_main_v90, val_main_v87, val_main_v82, val_main_v86, val_main_v89, val_main_v88, val_main_cst_20]
  simp only [r78 h0 h1 h2 h3 h4 h6, r83 h0 h1 h2 h3 h4 h6, r72 h0 h1 h2 h3 h4 h6, h1, h2, lit_alpha, ← EReal.coe_mul, coe_sum, ← EReal.coe_add]
  refine congrArg _ ?_
  unfold gH
  ring

theorem r92 (f : Fin 2816) (j : Fin 1024) : val_main_v92 x0 x1 x2 x3 x4 x6 (ix2 f j) = (gWg H Wg Wu Wd γ D f j : EReal) := by
  pointwise [val_main_v92, val_main_v91, val_main_v85, val_main_v84]
  refine (sum_mul_val (fun i => r83 h0 h1 h2 h3 h4 h6 i f) fun i => h0 i j).trans ?_
  exact congrArg _ (Finset.sum_congr rfl fun i _ => mul_comm _ _)

theorem r94 (f : Fin 2816) (j : Fin 1024) : val_main_v94 x0 x1 x2 x3 x4 x6 (ix2 f j) = (gWu H Wg Wu Wd γ D f j : EReal) := by
  pointwise [val_main_v94, val_main_v93, val_main_v81, val_main_v80]
  refine (sum_mul_val (fun i => r78 h0 h1 h2 h3 h4 h6 i f) fun i => h0 i j).trans ?_
  exact congrArg _ (Finset.sum_congr rfl fun i _ => mul_comm _ _)

theorem r95 (f : Fin 2816) (j : Fin 1024) : val_main_v95 x0 x1 x2 x3 x4 x6 (ix2 f j) = (gWd H Wg Wu Wd γ D f j : EReal) := by
  pointwise [val_main_v95, val_main_v76, val_main_v75]
  exact sum_mul_val (fun i => r74 h0 h1 h2 h3 h4 h6 i j) fun i => r5 h0 h1 h2 i f

end Back

end Cert.ReferenceIdeal.Read

end
-- ==== Proof.Finite.lean ====
module

public import proofs.«01_k».proof.Proof.Gen.Pre_finite
public import Idealize.ShloMosaic.Lib.ReduceAll
public import Idealize.ShloMosaic.Lib.Pointwise

@[expose] public section

/-!
  # What the precondition says

  The printed predicate says of every argument but the shift that each of its entries is a real number.
-/

noncomputable section

namespace Cert.Pre_finite

open Idealize.ShloMosaic Cert.Pre_finite.Gen

theorem lit_inf : Ideal.ofBits .f32 0x7F800000#32 = ⊤ := by simp [Ideal.ofBits, Ideal.ieee]

/-- An extended real whose absolute value is under infinity is a real number. -/
theorem real_of_abs_lt (x : EReal) (h : max x (-x) < ⊤) : ∃ r : ℝ, x = r := by
  induction x with
  | bot => simp at h
  | top => simp at h
  | coe r => exact ⟨r, rfl⟩

/-- An array all of whose absolute values compare under infinity holds reals. -/
theorem real_of_all {s : Shape} {axes : List (Fin s.rank)} (x : FVec Ideal s .f32) (hb : S_.BroadcastsInDim s (![] : Fin 0 → Fin s.rank)) (h : s.ReducesTo axes S_)
    (j : S_.Idx) (e : Host.reduce IntOp.andi (cmpf .olt (Host.absf x) (broadcastInDim s ![] hb (constant S_ .f32 0x7F800000#32))) (constantI S_ 1 1#1) h h_S_ j = 1#1)
    (i : s.Idx) : ∃ r : ℝ, x i = r := by
  have : Subsingleton S_.Idx := ⟨fun a b => funext fun k => k.elim0⟩
  have e' := Host.reduce_andi_all _ _ _ _ j e i
  refine real_of_abs_lt (x i) ?_
  rw [← lit_inf]
  by_contra hn
  have : BitVec.ofBool (decide (max (x i) (-(x i)) < Ideal.ofBits .f32 0x7F800000#32)) = 1#1 := e'
  rw [decide_eq_false hn] at this
  exact absurd this (by decide)

variable {x0 x6 : FVec Ideal S2176x1024 .f32} {x1 x2 : FVec Ideal S1024x2816 .f32} {x3 : FVec Ideal S2816x1024 .f32} {x4 x5 : FVec Ideal S1024 .f32}

/-- The six arrays the predicate reads hold reals. -/
theorem reals (h : fn (F := Ideal) x0 x1 x2 x3 x4 x5 x6 = fun _ => 1#1) :
    (∀ i, ∃ r : ℝ, x0 i = r) ∧ (∀ i, ∃ r : ℝ, x1 i = r) ∧ (∀ i, ∃ r : ℝ, x2 i = r) ∧ (∀ i, ∃ r : ℝ, x3 i = r) ∧ (∀ i, ∃ r : ℝ, x4 i = r)
      ∧ ∀ i, ∃ r : ℝ, x6 i = r := by
  have j : S_.Idx := fun k => k.elim0
  have e := congrFun h j
  unfold fn fn_part1 at e
  obtain ⟨e, e6⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all x0 _ _ j e0, real_of_all x1 _ _ j e1, real_of_all x2 _ _ j e2, real_of_all x3 _ _ j e3, real_of_all x4 _ _ j e4, real_of_all x6 _ _ j e6⟩

end Cert.Pre_finite

end
-- ==== Proof.Algebraic.lean ====
module

public import proofs.«01_k».proof.Defs
public import proofs.«01_k».proof.Proof.KernelValue
public import proofs.«01_k».proof.Proof.RefValue
public import proofs.«01_k».proof.Proof.Finite
public import proofs.«01_k».proof.Proof.Gen.ReferenceIdeal.Run

@[expose] public section

/-!
  # The kernel and the reference agree over the reals

  Both leave the model's six gradients.
-/

noncomputable section

namespace Cert.Proof

open Idealize.ShloMosaic Idealize.ShloMosaic.TcCoe Idealize.SL.Sem Ffn.Real

/-- The reals an array of reals holds. -/
def vals {s : Shape} (x : s.Idx → EReal) : s.Idx → ℝ := fun i => (x i).toReal

theorem vals_eq {s : Shape} {x : s.Idx → EReal} (h : ∀ i, ∃ r : ℝ, x i = r) (i : s.Idx) : x i = (vals x i : EReal) := by
  obtain ⟨r, hr⟩ := h i
  unfold vals
  rw [hr, EReal.toReal_coe]

section Kernel
open Cert.KernelIdeal Cert.KernelIdeal.Gen

variable (m : (ℓ : Loc nD τ sig) → Buf (Elt Ideal) ℓ)

/-- The arguments of one device, as reals. -/
def H (c : Dev nD) (i : Fin 2176) (j : Fin 1024) : ℝ := vals (m ((c : Thread nD τ).loc main_arg0)) (ix2 i j)
def Wg (c : Dev nD) (j : Fin 1024) (f : Fin 2816) : ℝ := vals (m ((c : Thread nD τ).loc main_arg1)) (ix2 j f)
def Wu (c : Dev nD) (j : Fin 1024) (f : Fin 2816) : ℝ := vals (m ((c : Thread nD τ).loc main_arg2)) (ix2 j f)
def Wd (c : Dev nD) (f : Fin 2816) (j : Fin 1024) : ℝ := vals (m ((c : Thread nD τ).loc main_arg3)) (ix2 f j)
def γ (c : Dev nD) (j : Fin 1024) : ℝ := vals (m ((c : Thread nD τ).loc main_arg4)) (ix1 j)
def D (c : Dev nD) (i : Fin 2176) (j : Fin 1024) : ℝ := vals (m ((c : Thread nD τ).loc main_arg6)) (ix2 i j)

variable {m}

theorem args (h : Cert.Pre_KernelIdeal_finite m) (c : Dev nD) : Args m c (H m c) (Wg m c) (Wu m c) (Wd m c) (γ m c) (D m c) := by
  obtain ⟨h0, h1, h2, h3, h4, h6⟩ := Cert.Pre_finite.reals (h c)
  exact ⟨fun i j => vals_eq h0 _, fun i j => vals_eq h1 _, fun i j => vals_eq h2 _, fun i j => vals_eq h3 _, fun j => vals_eq h4 _, fun i j => vals_eq h6 _⟩

/-- The kernel's run, its six results the model's gradients. -/
theorem kernel_run (h : Cert.Pre_KernelIdeal_finite m) (ρ : Dev nD → PrngReg) :
    θ_run defs (onTc (τ := τ) (main (F := Ideal))) ⟨m, fun _ => 0, ρ⟩ (fun r => ∀ c : Dev nD,
      r.2.mem ((c.tc : Thread nD τ).loc main_v23_0) = arr2 (gH (H m c) (Wg m c) (Wu m c) (Wd m c) (γ m c) (D m c))
      ∧ r.2.mem ((c.tc : Thread nD τ).loc main_v23_1) = arr2 (gWg (H m c) (Wg m c) (Wu m c) (Wd m c) (γ m c) (D m c))
      ∧ r.2.mem ((c.tc : Thread nD τ).loc main_v23_2) = arr2 (gWu (H m c) (Wg m c) (Wu m c) (Wd m c) (γ m c) (D m c))
      ∧ r.2.mem ((c.tc : Thread nD τ).loc main_v23_3) = arr2 (gWd (H m c) (Wg m c) (Wu m c) (Wd m c) (γ m c) (D m c))
      ∧ r.2.mem ((c.tc : Thread nD τ).loc main_v23_4) = (arr2 fun (_ : Fin 1) => gG (H m c) (Wg m c) (Wu m c) (Wd m c) (D m c))
      ∧ r.2.mem ((c.tc : Thread nD τ).loc main_v23_5) = arr2 fun (_ : Fin 1) => gB (D m c)) :=
  (θ_run defs _ _).mono (fun r hr c => ⟨(hr.1.written c (by decide)).trans (out_dh (args h c)),
      ((hr.1.1 c).1 6).trans (out6 (args h c)), ((hr.1.1 c).1 7).trans (out7 (args h c)), ((hr.1.1 c).1 8).trans (out8 (args h c)),
      ((hr.1.1 c).1 9).trans (out9 (args h c)), ((hr.1.1 c).1 10).trans (out10 (args h c))⟩) (run_main m ρ)

end Kernel

/-! ## The reference -/

section Reference
open Cert.ReferenceIdeal Cert.ReferenceIdeal.Read

variable (m : (ℓ : Loc nD τ sig) → Buf (Elt Ideal) ℓ) (c : Dev nD)

/-- What the reference is given on one device, read as reals. -/
structure RefArgs (H : Fin 2176 → Fin 1024 → ℝ) (Wg Wu : Fin 1024 → Fin 2816 → ℝ) (Wd : Fin 2816 → Fin 1024 → ℝ) (γ : Fin 1024 → ℝ)
    (D : Fin 2176 → Fin 1024 → ℝ) : Prop where
  h : ∀ i j, m ((c.tc : Thread nD τ).loc main_arg0) (ix2 i j) = (H i j : EReal)
  wg : ∀ j f, m ((c.tc : Thread nD τ).loc main_arg1) (ix2 j f) = (Wg j f : EReal)
  wu : ∀ j f, m ((c.tc : Thread nD τ).loc main_arg2) (ix2 j f) = (Wu j f : EReal)
  wd : ∀ f j, m ((c.tc : Thread nD τ).loc main_arg3) (ix2 f j) = (Wd f j : EReal)
  g : ∀ j, m ((c.tc : Thread nD τ).loc main_arg4) (ix1 j) = (γ j : EReal)
  ct : ∀ i j, m ((c.tc : Thread nD τ).loc main_arg6) (ix2 i j) = (D i j : EReal)

variable {m} {H : Dev nD → Fin 2176 → Fin 1024 → ℝ} {Wg Wu : Dev nD → Fin 1024 → Fin 2816 → ℝ} {Wd : Dev nD → Fin 2816 → Fin 1024 → ℝ}
  {γ : Dev nD → Fin 1024 → ℝ} {D : Dev nD → Fin 2176 → Fin 1024 → ℝ}

/-- The reference's run, its six results the model's gradients. -/
theorem ref_run (A : ∀ c, RefArgs m c (H c) (Wg c) (Wu c) (Wd c) (γ c) (D c)) (ρ : Dev nD → PrngReg) :
    θ_run defs (onTc (τ := τ) (main (F := Ideal))) ⟨m, fun _ => 0, ρ⟩ (fun r => ∀ c : Dev nD,
      r.2.mem ((c.tc : Thread nD τ).loc main_v90) = arr2 (gH (H c) (Wg c) (Wu c) (Wd c) (γ c) (D c))
      ∧ r.2.mem ((c.tc : Thread nD τ).loc main_v92) = arr2 (gWg (H c) (Wg c) (Wu c) (Wd c) (γ c) (D c))
      ∧ r.2.mem ((c.tc : Thread nD τ).loc main_v94) = arr2 (gWu (H c) (Wg c) (Wu c) (Wd c) (γ c) (D c))
      ∧ r.2.mem ((c.tc : Thread nD τ).loc main_v95) = arr2 (gWd (H c) (Wg c) (Wu c) (Wd c) (γ c) (D c))
      ∧ r.2.mem ((c.tc : Thread nD τ).loc main_v96) = (arr2 fun (_ : Fin 1) => gG (H c) (Wg c) (Wu c) (Wd c) (D c))
      ∧ r.2.mem ((c.tc : Thread nD τ).loc main_v97) = arr2 fun (_ : Fin 1) => gB (D c)) := by
  refine (θ_run defs _ _).mono (fun r h c => ?_) (Cert.ReferenceIdeal.Value.run m ρ)
  obtain ⟨h90, h92, h94, h95, h96, h97, -⟩ := h c
  have a0 := (A c).h
  have a1 := (A c).wg
  have a2 := (A c).wu
  have a3 := (A c).wd
  have a4 := (A c).g
  have a6 := (A c).ct
  refine ⟨h90.trans ((val_main_v90_eq _).trans (arr2_of (r90 a0 a1 a2 a3 a4 a6))), h92.trans ((val_main_v92_eq _).trans (arr2_of (r92 a0 a1 a2 a3 a4 a6))),
    h94.trans ((val_main_v94_eq _).trans (arr2_of (r94 a0 a1 a2 a3 a4 a6))), h95.trans ((val_main_v95_eq _).trans (arr2_of (r95 a0 a1 a2 a3 a4 a6))),
    h96.trans ((val_main_v96_eq _).trans (arr2_of fun i j => ?_)), h97.trans ((val_main_v97_eq _).trans (arr2_of fun i j => ?_))⟩
  · rw [Fin.fin_one_eq_zero i]
    exact r96 a0 a1 a2 a3 a6 j
  · rw [Fin.fin_one_eq_zero i]
    exact r97 a6 j

end Reference

/-! ## The claim -/

theorem algebraic : @Cert.algebraic_KernelIdeal_ReferenceIdeal_pre_finite Cert.KernelIdeal.Gen.facts Cert.ReferenceIdeal.Gen.facts Cert.Pre_finite.Gen.facts := by
  intro m ρ m' ρ' hp hm
  have hk := θ_run_and (kernel_run hp ρ) (Cert.KernelIdeal.Gen.frame_any m ρ)
  have A : ∀ c, RefArgs m' c (H m c) (Wg m c) (Wu m c) (Wd m c) (γ m c) (D m c) := fun c => by
    obtain ⟨e0, e1, e2, e3, e4, -, e6⟩ := hm c
    have a := args hp c
    exact ⟨fun i j => (congrFun e0 _).trans (a.h i j), fun i j => (congrFun e1 _).trans (a.wg i j), fun i j => (congrFun e2 _).trans (a.wu i j),
      fun i j => (congrFun e3 _).trans (a.wd i j), fun j => (congrFun e4 _).trans (a.g j), fun i j => (congrFun e6 _).trans (a.ct i j)⟩
  have hr := θ_run_and (ref_run A ρ') (Cert.ReferenceIdeal.Value.run m' ρ')
  refine ⟨fun c => arr2 (gH (H m c) (Wg m c) (Wu m c) (Wd m c) (γ m c) (D m c)), fun c => arr2 (gWg (H m c) (Wg m c) (Wu m c) (Wd m c) (γ m c) (D m c)), fun c => arr2 (gWu (H m c) (Wg m c) (Wu m c) (Wd m c) (γ m c) (D m c)),
    fun c => arr2 (gWd (H m c) (Wg m c) (Wu m c) (Wd m c) (γ m c) (D m c)), fun c => arr2 fun (_ : Fin 1) => gG (H m c) (Wg m c) (Wu m c) (Wd m c) (D m c),
    fun c => arr2 fun (_ : Fin 1) => gB (D m c), θ_run_mono hk fun r h c => ?_, θ_run_mono hr fun r h c => ?_⟩
  · obtain ⟨h0, h1, h2, h3, h4, h5⟩ := h.1 c
    exact ⟨h0, h1, h2, h3, h4, h5, h.2.1 c⟩
  · obtain ⟨h0, h1, h2, h3, h4, h5⟩ := h.1 c
    exact ⟨h0, h1, h2, h3, h4, h5, (h.2 c).2.2.2.2.2.2⟩

end Cert.Proof

end
-- ==== Proof.Chunk2.lean ====
module

public import proofs.«01_k».proof.Proof.Gen.Kernel2Ideal.Skeleton
public import proofs.«01_k».proof.Proof.Tiles

@[expose] public section

/-!
  # What the first grid point computes from a band of 128 rows, the gradient coming in two parts

  The first grid point walks over the rows in 17 bands of 128. Of every band it takes the two parts `dy` and `dz` of the
  incoming gradient and the saved pre-normalisation rows `r`, and from them the gradient of the normalisation. The functions here are the
  operations of the first band; every other band does the same ones.
-/

noncomputable section

namespace Cert.Kernel2Ideal.Gen

open Idealize.ShloMosaic Idealize.ShloMosaic.TcCoe Ffn

variable {F : FTy → Type} [FloatOps F]

theorem numel4 : S128x1024.numel = S1x1x128x1024.numel := by decide
theorem numel3 : S128x1024.numel = S1x128x1024.numel := by decide

/-- A band of rows as the kernel loads it from a slot of the gradient's buffer. -/
abbrev up4 (x : Vec F S128x1024 .f32) : Vec F S1x1x128x1024 .f32 := up numel4 x
/-- A band of rows as the kernel loads it from a slot of a two-slot buffer. -/
abbrev up3 {e : EltTy} (x : Vec F S128x1024 e) : Vec F S1x128x1024 e := up numel3 x

/-- The gradient of the pre-normalisation rows, of one band, from the two parts of the incoming gradient. -/
abbrev bandDr (v0 v1 : Vec F S1x1x128x1024 .f32) (vr : Vec F S1x128x1024 .f32) (g : Vec F S1x1024 .f32) : FVec F S128x1024 .f32 :=
  k0_pay8 (k0_pay3 v0) v1 vr g
/-- The residual part of the gradient of `h`, of one band. -/
def bandDh (v0 v1 : Vec F S1x1x128x1024 .f32) (vr : Vec F S1x128x1024 .f32) (g : Vec F S1x1024 .f32) : FVec F S128x1024 .f32 :=
  k0_pay12 (bandDr v0 v1 vr g)
/-- The gradient of the block's output, of one band. -/
def bandDf (v0 v1 : Vec F S1x1x128x1024 .f32) (vr : Vec F S1x128x1024 .f32) (g : Vec F S1x1024 .f32) : FVec F S128x1024 .bf16 :=
  k0_pay14 (bandDr v0 v1 vr g)
/-- The same, transposed. -/
def bandDfT (v0 v1 : Vec F S1x1x128x1024 .f32) (vr : Vec F S1x128x1024 .f32) (g : Vec F S1x1024 .f32) : FVec F S1024x128 .bf16 :=
  k0_pay15 (bandDr v0 v1 vr g)
/-- A band of the block's input, transposed. -/
def bandHT (vh : Vec F S1x128x1024 .bf16) : FVec F S1024x128 .bf16 := k0_pay16 vh
/-- The gradient of the scale, one band added. -/
def bandDg (acc : FVec F S1x1024 .f32) (v0 v1 : Vec F S1x1x128x1024 .f32) (vr : Vec F S1x128x1024 .f32) : FVec F S1x1024 .f32 :=
  k0_pay10 acc (k0_pay9 (k0_pay3 v0) v1 vr)
/-- The gradient of the shift, one band added. -/
def bandDb (acc : FVec F S1x1024 .f32) (v0 v1 : Vec F S1x1x128x1024 .f32) : FVec F S1x1024 .f32 :=
  k0_pay11 acc (k0_pay4 (k0_pay3 v0) v1)

/-! ## Loads from the two-slot buffers

A load reads the band last copied into its slot; the copy of the next band into the other slot, which may lie on top, does
not show. -/

section Slots
variable {Val : EltTy → Type} {e : EltTy}

theorem load3_0 (v : View sig .tc .vmem S2x128x1024 e) (i0 i1 q0 q1) (f : v.ty.Contents Val) (x y : S128x1024.Idx → Val e) :
    v.readAt Val (Rect.unit (s := S2x128x1024) ![0, 0, 0] S1x128x1024.size i0).toLoadRect
      (((v.slice (Rect.unit (s := S2x128x1024) ![1, 0, 0] S1x128x1024.size i1)).reshape S128x1024 q1).write Val (((v.slice (Rect.unit (s := S2x128x1024) ![0, 0, 0] S1x128x1024.size i0)).reshape S128x1024 q0).write Val f x Finset.univ) y Finset.univ) = up numel3 x :=
  load_slot_under v _ _ q0 q1 (disjoint_boxes _ _ _ _ _ _ 0 (.inl (by decide))) f x y

theorem load3_1 (v : View sig .tc .vmem S2x128x1024 e) (i0 i1 q0 q1) (f : v.ty.Contents Val) (x y : S128x1024.Idx → Val e) :
    v.readAt Val (Rect.unit (s := S2x128x1024) ![1, 0, 0] S1x128x1024.size i1).toLoadRect
      (((v.slice (Rect.unit (s := S2x128x1024) ![0, 0, 0] S1x128x1024.size i0)).reshape S128x1024 q0).write Val (((v.slice (Rect.unit (s := S2x128x1024) ![1, 0, 0] S1x128x1024.size i1)).reshape S128x1024 q1).write Val f x Finset.univ) y Finset.univ) = up numel3 x :=
  load_slot_under v _ _ q1 q0 (disjoint_boxes _ _ _ _ _ _ 0 (.inr (by decide))) f x y

theorem load3 (v : View sig .tc .vmem S2x128x1024 e) (i0 q0) (f : v.ty.Contents Val) (x : S128x1024.Idx → Val e) :
    v.readAt Val (Rect.unit (s := S2x128x1024) ![0, 0, 0] S1x128x1024.size i0).toLoadRect (((v.slice (Rect.unit (s := S2x128x1024) ![0, 0, 0] S1x128x1024.size i0)).reshape S128x1024 q0).write Val f x Finset.univ) = up numel3 x :=
  load_slot v _ q0 f x

/-- A copy into another slot does not show. -/
theorem read_past {κ : Kind} {sp : Space} {S : Shape} (v : View sig κ sp S e) (r r' : Rect S) {s'' : Shape} (hq' : s''.numel = r'.shape.numel)
    (hd : Disjoint r.set r'.set) (f : v.ty.Contents Val) (y : s''.Idx → Val e) :
    v.readAt Val r.toLoadRect (((v.slice r').reshape s'' hq').write Val f y Finset.univ) = v.readAt Val r.toLoadRect f := by
  funext i
  refine congrFun (View.read_congr (v := v.slice r) fun z hz => ?_) i
  refine View.write_of_not_mem _ _ _ ?_
  have : ((v.slice r').reshape s'' hq').setOn Finset.univ = (v.slice r').set := View.set_reshape _ _
  rw [this]
  have h1 : Disjoint (v.slice r).set (v.slice r').set := View.disjoint_slice hd
  exact Finset.disjoint_left.mp h1 hz

theorem load4_0_0 (v : View sig .tc .vmem S2x2x128x1024 e) (i00 i01 i10 i11 q00 q01 q10 q11) (f : v.ty.Contents Val) (x x' y y' : S128x1024.Idx → Val e) :
    v.readAt Val (Rect.unit (s := S2x2x128x1024) ![0, 0, 0, 0] S1x1x128x1024.size i00).toLoadRect
      (((v.slice (Rect.unit (s := S2x2x128x1024) ![1, 1, 0, 0] S1x1x128x1024.size i11)).reshape S128x1024 q11).write Val (((v.slice (Rect.unit (s := S2x2x128x1024) ![1, 0, 0, 0] S1x1x128x1024.size i10)).reshape S128x1024 q10).write Val (((v.slice (Rect.unit (s := S2x2x128x1024) ![0, 1, 0, 0] S1x1x128x1024.size i01)).reshape S128x1024 q01).write Val (((v.slice (Rect.unit (s := S2x2x128x1024) ![0, 0, 0, 0] S1x1x128x1024.size i00)).reshape S128x1024 q00).write Val f x Finset.univ) x' Finset.univ) y Finset.univ) y' Finset.univ) = up numel4 x :=
  (read_past v (Rect.unit (s := S2x2x128x1024) ![0, 0, 0, 0] S1x1x128x1024.size i00) (Rect.unit (s := S2x2x128x1024) ![1, 1, 0, 0] S1x1x128x1024.size i11) q11 (disjoint_boxes _ _ _ _ _ _ 0 (.inl (by decide))) _ _).trans ((read_past v (Rect.unit (s := S2x2x128x1024) ![0, 0, 0, 0] S1x1x128x1024.size i00) (Rect.unit (s := S2x2x128x1024) ![1, 0, 0, 0] S1x1x128x1024.size i10) q10 (disjoint_boxes _ _ _ _ _ _ 0 (.inl (by decide))) _ _).trans
    (load_slot_under v _ _ q00 q01 (disjoint_boxes _ _ _ _ _ _ 1 (.inl (by decide))) f x x'))

theorem load4_0_1 (v : View sig .tc .vmem S2x2x128x1024 e) (i00 i01 i10 i11 q00 q01 q10 q11) (f : v.ty.Contents Val) (x x' y y' : S128x1024.Idx → Val e) :
    v.readAt Val (Rect.unit (s := S2x2x128x1024) ![0, 1, 0, 0] S1x1x128x1024.size i01).toLoadRect
      (((v.slice (Rect.unit (s := S2x2x128x1024) ![1, 1, 0, 0] S1x1x128x1024.size i11)).reshape S128x1024 q11).write Val (((v.slice (Rect.unit (s := S2x2x128x1024) ![1, 0, 0, 0] S1x1x128x1024.size i10)).reshape S128x1024 q10).write Val (((v.slice (Rect.unit (s := S2x2x128x1024) ![0, 1, 0, 0] S1x1x128x1024.size i01)).reshape S128x1024 q01).write Val (((v.slice (Rect.unit (s := S2x2x128x1024) ![0, 0, 0, 0] S1x1x128x1024.size i00)).reshape S128x1024 q00).write Val f x Finset.univ) x' Finset.univ) y Finset.univ) y' Finset.univ) = up numel4 x' :=
  (read_past v (Rect.unit (s := S2x2x128x1024) ![0, 1, 0, 0] S1x1x128x1024.size i01) (Rect.unit (s := S2x2x128x1024) ![1, 1, 0, 0] S1x1x128x1024.size i11) q11 (disjoint_boxes _ _ _ _ _ _ 0 (.inl (by decide))) _ _).trans (load_slot_under v _ _ q01 q10 (disjoint_boxes _ _ _ _ _ _ 0 (.inl (by decide))) _ x' y)

theorem load4_1_0 (v : View sig .tc .vmem S2x2x128x1024 e) (i00 i01 i10 i11 q00 q01 q10 q11) (f : v.ty.Contents Val) (x x' y y' : S128x1024.Idx → Val e) :
    v.readAt Val (Rect.unit (s := S2x2x128x1024) ![1, 0, 0, 0] S1x1x128x1024.size i10).toLoadRect
      (((v.slice (Rect.unit (s := S2x2x128x1024) ![0, 1, 0, 0] S1x1x128x1024.size i01)).reshape S128x1024 q01).write Val (((v.slice (Rect.unit (s := S2x2x128x1024) ![0, 0, 0, 0] S1x1x128x1024.size i00)).reshape S128x1024 q00).write Val (((v.slice (Rect.unit (s := S2x2x128x1024) ![1, 1, 0, 0] S1x1x128x1024.size i11)).reshape S128x1024 q11).write Val (((v.slice (Rect.unit (s := S2x2x128x1024) ![1, 0, 0, 0] S1x1x128x1024.size i10)).reshape S128x1024 q10).write Val f x Finset.univ) x' Finset.univ) y Finset.univ) y' Finset.univ) = up numel4 x :=
  (read_past v (Rect.unit (s := S2x2x128x1024) ![1, 0, 0, 0] S1x1x128x1024.size i10) (Rect.unit (s := S2x2x128x1024) ![0, 1, 0, 0] S1x1x128x1024.size i01) q01 (disjoint_boxes _ _ _ _ _ _ 0 (.inr (by decide))) _ _).trans ((read_past v (Rect.unit (s := S2x2x128x1024) ![1, 0, 0, 0] S1x1x128x1024.size i10) (Rect.unit (s := S2x2x128x1024) ![0, 0, 0, 0] S1x1x128x1024.size i00) q00 (disjoint_boxes _ _ _ _ _ _ 0 (.inr (by decide))) _ _).trans
    (load_slot_under v _ _ q10 q11 (disjoint_boxes _ _ _ _ _ _ 1 (.inl (by decide))) f x x'))

theorem load4_1_1 (v : View sig .tc .vmem S2x2x128x1024 e) (i00 i01 i10 i11 q00 q01 q10 q11) (f : v.ty.Contents Val) (x x' y y' : S128x1024.Idx → Val e) :
    v.readAt Val (Rect.unit (s := S2x2x128x1024) ![1, 1, 0, 0] S1x1x128x1024.size i11).toLoadRect
      (((v.slice (Rect.unit (s := S2x2x128x1024) ![0, 1, 0, 0] S1x1x128x1024.size i01)).reshape S128x1024 q01).write Val (((v.slice (Rect.unit (s := S2x2x128x1024) ![0, 0, 0, 0] S1x1x128x1024.size i00)).reshape S128x1024 q00).write Val (((v.slice (Rect.unit (s := S2x2x128x1024) ![1, 1, 0, 0] S1x1x128x1024.size i11)).reshape S128x1024 q11).write Val (((v.slice (Rect.unit (s := S2x2x128x1024) ![1, 0, 0, 0] S1x1x128x1024.size i10)).reshape S128x1024 q10).write Val f x Finset.univ) x' Finset.univ) y Finset.univ) y' Finset.univ) = up numel4 x' :=
  (read_past v (Rect.unit (s := S2x2x128x1024) ![1, 1, 0, 0] S1x1x128x1024.size i11) (Rect.unit (s := S2x2x128x1024) ![0, 1, 0, 0] S1x1x128x1024.size i01) q01 (disjoint_boxes _ _ _ _ _ _ 0 (.inr (by decide))) _ _).trans (load_slot_under v _ _ q11 q00 (disjoint_boxes _ _ _ _ _ _ 0 (.inr (by decide))) _ x' y)

theorem load4_0 (v : View sig .tc .vmem S2x2x128x1024 e) (i00 i01 q00 q01) (f : v.ty.Contents Val) (x x' : S128x1024.Idx → Val e) :
    v.readAt Val (Rect.unit (s := S2x2x128x1024) ![0, 0, 0, 0] S1x1x128x1024.size i00).toLoadRect (((v.slice (Rect.unit (s := S2x2x128x1024) ![0, 1, 0, 0] S1x1x128x1024.size i01)).reshape S128x1024 q01).write Val (((v.slice (Rect.unit (s := S2x2x128x1024) ![0, 0, 0, 0] S1x1x128x1024.size i00)).reshape S128x1024 q00).write Val f x Finset.univ) x' Finset.univ) = up numel4 x :=
  load_slot_under v _ _ q00 q01 (disjoint_boxes _ _ _ _ _ _ 1 (.inl (by decide))) f x x'

theorem load4_1 (v : View sig .tc .vmem S2x2x128x1024 e) (i01 q01) (f : v.ty.Contents Val) (x' : S128x1024.Idx → Val e) :
    v.readAt Val (Rect.unit (s := S2x2x128x1024) ![0, 1, 0, 0] S1x1x128x1024.size i01).toLoadRect (((v.slice (Rect.unit (s := S2x2x128x1024) ![0, 1, 0, 0] S1x1x128x1024.size i01)).reshape S128x1024 q01).write Val f x' Finset.univ) = up numel4 x' :=
  load_slot v _ q01 f x'

/-- A copied band is the band of the source. -/
theorem copied_band {sp : Space} (v : View sig .tc sp S2176x1024 e) (o : ℕ) (inb) (f : v.ty.Contents Val) :
    ReadAs.same.apply (View.read (s := S128x1024) Val (v.slice (Rect.unit (s := S2176x1024) ![o, 0] S128x1024.size inb)) f)
      = rowsFrom (N := 2176) (C := 1024) 128 o (v.read Val f) :=
  funext fun x => unit_rowsFrom (N := 2176) (C := 1024) (n := 128) (v.read Val f) inb x

end Slots

variable (dy dz r : Vec F S2176x1024 .f32) (hb : Vec F S2176x1024 .bf16) (g : Vec F S1x1024 .f32)

/-- The residual part of the gradient of `h`, all rows. -/
def allDh : Vec F S2176x1024 .f32 := byRows (N := 2176) 128 fun k => bandDh (up4 (rows 128 k dy)) (up4 (rows 128 k dz)) (up3 (rows 128 k r)) g
/-- The gradient of the block's output, all rows. -/
def allDf : Vec F S2176x1024 .bf16 := byRows (N := 2176) 128 fun k => bandDf (up4 (rows 128 k dy)) (up4 (rows 128 k dz)) (up3 (rows 128 k r)) g
/-- The gradient of the block's output, transposed. -/
def allDfT : Vec F S1024x2176 .bf16 := byCols (N := 2176) 128 fun k => bandDfT (up4 (rows 128 k dy)) (up4 (rows 128 k dz)) (up3 (rows 128 k r)) g
/-- The block's input, transposed. -/
def allHT : Vec F S1024x2176 .bf16 := byCols (N := 2176) 128 fun k => bandHT (up3 (rows 128 k hb))
/-- The gradient of the scale over the first `n` bands. -/
def sumDg : ℕ → FVec F S1x1024 .f32
  | 0 => k0_pay1
  | n + 1 => bandDg (sumDg n) (up4 (rows 128 n dy)) (up4 (rows 128 n dz)) (up3 (rows 128 n r))
/-- The gradient of the shift over the first `n` bands. -/
def sumDb : ℕ → FVec F S1x1024 .f32
  | 0 => k0_pay2
  | n + 1 => bandDb (sumDb n) (up4 (rows 128 n dy)) (up4 (rows 128 n dz))

end Cert.Kernel2Ideal.Gen

end
-- ==== Proof.Pass12.lean ====
module

public import proofs.«01_k».proof.Proof.Chunk2
public import proofs.«01_k».proof.Proof.Gen.Kernel2Ideal.Frame
public import Idealize.ShloMosaic.Lib.VecWindow
public import Idealize.ShloMosaic.Lib.Tactic

@[expose] public section

/-!
  # The first grid point's walk over the rows, the gradient coming in two parts

  The region that the first grid point alone runs: 17 bands of rows are copied in, each into the slot the band before
  the last one has left, and what is computed from each band is stored. The statement names what the four carried
  buffers and the two sums hold afterwards.
-/

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn

variable {F : FTy → Type} [FloatOps F]

local notation "𝕄" => MT nD τ sig Unit (Elt F) ℕ (Pipeline.UD sig nD τ) ℕ

/-- What the first grid point alone runs: the walk over the rows, and the stores of the two sums. -/
def walk (i : grid0.Coords)
    (arg1 : Memref sig .tc .hbm S2176x1024 .f32) (harg1 : arg1.IsWhole)
    (arg2 : Memref sig .tc .hbm S2176x1024 .f32) (harg2 : arg2.IsWhole)
    (arg3 : Memref sig .tc .hbm S2176x1024 .f32) (harg3 : arg3.IsWhole)
    (arg4 : Memref sig .tc .vmem S1x1024 .f32) (harg4 : arg4.IsWhole)
    (arg5 : Memref sig .tc .hbm S2176x1024 .bf16) (harg5 : arg5.IsWhole)
    (arg6 : Memref sig .tc .vmem S1x2176x256 .bf16) (harg6 : arg6.IsWhole)
    (arg7 : Memref sig .tc .vmem S1x2176x256 .bf16) (harg7 : arg7.IsWhole)
    (arg8 : Memref sig .tc .vmem S256x1024 .bf16) (harg8 : arg8.IsWhole)
    (arg9 : Memref sig .tc .vmem S256x1024 .bf16) (harg9 : arg9.IsWhole)
    (arg10 : Memref sig .tc .vmem S256x1024 .bf16) (harg10 : arg10.IsWhole)
    (arg11 : Memref sig .tc .hbm S2176x1024 .f32) (harg11 : arg11.IsWhole)
    (arg12 : Memref sig .tc .vmem S256x1024 .bf16) (harg12 : arg12.IsWhole)
    (arg13 : Memref sig .tc .vmem S256x1024 .bf16) (harg13 : arg13.IsWhole)
    (arg14 : Memref sig .tc .vmem S256x1024 .bf16) (harg14 : arg14.IsWhole)
    (arg15 : Memref sig .tc .vmem S1x1024 .f32) (harg15 : arg15.IsWhole)
    (arg16 : Memref sig .tc .vmem S1x1024 .f32) (harg16 : arg16.IsWhole)
    (arg17 : Memref sig .tc .vmem S2176x1024 .bf16) (harg17 : arg17.IsWhole)
    (arg18 : Memref sig .tc .vmem S1024x2176 .bf16) (harg18 : arg18.IsWhole)
    (arg19 : Memref sig .tc .vmem S1024x2176 .bf16) (harg19 : arg19.IsWhole)
    (arg20 : Memref sig .tc .vmem S2176x1024 .f32) (harg20 : arg20.IsWhole)
    (arg21 : Memref sig .tc .vmem S2176x256 .bf16) (harg21 : arg21.IsWhole)
    (arg22 : Memref sig .tc .vmem S2176x256 .bf16) (harg22 : arg22.IsWhole)
    (arg23 : Memref sig .tc .vmem S2176x256 .bf16) (harg23 : arg23.IsWhole)
    (arg24 : Memref sig .tc .vmem S2x2x128x1024 .f32) (harg24 : arg24.IsWhole)
    (arg25 : Memref sig .tc .vmem S2x128x1024 .f32) (harg25 : arg25.IsWhole)
    (arg26 : Memref sig .tc .vmem S2x128x1024 .bf16) (harg26 : arg26.IsWhole) (arg27 : DmaSems sig S2x4) (arg28 : DmaSems sig S1) :
    Prog (TpuEff nD τ sig (Elt F) Λ₀ .tc) PUnit := do
  let ⟨v2173, v2176, v2246, v2254, v2262, v2263⟩ : Σ' (v2173 : FVec F S1x1024 .f32) (v2176 : FVec F S1x1024 .f32) (v2246 : FVec F S128x1024 .f32) (v2254 : FVec F S128x1024 .f32) (v2262 : FVec F S128x1 .f32), FVec F S128x1024 .f32 ← k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28
  let ⟨v2288, v2291, v2303⟩ : Σ' (v2288 : FVec F S1x1024 .f32) (v2291 : FVec F S1x1024 .f32), FVec F S1024x128 .bf16 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28 v2173 v2176 v2246 v2254 v2262 v2263
  k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28 v2303
  let ⟨v2341, v2357, v2359, v2363⟩ : Σ' (v2341 : FVec F S128x1024 .f32) (v2357 : FVec F S128x1 .f32) (v2359 : FVec F S128x1024 .f32), FVec F S128x1024 .f32 ← k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28
  let ⟨v2383, v2386, v2404⟩ : Σ' (v2383 : FVec F S1x1024 .f32) (v2386 : FVec F S1x1024 .f32), FVec F S1024x128 .bf16 ← k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28 v2288 v2291 v2341 v2357 v2359 v2363
  let v2405 : Vec F S1024x128 .bf16 ← Prog.lift (.load arg18 (Rect.unit (s := S1024x2176) ![0, 2048] S1024x128.size inb_S1024x2176_S1024x128_0_2048).toLoadRect (View.loadsAt_vmem h_S1024x128))
  Prog.lift (.store arg18 (Rect.unit (s := S1024x2176) ![0, 2048] S1024x128.size inb_S1024x2176_S1024x128_0_2048) (k0_pay241 v2404) Finset.univ (View.stores_vmem h_S1024x128 (harg18.storeExact_slice rfl _ packedbf16_S1024x2176_S1024x128_0_2048) (fun _ => rfl)) (.inl rfl))
  let v2408 : Vec F S1x1024 .f32 ← Prog.lift (.load arg15 (Rect.unit (s := S1x1024) ![0, 0] S1x1024.size inb_S1x1024_S1x1024_0_0).toLoadRect (View.loadsAt_vmem h_S1x1024))
  Prog.lift (.store arg15 (Rect.unit (s := S1x1024) ![0, 0] S1x1024.size inb_S1x1024_S1x1024_0_0) v2383 Finset.univ (View.stores_vmem_bits_univ h_S1x1024 rfl) (.inl rfl))
  let v2409 : Vec F S1x1024 .f32 ← Prog.lift (.load arg16 (Rect.unit (s := S1x1024) ![0, 0] S1x1024.size inb_S1x1024_S1x1024_0_0).toLoadRect (View.loadsAt_vmem h_S1x1024))
  Prog.lift (.store arg16 (Rect.unit (s := S1x1024) ![0, 0] S1x1024.size inb_S1x1024_S1x1024_0_0) v2386 Finset.univ (View.stores_vmem_bits_univ h_S1x1024 rfl) (.inl rfl))
  pure ⟨⟩

/-- The contents of a buffer on a core. -/
abbrev Cont (c : Dev nD) {sp : Space} {S : Shape} {e : EltTy} (M : Memref sig .tc sp S e) : Type :=
  Buf (Elt F) (M.view.loc (c : Thread nD τ))

/-- A buffer of a core held whole, with its contents. -/
abbrev holds (c : Dev nD) {sp : Space} {S : Shape} {e : EltTy} (M : Memref sig .tc sp S e) (f : Cont (F := F) c M) : sProp 𝕄 :=
  M.view.loc (c : Thread nD τ) ↦{fullShare} f

/-- What a buffer holds is known once all that is read from it is. -/
theorem holds_unread (c : Dev nD) {sp : Space} {S : Shape} {e : EltTy} (M : Memref sig .tc sp S e) (hM : M.IsWhole) (X : S.Idx → Elt F e) :
    (iprop(∃ f : Cont (F := F) c M, ⌜M.view.read (Elt F) f = X⌝ ∗ (M.view.loc (c : Thread nD τ) ↦[M.view.set]{fullShare} f)) : sProp 𝕄)
      ⊢ (M.view.loc (c : Thread nD τ) ↦[M.view.set]{fullShare} hM.unread X) := by
  iintro ⟨%f, %h, H⟩
  obtain rfl := hM.eq_unread h
  iexact H

/-- A row vector as loaded from its buffer. -/
abbrev rowAt (c : Dev nD) (M : Memref sig .tc .vmem S1x1024 .f32) (f : Cont (F := F) c M) : Vec F S1x1024 .f32 :=
  M.view.readAt (Elt F) (Rect.unit (s := S1x1024) ![0, 0] S1x1024.size inb_S1x1024_S1x1024_0_0).toLoadRect f

set_option maxHeartbeats 5396000 in
set_option sl_exec.dmaWindow true in
set_option sl_exec.dmaWindowSet true in
theorem pass1 (c : Dev nD) (i : grid0.Coords)

    (arg4 : Memref sig .tc .vmem S1x1024 .f32) (harg4 : arg4.IsWhole)
    (arg6 : Memref sig .tc .vmem S1x2176x256 .bf16) (harg6 : arg6.IsWhole) (arg7 : Memref sig .tc .vmem S1x2176x256 .bf16) (harg7 : arg7.IsWhole)
    (arg8 : Memref sig .tc .vmem S256x1024 .bf16) (harg8 : arg8.IsWhole) (arg9 : Memref sig .tc .vmem S256x1024 .bf16) (harg9 : arg9.IsWhole)
    (arg10 : Memref sig .tc .vmem S256x1024 .bf16) (harg10 : arg10.IsWhole)
    (arg12 : Memref sig .tc .vmem S256x1024 .bf16) (harg12 : arg12.IsWhole) (arg13 : Memref sig .tc .vmem S256x1024 .bf16) (harg13 : arg13.IsWhole)
    (arg14 : Memref sig .tc .vmem S256x1024 .bf16) (harg14 : arg14.IsWhole) (arg15 : Memref sig .tc .vmem S1x1024 .f32) (harg15 : arg15.IsWhole)
    (arg16 : Memref sig .tc .vmem S1x1024 .f32) (harg16 : arg16.IsWhole) (arg17 : Memref sig .tc .vmem S2176x1024 .bf16) (harg17 : arg17.IsWhole)
    (arg18 : Memref sig .tc .vmem S1024x2176 .bf16) (harg18 : arg18.IsWhole) (arg19 : Memref sig .tc .vmem S1024x2176 .bf16) (harg19 : arg19.IsWhole)
    (arg20 : Memref sig .tc .vmem S2176x1024 .f32) (harg20 : arg20.IsWhole) (arg21 : Memref sig .tc .vmem S2176x256 .bf16) (harg21 : arg21.IsWhole)
    (arg22 : Memref sig .tc .vmem S2176x256 .bf16) (harg22 : arg22.IsWhole) (arg23 : Memref sig .tc .vmem S2176x256 .bf16) (harg23 : arg23.IsWhole)
    (arg24 : Memref sig .tc .vmem S2x2x128x1024 .f32) (harg24 : arg24.IsWhole) (arg25 : Memref sig .tc .vmem S2x128x1024 .f32) (harg25 : arg25.IsWhole)
    (arg26 : Memref sig .tc .vmem S2x128x1024 .bf16) (harg26 : arg26.IsWhole)
    (dy : Cont (F := F) c (Memref.whole main_arg6)) (dz : Cont (F := F) c (Memref.whole main_arg7)) (r : Cont (F := F) c (Memref.whole main_v9))
    (hb : Cont (F := F) c (Memref.whole main_v11)) (farg4 : Cont (F := F) c arg4)
    (farg15 : Cont (F := F) c arg15) (farg16 : Cont (F := F) c arg16) (farg17 : Cont (F := F) c arg17) (farg18 : Cont (F := F) c arg18) (farg19 : Cont (F := F) c arg19) (farg20 : Cont (F := F) c arg20) (farg24 : Cont (F := F) c arg24) (farg25 : Cont (F := F) c arg25) (farg26 : Cont (F := F) c arg26)
    (W : Waits sig Unit) :
    iprop((arg4.view.loc (c : Thread nD τ) ↦[arg4.view.set]{fullShare} farg4) ∗
      (arg15.view.loc (c : Thread nD τ) ↦[arg15.view.set]{fullShare} farg15) ∗
      (arg16.view.loc (c : Thread nD τ) ↦[arg16.view.set]{fullShare} farg16) ∗
      (arg17.view.loc (c : Thread nD τ) ↦[arg17.view.set]{fullShare} farg17) ∗
      (arg18.view.loc (c : Thread nD τ) ↦[arg18.view.set]{fullShare} farg18) ∗
      (arg19.view.loc (c : Thread nD τ) ↦[arg19.view.set]{fullShare} farg19) ∗
      (arg20.view.loc (c : Thread nD τ) ↦[arg20.view.set]{fullShare} farg20) ∗
      (arg24.view.loc (c : Thread nD τ) ↦[arg24.view.set]{fullShare} farg24) ∗
      (arg25.view.loc (c : Thread nD τ) ↦[arg25.view.set]{fullShare} farg25) ∗
      (arg26.view.loc (c : Thread nD τ) ↦[arg26.view.set]{fullShare} farg26) ∗
      semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗
      holds c (Memref.whole main_arg6) dy ∗ holds c (Memref.whole main_arg7) dz ∗ holds c (Memref.whole main_v9) r ∗ holds c (Memref.whole main_v11) hb ∗
      owes (c : Thread nD τ) 0 W)
    ⊢ wp frame (wpE (defs₀ (F := F)) Variants.none c none) Set.univ
        (walk i (Memref.whole main_arg6) (Memref.isWhole_whole _) (Memref.whole main_arg7) (Memref.isWhole_whole _) (Memref.whole main_v9) (Memref.isWhole_whole _) arg4 harg4 (Memref.whole main_v11) (Memref.isWhole_whole _) arg6 harg6 arg7 harg7 arg8 harg8 arg9 harg9 arg10 harg10 (Memref.whole main_v23_0) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch10 cc0_scratch11)
        (fun _ => iprop(
          (arg4.view.loc (c : Thread nD τ) ↦[arg4.view.set]{fullShare} farg4) ∗
          (arg15.view.loc (c : Thread nD τ) ↦[arg15.view.set]{fullShare} harg15.unread (sumDg dy dz r 17)) ∗
          (arg16.view.loc (c : Thread nD τ) ↦[arg16.view.set]{fullShare} harg16.unread (sumDb dy dz 17)) ∗
          (arg17.view.loc (c : Thread nD τ) ↦[arg17.view.set]{fullShare} harg17.unread (allDf dy dz r (rowAt c arg4 farg4))) ∗
          (arg20.view.loc (c : Thread nD τ) ↦[arg20.view.set]{fullShare} harg20.unread (allDh dy dz r (rowAt c arg4 farg4))) ∗
          (arg19.view.loc (c : Thread nD τ) ↦[arg19.view.set]{fullShare} harg19.unread (allDfT dy dz r (rowAt c arg4 farg4))) ∗
          (arg18.view.loc (c : Thread nD τ) ↦[arg18.view.set]{fullShare} harg18.unread (allHT hb)) ∗
          (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗
          semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗
          holds c (Memref.whole main_arg6) dy ∗ holds c (Memref.whole main_arg7) dz ∗ holds c (Memref.whole main_v9) r ∗ holds c (Memref.whole main_v11) hb ∗
          (∃ W', owes (c : Thread nD τ) 0 W'))) := by
  unfold walk
  simp only [k0_part65_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
  iintro ⟨Harg4, Harg15, Harg16, Harg17, Harg18, Harg19, Harg20, Harg24, Harg25, Harg26, Hq0, Hq1, Hq2, Hq3, Hq4, Hq5, Hq6, Hq7, Hh0, Hh3, Hh1, Hh2, HW⟩
  sl_exec
  sl_step
  have a0 : pass1.sl.v513 c arg24 dy dz farg24 = up4 (rows 128 0 dy) := (load4_0_0 ..).trans (congrArg _ (copied_band (Memref.whole main_arg6).view 0 _ dy))
  have a1 : pass1.sl.v628 c arg24 dy dz farg24 = up4 (rows 128 1 dy) := (load4_1_0 ..).trans (congrArg _ (copied_band (Memref.whole main_arg6).view 128 _ dy))
  have a2 : pass1.sl.v743 c arg24 dy dz farg24 = up4 (rows 128 2 dy) := (load4_0_0 ..).trans (congrArg _ (copied_band (Memref.whole main_arg6).view 256 _ dy))
  have a3 : pass1.sl.v858 c arg24 dy dz farg24 = up4 (rows 128 3 dy) := (load4_1_0 ..).trans (congrArg _ (copied_band (Memref.whole main_arg6).view 384 _ dy))
  have a4 : pass1.sl.v973 c arg24 dy dz farg24 = up4 (rows 128 4 dy) := (load4_0_0 ..).trans (congrArg _ (copied_band (Memref.whole main_arg6).view 512 _ dy))
  have a5 : pass1.sl.v1088 c arg24 dy dz farg24 = up4 (rows 128 5 dy) := (load4_1_0 ..).trans (congrArg _ (copied_band (Memref.whole main_arg6).view 640 _ dy))
  have a6 : pass1.sl.v1203 c arg24 dy dz farg24 = up4 (rows 128 6 dy) := (load4_0_0 ..).trans (congrArg _ (copied_band (Memref.whole main_arg6).view 768 _ dy))
  have a7 : pass1.sl.v1318 c arg24 dy dz farg24 = up4 (rows 128 7 dy) := (load4_1_0 ..).trans (congrArg _ (copied_band (Memref.whole main_arg6).view 896 _ dy))
  have a8 : pass1.sl.v1433 c arg24 dy dz farg24 = up4 (rows 128 8 dy) := (load4_0_0 ..).trans (congrArg _ (copied_band (Memref.whole main_arg6).view 1024 _ dy))
  have a9 : pass1.sl.v1548 c arg24 dy dz farg24 = up4 (rows 128 9 dy) := (load4_1_0 ..).trans (congrArg _ (copied_band (Memref.whole main_arg6).view 1152 _ dy))
  have a10 : pass1.sl.v1663 c arg24 dy dz farg24 = up4 (rows 128 10 dy) := (load4_0_0 ..).trans (congrArg _ (copied_band (Memref.whole main_arg6).view 1280 _ dy))
  have a11 : pass1.sl.v1778 c arg24 dy dz farg24 = up4 (rows 128 11 dy) := (load4_1_0 ..).trans (congrArg _ (copied_band (Memref.whole main_arg6).view 1408 _ dy))
  have a12 : pass1.sl.v1893 c arg24 dy dz farg24 = up4 (rows 128 12 dy) := (load4_0_0 ..).trans (congrArg _ (copied_band (Memref.whole main_arg6).view 1536 _ dy))
  have a13 : pass1.sl.v2008 c arg24 dy dz farg24 = up4 (rows 128 13 dy) := (load4_1_0 ..).trans (congrArg _ (copied_band (Memref.whole main_arg6).view 1664 _ dy))
  have a14 : pass1.sl.v2123 c arg24 dy dz farg24 = up4 (rows 128 14 dy) := (load4_0_0 ..).trans (congrArg _ (copied_band (Memref.whole main_arg6).view 1792 _ dy))
  have a15 : pass1.sl.v2238 c arg24 dy dz farg24 = up4 (rows 128 15 dy) := (load4_1_0 ..).trans (congrArg _ (copied_band (Memref.whole main_arg6).view 1920 _ dy))
  have a16 : pass1.sl.v2333 c arg24 dy dz farg24 = up4 (rows 128 16 dy) := (load4_0 ..).trans (congrArg _ (copied_band (Memref.whole main_arg6).view 2048 _ dy))
  have z0 : pass1.sl.v517 c arg24 dy dz farg24 = up4 (rows 128 0 dz) := (load4_0_1 ..).trans (congrArg _ (copied_band (Memref.whole main_arg7).view 0 _ dz))
  have z1 : pass1.sl.v632 c arg24 dy dz farg24 = up4 (rows 128 1 dz) := (load4_1_1 ..).trans (congrArg _ (copied_band (Memref.whole main_arg7).view 128 _ dz))
  have z2 : pass1.sl.v747 c arg24 dy dz farg24 = up4 (rows 128 2 dz) := (load4_0_1 ..).trans (congrArg _ (copied_band (Memref.whole main_arg7).view 256 _ dz))
  have z3 : pass1.sl.v862 c arg24 dy dz farg24 = up4 (rows 128 3 dz) := (load4_1_1 ..).trans (congrArg _ (copied_band (Memref.whole main_arg7).view 384 _ dz))
  have z4 : pass1.sl.v977 c arg24 dy dz farg24 = up4 (rows 128 4 dz) := (load4_0_1 ..).trans (congrArg _ (copied_band (Memref.whole main_arg7).view 512 _ dz))
  have z5 : pass1.sl.v1092 c arg24 dy dz farg24 = up4 (rows 128 5 dz) := (load4_1_1 ..).trans (congrArg _ (copied_band (Memref.whole main_arg7).view 640 _ dz))
  have z6 : pass1.sl.v1207 c arg24 dy dz farg24 = up4 (rows 128 6 dz) := (load4_0_1 ..).trans (congrArg _ (copied_band (Memref.whole main_arg7).view 768 _ dz))
  have z7 : pass1.sl.v1322 c arg24 dy dz farg24 = up4 (rows 128 7 dz) := (load4_1_1 ..).trans (congrArg _ (copied_band (Memref.whole main_arg7).view 896 _ dz))
  have z8 : pass1.sl.v1437 c arg24 dy dz farg24 = up4 (rows 128 8 dz) := (load4_0_1 ..).trans (congrArg _ (copied_band (Memref.whole main_arg7).view 1024 _ dz))
  have z9 : pass1.sl.v1552 c arg24 dy dz farg24 = up4 (rows 128 9 dz) := (load4_1_1 ..).trans (congrArg _ (copied_band (Memref.whole main_arg7).view 1152 _ dz))
  have z10 : pass1.sl.v1667 c arg24 dy dz farg24 = up4 (rows 128 10 dz) := (load4_0_1 ..).trans (congrArg _ (copied_band (Memref.whole main_arg7).view 1280 _ dz))
  have z11 : pass1.sl.v1782 c arg24 dy dz farg24 = up4 (rows 128 11 dz) := (load4_1_1 ..).trans (congrArg _ (copied_band (Memref.whole main_arg7).view 1408 _ dz))
  have z12 : pass1.sl.v1897 c arg24 dy dz farg24 = up4 (rows 128 12 dz) := (load4_0_1 ..).trans (congrArg _ (copied_band (Memref.whole main_arg7).view 1536 _ dz))
  have z13 : pass1.sl.v2012 c arg24 dy dz farg24 = up4 (rows 128 13 dz) := (load4_1_1 ..).trans (congrArg _ (copied_band (Memref.whole main_arg7).view 1664 _ dz))
  have z14 : pass1.sl.v2127 c arg24 dy dz farg24 = up4 (rows 128 14 dz) := (load4_0_1 ..).trans (congrArg _ (copied_band (Memref.whole main_arg7).view 1792 _ dz))
  have z15 : pass1.sl.v2242 c arg24 dy dz farg24 = up4 (rows 128 15 dz) := (load4_1_1 ..).trans (congrArg _ (copied_band (Memref.whole main_arg7).view 1920 _ dz))
  have z16 : pass1.sl.v2337 c arg24 dy dz farg24 = up4 (rows 128 16 dz) := (load4_1 ..).trans (congrArg _ (copied_band (Memref.whole main_arg7).view 2048 _ dz))
  have b0 : pass1.sl.v522 c arg25 r farg25 = up3 (rows 128 0 r) := (load3_0 ..).trans (congrArg _ (copied_band (Memref.whole main_v9).view 0 _ r))
  have b1 : pass1.sl.v637 c arg25 r farg25 = up3 (rows 128 1 r) := (load3_1 ..).trans (congrArg _ (copied_band (Memref.whole main_v9).view 128 _ r))
  have b2 : pass1.sl.v752 c arg25 r farg25 = up3 (rows 128 2 r) := (load3_0 ..).trans (congrArg _ (copied_band (Memref.whole main_v9).view 256 _ r))
  have b3 : pass1.sl.v867 c arg25 r farg25 = up3 (rows 128 3 r) := (load3_1 ..).trans (congrArg _ (copied_band (Memref.whole main_v9).view 384 _ r))
  have b4 : pass1.sl.v982 c arg25 r farg25 = up3 (rows 128 4 r) := (load3_0 ..).trans (congrArg _ (copied_band (Memref.whole main_v9).view 512 _ r))
  have b5 : pass1.sl.v1097 c arg25 r farg25 = up3 (rows 128 5 r) := (load3_1 ..).trans (congrArg _ (copied_band (Memref.whole main_v9).view 640 _ r))
  have b6 : pass1.sl.v1212 c arg25 r farg25 = up3 (rows 128 6 r) := (load3_0 ..).trans (congrArg _ (copied_band (Memref.whole main_v9).view 768 _ r))
  have b7 : pass1.sl.v1327 c arg25 r farg25 = up3 (rows 128 7 r) := (load3_1 ..).trans (congrArg _ (copied_band (Memref.whole main_v9).view 896 _ r))
  have b8 : pass1.sl.v1442 c arg25 r farg25 = up3 (rows 128 8 r) := (load3_0 ..).trans (congrArg _ (copied_band (Memref.whole main_v9).view 1024 _ r))
  have b9 : pass1.sl.v1557 c arg25 r farg25 = up3 (rows 128 9 r) := (load3_1 ..).trans (congrArg _ (copied_band (Memref.whole main_v9).view 1152 _ r))
  have b10 : pass1.sl.v1672 c arg25 r farg25 = up3 (rows 128 10 r) := (load3_0 ..).trans (congrArg _ (copied_band (Memref.whole main_v9).view 1280 _ r))
  have b11 : pass1.sl.v1787 c arg25 r farg25 = up3 (rows 128 11 r) := (load3_1 ..).trans (congrArg _ (copied_band (Memref.whole main_v9).view 1408 _ r))
  have b12 : pass1.sl.v1902 c arg25 r farg25 = up3 (rows 128 12 r) := (load3_0 ..).trans (congrArg _ (copied_band (Memref.whole main_v9).view 1536 _ r))
  have b13 : pass1.sl.v2017 c arg25 r farg25 = up3 (rows 128 13 r) := (load3_1 ..).trans (congrArg _ (copied_band (Memref.whole main_v9).view 1664 _ r))
  have b14 : pass1.sl.v2132 c arg25 r farg25 = up3 (rows 128 14 r) := (load3_0 ..).trans (congrArg _ (copied_band (Memref.whole main_v9).view 1792 _ r))
  have b15 : pass1.sl.v2247 c arg25 r farg25 = up3 (rows 128 15 r) := (load3_1 ..).trans (congrArg _ (copied_band (Memref.whole main_v9).view 1920 _ r))
  have b16 : pass1.sl.v2342 c arg25 r farg25 = up3 (rows 128 16 r) := (load3 ..).trans (congrArg _ (copied_band (Memref.whole main_v9).view 2048 _ r))
  have h0 : pass1.sl.v582 c arg26 hb farg26 = up3 (rows 128 0 hb) := (load3_0 ..).trans (congrArg _ (copied_band (Memref.whole main_v11).view 0 _ hb))
  have h1 : pass1.sl.v697 c arg26 hb farg26 = up3 (rows 128 1 hb) := (load3_1 ..).trans (congrArg _ (copied_band (Memref.whole main_v11).view 128 _ hb))
  have h2 : pass1.sl.v812 c arg26 hb farg26 = up3 (rows 128 2 hb) := (load3_0 ..).trans (congrArg _ (copied_band (Memref.whole main_v11).view 256 _ hb))
  have h3 : pass1.sl.v927 c arg26 hb farg26 = up3 (rows 128 3 hb) := (load3_1 ..).trans (congrArg _ (copied_band (Memref.whole main_v11).view 384 _ hb))
  have h4 : pass1.sl.v1042 c arg26 hb farg26 = up3 (rows 128 4 hb) := (load3_0 ..).trans (congrArg _ (copied_band (Memref.whole main_v11).view 512 _ hb))
  have h5 : pass1.sl.v1157 c arg26 hb farg26 = up3 (rows 128 5 hb) := (load3_1 ..).trans (congrArg _ (copied_band (Memref.whole main_v11).view 640 _ hb))
  have h6 : pass1.sl.v1272 c arg26 hb farg26 = up3 (rows 128 6 hb) := (load3_0 ..).trans (congrArg _ (copied_band (Memref.whole main_v11).view 768 _ hb))
  have h7 : pass1.sl.v1387 c arg26 hb farg26 = up3 (rows 128 7 hb) := (load3_1 ..).trans (congrArg _ (copied_band (Memref.whole main_v11).view 896 _ hb))
  have h8 : pass1.sl.v1502 c arg26 hb farg26 = up3 (rows 128 8 hb) := (load3_0 ..).trans (congrArg _ (copied_band (Memref.whole main_v11).view 1024 _ hb))
  have h9 : pass1.sl.v1617 c arg26 hb farg26 = up3 (rows 128 9 hb) := (load3_1 ..).trans (congrArg _ (copied_band (Memref.whole main_v11).view 1152 _ hb))
  have h10 : pass1.sl.v1732 c arg26 hb farg26 = up3 (rows 128 10 hb) := (load3_0 ..).trans (congrArg _ (copied_band (Memref.whole main_v11).view 1280 _ hb))
  have h11 : pass1.sl.v1847 c arg26 hb farg26 = up3 (rows 128 11 hb) := (load3_1 ..).trans (congrArg _ (copied_band (Memref.whole main_v11).view 1408 _ hb))
  have h12 : pass1.sl.v1962 c arg26 hb farg26 = up3 (rows 128 12 hb) := (load3_0 ..).trans (congrArg _ (copied_band (Memref.whole main_v11).view 1536 _ hb))
  have h13 : pass1.sl.v2077 c arg26 hb farg26 = up3 (rows 128 13 hb) := (load3_1 ..).trans (congrArg _ (copied_band (Memref.whole main_v11).view 1664 _ hb))
  have h14 : pass1.sl.v2192 c arg26 hb farg26 = up3 (rows 128 14 hb) := (load3_0 ..).trans (congrArg _ (copied_band (Memref.whole main_v11).view 1792 _ hb))
  have h15 : pass1.sl.v2307 c arg26 hb farg26 = up3 (rows 128 15 hb) := (load3_1 ..).trans (congrArg _ (copied_band (Memref.whole main_v11).view 1920 _ hb))
  have h16 : pass1.sl.v2402 c arg26 hb farg26 = up3 (rows 128 16 hb) := (load3 ..).trans (congrArg _ (copied_band (Memref.whole main_v11).view 2048 _ hb))
  isplitl [Harg4]
  · iexact Harg4
  isplitl [Harg15]
  · iapply (holds_unread c arg15 harg15 _); iexists _; isplitr
    swap; · iexact Harg15
    ipureintro
    rw [View.read_writes_full]
    simp only [sumDg,
      ← a0, ← z0, ← b0, ← a1, ← z1, ← b1, ← a2, ← z2, ← b2, ← a3, ← z3, ← b3, ← a4, ← z4, ← b4, ← a5, ← z5, ←
      b5, ← a6, ← z6, ← b6, ← a7, ← z7, ← b7, ← a8, ← z8, ← b8, ← a9, ← z9, ← b9, ← a10, ← z10, ← b10, ← a11,
      ← z11, ← b11, ← a12, ← z12, ← b12, ← a13, ← z13, ← b13, ← a14, ← z14, ← b14, ← a15, ← z15, ← b15, ← a16,
      ← z16, ← b16]
    rfl
  isplitl [Harg16]
  · iapply (holds_unread c arg16 harg16 _); iexists _; isplitr
    swap; · iexact Harg16
    ipureintro
    rw [View.read_writes_full]
    simp only [sumDb,
      ← a0, ← z0, ← b0, ← a1, ← z1, ← b1, ← a2, ← z2, ← b2, ← a3, ← z3, ← b3, ← a4, ← z4, ← b4, ← a5, ← z5, ←
      b5, ← a6, ← z6, ← b6, ← a7, ← z7, ← b7, ← a8, ← z8, ← b8, ← a9, ← z9, ← b9, ← a10, ← z10, ← b10, ← a11,
      ← z11, ← b11, ← a12, ← z12, ← b12, ← a13, ← z13, ← b13, ← a14, ← z14, ← b14, ← a15, ← z15, ← b15, ← a16,
      ← z16, ← b16]
    rfl
  isplitl [Harg17]
  · iapply (holds_unread c arg17 harg17 _); iexists _; isplitr
    swap; · iexact Harg17
    ipureintro
    refine read_writes_of_pieces _ _ _ _ ?_ (View.cover_of_tiled _ ![128, 1024] (by rfl))
    repeat' refine List.forall_mem_cons.2 ⟨fun x => ?_, ?_⟩
    on_goal 18 => exact fun p hp => absurd hp List.not_mem_nil
    all_goals
      refine Eq.trans ?_ (byRows_at (N := 2176) (C := 1024) (n := 128) _ (by decide) x (by rfl))
      simp only [Nat.reduceDiv, Nat.zero_div,
        ← a0, ← z0, ← b0, ← a1, ← z1, ← b1, ← a2, ← z2, ← b2, ← a3, ← z3, ← b3, ← a4, ← z4, ← b4, ← a5, ← z5,
        ← b5, ← a6, ← z6, ← b6, ← a7, ← z7, ← b7, ← a8, ← z8, ← b8, ← a9, ← z9, ← b9, ← a10, ← z10, ← b10, ←
        a11, ← z11, ← b11, ← a12, ← z12, ← b12, ← a13, ← z13, ← b13, ← a14, ← z14, ← b14, ← a15, ← z15, ← b15,
        ← a16, ← z16, ← b16]
      rfl
  isplitl [Harg20]
  · iapply (holds_unread c arg20 harg20 _); iexists _; isplitr
    swap; · iexact Harg20
    ipureintro
    refine read_writes_of_pieces _ _ _ _ ?_ (View.cover_of_tiled _ ![128, 1024] (by rfl))
    repeat' refine List.forall_mem_cons.2 ⟨fun x => ?_, ?_⟩
    on_goal 18 => exact fun p hp => absurd hp List.not_mem_nil
    all_goals
      refine Eq.trans ?_ (byRows_at (N := 2176) (C := 1024) (n := 128) _ (by decide) x (by rfl))
      simp only [Nat.reduceDiv, Nat.zero_div,
        ← a0, ← z0, ← b0, ← a1, ← z1, ← b1, ← a2, ← z2, ← b2, ← a3, ← z3, ← b3, ← a4, ← z4, ← b4, ← a5, ← z5,
        ← b5, ← a6, ← z6, ← b6, ← a7, ← z7, ← b7, ← a8, ← z8, ← b8, ← a9, ← z9, ← b9, ← a10, ← z10, ← b10, ←
        a11, ← z11, ← b11, ← a12, ← z12, ← b12, ← a13, ← z13, ← b13, ← a14, ← z14, ← b14, ← a15, ← z15, ← b15,
        ← a16, ← z16, ← b16]
      rfl
  isplitl [Harg19]
  · iapply (holds_unread c arg19 harg19 _); iexists _; isplitr
    swap; · iexact Harg19
    ipureintro
    refine read_writes_of_pieces _ _ _ _ ?_ (View.cover_of_tiled _ ![1024, 128] (by rfl))
    repeat' refine List.forall_mem_cons.2 ⟨fun x => ?_, ?_⟩
    on_goal 18 => exact fun p hp => absurd hp List.not_mem_nil
    all_goals
      refine Eq.trans ?_ (byCols_at (N := 2176) (R := 1024) (n := 128) _ (by decide) x (by rfl))
      simp only [Nat.reduceDiv, Nat.zero_div,
        ← a0, ← z0, ← b0, ← a1, ← z1, ← b1, ← a2, ← z2, ← b2, ← a3, ← z3, ← b3, ← a4, ← z4, ← b4, ← a5, ← z5,
        ← b5, ← a6, ← z6, ← b6, ← a7, ← z7, ← b7, ← a8, ← z8, ← b8, ← a9, ← z9, ← b9, ← a10, ← z10, ← b10, ←
        a11, ← z11, ← b11, ← a12, ← z12, ← b12, ← a13, ← z13, ← b13, ← a14, ← z14, ← b14, ← a15, ← z15, ← b15,
        ← a16, ← z16, ← b16]
      rfl
  isplitl [Harg18]
  · iapply (holds_unread c arg18 harg18 _); iexists _; isplitr
    swap; · iexact Harg18
    ipureintro
    refine read_writes_of_pieces _ _ _ _ ?_ (View.cover_of_tiled _ ![1024, 128] (by rfl))
    repeat' refine List.forall_mem_cons.2 ⟨fun x => ?_, ?_⟩
    on_goal 18 => exact fun p hp => absurd hp List.not_mem_nil
    all_goals
      refine Eq.trans ?_ (byCols_at (N := 2176) (R := 1024) (n := 128) _ (by decide) x (by rfl))
      simp only [Nat.reduceDiv, Nat.zero_div,
        ← h0, ← h1, ← h2, ← h3, ← h4, ← h5, ← h6, ← h7, ← h8, ← h9, ← h10, ← h11, ← h12, ← h13, ← h14, ← h15,
        ← h16]
      rfl
  isplitl [Harg24]
  · iexists _; iexact Harg24
  isplitl [Harg25]
  · iexists _; iexact Harg25
  isplitl [Harg26]
  · iexists _; iexact Harg26
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh3]; · iexact Hh3
  isplitl [Hh1]; · iexact Hh1
  isplitl [Hh2]; · iexact Hh2
  iexists _; iexact HW

end Cert.Kernel2Ideal.Gen

end
-- ==== Proof.Gate2.lean ====
module

public import proofs.«01_k».proof.Proof.Chunk2
public import Idealize.ShloMosaic.Lib.VecWindow

@[expose] public section

/-!
  # One grid point's work on its 256 columns of the hidden layer

  At every grid point the kernel walks over eight bands of 272 rows. From a band of the upstream gradient and of the
  saved pre-activations it makes a band of the two gate gradients and of the activations, and adds a band's share to the
  input gradient. The matrices here are what the four buffers hold when the walk is over.
-/

noncomputable section

namespace Cert.Kernel2Ideal.Gen

open Idealize.ShloMosaic Idealize.ShloMosaic.TcCoe Ffn

variable {F : FTy → Type} [FloatOps F]

/-- The `k`th band of 272 rows of a point's block of pre-activations. -/
def band (k : ℕ) (x : Vec F S1x2176x256 .bf16) : Vec F S1x272x256 .bf16 :=
  fun j => x (ix3 (0 : Fin 1) (⟨(k * 272 + (j 1 : Fin 272).val) % 2176, Nat.mod_lt _ (by decide)⟩ : Fin 2176) (j 2 : Fin 256))

variable (df : Vec F S2176x1024 .bf16) (wd wg wu : Vec F S256x1024 .bf16) (u v : Vec F S1x2176x256 .bf16)
  (dh : Vec F S2176x1024 .f32)

/-- The gradient of the gated pre-activation. -/
def allDu : Vec F S2176x256 .bf16 :=
  byRows (N := 2176) (C := 256) 272 fun k => k0_pay248 (rows (N := 2176) (C := 1024) 272 k df) wd (band k u) (band k v)

/-- The gradient of the linear pre-activation. -/
def allDv : Vec F S2176x256 .bf16 :=
  byRows (N := 2176) (C := 256) 272 fun k => k0_pay249 (k0_pay247 (rows (N := 2176) (C := 1024) 272 k df) wd (band k u))

/-- The activations. -/
def allAc : Vec F S2176x256 .bf16 :=
  byRows (N := 2176) (C := 256) 272 fun k => k0_pay250 (k0_pay243 (band k u)) (k0_pay244 (band k v)) (k0_pay245 (band k u))

/-- The input gradient with this point's share added. -/
def nextDh : Vec F S2176x1024 .f32 :=
  byRows (N := 2176) (C := 1024) 272 fun k =>
    k0_pay251 (k0_pay246 (rows (N := 2176) (C := 1024) 272 k df) wd (band k u) (band k v))
      (k0_pay247 (rows (N := 2176) (C := 1024) 272 k df) wd (band k u)) (rows (N := 2176) (C := 1024) 272 k dh) wg wu

section Loads
variable {e : EltTy} {Val : EltTy → Type}

/-- A load of a whole buffer with known contents. -/
theorem load_whole {S : Shape} (M : Memref sig .tc .vmem S e) (hM : M.IsWhole) (X : S.Idx → Val e) {off : Fin S.rank → ℕ} (inb) :
    M.view.readAt Val (Rect.unit (s := S) off S.size inb).toLoadRect (hM.unread X) = X := by
  rw [View.readAt_full, hM.read_unread]

/-- A load of a whole buffer that the stores before it have covered. -/
theorem load_covered [∀ e, Nonempty (Val e)] {S : Shape} {sp : Space} (v : View sig .tc sp S e) (L : List (View.Piece Val S e)) (G : S.Idx → Val e)
    {off : Fin S.rank → ℕ} (inb) (hL : ∀ p ∈ L, ∀ x, p.2 x = G (p.1.emb x)) (hc : ∀ y, ∃ p ∈ L, y ∈ p.1.set) :
    v.readCov L (Rect.unit (s := S) off S.size inb).toLoadRect = G :=
  (View.readAt_full v _ inb).trans (read_writes_of_pieces v _ L G hL hc)

/-- A load of 272 rows of a buffer with known contents. -/
theorem load_rows (M : Memref sig .tc .vmem S2176x1024 e) (hM : M.IsWhole) (X : S2176x1024.Idx → Val e) (o : ℕ) (inb) :
    M.view.readAt Val (Rect.unit (s := S2176x1024) ![o, 0] S272x1024.size inb).toLoadRect (hM.unread X)
      = rowsFrom (N := 2176) (C := 1024) 272 o X := by
  funext x
  refine Eq.trans ?_ (unit_rowsFrom (N := 2176) (C := 1024) (n := 272) X inb x)
  exact congrFun (hM.read_unread X) _

/-- A load of 272 rows of a block of pre-activations. -/
theorem load_band (M : Memref sig .tc .vmem S1x2176x256 .bf16) (hM : M.IsWhole) (X : Vec F S1x2176x256 .bf16) (o : ℕ) (inb)
    (ho : o / 272 * 272 = o) :
    M.view.readAt (Elt F) (Rect.unit (s := S1x2176x256) ![0, o, 0] S1x272x256.size inb).toLoadRect (hM.unread X) = band (o / 272) X := by
  funext x
  refine Eq.trans (congrFun (hM.read_unread X) _) ?_
  unfold band
  refine congrArg X (funext fun a => ?_)
  have h1 : (x 1).val < 272 := (x 1).isLt
  have h0 : (x 0).val < 1 := (x 0).isLt
  have hb : o + 272 ≤ 2176 := inb 1
  match a with
  | ⟨0, _⟩ => refine Fin.ext ?_; show 0 + 1 * (x 0).val = 0; omega
  | ⟨1, _⟩ =>
    refine Fin.ext ?_
    show o + 1 * (x 1).val = (o / 272 * 272 + (x 1).val) % 2176
    rw [ho, Nat.mod_eq_of_lt (by omega)]; omega
  | ⟨2, _⟩ => refine Fin.ext ?_; show 0 + 1 * (x 2).val = (x 2).val; omega

end Loads

/-- The word that says whether the point is the grid's last. -/
abbrev lastWord (i : grid0.Coords) : BitVec 1 :=
  Scalar.cmpi .ne (Scalar.extui (Scalar.cmpi .eq (BitVec.ofNat 32 (i 0).val) 10#32)) 0#32

end Cert.Kernel2Ideal.Gen

end
-- ==== Proof.Entry2.lean ====
module

public import proofs.«01_k».proof.Proof.Pass12
public import proofs.«01_k».proof.Proof.Gate2
public import proofs.«01_k».proof.Proof.Gen.Kernel2Ideal.Points
public import Idealize.ShloMosaic.Lib.Pipeline.FrameValue

@[expose] public section

/-!
  # What the launch hands the grid

  The buffers the kernel's body names at a grid point, the cells it signals on, and the launch's invariant written out
  over them.
-/

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to the grid, over the algebra that counts transfers. -/
theorem hmain_counted (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- The body takes its first branch at the first point only. -/
theorem at_first (t : Fin cfg0.N) : k0_cond1 (grid0.coords t) = 1#1 ↔ t.val = 0 := by
  have ht : t.val < 11 := Nat.lt_of_lt_of_eq t.isLt N_0
  have e0 : (grid0.coords t 0).val = t.val / 1 % 11 := Pipeline.Grid.coords_val t 0 (by decide) rfl
  refine Iff.trans (b := t.val % 11 = 0) ?_ (by omega)
  simp only [k0_cond1, e0]
  word_cmp

/-- The body takes its other two branches at the last point only. -/
theorem at_last (t : Fin cfg0.N) : lastWord (grid0.coords t) = 1#1 ↔ t.val = 10 := by
  have ht : t.val < 11 := Nat.lt_of_lt_of_eq t.isLt N_0
  have e0 : (grid0.coords t 0).val = t.val / 1 % 11 := Pipeline.Grid.coords_val t 0 (by decide) rfl
  refine Iff.trans (b := t.val % 11 = 10) ?_ (by omega)
  simp only [lastWord, e0]
  word_cmp

abbrev stg0 (t : Fin cfg0.N) : Memref sig .tc .vmem S1x1024 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S1x2176x256 .bf16 := win0_1.stage (cfg0.slots t 1)
abbrev whole1 (t : Fin cfg0.N) : (stg1 t).IsWhole := hstage0_1 ((cfg0.slots t 1).cast nbuf0_1)
abbrev stg2 (t : Fin cfg0.N) : Memref sig .tc .vmem S1x2176x256 .bf16 := win0_2.stage (cfg0.slots t 2)
abbrev whole2 (t : Fin cfg0.N) : (stg2 t).IsWhole := hstage0_2 ((cfg0.slots t 2).cast nbuf0_2)
abbrev stg3 (t : Fin cfg0.N) : Memref sig .tc .vmem S256x1024 .bf16 := win0_3.stage (cfg0.slots t 3)
abbrev whole3 (t : Fin cfg0.N) : (stg3 t).IsWhole := hstage0_3 ((cfg0.slots t 3).cast nbuf0_3)
abbrev stg4 (t : Fin cfg0.N) : Memref sig .tc .vmem S256x1024 .bf16 := win0_4.stage (cfg0.slots t 4)
abbrev whole4 (t : Fin cfg0.N) : (stg4 t).IsWhole := hstage0_4 ((cfg0.slots t 4).cast nbuf0_4)
abbrev stg5 (t : Fin cfg0.N) : Memref sig .tc .vmem S256x1024 .bf16 := win0_5.stage (cfg0.slots t 5)
abbrev whole5 (t : Fin cfg0.N) : (stg5 t).IsWhole := hstage0_5 ((cfg0.slots t 5).cast nbuf0_5)
abbrev stg6 (t : Fin cfg0.N) : Memref sig .tc .vmem S256x1024 .bf16 := win0_6.stage (cfg0.slots t 6)
abbrev whole6 (t : Fin cfg0.N) : (stg6 t).IsWhole := hstage0_6 ((cfg0.slots t 6).cast nbuf0_6)
abbrev stg7 (t : Fin cfg0.N) : Memref sig .tc .vmem S256x1024 .bf16 := win0_7.stage (cfg0.slots t 7)
abbrev whole7 (t : Fin cfg0.N) : (stg7 t).IsWhole := hstage0_7 ((cfg0.slots t 7).cast nbuf0_7)
abbrev stg8 (t : Fin cfg0.N) : Memref sig .tc .vmem S256x1024 .bf16 := win0_8.stage (cfg0.slots t 8)
abbrev whole8 (t : Fin cfg0.N) : (stg8 t).IsWhole := hstage0_8 ((cfg0.slots t 8).cast nbuf0_8)
abbrev stg9 (t : Fin cfg0.N) : Memref sig .tc .vmem S1x1024 .f32 := win0_9.stage (cfg0.slots t 9)
abbrev whole9 (t : Fin cfg0.N) : (stg9 t).IsWhole := hstage0_9 ((cfg0.slots t 9).cast nbuf0_9)
abbrev stg10 (t : Fin cfg0.N) : Memref sig .tc .vmem S1x1024 .f32 := win0_10.stage (cfg0.slots t 10)
abbrev whole10 (t : Fin cfg0.N) : (stg10 t).IsWhole := hstage0_10 ((cfg0.slots t 10).cast nbuf0_10)

abbrev sc0 : Memref sig .tc .vmem S2176x1024 .bf16 := Memref.whole cc0_scratch0
abbrev sc1 : Memref sig .tc .vmem S1024x2176 .bf16 := Memref.whole cc0_scratch1
abbrev sc2 : Memref sig .tc .vmem S1024x2176 .bf16 := Memref.whole cc0_scratch2
abbrev sc3 : Memref sig .tc .vmem S2176x1024 .f32 := Memref.whole cc0_scratch3
abbrev sc4 : Memref sig .tc .vmem S2176x256 .bf16 := Memref.whole cc0_scratch4
abbrev sc5 : Memref sig .tc .vmem S2176x256 .bf16 := Memref.whole cc0_scratch5
abbrev sc6 : Memref sig .tc .vmem S2176x256 .bf16 := Memref.whole cc0_scratch6
abbrev sc7 : Memref sig .tc .vmem S2x2x128x1024 .f32 := Memref.whole cc0_scratch7
abbrev sc8 : Memref sig .tc .vmem S2x128x1024 .f32 := Memref.whole cc0_scratch8
abbrev sc9 : Memref sig .tc .vmem S2x128x1024 .bf16 := Memref.whole cc0_scratch9

/-- The cells the body signals its own transfers on. -/
abbrev ownCells : Fin 9 → SemLoc sig := ![SemLoc.dma 19, SemLoc.dma 20, SemLoc.dma 21, SemLoc.dma 22, SemLoc.dma 23, SemLoc.dma 24, SemLoc.dma 25, SemLoc.dma 26, SemLoc.dma 27]

theorem ownCells_facts : Pipeline.OwnSemFacts spec0 ownCells := by decide

/-- The operands the body only reads, by its own transfers. -/
def readRefs : Finset (Ref sig .tc) := {main_arg6, main_arg7, main_v9, main_v11}
/-- The result the body writes, by its own transfer. -/
def dhRef : Finset (Ref sig .tc) := {main_v23_0}

theorem readRefs_sub : readRefs ⊆ Pipeline.restRefs sig spec0 := by decide
theorem dhRef_sub : dhRef ⊆ Pipeline.restRefs sig spec0 \ readRefs := by decide

theorem ownCells_eq (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) := by
  rw [Pipeline.ownSems0_eq_of_list c ownCells [0, 1, 2, 3, 4, 5, 6, 7, 8] (by decide) (by decide)]; rfl

theorem readRefs_eq (c : Dev nD) :
    (bigSep readRefs (fun b => ((c : Thread nD τ).loc b) ↦{fullShare} V m c b) : sProp 𝕄)
      = iprop(holds c (Memref.whole main_arg6) (V m c main_arg6) ∗ holds c (Memref.whole main_arg7) (V m c main_arg7) ∗ holds c (Memref.whole main_v9) (V m c main_v9) ∗ holds c (Memref.whole main_v11) (V m c main_v11)) := by
  rw [BI.bigSep_eq_bigSepL_of_eq [main_arg6, main_arg7, main_v9, main_v11] (by decide) (by decide)]; rfl

theorem dhRef_eq (c : Dev nD) (G : (b : Ref sig .tc) → Buf (Elt F) ((c : Thread nD τ).loc b)) :
    (Pipeline.routed dhRef c G : sProp 𝕄) = holds c (Memref.whole main_v23_0) (G main_v23_0) := by
  unfold Pipeline.routed; rw [BI.bigSep_eq_bigSepL_of_eq [main_v23_0] (by decide) (by decide)]; rfl

/-- The launch's invariant, conjunct by conjunct: the scratch buffers at any contents, the generator register, the cells
    at zero, the operands read, and the result at given contents. -/
theorem entry_eq (c : Dev nD) (G : (c : Dev nD) → (b : Ref sig .tc) → Buf (Elt F) ((c : Thread nD τ).loc b)) :
    (Pipeline.ΦDRG ownCells spec0 readRefs dhRef (V m) G c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)
          ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0)
          ∗ iprop(holds c (Memref.whole main_arg6) (V m c main_arg6) ∗ holds c (Memref.whole main_arg7) (V m c main_arg7) ∗ holds c (Memref.whole main_v9) (V m c main_v9) ∗ holds c (Memref.whole main_v11) (V m c main_v11))
          ∗ holds c (Memref.whole main_v23_0) (G c main_v23_0)) := by
  rw [Pipeline.ΦDRG_eq, scopedRest0_eq, ownCells_eq, readRefs_eq, dhRef_eq]; simp only [sc0, sc1, sc2, sc3, sc4, sc5, sc6, sc7, sc8, sc9, owns_whole]; try rfl

end Cert.Kernel2Ideal.Gen

end
-- ==== Proof.RunA2.lean ====
module

public import proofs.«01_k».proof.Proof.Gate2
public import proofs.«01_k».proof.Proof.Pass12
public import Idealize.ShloMosaic.Lib.Tactic

@[expose] public section

/-!
  # The first grid point
-/

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn

variable {F : FTy → Type} [FloatOps F]

local notation "𝕄" => MT nD τ sig Unit (Elt F) ℕ (Pipeline.UD sig nD τ) ℕ

/-- The first part of the body, its branch for the first grid point named. -/
def firstBand (i : grid0.Coords) (arg1 : Memref sig .tc .hbm S2176x1024 .f32) (harg1 : arg1.IsWhole) (arg2 : Memref sig .tc .hbm S2176x1024 .f32) (harg2 : arg2.IsWhole) (arg3 : Memref sig .tc .hbm S2176x1024 .f32) (harg3 : arg3.IsWhole) (arg4 : Memref sig .tc .vmem S1x1024 .f32) (harg4 : arg4.IsWhole) (arg5 : Memref sig .tc .hbm S2176x1024 .bf16) (harg5 : arg5.IsWhole) (arg6 : Memref sig .tc .vmem S1x2176x256 .bf16) (harg6 : arg6.IsWhole) (arg7 : Memref sig .tc .vmem S1x2176x256 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .hbm S2176x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S2176x1024 .bf16) (harg17 : arg17.IsWhole) (arg18 : Memref sig .tc .vmem S1024x2176 .bf16) (harg18 : arg18.IsWhole) (arg19 : Memref sig .tc .vmem S1024x2176 .bf16) (harg19 : arg19.IsWhole) (arg20 : Memref sig .tc .vmem S2176x1024 .f32) (harg20 : arg20.IsWhole) (arg21 : Memref sig .tc .vmem S2176x256 .bf16) (harg21 : arg21.IsWhole) (arg22 : Memref sig .tc .vmem S2176x256 .bf16) (harg22 : arg22.IsWhole) (arg23 : Memref sig .tc .vmem S2176x256 .bf16) (harg23 : arg23.IsWhole) (arg24 : Memref sig .tc .vmem S2x2x128x1024 .f32) (harg24 : arg24.IsWhole) (arg25 : Memref sig .tc .vmem S2x128x1024 .f32) (harg25 : arg25.IsWhole) (arg26 : Memref sig .tc .vmem S2x128x1024 .bf16) (harg26 : arg26.IsWhole) (arg27 : DmaSems sig S2x4) (arg28 : DmaSems sig S1) :
    Prog (TpuEff nD τ sig (Elt F) Λ₀ .tc) (Σ' (arg0 : BitVec 32) (v9 : FVec F S272x256 .f32) (v12 : FVec F S272x256 .f32) (v19 : FVec F S272x256 .f32) (v28 : FVec F S272x256 .bf16), FVec F S272x256 .bf16) := do
  let arg0 : BitVec 32 := BitVec.ofNat 32 (i 0).val
  if k0_h1 : k0_cond1 i = 1#1 then do
    walk i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28
  else do
    pure ⟨⟩
  let v3 : Vec F S272x1024 .bf16 ← Prog.lift (.load arg17 (Rect.unit (s := S2176x1024) ![0, 0] S272x1024.size inb_S2176x1024_S272x1024_0_0).toLoadRect (View.loadsAt_vmem h_S272x1024))
  let v4 : Vec F S256x1024 .bf16 ← Prog.lift (.load arg10 (Rect.unit (s := S256x1024) ![0, 0] S256x1024.size inb_S256x1024_S256x1024_0_0).toLoadRect (View.loadsAt_vmem h_S256x1024))
  let v7 : Vec F S1x272x256 .bf16 ← Prog.lift (.load arg6 (Rect.unit (s := S1x2176x256) ![0, 0, 0] S1x272x256.size inb_S1x2176x256_S1x272x256_0_0_0).toLoadRect (View.loadsAt_vmem h_S1x272x256))
  let v10 : Vec F S1x272x256 .bf16 ← Prog.lift (.load arg7 (Rect.unit (s := S1x2176x256) ![0, 0, 0] S1x272x256.size inb_S1x2176x256_S1x272x256_0_0_0).toLoadRect (View.loadsAt_vmem h_S1x272x256))
  let v32 : Vec F S272x256 .bf16 ← Prog.lift (.load arg21 (Rect.unit (s := S2176x256) ![0, 0] S272x256.size inb_S2176x256_S272x256_0_0).toLoadRect (View.loadsAt_vmem h_S272x256))
  Prog.lift (.store arg21 (Rect.unit (s := S2176x256) ![0, 0] S272x256.size inb_S2176x256_S272x256_0_0) (k0_pay248 v3 v4 v7 v10) Finset.univ (View.stores_vmem h_S272x256 (harg21.storeExact_slice rfl _ packedbf16_S2176x256_S272x256_0_0) (fun _ => rfl)) (.inl rfl))
  pure ⟨arg0, k0_pay243 v7, k0_pay244 v10, k0_pay245 v7, k0_pay246 v3 v4 v7 v10, k0_pay247 v3 v4 v7⟩

set_option maxRecDepth 65536 in
set_option maxHeartbeats 2000000 in
theorem part66_eq : k0_part66 (F := F) = firstBand (F := F) := by
  funext i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28
  rw [k0_part66_eq_skeleton]
  unfold k0_part66_skel firstBand walk
  by_cases h : k0_cond1 i = 1#1
  · simp only [h, dite_true, bind_assoc, pure_bind]
  · simp only [h, dite_false, bind_assoc, pure_bind]

set_option maxHeartbeats 5396000 in
set_option sl_exec.dmaWindow true in
set_option sl_exec.dmaWindowSet true in
theorem runA (c : Dev nD) (i : grid0.Coords)

    (arg4 : Memref sig .tc .vmem S1x1024 .f32) (harg4 : arg4.IsWhole)
    (arg6 : Memref sig .tc .vmem S1x2176x256 .bf16) (harg6 : arg6.IsWhole) (arg7 : Memref sig .tc .vmem S1x2176x256 .bf16) (harg7 : arg7.IsWhole)
    (arg8 : Memref sig .tc .vmem S256x1024 .bf16) (harg8 : arg8.IsWhole) (arg9 : Memref sig .tc .vmem S256x1024 .bf16) (harg9 : arg9.IsWhole)
    (arg10 : Memref sig .tc .vmem S256x1024 .bf16) (harg10 : arg10.IsWhole)
    (arg12 : Memref sig .tc .vmem S256x1024 .bf16) (harg12 : arg12.IsWhole) (arg13 : Memref sig .tc .vmem S256x1024 .bf16) (harg13 : arg13.IsWhole)
    (arg14 : Memref sig .tc .vmem S256x1024 .bf16) (harg14 : arg14.IsWhole) (arg15 : Memref sig .tc .vmem S1x1024 .f32) (harg15 : arg15.IsWhole)
    (arg16 : Memref sig .tc .vmem S1x1024 .f32) (harg16 : arg16.IsWhole) (arg17 : Memref sig .tc .vmem S2176x1024 .bf16) (harg17 : arg17.IsWhole)
    (arg18 : Memref sig .tc .vmem S1024x2176 .bf16) (harg18 : arg18.IsWhole) (arg19 : Memref sig .tc .vmem S1024x2176 .bf16) (harg19 : arg19.IsWhole)
    (arg20 : Memref sig .tc .vmem S2176x1024 .f32) (harg20 : arg20.IsWhole) (arg21 : Memref sig .tc .vmem S2176x256 .bf16) (harg21 : arg21.IsWhole)
    (arg22 : Memref sig .tc .vmem S2176x256 .bf16) (harg22 : arg22.IsWhole) (arg23 : Memref sig .tc .vmem S2176x256 .bf16) (harg23 : arg23.IsWhole)
    (arg24 : Memref sig .tc .vmem S2x2x128x1024 .f32) (harg24 : arg24.IsWhole) (arg25 : Memref sig .tc .vmem S2x128x1024 .f32) (harg25 : arg25.IsWhole)
    (arg26 : Memref sig .tc .vmem S2x128x1024 .bf16) (harg26 : arg26.IsWhole)
    (hc0 : k0_cond1 i = 1#1) (hc1 : ¬ lastWord i = 1#1)
    (g : Vec F S1x1024 .f32) (u : Vec F S1x2176x256 .bf16) (v : Vec F S1x2176x256 .bf16) (wg : Vec F S256x1024 .bf16) (wu : Vec F S256x1024 .bf16) (wd : Vec F S256x1024 .bf16)
    (dy : Cont (F := F) c (Memref.whole main_arg6)) (dz : Cont (F := F) c (Memref.whole main_arg7)) (r : Cont (F := F) c (Memref.whole main_v9)) (hb : Cont (F := F) c (Memref.whole main_v11)) (W : Waits sig Unit) (K : PUnit → sProp 𝕄) :
    iprop(owns (c : Thread nD τ) arg4 fullShare g ∗
      owns (c : Thread nD τ) arg6 fullShare u ∗
      owns (c : Thread nD τ) arg7 fullShare v ∗
      owns (c : Thread nD τ) arg8 fullShare wg ∗
      owns (c : Thread nD τ) arg9 fullShare wu ∗
      owns (c : Thread nD τ) arg10 fullShare wd ∗
      (∃ d, owns (c : Thread nD τ) arg12 fullShare d) ∗
      (∃ d, owns (c : Thread nD τ) arg13 fullShare d) ∗
      (∃ d, owns (c : Thread nD τ) arg14 fullShare d) ∗
      (∃ d, owns (c : Thread nD τ) arg15 fullShare d) ∗
      (∃ d, owns (c : Thread nD τ) arg16 fullShare d) ∗
      (∃ d, owns (c : Thread nD τ) arg17 fullShare d) ∗
      (∃ d, owns (c : Thread nD τ) arg18 fullShare d) ∗
      (∃ d, owns (c : Thread nD τ) arg19 fullShare d) ∗
      (∃ d, owns (c : Thread nD τ) arg20 fullShare d) ∗
      (∃ d, owns (c : Thread nD τ) arg21 fullShare d) ∗
      (∃ d, owns (c : Thread nD τ) arg22 fullShare d) ∗
      (∃ d, owns (c : Thread nD τ) arg23 fullShare d) ∗
      (∃ d, owns (c : Thread nD τ) arg24 fullShare d) ∗
      (∃ d, owns (c : Thread nD τ) arg25 fullShare d) ∗
      (∃ d, owns (c : Thread nD τ) arg26 fullShare d) ∗
      semVal ((c : Thread nD τ), SemLoc.dma 19) 0 ∗
      semVal ((c : Thread nD τ), SemLoc.dma 20) 0 ∗
      semVal ((c : Thread nD τ), SemLoc.dma 21) 0 ∗
      semVal ((c : Thread nD τ), SemLoc.dma 22) 0 ∗
      semVal ((c : Thread nD τ), SemLoc.dma 23) 0 ∗
      semVal ((c : Thread nD τ), SemLoc.dma 24) 0 ∗
      semVal ((c : Thread nD τ), SemLoc.dma 25) 0 ∗
      semVal ((c : Thread nD τ), SemLoc.dma 26) 0 ∗
      holds c (Memref.whole main_arg6) dy ∗
      holds c (Memref.whole main_arg7) dz ∗
      holds c (Memref.whole main_v9) r ∗
      holds c (Memref.whole main_v11) hb ∗
      owes (c : Thread nD τ) 0 W ∗
      (iprop(owns (c : Thread nD τ) arg4 fullShare g ∗
        owns (c : Thread nD τ) arg6 fullShare u ∗
        owns (c : Thread nD τ) arg7 fullShare v ∗
        owns (c : Thread nD τ) arg8 fullShare wg ∗
        owns (c : Thread nD τ) arg9 fullShare wu ∗
        owns (c : Thread nD τ) arg10 fullShare wd ∗
        owns (c : Thread nD τ) arg12 fullShare (k0_pay330 (allHT hb) (allDu (allDf dy dz r g) wd u v)) ∗
        owns (c : Thread nD τ) arg13 fullShare (k0_pay331 (allHT hb) (allDv (allDf dy dz r g) wd u)) ∗
        owns (c : Thread nD τ) arg14 fullShare (k0_pay332 (allDfT dy dz r g) (allAc u v)) ∗
        owns (c : Thread nD τ) arg15 fullShare (sumDg dy dz r 17) ∗
        owns (c : Thread nD τ) arg16 fullShare (sumDb dy dz 17) ∗
        owns (c : Thread nD τ) arg17 fullShare (allDf dy dz r g) ∗
        owns (c : Thread nD τ) arg18 fullShare (allHT hb) ∗
        owns (c : Thread nD τ) arg19 fullShare (allDfT dy dz r g) ∗
        owns (c : Thread nD τ) arg20 fullShare (nextDh (allDf dy dz r g) wd wg wu u v (allDh dy dz r g)) ∗
        (∃ d, owns (c : Thread nD τ) arg21 fullShare d) ∗
        (∃ d, owns (c : Thread nD τ) arg22 fullShare d) ∗
        (∃ d, owns (c : Thread nD τ) arg23 fullShare d) ∗
        (∃ d, owns (c : Thread nD τ) arg24 fullShare d) ∗
        (∃ d, owns (c : Thread nD τ) arg25 fullShare d) ∗
        (∃ d, owns (c : Thread nD τ) arg26 fullShare d) ∗
        semVal ((c : Thread nD τ), SemLoc.dma 19) 0 ∗
        semVal ((c : Thread nD τ), SemLoc.dma 20) 0 ∗
        semVal ((c : Thread nD τ), SemLoc.dma 21) 0 ∗
        semVal ((c : Thread nD τ), SemLoc.dma 22) 0 ∗
        semVal ((c : Thread nD τ), SemLoc.dma 23) 0 ∗
        semVal ((c : Thread nD τ), SemLoc.dma 24) 0 ∗
        semVal ((c : Thread nD τ), SemLoc.dma 25) 0 ∗
        semVal ((c : Thread nD τ), SemLoc.dma 26) 0 ∗
        holds c (Memref.whole main_arg6) dy ∗
        holds c (Memref.whole main_arg7) dz ∗
        holds c (Memref.whole main_v9) r ∗
        holds c (Memref.whole main_v11) hb ∗
        (∃ W', owes (c : Thread nD τ) 0 W')) -∗ K ⟨⟩))
    ⊢ wp frame (wpE (defs₀ (F := F)) Variants.none c none) Set.univ
        (cc0_ffn_bwd_seq i (Memref.whole main_arg6) (Memref.isWhole_whole _) (Memref.whole main_arg7) (Memref.isWhole_whole _) (Memref.whole main_v9) (Memref.isWhole_whole _) arg4 harg4 (Memref.whole main_v11) (Memref.isWhole_whole _) arg6 harg6 arg7 harg7 arg8 harg8 arg9 harg9 arg10 harg10 (Memref.whole main_v23_0) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch10 cc0_scratch11) K := by
  simp only [cc0_ffn_bwd_seq_eq_skeleton]; unfold cc0_ffn_bwd_seq_skel
  simp only [k0_part78_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
  unfold k0_part78_skel; simp only [part66_eq]; unfold firstBand
  unfold owns
  iintro ⟨⟨%f3, %hf3, H3⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hq0, Hq1, Hq2, Hq3, Hq4, Hq5, Hq6, Hq7, Hh0, Hh3, Hh1, Hh2, HW, Hk⟩
  obtain rfl := harg4.eq_unread hf3; obtain rfl := harg6.eq_unread hf5; obtain rfl := harg7.eq_unread hf6; obtain rfl := harg8.eq_unread hf7; obtain rfl := harg9.eq_unread hf8; obtain rfl := harg10.eq_unread hf9
  have hcut := pass1 c i arg4 harg4 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg26 harg26 dy dz r hb (harg4.unread g) f14 f15 f16 f17 f18 f19 f23 f24 f25 W
  rw [show rowAt c arg4 (harg4.unread g) = g from load_whole ..] at hcut
  sl_exec (disch := first | sl_exact hc0 | sl_exact hc1)
  sl_step
  iapply Hk
  isplitl [Hwalk_0]
  · iexists _; isplitr; · ipureintro; exact hf3
    iexact Hwalk_0
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H11]
  · iexists _; isplitr
    swap; · iexact H11
    ipureintro
    rw [View.read_writes_full, load_whole]
    refine congrArg _ ?_
    iterate 2 sl_unfold_run_names
    refine load_covered _ _ _ _ ?_ (View.cover_of_tiled _ ![272, 256] (by rfl))
    repeat' refine List.forall_mem_cons.2 ⟨fun x => ?_, ?_⟩
    on_goal 9 => exact fun p hp => absurd hp List.not_mem_nil
    all_goals
      refine Eq.trans ?_ (byRows_at (N := 2176) (C := 256) (n := 272) _ (by decide) x (by rfl))
      iterate 6 sl_unfold_run_names
      repeat' first | rw [load_whole] | rw [load_rows] | rw [load_band _ _ _ _ _ (by rfl)]
      try rfl
  isplitl [H12]
  · iexists _; isplitr
    swap; · iexact H12
    ipureintro
    rw [View.read_writes_full, load_whole]
    refine congrArg _ ?_
    iterate 2 sl_unfold_run_names
    refine load_covered _ _ _ _ ?_ (View.cover_of_tiled _ ![272, 256] (by rfl))
    repeat' refine List.forall_mem_cons.2 ⟨fun x => ?_, ?_⟩
    on_goal 9 => exact fun p hp => absurd hp List.not_mem_nil
    all_goals
      refine Eq.trans ?_ (byRows_at (N := 2176) (C := 256) (n := 272) _ (by decide) x (by rfl))
      iterate 6 sl_unfold_run_names
      repeat' first | rw [load_whole] | rw [load_rows] | rw [load_band _ _ _ _ _ (by rfl)]
      try rfl
  isplitl [H13]
  · iexists _; isplitr
    swap; · iexact H13
    ipureintro
    rw [View.read_writes_full, load_whole]
    refine congrArg _ ?_
    iterate 2 sl_unfold_run_names
    refine load_covered _ _ _ _ ?_ (View.cover_of_tiled _ ![272, 256] (by rfl))
    repeat' refine List.forall_mem_cons.2 ⟨fun x => ?_, ?_⟩
    on_goal 9 => exact fun p hp => absurd hp List.not_mem_nil
    all_goals
      refine Eq.trans ?_ (byRows_at (N := 2176) (C := 256) (n := 272) _ (by decide) x (by rfl))
      iterate 6 sl_unfold_run_names
      repeat' first | rw [load_whole] | rw [load_rows] | rw [load_band _ _ _ _ _ (by rfl)]
      try rfl
  isplitl [Hwalk_1]
  · iexists _; isplitr; · ipureintro; exact harg15.read_unread _
    iexact Hwalk_1
  isplitl [Hwalk_2]
  · iexists _; isplitr; · ipureintro; exact harg16.read_unread _
    iexact Hwalk_2
  isplitl [Hwalk_3]
  · iexists _; isplitr; · ipureintro; exact harg17.read_unread _
    iexact Hwalk_3
  isplitl [Hwalk_6]
  · iexists _; isplitr; · ipureintro; exact harg18.read_unread _
    iexact Hwalk_6
  isplitl [Hwalk_5]
  · iexists _; isplitr; · ipureintro; exact harg19.read_unread _
    iexact Hwalk_5
  isplitl [Hwalk_4]
  · iexists _; isplitr
    swap; · iexact Hwalk_4
    ipureintro
    refine read_writes_of_pieces _ _ _ _ ?_ (View.cover_of_tiled _ ![272, 1024] (by rfl))
    repeat' refine List.forall_mem_cons.2 ⟨fun x => ?_, ?_⟩
    on_goal 9 => exact fun p hp => absurd hp List.not_mem_nil
    all_goals
      refine Eq.trans ?_ (byRows_at (N := 2176) (C := 1024) (n := 272) _ (by decide) x (by rfl))
      iterate 6 sl_unfold_run_names
      repeat' first | rw [load_whole] | rw [load_rows] | rw [load_band _ _ _ _ _ (by rfl)]
      try rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [Hwalk_7]
  · iexists _, _; isplitr; swap; · iexact Hwalk_7
    ipureintro; rfl
  isplitl [Hwalk_8]
  · iexists _, _; isplitr; swap; · iexact Hwalk_8
    ipureintro; rfl
  isplitl [Hwalk_9]
  · iexists _, _; isplitr; swap; · iexact Hwalk_9
    ipureintro; rfl
  iframe Hwalk_10 Hwalk_11 Hwalk_12 Hwalk_13 Hwalk_14 Hwalk_15 Hwalk_16 Hwalk_17 Hwalk_18 Hwalk_19 Hwalk_20 Hwalk_21
  iexists _; iexact Hwalk_22

end Cert.Kernel2Ideal.Gen

end
-- ==== Proof.RunB2.lean ====
module

public import proofs.«01_k».proof.Proof.Gate2
public import proofs.«01_k».proof.Proof.Gen.Kernel2Ideal.Frame
public import Idealize.ShloMosaic.Lib.Tactic

@[expose] public section

/-!
  # A grid point that is neither the first nor the last
-/

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn

variable {F : FTy → Type} [FloatOps F]

local notation "𝕄" => MT nD τ sig Unit (Elt F) ℕ (Pipeline.UD sig nD τ) ℕ

set_option maxHeartbeats 5396000 in
set_option sl_exec.dmaWindow true in
set_option sl_exec.dmaWindowSet true in
theorem runB (c : Dev nD) (i : grid0.Coords)

    (arg4 : Memref sig .tc .vmem S1x1024 .f32) (harg4 : arg4.IsWhole)
    (arg6 : Memref sig .tc .vmem S1x2176x256 .bf16) (harg6 : arg6.IsWhole) (arg7 : Memref sig .tc .vmem S1x2176x256 .bf16) (harg7 : arg7.IsWhole)
    (arg8 : Memref sig .tc .vmem S256x1024 .bf16) (harg8 : arg8.IsWhole) (arg9 : Memref sig .tc .vmem S256x1024 .bf16) (harg9 : arg9.IsWhole)
    (arg10 : Memref sig .tc .vmem S256x1024 .bf16) (harg10 : arg10.IsWhole)
    (arg12 : Memref sig .tc .vmem S256x1024 .bf16) (harg12 : arg12.IsWhole) (arg13 : Memref sig .tc .vmem S256x1024 .bf16) (harg13 : arg13.IsWhole)
    (arg14 : Memref sig .tc .vmem S256x1024 .bf16) (harg14 : arg14.IsWhole) (arg15 : Memref sig .tc .vmem S1x1024 .f32) (harg15 : arg15.IsWhole)
    (arg16 : Memref sig .tc .vmem S1x1024 .f32) (harg16 : arg16.IsWhole) (arg17 : Memref sig .tc .vmem S2176x1024 .bf16) (harg17 : arg17.IsWhole)
    (arg18 : Memref sig .tc .vmem S1024x2176 .bf16) (harg18 : arg18.IsWhole) (arg19 : Memref sig .tc .vmem S1024x2176 .bf16) (harg19 : arg19.IsWhole)
    (arg20 : Memref sig .tc .vmem S2176x1024 .f32) (harg20 : arg20.IsWhole) (arg21 : Memref sig .tc .vmem S2176x256 .bf16) (harg21 : arg21.IsWhole)
    (arg22 : Memref sig .tc .vmem S2176x256 .bf16) (harg22 : arg22.IsWhole) (arg23 : Memref sig .tc .vmem S2176x256 .bf16) (harg23 : arg23.IsWhole)
    (arg24 : Memref sig .tc .vmem S2x2x128x1024 .f32) (harg24 : arg24.IsWhole) (arg25 : Memref sig .tc .vmem S2x128x1024 .f32) (harg25 : arg25.IsWhole)
    (arg26 : Memref sig .tc .vmem S2x128x1024 .bf16) (harg26 : arg26.IsWhole)
    (hc0 : ¬ k0_cond1 i = 1#1) (hc1 : ¬ lastWord i = 1#1)
    (u : Vec F S1x2176x256 .bf16) (v : Vec F S1x2176x256 .bf16) (wg : Vec F S256x1024 .bf16) (wu : Vec F S256x1024 .bf16) (wd : Vec F S256x1024 .bf16)
    (df : Vec F S2176x1024 .bf16) (ht : Vec F S1024x2176 .bf16) (dft : Vec F S1024x2176 .bf16) (dh : Vec F S2176x1024 .f32) (K : PUnit → sProp 𝕄) :
    iprop(owns (c : Thread nD τ) arg6 fullShare u ∗
      owns (c : Thread nD τ) arg7 fullShare v ∗
      owns (c : Thread nD τ) arg8 fullShare wg ∗
      owns (c : Thread nD τ) arg9 fullShare wu ∗
      owns (c : Thread nD τ) arg10 fullShare wd ∗
      (∃ d, owns (c : Thread nD τ) arg12 fullShare d) ∗
      (∃ d, owns (c : Thread nD τ) arg13 fullShare d) ∗
      (∃ d, owns (c : Thread nD τ) arg14 fullShare d) ∗
      owns (c : Thread nD τ) arg17 fullShare df ∗
      owns (c : Thread nD τ) arg18 fullShare ht ∗
      owns (c : Thread nD τ) arg19 fullShare dft ∗
      owns (c : Thread nD τ) arg20 fullShare dh ∗
      (∃ d, owns (c : Thread nD τ) arg21 fullShare d) ∗
      (∃ d, owns (c : Thread nD τ) arg22 fullShare d) ∗
      (∃ d, owns (c : Thread nD τ) arg23 fullShare d) ∗
      (iprop(owns (c : Thread nD τ) arg6 fullShare u ∗
        owns (c : Thread nD τ) arg7 fullShare v ∗
        owns (c : Thread nD τ) arg8 fullShare wg ∗
        owns (c : Thread nD τ) arg9 fullShare wu ∗
        owns (c : Thread nD τ) arg10 fullShare wd ∗
        owns (c : Thread nD τ) arg12 fullShare (k0_pay330 ht (allDu df wd u v)) ∗
        owns (c : Thread nD τ) arg13 fullShare (k0_pay331 ht (allDv df wd u)) ∗
        owns (c : Thread nD τ) arg14 fullShare (k0_pay332 dft (allAc u v)) ∗
        owns (c : Thread nD τ) arg17 fullShare df ∗
        owns (c : Thread nD τ) arg18 fullShare ht ∗
        owns (c : Thread nD τ) arg19 fullShare dft ∗
        owns (c : Thread nD τ) arg20 fullShare (nextDh df wd wg wu u v dh) ∗
        (∃ d, owns (c : Thread nD τ) arg21 fullShare d) ∗
        (∃ d, owns (c : Thread nD τ) arg22 fullShare d) ∗
        (∃ d, owns (c : Thread nD τ) arg23 fullShare d)) -∗ K ⟨⟩))
    ⊢ wp frame (wpE (defs₀ (F := F)) Variants.none c none) Set.univ
        (cc0_ffn_bwd_seq i (Memref.whole main_arg6) (Memref.isWhole_whole _) (Memref.whole main_arg7) (Memref.isWhole_whole _) (Memref.whole main_v9) (Memref.isWhole_whole _) arg4 harg4 (Memref.whole main_v11) (Memref.isWhole_whole _) arg6 harg6 arg7 harg7 arg8 harg8 arg9 harg9 arg10 harg10 (Memref.whole main_v23_0) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch10 cc0_scratch11) K := by
  simp only [cc0_ffn_bwd_seq_eq_skeleton]; unfold cc0_ffn_bwd_seq_skel
  simp only [k0_part78_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
  unfold owns
  iintro ⟨⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%d13, %f13, -, H13⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, Hk⟩
  obtain rfl := harg6.eq_unread hf5; obtain rfl := harg7.eq_unread hf6; obtain rfl := harg8.eq_unread hf7; obtain rfl := harg9.eq_unread hf8; obtain rfl := harg10.eq_unread hf9; obtain rfl := harg17.eq_unread hf16; obtain rfl := harg18.eq_unread hf17; obtain rfl := harg19.eq_unread hf18; obtain rfl := harg20.eq_unread hf19
  sl_exec (disch := first | sl_exact hc0 | sl_exact hc1)
  sl_step
  iapply Hk
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H11]
  · iexists _; isplitr
    swap; · iexact H11
    ipureintro
    rw [View.read_writes_full, load_whole]
    refine congrArg _ ?_
    iterate 2 sl_unfold_run_names
    refine load_covered _ _ _ _ ?_ (View.cover_of_tiled _ ![272, 256] (by rfl))
    repeat' refine List.forall_mem_cons.2 ⟨fun x => ?_, ?_⟩
    on_goal 9 => exact fun p hp => absurd hp List.not_mem_nil
    all_goals
      refine Eq.trans ?_ (byRows_at (N := 2176) (C := 256) (n := 272) _ (by decide) x (by rfl))
      iterate 6 sl_unfold_run_names
      repeat' first | rw [load_whole] | rw [load_rows] | rw [load_band _ _ _ _ _ (by rfl)]
      try rfl
  isplitl [H12]
  · iexists _; isplitr
    swap; · iexact H12
    ipureintro
    rw [View.read_writes_full, load_whole]
    refine congrArg _ ?_
    iterate 2 sl_unfold_run_names
    refine load_covered _ _ _ _ ?_ (View.cover_of_tiled _ ![272, 256] (by rfl))
    repeat' refine List.forall_mem_cons.2 ⟨fun x => ?_, ?_⟩
    on_goal 9 => exact fun p hp => absurd hp List.not_mem_nil
    all_goals
      refine Eq.trans ?_ (byRows_at (N := 2176) (C := 256) (n := 272) _ (by decide) x (by rfl))
      iterate 6 sl_unfold_run_names
      repeat' first | rw [load_whole] | rw [load_rows] | rw [load_band _ _ _ _ _ (by rfl)]
      try rfl
  isplitl [H13]
  · iexists _; isplitr
    swap; · iexact H13
    ipureintro
    rw [View.read_writes_full, load_whole]
    refine congrArg _ ?_
    iterate 2 sl_unfold_run_names
    refine load_covered _ _ _ _ ?_ (View.cover_of_tiled _ ![272, 256] (by rfl))
    repeat' refine List.forall_mem_cons.2 ⟨fun x => ?_, ?_⟩
    on_goal 9 => exact fun p hp => absurd hp List.not_mem_nil
    all_goals
      refine Eq.trans ?_ (byRows_at (N := 2176) (C := 256) (n := 272) _ (by decide) x (by rfl))
      iterate 6 sl_unfold_run_names
      repeat' first | rw [load_whole] | rw [load_rows] | rw [load_band _ _ _ _ _ (by rfl)]
      try rfl
  isplitl [H16]
  · iexists _; isplitr; · ipureintro; exact hf16
    iexact H16
  isplitl [H17]
  · iexists _; isplitr; · ipureintro; exact hf17
    iexact H17
  isplitl [H18]
  · iexists _; isplitr; · ipureintro; exact hf18
    iexact H18
  isplitl [H19]
  · iexists _; isplitr
    swap; · iexact H19
    ipureintro
    refine read_writes_of_pieces _ _ _ _ ?_ (View.cover_of_tiled _ ![272, 1024] (by rfl))
    repeat' refine List.forall_mem_cons.2 ⟨fun x => ?_, ?_⟩
    on_goal 9 => exact fun p hp => absurd hp List.not_mem_nil
    all_goals
      refine Eq.trans ?_ (byRows_at (N := 2176) (C := 1024) (n := 272) _ (by decide) x (by rfl))
      iterate 6 sl_unfold_run_names
      repeat' first | rw [load_whole] | rw [load_rows] | rw [load_band _ _ _ _ _ (by rfl)]
      try rfl
  isplitl [H20]
  · iexists _, _; isplitr; swap; · iexact H20
    ipureintro; rfl
  isplitl [H21]
  · iexists _, _; isplitr; swap; · iexact H21
    ipureintro; rfl
  iexists _, _; isplitr; swap; · iexact H22
  ipureintro; rfl

end Cert.Kernel2Ideal.Gen

end
-- ==== Proof.Grid2.lean ====
module

public import Idealize.ShloMosaic.Lib.Pipeline.TableIdle
public import proofs.«01_k».proof.Proof.Entry2
public import proofs.«01_k».proof.Proof.RunA2
public import proofs.«01_k».proof.Proof.RunB2
public import proofs.«01_k».proof.Proof.RunC2

@[expose] public section

/-!
  # The grid

  What each grid point leaves in the kernel's windows and scratch buffers, and the body's triple at every point.
-/

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! The blocks a point is given: the scale, the two pre-activations, the three weights. -/
abbrev gam (c : Dev nD) (t : Fin cfg0.N) : Vec F S1x1024 .f32 := iblk m c 0 t
abbrev ub (c : Dev nD) (t : Fin cfg0.N) : Vec F S1x2176x256 .bf16 := iblk m c 1 t
abbrev vb (c : Dev nD) (t : Fin cfg0.N) : Vec F S1x2176x256 .bf16 := iblk m c 2 t
abbrev wgb (c : Dev nD) (t : Fin cfg0.N) : Vec F S256x1024 .bf16 := iblk m c 3 t
abbrev wub (c : Dev nD) (t : Fin cfg0.N) : Vec F S256x1024 .bf16 := iblk m c 4 t
abbrev wdb (c : Dev nD) (t : Fin cfg0.N) : Vec F S256x1024 .bf16 := iblk m c 5 t

/-- The `n`th point. -/
def pt (n : ℕ) : Fin cfg0.N := ⟨n % 11, lt_of_lt_of_eq (Nat.mod_lt _ (by decide)) (show cfg0.N = 11 from N_0).symm⟩
theorem pt_val (t : Fin cfg0.N) : pt t.val = t :=
  Fin.ext (Nat.mod_eq_of_lt (lt_of_lt_of_eq t.isLt (show cfg0.N = 11 from N_0)))

/-! What the first point leaves for all the others. -/
def dfAll (c : Dev nD) : Vec F S2176x1024 .bf16 := allDf (V m c main_arg6) (V m c main_arg7) (V m c main_v9) (gam m c (pt 0))
def htAll (c : Dev nD) : Vec F S1024x2176 .bf16 := allHT (V m c main_v11)
def dftAll (c : Dev nD) : Vec F S1024x2176 .bf16 := allDfT (V m c main_arg6) (V m c main_arg7) (V m c main_v9) (gam m c (pt 0))

/-- The input gradient as accumulated before the `n`th point. -/
def dhAt (c : Dev nD) : ℕ → Vec F S2176x1024 .f32
  | 0 => allDh (V m c main_arg6) (V m c main_arg7) (V m c main_v9) (gam m c (pt 0))
  | n + 1 => nextDh (dfAll m c) (wdb m c (pt n)) (wgb m c (pt n)) (wub m c (pt n)) (ub m c (pt n)) (vb m c (pt n)) (dhAt c n)

theorem dhAt_succ (c : Dev nD) (t : Fin cfg0.N) :
    dhAt m c (t.val + 1) = nextDh (dfAll m c) (wdb m c t) (wgb m c t) (wub m c t) (ub m c t) (vb m c t) (dhAt m c t.val) := by
  show nextDh (dfAll m c) (wdb m c (pt t.val)) (wgb m c (pt t.val)) (wub m c (pt t.val)) (ub m c (pt t.val)) (vb m c (pt t.val)) _ = _
  rw [pt_val]

/-! The three weight gradients' blocks, and the scale's and the bias's gradients. -/
def dwgB (c : Dev nD) (t : Fin cfg0.N) : Vec F S256x1024 .bf16 := k0_pay330 (htAll m c) (allDu (dfAll m c) (wdb m c t) (ub m c t) (vb m c t))
def dwuB (c : Dev nD) (t : Fin cfg0.N) : Vec F S256x1024 .bf16 := k0_pay331 (htAll m c) (allDv (dfAll m c) (wdb m c t) (ub m c t))
def dwdB (c : Dev nD) (t : Fin cfg0.N) : Vec F S256x1024 .bf16 := k0_pay332 (dftAll m c) (allAc (ub m c t) (vb m c t))
def dgR (c : Dev nD) : Vec F S1x1024 .f32 := sumDg (V m c main_arg6) (V m c main_arg7) (V m c main_v9) 17
def dbR (c : Dev nD) : Vec F S1x1024 .f32 := sumDb (V m c main_arg6) (V m c main_arg7) 17

/-- The result of the body's own transfer, and every other buffer as the grid finds it. -/
def G (c : Dev nD) : (b : Ref sig .tc) → Buf (Elt F) ((c : Thread nD τ).loc b) :=
  Function.update (fun b => V m c b) main_v23_0 (dhAt m c 11)
theorem G_dh (c : Dev nD) : G m c main_v23_0 = dhAt m c 11 := Function.update_self ..

/-- What holds between the points: after the first, the scratch buffers it filled and the gradient so far. -/
def between (c : Dev nD) : ℕ → sProp 𝕄
  | 0 => Pipeline.ΦDRG ownCells spec0 readRefs dhRef (V m) (V m) c
  | n + 1 => iprop(iprop(owns (c : Thread nD τ) sc0 fullShare (dfAll m c) ∗ owns (c : Thread nD τ) sc1 fullShare (htAll m c) ∗ owns (c : Thread nD τ) sc2 fullShare (dftAll m c)
          ∗ owns (c : Thread nD τ) sc3 fullShare (dhAt m c (n + 1)) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)
        ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0)
        ∗ iprop(holds c (Memref.whole main_arg6) (V m c main_arg6) ∗ holds c (Memref.whole main_arg7) (V m c main_arg7) ∗ holds c (Memref.whole main_v9) (V m c main_v9) ∗ holds c (Memref.whole main_v11) (V m c main_v11))
        ∗ (∃ f, ⌜n + 1 = 11 → f = dhAt m c 11⌝ ∗ holds c (Memref.whole main_v23_0) f))

/-- The proof data: what every point leaves in every window. -/
def dats : (p : Fin 1) → (c : Dev nD) → Dat τ (Elt F) Unit ℕ (Pipeline.UD sig nD τ) ℕ (cfgs p) c := fun _ c =>
  { A := fun w => V m c (Pipeline.arrRef spec0 w)
    after := fun w t => match w with
      | ⟨0, _⟩ => iblk m c 0 t
      | ⟨1, _⟩ => iblk m c 1 t
      | ⟨2, _⟩ => iblk m c 2 t
      | ⟨3, _⟩ => iblk m c 3 t
      | ⟨4, _⟩ => iblk m c 4 t
      | ⟨5, _⟩ => iblk m c 5 t
      | ⟨6, _⟩ => dwgB m c t
      | ⟨7, _⟩ => dwuB m c t
      | ⟨8, _⟩ => dwdB m c t
      | ⟨9, _⟩ => dgR m c
      | ⟨10, _⟩ => dbR m c
    Φ := fun t => between m c t.val
    q := fun _ => fullShare
    owed := fun _ => 0 }

theorem arrays (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dwgB m c t := by dsimp only [dats]
theorem after7 (c : Dev nD) (t : Fin cfg0.N) : (dats m 0 c).after 7 t = dwuB m c t := by dsimp only [dats]
theorem after8 (c : Dev nD) (t : Fin cfg0.N) : (dats m 0 c).after 8 t = dwdB m c t := by dsimp only [dats]
theorem after9 (c : Dev nD) (t : Fin cfg0.N) : (dats m 0 c).after 9 t = dgR m c := by dsimp only [dats]
theorem after10 (c : Dev nD) (t : Fin cfg0.N) : (dats m 0 c).after 10 t = dbR m c := by dsimp only [dats]

/-- An input window holds its block before the body runs. -/
theorem before_in (c : Dev nD) (t : Fin cfg0.N) :
    (∀ d, (dats m 0 c).before 0 t d = iblk m c 0 t)
    ∧ (∀ d, (dats m 0 c).before 1 t d = iblk m c 1 t)
    ∧ (∀ d, (dats m 0 c).before 2 t d = iblk m c 2 t)
    ∧ (∀ d, (dats m 0 c).before 3 t d = iblk m c 3 t)
    ∧ (∀ d, (dats m 0 c).before 4 t d = iblk m c 4 t)
    ∧ (∀ d, (dats m 0 c).before 5 t d = iblk m c 5 t) := by
  refine ⟨?_, ?_, ?_, ?_, ?_, ?_⟩ <;> intro d <;>
    refine ((dats m 0 c).before_in_eq_fetched _ rfl (fun _ => rfl) (fun _ _ _ => rfl) (fun t => ?_) t d).trans
      (by unfold Dat.fetched Dat.blockOf iblk; rw [arrays]; try rfl) <;>
    first | rw [after0] | rw [after1] | rw [after2] | rw [after3] | rw [after4] | rw [after5]
  all_goals unfold Dat.blockOf iblk; rw [arrays]; try rfl

theorem idle9 (t : Fin cfg0.N) : cfg0.idle 9 (cfg0.grid.coords t) = !(k0_cond1 (grid0.coords t) == 1#1) := rfl
theorem fresh9 (n : ℕ) (h0 : n ≠ 0) (h : n < 11) : cfg0.fresh 9 n = false := by
  rw [cfg0.fresh_tab 9 (fun n => n == 0 || n == 11) rfl
    ((by decide +kernel : ∀ t : Fin grid0.N, (t.val + 1 == 0 || t.val + 1 == 11) = (win0_9.flush t || (!(k0_cond1 (grid0.coords t) == 1#1) && (t.val == 0 || t.val == 11)))))
    n (h.le.trans (le_of_eq (show cfg0.N = 11 from N_0).symm))]
  simp only [Bool.or_eq_false_iff, beq_eq_false_iff_ne]
  omega
theorem before9 (c : Dev nD) (t : Fin cfg0.N) (h : t.val ≠ 0) (d) : (dats m 0 c).before 9 t d = dgR m c := by
  rw [(dats m 0 c).before_out_traj 9 rfl (fun _ _ => rfl) (fun t _ _ _ => by rw [after9, after9]) _ t rfl d,
    fresh9 _ h (lt_of_lt_of_eq t.isLt (show cfg0.N = 11 from N_0)), if_neg Bool.false_ne_true, after9]
/-- The block is stored at the first point and kept until the last, which sends it back. -/
theorem leaves9 (c : Dev nD) (t : Fin cfg0.N) : owns (c : Thread nD τ) (stg9 t) fullShare (dgR m c) ⊢ (dats m 0 c).leavesExact 9 t := by
  have hN : t.val < 11 := lt_of_lt_of_eq t.isLt (show cfg0.N = 11 from N_0)
  by_cases h0 : t.val = 0
  · unfold Dat.leavesExact
    rw [idle9, (at_first t).mpr h0, after9]
    exact .rfl
  by_cases h1 : t.val = 10
  · unfold Dat.leavesExact
    rw [idle9, (flush0_9 t).mpr (by omega), after9, beq_eq_false_iff_ne.mpr (fun h => h0 ((at_first t).mp h))]
    exact .rfl
  · rw [(dats m 0 c).leavesExact_idle 9 t (by rw [idle9, beq_eq_false_iff_ne.mpr (fun h => h0 ((at_first t).mp h))]; rfl)
      (Bool.eq_false_iff.mpr fun h => by have := (flush0_9 t).mp h; omega)]
    iintro H
    iexists (dgR m c)
    rw [before9 m c t h0]
    iexact H

theorem idle10 (t : Fin cfg0.N) : cfg0.idle 10 (cfg0.grid.coords t) = !(k0_cond1 (grid0.coords t) == 1#1) := rfl
theorem fresh10 (n : ℕ) (h0 : n ≠ 0) (h : n < 11) : cfg0.fresh 10 n = false := by
  rw [cfg0.fresh_tab 10 (fun n => n == 0 || n == 11) rfl
    ((by decide +kernel : ∀ t : Fin grid0.N, (t.val + 1 == 0 || t.val + 1 == 11) = (win0_10.flush t || (!(k0_cond1 (grid0.coords t) == 1#1) && (t.val == 0 || t.val == 11)))))
    n (h.le.trans (le_of_eq (show cfg0.N = 11 from N_0).symm))]
  simp only [Bool.or_eq_false_iff, beq_eq_false_iff_ne]
  omega
theorem before10 (c : Dev nD) (t : Fin cfg0.N) (h : t.val ≠ 0) (d) : (dats m 0 c).before 10 t d = dbR m c := by
  rw [(dats m 0 c).before_out_traj 10 rfl (fun _ _ => rfl) (fun t _ _ _ => by rw [after10, after10]) _ t rfl d,
    fresh10 _ h (lt_of_lt_of_eq t.isLt (show cfg0.N = 11 from N_0)), if_neg Bool.false_ne_true, after10]
/-- The block is stored at the first point and kept until the last, which sends it back. -/
theorem leaves10 (c : Dev nD) (t : Fin cfg0.N) : owns (c : Thread nD τ) (stg10 t) fullShare (dbR m c) ⊢ (dats m 0 c).leavesExact 10 t := by
  have hN : t.val < 11 := lt_of_lt_of_eq t.isLt (show cfg0.N = 11 from N_0)
  by_cases h0 : t.val = 0
  · unfold Dat.leavesExact
    rw [idle10, (at_first t).mpr h0, after10]
    exact .rfl
  by_cases h1 : t.val = 10
  · unfold Dat.leavesExact
    rw [idle10, (flush0_10 t).mpr (by omega), after10, beq_eq_false_iff_ne.mpr (fun h => h0 ((at_first t).mp h))]
    exact .rfl
  · rw [(dats m 0 c).leavesExact_idle 10 t (by rw [idle10, beq_eq_false_iff_ne.mpr (fun h => h0 ((at_first t).mp h))]; rfl)
      (Bool.eq_false_iff.mpr fun h => by have := (flush0_10 t).mp h; omega)]
    iintro H
    iexists (dbR m c)
    rw [before10 m c t h0]
    iexact H
/-- What is left in a window that is never idle. -/
theorem leaves_in (c : Dev nD) (t : Fin cfg0.N) :
    (dats m 0 c).leavesExact 0 t = owns (c : Thread nD τ) (stg0 t) fullShare (iblk m c 0 t)
    ∧ (dats m 0 c).leavesExact 1 t = owns (c : Thread nD τ) (stg1 t) fullShare (iblk m c 1 t)
    ∧ (dats m 0 c).leavesExact 2 t = owns (c : Thread nD τ) (stg2 t) fullShare (iblk m c 2 t)
    ∧ (dats m 0 c).leavesExact 3 t = owns (c : Thread nD τ) (stg3 t) fullShare (iblk m c 3 t)
    ∧ (dats m 0 c).leavesExact 4 t = owns (c : Thread nD τ) (stg4 t) fullShare (iblk m c 4 t)
    ∧ (dats m 0 c).leavesExact 5 t = owns (c : Thread nD τ) (stg5 t) fullShare (iblk m c 5 t)
    ∧ (dats m 0 c).leavesExact 6 t = owns (c : Thread nD τ) (stg6 t) fullShare (dwgB m c t)
    ∧ (dats m 0 c).leavesExact 7 t = owns (c : Thread nD τ) (stg7 t) fullShare (dwuB m c t)
    ∧ (dats m 0 c).leavesExact 8 t = owns (c : Thread nD τ) (stg8 t) fullShare (dwdB m c t) := by
  refine ⟨?_, ?_, ?_, ?_, ?_, ?_, ?_, ?_, ?_⟩ <;> unfold Dat.leavesExact
  · rw [show cfg0.idle 0 (cfg0.grid.coords t) = false from rfl, after0]
  · rw [show cfg0.idle 1 (cfg0.grid.coords t) = false from rfl, after1]
  · rw [show cfg0.idle 2 (cfg0.grid.coords t) = false from rfl, after2]
  · rw [show cfg0.idle 3 (cfg0.grid.coords t) = false from rfl, after3]
  · rw [show cfg0.idle 4 (cfg0.grid.coords t) = false from rfl, after4]
  · rw [show cfg0.idle 5 (cfg0.grid.coords t) = false from rfl, after5]
  · rw [show cfg0.idle 6 (cfg0.grid.coords t) = false from rfl, after6]
  · rw [show cfg0.idle 7 (cfg0.grid.coords t) = false from rfl, after7]
  · rw [show cfg0.idle 8 (cfg0.grid.coords t) = false from rfl, after8]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem Phi_castSucc (c : Dev nD) (t : Fin cfg0.N) : (dats m 0 c).Φ t.castSucc = between m c t.val := by dsimp only [dats]; rfl
theorem Phi_succ (c : Dev nD) (t : Fin cfg0.N) : (dats m 0 c).Φ t.succ = between m c (t.val + 1) := by dsimp only [dats]; rfl

set_option maxHeartbeats 4000000 in
/-- The body at any point. -/
theorem body_at (c : Dev nD) (t : Fin cfg0.N) :
    bodyPre m c t ⊢ wp frame (wpE (defs₀ (F := F)) Variants.none c none) Set.univ (bodyAt0 (F := F) t) (fun _ => bodyPost m c t) := by
  have hN : t.val < 11 := lt_of_lt_of_eq t.isLt (show cfg0.N = 11 from N_0)
  unfold bodyPre bodyPost bodyAt0
  simp only [before_in m c t]
  rw [Phi_castSucc, Phi_succ, between.eq_2, dhAt_succ]
  simp only [leaves_in m c t]
  unfold Dat.owesAt Pipeline.owesWithin
  rw [show (dats m 0 c).owed t.castSucc = 0 from rfl, show (dats m 0 c).owed t.succ = 0 from rfl]
  by_cases h0 : t.val = 0
  · have ht : t = pt 0 := Fin.ext h0
    have e : (between m c t.val : sProp 𝕄) = Pipeline.ΦDRG ownCells spec0 readRefs dhRef (V m) (V m) c := by rw [h0]; rfl
    rw [e, entry_eq, show dhAt m c t.val = allDh (V m c main_arg6) (V m c main_arg7) (V m c main_v9) (gam m c t) by rw [h0, ht]; rfl,
      show dfAll m c = allDf (V m c main_arg6) (V m c main_arg7) (V m c main_v9) (gam m c t) by rw [ht]; rfl,
      show dftAll m c = allDfT (V m c main_arg6) (V m c main_arg7) (V m c main_v9) (gam m c t) by rw [ht]; rfl,
      show htAll m c = allHT (V m c main_v11) from rfl]
    unfold dwgB dwuB dwdB
    rw [show dfAll m c = allDf (V m c main_arg6) (V m c main_arg7) (V m c main_v9) (gam m c t) by rw [ht]; rfl,
      show dftAll m c = allDfT (V m c main_arg6) (V m c main_arg7) (V m c main_v9) (gam m c t) by rw [ht]; rfl,
      show htAll m c = allHT (V m c main_v11) from rfl]
    iintro ⟨⟨⟨S0, S1, S2, S3, S4, S5, S6, S7, S8, S9⟩, Hg, ⟨Q0, Q1, Q2, Q3, Q4, Q5, Q6, Q7, Q8⟩, ⟨B0, B3, B1, B2⟩, Hd⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((at_first t).mpr h0) (fun h => absurd ((at_last t).mp h) (by omega))
      (gam m c t) (ub m c t) (vb m c t) (wgb m c t) (wub m c t) (wdb m c t) (V m c main_arg6) (V m c main_arg7) (V m c main_v9) (V m c main_v11) W)
    iframe H0 H1 H2 H3 H4 H5
    isplitl [H6]; · iexists _; iexact H6
    isplitl [H7]; · iexists _; iexact H7
    isplitl [H8]; · iexists _; iexact H8
    isplitl [H9]; · iexists _; iexact H9
    isplitl [H10]; · iexists _; iexact H10
    iframe S0 S1 S2 S3 S4 S5 S6 S7 S8 S9 Q0 Q1 Q2 Q3 Q4 Q5 Q6 Q7 B0 B3 B1 B2 HW
    iintro ⟨H0, H1, H2, H3, H4, H5, H6, H7, H8, H9, H10, S0, S1, S2, S3, S4, S5, S6, S7, S8, S9, Q0, Q1, Q2, Q3, Q4, Q5, Q6, Q7, B0, B3, B1, B2, ⟨%W', HW⟩⟩
    isplitl [S0 S1 S2 S3 S4 S5 S6 S7 S8 S9 Hg Q0 Q1 Q2 Q3 Q4 Q5 Q6 Q7 Q8 B0 B3 B1 B2 Hd]
    · isplitl [S0 S1 S2 S3 S4 S5 S6 S7 S8 S9]
      · iframe S0 S1 S2 S3 S4 S5 S6 S7 S8 S9
      isplitl [Hg]; · iexact Hg
      isplitl [Q0 Q1 Q2 Q3 Q4 Q5 Q6 Q7 Q8]
      · iframe Q0 Q1 Q2 Q3 Q4 Q5 Q6 Q7 Q8
      isplitl [B0 B3 B1 B2]
      · iframe B0 B3 B1 B2
      iexists _; isplitr
      swap; · iexact Hd
      ipureintro; intro h; omega
    isplitl [HW]
    · iexists _; isplitr
      swap; · iexact HW
      ipureintro; exact fun _ _ => Or.inl trivial
    iframe H0 H1 H2 H3 H4 H5 H6 H7 H8
    isplitl [H9]; · iapply (leaves9 m c t); iexact H9
    iapply (leaves10 m c t); iexact H10
  obtain ⟨n, hn⟩ : ∃ n, t.val = n + 1 := ⟨t.val - 1, by omega⟩
  have e : (between m c t.val : sProp 𝕄) = between m c (n + 1) := by rw [hn]
  have e9 : ∀ d, (dats m 0 c).before 9 t d = dgR m c := fun d => before9 m c t h0 d
  have e10 : ∀ d, (dats m 0 c).before 10 t d = dbR m c := fun d => before10 m c t h0 d
  simp only [e9, e10]
  rw [e, between.eq_2, ← hn]
  unfold dwgB dwuB dwdB
  by_cases h1 : t.val = 10
  · iintro ⟨⟨⟨S0, S1, S2, S3, S4, S5, S6, S7, S8, S9⟩, Hg, ⟨Q0, Q1, Q2, Q3, Q4, Q5, Q6, Q7, Q8⟩, ⟨B0, B3, B1, B2⟩, ⟨%fd, -, Hd⟩⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runC c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => absurd ((at_first t).mp h) h0) ((at_last t).mpr h1)
      (ub m c t) (vb m c t) (wgb m c t) (wub m c t) (wdb m c t) (dfAll m c) (htAll m c) (dftAll m c) (dhAt m c t.val) W)
    iframe H1 H2 H3 H4 H5
    isplitl [H6]; · iexists _; iexact H6
    isplitl [H7]; · iexists _; iexact H7
    isplitl [H8]; · iexists _; iexact H8
    iframe S0 S1 S2 S3 S4 S5 S6 Q8
    isplitl [Hd]; · iexists _; iexact Hd
    isplitl [HW]; · iexact HW
    iintro ⟨H1, H2, H3, H4, H5, H6, H7, H8, S0, S1, S2, S3, S4, S5, S6, Q8, Hd, ⟨%W2, HW⟩⟩
    isplitl [S0 S1 S2 S3 S4 S5 S6 S7 S8 S9 Hg Q0 Q1 Q2 Q3 Q4 Q5 Q6 Q7 Q8 B0 B3 B1 B2 Hd]
    · isplitl [S0 S1 S2 S3 S4 S5 S6 S7 S8 S9]
      · iframe S0 S1 S2 S3 S4 S5 S6 S7 S8 S9
      isplitl [Hg]; · iexact Hg
      isplitl [Q0 Q1 Q2 Q3 Q4 Q5 Q6 Q7 Q8]
      · iframe Q0 Q1 Q2 Q3 Q4 Q5 Q6 Q7 Q8
      isplitl [B0 B3 B1 B2]
      · iframe B0 B3 B1 B2
      iexists _; isplitr
      swap; · iexact Hd
      ipureintro
      intro _
      rw [show dhAt m c 11 = dhAt m c (t.val + 1) by rw [h1], dhAt_succ]
    isplitl [HW]
    · iexists _; isplitr
      swap; · iexact HW
      ipureintro; exact fun _ _ => Or.inl trivial
    iframe H0 H1 H2 H3 H4 H5 H6 H7 H8
    isplitl [H9]; · iapply (leaves9 m c t); iexact H9
    iapply (leaves10 m c t); iexact H10
  · iintro ⟨⟨⟨S0, S1, S2, S3, S4, S5, S6, S7, S8, S9⟩, Hg, ⟨Q0, Q1, Q2, Q3, Q4, Q5, Q6, Q7, Q8⟩, ⟨B0, B3, B1, B2⟩, ⟨%fd, -, Hd⟩⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runB c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => absurd ((at_first t).mp h) h0) (fun h => absurd ((at_last t).mp h) h1)
      (ub m c t) (vb m c t) (wgb m c t) (wub m c t) (wdb m c t) (dfAll m c) (htAll m c) (dftAll m c) (dhAt m c t.val) )
    iframe H1 H2 H3 H4 H5
    isplitl [H6]; · iexists _; iexact H6
    isplitl [H7]; · iexists _; iexact H7
    isplitl [H8]; · iexists _; iexact H8
    iframe S0 S1 S2 S3 S4 S5 S6
    iintro ⟨H1, H2, H3, H4, H5, H6, H7, H8, S0, S1, S2, S3, S4, S5, S6⟩
    isplitl [S0 S1 S2 S3 S4 S5 S6 S7 S8 S9 Hg Q0 Q1 Q2 Q3 Q4 Q5 Q6 Q7 Q8 B0 B3 B1 B2 Hd]
    · isplitl [S0 S1 S2 S3 S4 S5 S6 S7 S8 S9]
      · iframe S0 S1 S2 S3 S4 S5 S6 S7 S8 S9
      isplitl [Hg]; · iexact Hg
      isplitl [Q0 Q1 Q2 Q3 Q4 Q5 Q6 Q7 Q8]
      · iframe Q0 Q1 Q2 Q3 Q4 Q5 Q6 Q7 Q8
      isplitl [B0 B3 B1 B2]
      · iframe B0 B3 B1 B2
      iexists _; isplitr
      swap; · iexact Hd
      ipureintro
      intro h; omega
    isplitl [HW]
    · iexists _; isplitr
      swap; · iexact HW
      ipureintro; exact fun _ _ => Or.inl trivial
    iframe H0 H1 H2 H3 H4 H5 H6 H7 H8
    isplitl [H9]; · iapply (leaves9 m c t); iexact H9
    iapply (leaves10 m c t); iexact H10

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_at m c t) rfl .rfl fun _ => .rfl

theorem enter (c : Dev nD) : Pipeline.ΦDRG ownCells spec0 readRefs dhRef (V m) (V m) c ⊢ (dats m 0 c).Φ 0 := by
  rw [show (dats m 0 c).Φ 0 = between m c 0 from rfl]
  exact .rfl

/-- After the last point the launch takes the buffers back, the result at its contents. -/
theorem leave (c : Dev nD) : (dats m 0 c).Φ (Fin.last cfg0.N) ⊢ Pipeline.ΦDRG ownCells spec0 readRefs dhRef (V m) (G m) c := by
  rw [show (dats m 0 c).Φ (Fin.last cfg0.N) = between m c cfg0.N from rfl, show cfg0.N = 10 + 1 from N_0, between.eq_2, entry_eq, G_dh]
  iintro ⟨⟨S0, S1, S2, S3, S4, S5, S6, S7, S8, S9⟩, Hg, HQ, HB, ⟨%f, %hf, Hd⟩⟩
  obtain rfl := hf rfl
  isplitl [S0 S1 S2 S3 S4 S5 S6 S7 S8 S9]
  · isplitl [S0]; · iexists _; iexact S0
    isplitl [S1]; · iexists _; iexact S1
    isplitl [S2]; · iexists _; iexact S2
    isplitl [S3]; · iexists _; iexact S3
    iframe S4 S5 S6 S7 S8 S9
  iframe Hg HQ HB Hd

set_option backward.isDefEq.respectTransparency.types false in
/-- The whole run: every final state has the windows' arrays at what the points left in them, the result of the body's
    transfer at its contents, every other buffer as the grid found it, and every counter at zero. -/
theorem run_main : θ_run defs (onTc (τ := τ) (main (F := F))) (s₀ m ρ)
    (fun r => Pipeline.FramePostRG cfgs (dats m) 0 dhRef (V m) (G m) r ∧ r.2.sem = fun _ => 0) :=
  Pipeline.θ_run_frame_dmaRG (Q' := _) cfgs (dats m) (0 : Fin 1) launch0 ownCells defs₀ Variants.none ownCells_facts readRefs dhRef
    readRefs_sub dhRef_sub m ρ main
    (hbody := fun c => (body_obligation m c).loose) (hshare := fun c => (dats m 0 c).share_full fun _ => rfl)
    (howed := fun _ _ => rfl) (V := V m) (hmain := hmain_counted m Variants.none) (hA := arrays m) (G := G m) (hin := enter m) (hout := leave m)
    (hQ' := fun _ h => h)

/-- The arguments end unchanged, and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c),
      ((h.1.1 c).2 main_arg7 (Finset.mem_sdiff.mpr ⟨Pipeline.mem_restRefs_of main_arg7 (by decide) (by decide), by decide⟩)).trans (V_main_arg7 m c)⟩,
      h.2⟩) (run_main m ρ)

end Cert.Kernel2Ideal.Gen

end
-- ==== Proof.Transfer2.lean ====
module

public import proofs.«01_k».proof.Proof.Grid2
public import proofs.«01_k».proof.Proof.Gen.Kernel2

@[expose] public section

/-!
  # The printed kernel, the gradient coming in two parts

  The kernel as printed and the kernel as read over the reals are one text: the run proved of the one, for any float
  values, is the run of the other.
-/

set_option maxRecDepth 65536
set_option maxHeartbeats 4000000

noncomputable section

namespace Cert.Kernel2.Gen

open Idealize.ShloMosaic Idealize.ShloMosaic.TcCoe Idealize.SL.Sem

variable {F : FTy → Type} [FloatOps F] (h : Cert.Kernel2Ideal.Facts) (h' : Cert.Kernel2.Facts)

/-- The two kernel bodies are one program. -/
theorem body_eq : @Cert.Kernel2.cc0_ffn_bwd_seq F _ h' = @Cert.Kernel2Ideal.cc0_ffn_bwd_seq F _ h := rfl

/-- The two body tables are one. -/
theorem table_eq : @Cert.Kernel2.defs₀ F _ h' = @Cert.Kernel2Ideal.defs₀ F _ h := by
  unfold Cert.Kernel2.defs₀ Cert.Kernel2Ideal.defs₀
  refine congrArg (Defs.onTc (nD := Cert.Kernel2.nD) (τ := Cert.Kernel2.τ) (sig := Cert.Kernel2.sig) (Val := Elt F) (Λ := Cert.Kernel2.Λ₀)) ?_
  funext l a
  match l, a with
  | 0, (t, s) =>
    show @Cert.Kernel2.cc0_ffn_bwd_seq F _ h' _ _ _ _ _ _ _ _ _ _ _ _ _ _ _ _ _ _ _ _ _ _ _ _ _ _ _ _ _ _ _ _ _ _ _ _ _ _ _ _ _ _ _ _ _ _ _ _ _ _ _ _ _ _ _ = _
    rw [body_eq h h']
    rfl

/-- The two label tables are one. -/
theorem defs_eq : @Cert.Kernel2.defs F _ h' = @Cert.Kernel2Ideal.defs F _ h := by
  unfold Cert.Kernel2.defs Cert.Kernel2Ideal.defs
  rw [table_eq h h']
  rfl

/-- The two host programs are one. -/
theorem main_eq : @Cert.Kernel2.main F _ h' = @Cert.Kernel2Ideal.main F _ h := rfl

/-- The printed kernel's arguments end unchanged, and every counter at zero. -/
theorem frame_any [hK : Cert.Kernel2.Facts] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_eq Cert.Kernel2Ideal.Gen.facts hK, main_eq Cert.Kernel2Ideal.Gen.facts hK]
  exact Cert.Kernel2Ideal.Gen.frame_any m ρ

end Cert.Kernel2.Gen

end
-- ==== Proof.Frames2.lean ====
module

public import proofs.«01_k».proof.Defs
public import proofs.«01_k».proof.Proof.Transfer2
public import proofs.«01_k».proof.Proof.Gen.Reference2Ideal.Run

@[expose] public section

/-!
  # The frames, the gradient coming in two parts

  Each program runs to its end, leaves its arguments as they were and every counter at zero.
-/

noncomputable section

namespace Cert.Proof.Two

open Idealize.ShloMosaic Idealize.SL.Sem

theorem frame_p : @Cert.quiescent_Kernel2 Cert.Kernel2.Gen.facts := fun m ρ _ => Cert.Kernel2.Gen.frame_any m ρ

theorem frame_pi : @Cert.quiescent_Kernel2Ideal Cert.Kernel2Ideal.Gen.facts := fun m ρ _ => Cert.Kernel2Ideal.Gen.frame_any m ρ

/-- The reference has no counters. -/
theorem frame_ri : @Cert.quiescent_Reference2Ideal Cert.Reference2Ideal.Gen.facts := fun m ρ _ =>
  (θ_run Cert.Reference2Ideal.defs _ _).mono (fun r h => ⟨fun c => (h c).2.2.2.2.2.2,
      Idealize.ShloMosaic.sem_eq_zero_of_no_sems (by decide) r.2⟩)
    (Cert.Reference2Ideal.Value.run (F := Ideal) m ρ)

end Cert.Proof.Two

end
-- ==== Proof.BandValue2.lean ====
module

public import proofs.«01_k».proof.Proof.Chunk2
public import proofs.«01_k».proof.Proof.Model

@[expose] public section

/-!
  # The first grid point's work, entry by entry, the gradient coming in two parts

  Over the reals the arrays that the first grid point makes from the incoming gradient and the saved rows are the
  model's, the incoming gradient being ALPHA times its first part and the second: the residual part of the input gradient, the gradient of the block's output and its transpose, the transposed
  input, and the gradients of the scale and the shift.
-/

noncomputable section

namespace Cert.Kernel2Ideal.Gen

open Idealize.ShloMosaic Idealize.ShloMosaic.TcCoe Ffn Ffn.Real

theorem n1024 : (1024 : ℝ) ≠ 0 := by norm_num

/-- The incoming gradient, from its two parts. -/
def mix {n : ℕ} (a b : Fin n → Fin 1024 → ℝ) (i : Fin n) (j : Fin 1024) : ℝ := alpha * a i j + b i j

/-! ## One band -/

section Band
variable {v0 v1 : Vec Ideal S1x1x128x1024 .f32} {vr : Vec Ideal S1x128x1024 .f32} {g : Vec Ideal S1x1024 .f32}
  {d e r : Fin 128 → Fin 1024 → ℝ} {γ : Fin 1024 → ℝ}
  (h0 : ∀ i j, v0 (ix4 (0 : Fin 1) (0 : Fin 1) i j) = (d i j : EReal)) (h1 : ∀ i j, v1 (ix4 (0 : Fin 1) (0 : Fin 1) i j) = (e i j : EReal))
  (hr : ∀ i j, vr (ix3 (0 : Fin 1) i j) = (r i j : EReal))
  (hg : ∀ j, g (ix2 (0 : Fin 1) j) = (γ j : EReal))

include h0 h1 in
theorem dy_val (i : Fin 128) (j : Fin 1024) : k0_pay4 (k0_pay3 v0) v1 (ix2 i j) = (mix d e i j : EReal) := by
  pointwise [k0_pay4, k0_pay3]
  rw [h0, h1, lit_alpha, ← EReal.coe_mul, ← EReal.coe_add]
  rfl

include hr in
theorem pay5_val (i : Fin 128) (j : Fin 1024) : k0_pay5 vr (ix2 i j) = (cen (r i) j : EReal) := by
  pointwise [k0_pay5]
  simp only [hr, lit_1024, coe_sum, coe_div _ n1024, ← EReal.coe_sub]
  rfl

include hr in
theorem pay6_val (i : Fin 128) : k0_pay6 vr (ix2 i (0 : Fin 1)) = (inv (r i) : EReal) := by
  pointwise [k0_pay6]
  simp only [pay5_val hr, lit_1024, lit_eps, ← EReal.coe_mul, coe_sum, coe_div _ n1024, ← EReal.coe_add]
  exact coe_rsqrt (var_eps_pos (r i))

include hr in
theorem pay7_val (i : Fin 128) (j : Fin 1024) : k0_pay7 vr (ix2 i j) = (xh (r i) j : EReal) := by
  pointwise [k0_pay7]
  rw [pay5_val hr, pay6_val hr, ← EReal.coe_mul]
  rfl

include h0 h1 hr hg in
theorem pay8_val (i : Fin 128) (j : Fin 1024) : bandDr v0 v1 vr g (ix2 i j) = (dr (mix d e i) (r i) γ j : EReal) := by
  pointwise [k0_pay8]
  simp only [dy_val h0 h1, pay6_val hr, pay7_val hr, hg, lit_1024, ← EReal.coe_mul, coe_sum, coe_div _ n1024, ← EReal.coe_sub]
  rfl

include h0 h1 hr hg in
theorem bandDh_val (i : Fin 128) (j : Fin 1024) : bandDh v0 v1 vr g (ix2 i j) = ((alpha * dr (mix d e i) (r i) γ j : ℝ) : EReal) := by
  unfold bandDh
  pointwise [k0_pay12]
  rw [pay8_val h0 h1 hr hg, lit_alpha, ← EReal.coe_mul]

include h0 h1 hr hg in
theorem bandDf_val (i : Fin 128) (j : Fin 1024) : bandDf v0 v1 vr g (ix2 i j) = ((1 / 2 * dr (mix d e i) (r i) γ j : ℝ) : EReal) := by
  unfold bandDf
  pointwise [k0_pay14, k0_pay13]
  rw [pay8_val h0 h1 hr hg, lit_half, ← EReal.coe_mul]

include h0 h1 hr hg in
theorem bandDfT_val (i : Fin 128) (j : Fin 1024) : bandDfT v0 v1 vr g (ix2 j i) = ((1 / 2 * dr (mix d e i) (r i) γ j : ℝ) : EReal) := by
  unfold bandDfT
  pointwise [k0_pay15, k0_pay13]
  rw [pay8_val h0 h1 hr hg, lit_half, ← EReal.coe_mul]

include h0 h1 hr in
theorem bandDg_val (acc : FVec Ideal S1x1024 .f32) (j : Fin 1024) :
    bandDg acc v0 v1 vr (ix2 (0 : Fin 1) j) = acc (ix2 (0 : Fin 1) j) + ((∑ i, mix d e i j * xh (r i) j : ℝ) : EReal) := by
  unfold bandDg
  pointwise [k0_pay10, k0_pay9]
  simp only [dy_val h0 h1, pay7_val hr, ← EReal.coe_mul, coe_sum]

include h0 h1 in
theorem bandDb_val (acc : FVec Ideal S1x1024 .f32) (j : Fin 1024) :
    bandDb acc v0 v1 (ix2 (0 : Fin 1) j) = acc (ix2 (0 : Fin 1) j) + ((∑ i, mix d e i j : ℝ) : EReal) := by
  unfold bandDb
  pointwise [k0_pay11]
  simp only [dy_val h0 h1, coe_sum]

end Band

theorem bandHT_val {vh : Vec Ideal S1x128x1024 .bf16} (i : Fin 128) (j : Fin 1024) :
    bandHT vh (ix2 j i) = vh (ix3 (0 : Fin 1) i j) := by
  unfold bandHT
  pointwise [k0_pay16]

/-! ## A band as the kernel loads it -/

theorem up4_at (x : Vec Ideal S128x1024 .f32) (i : Fin 128) (j : Fin 1024) :
    up4 x (ix4 (0 : Fin 1) (0 : Fin 1) i j) = x (ix2 i j) := by
  have h : shapeCast S128x1024 (up4 x) shapeCasts_S1x1x128x1024_S128x1024 (ix2 i j) = up4 x (ix4 (0 : Fin 1) (0 : Fin 1) i j) := by
    pointwise
  exact h.symm.trans (up_reshape numel4 x (ix2 i j))

theorem up3_at {e : EltTy} (x : Vec Ideal S128x1024 e) (i : Fin 128) (j : Fin 1024) :
    up3 x (ix3 (0 : Fin 1) i j) = x (ix2 i j) := by
  have h : shapeCast S128x1024 (up3 x) shapeCasts_S1x128x1024_S128x1024 (ix2 i j) = up3 x (ix3 (0 : Fin 1) i j) := by
    pointwise
  exact h.symm.trans (up_reshape numel3 x (ix2 i j))

/-! ## All rows -/

/-- Row `i` of band `k`. -/
def rowOf (n k : ℕ) (i : Fin n) : Fin 2176 := ⟨(k * n + i.val) % 2176, Nat.mod_lt _ (by decide)⟩

theorem rows_at {C n : ℕ} (k : ℕ) (X : (Mat 2176 C).Idx → EReal) (i : Fin n) (j : Fin C) :
    rows n k X (ix2 i j) = X (ix2 (rowOf n k i) j) := rfl

theorem rowOf_div (n : ℕ) [NeZero n] (i : Fin 2176) :
    rowOf n (i.val / n) ⟨i.val % n, Nat.mod_lt _ (NeZero.pos n)⟩ = i :=
  Fin.ext (by
    show (i.val / n * n + i.val % n) % 2176 = i.val
    rw [Nat.mul_comm, Nat.div_add_mod, Nat.mod_eq_of_lt i.isLt])

theorem rowOf_lt {n : ℕ} (k : ℕ) (i : Fin n) (h : k * n + i.val < 2176) : rowOf n k i = ⟨k * n + i.val, h⟩ :=
  Fin.ext (Nat.mod_eq_of_lt h)

section All
variable {dy dz r : Vec Ideal S2176x1024 .f32} {hb : Vec Ideal S2176x1024 .bf16} {g : Vec Ideal S1x1024 .f32}
  {D E R : Fin 2176 → Fin 1024 → ℝ} {γ : Fin 1024 → ℝ}
  (h0 : ∀ i j, dy (ix2 i j) = (D i j : EReal)) (h1 : ∀ i j, dz (ix2 i j) = (E i j : EReal)) (hr : ∀ i j, r (ix2 i j) = (R i j : EReal))
  (hg : ∀ j, g (ix2 (0 : Fin 1) j) = (γ j : EReal))

include h0 in
theorem band_dy (k : ℕ) (i : Fin 128) (j : Fin 1024) :
    up4 (rows (N := 2176) (C := 1024) 128 k dy) (ix4 (0 : Fin 1) (0 : Fin 1) i j) = (D (rowOf 128 k i) j : EReal) := by
  rw [up4_at]; exact h0 _ _

include hr in
theorem band_r (k : ℕ) (i : Fin 128) (j : Fin 1024) :
    up3 (rows (N := 2176) (C := 1024) 128 k r) (ix3 (0 : Fin 1) i j) = (R (rowOf 128 k i) j : EReal) := by
  rw [up3_at]; exact hr _ _

include h0 h1 hr hg in
theorem allDh_val (i : Fin 2176) (j : Fin 1024) : allDh dy dz r g (ix2 i j) = ((alpha * dr (mix D E i) (R i) γ j : ℝ) : EReal) := by
  refine (bandDh_val (band_dy h0 (i.val / 128)) (band_dy h1 (i.val / 128)) (band_r hr (i.val / 128)) hg _ j).trans ?_
  exact congrArg (fun a => ((alpha * dr (mix D E a) (R a) γ j : ℝ) : EReal)) (rowOf_div 128 i)

include h0 h1 hr hg in
theorem allDf_val (i : Fin 2176) (j : Fin 1024) : allDf dy dz r g (ix2 i j) = ((1 / 2 * dr (mix D E i) (R i) γ j : ℝ) : EReal) := by
  refine (bandDf_val (band_dy h0 (i.val / 128)) (band_dy h1 (i.val / 128)) (band_r hr (i.val / 128)) hg _ j).trans ?_
  exact congrArg (fun a => ((1 / 2 * dr (mix D E a) (R a) γ j : ℝ) : EReal)) (rowOf_div 128 i)

include h0 h1 hr hg in
theorem allDfT_val (i : Fin 2176) (j : Fin 1024) : allDfT dy dz r g (ix2 j i) = ((1 / 2 * dr (mix D E i) (R i) γ j : ℝ) : EReal) := by
  refine (bandDfT_val (band_dy h0 (i.val / 128)) (band_dy h1 (i.val / 128)) (band_r hr (i.val / 128)) hg _ j).trans ?_
  exact congrArg (fun a => ((1 / 2 * dr (mix D E a) (R a) γ j : ℝ) : EReal)) (rowOf_div 128 i)

theorem allHT_val (i : Fin 2176) (j : Fin 1024) : allHT hb (ix2 j i) = hb (ix2 i j) := by
  refine (bandHT_val (vh := up3 (rows (N := 2176) (C := 1024) 128 (i.val / 128) hb)) _ j).trans ?_
  rw [up3_at]
  exact congrArg (fun a => hb (ix2 a j)) (rowOf_div 128 i)

/-- A sum over the bands is the sum over the rows. -/
theorem sum_bands (f : Fin 2176 → ℝ) : ∑ k : Fin 17, ∑ i : Fin 128, f (rowOf 128 k.val i) = ∑ i, f i :=
  Fin.sum_mul_add_congr (fun s k hl => by rw [rowOf_lt _ _ hl]) rfl

include h0 h1 hr in
theorem sumDg_val (j : Fin 1024) (n : ℕ) : sumDg dy dz r n (ix2 (0 : Fin 1) j)
    = ((∑ k ∈ Finset.range n, ∑ i : Fin 128, mix D E (rowOf 128 k i) j * xh (R (rowOf 128 k i)) j : ℝ) : EReal) := by
  induction n with
  | zero =>
    unfold sumDg
    pointwise [k0_pay1]
    simp
  | succ n ih =>
    rw [Finset.sum_range_succ, EReal.coe_add, ← ih]
    exact bandDg_val (band_dy h0 n) (band_dy h1 n) (band_r hr n) _ j

include h0 h1 in
theorem sumDb_val (j : Fin 1024) (n : ℕ) : sumDb dy dz n (ix2 (0 : Fin 1) j)
    = ((∑ k ∈ Finset.range n, ∑ i : Fin 128, mix D E (rowOf 128 k i) j : ℝ) : EReal) := by
  induction n with
  | zero =>
    unfold sumDb
    pointwise [k0_pay2]
    simp
  | succ n ih =>
    rw [Finset.sum_range_succ, EReal.coe_add, ← ih]
    exact bandDb_val (band_dy h0 n) (band_dy h1 n) _ j

include h0 h1 hr in
theorem dg_val (j : Fin 1024) : sumDg dy dz r 17 (ix2 (0 : Fin 1) j) = ((∑ i, mix D E i j * xh (R i) j : ℝ) : EReal) := by
  rw [sumDg_val h0 h1 hr, Finset.sum_range, sum_bands fun i => mix D E i j * xh (R i) j]

include h0 h1 in
theorem db_val (j : Fin 1024) : sumDb dy dz 17 (ix2 (0 : Fin 1) j) = ((∑ i, mix D E i j : ℝ) : EReal) := by
  rw [sumDb_val h0 h1, Finset.sum_range, sum_bands fun i => mix D E i j]

end All

end Cert.Kernel2Ideal.Gen

end
-- ==== Proof.GateValue2.lean ====
module

public import proofs.«01_k».proof.Proof.Gate2
public import proofs.«01_k».proof.Proof.BandValue2

@[expose] public section

/-!
  # One grid point's work on its 256 columns, entry by entry, the gradient coming in two parts

  Over the reals the gate gradients, the activations, the three weight gradients' blocks and the share of the input
  gradient that one grid point computes are the model's.
-/

noncomputable section

namespace Cert.Kernel2Ideal.Gen

open Idealize.ShloMosaic Idealize.ShloMosaic.TcCoe Ffn Ffn.Real

/-! ## One band of 272 rows -/

section Band
variable {df : Vec Ideal S272x1024 .bf16} {wd wg wu : Vec Ideal S256x1024 .bf16} {u v : Vec Ideal S1x272x256 .bf16}
  {dF : Fin 272 → Fin 1024 → ℝ} {Wd Wg Wu : Fin 256 → Fin 1024 → ℝ} {U V : Fin 272 → Fin 256 → ℝ}
  (hdf : ∀ i j, df (ix2 i j) = (dF i j : EReal)) (hwd : ∀ f j, wd (ix2 f j) = (Wd f j : EReal))
  (hwg : ∀ f j, wg (ix2 f j) = (Wg f j : EReal)) (hwu : ∀ f j, wu (ix2 f j) = (Wu f j : EReal))
  (hu : ∀ i f, u (ix3 (0 : Fin 1) i f) = (U i f : EReal)) (hv : ∀ i f, v (ix3 (0 : Fin 1) i f) = (V i f : EReal))

include hdf hwd in
theorem pay242_val (i : Fin 272) (f : Fin 256) : k0_pay242 df wd (ix2 i f) = ((∑ j, dF i j * Wd f j : ℝ) : EReal) := by
  pointwise [k0_pay242]
  simp only [hdf, hwd, ← EReal.coe_mul, coe_sum]

include hu in
theorem pay245_val (i : Fin 272) (f : Fin 256) : k0_pay245 u (ix2 i f) = (sgm (U i f) : EReal) := by
  pointwise [k0_pay245, k0_pay243]
  rw [hu, zero_sub]
  exact coe_sgm _

include hdf hwd hu hv in
theorem pay246_val (i : Fin 272) (f : Fin 256) :
    k0_pay246 df wd u v (ix2 i f) = (gateU (∑ j, dF i j * Wd f j) (U i f) (V i f) : EReal) := by
  pointwise [k0_pay246, k0_pay243, k0_pay244]
  rw [pay242_val hdf hwd, pay245_val hu, hu, hv]
  simp only [← EReal.coe_mul, ← EReal.coe_one, ← EReal.coe_sub, ← EReal.coe_add]
  rfl

include hdf hwd hu in
theorem pay247_val (i : Fin 272) (f : Fin 256) :
    k0_pay247 df wd u (ix2 i f) = (gateV (∑ j, dF i j * Wd f j) (U i f) : EReal) := by
  pointwise [k0_pay247, k0_pay243]
  rw [pay242_val hdf hwd, pay245_val hu, hu]
  simp only [← EReal.coe_mul]
  rfl

include hdf hwd hu hv in
theorem pay248_val (i : Fin 272) (f : Fin 256) :
    k0_pay248 df wd u v (ix2 i f) = (gateU (∑ j, dF i j * Wd f j) (U i f) (V i f) : EReal) := by
  pointwise [k0_pay248]
  exact pay246_val hdf hwd hu hv i f

include hdf hwd hu in
theorem pay249_val (i : Fin 272) (f : Fin 256) :
    k0_pay249 (k0_pay247 df wd u) (ix2 i f) = (gateV (∑ j, dF i j * Wd f j) (U i f) : EReal) := by
  pointwise [k0_pay249]
  exact pay247_val hdf hwd hu i f

include hu hv in
theorem pay250_val (i : Fin 272) (f : Fin 256) :
    k0_pay250 (k0_pay243 u) (k0_pay244 v) (k0_pay245 u) (ix2 i f) = (act (U i f) (V i f) : EReal) := by
  pointwise [k0_pay250, k0_pay243, k0_pay244]
  rw [pay245_val hu, hu, hv]
  simp only [← EReal.coe_mul]
  rfl

include hdf hwd hwg hwu hu hv in
theorem pay251_val (x : Vec Ideal S272x1024 .f32) (i : Fin 272) (j : Fin 1024) :
    k0_pay251 (k0_pay246 df wd u v) (k0_pay247 df wd u) x wg wu (ix2 i j) = x (ix2 i j)
      + (((∑ f, gateU (∑ j, dF i j * Wd f j) (U i f) (V i f) * Wg f j) + ∑ f, gateV (∑ j, dF i j * Wd f j) (U i f) * Wu f j : ℝ) : EReal) := by
  pointwise [k0_pay251]
  simp only [pay246_val hdf hwd hu hv, pay247_val hdf hwd hu, hwg, hwu, ← EReal.coe_mul, coe_sum, ← EReal.coe_add]

end Band

/-! ## All rows -/

section All
variable {df : Vec Ideal S2176x1024 .bf16} {wd wg wu : Vec Ideal S256x1024 .bf16} {u v : Vec Ideal S1x2176x256 .bf16}
  {dF : Fin 2176 → Fin 1024 → ℝ} {Wd Wg Wu : Fin 256 → Fin 1024 → ℝ} {U V : Fin 2176 → Fin 256 → ℝ}
  (hdf : ∀ i j, df (ix2 i j) = (dF i j : EReal)) (hwd : ∀ f j, wd (ix2 f j) = (Wd f j : EReal))
  (hwg : ∀ f j, wg (ix2 f j) = (Wg f j : EReal)) (hwu : ∀ f j, wu (ix2 f j) = (Wu f j : EReal))
  (hu : ∀ i f, u (ix3 (0 : Fin 1) i f) = (U i f : EReal)) (hv : ∀ i f, v (ix3 (0 : Fin 1) i f) = (V i f : EReal))

theorem band_at {x : Vec Ideal S1x2176x256 .bf16} {X : Fin 2176 → Fin 256 → ℝ} (hx : ∀ i f, x (ix3 (0 : Fin 1) i f) = (X i f : EReal))
    (k : ℕ) (i : Fin 272) (f : Fin 256) : band k x (ix3 (0 : Fin 1) i f) = (X (rowOf 272 k i) f : EReal) := hx _ _

theorem rows_df (hdf : ∀ i j, df (ix2 i j) = (dF i j : EReal)) (k : ℕ) (i : Fin 272) (j : Fin 1024) :
    rows (N := 2176) (C := 1024) 272 k df (ix2 i j) = (dF (rowOf 272 k i) j : EReal) := hdf _ _

include hdf hwd hu hv in
theorem allDu_val (i : Fin 2176) (f : Fin 256) :
    allDu df wd u v (ix2 i f) = (gateU (∑ j, dF i j * Wd f j) (U i f) (V i f) : EReal) :=
  (pay248_val (rows_df hdf (i.val / 272)) hwd (band_at hu (i.val / 272)) (band_at hv (i.val / 272)) _ f).trans
    (congrArg (fun a => (gateU (∑ j, dF a j * Wd f j) (U a f) (V a f) : EReal)) (rowOf_div 272 i))

include hdf hwd hu in
theorem allDv_val (i : Fin 2176) (f : Fin 256) :
    allDv df wd u (ix2 i f) = (gateV (∑ j, dF i j * Wd f j) (U i f) : EReal) :=
  (pay249_val (rows_df hdf (i.val / 272)) hwd (band_at hu (i.val / 272)) _ f).trans
    (congrArg (fun a => (gateV (∑ j, dF a j * Wd f j) (U a f) : EReal)) (rowOf_div 272 i))

include hu hv in
theorem allAc_val (i : Fin 2176) (f : Fin 256) : allAc u v (ix2 i f) = (act (U i f) (V i f) : EReal) :=
  (pay250_val (band_at hu (i.val / 272)) (band_at hv (i.val / 272)) _ f).trans
    (congrArg (fun a => (act (U a f) (V a f) : EReal)) (rowOf_div 272 i))

include hdf hwd hwg hwu hu hv in
theorem nextDh_val (dh : Vec Ideal S2176x1024 .f32) (i : Fin 2176) (j : Fin 1024) :
    nextDh df wd wg wu u v dh (ix2 i j) = dh (ix2 i j)
      + (((∑ f, gateU (∑ j, dF i j * Wd f j) (U i f) (V i f) * Wg f j) + ∑ f, gateV (∑ j, dF i j * Wd f j) (U i f) * Wu f j : ℝ) : EReal) :=
  (pay251_val (rows_df hdf (i.val / 272)) hwd hwg hwu (band_at hu (i.val / 272)) (band_at hv (i.val / 272))
      (rows (N := 2176) (C := 1024) 272 (i.val / 272) dh) _ j).trans
    (congrArg (fun a => dh (ix2 a j) + (((∑ f, gateU (∑ j, dF a j * Wd f j) (U a f) (V a f) * Wg f j)
      + ∑ f, gateV (∑ j, dF a j * Wd f j) (U a f) * Wu f j : ℝ) : EReal)) (rowOf_div 272 i))

end All

/-! ## The weight gradients' blocks -/

section Weights
variable {x : Vec Ideal S1024x2176 .bf16} {y : Vec Ideal S2176x256 .bf16} {X : Fin 2176 → Fin 1024 → ℝ} {Y : Fin 2176 → Fin 256 → ℝ}
  (hx : ∀ i j, x (ix2 j i) = (X i j : EReal)) (hy : ∀ i f, y (ix2 i f) = (Y i f : EReal))

include hx hy in
theorem pay330_val (f : Fin 256) (j : Fin 1024) : k0_pay330 x y (ix2 f j) = ((∑ i, X i j * Y i f : ℝ) : EReal) := by
  pointwise [k0_pay330]
  simp only [hx, hy, ← EReal.coe_mul, coe_sum]

include hx hy in
theorem pay331_val (f : Fin 256) (j : Fin 1024) : k0_pay331 x y (ix2 f j) = ((∑ i, X i j * Y i f : ℝ) : EReal) := by
  pointwise [k0_pay331]
  simp only [hx, hy, ← EReal.coe_mul, coe_sum]

include hx hy in
theorem pay332_val (f : Fin 256) (j : Fin 1024) : k0_pay332 x y (ix2 f j) = ((∑ i, X i j * Y i f : ℝ) : EReal) := by
  pointwise [k0_pay332]
  simp only [hx, hy, ← EReal.coe_mul, coe_sum]

end Weights

end Cert.Kernel2Ideal.Gen

end
-- ==== Proof.EntryValue2.lean ====
module

public import proofs.«01_k».proof.Proof.Grid2
public import proofs.«01_k».proof.Proof.GateValue2

@[expose] public section

/-!
  # What the host computes before the grid, entry by entry, the gradient coming in two parts

  The arguments are real numbers, so the arrays that the host prepares for the kernel are real too: the saved rows
  before the normalisation, the two pre-activations cut into blocks of 256 columns, and the weights.
-/

noncomputable section

namespace Cert.Kernel2Ideal.Gen

open Idealize.ShloMosaic Idealize.ShloMosaic.TcCoe Ffn Ffn.Real

/-- The rows before the normalisation, as the host computes them. -/
theorem res_val {H : Fin 2176 → Fin 1024 → ℝ} {Wg Wu : Fin 1024 → Fin 2816 → ℝ} {Wd : Fin 2816 → Fin 1024 → ℝ}
    (i : Fin 2176) (j : Fin 1024) {a : Fin 1024 → EReal} {g u : Fin 1024 → Fin 2816 → EReal} {w : Fin 2816 → EReal}
    (ha : ∀ x, a x = (H i x : EReal)) (hg : ∀ x f, g x f = (Wg x f : EReal)) (hu : ∀ x f, u x f = (Wu x f : EReal))
    (hw : ∀ f, w f = (Wd f j : EReal)) :
    Ideal.ofBits .f32 0x3FB504F3#32 * a j + Ideal.ofBits .f32 0x3F000000#32
        * ∑ f, ((∑ x, a x * g x f) * Ideal.div 1 (1 + Ideal.exp (-∑ x, a x * g x f)) * ∑ x, a x * u x f) * w f
      = (res H Wg Wu Wd i j : EReal) := by
  simp only [ha, hg, hu, hw, coe_sgm, lit_alpha, lit_half, ← EReal.coe_mul, coe_sum, ← EReal.coe_add]
  rfl

variable (m : (ℓ : Loc nD τ sig) → Buf (Elt Ideal) ℓ) (c : Dev nD)

/-- The arguments are the real numbers given. -/
structure Args (H : Fin 2176 → Fin 1024 → ℝ) (Wg Wu : Fin 1024 → Fin 2816 → ℝ) (Wd : Fin 2816 → Fin 1024 → ℝ)
    (γ : Fin 1024 → ℝ) (D E : Fin 2176 → Fin 1024 → ℝ) : Prop where
  h : ∀ i j, m ((c : Thread nD τ).loc main_arg0) (ix2 i j) = (H i j : EReal)
  wg : ∀ j f, m ((c : Thread nD τ).loc main_arg1) (ix2 j f) = (Wg j f : EReal)
  wu : ∀ j f, m ((c : Thread nD τ).loc main_arg2) (ix2 j f) = (Wu j f : EReal)
  wd : ∀ f j, m ((c : Thread nD τ).loc main_arg3) (ix2 f j) = (Wd f j : EReal)
  g : ∀ j, m ((c : Thread nD τ).loc main_arg4) (ix1 j) = (γ j : EReal)
  ct : ∀ i j, m ((c : Thread nD τ).loc main_arg6) (ix2 i j) = (D i j : EReal)
  ct2 : ∀ i j, m ((c : Thread nD τ).loc main_arg7) (ix2 i j) = (E i j : EReal)

variable {m c} {H : Fin 2176 → Fin 1024 → ℝ} {Wg Wu : Fin 1024 → Fin 2816 → ℝ} {Wd : Fin 2816 → Fin 1024 → ℝ}
  {γ : Fin 1024 → ℝ} {D E : Fin 2176 → Fin 1024 → ℝ} (A : Args m c H Wg Wu Wd γ D E)

include A

theorem V6_val (i : Fin 2176) (j : Fin 1024) : V m c main_arg6 (ix2 i j) = (D i j : EReal) := by
  rw [V_main_arg6]; exact A.ct i j

theorem V7_val (i : Fin 2176) (j : Fin 1024) : V m c main_arg7 (ix2 i j) = (E i j : EReal) := by
  rw [V_main_arg7]; exact A.ct2 i j

theorem V9_val (i : Fin 2176) (j : Fin 1024) : V m c main_v9 (ix2 i j) = (res H Wg Wu Wd i j : EReal) := by
  simp only [V, hostOps0, hostOps0_1, hostOps0_2, List.flatten_cons, List.flatten_nil, List.cons_append, List.nil_append, List.append_nil]
  entry_read
  simp only [StableHlo.TRef.toBuf, StableHlo.TRef.ofBuf, cast_eq]
  pointwise
  exact res_val i j (a := fun x => m (c, Proc.tc.devRef main_arg0) (ix2 i x)) (g := fun x f => m (c, Proc.tc.devRef main_arg1) (ix2 x f))
    (u := fun x f => m (c, Proc.tc.devRef main_arg2) (ix2 x f)) (w := fun f => m (c, Proc.tc.devRef main_arg3) (ix2 f j))
    (A.h i) A.wg A.wu (fun f => A.wd f j)

theorem V14_val (t : Fin 11) (i : Fin 2176) (f : Fin 256) (h : t.val * 256 + f.val < 2816) :
    V m c main_v14 (ix3 t i f) = (pre H Wg i ⟨t.val * 256 + f.val, h⟩ : EReal) := by
  simp only [V, hostOps0, hostOps0_1, hostOps0_2, List.flatten_cons, List.flatten_nil, List.cons_append, List.nil_append, List.append_nil]
  entry_read
  pointwise
  exact sum_mul_val (A.h i) (fun x => A.wg x _)

theorem V17_val (t : Fin 11) (i : Fin 2176) (f : Fin 256) (h : t.val * 256 + f.val < 2816) :
    V m c main_v17 (ix3 t i f) = (pre H Wu i ⟨t.val * 256 + f.val, h⟩ : EReal) := by
  simp only [V, hostOps0, hostOps0_1, hostOps0_2, List.flatten_cons, List.flatten_nil, List.cons_append, List.nil_append, List.append_nil]
  entry_read
  pointwise
  exact sum_mul_val (A.h i) (fun x => A.wu x _)

theorem V19_val (f : Fin 2816) (j : Fin 1024) : V m c main_v19 (ix2 f j) = (Wg j f : EReal) := by
  simp only [V, hostOps0, hostOps0_1, hostOps0_2, List.flatten_cons, List.flatten_nil, List.cons_append, List.nil_append, List.append_nil]
  entry_read
  pointwise
  exact A.wg j f
theorem V21_val (f : Fin 2816) (j : Fin 1024) : V m c main_v21 (ix2 f j) = (Wu j f : EReal) := by
  simp only [V, hostOps0, hostOps0_1, hostOps0_2, List.flatten_cons, List.flatten_nil, List.cons_append, List.nil_append, List.append_nil]
  entry_read
  pointwise
  exact A.wu j f
theorem V22_val (f : Fin 2816) (j : Fin 1024) : V m c main_v22 (ix2 f j) = (Wd f j : EReal) := by
  simp only [V, hostOps0, hostOps0_1, hostOps0_2, List.flatten_cons, List.flatten_nil, List.cons_append, List.nil_append, List.append_nil]
  entry_read
  pointwise
  exact A.wd f j
theorem V10_val (j : Fin 1024) : V m c main_v10 (ix2 (0 : Fin 1) j) = (γ j : EReal) := by
  simp only [V, hostOps0, hostOps0_1, hostOps0_2, List.flatten_cons, List.flatten_nil, List.cons_append, List.nil_append, List.append_nil]
  entry_read
  pointwise
  exact A.g j
theorem V11_val (i : Fin 2176) (j : Fin 1024) : V m c main_v11 (ix2 i j) = (H i j : EReal) := by
  simp only [V, hostOps0, hostOps0_1, hostOps0_2, List.flatten_cons, List.flatten_nil, List.cons_append, List.nil_append, List.append_nil]
  entry_read
  pointwise
  exact A.h i j

end Cert.Kernel2Ideal.Gen

end
-- ==== Proof.KernelValue2.lean ====
module

public import proofs.«01_k».proof.Proof.EntryValue2

@[expose] public section

/-!
  # What the kernel leaves in its six results, the gradient coming in two parts

  Point by point the kernel's blocks are the model's, and so are the arrays they make up.
-/

noncomputable section

namespace Cert.Kernel2Ideal.Gen

open Idealize.ShloMosaic Idealize.ShloMosaic.TcCoe Ffn Ffn.Real

variable {m : (ℓ : Loc nD τ sig) → Buf (Elt Ideal) ℓ} {c : Dev nD}
  {H : Fin 2176 → Fin 1024 → ℝ} {Wg Wu : Fin 1024 → Fin 2816 → ℝ} {Wd : Fin 2816 → Fin 1024 → ℝ}
  {γ : Fin 1024 → ℝ} {D E : Fin 2176 → Fin 1024 → ℝ} (A : Args m c H Wg Wu Wd γ D E)

/-! ## The blocks a point is given -/

theorem lt11 (t : Fin cfg0.N) : t.val < 11 := lt_of_lt_of_eq t.isLt (show cfg0.N = 11 from N_0)

theorem idx0 : ∀ t : Fin cfg0.N, win0_0.index t = ![0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

/-- Column `f` of point `t`'s block of columns. -/
def colOf (t : Fin cfg0.N) (f : Fin 256) : Fin 2816 := ⟨t.val * 256 + f.val, by have := lt11 t; omega⟩

theorem gam_at (t : Fin cfg0.N) (j : Fin 1024) : gam m c t (ix2 (0 : Fin 1) j) = V m c main_v10 (ix2 (0 : Fin 1) j) := by
  blk_ext [gam, iblk, idx0 t]
theorem ub_at (t : Fin cfg0.N) (i : Fin 2176) (f : Fin 256) :
    ub m c t (ix3 (0 : Fin 1) i f) = V m c main_v14 (ix3 (⟨t.val, lt11 t⟩ : Fin 11) i f) := by
  blk_ext [ub, iblk, idx1 t]
theorem vb_at (t : Fin cfg0.N) (i : Fin 2176) (f : Fin 256) :
    vb m c t (ix3 (0 : Fin 1) i f) = V m c main_v17 (ix3 (⟨t.val, lt11 t⟩ : Fin 11) i f) := by
  blk_ext [vb, iblk, idx2 t]
theorem wgb_at (t : Fin cfg0.N) (f : Fin 256) (j : Fin 1024) : wgb m c t (ix2 f j) = V m c main_v19 (ix2 (colOf t f) j) := by
  blk_ext [wgb, iblk, idx3 t, colOf]
theorem wub_at (t : Fin cfg0.N) (f : Fin 256) (j : Fin 1024) : wub m c t (ix2 f j) = V m c main_v21 (ix2 (colOf t f) j) := by
  blk_ext [wub, iblk, idx4 t, colOf]
theorem wdb_at (t : Fin cfg0.N) (f : Fin 256) (j : Fin 1024) : wdb m c t (ix2 f j) = V m c main_v22 (ix2 (colOf t f) j) := by
  blk_ext [wdb, iblk, idx5 t, colOf]

section Blocks
include A

theorem gam_val (t : Fin cfg0.N) (j : Fin 1024) : gam m c t (ix2 (0 : Fin 1) j) = (γ j : EReal) := (gam_at t j).trans (V10_val A j)
theorem ub_val (t : Fin cfg0.N) (i : Fin 2176) (f : Fin 256) : ub m c t (ix3 (0 : Fin 1) i f) = (pre H Wg i (colOf t f) : EReal) :=
  (ub_at t i f).trans (V14_val A _ i f _)
theorem vb_val (t : Fin cfg0.N) (i : Fin 2176) (f : Fin 256) : vb m c t (ix3 (0 : Fin 1) i f) = (pre H Wu i (colOf t f) : EReal) :=
  (vb_at t i f).trans (V17_val A _ i f _)
theorem wgb_val (t : Fin cfg0.N) (f : Fin 256) (j : Fin 1024) : wgb m c t (ix2 f j) = (Wg j (colOf t f) : EReal) :=
  (wgb_at t f j).trans (V19_val A _ j)
theorem wub_val (t : Fin cfg0.N) (f : Fin 256) (j : Fin 1024) : wub m c t (ix2 f j) = (Wu j (colOf t f) : EReal) :=
  (wub_at t f j).trans (V21_val A _ j)
theorem wdb_val (t : Fin cfg0.N) (f : Fin 256) (j : Fin 1024) : wdb m c t (ix2 f j) = (Wd (colOf t f) j : EReal) :=
  (wdb_at t f j).trans (V22_val A _ j)

/-! ## What the first point leaves -/

theorem dfAll_val (i : Fin 2176) (j : Fin 1024) : dfAll m c (ix2 i j) = (dF H Wg Wu Wd γ (mix D E) i j : EReal) :=
  allDf_val (V6_val A) (V7_val A) (V9_val A) (gam_val A (pt 0)) i j
theorem dftAll_val (i : Fin 2176) (j : Fin 1024) : dftAll m c (ix2 j i) = (dF H Wg Wu Wd γ (mix D E) i j : EReal) :=
  allDfT_val (V6_val A) (V7_val A) (V9_val A) (gam_val A (pt 0)) i j
theorem htAll_val (i : Fin 2176) (j : Fin 1024) : htAll m c (ix2 j i) = (H i j : EReal) :=
  (allHT_val i j).trans (V11_val A i j)

/-! ## The weight gradients' blocks -/

theorem dwgB_val (t : Fin cfg0.N) (f : Fin 256) (j : Fin 1024) : dwgB m c t (ix2 f j) = (gWg H Wg Wu Wd γ (mix D E) (colOf t f) j : EReal) :=
  pay330_val (htAll_val A) (allDu_val (dfAll_val A) (wdb_val A t) (ub_val A t) (vb_val A t)) f j
theorem dwuB_val (t : Fin cfg0.N) (f : Fin 256) (j : Fin 1024) : dwuB m c t (ix2 f j) = (gWu H Wg Wu Wd γ (mix D E) (colOf t f) j : EReal) :=
  pay331_val (htAll_val A) (allDv_val (dfAll_val A) (wdb_val A t) (ub_val A t)) f j
theorem dwdB_val (t : Fin cfg0.N) (f : Fin 256) (j : Fin 1024) : dwdB m c t (ix2 f j) = (gWd H Wg Wu Wd γ (mix D E) (colOf t f) j : EReal) :=
  pay332_val (dftAll_val A) (allAc_val (ub_val A t) (vb_val A t)) f j

/-! ## The input gradient -/

theorem dhAt_val (i : Fin 2176) (j : Fin 1024) (n : ℕ) : dhAt m c n (ix2 i j)
    = ((alpha * dR H Wg Wu Wd γ (mix D E) i j + ∑ k ∈ Finset.range n,
        ((∑ f, dU H Wg Wu Wd γ (mix D E) i (colOf (pt k) f) * Wg j (colOf (pt k) f))
          + ∑ f, dV H Wg Wu Wd γ (mix D E) i (colOf (pt k) f) * Wu j (colOf (pt k) f)) : ℝ) : EReal) := by
  induction n with
  | zero =>
    rw [Finset.sum_range_zero, add_zero]
    exact allDh_val (V6_val A) (V7_val A) (V9_val A) (gam_val A (pt 0)) i j
  | succ n ih =>
    rw [Finset.sum_range_succ, ← add_assoc, EReal.coe_add, ← ih]
    exact nextDh_val (dfAll_val A) (wdb_val A (pt n)) (wgb_val A (pt n)) (wub_val A (pt n)) (ub_val A (pt n)) (vb_val A (pt n)) _ i j

omit A in
theorem sum_points (g : Fin 2816 → ℝ) : ∑ k : Fin 11, ∑ f : Fin 256, g (colOf (pt k.val) f) = ∑ f, g f :=
  Fin.sum_mul_add_congr (fun s k hl => congrArg g (Fin.ext (by
    show s.val % 11 * 256 + k.val = s.val * 256 + k.val
    rw [Nat.mod_eq_of_lt s.isLt]))) rfl

theorem dh_val (i : Fin 2176) (j : Fin 1024) : dhAt m c 11 (ix2 i j) = (gH H Wg Wu Wd γ (mix D E) i j : EReal) := by
  rw [dhAt_val A, Finset.sum_add_distrib, Finset.sum_range, Finset.sum_range,
    sum_points fun f => dU H Wg Wu Wd γ (mix D E) i f * Wg j f, sum_points fun f => dV H Wg Wu Wd γ (mix D E) i f * Wu j f]
  rfl

/-! ## The windows' arrays after the last point -/

omit A in
/-- A block of 256 rows lies where the whole table has those rows. -/
theorem block_arr {g : Fin 2816 → Fin 1024 → ℝ} (t : Fin cfg0.N) {X : (Mat 256 1024).Idx → EReal}
    (h : ∀ f j, X (ix2 f j) = (g (colOf t f) j : EReal)) (y : (Mat 256 1024).Idx) {z : (Mat 2816 1024).Idx}
    (h0 : (z 0).val = t.val * 256 + (y 0).val) (h1 : (z 1).val = (y 1).val) : X y = arr2 g z := by
  rw [arr2_of h]
  unfold arr2
  rw [show z 0 = colOf t (y 0) from Fin.ext h0, show z 1 = y 1 from Fin.ext h1]

theorem out6 : (dats m 0 c).arrAt 6 cfg0.N = arr2 (gWg H Wg Wu Wd γ (mix D E)) := by
  refine (dats m 0 c).arrAt_eq_of_covers 6 _ (by decide +kernel) fun t hf y => ?_
  blk_simp
  rw [after6]
  refine block_arr t (dwgB_val A t) y ?_ ?_
  · blk_simp [idx6 t]
  · blk_simp [idx6 t]

theorem out7 : (dats m 0 c).arrAt 7 cfg0.N = arr2 (gWu H Wg Wu Wd γ (mix D E)) := by
  refine (dats m 0 c).arrAt_eq_of_covers 7 _ (by decide +kernel) fun t hf y => ?_
  blk_simp
  rw [after7]
  refine block_arr t (dwuB_val A t) y ?_ ?_
  · blk_simp [idx7 t]
  · blk_simp [idx7 t]

theorem out8 : (dats m 0 c).arrAt 8 cfg0.N = arr2 (gWd H Wg Wu Wd γ (mix D E)) := by
  refine (dats m 0 c).arrAt_eq_of_covers 8 _ (by decide +kernel) fun t hf y => ?_
  blk_simp
  rw [after8]
  refine block_arr t (dwdB_val A t) y ?_ ?_
  · blk_simp [idx8 t]
  · blk_simp [idx8 t]

theorem out9 : (dats m 0 c).arrAt 9 cfg0.N = arr2 fun (_ : Fin 1) => gG H Wg Wu Wd (mix D E) := by
  refine (dats m 0 c).arrAt_eq_of_after_last 9 t0_10 (by decide +kernel) _ fun y => ?_
  blk_simp
  rw [after9]
  refine congrFun (arr2_of fun i j => ?_) y
  rw [Fin.fin_one_eq_zero i]
  exact dg_val (V6_val A) (V7_val A) (V9_val A) j

theorem out10 : (dats m 0 c).arrAt 10 cfg0.N = arr2 fun (_ : Fin 1) => gB (mix D E) := by
  refine (dats m 0 c).arrAt_eq_of_after_last 10 t0_10 (by decide +kernel) _ fun y => ?_
  blk_simp
  rw [after10]
  refine congrFun (arr2_of fun i j => ?_) y
  rw [Fin.fin_one_eq_zero i]
  exact db_val (V6_val A) (V7_val A) j

theorem out_dh : G m c main_v23_0 = arr2 (gH H Wg Wu Wd γ (mix D E)) := by
  rw [G_dh]
  exact arr2_of (dh_val A)

end Blocks

end Cert.Kernel2Ideal.Gen

end
-- ==== Proof.RefValue2.lean ====
module

public import proofs.«01_k».proof.Proof.Gen.Reference2Ideal.Read
public import proofs.«01_k».proof.Proof.Model

@[expose] public section

/-!
  # The reference's arrays, entry by entry, the gradient coming in two parts

  Over real arguments every array of the reference is the model's, in the order in which the reference computes them.
-/

noncomputable section

namespace Cert.Reference2Ideal.Read

open Idealize.ShloMosaic Ffn.Real Cert.Reference2Ideal.Facts

theorem n1024 : (1024 : ℝ) ≠ 0 := by norm_num

variable {x0 : (⟨S2176x1024, .f32⟩ : BufTy).Contents (Elt Ideal)} {x1 x2 : (⟨S1024x2816, .f32⟩ : BufTy).Contents (Elt Ideal)}
  {x3 : (⟨S2816x1024, .f32⟩ : BufTy).Contents (Elt Ideal)} {x4 : (⟨S1024, .f32⟩ : BufTy).Contents (Elt Ideal)}
  {x6 x7 : (⟨S2176x1024, .f32⟩ : BufTy).Contents (Elt Ideal)}
  {H : Fin 2176 → Fin 1024 → ℝ} {Wg Wu : Fin 1024 → Fin 2816 → ℝ} {Wd : Fin 2816 → Fin 1024 → ℝ}
  {γ : Fin 1024 → ℝ} {D : Fin 2176 → Fin 1024 → ℝ}
  (h0 : ∀ i j, x0 (ix2 i j) = (H i j : EReal)) (h1 : ∀ j f, x1 (ix2 j f) = (Wg j f : EReal)) (h2 : ∀ j f, x2 (ix2 j f) = (Wu j f : EReal))
  (h3 : ∀ f j, x3 (ix2 f j) = (Wd f j : EReal)) (h4 : ∀ j, x4 (ix1 j) = (γ j : EReal)) (h6 : ∀ i j, val_main_v41 x6 x7 (ix2 i j) = (D i j : EReal))

/-! ## The forward pass -/

section Gate
include h0 h1

theorem r2 (i : Fin 2176) (f : Fin 2816) : val_main_v2 x0 x1 (ix2 i f) = (pre H Wg i f : EReal) := by
  pointwise [val_main_v2]
  exact sum_mul_val (h0 i) (fun x => h1 x f)

theorem r3_2 (i : Fin 2176) (f : Fin 2816) : val_main_v3_2 x0 x1 (ix2 i f) = (sgm (pre H Wg i f) : EReal) := by
  pointwise [val_main_v3_2, val_main_call0_v4, val_main_call0_cst_0, val_main_call0_v3, val_main_call0_v2, val_main_call0_cst, val_main_call0_v1, val_main_call0_v0]
  rw [r2 h0 h1]
  exact coe_sgm _

theorem r3_1 (i : Fin 2176) (f : Fin 2816) :
    val_main_v3_1 x0 x1 (ix2 i f) = ((sgm (pre H Wg i f) * (1 - sgm (pre H Wg i f)) : ℝ) : EReal) := by
  pointwise [val_main_v3_1, val_main_call0_v7, val_main_call0_v6, val_main_call0_cst_1]
  rw [r3_2 h0 h1, ← EReal.coe_one, ← EReal.coe_sub, ← EReal.coe_mul]

theorem r3_0 (i : Fin 2176) (f : Fin 2816) :
    val_main_v3_0 x0 x1 (ix2 i f) = ((pre H Wg i f * sgm (pre H Wg i f) : ℝ) : EReal) := by
  pointwise [val_main_v3_0]
  rw [r2 h0 h1, r3_2 h0 h1, ← EReal.coe_mul]

end Gate

include h0 h2 in
theorem r4 (i : Fin 2176) (f : Fin 2816) : val_main_v4 x0 x2 (ix2 i f) = (pre H Wu i f : EReal) := by
  pointwise [val_main_v4]
  exact sum_mul_val (h0 i) (fun x => h2 x f)

include h0 h1 h2 in
theorem r5 (i : Fin 2176) (f : Fin 2816) : val_main_v5 x0 x1 x2 (ix2 i f) = (acts H Wg Wu i f : EReal) := by
  pointwise [val_main_v5]
  rw [r3_0 h0 h1, r4 h0 h2, ← EReal.coe_mul]
  rfl

section Norm
include h0 h1 h2 h3

theorem r9 (i : Fin 2176) (j : Fin 1024) : val_main_v9 x0 x1 x2 x3 (ix2 i j) = (res H Wg Wu Wd i j : EReal) := by
  pointwise [val_main_v9, val_main_v1, val_main_v0, val_main_cst, val_main_v8, val_main_v7, val_main_cst_0, val_main_v6]
  simp only [r5 h0 h1 h2, h0, h3, lit_alpha, lit_half, ← EReal.coe_mul, coe_sum, ← EReal.coe_add]
  rfl

theorem r13 (i : Fin 2176) : val_main_v13 x0 x1 x2 x3 (ix2 i (0 : Fin 1)) = (mean (res H Wg Wu Wd i) : EReal) := by
  pointwise [val_main_v13, val_main_v12, val_main_cst_2, val_main_v11, val_main_v10, val_main_cst_1]
  simp only [r9 h0 h1 h2 h3, lit_1024, coe_sum, coe_div _ n1024]
  rfl

theorem r15 (i : Fin 2176) (j : Fin 1024) : val_main_v15 x0 x1 x2 x3 (ix2 i j) = (cen (res H Wg Wu Wd i) j : EReal) := by
  pointwise [val_main_v15, val_main_v14]
  rw [r9 h0 h1 h2 h3, r13 h0 h1 h2 h3, ← EReal.coe_sub]
  rfl

theorem r24 (i : Fin 2176) (j : Fin 1024) : val_main_v24 x0 x1 x2 x3 (ix2 i j) = (cen (res H Wg Wu Wd i) j : EReal) := by
  pointwise [val_main_v24, val_main_v23]
  rw [r9 h0 h1 h2 h3, r13 h0 h1 h2 h3, ← EReal.coe_sub]
  rfl

theorem r18 (i : Fin 2176) (j : Fin 1024) : val_main_v18 x0 x1 x2 x3 (ix2 i j) = ((2 * cen (res H Wg Wu Wd i) j : ℝ) : EReal) := by
  pointwise [val_main_v18, val_main_v17, val_main_cst_3]
  rw [r15 h0 h1 h2 h3, lit_two, ← EReal.coe_mul]

theorem r26 (i : Fin 2176) : val_main_v26 x0 x1 x2 x3 (ix2 i (0 : Fin 1)) = ((var (res H Wg Wu Wd i) + eps : ℝ) : EReal) := by
  pointwise [val_main_v26, val_main_v25, val_main_cst_6, val_main_v22, val_main_v21, val_main_cst_5, val_main_v20, val_main_v19, val_main_cst_4, val_main_v16]
  simp only [r15 h0 h1 h2 h3, lit_1024, lit_eps, ← EReal.coe_mul, coe_sum, coe_div _ n1024, ← EReal.coe_add]
  rfl

theorem r27 (i : Fin 2176) : val_main_v27 x0 x1 x2 x3 (ix2 i (0 : Fin 1)) = (inv (res H Wg Wu Wd i) : EReal) := by
  pointwise [val_main_v27]
  rw [r26 h0 h1 h2 h3]
  exact coe_rsqrt (var_eps_pos _)

theorem r30 (i : Fin 2176) : val_main_v30 x0 x1 x2 x3 (ix2 i (0 : Fin 1))
    = ((-(1 / 2) * (inv (res H Wg Wu Wd i) / (var (res H Wg Wu Wd i) + eps)) : ℝ) : EReal) := by
  pointwise [val_main_v30, val_main_v29, val_main_cst_7, val_main_v28]
  rw [r27 h0 h1 h2 h3, r26 h0 h1 h2 h3, lit_neg_half, coe_div _ (var_eps_pos _).ne', ← EReal.coe_mul]

theorem r32 (i : Fin 2176) (j : Fin 1024) : val_main_v32 x0 x1 x2 x3 (ix2 i j) = (xh (res H Wg Wu Wd i) j : EReal) := by
  pointwise [val_main_v32, val_main_v31]
  rw [r24 h0 h1 h2 h3, r27 h0 h1 h2 h3, ← EReal.coe_mul]
  rfl

end Norm

/-! ## The scale and the shift -/

omit h6 in
/-- The cotangent is ALPHA times the first part and the second. -/
theorem r41 {D1 D2 : Fin 2176 → Fin 1024 → ℝ} (h6 : ∀ i j, x6 (ix2 i j) = (D1 i j : EReal)) (h7 : ∀ i j, x7 (ix2 i j) = (D2 i j : EReal))
    (i : Fin 2176) (j : Fin 1024) : val_main_v41 x6 x7 (ix2 i j) = ((alpha * D1 i j + D2 i j : ℝ) : EReal) := by
  pointwise [val_main_v41, val_main_v40, val_main_v39, val_main_cst_8]
  rw [h6, h7, lit_alpha, ← EReal.coe_mul, ← EReal.coe_add]

include h6 in
theorem r99 (j : Fin 1024) : val_main_v99 x6 x7 (ix2 (0 : Fin 1) j) = (gB D j : EReal) := by
  pointwise [val_main_v99, val_main_v44, val_main_v43, val_main_v42, val_main_cst_9, val_main_cst_10]
  rw [Fin.sum_univ_one]
  simp only [h6, coe_sum]
  rfl

include h0 h1 h2 h3 h6 in
theorem r98 (j : Fin 1024) : val_main_v98 x0 x1 x2 x3 x6 x7 (ix2 (0 : Fin 1) j) = (gG H Wg Wu Wd D j : EReal) := by
  pointwise [val_main_v98, val_main_v50, val_main_v47, val_main_v46, val_main_v45, val_main_cst_11, val_main_cst_12]
  rw [Fin.sum_univ_one]
  simp only [r32 h0 h1 h2 h3, h6, ← EReal.coe_mul, coe_sum]
  exact congrArg _ (Finset.sum_congr rfl fun i _ => mul_comm _ _)

/-! ## The normalisation's gradient -/

include h4 h6 in
theorem r49 (i : Fin 2176) (j : Fin 1024) : val_main_v49 x4 x6 x7 (ix2 i j) = (dxh (D i) γ j : EReal) := by
  pointwise [val_main_v49, val_main_v48, val_main_v33]
  rw [h6, h4, ← EReal.coe_mul]
  rfl

section Back
include h0 h1 h2 h3 h4 h6

theorem r55 (i : Fin 2176) (j : Fin 1024) :
    val_main_v55 x0 x1 x2 x3 x4 x6 x7 (ix2 i j) = ((dxh (D i) γ j * inv (res H Wg Wu Wd i) : ℝ) : EReal) := by
  pointwise [val_main_v55, val_main_v54]
  rw [r49 h4 h6, r27 h0 h1 h2 h3, ← EReal.coe_mul]

theorem r62 (i : Fin 2176) : val_main_v62 x0 x1 x2 x3 x4 x6 x7 (ix1 i) = (refQ (D i) (res H Wg Wu Wd i) γ : EReal) := by
  pointwise [val_main_v62, val_main_cst_16, val_main_v61, val_main_v60, val_main_cst_15, val_main_v56, val_main_v53, val_main_v52, val_main_cst_13, val_main_v51]
  rw [Fin.sum_univ_one]
  simp only [r24 h0 h1 h2 h3, r49 h4 h6, r30 h0 h1 h2 h3, lit_1024, ← EReal.coe_mul, coe_sum, coe_div _ n1024]
  rfl

theorem r64 (i : Fin 2176) (j : Fin 1024) : val_main_v64 x0 x1 x2 x3 x4 x6 x7 (ix2 i j)
    = ((refQ (D i) (res H Wg Wu Wd i) γ * (2 * cen (res H Wg Wu Wd i) j) : ℝ) : EReal) := by
  pointwise [val_main_v64, val_main_v63]
  rw [r62 h0 h1 h2 h3 h4 h6, r18 h0 h1 h2 h3, ← EReal.coe_mul]

theorem r72 (i : Fin 2176) : val_main_v72 x0 x1 x2 x3 x4 x6 x7 (ix1 i)
    = ((((∑ j, -(dxh (D i) γ j * inv (res H Wg Wu Wd i))) + ∑ j, -(refQ (D i) (res H Wg Wu Wd i) γ * (2 * cen (res H Wg Wu Wd i) j))) / 1024 : ℝ) : EReal) := by
  pointwise [val_main_v72, val_main_cst_19, val_main_v71, val_main_v70, val_main_cst_18, val_main_v69, val_main_v59, val_main_v58, val_main_cst_14, val_main_v57,
    val_main_v67, val_main_v66, val_main_cst_17, val_main_v65]
  rw [Fin.sum_univ_one]
  simp only [r55 h0 h1 h2 h3 h4 h6, r64 h0 h1 h2 h3 h4 h6, lit_1024, ← EReal.coe_neg, coe_sum, ← EReal.coe_add, coe_div _ n1024]

theorem r74 (i : Fin 2176) (j : Fin 1024) : val_main_v74 x0 x1 x2 x3 x4 x6 x7 (ix2 i j) = (dR H Wg Wu Wd γ D i j : EReal) := by
  pointwise [val_main_v74, val_main_v73, val_main_v68]
  rw [r55 h0 h1 h2 h3 h4 h6, r64 h0 h1 h2 h3 h4 h6, r72 h0 h1 h2 h3 h4 h6, ← EReal.coe_add, ← EReal.coe_add]
  exact congrArg _ (refDr_eq (D i) (res H Wg Wu Wd i) γ j)

/-! ## The network's gradients -/

theorem r76 (i : Fin 2176) (j : Fin 1024) : val_main_v76 x0 x1 x2 x3 x4 x6 x7 (ix2 i j) = (dF H Wg Wu Wd γ D i j : EReal) := by
  pointwise [val_main_v76, val_main_v75, val_main_cst_20]
  rw [r74 h0 h1 h2 h3 h4 h6, lit_half, ← EReal.coe_mul]
  rfl

theorem r79 (i : Fin 2176) (f : Fin 2816) : val_main_v79 x0 x1 x2 x3 x4 x6 x7 (ix2 i f) = (dA H Wg Wu Wd γ D i f : EReal) := by
  pointwise [val_main_v79]
  exact sum_mul_val (r76 h0 h1 h2 h3 h4 h6 i) (h3 f)

theorem r80 (i : Fin 2176) (f : Fin 2816) : val_main_v80 x0 x1 x2 x3 x4 x6 x7 (ix2 i f) = (dV H Wg Wu Wd γ D i f : EReal) := by
  pointwise [val_main_v80]
  rw [r3_0 h0 h1, r79 h0 h1 h2 h3 h4 h6, ← EReal.coe_mul]
  exact congrArg _ (refV_eq _ _)

theorem r85 (i : Fin 2176) (f : Fin 2816) : val_main_v85 x0 x1 x2 x3 x4 x6 x7 (ix2 i f) = (dU H Wg Wu Wd γ D i f : EReal) := by
  pointwise [val_main_v85, val_main_call1_v0, val_main_call1_v1, val_main_call1_v2, val_main_v81]
  rw [r79 h0 h1 h2 h3 h4 h6, r4 h0 h2, r3_2 h0 h1, r2 h0 h1, r3_1 h0 h1]
  simp only [← EReal.coe_mul, ← EReal.coe_add]
  exact congrArg _ (refU_eq _ _ _)

theorem r92 (i : Fin 2176) (j : Fin 1024) : val_main_v92 x0 x1 x2 x3 x4 x6 x7 (ix2 i j) = (gH H Wg Wu Wd γ D i j : EReal) := by
  pointwise [val_main_v92, val_main_v89, val_main_v84, val_main_v88, val_main_v91, val_main_v90, val_main_cst_21]
  simp only [r80 h0 h1 h2 h3 h4 h6, r85 h0 h1 h2 h3 h4 h6, r74 h0 h1 h2 h3 h4 h6, h1, h2, lit_alpha, ← EReal.coe_mul, coe_sum, ← EReal.coe_add]
  refine congrArg _ ?_
  unfold gH
  ring

theorem r94 (f : Fin 2816) (j : Fin 1024) : val_main_v94 x0 x1 x2 x3 x4 x6 x7 (ix2 f j) = (gWg H Wg Wu Wd γ D f j : EReal) := by
  pointwise [val_main_v94, val_main_v93, val_main_v87, val_main_v86]
  refine (sum_mul_val (fun i => r85 h0 h1 h2 h3 h4 h6 i f) fun i => h0 i j).trans ?_
  exact congrArg _ (Finset.sum_congr rfl fun i _ => mul_comm _ _)

theorem r96 (f : Fin 2816) (j : Fin 1024) : val_main_v96 x0 x1 x2 x3 x4 x6 x7 (ix2 f j) = (gWu H Wg Wu Wd γ D f j : EReal) := by
  pointwise [val_main_v96, val_main_v95, val_main_v83, val_main_v82]
  refine (sum_mul_val (fun i => r80 h0 h1 h2 h3 h4 h6 i f) fun i => h0 i j).trans ?_
  exact congrArg _ (Finset.sum_congr rfl fun i _ => mul_comm _ _)

theorem r97 (f : Fin 2816) (j : Fin 1024) : val_main_v97 x0 x1 x2 x3 x4 x6 x7 (ix2 f j) = (gWd H Wg Wu Wd γ D f j : EReal) := by
  pointwise [val_main_v97, val_main_v78, val_main_v77]
  exact sum_mul_val (fun i => r76 h0 h1 h2 h3 h4 h6 i j) fun i => r5 h0 h1 h2 i f

end Back

end Cert.Reference2Ideal.Read

end
-- ==== Proof.Finite2.lean ====
module

public import proofs.«01_k».proof.Proof.Gen.Pre_finite2
public import Idealize.ShloMosaic.Lib.ReduceAll
public import Idealize.ShloMosaic.Lib.Pointwise

@[expose] public section

/-!
  # What the precondition says, the gradient coming in two parts

  The printed predicate says of every argument but the shift that each of its entries is a real number.
-/

noncomputable section

namespace Cert.Pre_finite2

open Idealize.ShloMosaic Cert.Pre_finite2.Gen

theorem lit_inf : Ideal.ofBits .f32 0x7F800000#32 = ⊤ := by simp [Ideal.ofBits, Ideal.ieee]

/-- An extended real whose absolute value is under infinity is a real number. -/
theorem real_of_abs_lt (x : EReal) (h : max x (-x) < ⊤) : ∃ r : ℝ, x = r := by
  induction x with
  | bot => simp at h
  | top => simp at h
  | coe r => exact ⟨r, rfl⟩

/-- An array all of whose absolute values compare under infinity holds reals. -/
theorem real_of_all {s : Shape} {axes : List (Fin s.rank)} (x : FVec Ideal s .f32) (hb : S_.BroadcastsInDim s (![] : Fin 0 → Fin s.rank)) (h : s.ReducesTo axes S_)
    (j : S_.Idx) (e : Host.reduce IntOp.andi (cmpf .olt (Host.absf x) (broadcastInDim s ![] hb (constant S_ .f32 0x7F800000#32))) (constantI S_ 1 1#1) h h_S_ j = 1#1)
    (i : s.Idx) : ∃ r : ℝ, x i = r := by
  have : Subsingleton S_.Idx := ⟨fun a b => funext fun k => k.elim0⟩
  have e' := Host.reduce_andi_all _ _ _ _ j e i
  refine real_of_abs_lt (x i) ?_
  rw [← lit_inf]
  by_contra hn
  have : BitVec.ofBool (decide (max (x i) (-(x i)) < Ideal.ofBits .f32 0x7F800000#32)) = 1#1 := e'
  rw [decide_eq_false hn] at this
  exact absurd this (by decide)

variable {x0 x6 x7 : FVec Ideal S2176x1024 .f32} {x1 x2 : FVec Ideal S1024x2816 .f32} {x3 : FVec Ideal S2816x1024 .f32} {x4 x5 : FVec Ideal S1024 .f32}

/-- The seven arrays the predicate reads hold reals. -/
theorem reals (h : fn (F := Ideal) x0 x1 x2 x3 x4 x5 x6 x7 = fun _ => 1#1) :
    (∀ i, ∃ r : ℝ, x0 i = r) ∧ (∀ i, ∃ r : ℝ, x1 i = r) ∧ (∀ i, ∃ r : ℝ, x2 i = r) ∧ (∀ i, ∃ r : ℝ, x3 i = r) ∧ (∀ i, ∃ r : ℝ, x4 i = r)
      ∧ (∀ i, ∃ r : ℝ, x6 i = r) ∧ ∀ i, ∃ r : ℝ, x7 i = r := by
  have j : S_.Idx := fun k => k.elim0
  have e := congrFun h j
  unfold fn fn_part1 at e
  obtain ⟨e, e7⟩ := IntOp.andi_eq_one.1 e
  obtain ⟨e, e6⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all x0 _ _ j e0, real_of_all x1 _ _ j e1, real_of_all x2 _ _ j e2, real_of_all x3 _ _ j e3, real_of_all x4 _ _ j e4, real_of_all x6 _ _ j e6,
    real_of_all x7 _ _ j e7⟩

end Cert.Pre_finite2

end
-- ==== Proof.Algebraic2.lean ====
module

public import proofs.«01_k».proof.Defs
public import proofs.«01_k».proof.Proof.Algebraic
public import proofs.«01_k».proof.Proof.KernelValue2
public import proofs.«01_k».proof.Proof.RefValue2
public import proofs.«01_k».proof.Proof.Finite2
public import proofs.«01_k».proof.Proof.Gen.Reference2Ideal.Run

@[expose] public section

/-!
  # The kernel and the reference agree over the reals, the gradient coming in two parts

  Both leave the model's six gradients.
-/

noncomputable section

namespace Cert.Proof.Two

open Idealize.ShloMosaic Idealize.ShloMosaic.TcCoe Idealize.SL.Sem Ffn.Real

section Kernel
open Cert.Kernel2Ideal Cert.Kernel2Ideal.Gen

variable (m : (ℓ : Loc nD τ sig) → Buf (Elt Ideal) ℓ)

/-- The arguments of one device, as reals. -/
def H (c : Dev nD) (i : Fin 2176) (j : Fin 1024) : ℝ := vals (m ((c : Thread nD τ).loc main_arg0)) (ix2 i j)
def Wg (c : Dev nD) (j : Fin 1024) (f : Fin 2816) : ℝ := vals (m ((c : Thread nD τ).loc main_arg1)) (ix2 j f)
def Wu (c : Dev nD) (j : Fin 1024) (f : Fin 2816) : ℝ := vals (m ((c : Thread nD τ).loc main_arg2)) (ix2 j f)
def Wd (c : Dev nD) (f : Fin 2816) (j : Fin 1024) : ℝ := vals (m ((c : Thread nD τ).loc main_arg3)) (ix2 f j)
def γ (c : Dev nD) (j : Fin 1024) : ℝ := vals (m ((c : Thread nD τ).loc main_arg4)) (ix1 j)
def D (c : Dev nD) (i : Fin 2176) (j : Fin 1024) : ℝ := vals (m ((c : Thread nD τ).loc main_arg6)) (ix2 i j)
def E (c : Dev nD) (i : Fin 2176) (j : Fin 1024) : ℝ := vals (m ((c : Thread nD τ).loc main_arg7)) (ix2 i j)

variable {m}

theorem args (h : Cert.Pre_Kernel2Ideal_finite2 m) (c : Dev nD) : Args m c (H m c) (Wg m c) (Wu m c) (Wd m c) (γ m c) (D m c) (E m c) := by
  obtain ⟨h0, h1, h2, h3, h4, h6, h7⟩ := Cert.Pre_finite2.reals (h c)
  exact ⟨fun i j => vals_eq h0 _, fun i j => vals_eq h1 _, fun i j => vals_eq h2 _, fun i j => vals_eq h3 _, fun j => vals_eq h4 _, fun i j => vals_eq h6 _,
    fun i j => vals_eq h7 _⟩

/-- The kernel's run, its six results the model's gradients. -/
theorem kernel_run (h : Cert.Pre_Kernel2Ideal_finite2 m) (ρ : Dev nD → PrngReg) :
    θ_run defs (onTc (τ := τ) (main (F := Ideal))) ⟨m, fun _ => 0, ρ⟩ (fun r => ∀ c : Dev nD,
      r.2.mem ((c.tc : Thread nD τ).loc main_v23_0) = arr2 (gH (H m c) (Wg m c) (Wu m c) (Wd m c) (γ m c) (mix (D m c) (E m c)))
      ∧ r.2.mem ((c.tc : Thread nD τ).loc main_v23_1) = arr2 (gWg (H m c) (Wg m c) (Wu m c) (Wd m c) (γ m c) (mix (D m c) (E m c)))
      ∧ r.2.mem ((c.tc : Thread nD τ).loc main_v23_2) = arr2 (gWu (H m c) (Wg m c) (Wu m c) (Wd m c) (γ m c) (mix (D m c) (E m c)))
      ∧ r.2.mem ((c.tc : Thread nD τ).loc main_v23_3) = arr2 (gWd (H m c) (Wg m c) (Wu m c) (Wd m c) (γ m c) (mix (D m c) (E m c)))
      ∧ r.2.mem ((c.tc : Thread nD τ).loc main_v23_4) = (arr2 fun (_ : Fin 1) => gG (H m c) (Wg m c) (Wu m c) (Wd m c) (mix (D m c) (E m c)))
      ∧ r.2.mem ((c.tc : Thread nD τ).loc main_v23_5) = arr2 fun (_ : Fin 1) => gB (mix (D m c) (E m c))) :=
  (θ_run defs _ _).mono (fun r hr c => ⟨(hr.1.written c (by decide)).trans (out_dh (args h c)),
      ((hr.1.1 c).1 6).trans (out6 (args h c)), ((hr.1.1 c).1 7).trans (out7 (args h c)), ((hr.1.1 c).1 8).trans (out8 (args h c)),
      ((hr.1.1 c).1 9).trans (out9 (args h c)), ((hr.1.1 c).1 10).trans (out10 (args h c))⟩) (run_main m ρ)

end Kernel

/-! ## The reference -/

section Reference
open Cert.Reference2Ideal Cert.Reference2Ideal.Read
open Cert.Kernel2Ideal.Gen (mix)

variable (m : (ℓ : Loc nD τ sig) → Buf (Elt Ideal) ℓ) (c : Dev nD)

/-- What the reference is given on one device, read as reals. -/
structure RefArgs (H : Fin 2176 → Fin 1024 → ℝ) (Wg Wu : Fin 1024 → Fin 2816 → ℝ) (Wd : Fin 2816 → Fin 1024 → ℝ) (γ : Fin 1024 → ℝ)
    (D E : Fin 2176 → Fin 1024 → ℝ) : Prop where
  h : ∀ i j, m ((c.tc : Thread nD τ).loc main_arg0) (ix2 i j) = (H i j : EReal)
  wg : ∀ j f, m ((c.tc : Thread nD τ).loc main_arg1) (ix2 j f) = (Wg j f : EReal)
  wu : ∀ j f, m ((c.tc : Thread nD τ).loc main_arg2) (ix2 j f) = (Wu j f : EReal)
  wd : ∀ f j, m ((c.tc : Thread nD τ).loc main_arg3) (ix2 f j) = (Wd f j : EReal)
  g : ∀ j, m ((c.tc : Thread nD τ).loc main_arg4) (ix1 j) = (γ j : EReal)
  ct : ∀ i j, m ((c.tc : Thread nD τ).loc main_arg6) (ix2 i j) = (D i j : EReal)
  ct2 : ∀ i j, m ((c.tc : Thread nD τ).loc main_arg7) (ix2 i j) = (E i j : EReal)

variable {m} {H : Dev nD → Fin 2176 → Fin 1024 → ℝ} {Wg Wu : Dev nD → Fin 1024 → Fin 2816 → ℝ} {Wd : Dev nD → Fin 2816 → Fin 1024 → ℝ}
  {γ : Dev nD → Fin 1024 → ℝ} {D E : Dev nD → Fin 2176 → Fin 1024 → ℝ}

/-- The reference's run, its six results the model's gradients. -/
theorem ref_run (A : ∀ c, RefArgs m c (H c) (Wg c) (Wu c) (Wd c) (γ c) (D c) (E c)) (ρ : Dev nD → PrngReg) :
    θ_run defs (onTc (τ := τ) (main (F := Ideal))) ⟨m, fun _ => 0, ρ⟩ (fun r => ∀ c : Dev nD,
      r.2.mem ((c.tc : Thread nD τ).loc main_v92) = arr2 (gH (H c) (Wg c) (Wu c) (Wd c) (γ c) (mix (D c) (E c)))
      ∧ r.2.mem ((c.tc : Thread nD τ).loc main_v94) = arr2 (gWg (H c) (Wg c) (Wu c) (Wd c) (γ c) (mix (D c) (E c)))
      ∧ r.2.mem ((c.tc : Thread nD τ).loc main_v96) = arr2 (gWu (H c) (Wg c) (Wu c) (Wd c) (γ c) (mix (D c) (E c)))
      ∧ r.2.mem ((c.tc : Thread nD τ).loc main_v97) = arr2 (gWd (H c) (Wg c) (Wu c) (Wd c) (γ c) (mix (D c) (E c)))
      ∧ r.2.mem ((c.tc : Thread nD τ).loc main_v98) = (arr2 fun (_ : Fin 1) => gG (H c) (Wg c) (Wu c) (Wd c) (mix (D c) (E c)))
      ∧ r.2.mem ((c.tc : Thread nD τ).loc main_v99) = arr2 fun (_ : Fin 1) => gB (mix (D c) (E c))) := by
  refine (θ_run defs _ _).mono (fun r h c => ?_) (Cert.Reference2Ideal.Value.run m ρ)
  obtain ⟨h92, h94, h96, h97, h98, h99, -⟩ := h c
  have a0 := (A c).h
  have a1 := (A c).wg
  have a2 := (A c).wu
  have a3 := (A c).wd
  have a4 := (A c).g
  have a6 := r41 (A c).ct (A c).ct2
  refine ⟨h92.trans ((val_main_v92_eq _).trans (arr2_of (r92 a0 a1 a2 a3 a4 a6))), h94.trans ((val_main_v94_eq _).trans (arr2_of (r94 a0 a1 a2 a3 a4 a6))),
    h96.trans ((val_main_v96_eq _).trans (arr2_of (r96 a0 a1 a2 a3 a4 a6))), h97.trans ((val_main_v97_eq _).trans (arr2_of (r97 a0 a1 a2 a3 a4 a6))),
    h98.trans ((val_main_v98_eq _).trans (arr2_of fun i j => ?_)), h99.trans ((val_main_v99_eq _).trans (arr2_of fun i j => ?_))⟩
  · rw [Fin.fin_one_eq_zero i]
    exact r98 a0 a1 a2 a3 a6 j
  · rw [Fin.fin_one_eq_zero i]
    exact r99 a6 j

end Reference

/-! ## The claim -/

open Cert.Kernel2Ideal.Gen (mix)

theorem algebraic : @Cert.algebraic_Kernel2Ideal_Reference2Ideal_pre_finite2 Cert.Kernel2Ideal.Gen.facts Cert.Reference2Ideal.Gen.facts Cert.Pre_finite2.Gen.facts := by
  intro m ρ m' ρ' hp hm
  have hk := θ_run_and (kernel_run hp ρ) (Cert.Kernel2Ideal.Gen.frame_any m ρ)
  have A : ∀ c, RefArgs m' c (H m c) (Wg m c) (Wu m c) (Wd m c) (γ m c) (D m c) (E m c) := fun c => by
    obtain ⟨e0, e1, e2, e3, e4, -, e6, e7⟩ := hm c
    have a := args hp c
    exact ⟨fun i j => (congrFun e0 _).trans (a.h i j), fun i j => (congrFun e1 _).trans (a.wg i j), fun i j => (congrFun e2 _).trans (a.wu i j),
      fun i j => (congrFun e3 _).trans (a.wd i j), fun j => (congrFun e4 _).trans (a.g j), fun i j => (congrFun e6 _).trans (a.ct i j),
      fun i j => (congrFun e7 _).trans (a.ct2 i j)⟩
  have hr := θ_run_and (ref_run A ρ') (Cert.Reference2Ideal.Value.run m' ρ')
  refine ⟨fun c => arr2 (gH (H m c) (Wg m c) (Wu m c) (Wd m c) (γ m c) (mix (D m c) (E m c))), fun c => arr2 (gWg (H m c) (Wg m c) (Wu m c) (Wd m c) (γ m c) (mix (D m c) (E m c))), fun c => arr2 (gWu (H m c) (Wg m c) (Wu m c) (Wd m c) (γ m c) (mix (D m c) (E m c))),
    fun c => arr2 (gWd (H m c) (Wg m c) (Wu m c) (Wd m c) (γ m c) (mix (D m c) (E m c))), fun c => arr2 fun (_ : Fin 1) => gG (H m c) (Wg m c) (Wu m c) (Wd m c) (mix (D m c) (E m c)),
    fun c => arr2 fun (_ : Fin 1) => gB (mix (D m c) (E m c)), θ_run_mono hk fun r h c => ?_, θ_run_mono hr fun r h c => ?_⟩
  · obtain ⟨h0, h1, h2, h3, h4, h5⟩ := h.1 c
    exact ⟨h0, h1, h2, h3, h4, h5, h.2.1 c⟩
  · obtain ⟨h0, h1, h2, h3, h4, h5⟩ := h.1 c
    exact ⟨h0, h1, h2, h3, h4, h5, (h.2 c).2.2.2.2.2.2⟩

end Cert.Proof.Two

end
-- ==== Proof.FwdTiles.lean ====
module

public import proofs.«01_k».proof.Proof.Tiles
public import Idealize.ShloMosaic.Lib.VecWindow
public import Idealize.ShloMosaic.Lib.Tactic

@[expose] public section

/-!
  # Blocks of three axes, and results written band by band

  A block with one unit axis in front is cut into bands of `n` rows like a matrix. The module also says what a buffer
  holds once the copies into its four bands have arrived.
-/

noncomputable section

namespace Ffn

open Idealize.ShloMosaic

variable {α : Type}

/-- A block of rows with a unit axis in front. -/
abbrev Blk (m n : ℕ) : Shape := ⟨3, ![1, m, n]⟩

/-- The block whose `k`th band of `n` rows is `g k`. -/
def byMid {N C : ℕ} (n : ℕ) [NeZero n] (g : ℕ → (Blk n C).Idx → α) : (Blk N C).Idx → α :=
  fun y => g ((y 1 : Fin N).val / n) (ix3 (0 : Fin 1) (⟨(y 1 : Fin N).val % n, Nat.mod_lt _ (NeZero.pos n)⟩ : Fin n) (y 2 : Fin C))

theorem byMid_at {N C n : ℕ} [NeZero n] (g : ℕ → (Blk n C).Idx → α) {o : ℕ}
    (inb : ∀ a, (![0, o, 0] : Fin 3 → ℕ) a + (![1, n, C] : Fin 3 → ℕ) a ≤ (Blk N C).size a) (x : (Blk n C).Idx) (ho : o / n * n = o) :
    g (o / n) x = byMid (N := N) n g ((Rect.unit (s := Blk N C) ![0, o, 0] ![1, n, C] inb).emb x) := by
  have hx : (x 1).val < n := (x 1).isLt
  have h0 : (x 0).val < 1 := (x 0).isLt
  have e1 : ((Rect.unit (s := Blk N C) ![0, o, 0] ![1, n, C] inb).emb x 1).val = o / n * n + (x 1).val := by
    show o + 1 * (x 1).val = _; omega
  have e2 : ((Rect.unit (s := Blk N C) ![0, o, 0] ![1, n, C] inb).emb x 2).val = (x 2).val := by
    show 0 + 1 * (x 2).val = _; omega
  have hn : 0 < n := NeZero.pos n
  unfold byMid
  have h1 : ((Rect.unit (s := Blk N C) ![0, o, 0] ![1, n, C] inb).emb x 1).val / n = o / n := by
    rw [e1, Nat.mul_comm, Nat.mul_add_div hn, Nat.div_eq_of_lt hx, Nat.add_zero]
  have h2 : ((Rect.unit (s := Blk N C) ![0, o, 0] ![1, n, C] inb).emb x 1).val % n = (x 1).val := by
    rw [e1, Nat.mul_comm, Nat.mul_add_mod, Nat.mod_eq_of_lt hx]
  rw [h1]
  refine congrArg (g (o / n)) (funext fun a => ?_)
  match a with
  | ⟨0, _⟩ => exact Fin.ext (by show (x 0).val = 0; omega)
  | ⟨1, _⟩ => exact Fin.ext h2.symm
  | ⟨2, _⟩ => exact Fin.ext e2.symm

/-! ## Rows of bands -/

/-- Row `i` of band `k`. -/
def rowOf (n k : ℕ) (i : Fin n) : Fin 2176 := ⟨(k * n + i.val) % 2176, Nat.mod_lt _ (by decide)⟩

theorem rows_at {C n : ℕ} (k : ℕ) (X : (Mat 2176 C).Idx → α) (i : Fin n) (j : Fin C) :
    rows n k X (ix2 i j) = X (ix2 (rowOf n k i) j) := rfl

theorem rowOf_div (n : ℕ) [NeZero n] (i : Fin 2176) (h : i.val % n < n) : rowOf n (i.val / n) ⟨i.val % n, h⟩ = i :=
  Fin.ext (by
    show (i.val / n * n + i.val % n) % 2176 = i.val
    rw [Nat.mul_comm, Nat.div_add_mod, Nat.mod_eq_of_lt i.isLt])

/-! ## A buffer in four bands -/

section Quarters

open Idealize.SL Idealize.SL.RA Idealize.SL.BI
open scoped Idealize.SL.BI
open Idealize.SL.BI.BIBase Idealize.SL.BI.Laws Idealize.SL.Sem

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

theorem quarter_in {o : ℕ} (h : o + 544 ≤ 2176) : ∀ a, (![o, 0] : Fin 2 → ℕ) a + (![544, 1024] : Fin 2 → ℕ) a ≤ (Mat 2176 1024).size a := by
  intro a
  fin_cases a
  · exact h
  · exact Nat.le_refl 1024

/-- One of the four bands of a buffer's rows. -/
abbrev quarter (o : ℕ) (h : o + 544 ≤ 2176 := by decide) : Rect (Mat 2176 1024) := Rect.unit (s := Mat 2176 1024) ![o, 0] ![544, 1024] (quarter_in h)

theorem quarter_disjoint {o o' : ℕ} {h h'} (hd : o + 544 ≤ o' ∨ o' + 544 ≤ o) : Disjoint (quarter o h).set (quarter o' h').set :=
  disjoint_boxes _ _ _ _ _ _ 0 hd

theorem quarter_cover : (quarter 0).set ∪ ((quarter 544).set ∪ ((quarter 1088).set ∪ (quarter 1632).set)) = Finset.univ := by
  refine Finset.eq_univ_iff_forall.mpr fun y => ?_
  have hy : (y 0).val < 2176 := (y 0).isLt
  have hy1 : (y 1).val < 1024 := (y 1).isLt
  have key : ∀ o h, o ≤ (y 0).val → (y 0).val < o + 544 → y ∈ (quarter o h).set := fun o h h1 h2 =>
    Rect.mem_set_unit.mpr fun a => by
      fin_cases a
      · exact ⟨h1, h2⟩
      · exact ⟨Nat.zero_le _, by show (y 1).val < 0 + 1024; omega⟩
  simp only [Finset.mem_union]
  by_cases h1 : (y 0).val < 544
  · exact .inl (key 0 _ (by omega) (by omega))
  by_cases h2 : (y 0).val < 1088
  · exact .inr (.inl (key 544 _ (by omega) (by omega)))
  by_cases h3 : (y 0).val < 1632
  · exact .inr (.inr (.inl (key 1088 _ (by omega) (by omega))))
  · exact .inr (.inr (.inr (key 1632 _ (by omega) (by omega))))

variable (c : Thread nD τ) {e : EltTy} (m : Memref sig c.2.kind .vmem (Mat 2176 1024) e)

/-- The elements of one band of a buffer's rows. -/
abbrev band (o : ℕ) (h : o + 544 ≤ 2176 := by decide) : Finset m.view.ty.Idx :=
  m.view.setOn (Rect.unit (s := Mat 2176 1024) ![o, 0] ![544, 1024] (quarter_in h)).set

theorem band_disjoint {o o' : ℕ} {h h'} (hd : o + 544 ≤ o' ∨ o' + 544 ≤ o) : Disjoint (band c m o h) (band c m o' h') :=
  (Finset.disjoint_map m.view.emb).mpr (quarter_disjoint (h := h) (h' := h') hd)

theorem bands : m.view.set = band c m 0 ∪ (band c m 544 ∪ (band c m 1088 ∪ band c m 1632)) := by
  rw [← View.setOn_univ, ← quarter_cover]
  simp only [View.setOn, Finset.map_union]

/-- A resource put aside for a stretch of a run. -/
def aside (P : sProp 𝕄) : sProp 𝕄 := P

theorem put (P : sProp 𝕄) : P ⊢ aside P := .rfl

theorem take (P : sProp 𝕄) : aside P ⊢ P := .rfl

/-- A buffer of 2176 rows is its four bands. -/
theorem quarters (f : m.view.ty.Contents Val) : (m.view.loc c ↦[m.view.set]{fullShare} f : sProp 𝕄)
    ⊢ iprop((m.view.loc c ↦[band c m 0]{fullShare} f) ∗ (m.view.loc c ↦[band c m 544]{fullShare} f)
        ∗ (m.view.loc c ↦[band c m 1088]{fullShare} f) ∗ (m.view.loc c ↦[band c m 1632]{fullShare} f)) := by
  rw [bands]
  refine (pointsTo_union ?_).1.trans (sep_mono_right ((pointsTo_union ?_).1.trans (sep_mono_right (pointsTo_union ?_).1)))
  · refine Finset.disjoint_union_right.mpr ⟨band_disjoint c m (by decide), Finset.disjoint_union_right.mpr ⟨band_disjoint c m (by decide), band_disjoint c m (by decide)⟩⟩
  · exact Finset.disjoint_union_right.mpr ⟨band_disjoint c m (by decide), band_disjoint c m (by decide)⟩
  · exact band_disjoint c m (by decide)

/-- Four bands are a buffer of 2176 rows. -/
theorem quarters_join (f0 f1 f2 f3 : m.view.ty.Contents Val) :
    iprop((m.view.loc c ↦[band c m 0]{fullShare} f0) ∗ (m.view.loc c ↦[band c m 544]{fullShare} f1)
        ∗ (m.view.loc c ↦[band c m 1088]{fullShare} f2) ∗ (m.view.loc c ↦[band c m 1632]{fullShare} f3))
      ⊢ (iprop(∃ f, m.view.loc c ↦[m.view.set]{fullShare} f) : sProp 𝕄) := by
  rw [bands]
  iintro ⟨H0, H1, H2, H3⟩
  iexists _
  iapply (pointsTo_join ?_)
  · refine Finset.disjoint_union_right.mpr ⟨band_disjoint c m (by decide), Finset.disjoint_union_right.mpr ⟨band_disjoint c m (by decide), band_disjoint c m (by decide)⟩⟩
  isplitl [H0]; · iexact H0
  iapply (pointsTo_join ?_)
  · exact Finset.disjoint_union_right.mpr ⟨band_disjoint c m (by decide), band_disjoint c m (by decide)⟩
  isplitl [H1]; · iexact H1
  iapply (pointsTo_join ?_)
  · exact band_disjoint c m (by decide)
  isplitl [H2]; · iexact H2
  iexact H3

end Quarters

end Ffn

end
-- ==== Proof.FwdLoads.lean ====
module

public import proofs.«01_k».proof.Proof.FwdTiles
public import Idealize.ShloMosaic.Lib.Tactic

@[expose] public section

/-!
  # Loads and copies of a band of 544 rows

  What a load or a copy reads after the stores and copies before it. The normalised and the plain forward call use the
  same buffers, so these facts are stated once for both.
-/

noncomputable section

namespace Ffn

open Idealize.ShloMosaic

/-- A buffer of two bands. -/
abbrev Slots : Shape := ⟨3, ![2, 544, 1024]⟩

theorem numel3 : (Mat 544 1024).numel = (Blk 544 1024).numel := by decide

section Loads
variable {sig : RefSig} {Val : EltTy → Type} {e : EltTy}

/-- A load reads the band last copied into its slot; the copy of the next band into the other slot does not show. -/
theorem load3_0 (v : View sig .tc .vmem Slots e) (i0 i1 q0 q1) (f : v.ty.Contents Val) (x y : (Mat 544 1024).Idx → Val e) :
    v.readAt Val (Rect.unit (s := Slots) ![0, 0, 0] (Blk 544 1024).size i0).toLoadRect
      (((v.slice (Rect.unit (s := Slots) ![1, 0, 0] (Blk 544 1024).size i1)).reshape (Mat 544 1024) q1).write Val (((v.slice (Rect.unit (s := Slots) ![0, 0, 0] (Blk 544 1024).size i0)).reshape (Mat 544 1024) q0).write Val f x Finset.univ) y Finset.univ) = up numel3 x :=
  load_slot_under v _ _ q0 q1 (disjoint_boxes _ _ _ _ _ _ 0 (.inl (by decide))) f x y

theorem load3_1 (v : View sig .tc .vmem Slots e) (i0 i1 q0 q1) (f : v.ty.Contents Val) (x y : (Mat 544 1024).Idx → Val e) :
    v.readAt Val (Rect.unit (s := Slots) ![1, 0, 0] (Blk 544 1024).size i1).toLoadRect
      (((v.slice (Rect.unit (s := Slots) ![0, 0, 0] (Blk 544 1024).size i0)).reshape (Mat 544 1024) q0).write Val (((v.slice (Rect.unit (s := Slots) ![1, 0, 0] (Blk 544 1024).size i1)).reshape (Mat 544 1024) q1).write Val f x Finset.univ) y Finset.univ) = up numel3 x :=
  load_slot_under v _ _ q1 q0 (disjoint_boxes _ _ _ _ _ _ 0 (.inr (by decide))) f x y

theorem load3_top (v : View sig .tc .vmem Slots e) (k i0 q0) (f : v.ty.Contents Val) (x : (Mat 544 1024).Idx → Val e) :
    v.readAt Val (Rect.unit (s := Slots) ![k, 0, 0] (Blk 544 1024).size i0).toLoadRect (((v.slice (Rect.unit (s := Slots) ![k, 0, 0] (Blk 544 1024).size i0)).reshape (Mat 544 1024) q0).write Val f x Finset.univ) = up numel3 x :=
  load_slot v _ q0 f x

/-- A copied band is the band of the source. -/
theorem copied_band {sp : Space} (v : View sig .tc sp (Mat 2176 1024) e) (o : ℕ) (inb) (f : v.ty.Contents Val) :
    ReadAs.same.apply (View.read (s := (Mat 544 1024)) Val (v.slice (Rect.unit (s := (Mat 2176 1024)) ![o, 0] (Mat 544 1024).size inb)) f)
      = rowsFrom (N := 2176) (C := 1024) 544 o (v.read Val f) :=
  funext fun x => unit_rowsFrom (N := 2176) (C := 1024) (n := 544) (v.read Val f) inb x

/-- A load of a whole buffer with known contents. -/
theorem load_whole {S : Shape} (M : Memref sig .tc .vmem S e) (hM : M.IsWhole) (X : S.Idx → Val e) {off : Fin S.rank → ℕ} (inb) :
    M.view.readAt Val (Rect.unit (s := S) off S.size inb).toLoadRect (hM.unread X) = X := by
  rw [View.readAt_full, hM.read_unread]

/-- A load of 544 rows of a buffer with known contents. -/
theorem load_rows (M : Memref sig .tc .vmem (Mat 2176 1024) e) (hM : M.IsWhole) (X : (Mat 2176 1024).Idx → Val e) (o : ℕ) (inb) :
    M.view.readAt Val (Rect.unit (s := (Mat 2176 1024)) ![o, 0] (Mat 544 1024).size inb).toLoadRect (hM.unread X)
      = rowsFrom (N := 2176) (C := 1024) 544 o X := by
  funext x
  refine Eq.trans ?_ (unit_rowsFrom (N := 2176) (C := 1024) (n := 544) X inb x)
  exact congrFun (hM.read_unread X) _

/-- A load of 544 rows of a buffer that the stores before it have covered. -/
theorem load_rows_covered [∀ e, Nonempty (Val e)] (v : View sig .tc .vmem (Mat 2176 1024) e) (L : List (View.Piece Val (Mat 2176 1024) e)) (G : (Mat 2176 1024).Idx → Val e)
    (hL : ∀ p ∈ L, ∀ x, p.2 x = G (p.1.emb x)) (hc : ∀ y, ∃ p ∈ L, y ∈ p.1.set) (o : ℕ) (inb) :
    v.readCov L (Rect.unit (s := (Mat 2176 1024)) ![o, 0] (Mat 544 1024).size inb).toLoadRect = rowsFrom (N := 2176) (C := 1024) 544 o G := by
  funext x
  refine Eq.trans ?_ (unit_rowsFrom (N := 2176) (C := 1024) (n := 544) G inb x)
  exact congrFun (read_writes_of_pieces v _ L G hL hc) _

/-- A load of the rows stored last. -/
theorem load_new [∀ e, Nonempty (Val e)] (v : View sig .tc .vmem (Mat 2176 1024) e) (L : List (View.Piece Val (Mat 2176 1024) e)) (o : ℕ) (inb) (w) :
    v.readCov (⟨Rect.unit (s := (Mat 2176 1024)) ![o, 0] (Mat 544 1024).size inb, w⟩ :: L) (Rect.unit (s := (Mat 2176 1024)) ![o, 0] (Mat 544 1024).size inb).toLoadRect = w :=
  View.read_write_univ (v := v.slice (Rect.unit (s := (Mat 2176 1024)) ![o, 0] (Mat 544 1024).size inb)) _ _

/-- A copy of the rows stored last. -/
theorem copied_new (v : View sig .tc .vmem (Mat 2176 1024) e) (f : v.ty.Contents Val) (L : List (View.Piece Val (Mat 2176 1024) e)) (o : ℕ) (inb) (w) :
    ReadAs.same.apply (View.read (s := (Mat 544 1024)) Val (v.slice (Rect.unit (s := (Mat 2176 1024)) ![o, 0] (Mat 544 1024).size inb))
      (v.writes Val f (⟨Rect.unit (s := (Mat 2176 1024)) ![o, 0] (Mat 544 1024).size inb, w⟩ :: L))) = w :=
  View.read_write_univ (v := v.slice (Rect.unit (s := (Mat 2176 1024)) ![o, 0] (Mat 544 1024).size inb)) _ _

/-- A store into rows above does not show in a load of 544 rows. -/
theorem load_rows_past [∀ e, Nonempty (Val e)] (v : View sig .tc .vmem (Mat 2176 1024) e) (L : List (View.Piece Val (Mat 2176 1024) e)) (o o' : ℕ) (inb inb') (w)
    (h : o' + 544 ≤ o) :
    v.readCov (⟨Rect.unit (s := (Mat 2176 1024)) ![o', 0] (Mat 544 1024).size inb', w⟩ :: L) (Rect.unit (s := (Mat 2176 1024)) ![o, 0] (Mat 544 1024).size inb).toLoadRect
      = v.readCov L (Rect.unit (s := (Mat 2176 1024)) ![o, 0] (Mat 544 1024).size inb).toLoadRect := by
  refine View.readAt_writes_of_forall_not_mem v (v.writes Val v.junk L) [_] _ fun j p hp hm => ?_
  obtain rfl := List.mem_singleton.mp hp
  refine Finset.disjoint_left.mp (disjoint_boxes (s := (Mat 2176 1024)) ![o, 0] (Mat 544 1024).size ![o', 0] (Mat 544 1024).size inb inb' 0 (.inr h)) ?_ hm
  rw [← Rect.map_emb_univ]
  exact Finset.mem_map_of_mem _ (Finset.mem_univ j)

/-- What is read back when the newest four stores cover the buffer. -/
theorem read_newest [∀ e, Nonempty (Val e)] (v : View sig .tc .vmem (Mat 2176 1024) e) (f : v.ty.Contents Val) (p q r s : View.Piece Val (Mat 2176 1024) e)
    (L : List (View.Piece Val (Mat 2176 1024) e)) (G : (Mat 2176 1024).Idx → Val e)
    (hL : ∀ a ∈ [p, q, r, s], ∀ x, a.2 x = G (a.1.emb x)) (hc : ∀ y, ∃ a ∈ [p, q, r, s], y ∈ a.1.set) :
    v.read Val (v.writes Val f (p :: q :: r :: s :: L)) = G :=
  read_writes_of_pieces v (v.writes Val f L) [p, q, r, s] G hL hc

end Loads

end Ffn

end
-- ==== Proof.Chunk3.lean ====
module

public import proofs.«01_k».proof.Proof.Gen.Kernel3Ideal.Skeleton
public import proofs.«01_k».proof.Proof.Gen.Kernel3Ideal.Frame
public import proofs.«01_k».proof.Proof.FwdLoads

@[expose] public section

/-!
  # What the normalised forward call computes from a band of 544 rows

  The first grid point makes the block's input band by band; every point adds its 256 hidden columns' share to the
  accumulated rows and writes the two pre-activations; the last point normalises the rows. The functions here are the
  operations of the first band; every other band does the same ones.
-/

noncomputable section

namespace Cert.Kernel3Ideal.Gen

open Idealize.ShloMosaic Idealize.ShloMosaic.TcCoe Ffn
open Idealize.SL Idealize.SL.RA Idealize.SL.BI
open scoped Idealize.SL.BI
open Idealize.SL.BI.BIBase Idealize.SL.BI.Laws Idealize.SL.Sem

variable {F : FTy → Type} [FloatOps F]

local notation "𝕄" => MT nD τ sig Unit (Elt F) ℕ (Pipeline.UD sig nD τ) ℕ

/-- The contents of the buffer a memref names. -/
abbrev Cont (c : Dev nD) {sp : Space} {S : Shape} {e : EltTy} (M : Memref sig .tc sp S e) : Type :=
  Buf (Elt F) (M.view.loc (c : Thread nD τ))

/-- The whole buffer a memref names, holding `f`. -/
abbrev holds (c : Dev nD) {sp : Space} {S : Shape} {e : EltTy} (M : Memref sig .tc sp S e) (f : Cont (F := F) c M) : sProp 𝕄 :=
  M.view.loc (c : Thread nD τ) ↦{fullShare} f

/-- What an array holds after stores, given what is read back from it. -/
theorem stored (c : Dev nD) (r : Ref sig .tc) (f : Cont (F := F) c (Memref.whole r)) (L) (X : Cont (F := F) c (Memref.whole r))
    (h : (Memref.whole r).view.read (Elt F) ((Memref.whole r).view.writes (Elt F) f L) = X) :
    (holds c (Memref.whole r) ((Memref.whole r).view.writes (Elt F) f L) : sProp 𝕄) ⊢ holds c (Memref.whole r) X := by
  subst h; exact .rfl

/-- A band of rows as the kernel loads it from a slot of a two-slot buffer. -/
abbrev up3 {e : EltTy} (x : Vec F S544x1024 e) : Vec F S1x544x1024 e := up numel3 x

variable (X : Vec F S2176x1024 .f32) (g b : Vec F S1x1024 .f32) (h : Vec F S2176x1024 .bf16)
  (wg wu wd : Vec F S256x1024 .bf16) (acc : Vec F S2176x1024 .f32)

/-- The scaled input the accumulation starts from. -/
def inAcc : Vec F S2176x1024 .f32 := byRows (N := 2176) (C := 1024) 544 fun k => k0_pay9 (k0_pay4 g) (k0_pay5 b) (k0_pay6 (up3 (rows 544 k X))) (k0_pay7 (up3 (rows 544 k X)))

/-- The block's input in the narrow format. -/
def inHb : Vec F S2176x1024 .bf16 := byRows (N := 2176) (C := 1024) 544 fun k => k0_pay10 (k0_pay4 g) (k0_pay5 b) (k0_pay6 (up3 (rows 544 k X))) (k0_pay7 (up3 (rows 544 k X)))

/-- The gated pre-activation of this point's 256 columns. -/
def allU : Vec F S1x2176x256 .bf16 := byMid (N := 2176) (C := 256) 544 fun k => k0_pay23 (rows (N := 2176) (C := 1024) 544 k h) wg

/-- The linear pre-activation of this point's 256 columns. -/
def allV : Vec F S1x2176x256 .bf16 := byMid (N := 2176) (C := 256) 544 fun k => k0_pay24 (rows (N := 2176) (C := 1024) 544 k h) wu

/-- The accumulated rows with this point's share added. -/
def nextAcc : Vec F S2176x1024 .f32 := byRows (N := 2176) (C := 1024) 544 fun k =>
  k0_pay26 (k0_pay25 (rows (N := 2176) (C := 1024) 544 k h) wg wu (rows (N := 2176) (C := 1024) 544 k acc) wd)

/-- The normalised rows. -/
def allOut (acc : Vec F S2176x1024 .f32) (go bo : Vec F S1x1024 .f32) : Vec F S2176x1024 .bf16 := byRows (N := 2176) (C := 1024) 544 fun k => k0_pay51 (rows (N := 2176) (C := 1024) 544 k acc) go bo

/-- The word that says whether the point is the grid's first. -/
abbrev firstWord (i : grid0.Coords) : BitVec 1 :=
  Scalar.cmpi .ne (Scalar.extui (Scalar.cmpi .eq (BitVec.ofNat 32 (i 0).val) 0#32)) 0#32

end Cert.Kernel3Ideal.Gen

end
-- ==== Proof.Entry3.lean ====
module

public import proofs.«01_k».proof.Proof.Chunk3
public import proofs.«01_k».proof.Proof.Gen.Kernel3Ideal.Points
public import Idealize.ShloMosaic.Lib.Pipeline.FrameValue

@[expose] public section

/-!
  # What the launch hands the grid

  The buffers the kernel's body names at a grid point, the cells it signals on, and the launch's invariant written out
  over them.
-/

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to the grid, over the algebra that counts transfers. -/
theorem hmain_counted (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body takes its first branch at the first point only. -/
theorem at_first (t : Fin cfg0.N) : firstWord (grid0.coords t) = 1#1 ↔ t.val = 0 := by
  have ht : t.val < 11 := Nat.lt_of_lt_of_eq t.isLt N_0
  have e0 : (grid0.coords t 0).val = t.val / 1 % 11 := Pipeline.Grid.coords_val t 0 (by decide) rfl
  refine Iff.trans (b := t.val % 11 = 0) ?_ (by omega)
  simp only [firstWord, e0]
  word_cmp

/-- The body takes its second branch at every point but the last. -/
theorem before_last (t : Fin cfg0.N) : k0_cond2 (grid0.coords t) = 1#1 ↔ t.val ≠ 10 := by
  have ht : t.val < 11 := Nat.lt_of_lt_of_eq t.isLt N_0
  have e0 : (grid0.coords t 0).val = t.val / 1 % 11 := Pipeline.Grid.coords_val t 0 (by decide) rfl
  refine Iff.trans (b := t.val % 11 < 10) ?_ (by omega)
  simp only [k0_cond2, e0]
  word_cmp

/-- The body takes its third branch at the last point only. -/
theorem at_last (t : Fin cfg0.N) : k0_cond3 (grid0.coords t) = 1#1 ↔ t.val = 10 := by
  have ht : t.val < 11 := Nat.lt_of_lt_of_eq t.isLt N_0
  have e0 : (grid0.coords t 0).val = t.val / 1 % 11 := Pipeline.Grid.coords_val t 0 (by decide) rfl
  refine Iff.trans (b := t.val % 11 = 10) ?_ (by omega)
  simp only [k0_cond3, e0]
  word_cmp

abbrev stg0 (t : Fin cfg0.N) : Memref sig .tc .vmem S1x1024 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S1x1024 .f32 := win0_1.stage (cfg0.slots t 1)
abbrev whole1 (t : Fin cfg0.N) : (stg1 t).IsWhole := hstage0_1 ((cfg0.slots t 1).cast nbuf0_1)
abbrev stg2 (t : Fin cfg0.N) : Memref sig .tc .vmem S1x1024 .f32 := win0_2.stage (cfg0.slots t 2)
abbrev whole2 (t : Fin cfg0.N) : (stg2 t).IsWhole := hstage0_2 ((cfg0.slots t 2).cast nbuf0_2)
abbrev stg3 (t : Fin cfg0.N) : Memref sig .tc .vmem S1x1024 .f32 := win0_3.stage (cfg0.slots t 3)
abbrev whole3 (t : Fin cfg0.N) : (stg3 t).IsWhole := hstage0_3 ((cfg0.slots t 3).cast nbuf0_3)
abbrev stg4 (t : Fin cfg0.N) : Memref sig .tc .vmem S256x1024 .bf16 := win0_4.stage (cfg0.slots t 4)
abbrev whole4 (t : Fin cfg0.N) : (stg4 t).IsWhole := hstage0_4 ((cfg0.slots t 4).cast nbuf0_4)
abbrev stg5 (t : Fin cfg0.N) : Memref sig .tc .vmem S256x1024 .bf16 := win0_5.stage (cfg0.slots t 5)
abbrev whole5 (t : Fin cfg0.N) : (stg5 t).IsWhole := hstage0_5 ((cfg0.slots t 5).cast nbuf0_5)
abbrev stg6 (t : Fin cfg0.N) : Memref sig .tc .vmem S256x1024 .bf16 := win0_6.stage (cfg0.slots t 6)
abbrev whole6 (t : Fin cfg0.N) : (stg6 t).IsWhole := hstage0_6 ((cfg0.slots t 6).cast nbuf0_6)
abbrev stg7 (t : Fin cfg0.N) : Memref sig .tc .vmem S1x2176x256 .bf16 := win0_7.stage (cfg0.slots t 7)
abbrev whole7 (t : Fin cfg0.N) : (stg7 t).IsWhole := hstage0_7 ((cfg0.slots t 7).cast nbuf0_7)
abbrev stg8 (t : Fin cfg0.N) : Memref sig .tc .vmem S1x2176x256 .bf16 := win0_8.stage (cfg0.slots t 8)
abbrev whole8 (t : Fin cfg0.N) : (stg8 t).IsWhole := hstage0_8 ((cfg0.slots t 8).cast nbuf0_8)

abbrev sc0 : Memref sig .tc .vmem S2176x1024 .f32 := Memref.whole cc0_scratch0
abbrev sc1 : Memref sig .tc .vmem S2176x1024 .bf16 := Memref.whole cc0_scratch1
abbrev sc2 : Memref sig .tc .vmem S2x544x1024 .f32 := Memref.whole cc0_scratch2

/-- The cells the body signals its own transfers on. -/
abbrev ownCells : Fin 10 → SemLoc sig := ![SemLoc.dma 14, SemLoc.dma 15, SemLoc.dma 16, SemLoc.dma 17, SemLoc.dma 18, SemLoc.dma 19, SemLoc.dma 20, SemLoc.dma 21, SemLoc.dma 22, SemLoc.dma 23]

theorem ownCells_facts : Pipeline.OwnSemFacts spec0 ownCells := by decide

/-- The operand the body only reads, by its own transfers. -/
def readRefs : Finset (Ref sig .tc) := {main_arg0}
/-- The results the body writes, by its own transfers. -/
def sentRefs : Finset (Ref sig .tc) := {main_v9_2, main_v9_3}

theorem readRefs_sub : readRefs ⊆ Pipeline.restRefs sig spec0 := by decide
theorem sentRefs_sub : sentRefs ⊆ Pipeline.restRefs sig spec0 \ readRefs := by decide

theorem ownCells_eq (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) := by
  rw [Pipeline.ownSems0_eq_of_list c ownCells [0, 1, 2, 3, 4, 5, 6, 7, 8, 9] (by decide) (by decide)]; rfl

theorem readRefs_eq (c : Dev nD) :
    (bigSep readRefs (fun b => ((c : Thread nD τ).loc b) ↦{fullShare} V m c b) : sProp 𝕄) = holds c (Memref.whole main_arg0) (V m c main_arg0) := by
  rw [BI.bigSep_eq_bigSepL_of_eq [main_arg0] (by decide) (by decide)]; rfl

theorem sentRefs_eq (c : Dev nD) (G : (b : Ref sig .tc) → Buf (Elt F) ((c : Thread nD τ).loc b)) :
    (Pipeline.routed sentRefs c G : sProp 𝕄) = iprop(holds c (Memref.whole main_v9_2) (G main_v9_2) ∗ holds c (Memref.whole main_v9_3) (G main_v9_3)) := by
  unfold Pipeline.routed; rw [BI.bigSep_eq_bigSepL_of_eq [main_v9_2, main_v9_3] (by decide) (by decide)]; rfl

/-- The launch's invariant, conjunct by conjunct: the scratch buffers at any contents, the generator register, the cells
    at zero, the operand read, and the results at given contents. -/
theorem entry_eq (c : Dev nD) (G : (c : Dev nD) → (b : Ref sig .tc) → Buf (Elt F) ((c : Thread nD τ).loc b)) :
    (Pipeline.ΦDRG ownCells spec0 readRefs sentRefs (V m) G c : sProp 𝕄)
      = iprop(iprop((∃ d, owns (c : Thread nD τ) sc0 fullShare d) ∗ (∃ d, owns (c : Thread nD τ) sc1 fullShare d) ∗ (∃ d, owns (c : Thread nD τ) sc2 fullShare d))
          ∗ (∃ r, prngReg c r)
          ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0)
          ∗ holds c (Memref.whole main_arg0) (V m c main_arg0)
          ∗ iprop(holds c (Memref.whole main_v9_2) (G c main_v9_2) ∗ holds c (Memref.whole main_v9_3) (G c main_v9_3))) := by
  rw [Pipeline.ΦDRG_eq, scopedRest0_eq, ownCells_eq, readRefs_eq, sentRefs_eq]; simp only [sc0, sc1, sc2, owns_whole]; try rfl

end Cert.Kernel3Ideal.Gen

end
-- ==== Proof.RunA3.lean ====
module

public import proofs.«01_k».proof.Proof.Chunk3
public import proofs.«01_k».proof.Proof.Gen.Kernel3Ideal.Frame
public import Idealize.ShloMosaic.Lib.Tactic

@[expose] public section

/-!
  # The first grid point
-/

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn

variable {F : FTy → Type} [FloatOps F]

local notation "𝕄" => MT nD τ sig Unit (Elt F) ℕ (Pipeline.UD sig nD τ) ℕ

set_option maxHeartbeats 5396000 in
set_option sl_exec.dmaWindow true in
set_option sl_exec.dmaWindowSet true in
theorem runA (c : Dev nD) (i : grid0.Coords)
    (arg2 : Memref sig .tc .vmem S1x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S256x1024 .bf16) (harg6 : arg6.IsWhole)
    (arg7 : Memref sig .tc .vmem S256x1024 .bf16) (harg7 : arg7.IsWhole)
    (arg8 : Memref sig .tc .vmem S256x1024 .bf16) (harg8 : arg8.IsWhole)
    (arg9 : Memref sig .tc .vmem S1x2176x256 .bf16) (harg9 : arg9.IsWhole)
    (arg10 : Memref sig .tc .vmem S1x2176x256 .bf16) (harg10 : arg10.IsWhole)
    (arg13 : Memref sig .tc .vmem S2176x1024 .f32) (harg13 : arg13.IsWhole)
    (arg14 : Memref sig .tc .vmem S2176x1024 .bf16) (harg14 : arg14.IsWhole)
    (arg15 : Memref sig .tc .vmem S2x544x1024 .f32) (harg15 : arg15.IsWhole)
    (hc0 : firstWord i = 1#1) (hc1 : k0_cond2 i = 1#1) (hc2 : ¬ k0_cond3 i = 1#1)
    (g b : Vec F S1x1024 .f32) (wg wu wd : Vec F S256x1024 .bf16) (X : Cont (F := F) c (Memref.whole main_arg0)) (W : Waits sig Unit) (K : PUnit → sProp 𝕄) :
    iprop(owns (c : Thread nD τ) arg2 fullShare g ∗
      owns (c : Thread nD τ) arg3 fullShare b ∗
      owns (c : Thread nD τ) arg6 fullShare wg ∗
      owns (c : Thread nD τ) arg7 fullShare wu ∗
      owns (c : Thread nD τ) arg8 fullShare wd ∗
      (∃ d, owns (c : Thread nD τ) arg9 fullShare d) ∗
      (∃ d, owns (c : Thread nD τ) arg10 fullShare d) ∗
      (∃ d, owns (c : Thread nD τ) arg13 fullShare d) ∗
      (∃ d, owns (c : Thread nD τ) arg14 fullShare d) ∗
      (∃ d, owns (c : Thread nD τ) arg15 fullShare d) ∗
      semVal ((c : Thread nD τ), SemLoc.dma 14) 0 ∗
      semVal ((c : Thread nD τ), SemLoc.dma 15) 0 ∗
      holds c (Memref.whole main_arg0) X ∗
      owes (c : Thread nD τ) 0 W ∗
      (iprop(owns (c : Thread nD τ) arg2 fullShare g ∗
        owns (c : Thread nD τ) arg3 fullShare b ∗
        owns (c : Thread nD τ) arg6 fullShare wg ∗
        owns (c : Thread nD τ) arg7 fullShare wu ∗
        owns (c : Thread nD τ) arg8 fullShare wd ∗
        owns (c : Thread nD τ) arg9 fullShare (allU (inHb X g b) wg) ∗
        owns (c : Thread nD τ) arg10 fullShare (allV (inHb X g b) wu) ∗
        owns (c : Thread nD τ) arg13 fullShare (nextAcc (inHb X g b) wg wu wd (inAcc X g b)) ∗
        owns (c : Thread nD τ) arg14 fullShare (inHb X g b) ∗
        (∃ d, owns (c : Thread nD τ) arg15 fullShare d) ∗
        semVal ((c : Thread nD τ), SemLoc.dma 14) 0 ∗
        semVal ((c : Thread nD τ), SemLoc.dma 15) 0 ∗
        holds c (Memref.whole main_arg0) X ∗
        (∃ W', owes (c : Thread nD τ) 0 W')) -∗ K ⟨⟩))
    ⊢ wp frame (wpE (defs₀ (F := F)) Variants.none c none) Set.univ
        (cc0_ffn_fwd_seq i (Memref.whole main_arg0) (Memref.isWhole_whole _) arg2 harg2 arg3 harg3 arg4 harg4 arg5 harg5 arg6 harg6 arg7 harg7 arg8 harg8 arg9 harg9 arg10 harg10 (Memref.whole main_v9_2) (Memref.isWhole_whole _) (Memref.whole main_v9_3) (Memref.isWhole_whole _) arg13 harg13 arg14 harg14 arg15 harg15 cc0_scratch3 cc0_scratch4) K := by
  simp only [cc0_ffn_fwd_seq_eq_skeleton]; unfold cc0_ffn_fwd_seq_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f2, %hf2, H2⟩, ⟨%f3, %hf3, H3⟩, ⟨%f6, %hf6, H6⟩, ⟨%f7, %hf7, H7⟩, ⟨%f8, %hf8, H8⟩, ⟨%d9, %f9, -, H9⟩, ⟨%d10, %f10, -, H10⟩, ⟨%d13, %f13, -, H13⟩, ⟨%d14, %f14, -, H14⟩, ⟨%d15, %f15, -, H15⟩, Hq0, Hq1, HX, HW, Hk⟩
  obtain rfl := harg2.eq_unread hf2; obtain rfl := harg3.eq_unread hf3; obtain rfl := harg6.eq_unread hf6; obtain rfl := harg7.eq_unread hf7; obtain rfl := harg8.eq_unread hf8
  sl_exec (disch := first | sl_exact hc0 | sl_exact hc1 | sl_exact hc2)
  sl_step
  have hL13 : ∀ p ∈ runA.sl.H13_4 c arg2 harg2 arg3 harg3 arg15 g b X f15, ∀ x, p.2 x = (inAcc X g b) (p.1.emb x) := by
    unfold runA.sl.H13_4
    repeat' refine List.forall_mem_cons.2 ⟨fun x => ?_, ?_⟩
    on_goal 5 => exact fun p hp => absurd hp List.not_mem_nil
    all_goals
      refine Eq.trans ?_ (byRows_at (N := 2176) (C := 1024) (n := 544) _ (by decide) x (by rfl))
      iterate 6 sl_unfold_run_names
      repeat' first | rw [load_whole] | erw [load3_1] | erw [load3_0] | erw [load3_top] | erw [copied_band]
      try rfl
  have hc13 : ∀ y, ∃ p ∈ runA.sl.H13_4 c arg2 harg2 arg3 harg3 arg15 g b X f15, y ∈ p.1.set := View.cover_of_tiled _ ![544, 1024] (by rfl)
  have h13 := load_rows_covered arg13.view (runA.sl.H13_4 c arg2 harg2 arg3 harg3 arg15 g b X f15) (inAcc X g b) hL13 hc13
  have hL14 : ∀ p ∈ runA.sl.H14_4 c arg2 harg2 arg3 harg3 arg15 g b X f15, ∀ x, p.2 x = (inHb X g b) (p.1.emb x) := by
    unfold runA.sl.H14_4
    repeat' refine List.forall_mem_cons.2 ⟨fun x => ?_, ?_⟩
    on_goal 5 => exact fun p hp => absurd hp List.not_mem_nil
    all_goals
      refine Eq.trans ?_ (byRows_at (N := 2176) (C := 1024) (n := 544) _ (by decide) x (by rfl))
      iterate 6 sl_unfold_run_names
      repeat' first | rw [load_whole] | erw [load3_1] | erw [load3_0] | erw [load3_top] | erw [copied_band]
      try rfl
  have hc14 : ∀ y, ∃ p ∈ runA.sl.H14_4 c arg2 harg2 arg3 harg3 arg15 g b X f15, y ∈ p.1.set := View.cover_of_tiled _ ![544, 1024] (by rfl)
  have h14 := load_rows_covered arg14.view (runA.sl.H14_4 c arg2 harg2 arg3 harg3 arg15 g b X f15) (inHb X g b) hL14 hc14
  iapply Hk
  isplitl [H2]
  · iexists _; isplitr; · ipureintro; exact hf2
    iexact H2
  isplitl [H3]
  · iexists _; isplitr; · ipureintro; exact hf3
    iexact H3
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  on_goal 2 => isplitl [H10]
  iterate 2
    · iexists _; isplitr
      swap; · first | iexact H9 | iexact H10
      ipureintro
      refine read_writes_of_pieces _ _ _ _ ?_ (View.cover_of_tiled _ ![1, 544, 256] (by rfl))
      repeat' refine List.forall_mem_cons.2 ⟨fun x => ?_, ?_⟩
      on_goal 5 => exact fun p hp => absurd hp List.not_mem_nil
      all_goals
        refine Eq.trans ?_ (byMid_at (N := 2176) (C := 256) (n := 544) _ (by decide) x (by rfl))
        repeat' first | rw [h14] | rw [h13] | rw [load_whole] | (rw [load_rows_past]; swap; · decide) | unfold runA.sl.v9 | unfold runA.sl.v24 | unfold runA.sl.v24_1 | unfold runA.sl.v44 | unfold runA.sl.v59 | unfold runA.sl.v69 | unfold runA.sl.v79 | unfold runA.sl.v94 | unfold runA.sl.v114 | unfold runA.sl.v114_1 | unfold runA.sl.v129 | unfold runA.sl.v154 | unfold runA.sl.H13_5 | unfold runA.sl.H13_6 | unfold runA.sl.H13_7 | unfold runA.sl.r | unfold runA.sl.r_1 | unfold runA.sl.r_2 | unfold runA.sl.r_3 | unfold runA.sl.r_4 | unfold runA.sl.r_5 | unfold runA.sl.r_6 | unfold runA.sl.r_7 | unfold runA.sl.r_8 | unfold runA.sl.r_9 | unfold runA.sl.r_10 | unfold runA.sl.r_11 | unfold runA.sl.r_12
        try rfl
  isplitl [H13]
  · iexists _; isplitr
    swap; · iexact H13
    ipureintro
    unfold runA.sl.H13_7 runA.sl.H13_6 runA.sl.H13_5
    refine read_newest _ _ _ _ _ _ _ _ ?_ (View.cover_of_tiled _ ![544, 1024] (by rfl))
    repeat' refine List.forall_mem_cons.2 ⟨fun x => ?_, ?_⟩
    on_goal 5 => exact fun p hp => absurd hp List.not_mem_nil
    all_goals
      refine Eq.trans ?_ (byRows_at (N := 2176) (C := 1024) (n := 544) _ (by decide) x (by rfl))
      repeat' first | rw [h14] | rw [h13] | rw [load_whole] | (rw [load_rows_past]; swap; · decide) | unfold runA.sl.v9 | unfold runA.sl.v24 | unfold runA.sl.v24_1 | unfold runA.sl.v44 | unfold runA.sl.v59 | unfold runA.sl.v69 | unfold runA.sl.v79 | unfold runA.sl.v94 | unfold runA.sl.v114 | unfold runA.sl.v114_1 | unfold runA.sl.v129 | unfold runA.sl.v154 | unfold runA.sl.H13_5 | unfold runA.sl.H13_6 | unfold runA.sl.H13_7 | unfold runA.sl.r | unfold runA.sl.r_1 | unfold runA.sl.r_2 | unfold runA.sl.r_3 | unfold runA.sl.r_4 | unfold runA.sl.r_5 | unfold runA.sl.r_6 | unfold runA.sl.r_7 | unfold runA.sl.r_8 | unfold runA.sl.r_9 | unfold runA.sl.r_10 | unfold runA.sl.r_11 | unfold runA.sl.r_12
      try rfl
  isplitl [H14]
  · iexists _; isplitr
    swap; · iexact H14
    ipureintro
    exact read_writes_of_pieces _ _ _ _ hL14 hc14
  isplitl [H15]
  · iexists _, _; isplitr; swap; · iexact H15
    ipureintro; rfl
  iframe Hq0 Hq1 HX
  iexists _; iexact HW

end Cert.Kernel3Ideal.Gen

end
-- ==== Proof.RunB3.lean ====
module

public import proofs.«01_k».proof.Proof.Chunk3
public import proofs.«01_k».proof.Proof.Gen.Kernel3Ideal.Frame
public import Idealize.ShloMosaic.Lib.Tactic

@[expose] public section

/-!
  # A grid point that is neither the first nor the last
-/

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn

variable {F : FTy → Type} [FloatOps F]

local notation "𝕄" => MT nD τ sig Unit (Elt F) ℕ (Pipeline.UD sig nD τ) ℕ

set_option maxHeartbeats 5396000 in
set_option sl_exec.dmaWindow true in
set_option sl_exec.dmaWindowSet true in
theorem runB (c : Dev nD) (i : grid0.Coords)
    (arg2 : Memref sig .tc .vmem S1x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S256x1024 .bf16) (harg6 : arg6.IsWhole)
    (arg7 : Memref sig .tc .vmem S256x1024 .bf16) (harg7 : arg7.IsWhole)
    (arg8 : Memref sig .tc .vmem S256x1024 .bf16) (harg8 : arg8.IsWhole)
    (arg9 : Memref sig .tc .vmem S1x2176x256 .bf16) (harg9 : arg9.IsWhole)
    (arg10 : Memref sig .tc .vmem S1x2176x256 .bf16) (harg10 : arg10.IsWhole)
    (arg13 : Memref sig .tc .vmem S2176x1024 .f32) (harg13 : arg13.IsWhole)
    (arg14 : Memref sig .tc .vmem S2176x1024 .bf16) (harg14 : arg14.IsWhole)
    (arg15 : Memref sig .tc .vmem S2x544x1024 .f32) (harg15 : arg15.IsWhole)
    (hc0 : ¬ firstWord i = 1#1) (hc1 : k0_cond2 i = 1#1) (hc2 : ¬ k0_cond3 i = 1#1)
    (wg wu wd : Vec F S256x1024 .bf16) (acc : Vec F S2176x1024 .f32) (h : Vec F S2176x1024 .bf16) (K : PUnit → sProp 𝕄) :
    iprop(owns (c : Thread nD τ) arg6 fullShare wg ∗
      owns (c : Thread nD τ) arg7 fullShare wu ∗
      owns (c : Thread nD τ) arg8 fullShare wd ∗
      (∃ d, owns (c : Thread nD τ) arg9 fullShare d) ∗
      (∃ d, owns (c : Thread nD τ) arg10 fullShare d) ∗
      owns (c : Thread nD τ) arg13 fullShare acc ∗
      owns (c : Thread nD τ) arg14 fullShare h ∗
      (iprop(owns (c : Thread nD τ) arg6 fullShare wg ∗
        owns (c : Thread nD τ) arg7 fullShare wu ∗
        owns (c : Thread nD τ) arg8 fullShare wd ∗
        owns (c : Thread nD τ) arg9 fullShare (allU h wg) ∗
        owns (c : Thread nD τ) arg10 fullShare (allV h wu) ∗
        owns (c : Thread nD τ) arg13 fullShare (nextAcc h wg wu wd acc) ∗
        owns (c : Thread nD τ) arg14 fullShare h) -∗ K ⟨⟩))
    ⊢ wp frame (wpE (defs₀ (F := F)) Variants.none c none) Set.univ
        (cc0_ffn_fwd_seq i (Memref.whole main_arg0) (Memref.isWhole_whole _) arg2 harg2 arg3 harg3 arg4 harg4 arg5 harg5 arg6 harg6 arg7 harg7 arg8 harg8 arg9 harg9 arg10 harg10 (Memref.whole main_v9_2) (Memref.isWhole_whole _) (Memref.whole main_v9_3) (Memref.isWhole_whole _) arg13 harg13 arg14 harg14 arg15 harg15 cc0_scratch3 cc0_scratch4) K := by
  simp only [cc0_ffn_fwd_seq_eq_skeleton]; unfold cc0_ffn_fwd_seq_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f6, %hf6, H6⟩, ⟨%f7, %hf7, H7⟩, ⟨%f8, %hf8, H8⟩, ⟨%d9, %f9, -, H9⟩, ⟨%d10, %f10, -, H10⟩, ⟨%f13, %hf13, H13⟩, ⟨%f14, %hf14, H14⟩, Hk⟩
  obtain rfl := harg6.eq_unread hf6; obtain rfl := harg7.eq_unread hf7; obtain rfl := harg8.eq_unread hf8; obtain rfl := harg13.eq_unread hf13; obtain rfl := harg14.eq_unread hf14
  sl_exec (disch := first | sl_exact hc0 | sl_exact hc1 | sl_exact hc2)
  sl_step
  iapply Hk
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr
    swap; · iexact H9
    ipureintro
    refine read_writes_of_pieces _ _ _ _ ?_ (View.cover_of_tiled _ ![1, 544, 256] (by rfl))
    repeat' refine List.forall_mem_cons.2 ⟨fun x => ?_, ?_⟩
    on_goal 5 => exact fun p hp => absurd hp List.not_mem_nil
    all_goals
      refine Eq.trans ?_ (byMid_at (N := 2176) (C := 256) (n := 544) _ (by decide) x (by rfl))
      iterate 8 sl_unfold_run_names
      repeat' first | rw [load_whole] | rw [load_rows]
      try rfl
  isplitl [H10]
  · iexists _; isplitr
    swap; · iexact H10
    ipureintro
    refine read_writes_of_pieces _ _ _ _ ?_ (View.cover_of_tiled _ ![1, 544, 256] (by rfl))
    repeat' refine List.forall_mem_cons.2 ⟨fun x => ?_, ?_⟩
    on_goal 5 => exact fun p hp => absurd hp List.not_mem_nil
    all_goals
      refine Eq.trans ?_ (byMid_at (N := 2176) (C := 256) (n := 544) _ (by decide) x (by rfl))
      iterate 8 sl_unfold_run_names
      repeat' first | rw [load_whole] | rw [load_rows]
      try rfl
  isplitl [H13]
  · iexists _; isplitr
    swap; · iexact H13
    ipureintro
    refine read_writes_of_pieces _ _ _ _ ?_ (View.cover_of_tiled _ ![544, 1024] (by rfl))
    repeat' refine List.forall_mem_cons.2 ⟨fun x => ?_, ?_⟩
    on_goal 5 => exact fun p hp => absurd hp List.not_mem_nil
    all_goals
      refine Eq.trans ?_ (byRows_at (N := 2176) (C := 1024) (n := 544) _ (by decide) x (by rfl))
      iterate 8 sl_unfold_run_names
      repeat' first | rw [load_whole] | rw [load_rows]
      try rfl
  iexists _; isplitr; · ipureintro; exact hf14
  iexact H14

end Cert.Kernel3Ideal.Gen

end
-- ==== Proof.RunC3.lean ====
module

public import proofs.«01_k».proof.Proof.Chunk3
public import proofs.«01_k».proof.Proof.Gen.Kernel3Ideal.Frame
public import Idealize.ShloMosaic.Lib.Tactic

@[expose] public section

/-!
  # The last grid point
-/

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn

variable {F : FTy → Type} [FloatOps F]

local notation "𝕄" => MT nD τ sig Unit (Elt F) ℕ (Pipeline.UD sig nD τ) ℕ

set_option maxHeartbeats 5396000 in
set_option sl_exec.dmaWindow true in
set_option sl_exec.dmaWindowSet true in
set_option sl_exec.lendShare "H13a, H13b, H13c, H13d" in
theorem runC (c : Dev nD) (i : grid0.Coords)
    (arg2 : Memref sig .tc .vmem S1x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S256x1024 .bf16) (harg6 : arg6.IsWhole)
    (arg7 : Memref sig .tc .vmem S256x1024 .bf16) (harg7 : arg7.IsWhole)
    (arg8 : Memref sig .tc .vmem S256x1024 .bf16) (harg8 : arg8.IsWhole)
    (arg9 : Memref sig .tc .vmem S1x2176x256 .bf16) (harg9 : arg9.IsWhole)
    (arg10 : Memref sig .tc .vmem S1x2176x256 .bf16) (harg10 : arg10.IsWhole)
    (arg13 : Memref sig .tc .vmem S2176x1024 .f32) (harg13 : arg13.IsWhole)
    (arg14 : Memref sig .tc .vmem S2176x1024 .bf16) (harg14 : arg14.IsWhole)
    (arg15 : Memref sig .tc .vmem S2x544x1024 .f32) (harg15 : arg15.IsWhole)
    (hc0 : ¬ firstWord i = 1#1) (hc1 : ¬ k0_cond2 i = 1#1) (hc2 : k0_cond3 i = 1#1)
    (go bo : Vec F S1x1024 .f32) (wg wu wd : Vec F S256x1024 .bf16) (acc : Vec F S2176x1024 .f32) (h : Vec F S2176x1024 .bf16) (W : Waits sig Unit) (K : PUnit → sProp 𝕄) :
    iprop(owns (c : Thread nD τ) arg4 fullShare go ∗
      owns (c : Thread nD τ) arg5 fullShare bo ∗
      owns (c : Thread nD τ) arg6 fullShare wg ∗
      owns (c : Thread nD τ) arg7 fullShare wu ∗
      owns (c : Thread nD τ) arg8 fullShare wd ∗
      (∃ d, owns (c : Thread nD τ) arg9 fullShare d) ∗
      (∃ d, owns (c : Thread nD τ) arg10 fullShare d) ∗
      owns (c : Thread nD τ) arg13 fullShare acc ∗
      owns (c : Thread nD τ) arg14 fullShare h ∗
      semVal ((c : Thread nD τ), SemLoc.dma 16) 0 ∗
      semVal ((c : Thread nD τ), SemLoc.dma 17) 0 ∗
      semVal ((c : Thread nD τ), SemLoc.dma 18) 0 ∗
      semVal ((c : Thread nD τ), SemLoc.dma 19) 0 ∗
      semVal ((c : Thread nD τ), SemLoc.dma 20) 0 ∗
      semVal ((c : Thread nD τ), SemLoc.dma 21) 0 ∗
      semVal ((c : Thread nD τ), SemLoc.dma 22) 0 ∗
      semVal ((c : Thread nD τ), SemLoc.dma 23) 0 ∗
      (∃ f, holds c (Memref.whole main_v9_2) f) ∗
      (∃ f, holds c (Memref.whole main_v9_3) f) ∗
      owes (c : Thread nD τ) 0 W ∗
      (iprop(owns (c : Thread nD τ) arg4 fullShare go ∗
        owns (c : Thread nD τ) arg5 fullShare bo ∗
        owns (c : Thread nD τ) arg6 fullShare wg ∗
        owns (c : Thread nD τ) arg7 fullShare wu ∗
        owns (c : Thread nD τ) arg8 fullShare wd ∗
        owns (c : Thread nD τ) arg9 fullShare (allU h wg) ∗
        owns (c : Thread nD τ) arg10 fullShare (allV h wu) ∗
        (∃ d, owns (c : Thread nD τ) arg13 fullShare d) ∗
        (∃ d, owns (c : Thread nD τ) arg14 fullShare d) ∗
        semVal ((c : Thread nD τ), SemLoc.dma 16) 0 ∗
        semVal ((c : Thread nD τ), SemLoc.dma 17) 0 ∗
        semVal ((c : Thread nD τ), SemLoc.dma 18) 0 ∗
        semVal ((c : Thread nD τ), SemLoc.dma 19) 0 ∗
        semVal ((c : Thread nD τ), SemLoc.dma 20) 0 ∗
        semVal ((c : Thread nD τ), SemLoc.dma 21) 0 ∗
        semVal ((c : Thread nD τ), SemLoc.dma 22) 0 ∗
        semVal ((c : Thread nD τ), SemLoc.dma 23) 0 ∗
        holds c (Memref.whole main_v9_2) (nextAcc h wg wu wd acc) ∗
        holds c (Memref.whole main_v9_3) (allOut (nextAcc h wg wu wd acc) go bo) ∗
        (∃ W', owes (c : Thread nD τ) 0 W')) -∗ K ⟨⟩))
    ⊢ wp frame (wpE (defs₀ (F := F)) Variants.none c none) Set.univ
        (cc0_ffn_fwd_seq i (Memref.whole main_arg0) (Memref.isWhole_whole _) arg2 harg2 arg3 harg3 arg4 harg4 arg5 harg5 arg6 harg6 arg7 harg7 arg8 harg8 arg9 harg9 arg10 harg10 (Memref.whole main_v9_2) (Memref.isWhole_whole _) (Memref.whole main_v9_3) (Memref.isWhole_whole _) arg13 harg13 arg14 harg14 arg15 harg15 cc0_scratch3 cc0_scratch4) K := by
  simp only [cc0_ffn_fwd_seq_eq_skeleton]; unfold cc0_ffn_fwd_seq_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f13, %hf13, H13⟩, ⟨%f14, %hf14, H14⟩, Hq0, Hq1, Hq2, Hq3, Hq4, Hq5, Hq6, Hq7, ⟨%fr, Hr⟩, ⟨%fy, Hy⟩, HW, Hk⟩
  obtain rfl := harg4.eq_unread hf4; obtain rfl := harg5.eq_unread hf5; obtain rfl := harg6.eq_unread hf6; obtain rfl := harg7.eq_unread hf7; obtain rfl := harg8.eq_unread hf8; obtain rfl := harg13.eq_unread hf13; obtain rfl := harg14.eq_unread hf14
  ihave H13q := Ffn.quarters (c : Thread nD τ) arg13 _ $$ H13
  icases H13q with ⟨H13a, H13b, H13c, H13d⟩
  unfold Ffn.band
  ihave G13b := Ffn.put _ $$ H13b
  ihave G13c := Ffn.put _ $$ H13c
  ihave G13d := Ffn.put _ $$ H13d
  sl_exec (disch := first | sl_exact hc0 | sl_exact hc1 | sl_exact hc2)
  ihave G13a := Ffn.put _ $$ H13a
  ihave H13b := Ffn.take _ $$ G13b
  sl_exec
  ihave G13b := Ffn.put _ $$ H13b
  ihave H13c := Ffn.take _ $$ G13c
  sl_exec
  ihave G13c := Ffn.put _ $$ H13c
  ihave H13d := Ffn.take _ $$ G13d
  set_option sl_exec.stopBefore "k0_part18_skel" in sl_exec
  ihave H13a := Ffn.take _ $$ G13a
  ihave H13b := Ffn.take _ $$ G13b
  ihave H13c := Ffn.take _ $$ G13c
  sl_exec
  sl_step
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  on_goal 2 => isplitl [H10]
  iterate 2
    · iexists _; isplitr
      swap; · first | iexact H9 | iexact H10
      ipureintro
      refine read_writes_of_pieces _ _ _ _ ?_ (View.cover_of_tiled _ ![1, 544, 256] (by rfl))
      repeat' refine List.forall_mem_cons.2 ⟨fun x => ?_, ?_⟩
      on_goal 5 => exact fun p hp => absurd hp List.not_mem_nil
      all_goals
        refine Eq.trans ?_ (byMid_at (N := 2176) (C := 256) (n := 544) _ (by decide) x (by rfl))
        repeat' first | rw [load_whole] | rw [load_rows] | rw [copied_new] | rw [load_new] | unfold runC.sl.H13a_1 | unfold runC.sl.H13b_1 | unfold runC.sl.H13c_1 | unfold runC.sl.H13d_1 | unfold runC.sl.H14_1 | unfold runC.sl.H14_2 | unfold runC.sl.H14_3 | unfold runC.sl.H14_4 | unfold runC.sl.cst_154 | unfold runC.sl.dma2 | unfold runC.sl.dma4 | unfold runC.sl.dma4_1 | unfold runC.sl.dma4_2 | unfold runC.sl.dma9 | unfold runC.sl.dma9_1 | unfold runC.sl.dma11 | unfold runC.sl.dma16 | unfold runC.sl.r | unfold runC.sl.r_1 | unfold runC.sl.r_2 | unfold runC.sl.r_3 | unfold runC.sl.r_4 | unfold runC.sl.r_5 | unfold runC.sl.r_6 | unfold runC.sl.r_7 | unfold runC.sl.r_8 | unfold runC.sl.r_9 | unfold runC.sl.r_10 | unfold runC.sl.r_11 | unfold runC.sl.r_12 | unfold runC.sl.r_13 | unfold runC.sl.r_14 | unfold runC.sl.r_15 | unfold runC.sl.r_16 | unfold runC.sl.r_17 | unfold runC.sl.r_18 | unfold runC.sl.v48 | unfold runC.sl.v81 | unfold runC.sl.v96 | unfold runC.sl.v120 | unfold runC.sl.v153 | unfold runC.sl.v168 | unfold runC.sl.v192 | unfold runC.sl.v225 | unfold runC.sl.v240 | unfold runC.sl.v264
        try rfl
  isplitl [H13a H13b H13c H13d]
  · ihave H13 := Ffn.quarters_join (c : Thread nD τ) arg13 _ _ _ _ $$ [H13a H13b H13c H13d]
    · iframe H13a H13b H13c H13d
    icases H13 with ⟨%g13, H13⟩
    iexists _, _; isplitr; swap; · iexact H13
    ipureintro; rfl
  isplitl [H14]
  · iexists _, _; isplitr; swap; · iexact H14
    ipureintro; rfl
  iframe Hq0 Hq1 Hq2 Hq3 Hq4 Hq5 Hq6 Hq7
  isplitl [Hr]
  · ihave Gr := stored c main_v9_2 _ _ (nextAcc h wg wu wd acc) ?_ $$ Hr
    swap; · iexact Gr
    refine read_writes_of_pieces _ _ _ _ ?_ (View.cover_of_tiled _ ![544, 1024] (by rfl))
    repeat' refine List.forall_mem_cons.2 ⟨fun x => ?_, ?_⟩
    on_goal 5 => exact fun p hp => absurd hp List.not_mem_nil
    all_goals
      refine Eq.trans ?_ (byRows_at (N := 2176) (C := 1024) (n := 544) _ (by decide) x (by rfl))
      repeat' first | rw [load_whole] | rw [load_rows] | rw [copied_new] | rw [load_new] | unfold runC.sl.H13a_1 | unfold runC.sl.H13b_1 | unfold runC.sl.H13c_1 | unfold runC.sl.H13d_1 | unfold runC.sl.H14_1 | unfold runC.sl.H14_2 | unfold runC.sl.H14_3 | unfold runC.sl.H14_4 | unfold runC.sl.cst_154 | unfold runC.sl.dma2 | unfold runC.sl.dma4 | unfold runC.sl.dma4_1 | unfold runC.sl.dma4_2 | unfold runC.sl.dma9 | unfold runC.sl.dma9_1 | unfold runC.sl.dma11 | unfold runC.sl.dma16 | unfold runC.sl.r | unfold runC.sl.r_1 | unfold runC.sl.r_2 | unfold runC.sl.r_3 | unfold runC.sl.r_4 | unfold runC.sl.r_5 | unfold runC.sl.r_6 | unfold runC.sl.r_7 | unfold runC.sl.r_8 | unfold runC.sl.r_9 | unfold runC.sl.r_10 | unfold runC.sl.r_11 | unfold runC.sl.r_12 | unfold runC.sl.r_13 | unfold runC.sl.r_14 | unfold runC.sl.r_15 | unfold runC.sl.r_16 | unfold runC.sl.r_17 | unfold runC.sl.r_18 | unfold runC.sl.v48 | unfold runC.sl.v81 | unfold runC.sl.v96 | unfold runC.sl.v120 | unfold runC.sl.v153 | unfold runC.sl.v168 | unfold runC.sl.v192 | unfold runC.sl.v225 | unfold runC.sl.v240 | unfold runC.sl.v264
      try rfl
  isplitl [Hy]
  · ihave Gy := stored c main_v9_3 _ _ (allOut (nextAcc h wg wu wd acc) go bo) ?_ $$ Hy
    swap; · iexact Gy
    refine read_writes_of_pieces _ _ _ _ ?_ (View.cover_of_tiled _ ![544, 1024] (by rfl))
    repeat' refine List.forall_mem_cons.2 ⟨fun x => ?_, ?_⟩
    on_goal 5 => exact fun p hp => absurd hp List.not_mem_nil
    all_goals
      refine Eq.trans ?_ (byRows_at (N := 2176) (C := 1024) (n := 544) _ (by decide) x (by rfl))
      beta_reduce
      rw [nextAcc, rows_byRows _ _ (by decide)]
      repeat' first | rw [load_whole] | rw [load_rows] | rw [copied_new] | rw [load_new] | unfold runC.sl.H13a_1 | unfold runC.sl.H13b_1 | unfold runC.sl.H13c_1 | unfold runC.sl.H13d_1 | unfold runC.sl.H14_1 | unfold runC.sl.H14_2 | unfold runC.sl.H14_3 | unfold runC.sl.H14_4 | unfold runC.sl.cst_154 | unfold runC.sl.dma2 | unfold runC.sl.dma4 | unfold runC.sl.dma4_1 | unfold runC.sl.dma4_2 | unfold runC.sl.dma9 | unfold runC.sl.dma9_1 | unfold runC.sl.dma11 | unfold runC.sl.dma16 | unfold runC.sl.r | unfold runC.sl.r_1 | unfold runC.sl.r_2 | unfold runC.sl.r_3 | unfold runC.sl.r_4 | unfold runC.sl.r_5 | unfold runC.sl.r_6 | unfold runC.sl.r_7 | unfold runC.sl.r_8 | unfold runC.sl.r_9 | unfold runC.sl.r_10 | unfold runC.sl.r_11 | unfold runC.sl.r_12 | unfold runC.sl.r_13 | unfold runC.sl.r_14 | unfold runC.sl.r_15 | unfold runC.sl.r_16 | unfold runC.sl.r_17 | unfold runC.sl.r_18 | unfold runC.sl.v48 | unfold runC.sl.v81 | unfold runC.sl.v96 | unfold runC.sl.v120 | unfold runC.sl.v153 | unfold runC.sl.v168 | unfold runC.sl.v192 | unfold runC.sl.v225 | unfold runC.sl.v240 | unfold runC.sl.v264
      try rfl
  iexists _; iexact HW

end Cert.Kernel3Ideal.Gen

end
-- ==== Proof.Grid3.lean ====
module

public import Idealize.ShloMosaic.Lib.Pipeline.TableIdle
public import proofs.«01_k».proof.Proof.Entry3
public import proofs.«01_k».proof.Proof.RunA3
public import proofs.«01_k».proof.Proof.RunB3
public import proofs.«01_k».proof.Proof.RunC3

@[expose] public section

/-!
  # The grid

  What each grid point leaves in the kernel's windows and scratch buffers, and the body's triple at every point.
-/

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! The blocks a point is given: the scales and shifts, and the three weights. -/
abbrev gib (c : Dev nD) (t : Fin cfg0.N) : Vec F S1x1024 .f32 := iblk m c 0 t
abbrev bib (c : Dev nD) (t : Fin cfg0.N) : Vec F S1x1024 .f32 := iblk m c 1 t
abbrev gob (c : Dev nD) (t : Fin cfg0.N) : Vec F S1x1024 .f32 := iblk m c 2 t
abbrev bob (c : Dev nD) (t : Fin cfg0.N) : Vec F S1x1024 .f32 := iblk m c 3 t
abbrev wgb (c : Dev nD) (t : Fin cfg0.N) : Vec F S256x1024 .bf16 := iblk m c 4 t
abbrev wub (c : Dev nD) (t : Fin cfg0.N) : Vec F S256x1024 .bf16 := iblk m c 5 t
abbrev wdb (c : Dev nD) (t : Fin cfg0.N) : Vec F S256x1024 .bf16 := iblk m c 6 t

/-- The `n`th point. -/
def pt (n : ℕ) : Fin cfg0.N := ⟨n % 11, lt_of_lt_of_eq (Nat.mod_lt _ (by decide)) (show cfg0.N = 11 from N_0).symm⟩
theorem pt_val (t : Fin cfg0.N) : pt t.val = t :=
  Fin.ext (Nat.mod_eq_of_lt (lt_of_lt_of_eq t.isLt (show cfg0.N = 11 from N_0)))

/-- The block's input, as the first point leaves it for all the others. -/
def hAll (c : Dev nD) : Vec F S2176x1024 .bf16 := inHb (V m c main_arg0) (gib m c (pt 0)) (bib m c (pt 0))

/-- The rows as accumulated before the `n`th point. -/
def accAt (c : Dev nD) : ℕ → Vec F S2176x1024 .f32
  | 0 => inAcc (V m c main_arg0) (gib m c (pt 0)) (bib m c (pt 0))
  | n + 1 => nextAcc (hAll m c) (wgb m c (pt n)) (wub m c (pt n)) (wdb m c (pt n)) (accAt c n)

theorem accAt_succ (c : Dev nD) (t : Fin cfg0.N) :
    accAt m c (t.val + 1) = nextAcc (hAll m c) (wgb m c t) (wub m c t) (wdb m c t) (accAt m c t.val) := by
  show nextAcc (hAll m c) (wgb m c (pt t.val)) (wub m c (pt t.val)) (wdb m c (pt t.val)) _ = _
  rw [pt_val]

/-! The two pre-activations' blocks, and the normalised rows. -/
def uB (c : Dev nD) (t : Fin cfg0.N) : Vec F S1x2176x256 .bf16 := allU (hAll m c) (wgb m c t)
def vB (c : Dev nD) (t : Fin cfg0.N) : Vec F S1x2176x256 .bf16 := allV (hAll m c) (wub m c t)
def outY (c : Dev nD) : Vec F S2176x1024 .bf16 := allOut (accAt m c 11) (gob m c (pt 10)) (bob m c (pt 10))

/-- The results of the body's own transfers, and every other buffer as the grid finds it. -/
def G (c : Dev nD) : (b : Ref sig .tc) → Buf (Elt F) ((c : Thread nD τ).loc b) :=
  Function.update (Function.update (fun b => V m c b) main_v9_2 (accAt m c 11)) main_v9_3 (outY m c)
theorem G_y (c : Dev nD) : G m c main_v9_3 = outY m c := Function.update_self ..
theorem G_r (c : Dev nD) : G m c main_v9_2 = accAt m c 11 :=
  (Function.update_of_ne (by decide) ..).trans (Function.update_self ..)

/-- What holds between the points: after the first and before the last, the scratch buffers it filled and the rows so far;
    after the last, the results sent. -/
def between (c : Dev nD) : ℕ → sProp 𝕄
  | 0 => Pipeline.ΦDRG ownCells spec0 readRefs sentRefs (V m) (V m) c
  | n + 1 => iprop(iprop((∃ d, ⌜n + 1 ≠ 11 → d = accAt m c (n + 1)⌝ ∗ owns (c : Thread nD τ) sc0 fullShare d) ∗ (∃ d, ⌜n + 1 ≠ 11 → d = hAll m c⌝ ∗ owns (c : Thread nD τ) sc1 fullShare d) ∗ (∃ d, owns (c : Thread nD τ) sc2 fullShare d))
        ∗ (∃ r, prngReg c r)
        ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0)
        ∗ holds c (Memref.whole main_arg0) (V m c main_arg0)
        ∗ iprop((∃ f, ⌜n + 1 = 11 → f = accAt m c 11⌝ ∗ holds c (Memref.whole main_v9_2) f) ∗ (∃ f, ⌜n + 1 = 11 → f = outY m c⌝ ∗ holds c (Memref.whole main_v9_3) f)))

/-- The proof data: what every point leaves in every window. -/
def dats : (p : Fin 1) → (c : Dev nD) → Dat τ (Elt F) Unit ℕ (Pipeline.UD sig nD τ) ℕ (cfgs p) c := fun _ c =>
  { A := fun w => V m c (Pipeline.arrRef spec0 w)
    after := fun w t => match w with
      | ⟨0, _⟩ => iblk m c 0 t
      | ⟨1, _⟩ => iblk m c 1 t
      | ⟨2, _⟩ => iblk m c 2 t
      | ⟨3, _⟩ => iblk m c 3 t
      | ⟨4, _⟩ => iblk m c 4 t
      | ⟨5, _⟩ => iblk m c 5 t
      | ⟨6, _⟩ => iblk m c 6 t
      | ⟨7, _⟩ => uB m c t
      | ⟨8, _⟩ => vB m c t
    Φ := fun t => between m c t.val
    q := fun _ => fullShare
    owed := fun _ => 0 }

theorem arrays (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = uB m c t := by dsimp only [dats]
theorem after8 (c : Dev nD) (t : Fin cfg0.N) : (dats m 0 c).after 8 t = vB m c t := by dsimp only [dats]

/-- An input window holds its block before the body runs. -/
theorem before_in (c : Dev nD) (t : Fin cfg0.N) :
    (∀ d, (dats m 0 c).before 0 t d = iblk m c 0 t)
    ∧ (∀ d, (dats m 0 c).before 1 t d = iblk m c 1 t)
    ∧ (∀ d, (dats m 0 c).before 2 t d = iblk m c 2 t)
    ∧ (∀ d, (dats m 0 c).before 3 t d = iblk m c 3 t)
    ∧ (∀ d, (dats m 0 c).before 4 t d = iblk m c 4 t)
    ∧ (∀ d, (dats m 0 c).before 5 t d = iblk m c 5 t)
    ∧ (∀ d, (dats m 0 c).before 6 t d = iblk m c 6 t) := by
  refine ⟨?_, ?_, ?_, ?_, ?_, ?_, ?_⟩ <;> intro d <;>
    refine ((dats m 0 c).before_in_eq_fetched _ rfl (fun _ => rfl) (fun _ _ _ => rfl) (fun t => ?_) t d).trans
      (by unfold Dat.fetched Dat.blockOf iblk; rw [arrays]; try rfl) <;>
    first | rw [after0] | rw [after1] | rw [after2] | rw [after3] | rw [after4] | rw [after5] | rw [after6]
  all_goals unfold Dat.blockOf iblk; rw [arrays]; try rfl

theorem busy7 : ∀ t : Fin cfg0.N, cfg0.idle 7 (cfg0.grid.coords t) = false :=
  (by decide +kernel : ∀ t : Fin grid0.N, idle0 7 (grid0.coords t) = false)
theorem busy8 : ∀ t : Fin cfg0.N, cfg0.idle 8 (cfg0.grid.coords t) = false :=
  (by decide +kernel : ∀ t : Fin grid0.N, idle0 8 (grid0.coords t) = false)
/-- What is left in a window that is never idle. -/
theorem leaves_in (c : Dev nD) (t : Fin cfg0.N) :
    (dats m 0 c).leavesExact 0 t = owns (c : Thread nD τ) (stg0 t) fullShare (iblk m c 0 t)
    ∧ (dats m 0 c).leavesExact 1 t = owns (c : Thread nD τ) (stg1 t) fullShare (iblk m c 1 t)
    ∧ (dats m 0 c).leavesExact 2 t = owns (c : Thread nD τ) (stg2 t) fullShare (iblk m c 2 t)
    ∧ (dats m 0 c).leavesExact 3 t = owns (c : Thread nD τ) (stg3 t) fullShare (iblk m c 3 t)
    ∧ (dats m 0 c).leavesExact 4 t = owns (c : Thread nD τ) (stg4 t) fullShare (iblk m c 4 t)
    ∧ (dats m 0 c).leavesExact 5 t = owns (c : Thread nD τ) (stg5 t) fullShare (iblk m c 5 t)
    ∧ (dats m 0 c).leavesExact 6 t = owns (c : Thread nD τ) (stg6 t) fullShare (iblk m c 6 t)
    ∧ (dats m 0 c).leavesExact 7 t = owns (c : Thread nD τ) (stg7 t) fullShare (uB m c t)
    ∧ (dats m 0 c).leavesExact 8 t = owns (c : Thread nD τ) (stg8 t) fullShare (vB m c t) := by
  refine ⟨?_, ?_, ?_, ?_, ?_, ?_, ?_, ?_, ?_⟩ <;> unfold Dat.leavesExact
  · rw [show cfg0.idle 0 (cfg0.grid.coords t) = false from rfl, after0]
  · rw [show cfg0.idle 1 (cfg0.grid.coords t) = false from rfl, after1]
  · rw [show cfg0.idle 2 (cfg0.grid.coords t) = false from rfl, after2]
  · rw [show cfg0.idle 3 (cfg0.grid.coords t) = false from rfl, after3]
  · rw [show cfg0.idle 4 (cfg0.grid.coords t) = false from rfl, after4]
  · rw [show cfg0.idle 5 (cfg0.grid.coords t) = false from rfl, after5]
  · rw [show cfg0.idle 6 (cfg0.grid.coords t) = false from rfl, after6]
  · rw [busy7, after7]
  · rw [busy8, after8]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem Phi_castSucc (c : Dev nD) (t : Fin cfg0.N) : (dats m 0 c).Φ t.castSucc = between m c t.val := by dsimp only [dats]; rfl
theorem Phi_succ (c : Dev nD) (t : Fin cfg0.N) : (dats m 0 c).Φ t.succ = between m c (t.val + 1) := by dsimp only [dats]; rfl

set_option maxHeartbeats 4000000 in
/-- The body at any point. -/
theorem body_at (c : Dev nD) (t : Fin cfg0.N) :
    bodyPre m c t ⊢ wp frame (wpE (defs₀ (F := F)) Variants.none c none) Set.univ (bodyAt0 (F := F) t) (fun _ => bodyPost m c t) := by
  have hN : t.val < 11 := lt_of_lt_of_eq t.isLt (show cfg0.N = 11 from N_0)
  unfold bodyPre bodyPost bodyAt0
  simp only [before_in m c t]
  rw [Phi_castSucc, Phi_succ, between.eq_2, accAt_succ]
  simp only [leaves_in m c t]
  unfold Dat.owesAt Pipeline.owesWithin uB vB
  rw [show (dats m 0 c).owed t.castSucc = 0 from rfl, show (dats m 0 c).owed t.succ = 0 from rfl]
  by_cases h0 : t.val = 0
  · have ht : t = pt 0 := Fin.ext h0
    have e : (between m c t.val : sProp 𝕄) = Pipeline.ΦDRG ownCells spec0 readRefs sentRefs (V m) (V m) c := by rw [h0]; rfl
    have eh : hAll m c = inHb (V m c main_arg0) (gib m c t) (bib m c t) := by rw [ht]; rfl
    have ea : accAt m c t.val = inAcc (V m c main_arg0) (gib m c t) (bib m c t) := by rw [h0, ht]; rfl
    rw [e, entry_eq, ea, eh]
    iintro ⟨⟨⟨S0, S1, S2⟩, Hg, ⟨Q0, Q1, Q2, Q3, Q4, Q5, Q6, Q7, Q8, Q9⟩, HX, ⟨HR, HY⟩⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) sc0 (Memref.isWhole_whole _) sc1 (Memref.isWhole_whole _) sc2 (Memref.isWhole_whole _)
      ((at_first t).mpr h0) ((before_last t).mpr (by omega)) (fun h => absurd ((at_last t).mp h) (by omega)) (gib m c t) (bib m c t) (wgb m c t) (wub m c t) (wdb m c t) (V m c main_arg0) W)
    iframe H0 H1 H4 H5 H6
    isplitl [H7]; · iexists _; iexact H7
    isplitl [H8]; · iexists _; iexact H8
    iframe S0 S1 S2 Q0 Q1 HX HW
    iintro ⟨H0, H1, H4, H5, H6, H7, H8, S0, S1, S2, Q0, Q1, HX, ⟨%W', HW⟩⟩
    isplitl [S0 S1 S2 Hg Q0 Q1 Q2 Q3 Q4 Q5 Q6 Q7 Q8 Q9 HX HR HY]
    · isplitl [S0 S1 S2]
      · isplitl [S0]
        · iexists _; isplitr; swap; · iexact S0
          ipureintro; exact fun _ => rfl
        isplitl [S1]
        · iexists _; isplitr; swap; · iexact S1
          ipureintro; exact fun _ => rfl
        iexact S2
      isplitl [Hg]; · iexact Hg
      isplitl [Q0 Q1 Q2 Q3 Q4 Q5 Q6 Q7 Q8 Q9]
      · iframe Q0 Q1 Q2 Q3 Q4 Q5 Q6 Q7 Q8 Q9
      isplitl [HX]; · iexact HX
      isplitl [HR]
      · iexists _; isplitr; swap; · iexact HR
        ipureintro; intro h; omega
      iexists _; isplitr; swap; · iexact HY
      ipureintro; intro h; omega
    isplitl [HW]
    · iexists _; isplitr
      swap; · iexact HW
      ipureintro; exact fun _ _ => Or.inl trivial
    iframe H0 H1 H2 H3 H4 H5 H6 H7 H8
  obtain ⟨n, hn⟩ : ∃ n, t.val = n + 1 := ⟨t.val - 1, by omega⟩
  have e : (between m c t.val : sProp 𝕄) = between m c (n + 1) := by rw [hn]
  rw [e, between.eq_2, ← hn]
  by_cases h1 : t.val = 10
  · iintro ⟨⟨⟨⟨%a0, %ha, S0⟩, ⟨%h1, %hh, S1⟩, S2⟩, Hg, ⟨Q0, Q1, Q2, Q3, Q4, Q5, Q6, Q7, Q8, Q9⟩, HX, ⟨⟨%fr, -, HR⟩, ⟨%fy, -, HY⟩⟩⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain rfl := ha (by omega)
    obtain rfl := hh (by omega)
    iapply (runC c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) sc0 (Memref.isWhole_whole _) sc1 (Memref.isWhole_whole _) sc2 (Memref.isWhole_whole _)
      (fun h => h0 ((at_first t).mp h)) (fun h => (before_last t).mp h h1) ((at_last t).mpr h1)
      (gob m c t) (bob m c t) (wgb m c t) (wub m c t) (wdb m c t) (accAt m c t.val) (hAll m c) W)
    iframe H2 H3 H4 H5 H6
    isplitl [H7]; · iexists _; iexact H7
    isplitl [H8]; · iexists _; iexact H8
    iframe S0 S1 Q2 Q3 Q4 Q5 Q6 Q7 Q8 Q9
    isplitl [HR]; · iexists _; iexact HR
    isplitl [HY]; · iexists _; iexact HY
    isplitl [HW]; · iexact HW
    iintro ⟨H2, H3, H4, H5, H6, H7, H8, ⟨%a2, S0⟩, ⟨%h2, S1⟩, Q2, Q3, Q4, Q5, Q6, Q7, Q8, Q9, HR, HY, ⟨%W', HW⟩⟩
    isplitl [S0 S1 S2 Hg Q0 Q1 Q2 Q3 Q4 Q5 Q6 Q7 Q8 Q9 HX HR HY]
    · isplitl [S0 S1 S2]
      · isplitl [S0]
        · iexists _; isplitr; swap; · iexact S0
          ipureintro; intro h; omega
        isplitl [S1]
        · iexists _; isplitr; swap; · iexact S1
          ipureintro; intro h; omega
        iexact S2
      isplitl [Hg]; · iexact Hg
      isplitl [Q0 Q1 Q2 Q3 Q4 Q5 Q6 Q7 Q8 Q9]
      · iframe Q0 Q1 Q2 Q3 Q4 Q5 Q6 Q7 Q8 Q9
      isplitl [HX]; · iexact HX
      isplitl [HR]
      · iexists _; isplitr; swap; · iexact HR
        ipureintro; intro _; rw [show accAt m c 11 = accAt m c (t.val + 1) by rw [h1], accAt_succ]
      iexists _; isplitr; swap; · iexact HY
      ipureintro; intro _; unfold outY; rw [show accAt m c 11 = accAt m c (t.val + 1) by rw [h1], accAt_succ, show pt 10 = t from Fin.ext h1.symm]
    isplitl [HW]
    · iexists _; isplitr
      swap; · iexact HW
      ipureintro; exact fun _ _ => Or.inl trivial
    iframe H0 H1 H2 H3 H4 H5 H6 H7 H8
  · iintro ⟨⟨⟨⟨%a0, %ha, S0⟩, ⟨%h1, %hh, S1⟩, S2⟩, Hg, ⟨Q0, Q1, Q2, Q3, Q4, Q5, Q6, Q7, Q8, Q9⟩, HX, ⟨⟨%fr, -, HR⟩, ⟨%fy, -, HY⟩⟩⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain rfl := ha (by omega)
    obtain rfl := hh (by omega)
    iapply (runB c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) sc0 (Memref.isWhole_whole _) sc1 (Memref.isWhole_whole _) sc2 (Memref.isWhole_whole _)
      (fun h => h0 ((at_first t).mp h)) ((before_last t).mpr h1) (fun h => h1 ((at_last t).mp h))
      (wgb m c t) (wub m c t) (wdb m c t) (accAt m c t.val) (hAll m c))
    iframe H4 H5 H6
    isplitl [H7]; · iexists _; iexact H7
    isplitl [H8]; · iexists _; iexact H8
    isplitl [S0]; · iexact S0
    isplitl [S1]; · iexact S1
    iintro ⟨H4, H5, H6, H7, H8, S0, S1⟩
    isplitl [S0 S1 S2 Hg Q0 Q1 Q2 Q3 Q4 Q5 Q6 Q7 Q8 Q9 HX HR HY]
    · isplitl [S0 S1 S2]
      · isplitl [S0]
        · iexists _; isplitr; swap; · iexact S0
          ipureintro; exact fun _ => rfl
        isplitl [S1]
        · iexists _; isplitr; swap; · iexact S1
          ipureintro; exact fun _ => rfl
        iexact S2
      isplitl [Hg]; · iexact Hg
      isplitl [Q0 Q1 Q2 Q3 Q4 Q5 Q6 Q7 Q8 Q9]
      · iframe Q0 Q1 Q2 Q3 Q4 Q5 Q6 Q7 Q8 Q9
      isplitl [HX]; · iexact HX
      isplitl [HR]
      · iexists _; isplitr; swap; · iexact HR
        ipureintro; intro h; omega
      iexists _; isplitr; swap; · iexact HY
      ipureintro; intro h; omega
    isplitl [HW]
    · iexists _; isplitr
      swap; · iexact HW
      ipureintro; exact fun _ _ => Or.inl trivial
    iframe H0 H1 H2 H3 H4 H5 H6 H7 H8

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_at m c t) rfl .rfl fun _ => .rfl

theorem enter (c : Dev nD) : Pipeline.ΦDRG ownCells spec0 readRefs sentRefs (V m) (V m) c ⊢ (dats m 0 c).Φ 0 := by
  rw [show (dats m 0 c).Φ 0 = between m c 0 from rfl]
  exact .rfl

/-- After the last point the launch takes the buffers back, the results at their contents. -/
theorem leave (c : Dev nD) : (dats m 0 c).Φ (Fin.last cfg0.N) ⊢ Pipeline.ΦDRG ownCells spec0 readRefs sentRefs (V m) (G m) c := by
  rw [show (dats m 0 c).Φ (Fin.last cfg0.N) = between m c cfg0.N from rfl, show cfg0.N = 10 + 1 from N_0, between.eq_2, entry_eq, G_r, G_y]
  iintro ⟨⟨⟨%a0, %ha, S0⟩, ⟨%h1, %hh, S1⟩, S2⟩, Hg, HQ, HX, ⟨⟨%fr, %hr, HR⟩, ⟨%fy, %hy, HY⟩⟩⟩
  obtain rfl := hr rfl
  obtain rfl := hy rfl
  isplitl [S0 S1 S2]
  · isplitl [S0]; · iexists _; iexact S0
    isplitl [S1]; · iexists _; iexact S1
    iexact S2
  iframe Hg HQ HX HR HY

set_option backward.isDefEq.respectTransparency.types false in
/-- The whole run: every final state has the windows' arrays at what the points left in them, the results of the body's
    transfers at their contents, every other buffer as the grid found it, and every counter at zero. -/
theorem run_main : θ_run defs (onTc (τ := τ) (main (F := F))) (s₀ m ρ)
    (fun r => Pipeline.FramePostRG cfgs (dats m) 0 sentRefs (V m) (G m) r ∧ r.2.sem = fun _ => 0) :=
  Pipeline.θ_run_frame_dmaRG (Q' := _) cfgs (dats m) (0 : Fin 1) launch0 ownCells defs₀ Variants.none ownCells_facts readRefs sentRefs
    readRefs_sub sentRefs_sub m ρ main
    (hbody := fun c => (body_obligation m c).loose) (hshare := fun c => (dats m 0 c).share_full fun _ => rfl)
    (howed := fun _ _ => rfl) (V := V m) (hmain := hmain_counted m Variants.none) (hA := arrays m) (G := G m) (hin := enter m) (hout := leave m)
    (hQ' := fun _ h => h)

/-- The arguments end unchanged, and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c),
      ((h.1.1 c).2 main_arg7 (Finset.mem_sdiff.mpr ⟨Pipeline.mem_restRefs_of main_arg7 (by decide) (by decide), by decide⟩)).trans (V_main_arg7 m c)⟩,
      h.2⟩) (run_main m ρ)

end Cert.Kernel3Ideal.Gen

end
-- ==== Proof.Transfer3.lean ====
module

public import proofs.«01_k».proof.Proof.Grid3
public import proofs.«01_k».proof.Proof.Gen.Kernel3

@[expose] public section

/-!
  # The printed normalised forward call

  The kernel as printed and the kernel as read over the reals are one text: the run proved of the one, for any float
  values, is the run of the other.
-/

set_option maxRecDepth 65536
set_option maxHeartbeats 4000000

noncomputable section

namespace Cert.Kernel3.Gen

open Idealize.ShloMosaic Idealize.ShloMosaic.TcCoe Idealize.SL.Sem

variable {F : FTy → Type} [FloatOps F] (h : Cert.Kernel3Ideal.Facts) (h' : Cert.Kernel3.Facts)

/-- The two kernel bodies are one program. -/
theorem body_eq : @Cert.Kernel3.cc0_ffn_fwd_seq F _ h' = @Cert.Kernel3Ideal.cc0_ffn_fwd_seq F _ h := rfl

/-- The two body tables are one. -/
theorem table_eq : @Cert.Kernel3.defs₀ F _ h' = @Cert.Kernel3Ideal.defs₀ F _ h := by
  unfold Cert.Kernel3.defs₀ Cert.Kernel3Ideal.defs₀
  refine congrArg (Defs.onTc (nD := Cert.Kernel3.nD) (τ := Cert.Kernel3.τ) (sig := Cert.Kernel3.sig) (Val := Elt F) (Λ := Cert.Kernel3.Λ₀)) ?_
  funext l a
  match l, a with
  | 0, (t, s) =>
    show @Cert.Kernel3.cc0_ffn_fwd_seq F _ h' _ _ _ _ _ _ _ _ _ _ _ _ _ _ _ _ _ _ _ _ _ _ _ _ _ _ _ _ _ _ _ _ _ = _
    rw [body_eq h h']
    rfl

/-- The two label tables are one. -/
theorem defs_eq : @Cert.Kernel3.defs F _ h' = @Cert.Kernel3Ideal.defs F _ h := by
  unfold Cert.Kernel3.defs Cert.Kernel3Ideal.defs
  rw [table_eq h h']
  rfl

/-- The two host programs are one. -/
theorem main_eq : @Cert.Kernel3.main F _ h' = @Cert.Kernel3Ideal.main F _ h := rfl

/-- The printed kernel's arguments end unchanged, and every counter at zero. -/
theorem frame_any [hK : Cert.Kernel3.Facts] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_eq Cert.Kernel3Ideal.Gen.facts hK, main_eq Cert.Kernel3Ideal.Gen.facts hK]
  exact Cert.Kernel3Ideal.Gen.frame_any m ρ

end Cert.Kernel3.Gen

end
-- ==== Proof.Frames3.lean ====
module

public import proofs.«01_k».proof.Defs
public import proofs.«01_k».proof.Proof.Transfer3
public import proofs.«01_k».proof.Proof.Gen.Reference3Ideal.Run

@[expose] public section

/-!
  # The frames of the normalised forward call

  Each program runs to its end, leaves its arguments as they were and every counter at zero.
-/

noncomputable section

namespace Cert.Proof.Three

open Idealize.ShloMosaic Idealize.SL.Sem

theorem frame_p : @Cert.quiescent_Kernel3 Cert.Kernel3.Gen.facts := fun m ρ _ => Cert.Kernel3.Gen.frame_any m ρ

theorem frame_pi : @Cert.quiescent_Kernel3Ideal Cert.Kernel3Ideal.Gen.facts := fun m ρ _ => Cert.Kernel3Ideal.Gen.frame_any m ρ

/-- The reference has no counters. -/
theorem frame_ri : @Cert.quiescent_Reference3Ideal Cert.Reference3Ideal.Gen.facts := fun m ρ _ =>
  (θ_run Cert.Reference3Ideal.defs _ _).mono (fun r h => ⟨fun c => (h c).2.2.2.2,
      Idealize.ShloMosaic.sem_eq_zero_of_no_sems (by decide) r.2⟩)
    (Cert.Reference3Ideal.Value.run (F := Ideal) m ρ)

end Cert.Proof.Three

end
-- ==== Proof.FwdModel.lean ====
module

public import proofs.«01_k».proof.Proof.Model

@[expose] public section

/-!
  # The forward pass, entry by entry

  The forward pass of one feed-forward block, written with the numbers the idealized programs compute with: the extended
  reals. Nothing is asked of the inputs. The kernel halves the gate's value in every hidden column and adds the columns'
  shares in blocks of 256; `res_blocks` says that this is the halved sum that the reference takes.
-/

noncomputable section

namespace Ffn.Ext

open Idealize.ShloMosaic

/-- A matrix and a stack of matrices, given by their entries. -/
def arr2 {a b : ℕ} (f : Fin a → Fin b → EReal) : (⟨2, ![a, b]⟩ : Shape).Idx → EReal := fun y => f (y 0) (y 1)
def arr3 {a b c : ℕ} (f : Fin a → Fin b → Fin c → EReal) : (⟨3, ![a, b, c]⟩ : Shape).Idx → EReal := fun y => f (y 0) (y 1) (y 2)

theorem arr2_of {a b : ℕ} {f : Fin a → Fin b → EReal} {X : (⟨2, ![a, b]⟩ : Shape).Idx → EReal} (h : ∀ i j, X (ix2 i j) = f i j) :
    X = arr2 f := by
  funext y
  rw [eq_ix2 y]
  exact h _ _

theorem arr3_of {a b c : ℕ} {f : Fin a → Fin b → Fin c → EReal} {X : (⟨3, ![a, b, c]⟩ : Shape).Idx → EReal}
    (h : ∀ i j k, X (ix3 i j k) = f i j k) : X = arr3 f := by
  funext y
  rw [eq_ix3 y]
  exact h _ _ _

/-! ## One row -/

section Row
variable (x g b : Fin 1024 → EReal)

def mean : EReal := Ideal.div (∑ j, x j) (Ideal.ofBits .f32 0x44800000#32)
def cen (j : Fin 1024) : EReal := x j - mean x
/-- The row normalised, scaled and shifted. -/
def norm (j : Fin 1024) : EReal :=
  cen x j * Ideal.rsqrt (mean (fun j => cen x j * cen x j) + Ideal.ofBits .f32 0x3727C5AC#32) * g j + b j

variable (W Wg Wu : Fin 1024 → Fin 2816 → EReal) (Wd : Fin 2816 → Fin 1024 → EReal)

/-- A pre-activation of the gated network. -/
def pre (f : Fin 2816) : EReal := ∑ j, x j * W j f

/-- The gate. -/
def act (u v : EReal) : EReal := u * Ideal.div 1 (1 + Ideal.exp (-u)) * v

/-- The row before the last normalisation: `alpha x + 1/2 F(x)`. -/
def res (j : Fin 1024) : EReal :=
  Ideal.ofBits .f32 0x3FB504F3#32 * x j + Ideal.ofBits .f32 0x3F000000#32 * ∑ f, act (pre x Wg f) (pre x Wu f) * Wd f j

end Row

/-! ## The order of the sum -/

theorem half_mul_add (y z : EReal) : Ideal.ofBits .f32 0x3F000000#32 * (y + z)
    = Ideal.ofBits .f32 0x3F000000#32 * y + Ideal.ofBits .f32 0x3F000000#32 * z := by
  rw [Real.lit_half]
  exact EReal.left_distrib_of_nonneg_of_ne_top (by exact_mod_cast (by norm_num : (0 : ℝ) ≤ 1 / 2)) (EReal.coe_ne_top _) y z

theorem half_mul_sum {ι : Type} (s : Finset ι) (f : ι → EReal) :
    Ideal.ofBits .f32 0x3F000000#32 * ∑ x ∈ s, f x = ∑ x ∈ s, Ideal.ofBits .f32 0x3F000000#32 * f x := by
  classical
  induction s using Finset.induction_on with
  | empty => rw [Finset.sum_empty, Finset.sum_empty, mul_zero]
  | insert a s ha ih => rw [Finset.sum_insert ha, Finset.sum_insert ha, half_mul_add, ih]

theorem half_act (u v w : EReal) : Ideal.ofBits .f32 0x3F000000#32 * u * Ideal.div 1 (1 + Ideal.exp (0 - u)) * v * w
    = Ideal.ofBits .f32 0x3F000000#32 * (act u v * w) := by
  unfold act
  rw [zero_sub]
  simp only [mul_assoc]

/-- Column `f` of block `t` of the hidden columns. -/
def colOf (t : ℕ) (f : Fin 256) : Fin 2816 := ⟨(t % 11) * 256 + f.val, by have := Nat.mod_lt t (show 0 < 11 by decide); omega⟩

theorem sum_blocks (g : Fin 2816 → EReal) : ∑ k : Fin 11, ∑ f : Fin 256, g (colOf k.val f) = ∑ f, g f :=
  Fin.sum_mul_add_congr (fun s k hl => congrArg g (Fin.ext (by
    show s.val % 11 * 256 + k.val = s.val * 256 + k.val
    rw [Nat.mod_eq_of_lt s.isLt]))) rfl

theorem res_blocks (x : Fin 1024 → EReal) (Wg Wu : Fin 1024 → Fin 2816 → EReal) (Wd : Fin 2816 → Fin 1024 → EReal) (j : Fin 1024) :
    Ideal.ofBits .f32 0x3FB504F3#32 * x j + ∑ k ∈ Finset.range 11, ∑ f,
        Ideal.ofBits .f32 0x3F000000#32 * (act (pre x Wg (colOf k f)) (pre x Wu (colOf k f)) * Wd (colOf k f) j)
      = res x Wg Wu Wd j := by
  rw [Finset.sum_range, sum_blocks fun f => Ideal.ofBits .f32 0x3F000000#32 * (act (pre x Wg f) (pre x Wu f) * Wd f j), ← half_mul_sum]
  rfl

end Ffn.Ext

end
-- ==== Proof.BandValue3.lean ====
module

public import proofs.«01_k».proof.Proof.Chunk3
public import proofs.«01_k».proof.Proof.FwdModel

@[expose] public section

/-!
  # What the normalised forward call computes from a band, entry by entry

  The block's input is the normalised argument. The pre-activations, the gate's share and the normalised rows are the model's.
-/

noncomputable section

namespace Cert.Kernel3Ideal.Gen

open Idealize.ShloMosaic Idealize.ShloMosaic.TcCoe Ffn Ffn.Ext

/-! ## Bands and rows -/

theorem up3_at {e : EltTy} (x : Vec Ideal S544x1024 e) (i : Fin 544) (j : Fin 1024) :
    up3 x (ix3 (0 : Fin 1) i j) = x (ix2 i j) := by
  have h : shapeCast S544x1024 (up3 x) shapeCasts_S1x544x1024_S544x1024 (ix2 i j) = up3 x (ix3 (0 : Fin 1) i j) := by
    pointwise
  exact h.symm.trans (up_reshape numel3 x (ix2 i j))

/-- A band's row as the kernel loads it is the array's row. -/
theorem band_in (X : Vec Ideal S2176x1024 .f32) (i : Fin 2176) (h : i.val % 544 < 544) :
    (fun j => up3 (rows (N := 2176) (C := 1024) 544 (i.val / 544) X) (ix3 (0 : Fin 1) (⟨i.val % 544, h⟩ : Fin 544) j)) = fun j => X (ix2 i j) :=
  funext fun j => (up3_at _ _ _).trans (congrArg (fun a => X (ix2 a j)) (rowOf_div 544 i h))

/-! ## The block's input -/

section Input
variable (x : Vec Ideal S1x544x1024 .f32) (g b : Vec Ideal S1x1024 .f32)

theorem pay6_val (i : Fin 544) (j : Fin 1024) : k0_pay6 x (ix2 i j) = cen (fun j => x (ix3 (0 : Fin 1) i j)) j := by
  pointwise [k0_pay6]
  rfl

theorem pay7_val (i : Fin 544) : k0_pay7 x (ix1 i)
    = ∑ j, cen (fun j => x (ix3 (0 : Fin 1) i j)) j * cen (fun j => x (ix3 (0 : Fin 1) i j)) j := by
  pointwise [k0_pay7]
  simp only [pay6_val]

theorem pay8_val (i : Fin 544) (j : Fin 1024) : k0_pay8 (k0_pay4 g) (k0_pay5 b) (k0_pay6 x) (k0_pay7 x) (ix2 i j)
    = norm (fun j => x (ix3 (0 : Fin 1) i j)) (fun j => g (ix2 (0 : Fin 1) j)) (fun j => b (ix2 (0 : Fin 1) j)) j := by
  pointwise [k0_pay8, k0_pay4, k0_pay5]
  rw [pay6_val, pay7_val]
  rfl

theorem pay9_val (i : Fin 544) (j : Fin 1024) : k0_pay9 (k0_pay4 g) (k0_pay5 b) (k0_pay6 x) (k0_pay7 x) (ix2 i j)
    = Ideal.ofBits .f32 0x3FB504F3#32
        * norm (fun j => x (ix3 (0 : Fin 1) i j)) (fun j => g (ix2 (0 : Fin 1) j)) (fun j => b (ix2 (0 : Fin 1) j)) j := by
  pointwise [k0_pay9]
  rw [pay8_val]

theorem pay10_val (i : Fin 544) (j : Fin 1024) : k0_pay10 (k0_pay4 g) (k0_pay5 b) (k0_pay6 x) (k0_pay7 x) (ix2 i j)
    = norm (fun j => x (ix3 (0 : Fin 1) i j)) (fun j => g (ix2 (0 : Fin 1) j)) (fun j => b (ix2 (0 : Fin 1) j)) j := by
  pointwise [k0_pay10]
  rw [pay8_val]

end Input

variable (X : Vec Ideal S2176x1024 .f32) (g b : Vec Ideal S1x1024 .f32)

theorem inHb_val (i : Fin 2176) (j : Fin 1024) : inHb X g b (ix2 i j)
    = norm (fun j => X (ix2 i j)) (fun j => g (ix2 (0 : Fin 1) j)) (fun j => b (ix2 (0 : Fin 1) j)) j := by
  refine (pay10_val (up3 (rows (N := 2176) (C := 1024) 544 (i.val / 544) X)) g b ⟨i.val % 544, Nat.mod_lt _ (by decide)⟩ j).trans ?_
  exact congrArg (fun r => norm r (fun j => g (ix2 (0 : Fin 1) j)) (fun j => b (ix2 (0 : Fin 1) j)) j) (band_in X i _)

theorem inAcc_val (i : Fin 2176) (j : Fin 1024) : inAcc X g b (ix2 i j) = Ideal.ofBits .f32 0x3FB504F3#32 * inHb X g b (ix2 i j) := by
  rw [inHb_val]
  refine (pay9_val (up3 (rows (N := 2176) (C := 1024) 544 (i.val / 544) X)) g b ⟨i.val % 544, Nat.mod_lt _ (by decide)⟩ j).trans ?_
  exact congrArg (fun r => Ideal.ofBits .f32 0x3FB504F3#32 * norm r (fun j => g (ix2 (0 : Fin 1) j)) (fun j => b (ix2 (0 : Fin 1) j)) j) (band_in X i _)

/-! ## A point's share -/

section Share
variable (h : Vec Ideal S544x1024 .bf16) (wg wu wd : Vec Ideal S256x1024 .bf16) (acc : Vec Ideal S544x1024 .f32)

theorem pay21_val (i : Fin 544) (f : Fin 256) : k0_pay21 h wg (ix2 i f) = ∑ j, h (ix2 i j) * wg (ix2 f j) := by
  pointwise [k0_pay21]

theorem pay22_val (i : Fin 544) (f : Fin 256) : k0_pay22 h wu (ix2 i f) = ∑ j, h (ix2 i j) * wu (ix2 f j) := by
  pointwise [k0_pay22]

theorem pay23_val (i : Fin 544) (f : Fin 256) : k0_pay23 h wg (ix3 (0 : Fin 1) i f) = ∑ j, h (ix2 i j) * wg (ix2 f j) := by
  pointwise [k0_pay23]
  exact pay21_val h wg i f

theorem pay24_val (i : Fin 544) (f : Fin 256) : k0_pay24 h wu (ix3 (0 : Fin 1) i f) = ∑ j, h (ix2 i j) * wu (ix2 f j) := by
  pointwise [k0_pay24]
  exact pay22_val h wu i f

theorem pay26_val (i : Fin 544) (j : Fin 1024) : k0_pay26 (k0_pay25 h wg wu acc wd) (ix2 i j)
    = acc (ix2 i j) + ∑ f, Ideal.ofBits .f32 0x3F000000#32
        * (act (∑ x, h (ix2 i x) * wg (ix2 f x)) (∑ x, h (ix2 i x) * wu (ix2 f x)) * wd (ix2 f j)) := by
  pointwise [k0_pay26, k0_pay25]
  simp only [pay21_val, pay22_val, half_act]

end Share

theorem pay51_val (r : Vec Ideal S544x1024 .f32) (g b : Vec Ideal S1x1024 .f32) (i : Fin 544) (j : Fin 1024) : k0_pay51 r g b (ix2 i j)
    = norm (fun j => r (ix2 i j)) (fun j => g (ix2 (0 : Fin 1) j)) (fun j => b (ix2 (0 : Fin 1) j)) j := by
  pointwise [k0_pay51]
  rfl

/-! ## All rows -/

section All
variable (h : Vec Ideal S2176x1024 .bf16) (wg wu wd : Vec Ideal S256x1024 .bf16) (acc : Vec Ideal S2176x1024 .f32)

theorem allU_val (i : Fin 2176) (f : Fin 256) : allU h wg (ix3 (0 : Fin 1) i f) = ∑ j, h (ix2 i j) * wg (ix2 f j) := by
  refine (pay23_val (rows (N := 2176) (C := 1024) 544 (i.val / 544) h) wg ⟨i.val % 544, Nat.mod_lt _ (by decide)⟩ f).trans ?_
  simp only [rows_at, rowOf_div]

theorem allV_val (i : Fin 2176) (f : Fin 256) : allV h wu (ix3 (0 : Fin 1) i f) = ∑ j, h (ix2 i j) * wu (ix2 f j) := by
  refine (pay24_val (rows (N := 2176) (C := 1024) 544 (i.val / 544) h) wu ⟨i.val % 544, Nat.mod_lt _ (by decide)⟩ f).trans ?_
  simp only [rows_at, rowOf_div]

theorem nextAcc_val (i : Fin 2176) (j : Fin 1024) : nextAcc h wg wu wd acc (ix2 i j)
    = acc (ix2 i j) + ∑ f, Ideal.ofBits .f32 0x3F000000#32
        * (act (∑ x, h (ix2 i x) * wg (ix2 f x)) (∑ x, h (ix2 i x) * wu (ix2 f x)) * wd (ix2 f j)) := by
  refine (pay26_val (rows (N := 2176) (C := 1024) 544 (i.val / 544) h) wg wu wd (rows (N := 2176) (C := 1024) 544 (i.val / 544) acc)
    ⟨i.val % 544, Nat.mod_lt _ (by decide)⟩ j).trans ?_
  simp only [rows_at, rowOf_div]

theorem allOut_val (g b : Vec Ideal S1x1024 .f32) (i : Fin 2176) (j : Fin 1024) : allOut acc g b (ix2 i j)
    = norm (fun j => acc (ix2 i j)) (fun j => g (ix2 (0 : Fin 1) j)) (fun j => b (ix2 (0 : Fin 1) j)) j := by
  refine (pay51_val (rows (N := 2176) (C := 1024) 544 (i.val / 544) acc) g b ⟨i.val % 544, Nat.mod_lt _ (by decide)⟩ j).trans ?_
  simp only [rows_at, rowOf_div]

end All

end Cert.Kernel3Ideal.Gen

end
-- ==== Proof.KernelValue3.lean ====
module

public import proofs.«01_k».proof.Proof.Grid3
public import proofs.«01_k».proof.Proof.BandValue3

@[expose] public section

/-!
  # What the normalised forward call leaves in its four results

  The blocks a point is given are the arguments' columns, the accumulated rows are the model's after the last point, and
  the four results are the model's arrays.
-/

noncomputable section

namespace Cert.Kernel3Ideal.Gen

open Idealize.ShloMosaic Idealize.ShloMosaic.TcCoe Ffn Ffn.Ext

variable (m : (ℓ : Loc nD τ sig) → Buf (Elt Ideal) ℓ) (c : Dev nD)

/-! ## The arguments of one device -/

def X (i : Fin 2176) (j : Fin 1024) : EReal := m ((c : Thread nD τ).loc main_arg0) (ix2 i j)
def Wg (j : Fin 1024) (f : Fin 2816) : EReal := m ((c : Thread nD τ).loc main_arg3) (ix2 j f)
def Wu (j : Fin 1024) (f : Fin 2816) : EReal := m ((c : Thread nD τ).loc main_arg4) (ix2 j f)
def Wd (f : Fin 2816) (j : Fin 1024) : EReal := m ((c : Thread nD τ).loc main_arg5) (ix2 f j)
def gi (j : Fin 1024) : EReal := m ((c : Thread nD τ).loc main_arg1) (ix1 j)
def bi (j : Fin 1024) : EReal := m ((c : Thread nD τ).loc main_arg2) (ix1 j)
def go (j : Fin 1024) : EReal := m ((c : Thread nD τ).loc main_arg6) (ix1 j)
def bo (j : Fin 1024) : EReal := m ((c : Thread nD τ).loc main_arg7) (ix1 j)

/-- A row of the block's input. -/
def hRow (i : Fin 2176) : Fin 1024 → EReal := norm (X m c i) (gi m c) (bi m c)

/-! ## What the host prepares -/

theorem v0_val (j : Fin 1024) : V m c main_v0 (ix2 (0 : Fin 1) j) = gi m c j := by
  simp only [V, hostOps0, List.flatten_cons, List.flatten_nil, List.cons_append, List.nil_append, List.append_nil]
  entry_read
  pointwise
  rfl

theorem v1_val (j : Fin 1024) : V m c main_v1 (ix2 (0 : Fin 1) j) = bi m c j := by
  simp only [V, hostOps0, List.flatten_cons, List.flatten_nil, List.cons_append, List.nil_append, List.append_nil]
  entry_read
  pointwise
  rfl

theorem v7_val (j : Fin 1024) : V m c main_v7 (ix2 (0 : Fin 1) j) = go m c j := by
  simp only [V, hostOps0, List.flatten_cons, List.flatten_nil, List.cons_append, List.nil_append, List.append_nil]
  entry_read
  pointwise
  rfl

theorem v8_val (j : Fin 1024) : V m c main_v8 (ix2 (0 : Fin 1) j) = bo m c j := by
  simp only [V, hostOps0, List.flatten_cons, List.flatten_nil, List.cons_append, List.nil_append, List.append_nil]
  entry_read
  pointwise
  rfl

theorem v3_val (f : Fin 2816) (j : Fin 1024) : V m c main_v3 (ix2 f j) = Wg m c j f := by
  simp only [V, hostOps0, List.flatten_cons, List.flatten_nil, List.cons_append, List.nil_append, List.append_nil]
  entry_read
  pointwise
  rfl

theorem v5_val (f : Fin 2816) (j : Fin 1024) : V m c main_v5 (ix2 f j) = Wu m c j f := by
  simp only [V, hostOps0, List.flatten_cons, List.flatten_nil, List.cons_append, List.nil_append, List.append_nil]
  entry_read
  pointwise
  rfl

theorem v6_val (f : Fin 2816) (j : Fin 1024) : V m c main_v6 (ix2 f j) = Wd m c f j := by
  simp only [V, hostOps0, List.flatten_cons, List.flatten_nil, List.cons_append, List.nil_append, List.append_nil]
  entry_read
  pointwise
  rfl

/-! ## The blocks a point is given -/

theorem lt11 (t : Fin cfg0.N) : t.val < 11 := lt_of_lt_of_eq t.isLt (show cfg0.N = 11 from N_0)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0, 0] := (by decide +kernel : ∀ t : Fin grid0.N, _)
theorem idx8 : ∀ t : Fin cfg0.N, win0_8.index t = ![t.val, 0, 0] := (by decide +kernel : ∀ t : Fin grid0.N, _)

theorem col_val (t : Fin cfg0.N) (f : Fin 256) : (colOf t.val f).val = t.val * 256 + f.val := by
  show t.val % 11 * 256 + f.val = _
  rw [Nat.mod_eq_of_lt (lt11 t)]

theorem gib_val (t : Fin cfg0.N) (j : Fin 1024) : gib m c t (ix2 (0 : Fin 1) j) = gi m c j := by
  rw [← v0_val]
  blk_ext [gib, iblk, idx0 t]
theorem bib_val (t : Fin cfg0.N) (j : Fin 1024) : bib m c t (ix2 (0 : Fin 1) j) = bi m c j := by
  rw [← v1_val]
  blk_ext [bib, iblk, idx1 t]
theorem gob_val (t : Fin cfg0.N) (j : Fin 1024) : gob m c t (ix2 (0 : Fin 1) j) = go m c j := by
  rw [← v7_val]
  blk_ext [gob, iblk, idx2 t]
theorem bob_val (t : Fin cfg0.N) (j : Fin 1024) : bob m c t (ix2 (0 : Fin 1) j) = bo m c j := by
  rw [← v8_val]
  blk_ext [bob, iblk, idx3 t]
theorem wgb_val (t : Fin cfg0.N) (f : Fin 256) (j : Fin 1024) : wgb m c t (ix2 f j) = Wg m c j (colOf t.val f) := by
  rw [← v3_val]
  blk_ext [wgb, iblk, idx4 t, col_val t]
theorem wub_val (t : Fin cfg0.N) (f : Fin 256) (j : Fin 1024) : wub m c t (ix2 f j) = Wu m c j (colOf t.val f) := by
  rw [← v5_val]
  blk_ext [wub, iblk, idx5 t, col_val t]
theorem wdb_val (t : Fin cfg0.N) (f : Fin 256) (j : Fin 1024) : wdb m c t (ix2 f j) = Wd m c (colOf t.val f) j := by
  rw [← v6_val]
  blk_ext [wdb, iblk, idx6 t, col_val t]

/-! ## The rows -/

theorem hAll_val (i : Fin 2176) (j : Fin 1024) : hAll m c (ix2 i j) = hRow m c i j := by
  unfold hAll
  rw [inHb_val, V_main_arg0]
  simp only [gib_val, bib_val]
  rfl

theorem pre_val (t : Fin cfg0.N) (i : Fin 2176) (f : Fin 256) :
    ∑ j, hAll m c (ix2 i j) * wgb m c t (ix2 f j) = pre (hRow m c i) (Wg m c) (colOf t.val f) := by
  simp only [hAll_val, wgb_val]
  rfl

theorem lin_val (t : Fin cfg0.N) (i : Fin 2176) (f : Fin 256) :
    ∑ j, hAll m c (ix2 i j) * wub m c t (ix2 f j) = pre (hRow m c i) (Wu m c) (colOf t.val f) := by
  simp only [hAll_val, wub_val]
  rfl

theorem col_pt (k : ℕ) (f : Fin 256) : colOf (pt k).val f = colOf k f :=
  Fin.ext (by show k % 11 % 11 * 256 + f.val = k % 11 * 256 + f.val; rw [Nat.mod_mod])

theorem accAt_val (i : Fin 2176) (j : Fin 1024) (n : ℕ) : accAt m c n (ix2 i j)
    = Ideal.ofBits .f32 0x3FB504F3#32 * hRow m c i j + ∑ k ∈ Finset.range n, ∑ f, Ideal.ofBits .f32 0x3F000000#32
        * (act (pre (hRow m c i) (Wg m c) (colOf k f)) (pre (hRow m c i) (Wu m c) (colOf k f)) * Wd m c (colOf k f) j) := by
  induction n with
  | zero =>
    rw [Finset.sum_range_zero, add_zero, ← hAll_val]
    exact inAcc_val _ _ _ i j
  | succ n ih =>
    rw [Finset.sum_range_succ, ← add_assoc, ← ih]
    refine (nextAcc_val _ _ _ _ _ i j).trans ?_
    refine congrArg (accAt m c n (ix2 i j) + ·) (Finset.sum_congr rfl fun f _ => congrArg (Ideal.ofBits .f32 0x3F000000#32 * ·) ?_)
    rw [← col_pt n f]
    exact congrArg₂ (· * ·) (congrArg₂ act (pre_val m c (pt n) i f) (lin_val m c (pt n) i f)) (wdb_val m c (pt n) f j)

theorem acc_val (i : Fin 2176) (j : Fin 1024) : accAt m c 11 (ix2 i j) = res (hRow m c i) (Wg m c) (Wu m c) (Wd m c) j := by
  rw [accAt_val, res_blocks]

/-- The normalised rows. -/
def yRow (i : Fin 2176) : Fin 1024 → EReal := norm (res (hRow m c i) (Wg m c) (Wu m c) (Wd m c)) (go m c) (bo m c)

theorem outY_val (i : Fin 2176) (j : Fin 1024) : outY m c (ix2 i j) = yRow m c i j := by
  unfold outY
  rw [allOut_val]
  simp only [acc_val, gob_val, bob_val]
  rfl

/-! ## The results -/

/-- A pre-activation array in blocks of 256 columns. -/
def blocks (W : Fin 1024 → Fin 2816 → EReal) : S11x2176x256.Idx → EReal :=
  arr3 fun (t : Fin 11) (i : Fin 2176) (f : Fin 256) => pre (hRow m c i) W (colOf t.val f)

/-- A point's block lies where the whole stack has that point's columns. -/
theorem block_arr {W : Fin 1024 → Fin 2816 → EReal} (t : Fin cfg0.N) {B : Vec Ideal S1x2176x256 .bf16}
    (h : ∀ i f, B (ix3 (0 : Fin 1) i f) = pre (hRow m c i) W (colOf t.val f)) (y : S1x2176x256.Idx) {z : S11x2176x256.Idx}
    (h0 : (z 0).val = t.val + (y 0).val) (h1 : (z 1).val = (y 1).val) (h2 : (z 2).val = (y 2).val) : B y = blocks m c W z := by
  have hy : (y 0).val < 1 := (y 0).isLt
  have e : (⟨0, Nat.zero_lt_one⟩ : Fin 1) = y 0 := Fin.ext (by show 0 = (y 0).val; omega)
  rw [eq_ix3 y, ← e]
  refine (h (y 1) (y 2)).trans ?_
  show pre (hRow m c (y 1)) W (colOf t.val (y 2)) = pre (hRow m c (z 1)) W (colOf (z 0).val (z 2))
  rw [show z 1 = y 1 from Fin.ext h1, show z 2 = y 2 from Fin.ext h2, show (z 0).val = t.val by omega]

theorem out7 : (dats m 0 c).arrAt 7 cfg0.N = blocks m c (Wg m c) := by
  refine (dats m 0 c).arrAt_eq_of_covers 7 _ (by decide +kernel) fun t hf y => ?_
  blk_simp
  rw [after7]
  refine block_arr m c t (fun i f => (allU_val _ _ i f).trans (pre_val m c t i f)) y ?_ ?_ ?_
  · blk_simp [idx7 t]
  · blk_simp [idx7 t]
  · blk_simp [idx7 t]

theorem out8 : (dats m 0 c).arrAt 8 cfg0.N = blocks m c (Wu m c) := by
  refine (dats m 0 c).arrAt_eq_of_covers 8 _ (by decide +kernel) fun t hf y => ?_
  blk_simp
  rw [after8]
  refine block_arr m c t (fun i f => (allV_val _ _ i f).trans (lin_val m c t i f)) y ?_ ?_ ?_
  · blk_simp [idx8 t]
  · blk_simp [idx8 t]
  · blk_simp [idx8 t]

theorem out_r : G m c main_v9_2 = arr2 fun i => res (hRow m c i) (Wg m c) (Wu m c) (Wd m c) :=
  (G_r m c).trans (arr2_of (acc_val m c))

theorem out_y : G m c main_v9_3 = arr2 (yRow m c) := (G_y m c).trans (arr2_of (outY_val m c))

end Cert.Kernel3Ideal.Gen

end
-- ==== Proof.RefValue3.lean ====
module

public import proofs.«01_k».proof.Proof.Gen.Reference3Ideal.Read
public import proofs.«01_k».proof.Proof.FwdModel

@[expose] public section

/-!
  # The normalised forward reference's arrays, entry by entry

  Every array of the reference is the model's, in the order in which the reference computes them.
-/

noncomputable section

namespace Cert.Reference3Ideal.Read

open Idealize.ShloMosaic Ffn Ffn.Ext Cert.Reference3Ideal.Facts

variable (x0 : (⟨S2176x1024, .f32⟩ : BufTy).Contents (Elt Ideal)) (x1 x2 : (⟨S1024, .f32⟩ : BufTy).Contents (Elt Ideal)) (x3 x4 : (⟨S1024x2816, .f32⟩ : BufTy).Contents (Elt Ideal))
  (x5 : (⟨S2816x1024, .f32⟩ : BufTy).Contents (Elt Ideal)) (x6 x7 : (⟨S1024, .f32⟩ : BufTy).Contents (Elt Ideal))

/-- A row of the block's input. -/
def hRef (i : Fin 2176) : Fin 1024 → EReal := norm (fun j => x0 (ix2 i j)) (fun j => x1 (ix1 j)) fun j => x2 (ix1 j)

/-! ## The block's input -/

theorem r3 (i : Fin 2176) : val_main_v3 x0 (ix2 i (0 : Fin 1)) = mean (fun j => x0 (ix2 i j)) := by
  pointwise [val_main_v3, val_main_v2, val_main_cst_0, val_main_v1, val_main_v0, val_main_cst]
  rfl

theorem r5 (i : Fin 2176) (j : Fin 1024) : val_main_v5 x0 (ix2 i j) = cen (fun j => x0 (ix2 i j)) j := by
  pointwise [val_main_v5, val_main_v4]
  rw [r3]
  rfl

theorem r12 (i : Fin 2176) (j : Fin 1024) : val_main_v12 x0 (ix2 i j) = cen (fun j => x0 (ix2 i j)) j := by
  pointwise [val_main_v12, val_main_v11]
  rw [r3]
  rfl

theorem r10 (i : Fin 2176) : val_main_v10 x0 (ix2 i (0 : Fin 1)) = mean fun j => cen (fun j => x0 (ix2 i j)) j * cen (fun j => x0 (ix2 i j)) j := by
  pointwise [val_main_v10, val_main_v9, val_main_cst_2, val_main_v8, val_main_v7, val_main_cst_1, val_main_v6]
  simp only [r5]
  rfl

theorem r23 (i : Fin 2176) (j : Fin 1024) : val_main_v23 x0 x1 x2 (ix2 i j)
    = norm (fun j => x0 (ix2 i j)) (fun j => x1 (ix1 j)) (fun j => x2 (ix1 j)) j := by
  pointwise [val_main_v23, val_main_v22, val_main_v21, val_main_v20, val_main_v19, val_main_v18, val_main_v17, val_main_v16, val_main_v15, val_main_v14, val_main_v13, val_main_cst_3]
  rw [r12, r10]
  rfl

/-! ## The gated network -/

theorem r26 (i : Fin 2176) (f : Fin 2816) : val_main_v26 x0 x1 x2 x3 (ix2 i f) = pre (hRef x0 x1 x2 i) (fun j f => x3 (ix2 j f)) f := by
  pointwise [val_main_v26]
  simp only [r23]
  rfl

theorem r28 (i : Fin 2176) (f : Fin 2816) : val_main_v28 x0 x1 x2 x4 (ix2 i f) = pre (hRef x0 x1 x2 i) (fun j f => x4 (ix2 j f)) f := by
  pointwise [val_main_v28]
  simp only [r23]
  rfl

theorem r29 (i : Fin 2176) (f : Fin 2816) : val_main_v29 x0 x1 x2 x3 x4 (ix2 i f)
    = act (pre (hRef x0 x1 x2 i) (fun j f => x3 (ix2 j f)) f) (pre (hRef x0 x1 x2 i) (fun j f => x4 (ix2 j f)) f) := by
  pointwise [val_main_v29, val_main_v27, val_main_call0_v5, val_main_call0_v4, val_main_call0_cst_0, val_main_call0_v3, val_main_call0_v2, val_main_call0_cst, val_main_call0_v1, val_main_call0_v0]
  rw [r26, r28]
  rfl

/-- The rows before the last normalisation. -/
def rRef (i : Fin 2176) : Fin 1024 → EReal :=
  res (hRef x0 x1 x2 i) (fun j f => x3 (ix2 j f)) (fun j f => x4 (ix2 j f)) fun f j => x5 (ix2 f j)

theorem r33 (i : Fin 2176) (j : Fin 1024) : val_main_v33 x0 x1 x2 x3 x4 x5 (ix2 i j) = rRef x0 x1 x2 x3 x4 x5 i j := by
  pointwise [val_main_v33, val_main_v25, val_main_v24, val_main_cst_4, val_main_v32, val_main_v31, val_main_cst_5, val_main_v30]
  simp only [r23, r29]
  rfl

theorem r34 (i : Fin 2176) (f : Fin 2816) : val_main_v34 x0 x1 x2 x3 (ix2 i f) = pre (hRef x0 x1 x2 i) (fun j f => x3 (ix2 j f)) f := by
  pointwise [val_main_v34]
  simp only [r23]
  rfl

theorem r37 (t : Fin 11) (i : Fin 2176) (f : Fin 256) : val_main_v37 x0 x1 x2 x3 (ix3 t i f)
    = pre (hRef x0 x1 x2 i) (fun j f => x3 (ix2 j f)) (colOf t.val f) := by
  have e : colOf t.val f = ⟨t.val * 256 + f.val, by omega⟩ := Fin.ext (by
    show t.val % 11 * 256 + f.val = t.val * 256 + f.val
    rw [Nat.mod_eq_of_lt t.isLt])
  rw [e, ← r34]
  pointwise [val_main_v37, val_main_v36, val_main_v35]

theorem r38 (i : Fin 2176) (f : Fin 2816) : val_main_v38 x0 x1 x2 x4 (ix2 i f) = pre (hRef x0 x1 x2 i) (fun j f => x4 (ix2 j f)) f := by
  pointwise [val_main_v38]
  simp only [r23]
  rfl

theorem r41 (t : Fin 11) (i : Fin 2176) (f : Fin 256) : val_main_v41 x0 x1 x2 x4 (ix3 t i f)
    = pre (hRef x0 x1 x2 i) (fun j f => x4 (ix2 j f)) (colOf t.val f) := by
  have e : colOf t.val f = ⟨t.val * 256 + f.val, by omega⟩ := Fin.ext (by
    show t.val % 11 * 256 + f.val = t.val * 256 + f.val
    rw [Nat.mod_eq_of_lt t.isLt])
  rw [e, ← r38]
  pointwise [val_main_v41, val_main_v40, val_main_v39]

/-! ## The normalised rows -/

theorem r45 (i : Fin 2176) : val_main_v45 x0 x1 x2 x3 x4 x5 (ix2 i (0 : Fin 1)) = mean (rRef x0 x1 x2 x3 x4 x5 i) := by
  pointwise [val_main_v45, val_main_v44, val_main_cst_7, val_main_v43, val_main_v42, val_main_cst_6]
  simp only [r33]
  rfl

theorem r47 (i : Fin 2176) (j : Fin 1024) : val_main_v47 x0 x1 x2 x3 x4 x5 (ix2 i j) = cen (rRef x0 x1 x2 x3 x4 x5 i) j := by
  pointwise [val_main_v47, val_main_v46]
  rw [r33, r45]
  rfl

theorem r54 (i : Fin 2176) (j : Fin 1024) : val_main_v54 x0 x1 x2 x3 x4 x5 (ix2 i j) = cen (rRef x0 x1 x2 x3 x4 x5 i) j := by
  pointwise [val_main_v54, val_main_v53]
  rw [r33, r45]
  rfl

theorem r52 (i : Fin 2176) : val_main_v52 x0 x1 x2 x3 x4 x5 (ix2 i (0 : Fin 1)) = mean fun j => cen (rRef x0 x1 x2 x3 x4 x5 i) j * cen (rRef x0 x1 x2 x3 x4 x5 i) j := by
  pointwise [val_main_v52, val_main_v51, val_main_cst_9, val_main_v50, val_main_v49, val_main_cst_8, val_main_v48]
  simp only [r47]
  rfl

theorem r65 (i : Fin 2176) (j : Fin 1024) : val_main_v65 x0 x1 x2 x3 x4 x5 x6 x7 (ix2 i j)
    = norm (rRef x0 x1 x2 x3 x4 x5 i) (fun j => x6 (ix1 j)) (fun j => x7 (ix1 j)) j := by
  pointwise [val_main_v65, val_main_v64, val_main_v63, val_main_v62, val_main_v61, val_main_v60, val_main_v59, val_main_v58, val_main_v57, val_main_v56, val_main_v55, val_main_cst_10]
  rw [r54, r52]
  rfl

theorem r66 (i : Fin 2176) (j : Fin 1024) : val_main_v66 x0 x1 x2 x3 x4 x5 x6 x7 (ix2 i j)
    = norm (rRef x0 x1 x2 x3 x4 x5 i) (fun j => x6 (ix1 j)) (fun j => x7 (ix1 j)) j := by
  pointwise [val_main_v66]
  exact r65 x0 x1 x2 x3 x4 x5 x6 x7 i j

end Cert.Reference3Ideal.Read

end
-- ==== Proof.Algebraic3.lean ====
module

public import proofs.«01_k».proof.Defs
public import proofs.«01_k».proof.Proof.KernelValue3
public import proofs.«01_k».proof.Proof.RefValue3
public import proofs.«01_k».proof.Proof.Gen.Reference3Ideal.Run

@[expose] public section

/-!
  # The normalised forward call and its reference agree

  Both leave the model's four arrays, whatever the arguments are.
-/

noncomputable section

namespace Cert.Proof.Three

open Idealize.ShloMosaic Idealize.ShloMosaic.TcCoe Idealize.SL.Sem Ffn.Ext

section Kernel
open Cert.Kernel3Ideal Cert.Kernel3Ideal.Gen

variable (m : (ℓ : Loc nD τ sig) → Buf (Elt Ideal) ℓ)

/-- The kernel's run, its four results the model's arrays. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v9_0) = blocks m c (Wg m c)
      ∧ r.2.mem ((c.tc : Thread nD τ).loc main_v9_1) = blocks m c (Wu m c)
      ∧ r.2.mem ((c.tc : Thread nD τ).loc main_v9_2) = (arr2 fun i => res (hRow m c i) (Wg m c) (Wu m c) (Wd m c))
      ∧ r.2.mem ((c.tc : Thread nD τ).loc main_v9_3) = arr2 (yRow m c)) :=
  (θ_run defs _ _).mono (fun r hr c => ⟨((hr.1.1 c).1 7).trans (out7 m c), ((hr.1.1 c).1 8).trans (out8 m c),
      (hr.1.written c (by decide)).trans (out_r m c), (hr.1.written c (by decide)).trans (out_y m c)⟩) (run_main m ρ)

end Kernel

/-! ## The reference -/

section Reference
open Cert.Reference3Ideal Cert.Reference3Ideal.Read

variable (m : (ℓ : Loc nD τ sig) → Buf (Elt Ideal) ℓ)

/-- The rows the reference normalises, and those it feeds the gated network. -/
def refH (c : Dev nD) : Fin 2176 → Fin 1024 → EReal := hRef (m ((c.tc : Thread nD τ).loc main_arg0)) (m ((c.tc : Thread nD τ).loc main_arg1)) (m ((c.tc : Thread nD τ).loc main_arg2))
def refR (c : Dev nD) : Fin 2176 → Fin 1024 → EReal := rRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The reference's run, its four results the model's arrays. -/
theorem ref_run (ρ : Dev nD → PrngReg) :
    θ_run defs (onTc (τ := τ) (main (F := Ideal))) ⟨m, fun _ => 0, ρ⟩ (fun r => ∀ c : Dev nD,
      r.2.mem ((c.tc : Thread nD τ).loc main_v37) = (arr3 fun (t : Fin 11) i f =>
          pre (refH m c i) (fun j f => m ((c.tc : Thread nD τ).loc main_arg3) (ix2 j f)) (colOf t.val f))
      ∧ r.2.mem ((c.tc : Thread nD τ).loc main_v41) = (arr3 fun (t : Fin 11) i f =>
          pre (refH m c i) (fun j f => m ((c.tc : Thread nD τ).loc main_arg4) (ix2 j f)) (colOf t.val f))
      ∧ r.2.mem ((c.tc : Thread nD τ).loc main_v33) = arr2 (refR m c)
      ∧ r.2.mem ((c.tc : Thread nD τ).loc main_v66) = arr2 fun i => norm (refR m c i) (fun j => m ((c.tc : Thread nD τ).loc main_arg6) (ix1 j))
          fun j => m ((c.tc : Thread nD τ).loc main_arg7) (ix1 j)) := by
  refine (θ_run defs _ _).mono (fun r h c => ?_) (Cert.Reference3Ideal.Value.run m ρ)
  obtain ⟨hu, hv, hr, hy, -⟩ := h c
  exact ⟨hu.trans ((val_main_v37_eq ..).trans (arr3_of fun t i f => r37 _ _ _ _ t i f)), hv.trans ((val_main_v41_eq ..).trans (arr3_of fun t i f => r41 _ _ _ _ t i f)),
    hr.trans ((val_main_v33_eq ..).trans (arr2_of fun i j => r33 _ _ _ _ _ _ i j)), hy.trans ((val_main_v66_eq ..).trans (arr2_of fun i j => r66 _ _ _ _ _ _ _ _ i j))⟩

end Reference

/-! ## The claim -/

theorem algebraic : @Cert.algebraic_Kernel3Ideal_Reference3Ideal Cert.Kernel3Ideal.Gen.facts Cert.Reference3Ideal.Gen.facts := by
  intro m ρ m' ρ' _ hm
  have hk := θ_run_and (kernel_run m ρ) (Cert.Kernel3Ideal.Gen.frame_any m ρ)
  have hr := θ_run_and (ref_run m' ρ') (Cert.Reference3Ideal.Value.run m' ρ')
  refine ⟨fun c => Cert.Kernel3Ideal.Gen.blocks m c (Cert.Kernel3Ideal.Gen.Wg m c), fun c => Cert.Kernel3Ideal.Gen.blocks m c (Cert.Kernel3Ideal.Gen.Wu m c),
    fun c => arr2 fun i => res (Cert.Kernel3Ideal.Gen.hRow m c i) (Cert.Kernel3Ideal.Gen.Wg m c) (Cert.Kernel3Ideal.Gen.Wu m c) (Cert.Kernel3Ideal.Gen.Wd m c), fun c => arr2 (Cert.Kernel3Ideal.Gen.yRow m c),
    θ_run_mono hk fun r h c => ?_, θ_run_mono hr fun r h c => ?_⟩
  · obtain ⟨h0, h1, h2, h3⟩ := h.1 c
    exact ⟨h0, h1, h2, h3, h.2.1 c⟩
  · obtain ⟨h0, h1, h2, h3⟩ := h.1 c
    obtain ⟨e0, e1, e2, e3, e4, e5, e6, e7⟩ := hm c
    have eh : refH m' c = Cert.Kernel3Ideal.Gen.hRow m c := by
      unfold refH
      rw [e0, e1, e2]
      rfl
    have er : refR m' c = fun i => res (Cert.Kernel3Ideal.Gen.hRow m c i) (Cert.Kernel3Ideal.Gen.Wg m c) (Cert.Kernel3Ideal.Gen.Wu m c) (Cert.Kernel3Ideal.Gen.Wd m c) := by
      unfold refR
      rw [e0, e1, e2, e3, e4, e5]
      rfl
    refine ⟨h0.trans ?_, h1.trans ?_, h2.trans ?_, h3.trans ?_, (h.2 c).2.2.2.2⟩
    · rw [eh, e3]
      rfl
    · rw [eh, e4]
      rfl
    · rw [er]
    · rw [er, e6, e7]
      rfl

end Cert.Proof.Three

end
-- ==== Proof.Chunk4.lean ====
module

public import proofs.«01_k».proof.Proof.Gen.Kernel4Ideal.Skeleton
public import proofs.«01_k».proof.Proof.Gen.Kernel4Ideal.Frame
public import proofs.«01_k».proof.Proof.FwdLoads

@[expose] public section

/-!
  # What the plain forward call computes from a band of 544 rows

  The first grid point makes the block's input band by band; every point adds its 256 hidden columns' share to the
  accumulated rows and writes the two pre-activations; the last point normalises the rows. The functions here are the
  operations of the first band; every other band does the same ones.
-/

noncomputable section

namespace Cert.Kernel4Ideal.Gen

open Idealize.ShloMosaic Idealize.ShloMosaic.TcCoe Ffn
open Idealize.SL Idealize.SL.RA Idealize.SL.BI
open scoped Idealize.SL.BI
open Idealize.SL.BI.BIBase Idealize.SL.BI.Laws Idealize.SL.Sem

variable {F : FTy → Type} [FloatOps F]

local notation "𝕄" => MT nD τ sig Unit (Elt F) ℕ (Pipeline.UD sig nD τ) ℕ

/-- The contents of the buffer a memref names. -/
abbrev Cont (c : Dev nD) {sp : Space} {S : Shape} {e : EltTy} (M : Memref sig .tc sp S e) : Type :=
  Buf (Elt F) (M.view.loc (c : Thread nD τ))

/-- The whole buffer a memref names, holding `f`. -/
abbrev holds (c : Dev nD) {sp : Space} {S : Shape} {e : EltTy} (M : Memref sig .tc sp S e) (f : Cont (F := F) c M) : sProp 𝕄 :=
  M.view.loc (c : Thread nD τ) ↦{fullShare} f

/-- What an array holds after stores, given what is read back from it. -/
theorem stored (c : Dev nD) (r : Ref sig .tc) (f : Cont (F := F) c (Memref.whole r)) (L) (X : Cont (F := F) c (Memref.whole r))
    (h : (Memref.whole r).view.read (Elt F) ((Memref.whole r).view.writes (Elt F) f L) = X) :
    (holds c (Memref.whole r) ((Memref.whole r).view.writes (Elt F) f L) : sProp 𝕄) ⊢ holds c (Memref.whole r) X := by
  subst h; exact .rfl

/-- A band of rows as the kernel loads it from a slot of a two-slot buffer. -/
abbrev up3 {e : EltTy} (x : Vec F S544x1024 e) : Vec F S1x544x1024 e := up numel3 x

variable (X : Vec F S2176x1024 .f32) (g b : Vec F S1x1024 .f32) (h : Vec F S2176x1024 .bf16)
  (wg wu wd : Vec F S256x1024 .bf16) (acc : Vec F S2176x1024 .f32)

/-- The scaled input the accumulation starts from. -/
def inAcc : Vec F S2176x1024 .f32 := byRows (N := 2176) (C := 1024) 544 fun k => k0_pay3 (up3 (rows 544 k X))

/-- The block's input in the narrow format. -/
def inHb : Vec F S2176x1024 .bf16 := byRows (N := 2176) (C := 1024) 544 fun k => k0_pay4 (up3 (rows 544 k X))

/-- The gated pre-activation of this point's 256 columns. -/
def allU : Vec F S1x2176x256 .bf16 := byMid (N := 2176) (C := 256) 544 fun k => k0_pay16 (rows (N := 2176) (C := 1024) 544 k h) wg

/-- The linear pre-activation of this point's 256 columns. -/
def allV : Vec F S1x2176x256 .bf16 := byMid (N := 2176) (C := 256) 544 fun k => k0_pay17 (rows (N := 2176) (C := 1024) 544 k h) wu

/-- The accumulated rows with this point's share added. -/
def nextAcc : Vec F S2176x1024 .f32 := byRows (N := 2176) (C := 1024) 544 fun k =>
  k0_pay19 (k0_pay18 (rows (N := 2176) (C := 1024) 544 k h) wg wu (rows (N := 2176) (C := 1024) 544 k acc) wd)

/-- The normalised rows. -/
def allOut (acc : Vec F S2176x1024 .f32) (go bo : Vec F S1x1024 .f32) : Vec F S2176x1024 .bf16 := byRows (N := 2176) (C := 1024) 544 fun k => k0_pay44 (rows (N := 2176) (C := 1024) 544 k acc) go bo

/-- The word that says whether the point is the grid's first. -/
abbrev firstWord (i : grid0.Coords) : BitVec 1 :=
  Scalar.cmpi .ne (Scalar.extui (Scalar.cmpi .eq (BitVec.ofNat 32 (i 0).val) 0#32)) 0#32

end Cert.Kernel4Ideal.Gen

end
-- ==== Proof.Entry4.lean ====
module

public import proofs.«01_k».proof.Proof.Chunk4
public import proofs.«01_k».proof.Proof.Gen.Kernel4Ideal.Points
public import Idealize.ShloMosaic.Lib.Pipeline.FrameValue

@[expose] public section

/-!
  # What the launch hands the grid

  The buffers the kernel's body names at a grid point, the cells it signals on, and the launch's invariant written out
  over them.
-/

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to the grid, over the algebra that counts transfers. -/
theorem hmain_counted (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body takes its first branch at the first point only. -/
theorem at_first (t : Fin cfg0.N) : firstWord (grid0.coords t) = 1#1 ↔ t.val = 0 := by
  have ht : t.val < 11 := Nat.lt_of_lt_of_eq t.isLt N_0
  have e0 : (grid0.coords t 0).val = t.val / 1 % 11 := Pipeline.Grid.coords_val t 0 (by decide) rfl
  refine Iff.trans (b := t.val % 11 = 0) ?_ (by omega)
  simp only [firstWord, e0]
  word_cmp

/-- The body takes its second branch at every point but the last. -/
theorem before_last (t : Fin cfg0.N) : k0_cond2 (grid0.coords t) = 1#1 ↔ t.val ≠ 10 := by
  have ht : t.val < 11 := Nat.lt_of_lt_of_eq t.isLt N_0
  have e0 : (grid0.coords t 0).val = t.val / 1 % 11 := Pipeline.Grid.coords_val t 0 (by decide) rfl
  refine Iff.trans (b := t.val % 11 < 10) ?_ (by omega)
  simp only [k0_cond2, e0]
  word_cmp

/-- The body takes its third branch at the last point only. -/
theorem at_last (t : Fin cfg0.N) : k0_cond3 (grid0.coords t) = 1#1 ↔ t.val = 10 := by
  have ht : t.val < 11 := Nat.lt_of_lt_of_eq t.isLt N_0
  have e0 : (grid0.coords t 0).val = t.val / 1 % 11 := Pipeline.Grid.coords_val t 0 (by decide) rfl
  refine Iff.trans (b := t.val % 11 = 10) ?_ (by omega)
  simp only [k0_cond3, e0]
  word_cmp

abbrev stg0 (t : Fin cfg0.N) : Memref sig .tc .vmem S1x1024 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S1x1024 .f32 := win0_1.stage (cfg0.slots t 1)
abbrev whole1 (t : Fin cfg0.N) : (stg1 t).IsWhole := hstage0_1 ((cfg0.slots t 1).cast nbuf0_1)
abbrev stg2 (t : Fin cfg0.N) : Memref sig .tc .vmem S1x1024 .f32 := win0_2.stage (cfg0.slots t 2)
abbrev whole2 (t : Fin cfg0.N) : (stg2 t).IsWhole := hstage0_2 ((cfg0.slots t 2).cast nbuf0_2)
abbrev stg3 (t : Fin cfg0.N) : Memref sig .tc .vmem S1x1024 .f32 := win0_3.stage (cfg0.slots t 3)
abbrev whole3 (t : Fin cfg0.N) : (stg3 t).IsWhole := hstage0_3 ((cfg0.slots t 3).cast nbuf0_3)
abbrev stg4 (t : Fin cfg0.N) : Memref sig .tc .vmem S256x1024 .bf16 := win0_4.stage (cfg0.slots t 4)
abbrev whole4 (t : Fin cfg0.N) : (stg4 t).IsWhole := hstage0_4 ((cfg0.slots t 4).cast nbuf0_4)
abbrev stg5 (t : Fin cfg0.N) : Memref sig .tc .vmem S256x1024 .bf16 := win0_5.stage (cfg0.slots t 5)
abbrev whole5 (t : Fin cfg0.N) : (stg5 t).IsWhole := hstage0_5 ((cfg0.slots t 5).cast nbuf0_5)
abbrev stg6 (t : Fin cfg0.N) : Memref sig .tc .vmem S256x1024 .bf16 := win0_6.stage (cfg0.slots t 6)
abbrev whole6 (t : Fin cfg0.N) : (stg6 t).IsWhole := hstage0_6 ((cfg0.slots t 6).cast nbuf0_6)
abbrev stg7 (t : Fin cfg0.N) : Memref sig .tc .vmem S1x2176x256 .bf16 := win0_7.stage (cfg0.slots t 7)
abbrev whole7 (t : Fin cfg0.N) : (stg7 t).IsWhole := hstage0_7 ((cfg0.slots t 7).cast nbuf0_7)
abbrev stg8 (t : Fin cfg0.N) : Memref sig .tc .vmem S1x2176x256 .bf16 := win0_8.stage (cfg0.slots t 8)
abbrev whole8 (t : Fin cfg0.N) : (stg8 t).IsWhole := hstage0_8 ((cfg0.slots t 8).cast nbuf0_8)

abbrev sc0 : Memref sig .tc .vmem S2176x1024 .f32 := Memref.whole cc0_scratch0
abbrev sc1 : Memref sig .tc .vmem S2176x1024 .bf16 := Memref.whole cc0_scratch1
abbrev sc2 : Memref sig .tc .vmem S2x544x1024 .f32 := Memref.whole cc0_scratch2

/-- The cells the body signals its own transfers on. -/
abbrev ownCells : Fin 10 → SemLoc sig := ![SemLoc.dma 14, SemLoc.dma 15, SemLoc.dma 16, SemLoc.dma 17, SemLoc.dma 18, SemLoc.dma 19, SemLoc.dma 20, SemLoc.dma 21, SemLoc.dma 22, SemLoc.dma 23]

theorem ownCells_facts : Pipeline.OwnSemFacts spec0 ownCells := by decide

/-- The operand the body only reads, by its own transfers. -/
def readRefs : Finset (Ref sig .tc) := {main_arg0}
/-- The results the body writes, by its own transfers. -/
def sentRefs : Finset (Ref sig .tc) := {main_v7_2, main_v7_3}

theorem readRefs_sub : readRefs ⊆ Pipeline.restRefs sig spec0 := by decide
theorem sentRefs_sub : sentRefs ⊆ Pipeline.restRefs sig spec0 \ readRefs := by decide

theorem ownCells_eq (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) := by
  rw [Pipeline.ownSems0_eq_of_list c ownCells [0, 1, 2, 3, 4, 5, 6, 7, 8, 9] (by decide) (by decide)]; rfl

theorem readRefs_eq (c : Dev nD) :
    (bigSep readRefs (fun b => ((c : Thread nD τ).loc b) ↦{fullShare} V m c b) : sProp 𝕄) = holds c (Memref.whole main_arg0) (V m c main_arg0) := by
  rw [BI.bigSep_eq_bigSepL_of_eq [main_arg0] (by decide) (by decide)]; rfl

theorem sentRefs_eq (c : Dev nD) (G : (b : Ref sig .tc) → Buf (Elt F) ((c : Thread nD τ).loc b)) :
    (Pipeline.routed sentRefs c G : sProp 𝕄) = iprop(holds c (Memref.whole main_v7_2) (G main_v7_2) ∗ holds c (Memref.whole main_v7_3) (G main_v7_3)) := by
  unfold Pipeline.routed; rw [BI.bigSep_eq_bigSepL_of_eq [main_v7_2, main_v7_3] (by decide) (by decide)]; rfl

/-- The launch's invariant, conjunct by conjunct: the scratch buffers at any contents, the generator register, the cells
    at zero, the operand read, and the results at given contents. -/
theorem entry_eq (c : Dev nD) (G : (c : Dev nD) → (b : Ref sig .tc) → Buf (Elt F) ((c : Thread nD τ).loc b)) :
    (Pipeline.ΦDRG ownCells spec0 readRefs sentRefs (V m) G c : sProp 𝕄)
      = iprop(iprop((∃ d, owns (c : Thread nD τ) sc0 fullShare d) ∗ (∃ d, owns (c : Thread nD τ) sc1 fullShare d) ∗ (∃ d, owns (c : Thread nD τ) sc2 fullShare d))
          ∗ (∃ r, prngReg c r)
          ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0)
          ∗ holds c (Memref.whole main_arg0) (V m c main_arg0)
          ∗ iprop(holds c (Memref.whole main_v7_2) (G c main_v7_2) ∗ holds c (Memref.whole main_v7_3) (G c main_v7_3))) := by
  rw [Pipeline.ΦDRG_eq, scopedRest0_eq, ownCells_eq, readRefs_eq, sentRefs_eq]; simp only [sc0, sc1, sc2, owns_whole]; try rfl

end Cert.Kernel4Ideal.Gen

end
-- ==== Proof.RunA4.lean ====
module

public import proofs.«01_k».proof.Proof.Chunk4
public import proofs.«01_k».proof.Proof.Gen.Kernel4Ideal.Frame
public import Idealize.ShloMosaic.Lib.Tactic

@[expose] public section

/-!
  # The first grid point
-/

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn

variable {F : FTy → Type} [FloatOps F]

local notation "𝕄" => MT nD τ sig Unit (Elt F) ℕ (Pipeline.UD sig nD τ) ℕ

set_option maxHeartbeats 5396000 in
set_option sl_exec.dmaWindow true in
set_option sl_exec.dmaWindowSet true in
theorem runA (c : Dev nD) (i : grid0.Coords)
    (arg2 : Memref sig .tc .vmem S1x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S256x1024 .bf16) (harg6 : arg6.IsWhole)
    (arg7 : Memref sig .tc .vmem S256x1024 .bf16) (harg7 : arg7.IsWhole)
    (arg8 : Memref sig .tc .vmem S256x1024 .bf16) (harg8 : arg8.IsWhole)
    (arg9 : Memref sig .tc .vmem S1x2176x256 .bf16) (harg9 : arg9.IsWhole)
    (arg10 : Memref sig .tc .vmem S1x2176x256 .bf16) (harg10 : arg10.IsWhole)
    (arg13 : Memref sig .tc .vmem S2176x1024 .f32) (harg13 : arg13.IsWhole)
    (arg14 : Memref sig .tc .vmem S2176x1024 .bf16) (harg14 : arg14.IsWhole)
    (arg15 : Memref sig .tc .vmem S2x544x1024 .f32) (harg15 : arg15.IsWhole)
    (hc0 : firstWord i = 1#1) (hc1 : k0_cond2 i = 1#1) (hc2 : ¬ k0_cond3 i = 1#1)
    (g b : Vec F S1x1024 .f32) (wg wu wd : Vec F S256x1024 .bf16) (X : Cont (F := F) c (Memref.whole main_arg0)) (W : Waits sig Unit) (K : PUnit → sProp 𝕄) :
    iprop(owns (c : Thread nD τ) arg2 fullShare g ∗
      owns (c : Thread nD τ) arg3 fullShare b ∗
      owns (c : Thread nD τ) arg6 fullShare wg ∗
      owns (c : Thread nD τ) arg7 fullShare wu ∗
      owns (c : Thread nD τ) arg8 fullShare wd ∗
      (∃ d, owns (c : Thread nD τ) arg9 fullShare d) ∗
      (∃ d, owns (c : Thread nD τ) arg10 fullShare d) ∗
      (∃ d, owns (c : Thread nD τ) arg13 fullShare d) ∗
      (∃ d, owns (c : Thread nD τ) arg14 fullShare d) ∗
      (∃ d, owns (c : Thread nD τ) arg15 fullShare d) ∗
      semVal ((c : Thread nD τ), SemLoc.dma 14) 0 ∗
      semVal ((c : Thread nD τ), SemLoc.dma 15) 0 ∗
      holds c (Memref.whole main_arg0) X ∗
      owes (c : Thread nD τ) 0 W ∗
      (iprop(owns (c : Thread nD τ) arg2 fullShare g ∗
        owns (c : Thread nD τ) arg3 fullShare b ∗
        owns (c : Thread nD τ) arg6 fullShare wg ∗
        owns (c : Thread nD τ) arg7 fullShare wu ∗
        owns (c : Thread nD τ) arg8 fullShare wd ∗
        owns (c : Thread nD τ) arg9 fullShare (allU (inHb X) wg) ∗
        owns (c : Thread nD τ) arg10 fullShare (allV (inHb X) wu) ∗
        owns (c : Thread nD τ) arg13 fullShare (nextAcc (inHb X) wg wu wd (inAcc X)) ∗
        owns (c : Thread nD τ) arg14 fullShare (inHb X) ∗
        (∃ d, owns (c : Thread nD τ) arg15 fullShare d) ∗
        semVal ((c : Thread nD τ), SemLoc.dma 14) 0 ∗
        semVal ((c : Thread nD τ), SemLoc.dma 15) 0 ∗
        holds c (Memref.whole main_arg0) X ∗
        (∃ W', owes (c : Thread nD τ) 0 W')) -∗ K ⟨⟩))
    ⊢ wp frame (wpE (defs₀ (F := F)) Variants.none c none) Set.univ
        (cc0_ffn_fwd_seq i (Memref.whole main_arg0) (Memref.isWhole_whole _) arg2 harg2 arg3 harg3 arg4 harg4 arg5 harg5 arg6 harg6 arg7 harg7 arg8 harg8 arg9 harg9 arg10 harg10 (Memref.whole main_v7_2) (Memref.isWhole_whole _) (Memref.whole main_v7_3) (Memref.isWhole_whole _) arg13 harg13 arg14 harg14 arg15 harg15 cc0_scratch3 cc0_scratch4) K := by
  simp only [cc0_ffn_fwd_seq_eq_skeleton]; unfold cc0_ffn_fwd_seq_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f2, %hf2, H2⟩, ⟨%f3, %hf3, H3⟩, ⟨%f6, %hf6, H6⟩, ⟨%f7, %hf7, H7⟩, ⟨%f8, %hf8, H8⟩, ⟨%d9, %f9, -, H9⟩, ⟨%d10, %f10, -, H10⟩, ⟨%d13, %f13, -, H13⟩, ⟨%d14, %f14, -, H14⟩, ⟨%d15, %f15, -, H15⟩, Hq0, Hq1, HX, HW, Hk⟩
  obtain rfl := harg2.eq_unread hf2; obtain rfl := harg3.eq_unread hf3; obtain rfl := harg6.eq_unread hf6; obtain rfl := harg7.eq_unread hf7; obtain rfl := harg8.eq_unread hf8
  sl_exec (disch := first | sl_exact hc0 | sl_exact hc1 | sl_exact hc2)
  sl_step
  have hL13 : ∀ p ∈ runA.sl.H13_4 c arg15 X f15, ∀ x, p.2 x = (inAcc X) (p.1.emb x) := by
    unfold runA.sl.H13_4
    repeat' refine List.forall_mem_cons.2 ⟨fun x => ?_, ?_⟩
    on_goal 5 => exact fun p hp => absurd hp List.not_mem_nil
    all_goals
      refine Eq.trans ?_ (byRows_at (N := 2176) (C := 1024) (n := 544) _ (by decide) x (by rfl))
      iterate 6 sl_unfold_run_names
      repeat' first | rw [load_whole] | erw [load3_1] | erw [load3_0] | erw [load3_top] | erw [copied_band]
      try rfl
  have hc13 : ∀ y, ∃ p ∈ runA.sl.H13_4 c arg15 X f15, y ∈ p.1.set := View.cover_of_tiled _ ![544, 1024] (by rfl)
  have h13 := load_rows_covered arg13.view (runA.sl.H13_4 c arg15 X f15) (inAcc X) hL13 hc13
  have hL14 : ∀ p ∈ runA.sl.H14_4 c arg15 X f15, ∀ x, p.2 x = (inHb X) (p.1.emb x) := by
    unfold runA.sl.H14_4
    repeat' refine List.forall_mem_cons.2 ⟨fun x => ?_, ?_⟩
    on_goal 5 => exact fun p hp => absurd hp List.not_mem_nil
    all_goals
      refine Eq.trans ?_ (byRows_at (N := 2176) (C := 1024) (n := 544) _ (by decide) x (by rfl))
      iterate 6 sl_unfold_run_names
      repeat' first | rw [load_whole] | erw [load3_1] | erw [load3_0] | erw [load3_top] | erw [copied_band]
      try rfl
  have hc14 : ∀ y, ∃ p ∈ runA.sl.H14_4 c arg15 X f15, y ∈ p.1.set := View.cover_of_tiled _ ![544, 1024] (by rfl)
  have h14 := load_rows_covered arg14.view (runA.sl.H14_4 c arg15 X f15) (inHb X) hL14 hc14
  iapply Hk
  isplitl [H2]
  · iexists _; isplitr; · ipureintro; exact hf2
    iexact H2
  isplitl [H3]
  · iexists _; isplitr; · ipureintro; exact hf3
    iexact H3
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  on_goal 2 => isplitl [H10]
  iterate 2
    · iexists _; isplitr
      swap; · first | iexact H9 | iexact H10
      ipureintro
      refine read_writes_of_pieces _ _ _ _ ?_ (View.cover_of_tiled _ ![1, 544, 256] (by rfl))
      repeat' refine List.forall_mem_cons.2 ⟨fun x => ?_, ?_⟩
      on_goal 5 => exact fun p hp => absurd hp List.not_mem_nil
      all_goals
        refine Eq.trans ?_ (byMid_at (N := 2176) (C := 256) (n := 544) _ (by decide) x (by rfl))
        repeat' first | rw [h14] | rw [h13] | rw [load_whole] | (rw [load_rows_past]; swap; · decide) | unfold runA.sl.v9 | unfold runA.sl.v24 | unfold runA.sl.v24_1 | unfold runA.sl.v44 | unfold runA.sl.v59 | unfold runA.sl.v79 | unfold runA.sl.v94 | unfold runA.sl.v114 | unfold runA.sl.v129 | unfold runA.sl.H13_5 | unfold runA.sl.H13_6 | unfold runA.sl.H13_7 | unfold runA.sl.r | unfold runA.sl.r_1 | unfold runA.sl.r_2 | unfold runA.sl.r_3 | unfold runA.sl.r_4
        try rfl
  isplitl [H13]
  · iexists _; isplitr
    swap; · iexact H13
    ipureintro
    unfold runA.sl.H13_7 runA.sl.H13_6 runA.sl.H13_5
    refine read_newest _ _ _ _ _ _ _ _ ?_ (View.cover_of_tiled _ ![544, 1024] (by rfl))
    repeat' refine List.forall_mem_cons.2 ⟨fun x => ?_, ?_⟩
    on_goal 5 => exact fun p hp => absurd hp List.not_mem_nil
    all_goals
      refine Eq.trans ?_ (byRows_at (N := 2176) (C := 1024) (n := 544) _ (by decide) x (by rfl))
      repeat' first | rw [h14] | rw [h13] | rw [load_whole] | (rw [load_rows_past]; swap; · decide) | unfold runA.sl.v9 | unfold runA.sl.v24 | unfold runA.sl.v24_1 | unfold runA.sl.v44 | unfold runA.sl.v59 | unfold runA.sl.v79 | unfold runA.sl.v94 | unfold runA.sl.v114 | unfold runA.sl.v129 | unfold runA.sl.H13_5 | unfold runA.sl.H13_6 | unfold runA.sl.H13_7 | unfold runA.sl.r | unfold runA.sl.r_1 | unfold runA.sl.r_2 | unfold runA.sl.r_3 | unfold runA.sl.r_4
      try rfl
  isplitl [H14]
  · iexists _; isplitr
    swap; · iexact H14
    ipureintro
    exact read_writes_of_pieces _ _ _ _ hL14 hc14
  isplitl [H15]
  · iexists _, _; isplitr; swap; · iexact H15
    ipureintro; rfl
  iframe Hq0 Hq1 HX
  iexists _; iexact HW

end Cert.Kernel4Ideal.Gen

end
-- ==== Proof.RunB4.lean ====
module

public import proofs.«01_k».proof.Proof.Chunk4
public import proofs.«01_k».proof.Proof.Gen.Kernel4Ideal.Frame
public import Idealize.ShloMosaic.Lib.Tactic

@[expose] public section

/-!
  # A grid point that is neither the first nor the last
-/

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn

variable {F : FTy → Type} [FloatOps F]

local notation "𝕄" => MT nD τ sig Unit (Elt F) ℕ (Pipeline.UD sig nD τ) ℕ

set_option maxHeartbeats 5396000 in
set_option sl_exec.dmaWindow true in
set_option sl_exec.dmaWindowSet true in
theorem runB (c : Dev nD) (i : grid0.Coords)
    (arg2 : Memref sig .tc .vmem S1x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S256x1024 .bf16) (harg6 : arg6.IsWhole)
    (arg7 : Memref sig .tc .vmem S256x1024 .bf16) (harg7 : arg7.IsWhole)
    (arg8 : Memref sig .tc .vmem S256x1024 .bf16) (harg8 : arg8.IsWhole)
    (arg9 : Memref sig .tc .vmem S1x2176x256 .bf16) (harg9 : arg9.IsWhole)
    (arg10 : Memref sig .tc .vmem S1x2176x256 .bf16) (harg10 : arg10.IsWhole)
    (arg13 : Memref sig .tc .vmem S2176x1024 .f32) (harg13 : arg13.IsWhole)
    (arg14 : Memref sig .tc .vmem S2176x1024 .bf16) (harg14 : arg14.IsWhole)
    (arg15 : Memref sig .tc .vmem S2x544x1024 .f32) (harg15 : arg15.IsWhole)
    (hc0 : ¬ firstWord i = 1#1) (hc1 : k0_cond2 i = 1#1) (hc2 : ¬ k0_cond3 i = 1#1)
    (wg wu wd : Vec F S256x1024 .bf16) (acc : Vec F S2176x1024 .f32) (h : Vec F S2176x1024 .bf16) (K : PUnit → sProp 𝕄) :
    iprop(owns (c : Thread nD τ) arg6 fullShare wg ∗
      owns (c : Thread nD τ) arg7 fullShare wu ∗
      owns (c : Thread nD τ) arg8 fullShare wd ∗
      (∃ d, owns (c : Thread nD τ) arg9 fullShare d) ∗
      (∃ d, owns (c : Thread nD τ) arg10 fullShare d) ∗
      owns (c : Thread nD τ) arg13 fullShare acc ∗
      owns (c : Thread nD τ) arg14 fullShare h ∗
      (iprop(owns (c : Thread nD τ) arg6 fullShare wg ∗
        owns (c : Thread nD τ) arg7 fullShare wu ∗
        owns (c : Thread nD τ) arg8 fullShare wd ∗
        owns (c : Thread nD τ) arg9 fullShare (allU h wg) ∗
        owns (c : Thread nD τ) arg10 fullShare (allV h wu) ∗
        owns (c : Thread nD τ) arg13 fullShare (nextAcc h wg wu wd acc) ∗
        owns (c : Thread nD τ) arg14 fullShare h) -∗ K ⟨⟩))
    ⊢ wp frame (wpE (defs₀ (F := F)) Variants.none c none) Set.univ
        (cc0_ffn_fwd_seq i (Memref.whole main_arg0) (Memref.isWhole_whole _) arg2 harg2 arg3 harg3 arg4 harg4 arg5 harg5 arg6 harg6 arg7 harg7 arg8 harg8 arg9 harg9 arg10 harg10 (Memref.whole main_v7_2) (Memref.isWhole_whole _) (Memref.whole main_v7_3) (Memref.isWhole_whole _) arg13 harg13 arg14 harg14 arg15 harg15 cc0_scratch3 cc0_scratch4) K := by
  simp only [cc0_ffn_fwd_seq_eq_skeleton]; unfold cc0_ffn_fwd_seq_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f6, %hf6, H6⟩, ⟨%f7, %hf7, H7⟩, ⟨%f8, %hf8, H8⟩, ⟨%d9, %f9, -, H9⟩, ⟨%d10, %f10, -, H10⟩, ⟨%f13, %hf13, H13⟩, ⟨%f14, %hf14, H14⟩, Hk⟩
  obtain rfl := harg6.eq_unread hf6; obtain rfl := harg7.eq_unread hf7; obtain rfl := harg8.eq_unread hf8; obtain rfl := harg13.eq_unread hf13; obtain rfl := harg14.eq_unread hf14
  sl_exec (disch := first | sl_exact hc0 | sl_exact hc1 | sl_exact hc2)
  sl_step
  iapply Hk
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr
    swap; · iexact H9
    ipureintro
    refine read_writes_of_pieces _ _ _ _ ?_ (View.cover_of_tiled _ ![1, 544, 256] (by rfl))
    repeat' refine List.forall_mem_cons.2 ⟨fun x => ?_, ?_⟩
    on_goal 5 => exact fun p hp => absurd hp List.not_mem_nil
    all_goals
      refine Eq.trans ?_ (byMid_at (N := 2176) (C := 256) (n := 544) _ (by decide) x (by rfl))
      iterate 8 sl_unfold_run_names
      repeat' first | rw [load_whole] | rw [load_rows]
      try rfl
  isplitl [H10]
  · iexists _; isplitr
    swap; · iexact H10
    ipureintro
    refine read_writes_of_pieces _ _ _ _ ?_ (View.cover_of_tiled _ ![1, 544, 256] (by rfl))
    repeat' refine List.forall_mem_cons.2 ⟨fun x => ?_, ?_⟩
    on_goal 5 => exact fun p hp => absurd hp List.not_mem_nil
    all_goals
      refine Eq.trans ?_ (byMid_at (N := 2176) (C := 256) (n := 544) _ (by decide) x (by rfl))
      iterate 8 sl_unfold_run_names
      repeat' first | rw [load_whole] | rw [load_rows]
      try rfl
  isplitl [H13]
  · iexists _; isplitr
    swap; · iexact H13
    ipureintro
    refine read_writes_of_pieces _ _ _ _ ?_ (View.cover_of_tiled _ ![544, 1024] (by rfl))
    repeat' refine List.forall_mem_cons.2 ⟨fun x => ?_, ?_⟩
    on_goal 5 => exact fun p hp => absurd hp List.not_mem_nil
    all_goals
      refine Eq.trans ?_ (byRows_at (N := 2176) (C := 1024) (n := 544) _ (by decide) x (by rfl))
      iterate 8 sl_unfold_run_names
      repeat' first | rw [load_whole] | rw [load_rows]
      try rfl
  iexists _; isplitr; · ipureintro; exact hf14
  iexact H14

end Cert.Kernel4Ideal.Gen

end
-- ==== Proof.RunC4.lean ====
module

public import proofs.«01_k».proof.Proof.Chunk4
public import proofs.«01_k».proof.Proof.Gen.Kernel4Ideal.Frame
public import Idealize.ShloMosaic.Lib.Tactic

@[expose] public section

/-!
  # The last grid point
-/

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn

variable {F : FTy → Type} [FloatOps F]

local notation "𝕄" => MT nD τ sig Unit (Elt F) ℕ (Pipeline.UD sig nD τ) ℕ

set_option maxHeartbeats 5396000 in
set_option sl_exec.dmaWindow true in
set_option sl_exec.dmaWindowSet true in
set_option sl_exec.lendShare "H13a, H13b, H13c, H13d" in
theorem runC (c : Dev nD) (i : grid0.Coords)
    (arg2 : Memref sig .tc .vmem S1x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S256x1024 .bf16) (harg6 : arg6.IsWhole)
    (arg7 : Memref sig .tc .vmem S256x1024 .bf16) (harg7 : arg7.IsWhole)
    (arg8 : Memref sig .tc .vmem S256x1024 .bf16) (harg8 : arg8.IsWhole)
    (arg9 : Memref sig .tc .vmem S1x2176x256 .bf16) (harg9 : arg9.IsWhole)
    (arg10 : Memref sig .tc .vmem S1x2176x256 .bf16) (harg10 : arg10.IsWhole)
    (arg13 : Memref sig .tc .vmem S2176x1024 .f32) (harg13 : arg13.IsWhole)
    (arg14 : Memref sig .tc .vmem S2176x1024 .bf16) (harg14 : arg14.IsWhole)
    (arg15 : Memref sig .tc .vmem S2x544x1024 .f32) (harg15 : arg15.IsWhole)
    (hc0 : ¬ firstWord i = 1#1) (hc1 : ¬ k0_cond2 i = 1#1) (hc2 : k0_cond3 i = 1#1)
    (go bo : Vec F S1x1024 .f32) (wg wu wd : Vec F S256x1024 .bf16) (acc : Vec F S2176x1024 .f32) (h : Vec F S2176x1024 .bf16) (W : Waits sig Unit) (K : PUnit → sProp 𝕄) :
    iprop(owns (c : Thread nD τ) arg4 fullShare go ∗
      owns (c : Thread nD τ) arg5 fullShare bo ∗
      owns (c : Thread nD τ) arg6 fullShare wg ∗
      owns (c : Thread nD τ) arg7 fullShare wu ∗
      owns (c : Thread nD τ) arg8 fullShare wd ∗
      (∃ d, owns (c : Thread nD τ) arg9 fullShare d) ∗
      (∃ d, owns (c : Thread nD τ) arg10 fullShare d) ∗
      owns (c : Thread nD τ) arg13 fullShare acc ∗
      owns (c : Thread nD τ) arg14 fullShare h ∗
      semVal ((c : Thread nD τ), SemLoc.dma 16) 0 ∗
      semVal ((c : Thread nD τ), SemLoc.dma 17) 0 ∗
      semVal ((c : Thread nD τ), SemLoc.dma 18) 0 ∗
      semVal ((c : Thread nD τ), SemLoc.dma 19) 0 ∗
      semVal ((c : Thread nD τ), SemLoc.dma 20) 0 ∗
      semVal ((c : Thread nD τ), SemLoc.dma 21) 0 ∗
      semVal ((c : Thread nD τ), SemLoc.dma 22) 0 ∗
      semVal ((c : Thread nD τ), SemLoc.dma 23) 0 ∗
      (∃ f, holds c (Memref.whole main_v7_2) f) ∗
      (∃ f, holds c (Memref.whole main_v7_3) f) ∗
      owes (c : Thread nD τ) 0 W ∗
      (iprop(owns (c : Thread nD τ) arg4 fullShare go ∗
        owns (c : Thread nD τ) arg5 fullShare bo ∗
        owns (c : Thread nD τ) arg6 fullShare wg ∗
        owns (c : Thread nD τ) arg7 fullShare wu ∗
        owns (c : Thread nD τ) arg8 fullShare wd ∗
        owns (c : Thread nD τ) arg9 fullShare (allU h wg) ∗
        owns (c : Thread nD τ) arg10 fullShare (allV h wu) ∗
        (∃ d, owns (c : Thread nD τ) arg13 fullShare d) ∗
        (∃ d, owns (c : Thread nD τ) arg14 fullShare d) ∗
        semVal ((c : Thread nD τ), SemLoc.dma 16) 0 ∗
        semVal ((c : Thread nD τ), SemLoc.dma 17) 0 ∗
        semVal ((c : Thread nD τ), SemLoc.dma 18) 0 ∗
        semVal ((c : Thread nD τ), SemLoc.dma 19) 0 ∗
        semVal ((c : Thread nD τ), SemLoc.dma 20) 0 ∗
        semVal ((c : Thread nD τ), SemLoc.dma 21) 0 ∗
        semVal ((c : Thread nD τ), SemLoc.dma 22) 0 ∗
        semVal ((c : Thread nD τ), SemLoc.dma 23) 0 ∗
        holds c (Memref.whole main_v7_2) (nextAcc h wg wu wd acc) ∗
        holds c (Memref.whole main_v7_3) (allOut (nextAcc h wg wu wd acc) go bo) ∗
        (∃ W', owes (c : Thread nD τ) 0 W')) -∗ K ⟨⟩))
    ⊢ wp frame (wpE (defs₀ (F := F)) Variants.none c none) Set.univ
        (cc0_ffn_fwd_seq i (Memref.whole main_arg0) (Memref.isWhole_whole _) arg2 harg2 arg3 harg3 arg4 harg4 arg5 harg5 arg6 harg6 arg7 harg7 arg8 harg8 arg9 harg9 arg10 harg10 (Memref.whole main_v7_2) (Memref.isWhole_whole _) (Memref.whole main_v7_3) (Memref.isWhole_whole _) arg13 harg13 arg14 harg14 arg15 harg15 cc0_scratch3 cc0_scratch4) K := by
  simp only [cc0_ffn_fwd_seq_eq_skeleton]; unfold cc0_ffn_fwd_seq_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f13, %hf13, H13⟩, ⟨%f14, %hf14, H14⟩, Hq0, Hq1, Hq2, Hq3, Hq4, Hq5, Hq6, Hq7, ⟨%fr, Hr⟩, ⟨%fy, Hy⟩, HW, Hk⟩
  obtain rfl := harg4.eq_unread hf4; obtain rfl := harg5.eq_unread hf5; obtain rfl := harg6.eq_unread hf6; obtain rfl := harg7.eq_unread hf7; obtain rfl := harg8.eq_unread hf8; obtain rfl := harg13.eq_unread hf13; obtain rfl := harg14.eq_unread hf14
  ihave H13q := Ffn.quarters (c : Thread nD τ) arg13 _ $$ H13
  icases H13q with ⟨H13a, H13b, H13c, H13d⟩
  unfold Ffn.band
  ihave G13b := Ffn.put _ $$ H13b
  ihave G13c := Ffn.put _ $$ H13c
  ihave G13d := Ffn.put _ $$ H13d
  sl_exec (disch := first | sl_exact hc0 | sl_exact hc1 | sl_exact hc2)
  ihave G13a := Ffn.put _ $$ H13a
  ihave H13b := Ffn.take _ $$ G13b
  sl_exec
  ihave G13b := Ffn.put _ $$ H13b
  ihave H13c := Ffn.take _ $$ G13c
  sl_exec
  ihave G13c := Ffn.put _ $$ H13c
  ihave H13d := Ffn.take _ $$ G13d
  set_option sl_exec.stopBefore "k0_part16_skel" in sl_exec
  ihave H13a := Ffn.take _ $$ G13a
  ihave H13b := Ffn.take _ $$ G13b
  ihave H13c := Ffn.take _ $$ G13c
  sl_exec
  sl_step
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  on_goal 2 => isplitl [H10]
  iterate 2
    · iexists _; isplitr
      swap; · first | iexact H9 | iexact H10
      ipureintro
      refine read_writes_of_pieces _ _ _ _ ?_ (View.cover_of_tiled _ ![1, 544, 256] (by rfl))
      repeat' refine List.forall_mem_cons.2 ⟨fun x => ?_, ?_⟩
      on_goal 5 => exact fun p hp => absurd hp List.not_mem_nil
      all_goals
        refine Eq.trans ?_ (byMid_at (N := 2176) (C := 256) (n := 544) _ (by decide) x (by rfl))
        repeat' first | rw [load_whole] | rw [load_rows] | rw [copied_new] | rw [load_new] | unfold runC.sl.H13a_1 | unfold runC.sl.H13b_1 | unfold runC.sl.H13c_1 | unfold runC.sl.H13d_1 | unfold runC.sl.H14_1 | unfold runC.sl.H14_2 | unfold runC.sl.H14_3 | unfold runC.sl.H14_4 | unfold runC.sl.cst_154 | unfold runC.sl.dma2 | unfold runC.sl.dma4 | unfold runC.sl.dma4_1 | unfold runC.sl.dma4_2 | unfold runC.sl.dma9 | unfold runC.sl.dma9_1 | unfold runC.sl.dma11 | unfold runC.sl.dma16 | unfold runC.sl.r | unfold runC.sl.r_1 | unfold runC.sl.r_2 | unfold runC.sl.r_3 | unfold runC.sl.r_4 | unfold runC.sl.r_5 | unfold runC.sl.r_6 | unfold runC.sl.r_7 | unfold runC.sl.r_8 | unfold runC.sl.r_9 | unfold runC.sl.r_10 | unfold runC.sl.r_11 | unfold runC.sl.r_12 | unfold runC.sl.r_13 | unfold runC.sl.r_14 | unfold runC.sl.r_15 | unfold runC.sl.r_16 | unfold runC.sl.r_17 | unfold runC.sl.r_18 | unfold runC.sl.v48 | unfold runC.sl.v81 | unfold runC.sl.v96 | unfold runC.sl.v120 | unfold runC.sl.v153 | unfold runC.sl.v168 | unfold runC.sl.v192 | unfold runC.sl.v225 | unfold runC.sl.v240 | unfold runC.sl.v264
        try rfl
  isplitl [H13a H13b H13c H13d]
  · ihave H13 := Ffn.quarters_join (c : Thread nD τ) arg13 _ _ _ _ $$ [H13a H13b H13c H13d]
    · iframe H13a H13b H13c H13d
    icases H13 with ⟨%g13, H13⟩
    iexists _, _; isplitr; swap; · iexact H13
    ipureintro; rfl
  isplitl [H14]
  · iexists _, _; isplitr; swap; · iexact H14
    ipureintro; rfl
  iframe Hq0 Hq1 Hq2 Hq3 Hq4 Hq5 Hq6 Hq7
  isplitl [Hr]
  · ihave Gr := stored c main_v7_2 _ _ (nextAcc h wg wu wd acc) ?_ $$ Hr
    swap; · iexact Gr
    refine read_writes_of_pieces _ _ _ _ ?_ (View.cover_of_tiled _ ![544, 1024] (by rfl))
    repeat' refine List.forall_mem_cons.2 ⟨fun x => ?_, ?_⟩
    on_goal 5 => exact fun p hp => absurd hp List.not_mem_nil
    all_goals
      refine Eq.trans ?_ (byRows_at (N := 2176) (C := 1024) (n := 544) _ (by decide) x (by rfl))
      repeat' first | rw [load_whole] | rw [load_rows] | rw [copied_new] | rw [load_new] | unfold runC.sl.H13a_1 | unfold runC.sl.H13b_1 | unfold runC.sl.H13c_1 | unfold runC.sl.H13d_1 | unfold runC.sl.H14_1 | unfold runC.sl.H14_2 | unfold runC.sl.H14_3 | unfold runC.sl.H14_4 | unfold runC.sl.cst_154 | unfold runC.sl.dma2 | unfold runC.sl.dma4 | unfold runC.sl.dma4_1 | unfold runC.sl.dma4_2 | unfold runC.sl.dma9 | unfold runC.sl.dma9_1 | unfold runC.sl.dma11 | unfold runC.sl.dma16 | unfold runC.sl.r | unfold runC.sl.r_1 | unfold runC.sl.r_2 | unfold runC.sl.r_3 | unfold runC.sl.r_4 | unfold runC.sl.r_5 | unfold runC.sl.r_6 | unfold runC.sl.r_7 | unfold runC.sl.r_8 | unfold runC.sl.r_9 | unfold runC.sl.r_10 | unfold runC.sl.r_11 | unfold runC.sl.r_12 | unfold runC.sl.r_13 | unfold runC.sl.r_14 | unfold runC.sl.r_15 | unfold runC.sl.r_16 | unfold runC.sl.r_17 | unfold runC.sl.r_18 | unfold runC.sl.v48 | unfold runC.sl.v81 | unfold runC.sl.v96 | unfold runC.sl.v120 | unfold runC.sl.v153 | unfold runC.sl.v168 | unfold runC.sl.v192 | unfold runC.sl.v225 | unfold runC.sl.v240 | unfold runC.sl.v264
      try rfl
  isplitl [Hy]
  · ihave Gy := stored c main_v7_3 _ _ (allOut (nextAcc h wg wu wd acc) go bo) ?_ $$ Hy
    swap; · iexact Gy
    refine read_writes_of_pieces _ _ _ _ ?_ (View.cover_of_tiled _ ![544, 1024] (by rfl))
    repeat' refine List.forall_mem_cons.2 ⟨fun x => ?_, ?_⟩
    on_goal 5 => exact fun p hp => absurd hp List.not_mem_nil
    all_goals
      refine Eq.trans ?_ (byRows_at (N := 2176) (C := 1024) (n := 544) _ (by decide) x (by rfl))
      beta_reduce
      rw [nextAcc, rows_byRows _ _ (by decide)]
      repeat' first | rw [load_whole] | rw [load_rows] | rw [copied_new] | rw [load_new] | unfold runC.sl.H13a_1 | unfold runC.sl.H13b_1 | unfold runC.sl.H13c_1 | unfold runC.sl.H13d_1 | unfold runC.sl.H14_1 | unfold runC.sl.H14_2 | unfold runC.sl.H14_3 | unfold runC.sl.H14_4 | unfold runC.sl.cst_154 | unfold runC.sl.dma2 | unfold runC.sl.dma4 | unfold runC.sl.dma4_1 | unfold runC.sl.dma4_2 | unfold runC.sl.dma9 | unfold runC.sl.dma9_1 | unfold runC.sl.dma11 | unfold runC.sl.dma16 | unfold runC.sl.r | unfold runC.sl.r_1 | unfold runC.sl.r_2 | unfold runC.sl.r_3 | unfold runC.sl.r_4 | unfold runC.sl.r_5 | unfold runC.sl.r_6 | unfold runC.sl.r_7 | unfold runC.sl.r_8 | unfold runC.sl.r_9 | unfold runC.sl.r_10 | unfold runC.sl.r_11 | unfold runC.sl.r_12 | unfold runC.sl.r_13 | unfold runC.sl.r_14 | unfold runC.sl.r_15 | unfold runC.sl.r_16 | unfold runC.sl.r_17 | unfold runC.sl.r_18 | unfold runC.sl.v48 | unfold runC.sl.v81 | unfold runC.sl.v96 | unfold runC.sl.v120 | unfold runC.sl.v153 | unfold runC.sl.v168 | unfold runC.sl.v192 | unfold runC.sl.v225 | unfold runC.sl.v240 | unfold runC.sl.v264
      try rfl
  iexists _; iexact HW

end Cert.Kernel4Ideal.Gen

end
-- ==== Proof.Grid4.lean ====
module

public import Idealize.ShloMosaic.Lib.Pipeline.TableIdle
public import proofs.«01_k».proof.Proof.Entry4
public import proofs.«01_k».proof.Proof.RunA4
public import proofs.«01_k».proof.Proof.RunB4
public import proofs.«01_k».proof.Proof.RunC4

@[expose] public section

/-!
  # The grid

  What each grid point leaves in the kernel's windows and scratch buffers, and the body's triple at every point.
-/

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Ffn
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! The blocks a point is given: the scales and shifts, and the three weights. -/
abbrev gib (c : Dev nD) (t : Fin cfg0.N) : Vec F S1x1024 .f32 := iblk m c 0 t
abbrev bib (c : Dev nD) (t : Fin cfg0.N) : Vec F S1x1024 .f32 := iblk m c 1 t
abbrev gob (c : Dev nD) (t : Fin cfg0.N) : Vec F S1x1024 .f32 := iblk m c 2 t
abbrev bob (c : Dev nD) (t : Fin cfg0.N) : Vec F S1x1024 .f32 := iblk m c 3 t
abbrev wgb (c : Dev nD) (t : Fin cfg0.N) : Vec F S256x1024 .bf16 := iblk m c 4 t
abbrev wub (c : Dev nD) (t : Fin cfg0.N) : Vec F S256x1024 .bf16 := iblk m c 5 t
abbrev wdb (c : Dev nD) (t : Fin cfg0.N) : Vec F S256x1024 .bf16 := iblk m c 6 t

/-- The `n`th point. -/
def pt (n : ℕ) : Fin cfg0.N := ⟨n % 11, lt_of_lt_of_eq (Nat.mod_lt _ (by decide)) (show cfg0.N = 11 from N_0).symm⟩
theorem pt_val (t : Fin cfg0.N) : pt t.val = t :=
  Fin.ext (Nat.mod_eq_of_lt (lt_of_lt_of_eq t.isLt (show cfg0.N = 11 from N_0)))

/-- The block's input, as the first point leaves it for all the others. -/
def hAll (c : Dev nD) : Vec F S2176x1024 .bf16 := inHb (V m c main_arg0)

/-- The rows as accumulated before the `n`th point. -/
def accAt (c : Dev nD) : ℕ → Vec F S2176x1024 .f32
  | 0 => inAcc (V m c main_arg0)
  | n + 1 => nextAcc (hAll m c) (wgb m c (pt n)) (wub m c (pt n)) (wdb m c (pt n)) (accAt c n)

theorem accAt_succ (c : Dev nD) (t : Fin cfg0.N) :
    accAt m c (t.val + 1) = nextAcc (hAll m c) (wgb m c t) (wub m c t) (wdb m c t) (accAt m c t.val) := by
  show nextAcc (hAll m c) (wgb m c (pt t.val)) (wub m c (pt t.val)) (wdb m c (pt t.val)) _ = _
  rw [pt_val]

/-! The two pre-activations' blocks, and the normalised rows. -/
def uB (c : Dev nD) (t : Fin cfg0.N) : Vec F S1x2176x256 .bf16 := allU (hAll m c) (wgb m c t)
def vB (c : Dev nD) (t : Fin cfg0.N) : Vec F S1x2176x256 .bf16 := allV (hAll m c) (wub m c t)
def outY (c : Dev nD) : Vec F S2176x1024 .bf16 := allOut (accAt m c 11) (gob m c (pt 10)) (bob m c (pt 10))

/-- The results of the body's own transfers, and every other buffer as the grid finds it. -/
def G (c : Dev nD) : (b : Ref sig .tc) → Buf (Elt F) ((c : Thread nD τ).loc b) :=
  Function.update (Function.update (fun b => V m c b) main_v7_2 (accAt m c 11)) main_v7_3 (outY m c)
theorem G_y (c : Dev nD) : G m c main_v7_3 = outY m c := Function.update_self ..
theorem G_r (c : Dev nD) : G m c main_v7_2 = accAt m c 11 :=
  (Function.update_of_ne (by decide) ..).trans (Function.update_self ..)

/-- What holds between the points: after the first and before the last, the scratch buffers it filled and the rows so far;
    after the last, the results sent. -/
def between (c : Dev nD) : ℕ → sProp 𝕄
  | 0 => Pipeline.ΦDRG ownCells spec0 readRefs sentRefs (V m) (V m) c
  | n + 1 => iprop(iprop((∃ d, ⌜n + 1 ≠ 11 → d = accAt m c (n + 1)⌝ ∗ owns (c : Thread nD τ) sc0 fullShare d) ∗ (∃ d, ⌜n + 1 ≠ 11 → d = hAll m c⌝ ∗ owns (c : Thread nD τ) sc1 fullShare d) ∗ (∃ d, owns (c : Thread nD τ) sc2 fullShare d))
        ∗ (∃ r, prngReg c r)
        ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0)
        ∗ holds c (Memref.whole main_arg0) (V m c main_arg0)
        ∗ iprop((∃ f, ⌜n + 1 = 11 → f = accAt m c 11⌝ ∗ holds c (Memref.whole main_v7_2) f) ∗ (∃ f, ⌜n + 1 = 11 → f = outY m c⌝ ∗ holds c (Memref.whole main_v7_3) f)))

/-- The proof data: what every point leaves in every window. -/
def dats : (p : Fin 1) → (c : Dev nD) → Dat τ (Elt F) Unit ℕ (Pipeline.UD sig nD τ) ℕ (cfgs p) c := fun _ c =>
  { A := fun w => V m c (Pipeline.arrRef spec0 w)
    after := fun w t => match w with
      | ⟨0, _⟩ => iblk m c 0 t
      | ⟨1, _⟩ => iblk m c 1 t
      | ⟨2, _⟩ => iblk m c 2 t
      | ⟨3, _⟩ => iblk m c 3 t
      | ⟨4, _⟩ => iblk m c 4 t
      | ⟨5, _⟩ => iblk m c 5 t
      | ⟨6, _⟩ => iblk m c 6 t
      | ⟨7, _⟩ => uB m c t
      | ⟨8, _⟩ => vB m c t
    Φ := fun t => between m c t.val
    q := Pipeline.shareOf spec0
    owed := fun _ => 0 }

theorem arrays (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = uB m c t := by dsimp only [dats]
theorem after8 (c : Dev nD) (t : Fin cfg0.N) : (dats m 0 c).after 8 t = vB m c t := by dsimp only [dats]

/-- An input window holds its block before the body runs. -/
theorem before_in (c : Dev nD) (t : Fin cfg0.N) :
    (∀ d, (dats m 0 c).before 0 t d = iblk m c 0 t)
    ∧ (∀ d, (dats m 0 c).before 1 t d = iblk m c 1 t)
    ∧ (∀ d, (dats m 0 c).before 2 t d = iblk m c 2 t)
    ∧ (∀ d, (dats m 0 c).before 3 t d = iblk m c 3 t)
    ∧ (∀ d, (dats m 0 c).before 4 t d = iblk m c 4 t)
    ∧ (∀ d, (dats m 0 c).before 5 t d = iblk m c 5 t)
    ∧ (∀ d, (dats m 0 c).before 6 t d = iblk m c 6 t) := by
  refine ⟨?_, ?_, ?_, ?_, ?_, ?_, ?_⟩ <;> intro d <;>
    refine ((dats m 0 c).before_in_eq_fetched _ rfl (fun _ => rfl) (fun _ _ _ => rfl) (fun t => ?_) t d).trans
      (by unfold Dat.fetched Dat.blockOf iblk; rw [arrays]; try rfl) <;>
    first | rw [after0] | rw [after1] | rw [after2] | rw [after3] | rw [after4] | rw [after5] | rw [after6]
  all_goals unfold Dat.blockOf iblk; rw [arrays]; try rfl

theorem busy7 : ∀ t : Fin cfg0.N, cfg0.idle 7 (cfg0.grid.coords t) = false :=
  (by decide +kernel : ∀ t : Fin grid0.N, idle0 7 (grid0.coords t) = false)
theorem busy8 : ∀ t : Fin cfg0.N, cfg0.idle 8 (cfg0.grid.coords t) = false :=
  (by decide +kernel : ∀ t : Fin grid0.N, idle0 8 (grid0.coords t) = false)
/-- What is left in a window that is never idle. -/
theorem leaves_in (c : Dev nD) (t : Fin cfg0.N) :
    (dats m 0 c).leavesExact 0 t = owns (c : Thread nD τ) (stg0 t) fullShare (iblk m c 0 t)
    ∧ (dats m 0 c).leavesExact 1 t = owns (c : Thread nD τ) (stg1 t) fullShare (iblk m c 1 t)
    ∧ (dats m 0 c).leavesExact 2 t = owns (c : Thread nD τ) (stg2 t) fullShare (iblk m c 2 t)
    ∧ (dats m 0 c).leavesExact 3 t = owns (c : Thread nD τ) (stg3 t) fullShare (iblk m c 3 t)
    ∧ (dats m 0 c).leavesExact 4 t = owns (c : Thread nD τ) (stg4 t) fullShare (iblk m c 4 t)
    ∧ (dats m 0 c).leavesExact 5 t = owns (c : Thread nD τ) (stg5 t) fullShare (iblk m c 5 t)
    ∧ (dats m 0 c).leavesExact 6 t = owns (c : Thread nD τ) (stg6 t) fullShare (iblk m c 6 t)
    ∧ (dats m 0 c).leavesExact 7 t = owns (c : Thread nD τ) (stg7 t) fullShare (uB m c t)
    ∧ (dats m 0 c).leavesExact 8 t = owns (c : Thread nD τ) (stg8 t) fullShare (vB m c t) := by
  refine ⟨?_, ?_, ?_, ?_, ?_, ?_, ?_, ?_, ?_⟩ <;> unfold Dat.leavesExact
  · rw [show cfg0.idle 0 (cfg0.grid.coords t) = false from rfl, after0]
  · rw [show cfg0.idle 1 (cfg0.grid.coords t) = false from rfl, after1]
  · rw [show cfg0.idle 2 (cfg0.grid.coords t) = false from rfl, after2]
  · rw [show cfg0.idle 3 (cfg0.grid.coords t) = false from rfl, after3]
  · rw [show cfg0.idle 4 (cfg0.grid.coords t) = false from rfl, after4]
  · rw [show cfg0.idle 5 (cfg0.grid.coords t) = false from rfl, after5]
  · rw [show cfg0.idle 6 (cfg0.grid.coords t) = false from rfl, after6]
  · rw [busy7, after7]
  · rw [busy8, after8]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem Phi_castSucc (c : Dev nD) (t : Fin cfg0.N) : (dats m 0 c).Φ t.castSucc = between m c t.val := by dsimp only [dats]; rfl
theorem Phi_succ (c : Dev nD) (t : Fin cfg0.N) : (dats m 0 c).Φ t.succ = between m c (t.val + 1) := by dsimp only [dats]; rfl

set_option maxHeartbeats 4000000 in
/-- The body at any point. -/
theorem body_at (c : Dev nD) (t : Fin cfg0.N) :
    bodyPre m c t ⊢ wp frame (wpE (defs₀ (F := F)) Variants.none c none) Set.univ (bodyAt0 (F := F) t) (fun _ => bodyPost m c t) := by
  have hN : t.val < 11 := lt_of_lt_of_eq t.isLt (show cfg0.N = 11 from N_0)
  unfold bodyPre bodyPost bodyAt0
  simp only [before_in m c t]
  rw [Phi_castSucc, Phi_succ, between.eq_2, accAt_succ]
  simp only [leaves_in m c t]
  unfold Dat.owesAt Pipeline.owesWithin uB vB
  rw [show (dats m 0 c).owed t.castSucc = 0 from rfl, show (dats m 0 c).owed t.succ = 0 from rfl]
  by_cases h0 : t.val = 0
  · have ht : t = pt 0 := Fin.ext h0
    have e : (between m c t.val : sProp 𝕄) = Pipeline.ΦDRG ownCells spec0 readRefs sentRefs (V m) (V m) c := by rw [h0]; rfl
    have eh : hAll m c = inHb (V m c main_arg0) := by rfl
    have ea : accAt m c t.val = inAcc (V m c main_arg0) := by rw [h0]; rfl
    rw [e, entry_eq, ea, eh]
    iintro ⟨⟨⟨S0, S1, S2⟩, Hg, ⟨Q0, Q1, Q2, Q3, Q4, Q5, Q6, Q7, Q8, Q9⟩, HX, ⟨HR, HY⟩⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) sc0 (Memref.isWhole_whole _) sc1 (Memref.isWhole_whole _) sc2 (Memref.isWhole_whole _)
      ((at_first t).mpr h0) ((before_last t).mpr (by omega)) (fun h => absurd ((at_last t).mp h) (by omega)) (gib m c t) (bib m c t) (wgb m c t) (wub m c t) (wdb m c t) (V m c main_arg0) W)
    iframe H0 H1 H4 H5 H6
    isplitl [H7]; · iexists _; iexact H7
    isplitl [H8]; · iexists _; iexact H8
    iframe S0 S1 S2 Q0 Q1 HX HW
    iintro ⟨H0, H1, H4, H5, H6, H7, H8, S0, S1, S2, Q0, Q1, HX, ⟨%W', HW⟩⟩
    isplitl [S0 S1 S2 Hg Q0 Q1 Q2 Q3 Q4 Q5 Q6 Q7 Q8 Q9 HX HR HY]
    · isplitl [S0 S1 S2]
      · isplitl [S0]
        · iexists _; isplitr; swap; · iexact S0
          ipureintro; exact fun _ => rfl
        isplitl [S1]
        · iexists _; isplitr; swap; · iexact S1
          ipureintro; exact fun _ => rfl
        iexact S2
      isplitl [Hg]; · iexact Hg
      isplitl [Q0 Q1 Q2 Q3 Q4 Q5 Q6 Q7 Q8 Q9]
      · iframe Q0 Q1 Q2 Q3 Q4 Q5 Q6 Q7 Q8 Q9
      isplitl [HX]; · iexact HX
      isplitl [HR]
      · iexists _; isplitr; swap; · iexact HR
        ipureintro; intro h; omega
      iexists _; isplitr; swap; · iexact HY
      ipureintro; intro h; omega
    isplitl [HW]
    · iexists _; isplitr
      swap; · iexact HW
      ipureintro; exact fun _ _ => Or.inl trivial
    iframe H0 H1 H2 H3 H4 H5 H6 H7 H8
  obtain ⟨n, hn⟩ : ∃ n, t.val = n + 1 := ⟨t.val - 1, by omega⟩
  have e : (between m c t.val : sProp 𝕄) = between m c (n + 1) := by rw [hn]
  rw [e, between.eq_2, ← hn]
  by_cases h1 : t.val = 10
  · iintro ⟨⟨⟨⟨%a0, %ha, S0⟩, ⟨%h1, %hh, S1⟩, S2⟩, Hg, ⟨Q0, Q1, Q2, Q3, Q4, Q5, Q6, Q7, Q8, Q9⟩, HX, ⟨⟨%fr, -, HR⟩, ⟨%fy, -, HY⟩⟩⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain rfl := ha (by omega)
    obtain rfl := hh (by omega)
    iapply (runC c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) sc0 (Memref.isWhole_whole _) sc1 (Memref.isWhole_whole _) sc2 (Memref.isWhole_whole _)
      (fun h => h0 ((at_first t).mp h)) (fun h => (before_last t).mp h h1) ((at_last t).mpr h1)
      (gob m c t) (bob m c t) (wgb m c t) (wub m c t) (wdb m c t) (accAt m c t.val) (hAll m c) W)
    iframe H2 H3 H4 H5 H6
    isplitl [H7]; · iexists _; iexact H7
    isplitl [H8]; · iexists _; iexact H8
    iframe S0 S1 Q2 Q3 Q4 Q5 Q6 Q7 Q8 Q9
    isplitl [HR]; · iexists _; iexact HR
    isplitl [HY]; · iexists _; iexact HY
    isplitl [HW]; · iexact HW
    iintro ⟨H2, H3, H4, H5, H6, H7, H8, ⟨%a2, S0⟩, ⟨%h2, S1⟩, Q2, Q3, Q4, Q5, Q6, Q7, Q8, Q9, HR, HY, ⟨%W', HW⟩⟩
    isplitl [S0 S1 S2 Hg Q0 Q1 Q2 Q3 Q4 Q5 Q6 Q7 Q8 Q9 HX HR HY]
    · isplitl [S0 S1 S2]
      · isplitl [S0]
        · iexists _; isplitr; swap; · iexact S0
          ipureintro; intro h; omega
        isplitl [S1]
        · iexists _; isplitr; swap; · iexact S1
          ipureintro; intro h; omega
        iexact S2
      isplitl [Hg]; · iexact Hg
      isplitl [Q0 Q1 Q2 Q3 Q4 Q5 Q6 Q7 Q8 Q9]
      · iframe Q0 Q1 Q2 Q3 Q4 Q5 Q6 Q7 Q8 Q9
      isplitl [HX]; · iexact HX
      isplitl [HR]
      · iexists _; isplitr; swap; · iexact HR
        ipureintro; intro _; rw [show accAt m c 11 = accAt m c (t.val + 1) by rw [h1], accAt_succ]
      iexists _; isplitr; swap; · iexact HY
      ipureintro; intro _; unfold outY; rw [show accAt m c 11 = accAt m c (t.val + 1) by rw [h1], accAt_succ, show pt 10 = t from Fin.ext h1.symm]
    isplitl [HW]
    · iexists _; isplitr
      swap; · iexact HW
      ipureintro; exact fun _ _ => Or.inl trivial
    iframe H0 H1 H2 H3 H4 H5 H6 H7 H8
  · iintro ⟨⟨⟨⟨%a0, %ha, S0⟩, ⟨%h1, %hh, S1⟩, S2⟩, Hg, ⟨Q0, Q1, Q2, Q3, Q4, Q5, Q6, Q7, Q8, Q9⟩, HX, ⟨⟨%fr, -, HR⟩, ⟨%fy, -, HY⟩⟩⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain rfl := ha (by omega)
    obtain rfl := hh (by omega)
    iapply (runB c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) sc0 (Memref.isWhole_whole _) sc1 (Memref.isWhole_whole _) sc2 (Memref.isWhole_whole _)
      (fun h => h0 ((at_first t).mp h)) ((before_last t).mpr h1) (fun h => h1 ((at_last t).mp h))
      (wgb m c t) (wub m c t) (wdb m c t) (accAt m c t.val) (hAll m c))
    iframe H4 H5 H6
    isplitl [H7]; · iexists _; iexact H7
    isplitl [H8]; · iexists _; iexact H8
    isplitl [S0]; · iexact S0
    isplitl [S1]; · iexact S1
    iintro ⟨H4, H5, H6, H7, H8, S0, S1⟩
    isplitl [S0 S1 S2 Hg Q0 Q1 Q2 Q3 Q4 Q5 Q6 Q7 Q8 Q9 HX HR HY]
    · isplitl [S0 S1 S2]
      · isplitl [S0]
        · iexists _; isplitr; swap; · iexact S0
          ipureintro; exact fun _ => rfl
        isplitl [S1]
        · iexists _; isplitr; swap; · iexact S1
          ipureintro; exact fun _ => rfl
        iexact S2
      isplitl [Hg]; · iexact Hg
      isplitl [Q0 Q1 Q2 Q3 Q4 Q5 Q6 Q7 Q8 Q9]
      · iframe Q0 Q1 Q2 Q3 Q4 Q5 Q6 Q7 Q8 Q9
      isplitl [HX]; · iexact HX
      isplitl [HR]
      · iexists _; isplitr; swap; · iexact HR
        ipureintro; intro h; omega
      iexists _; isplitr; swap; · iexact HY
      ipureintro; intro h; omega
    isplitl [HW]
    · iexists _; isplitr
      swap; · iexact HW
      ipureintro; exact fun _ _ => Or.inl trivial
    iframe H0 H1 H2 H3 H4 H5 H6 H7 H8

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_at m c t) rfl .rfl fun _ => .rfl

theorem enter (c : Dev nD) : Pipeline.ΦDRG ownCells spec0 readRefs sentRefs (V m) (V m) c ⊢ (dats m 0 c).Φ 0 := by
  rw [show (dats m 0 c).Φ 0 = between m c 0 from rfl]
  exact .rfl

/-- After the last point the launch takes the buffers back, the results at their contents. -/
theorem leave (c : Dev nD) : (dats m 0 c).Φ (Fin.last cfg0.N) ⊢ Pipeline.ΦDRG ownCells spec0 readRefs sentRefs (V m) (G m) c := by
  rw [show (dats m 0 c).Φ (Fin.last cfg0.N) = between m c cfg0.N from rfl, show cfg0.N = 10 + 1 from N_0, between.eq_2, entry_eq, G_r, G_y]
  iintro ⟨⟨⟨%a0, %ha, S0⟩, ⟨%h1, %hh, S1⟩, S2⟩, Hg, HQ, HX, ⟨⟨%fr, %hr, HR⟩, ⟨%fy, %hy, HY⟩⟩⟩
  obtain rfl := hr rfl
  obtain rfl := hy rfl
  isplitl [S0 S1 S2]
  · isplitl [S0]; · iexists _; iexact S0
    isplitl [S1]; · iexists _; iexact S1
    iexact S2
  iframe Hg HQ HX HR HY

set_option backward.isDefEq.respectTransparency.types false in
/-- The whole run: every final state has the windows' arrays at what the points left in them, the results of the body's
    transfers at their contents, every other buffer as the grid found it, and every counter at zero. -/
theorem run_main : θ_run defs (onTc (τ := τ) (main (F := F))) (s₀ m ρ)
    (fun r => Pipeline.FramePostRG cfgs (dats m) 0 sentRefs (V m) (G m) r ∧ r.2.sem = fun _ => 0) :=
  Pipeline.θ_run_frame_dmaRG_shared (Q' := _) cfgs (dats m) (0 : Fin 1) launch₀0 ownCells defs₀ Variants.none ownCells_facts readRefs sentRefs
    readRefs_sub sentRefs_sub m ρ main
    (hbody := fun c => (body_obligation m c).loose) (hq := fun _ _ _ => rfl)
    (howed := fun _ _ => rfl) (V := V m) (hmain := hmain_counted m Variants.none) (hA := arrays m) (G := G m) (hin := enter m) (hout := leave m)
    (hQ' := fun _ h => h)

/-- The arguments end unchanged, and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c)⟩,
      h.2⟩) (run_main m ρ)

end Cert.Kernel4Ideal.Gen

end
-- ==== Proof.Transfer4.lean ====
module

public import proofs.«01_k».proof.Proof.Grid4
public import proofs.«01_k».proof.Proof.Gen.Kernel4

@[expose] public section

/-!
  # The printed plain forward call

  The kernel as printed and the kernel as read over the reals are one text: the run proved of the one, for any float
  values, is the run of the other.
-/

set_option maxRecDepth 65536
set_option maxHeartbeats 4000000

noncomputable section

namespace Cert.Kernel4.Gen

open Idealize.ShloMosaic Idealize.ShloMosaic.TcCoe Idealize.SL.Sem

variable {F : FTy → Type} [FloatOps F] (h : Cert.Kernel4Ideal.Facts) (h' : Cert.Kernel4.Facts)

/-- The two kernel bodies are one program. -/
theorem body_eq : @Cert.Kernel4.cc0_ffn_fwd_seq F _ h' = @Cert.Kernel4Ideal.cc0_ffn_fwd_seq F _ h := rfl

/-- The two body tables are one. -/
theorem table_eq : @Cert.Kernel4.defs₀ F _ h' = @Cert.Kernel4Ideal.defs₀ F _ h := by
  unfold Cert.Kernel4.defs₀ Cert.Kernel4Ideal.defs₀
  refine congrArg (Defs.onTc (nD := Cert.Kernel4.nD) (τ := Cert.Kernel4.τ) (sig := Cert.Kernel4.sig) (Val := Elt F) (Λ := Cert.Kernel4.Λ₀)) ?_
  funext l a
  match l, a with
  | 0, (t, s) =>
    show @Cert.Kernel4.cc0_ffn_fwd_seq F _ h' _ _ _ _ _ _ _ _ _ _ _ _ _ _ _ _ _ _ _ _ _ _ _ _ _ _ _ _ _ _ _ _ _ = _
    rw [body_eq h h']
    rfl

/-- The two label tables are one. -/
theorem defs_eq : @Cert.Kernel4.defs F _ h' = @Cert.Kernel4Ideal.defs F _ h := by
  unfold Cert.Kernel4.defs Cert.Kernel4Ideal.defs
  rw [table_eq h h']
  rfl

/-- The two host programs are one. -/
theorem main_eq : @Cert.Kernel4.main F _ h' = @Cert.Kernel4Ideal.main F _ h := rfl

/-- The printed kernel's arguments end unchanged, and every counter at zero. -/
theorem frame_any [hK : Cert.Kernel4.Facts] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq Cert.Kernel4Ideal.Gen.facts hK, main_eq Cert.Kernel4Ideal.Gen.facts hK]
  exact Cert.Kernel4Ideal.Gen.frame_any m ρ

end Cert.Kernel4.Gen

end
-- ==== Proof.Frames4.lean ====
module

public import proofs.«01_k».proof.Defs
public import proofs.«01_k».proof.Proof.Transfer4
public import proofs.«01_k».proof.Proof.Gen.Reference4Ideal.Run

@[expose] public section

/-!
  # The frames of the plain forward call

  Each program runs to its end, leaves its arguments as they were and every counter at zero.
-/

noncomputable section

namespace Cert.Proof.Four

open Idealize.ShloMosaic Idealize.SL.Sem

theorem frame_p : @Cert.quiescent_Kernel4 Cert.Kernel4.Gen.facts := fun m ρ _ => Cert.Kernel4.Gen.frame_any m ρ

theorem frame_pi : @Cert.quiescent_Kernel4Ideal Cert.Kernel4Ideal.Gen.facts := fun m ρ _ => Cert.Kernel4Ideal.Gen.frame_any m ρ

/-- The reference has no counters. -/
theorem frame_ri : @Cert.quiescent_Reference4Ideal Cert.Reference4Ideal.Gen.facts := fun m ρ _ =>
  (θ_run Cert.Reference4Ideal.defs _ _).mono (fun r h => ⟨fun c => (h c).2.2.2.2,
      Idealize.ShloMosaic.sem_eq_zero_of_no_sems (by decide) r.2⟩)
    (Cert.Reference4Ideal.Value.run (F := Ideal) m ρ)

end Cert.Proof.Four

end
-- ==== Proof.BandValue4.lean ====
module

public import proofs.«01_k».proof.Proof.Chunk4
public import proofs.«01_k».proof.Proof.FwdModel

@[expose] public section

/-!
  # What the plain forward call computes from a band, entry by entry

  The block's input is the argument. The pre-activations, the gate's share and the normalised rows are the model's.
-/

noncomputable section

namespace Cert.Kernel4Ideal.Gen

open Idealize.ShloMosaic Idealize.ShloMosaic.TcCoe Ffn Ffn.Ext

/-! ## Bands and rows -/

theorem up3_at {e : EltTy} (x : Vec Ideal S544x1024 e) (i : Fin 544) (j : Fin 1024) :
    up3 x (ix3 (0 : Fin 1) i j) = x (ix2 i j) := by
  have h : shapeCast S544x1024 (up3 x) shapeCasts_S1x544x1024_S544x1024 (ix2 i j) = up3 x (ix3 (0 : Fin 1) i j) := by
    pointwise
  exact h.symm.trans (up_reshape numel3 x (ix2 i j))

/-- A band's row as the kernel loads it is the array's row. -/
theorem band_in (X : Vec Ideal S2176x1024 .f32) (i : Fin 2176) (h : i.val % 544 < 544) :
    (fun j => up3 (rows (N := 2176) (C := 1024) 544 (i.val / 544) X) (ix3 (0 : Fin 1) (⟨i.val % 544, h⟩ : Fin 544) j)) = fun j => X (ix2 i j) :=
  funext fun j => (up3_at _ _ _).trans (congrArg (fun a => X (ix2 a j)) (rowOf_div 544 i h))

/-! ## The block's input -/

section Input
variable (x : Vec Ideal S1x544x1024 .f32)

theorem pay3_val (i : Fin 544) (j : Fin 1024) : k0_pay3 x (ix2 i j) = Ideal.ofBits .f32 0x3FB504F3#32 * x (ix3 (0 : Fin 1) i j) := by
  pointwise [k0_pay3, k0_pay2]

theorem pay4_val (i : Fin 544) (j : Fin 1024) : k0_pay4 x (ix2 i j) = x (ix3 (0 : Fin 1) i j) := by
  pointwise [k0_pay4, k0_pay2]

end Input

variable (X : Vec Ideal S2176x1024 .f32)

theorem inHb_val (i : Fin 2176) (j : Fin 1024) : inHb X (ix2 i j) = X (ix2 i j) := by
  refine (pay4_val (up3 (rows (N := 2176) (C := 1024) 544 (i.val / 544) X)) ⟨i.val % 544, Nat.mod_lt _ (by decide)⟩ j).trans ?_
  exact congrArg (fun r => r j) (band_in X i _)

theorem inAcc_val (i : Fin 2176) (j : Fin 1024) : inAcc X (ix2 i j) = Ideal.ofBits .f32 0x3FB504F3#32 * inHb X (ix2 i j) := by
  rw [inHb_val]
  refine (pay3_val (up3 (rows (N := 2176) (C := 1024) 544 (i.val / 544) X)) ⟨i.val % 544, Nat.mod_lt _ (by decide)⟩ j).trans ?_
  exact congrArg (fun r => Ideal.ofBits .f32 0x3FB504F3#32 * r j) (band_in X i _)

/-! ## A point's share -/

section Share
variable (h : Vec Ideal S544x1024 .bf16) (wg wu wd : Vec Ideal S256x1024 .bf16) (acc : Vec Ideal S544x1024 .f32)

theorem pay14_val (i : Fin 544) (f : Fin 256) : k0_pay14 h wg (ix2 i f) = ∑ j, h (ix2 i j) * wg (ix2 f j) := by
  pointwise [k0_pay14]

theorem pay15_val (i : Fin 544) (f : Fin 256) : k0_pay15 h wu (ix2 i f) = ∑ j, h (ix2 i j) * wu (ix2 f j) := by
  pointwise [k0_pay15]

theorem pay16_val (i : Fin 544) (f : Fin 256) : k0_pay16 h wg (ix3 (0 : Fin 1) i f) = ∑ j, h (ix2 i j) * wg (ix2 f j) := by
  pointwise [k0_pay16]
  exact pay14_val h wg i f

theorem pay17_val (i : Fin 544) (f : Fin 256) : k0_pay17 h wu (ix3 (0 : Fin 1) i f) = ∑ j, h (ix2 i j) * wu (ix2 f j) := by
  pointwise [k0_pay17]
  exact pay15_val h wu i f

theorem pay19_val (i : Fin 544) (j : Fin 1024) : k0_pay19 (k0_pay18 h wg wu acc wd) (ix2 i j)
    = acc (ix2 i j) + ∑ f, Ideal.ofBits .f32 0x3F000000#32
        * (act (∑ x, h (ix2 i x) * wg (ix2 f x)) (∑ x, h (ix2 i x) * wu (ix2 f x)) * wd (ix2 f j)) := by
  pointwise [k0_pay19, k0_pay18]
  simp only [pay14_val, pay15_val, half_act]

end Share

theorem pay44_val (r : Vec Ideal S544x1024 .f32) (g b : Vec Ideal S1x1024 .f32) (i : Fin 544) (j : Fin 1024) : k0_pay44 r g b (ix2 i j)
    = norm (fun j => r (ix2 i j)) (fun j => g (ix2 (0 : Fin 1) j)) (fun j => b (ix2 (0 : Fin 1) j)) j := by
  pointwise [k0_pay44]
  rfl

/-! ## All rows -/

section All
variable (h : Vec Ideal S2176x1024 .bf16) (wg wu wd : Vec Ideal S256x1024 .bf16) (acc : Vec Ideal S2176x1024 .f32)

theorem allU_val (i : Fin 2176) (f : Fin 256) : allU h wg (ix3 (0 : Fin 1) i f) = ∑ j, h (ix2 i j) * wg (ix2 f j) := by
  refine (pay16_val (rows (N := 2176) (C := 1024) 544 (i.val / 544) h) wg ⟨i.val % 544, Nat.mod_lt _ (by decide)⟩ f).trans ?_
  simp only [rows_at, rowOf_div]

theorem allV_val (i : Fin 2176) (f : Fin 256) : allV h wu (ix3 (0 : Fin 1) i f) = ∑ j, h (ix2 i j) * wu (ix2 f j) := by
  refine (pay17_val (rows (N := 2176) (C := 1024) 544 (i.val / 544) h) wu ⟨i.val % 544, Nat.mod_lt _ (by decide)⟩ f).trans ?_
  simp only [rows_at, rowOf_div]

theorem nextAcc_val (i : Fin 2176) (j : Fin 1024) : nextAcc h wg wu wd acc (ix2 i j)
    = acc (ix2 i j) + ∑ f, Ideal.ofBits .f32 0x3F000000#32
        * (act (∑ x, h (ix2 i x) * wg (ix2 f x)) (∑ x, h (ix2 i x) * wu (ix2 f x)) * wd (ix2 f j)) := by
  refine (pay19_val (rows (N := 2176) (C := 1024) 544 (i.val / 544) h) wg wu wd (rows (N := 2176) (C := 1024) 544 (i.val / 544) acc)
    ⟨i.val % 544, Nat.mod_lt _ (by decide)⟩ j).trans ?_
  simp only [rows_at, rowOf_div]

theorem allOut_val (g b : Vec Ideal S1x1024 .f32) (i : Fin 2176) (j : Fin 1024) : allOut acc g b (ix2 i j)
    = norm (fun j => acc (ix2 i j)) (fun j => g (ix2 (0 : Fin 1) j)) (fun j => b (ix2 (0 : Fin 1) j)) j := by
  refine (pay44_val (rows (N := 2176) (C := 1024) 544 (i.val / 544) acc) g b ⟨i.val % 544, Nat.mod_lt _ (by decide)⟩ j).trans ?_
  simp only [rows_at, rowOf_div]

end All

end Cert.Kernel4Ideal.Gen

end
-- ==== Proof.KernelValue4.lean ====
module

public import proofs.«01_k».proof.Proof.Grid4
public import proofs.«01_k».proof.Proof.BandValue4

@[expose] public section

/-!
  # What the plain forward call leaves in its four results

  The blocks a point is given are the arguments' columns, the accumulated rows are the model's after the last point, and
  the four results are the model's arrays.
-/

noncomputable section

namespace Cert.Kernel4Ideal.Gen

open Idealize.ShloMosaic Idealize.ShloMosaic.TcCoe Ffn Ffn.Ext

variable (m : (ℓ : Loc nD τ sig) → Buf (Elt Ideal) ℓ) (c : Dev nD)

/-! ## The arguments of one device -/

def X (i : Fin 2176) (j : Fin 1024) : EReal := m ((c : Thread nD τ).loc main_arg0) (ix2 i j)
def Wg (j : Fin 1024) (f : Fin 2816) : EReal := m ((c : Thread nD τ).loc main_arg1) (ix2 j f)
def Wu (j : Fin 1024) (f : Fin 2816) : EReal := m ((c : Thread nD τ).loc main_arg2) (ix2 j f)
def Wd (f : Fin 2816) (j : Fin 1024) : EReal := m ((c : Thread nD τ).loc main_arg3) (ix2 f j)
def go (j : Fin 1024) : EReal := m ((c : Thread nD τ).loc main_arg4) (ix1 j)
def bo (j : Fin 1024) : EReal := m ((c : Thread nD τ).loc main_arg5) (ix1 j)

/-- A row of the block's input. -/
def hRow (i : Fin 2176) : Fin 1024 → EReal := X m c i

/-! ## What the host prepares -/

theorem v5_val (j : Fin 1024) : V m c main_v5 (ix2 (0 : Fin 1) j) = go m c j := by
  simp only [V, hostOps0, List.flatten_cons, List.flatten_nil, List.cons_append, List.nil_append, List.append_nil]
  entry_read
  pointwise
  rfl

theorem v6_val (j : Fin 1024) : V m c main_v6 (ix2 (0 : Fin 1) j) = bo m c j := by
  simp only [V, hostOps0, List.flatten_cons, List.flatten_nil, List.cons_append, List.nil_append, List.append_nil]
  entry_read
  pointwise
  rfl

theorem v1_val (f : Fin 2816) (j : Fin 1024) : V m c main_v1 (ix2 f j) = Wg m c j f := by
  simp only [V, hostOps0, List.flatten_cons, List.flatten_nil, List.cons_append, List.nil_append, List.append_nil]
  entry_read
  pointwise
  rfl

theorem v3_val (f : Fin 2816) (j : Fin 1024) : V m c main_v3 (ix2 f j) = Wu m c j f := by
  simp only [V, hostOps0, List.flatten_cons, List.flatten_nil, List.cons_append, List.nil_append, List.append_nil]
  entry_read
  pointwise
  rfl

theorem v4_val (f : Fin 2816) (j : Fin 1024) : V m c main_v4 (ix2 f j) = Wd m c f j := by
  simp only [V, hostOps0, List.flatten_cons, List.flatten_nil, List.cons_append, List.nil_append, List.append_nil]
  entry_read
  pointwise
  rfl

/-! ## The blocks a point is given -/

theorem lt11 (t : Fin cfg0.N) : t.val < 11 := lt_of_lt_of_eq t.isLt (show cfg0.N = 11 from N_0)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0, 0] := (by decide +kernel : ∀ t : Fin grid0.N, _)
theorem idx8 : ∀ t : Fin cfg0.N, win0_8.index t = ![t.val, 0, 0] := (by decide +kernel : ∀ t : Fin grid0.N, _)

theorem col_val (t : Fin cfg0.N) (f : Fin 256) : (colOf t.val f).val = t.val * 256 + f.val := by
  show t.val % 11 * 256 + f.val = _
  rw [Nat.mod_eq_of_lt (lt11 t)]

theorem gob_val (t : Fin cfg0.N) (j : Fin 1024) : gob m c t (ix2 (0 : Fin 1) j) = go m c j := by
  rw [← v5_val]
  blk_ext [gob, iblk, idx2 t]
theorem bob_val (t : Fin cfg0.N) (j : Fin 1024) : bob m c t (ix2 (0 : Fin 1) j) = bo m c j := by
  rw [← v6_val]
  blk_ext [bob, iblk, idx3 t]
theorem wgb_val (t : Fin cfg0.N) (f : Fin 256) (j : Fin 1024) : wgb m c t (ix2 f j) = Wg m c j (colOf t.val f) := by
  rw [← v1_val]
  blk_ext [wgb, iblk, idx4 t, col_val t]
theorem wub_val (t : Fin cfg0.N) (f : Fin 256) (j : Fin 1024) : wub m c t (ix2 f j) = Wu m c j (colOf t.val f) := by
  rw [← v3_val]
  blk_ext [wub, iblk, idx5 t, col_val t]
theorem wdb_val (t : Fin cfg0.N) (f : Fin 256) (j : Fin 1024) : wdb m c t (ix2 f j) = Wd m c (colOf t.val f) j := by
  rw [← v4_val]
  blk_ext [wdb, iblk, idx6 t, col_val t]

/-! ## The rows -/

theorem hAll_val (i : Fin 2176) (j : Fin 1024) : hAll m c (ix2 i j) = hRow m c i j := by
  unfold hAll
  rw [inHb_val, V_main_arg0]
  rfl

theorem pre_val (t : Fin cfg0.N) (i : Fin 2176) (f : Fin 256) :
    ∑ j, hAll m c (ix2 i j) * wgb m c t (ix2 f j) = pre (hRow m c i) (Wg m c) (colOf t.val f) := by
  simp only [hAll_val, wgb_val]
  rfl

theorem lin_val (t : Fin cfg0.N) (i : Fin 2176) (f : Fin 256) :
    ∑ j, hAll m c (ix2 i j) * wub m c t (ix2 f j) = pre (hRow m c i) (Wu m c) (colOf t.val f) := by
  simp only [hAll_val, wub_val]
  rfl

theorem col_pt (k : ℕ) (f : Fin 256) : colOf (pt k).val f = colOf k f :=
  Fin.ext (by show k % 11 % 11 * 256 + f.val = k % 11 * 256 + f.val; rw [Nat.mod_mod])

theorem accAt_val (i : Fin 2176) (j : Fin 1024) (n : ℕ) : accAt m c n (ix2 i j)
    = Ideal.ofBits .f32 0x3FB504F3#32 * hRow m c i j + ∑ k ∈ Finset.range n, ∑ f, Ideal.ofBits .f32 0x3F000000#32
        * (act (pre (hRow m c i) (Wg m c) (colOf k f)) (pre (hRow m c i) (Wu m c) (colOf k f)) * Wd m c (colOf k f) j) := by
  induction n with
  | zero =>
    rw [Finset.sum_range_zero, add_zero, ← hAll_val]
    exact inAcc_val _ i j
  | succ n ih =>
    rw [Finset.sum_range_succ, ← add_assoc, ← ih]
    refine (nextAcc_val _ _ _ _ _ i j).trans ?_
    refine congrArg (accAt m c n (ix2 i j) + ·) (Finset.sum_congr rfl fun f _ => congrArg (Ideal.ofBits .f32 0x3F000000#32 * ·) ?_)
    rw [← col_pt n f]
    exact congrArg₂ (· * ·) (congrArg₂ act (pre_val m c (pt n) i f) (lin_val m c (pt n) i f)) (wdb_val m c (pt n) f j)

theorem acc_val (i : Fin 2176) (j : Fin 1024) : accAt m c 11 (ix2 i j) = res (hRow m c i) (Wg m c) (Wu m c) (Wd m c) j := by
  rw [accAt_val, res_blocks]

/-- The normalised rows. -/
def yRow (i : Fin 2176) : Fin 1024 → EReal := norm (res (hRow m c i) (Wg m c) (Wu m c) (Wd m c)) (go m c) (bo m c)

theorem outY_val (i : Fin 2176) (j : Fin 1024) : outY m c (ix2 i j) = yRow m c i j := by
  unfold outY
  rw [allOut_val]
  simp only [acc_val, gob_val, bob_val]
  rfl

/-! ## The results -/

/-- A pre-activation array in blocks of 256 columns. -/
def blocks (W : Fin 1024 → Fin 2816 → EReal) : S11x2176x256.Idx → EReal :=
  arr3 fun (t : Fin 11) (i : Fin 2176) (f : Fin 256) => pre (hRow m c i) W (colOf t.val f)

/-- A point's block lies where the whole stack has that point's columns. -/
theorem block_arr {W : Fin 1024 → Fin 2816 → EReal} (t : Fin cfg0.N) {B : Vec Ideal S1x2176x256 .bf16}
    (h : ∀ i f, B (ix3 (0 : Fin 1) i f) = pre (hRow m c i) W (colOf t.val f)) (y : S1x2176x256.Idx) {z : S11x2176x256.Idx}
    (h0 : (z 0).val = t.val + (y 0).val) (h1 : (z 1).val = (y 1).val) (h2 : (z 2).val = (y 2).val) : B y = blocks m c W z := by
  have hy : (y 0).val < 1 := (y 0).isLt
  have e : (⟨0, Nat.zero_lt_one⟩ : Fin 1) = y 0 := Fin.ext (by show 0 = (y 0).val; omega)
  rw [eq_ix3 y, ← e]
  refine (h (y 1) (y 2)).trans ?_
  show pre (hRow m c (y 1)) W (colOf t.val (y 2)) = pre (hRow m c (z 1)) W (colOf (z 0).val (z 2))
  rw [show z 1 = y 1 from Fin.ext h1, show z 2 = y 2 from Fin.ext h2, show (z 0).val = t.val by omega]

theorem out7 : (dats m 0 c).arrAt 7 cfg0.N = blocks m c (Wg m c) := by
  refine (dats m 0 c).arrAt_eq_of_covers 7 _ (by decide +kernel) fun t hf y => ?_
  blk_simp
  rw [after7]
  refine block_arr m c t (fun i f => (allU_val _ _ i f).trans (pre_val m c t i f)) y ?_ ?_ ?_
  · blk_simp [idx7 t]
  · blk_simp [idx7 t]
  · blk_simp [idx7 t]

theorem out8 : (dats m 0 c).arrAt 8 cfg0.N = blocks m c (Wu m c) := by
  refine (dats m 0 c).arrAt_eq_of_covers 8 _ (by decide +kernel) fun t hf y => ?_
  blk_simp
  rw [after8]
  refine block_arr m c t (fun i f => (allV_val _ _ i f).trans (lin_val m c t i f)) y ?_ ?_ ?_
  · blk_simp [idx8 t]
  · blk_simp [idx8 t]
  · blk_simp [idx8 t]

theorem out_r : G m c main_v7_2 = arr2 fun i => res (hRow m c i) (Wg m c) (Wu m c) (Wd m c) :=
  (G_r m c).trans (arr2_of (acc_val m c))

theorem out_y : G m c main_v7_3 = arr2 (yRow m c) := (G_y m c).trans (arr2_of (outY_val m c))

end Cert.Kernel4Ideal.Gen

end
-- ==== Proof.RefValue4.lean ====
module

public import proofs.«01_k».proof.Proof.Gen.Reference4Ideal.Read
public import proofs.«01_k».proof.Proof.FwdModel

@[expose] public section

/-!
  # The plain forward reference's arrays, entry by entry

  Every array of the reference is the model's, in the order in which the reference computes them.
-/

noncomputable section

namespace Cert.Reference4Ideal.Read

open Idealize.ShloMosaic Ffn Ffn.Ext Cert.Reference4Ideal.Facts

variable (x0 : (⟨S2176x1024, .f32⟩ : BufTy).Contents (Elt Ideal)) (x1 x2 : (⟨S1024x2816, .f32⟩ : BufTy).Contents (Elt Ideal))
  (x3 : (⟨S2816x1024, .f32⟩ : BufTy).Contents (Elt Ideal)) (x4 x5 : (⟨S1024, .f32⟩ : BufTy).Contents (Elt Ideal))

/-- A row of the block's input. -/
def hRef (i : Fin 2176) : Fin 1024 → EReal := fun j => x0 (ix2 i j)

/-! ## The gated network -/

theorem r2 (i : Fin 2176) (f : Fin 2816) : val_main_v2 x0 x1 (ix2 i f) = pre (hRef x0 i) (fun j f => x1 (ix2 j f)) f := by
  pointwise [val_main_v2]
  rfl

theorem r4 (i : Fin 2176) (f : Fin 2816) : val_main_v4 x0 x2 (ix2 i f) = pre (hRef x0 i) (fun j f => x2 (ix2 j f)) f := by
  pointwise [val_main_v4]
  rfl

theorem r5 (i : Fin 2176) (f : Fin 2816) : val_main_v5 x0 x1 x2 (ix2 i f)
    = act (pre (hRef x0 i) (fun j f => x1 (ix2 j f)) f) (pre (hRef x0 i) (fun j f => x2 (ix2 j f)) f) := by
  pointwise [val_main_v5, val_main_v3, val_main_call0_v5, val_main_call0_v4, val_main_call0_cst_0, val_main_call0_v3, val_main_call0_v2, val_main_call0_cst, val_main_call0_v1, val_main_call0_v0]
  rw [r2, r4]
  rfl

/-- The rows before the last normalisation. -/
def rRef (i : Fin 2176) : Fin 1024 → EReal :=
  res (hRef x0 i) (fun j f => x1 (ix2 j f)) (fun j f => x2 (ix2 j f)) fun f j => x3 (ix2 f j)

theorem r9 (i : Fin 2176) (j : Fin 1024) : val_main_v9 x0 x1 x2 x3 (ix2 i j) = rRef x0 x1 x2 x3 i j := by
  pointwise [val_main_v9, val_main_v1, val_main_v0, val_main_cst, val_main_v8, val_main_v7, val_main_cst_0, val_main_v6]
  simp only [r5]
  rfl

theorem r10 (i : Fin 2176) (f : Fin 2816) : val_main_v10 x0 x1 (ix2 i f) = pre (hRef x0 i) (fun j f => x1 (ix2 j f)) f := by
  pointwise [val_main_v10]
  rfl

theorem r13 (t : Fin 11) (i : Fin 2176) (f : Fin 256) : val_main_v13 x0 x1 (ix3 t i f)
    = pre (hRef x0 i) (fun j f => x1 (ix2 j f)) (colOf t.val f) := by
  have e : colOf t.val f = ⟨t.val * 256 + f.val, by omega⟩ := Fin.ext (by
    show t.val % 11 * 256 + f.val = t.val * 256 + f.val
    rw [Nat.mod_eq_of_lt t.isLt])
  rw [e, ← r10]
  pointwise [val_main_v13, val_main_v12, val_main_v11]

theorem r14 (i : Fin 2176) (f : Fin 2816) : val_main_v14 x0 x2 (ix2 i f) = pre (hRef x0 i) (fun j f => x2 (ix2 j f)) f := by
  pointwise [val_main_v14]
  rfl

theorem r17 (t : Fin 11) (i : Fin 2176) (f : Fin 256) : val_main_v17 x0 x2 (ix3 t i f)
    = pre (hRef x0 i) (fun j f => x2 (ix2 j f)) (colOf t.val f) := by
  have e : colOf t.val f = ⟨t.val * 256 + f.val, by omega⟩ := Fin.ext (by
    show t.val % 11 * 256 + f.val = t.val * 256 + f.val
    rw [Nat.mod_eq_of_lt t.isLt])
  rw [e, ← r14]
  pointwise [val_main_v17, val_main_v16, val_main_v15]

/-! ## The normalised rows -/

theorem r21 (i : Fin 2176) : val_main_v21 x0 x1 x2 x3 (ix2 i (0 : Fin 1)) = mean (rRef x0 x1 x2 x3 i) := by
  pointwise [val_main_v21, val_main_v20, val_main_cst_2, val_main_v19, val_main_v18, val_main_cst_1]
  simp only [r9]
  rfl

theorem r23 (i : Fin 2176) (j : Fin 1024) : val_main_v23 x0 x1 x2 x3 (ix2 i j) = cen (rRef x0 x1 x2 x3 i) j := by
  pointwise [val_main_v23, val_main_v22]
  rw [r9, r21]
  rfl

theorem r30 (i : Fin 2176) (j : Fin 1024) : val_main_v30 x0 x1 x2 x3 (ix2 i j) = cen (rRef x0 x1 x2 x3 i) j := by
  pointwise [val_main_v30, val_main_v29]
  rw [r9, r21]
  rfl

theorem r28 (i : Fin 2176) : val_main_v28 x0 x1 x2 x3 (ix2 i (0 : Fin 1)) = mean fun j => cen (rRef x0 x1 x2 x3 i) j * cen (rRef x0 x1 x2 x3 i) j := by
  pointwise [val_main_v28, val_main_v27, val_main_cst_4, val_main_v26, val_main_v25, val_main_cst_3, val_main_v24]
  simp only [r23]
  rfl

theorem r41 (i : Fin 2176) (j : Fin 1024) : val_main_v41 x0 x1 x2 x3 x4 x5 (ix2 i j)
    = norm (rRef x0 x1 x2 x3 i) (fun j => x4 (ix1 j)) (fun j => x5 (ix1 j)) j := by
  pointwise [val_main_v41, val_main_v40, val_main_v39, val_main_v38, val_main_v37, val_main_v36, val_main_v35, val_main_v34, val_main_v33, val_main_v32, val_main_v31, val_main_cst_5]
  rw [r30, r28]
  rfl

theorem r42 (i : Fin 2176) (j : Fin 1024) : val_main_v42 x0 x1 x2 x3 x4 x5 (ix2 i j)
    = norm (rRef x0 x1 x2 x3 i) (fun j => x4 (ix1 j)) (fun j => x5 (ix1 j)) j := by
  pointwise [val_main_v42]
  exact r41 x0 x1 x2 x3 x4 x5 i j

end Cert.Reference4Ideal.Read

end
-- ==== Proof.Algebraic4.lean ====
module

public import proofs.«01_k».proof.Defs
public import proofs.«01_k».proof.Proof.KernelValue4
public import proofs.«01_k».proof.Proof.RefValue4
public import proofs.«01_k».proof.Proof.Gen.Reference4Ideal.Run

@[expose] public section

/-!
  # The plain forward call and its reference agree

  Both leave the model's four arrays, whatever the arguments are.
-/

noncomputable section

namespace Cert.Proof.Four

open Idealize.ShloMosaic Idealize.ShloMosaic.TcCoe Idealize.SL.Sem Ffn.Ext

section Kernel
open Cert.Kernel4Ideal Cert.Kernel4Ideal.Gen

variable (m : (ℓ : Loc nD τ sig) → Buf (Elt Ideal) ℓ)

/-- The kernel's run, its four results the model's arrays. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v7_0) = blocks m c (Wg m c)
      ∧ r.2.mem ((c.tc : Thread nD τ).loc main_v7_1) = blocks m c (Wu m c)
      ∧ r.2.mem ((c.tc : Thread nD τ).loc main_v7_2) = (arr2 fun i => res (hRow m c i) (Wg m c) (Wu m c) (Wd m c))
      ∧ r.2.mem ((c.tc : Thread nD τ).loc main_v7_3) = arr2 (yRow m c)) :=
  (θ_run defs _ _).mono (fun r hr c => ⟨((hr.1.1 c).1 7).trans (out7 m c), ((hr.1.1 c).1 8).trans (out8 m c),
      (hr.1.written c (by decide)).trans (out_r m c), (hr.1.written c (by decide)).trans (out_y m c)⟩) (run_main m ρ)

end Kernel

/-! ## The reference -/

section Reference
open Cert.Reference4Ideal Cert.Reference4Ideal.Read

variable (m : (ℓ : Loc nD τ sig) → Buf (Elt Ideal) ℓ)

/-- The rows the reference normalises, and those it feeds the gated network. -/
def refH (c : Dev nD) : Fin 2176 → Fin 1024 → EReal := hRef (m ((c.tc : Thread nD τ).loc main_arg0))
def refR (c : Dev nD) : Fin 2176 → Fin 1024 → EReal := rRef (m ((c.tc : Thread nD τ).loc main_arg0)) (m ((c.tc : Thread nD τ).loc main_arg1)) (m ((c.tc : Thread nD τ).loc main_arg2)) (m ((c.tc : Thread nD τ).loc main_arg3))

/-- The reference's run, its four results the model's arrays. -/
theorem ref_run (ρ : Dev nD → PrngReg) :
    θ_run defs (onTc (τ := τ) (main (F := Ideal))) ⟨m, fun _ => 0, ρ⟩ (fun r => ∀ c : Dev nD,
      r.2.mem ((c.tc : Thread nD τ).loc main_v13) = (arr3 fun (t : Fin 11) i f =>
          pre (refH m c i) (fun j f => m ((c.tc : Thread nD τ).loc main_arg1) (ix2 j f)) (colOf t.val f))
      ∧ r.2.mem ((c.tc : Thread nD τ).loc main_v17) = (arr3 fun (t : Fin 11) i f =>
          pre (refH m c i) (fun j f => m ((c.tc : Thread nD τ).loc main_arg2) (ix2 j f)) (colOf t.val f))
      ∧ r.2.mem ((c.tc : Thread nD τ).loc main_v9) = arr2 (refR m c)
      ∧ r.2.mem ((c.tc : Thread nD τ).loc main_v42) = arr2 fun i => norm (refR m c i) (fun j => m ((c.tc : Thread nD τ).loc main_arg4) (ix1 j))
          fun j => m ((c.tc : Thread nD τ).loc main_arg5) (ix1 j)) := by
  refine (θ_run defs _ _).mono (fun r h c => ?_) (Cert.Reference4Ideal.Value.run m ρ)
  obtain ⟨hu, hv, hr, hy, -⟩ := h c
  exact ⟨hu.trans ((val_main_v13_eq ..).trans (arr3_of fun t i f => r13 _ _ t i f)), hv.trans ((val_main_v17_eq ..).trans (arr3_of fun t i f => r17 _ _ t i f)),
    hr.trans ((val_main_v9_eq ..).trans (arr2_of fun i j => r9 _ _ _ _ i j)), hy.trans ((val_main_v42_eq ..).trans (arr2_of fun i j => r42 _ _ _ _ _ _ i j))⟩

end Reference

/-! ## The claim -/

theorem algebraic : @Cert.algebraic_Kernel4Ideal_Reference4Ideal Cert.Kernel4Ideal.Gen.facts Cert.Reference4Ideal.Gen.facts := by
  intro m ρ m' ρ' _ hm
  have hk := θ_run_and (kernel_run m ρ) (Cert.Kernel4Ideal.Gen.frame_any m ρ)
  have hr := θ_run_and (ref_run m' ρ') (Cert.Reference4Ideal.Value.run m' ρ')
  refine ⟨fun c => Cert.Kernel4Ideal.Gen.blocks m c (Cert.Kernel4Ideal.Gen.Wg m c), fun c => Cert.Kernel4Ideal.Gen.blocks m c (Cert.Kernel4Ideal.Gen.Wu m c),
    fun c => arr2 fun i => res (Cert.Kernel4Ideal.Gen.hRow m c i) (Cert.Kernel4Ideal.Gen.Wg m c) (Cert.Kernel4Ideal.Gen.Wu m c) (Cert.Kernel4Ideal.Gen.Wd m c), fun c => arr2 (Cert.Kernel4Ideal.Gen.yRow m c),
    θ_run_mono hk fun r h c => ?_, θ_run_mono hr fun r h c => ?_⟩
  · obtain ⟨h0, h1, h2, h3⟩ := h.1 c
    exact ⟨h0, h1, h2, h3, h.2.1 c⟩
  · obtain ⟨h0, h1, h2, h3⟩ := h.1 c
    obtain ⟨e0, e1, e2, e3, e4, e5⟩ := hm c
    have eh : refH m' c = Cert.Kernel4Ideal.Gen.hRow m c := by
      unfold refH
      rw [e0]
      rfl
    have er : refR m' c = fun i => res (Cert.Kernel4Ideal.Gen.hRow m c i) (Cert.Kernel4Ideal.Gen.Wg m c) (Cert.Kernel4Ideal.Gen.Wu m c) (Cert.Kernel4Ideal.Gen.Wd m c) := by
      unfold refR
      rw [e0, e1, e2, e3]
      rfl
    refine ⟨h0.trans ?_, h1.trans ?_, h2.trans ?_, h3.trans ?_, (h.2 c).2.2.2.2⟩
    · rw [eh, e1]
      rfl
    · rw [eh, e2]
      rfl
    · rw [er]
    · rw [er, e4, e5]
      rfl

end Cert.Proof.Four

end
-- ==== Proof.Update.lean ====
module

public import Idealize.ShloMosaic.Lib.Pipeline.ValueKit
public import Idealize.ShloMosaic.Lib.Pipeline.Covers
public import Idealize.ShloMosaic.Lib.Pointwise

@[expose] public section

/-!
  # The update of one weight

  A gradient `g` moves a weight `w` with moments `m` and `v`; the constants are the words the programs print.
-/

noncomputable section

namespace Cert.Proof

open Idealize.ShloMosaic

/-- A printed constant. -/
def word (b : BitVec 32) : Ideal .f32 := FloatOps.ofBits .f32 b

/-- The new first moment. -/
def firstMoment (g m : Ideal .f32) : Ideal .f32 :=
  FloatOps.addf (FloatOps.mulf (word 0x3F666666#32) m) (FloatOps.mulf (word 0x3DCCCCCD#32) g)

/-- The new second moment. -/
def secondMoment (g v : Ideal .f32) : Ideal .f32 :=
  FloatOps.addf (FloatOps.mulf (word 0x3F7FBE77#32) v) (FloatOps.mulf (word 0x3A83126F#32) (FloatOps.mulf g g))

/-- The weight's change. -/
def change (g m v w : Ideal .f32) : Ideal .f32 :=
  FloatOps.mulf (word 0xBA83126F#32) (FloatOps.addf
    (FloatOps.hostDivf (FloatOps.hostDivf (firstMoment g m) (word 0x3F26BD02#32))
      (FloatOps.addf (FloatOps.hostUnary .sqrt (FloatOps.hostDivf (secondMoment g v) (word 0x3C231ACC#32))) (word 0x322BCC77#32)))
    (FloatOps.mulf (word 0x3C23D70A#32) w))

end Cert.Proof

end
-- ==== Proof.Update5.lean ====
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Update

@[expose] public section

/-!
  # The update of the input projection's weight

  The call and the reference move every weight by its own gradient (Update.lean).
-/

set_option maxRecDepth 16384

noncomputable section

namespace Cert.Kernel5Ideal.Gen

open Idealize.ShloMosaic Idealize.ShloMosaic.TcCoe Idealize.SL.Sem Idealize.ShloMosaic.Pipeline
open Cert.Kernel5Ideal Cert.Proof

/-- Where a result's element stands in the arguments. -/
def place (i : S1x256x2476.Idx) : S2x128x2476.Idx := Shape.reshapeEquiv shapeCasts_S2x128x2476_S1x256x2476 i

section Kernel

variable (m : (ℓ : Loc nD τ sig) → Buf (Elt Ideal) ℓ) (ρ : Dev nD → PrngReg) (c : Dev nD)

/-- No block index reads the table. -/
theorem ok {F : FTy → Type} [FloatOps F] (m : (ℓ : Loc nD τ sig) → Buf (Elt F) ℓ) : Ok m := trivial

/-- The region finds the arguments, reshaped. -/
theorem entry : V m c main_v1 = (fun i => m ((c : Thread nD τ).loc main_arg0) (place i))
    ∧ V m c main_v2 = (fun i => m ((c : Thread nD τ).loc main_arg1) (place i))
    ∧ V m c main_v3 = (fun i => m ((c : Thread nD τ).loc main_arg2) (place i))
    ∧ V m c main_v4 = (fun i => m ((c : Thread nD τ).loc main_arg3) (place i)) := by
  refine ⟨?_, ?_, ?_, ?_⟩ <;>
    (simp only [V, hostOps0, List.flatten_cons, List.flatten_nil, List.cons_append, List.nil_append, List.append_nil]; entry_read; rfl)

/-- What the body leaves of a point's blocks. -/
theorem out_val (i : grid0.Coords) (arg3 arg4 arg5 arg6 arg7 arg8 arg9 : Memref sig .tc .vmem S1x128x2476 .f32)
    (h3 : arg3.IsWhole) (h4 : arg4.IsWhole) (h5 : arg5.IsWhole) (h6 : arg6.IsWhole) (h7 : arg7.IsWhole) (h8 : arg8.IsWhole) (h9 : arg9.IsWhole)
    (w m v g : Vec Ideal S1x128x2476 .f32) (xt : TbBuf0 (F := Ideal) c tbM0_0) (y : S1x128x2476.Idx) :
    out0_A_4 c i arg3 h3 arg4 h4 arg5 h5 arg6 h6 arg7 h7 arg8 h8 arg9 h9 w m v g xt y = change (g y) (m y) (v y) (w y)
    ∧ out0_A_5 c i arg3 h3 arg4 h4 arg5 h5 arg6 h6 arg7 h7 arg8 h8 arg9 h9 w m v g xt y = firstMoment (g y) (m y)
    ∧ out0_A_6 c i arg3 h3 arg4 h4 arg5 h5 arg6 h6 arg7 h7 arg8 h8 arg9 h9 w m v g xt y = secondMoment (g y) (v y) := by
  refine ⟨?_, ?_, ?_⟩ <;> frame_out <;> pointwise [k0_pay1, k0_pay2, k0_pay3, k0_pay7, k0_pay6, k0_pay5, k0_pay4] <;> rfl

/-! ## The results' arrays: the blocks cover them -/

theorem size_pos : ∀ a : Fin 3, 0 < S1x128x2476.size a := by decide
theorem onto : ∀ β : (a : Fin 3) → Fin ((S1x256x2476.size a + S1x128x2476.size a - 1) / S1x128x2476.size a), ∃ i : grid0.Coords, ∀ a, cc0_transform_4 i a = β a := by
  decide +kernel

theorem cov4 : ((cfgM m (ok m)).win 4).Covers :=
  Window.covers_of_indexMap_surj _ rfl size_pos onto

theorem cov5 : ((cfgM m (ok m)).win 5).Covers :=
  Window.covers_of_indexMap_surj _ rfl size_pos onto

theorem cov6 : ((cfgM m (ok m)).win 6).Covers :=
  Window.covers_of_indexMap_surj _ rfl size_pos onto

theorem arr4 : (dats m (ok m) 0 c).arrAt 4 (cfgM m (ok m)).N = fun i => change (V m c main_v4 i) (V m c main_v2 i) (V m c main_v3 i) (V m c main_v1 i) := by
  refine (dats m (ok m) 0 c).arrAt_eq_of_covers 4 _ (cov4 m) fun t hf y => ?_
  blk_simp
  rw [after0_4]
  unfold outsAt0
  dsimp only
  exact (out_val ..).1

theorem arr5 : (dats m (ok m) 0 c).arrAt 5 (cfgM m (ok m)).N = fun i => firstMoment (V m c main_v4 i) (V m c main_v2 i) := by
  refine (dats m (ok m) 0 c).arrAt_eq_of_covers 5 _ (cov5 m) fun t hf y => ?_
  blk_simp
  rw [after0_5]
  unfold outsAt0
  dsimp only
  exact (out_val ..).2.1

theorem arr6 : (dats m (ok m) 0 c).arrAt 6 (cfgM m (ok m)).N = fun i => secondMoment (V m c main_v4 i) (V m c main_v3 i) := by
  refine (dats m (ok m) 0 c).arrAt_eq_of_covers 6 _ (cov6 m) fun t hf y => ?_
  blk_simp
  rw [after0_6]
  unfold outsAt0
  dsimp only
  exact (out_val ..).2.2

/-! ## The run -/

def changes : Buf (Elt Ideal) ((c.tc : Thread nD τ).loc main_v5_0) := fun i => change (m ((c.tc : Thread nD τ).loc main_arg3) (place i)) (m ((c.tc : Thread nD τ).loc main_arg1) (place i)) (m ((c.tc : Thread nD τ).loc main_arg2) (place i)) (m ((c.tc : Thread nD τ).loc main_arg0) (place i))
def firsts : Buf (Elt Ideal) ((c.tc : Thread nD τ).loc main_v5_1) := fun i => firstMoment (m ((c.tc : Thread nD τ).loc main_arg3) (place i)) (m ((c.tc : Thread nD τ).loc main_arg1) (place i))
def seconds : Buf (Elt Ideal) ((c.tc : Thread nD τ).loc main_v5_2) := fun i => secondMoment (m ((c.tc : Thread nD τ).loc main_arg3) (place i)) (m ((c.tc : Thread nD τ).loc main_arg2) (place i))

/-- The call's run, its results the update's arrays. -/
theorem kernel_run :
    θ_run defs (onTc (τ := τ) (main (F := Ideal))) ⟨m, fun _ => 0, ρ⟩ (fun r => ∀ c : Dev nD,
      r.2.mem ((c.tc : Thread nD τ).loc main_v5_0) = changes m c
      ∧ r.2.mem ((c.tc : Thread nD τ).loc main_v5_1) = firsts m c
      ∧ r.2.mem ((c.tc : Thread nD τ).loc main_v5_2) = seconds m c) := by
  run_from run_main m ρ (ok m)
  all_goals
    obtain ⟨e0, e1, e2, e3⟩ := entry m c
  · rw [arr4, e0, e1, e2, e3]
    rfl
  · rw [arr5, e1, e3]
    rfl
  · rw [arr6, e2, e3]
    rfl

end Kernel

section Reference

open Cert.Reference5Ideal.Read

variable (w m v g : (⟨S2x128x2476, .f32⟩ : BufTy).Contents (Elt Ideal))

theorem ref24 : val_main_v24 (F := Ideal) w m v g = fun i => change (g (place i)) (m (place i)) (v (place i)) (w (place i)) :=
  rfl

theorem ref25 : val_main_v25 (F := Ideal) m g = fun i => firstMoment (g (place i)) (m (place i)) :=
  rfl

theorem ref26 : val_main_v26 (F := Ideal) v g = fun i => secondMoment (g (place i)) (v (place i)) :=
  rfl

end Reference

end Cert.Kernel5Ideal.Gen

namespace Cert.Proof.Five

open Idealize.ShloMosaic Idealize.SL.Sem Cert.Reference5Ideal.Read

theorem frame_p : @Cert.quiescent_Kernel5 Cert.Kernel5.Gen.facts := fun m ρ _ => Cert.Kernel5.Gen.frame m ρ trivial

theorem frame_pi : @Cert.quiescent_Kernel5Ideal Cert.Kernel5Ideal.Gen.facts := fun m ρ _ => Cert.Kernel5Ideal.Gen.frame m ρ trivial

/-- The reference has no counters. -/
theorem frame_ri : @Cert.quiescent_Reference5Ideal Cert.Reference5Ideal.Gen.facts := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem algebraic : @Cert.algebraic_Kernel5Ideal_Reference5Ideal Cert.Kernel5Ideal.Gen.facts Cert.Reference5Ideal.Gen.facts := by
  intro m ρ m' ρ' _ hm
  refine ⟨Cert.Kernel5Ideal.Gen.changes m, Cert.Kernel5Ideal.Gen.firsts m, Cert.Kernel5Ideal.Gen.seconds m,
    θ_run_mono (θ_run_and (Cert.Kernel5Ideal.Gen.kernel_run m ρ) (Cert.Kernel5Ideal.Gen.frame m ρ trivial)) fun r h c => ?_,
    θ_run_mono (Cert.Reference5Ideal.Value.run (F := Ideal) m' ρ') fun r h c => ?_⟩
  · obtain ⟨h0, h1, h2⟩ := h.1 c
    exact ⟨h0, h1, h2, h.2.1 c⟩
  · obtain ⟨h0, h1, h2, h3⟩ := h c
    obtain ⟨e0, e1, e2, e3⟩ := hm c
    refine ⟨h0.trans ?_, h1.trans ?_, h2.trans ?_, h3⟩
    · exact ((val_main_v24_eq ..).trans (Cert.Kernel5Ideal.Gen.ref24 ..)).trans (by rw [e0, e1, e2, e3]; rfl)
    · exact ((val_main_v25_eq ..).trans (Cert.Kernel5Ideal.Gen.ref25 ..)).trans (by rw [e1, e3]; rfl)
    · exact ((val_main_v26_eq ..).trans (Cert.Kernel5Ideal.Gen.ref26 ..)).trans (by rw [e2, e3]; rfl)

end Cert.Proof.Five

end
-- ==== Proof.Update6.lean ====
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Update

@[expose] public section

/-!
  # The update of the meta tokens

  The call and the reference move every weight by its own gradient (Update.lean).
-/

set_option maxRecDepth 16384

noncomputable section

namespace Cert.Kernel6Ideal.Gen

open Idealize.ShloMosaic Idealize.ShloMosaic.TcCoe Idealize.SL.Sem Idealize.ShloMosaic.Pipeline
open Cert.Kernel6Ideal Cert.Proof

/-- Where a result's element stands in the arguments. -/
def place (i : S1x16x128.Idx) : S16x128.Idx := Shape.reshapeEquiv shapeCasts_S16x128_S1x16x128 i

section Kernel

variable (m : (ℓ : Loc nD τ sig) → Buf (Elt Ideal) ℓ) (ρ : Dev nD → PrngReg) (c : Dev nD)

/-- No block index reads the table. -/
theorem ok {F : FTy → Type} [FloatOps F] (m : (ℓ : Loc nD τ sig) → Buf (Elt F) ℓ) : Ok m := trivial

/-- The region finds the arguments, reshaped. -/
theorem entry : V m c main_v1 = (fun i => m ((c : Thread nD τ).loc main_arg0) (place i))
    ∧ V m c main_v2 = (fun i => m ((c : Thread nD τ).loc main_arg1) (place i))
    ∧ V m c main_v3 = (fun i => m ((c : Thread nD τ).loc main_arg2) (place i))
    ∧ V m c main_v4 = (fun i => m ((c : Thread nD τ).loc main_arg3) (place i)) := by
  refine ⟨?_, ?_, ?_, ?_⟩ <;>
    (simp only [V, hostOps0, List.flatten_cons, List.flatten_nil, List.cons_append, List.nil_append, List.append_nil]; entry_read; rfl)

/-- What the body leaves of a point's blocks. -/
theorem out_val (i : grid0.Coords) (arg3 arg4 arg5 arg6 arg7 arg8 arg9 : Memref sig .tc .vmem S1x16x128 .f32)
    (h3 : arg3.IsWhole) (h4 : arg4.IsWhole) (h5 : arg5.IsWhole) (h6 : arg6.IsWhole) (h7 : arg7.IsWhole) (h8 : arg8.IsWhole) (h9 : arg9.IsWhole)
    (w m v g : Vec Ideal S1x16x128 .f32) (xt : TbBuf0 (F := Ideal) c tbM0_0) (y : S1x16x128.Idx) :
    out0_A_4 c i arg3 h3 arg4 h4 arg5 h5 arg6 h6 arg7 h7 arg8 h8 arg9 h9 w m v g xt y = change (g y) (m y) (v y) (w y)
    ∧ out0_A_5 c i arg3 h3 arg4 h4 arg5 h5 arg6 h6 arg7 h7 arg8 h8 arg9 h9 w m v g xt y = firstMoment (g y) (m y)
    ∧ out0_A_6 c i arg3 h3 arg4 h4 arg5 h5 arg6 h6 arg7 h7 arg8 h8 arg9 h9 w m v g xt y = secondMoment (g y) (v y) := by
  refine ⟨?_, ?_, ?_⟩ <;> frame_out <;> pointwise [k0_pay1, k0_pay2, k0_pay3, k0_pay7, k0_pay6, k0_pay5, k0_pay4] <;> rfl

/-! ## The results' arrays: the blocks cover them -/

theorem size_pos : ∀ a : Fin 3, 0 < S1x16x128.size a := by decide
theorem onto : ∀ β : (a : Fin 3) → Fin ((S1x16x128.size a + S1x16x128.size a - 1) / S1x16x128.size a), ∃ i : grid0.Coords, ∀ a, cc0_transform_4 i a = β a := by
  decide +kernel

theorem cov4 : ((cfgM m (ok m)).win 4).Covers :=
  Window.covers_of_indexMap_surj _ rfl size_pos onto

theorem cov5 : ((cfgM m (ok m)).win 5).Covers :=
  Window.covers_of_indexMap_surj _ rfl size_pos onto

theorem cov6 : ((cfgM m (ok m)).win 6).Covers :=
  Window.covers_of_indexMap_surj _ rfl size_pos onto

theorem arr4 : (dats m (ok m) 0 c).arrAt 4 (cfgM m (ok m)).N = fun i => change (V m c main_v4 i) (V m c main_v2 i) (V m c main_v3 i) (V m c main_v1 i) := by
  refine (dats m (ok m) 0 c).arrAt_eq_of_covers 4 _ (cov4 m) fun t hf y => ?_
  blk_simp
  rw [after0_4]
  unfold outsAt0
  dsimp only
  exact (out_val ..).1

theorem arr5 : (dats m (ok m) 0 c).arrAt 5 (cfgM m (ok m)).N = fun i => firstMoment (V m c main_v4 i) (V m c main_v2 i) := by
  refine (dats m (ok m) 0 c).arrAt_eq_of_covers 5 _ (cov5 m) fun t hf y => ?_
  blk_simp
  rw [after0_5]
  unfold outsAt0
  dsimp only
  exact (out_val ..).2.1

theorem arr6 : (dats m (ok m) 0 c).arrAt 6 (cfgM m (ok m)).N = fun i => secondMoment (V m c main_v4 i) (V m c main_v3 i) := by
  refine (dats m (ok m) 0 c).arrAt_eq_of_covers 6 _ (cov6 m) fun t hf y => ?_
  blk_simp
  rw [after0_6]
  unfold outsAt0
  dsimp only
  exact (out_val ..).2.2

/-! ## The run -/

def changes : Buf (Elt Ideal) ((c.tc : Thread nD τ).loc main_v5_0) := fun i => change (m ((c.tc : Thread nD τ).loc main_arg3) (place i)) (m ((c.tc : Thread nD τ).loc main_arg1) (place i)) (m ((c.tc : Thread nD τ).loc main_arg2) (place i)) (m ((c.tc : Thread nD τ).loc main_arg0) (place i))
def firsts : Buf (Elt Ideal) ((c.tc : Thread nD τ).loc main_v5_1) := fun i => firstMoment (m ((c.tc : Thread nD τ).loc main_arg3) (place i)) (m ((c.tc : Thread nD τ).loc main_arg1) (place i))
def seconds : Buf (Elt Ideal) ((c.tc : Thread nD τ).loc main_v5_2) := fun i => secondMoment (m ((c.tc : Thread nD τ).loc main_arg3) (place i)) (m ((c.tc : Thread nD τ).loc main_arg2) (place i))

/-- The call's run, its results the update's arrays. -/
theorem kernel_run :
    θ_run defs (onTc (τ := τ) (main (F := Ideal))) ⟨m, fun _ => 0, ρ⟩ (fun r => ∀ c : Dev nD,
      r.2.mem ((c.tc : Thread nD τ).loc main_v5_0) = changes m c
      ∧ r.2.mem ((c.tc : Thread nD τ).loc main_v5_1) = firsts m c
      ∧ r.2.mem ((c.tc : Thread nD τ).loc main_v5_2) = seconds m c) := by
  run_from run_main m ρ (ok m)
  all_goals
    obtain ⟨e0, e1, e2, e3⟩ := entry m c
  · rw [arr4, e0, e1, e2, e3]
    rfl
  · rw [arr5, e1, e3]
    rfl
  · rw [arr6, e2, e3]
    rfl

end Kernel

section Reference

open Cert.Reference6Ideal.Read

theorem place_eq (i : S1x16x128.Idx) : idx_main_v24 i = place i := by
  unfold place
  pointwise
  exact funext fun a => match a with
    | ⟨0, _⟩ => rfl
    | ⟨1, _⟩ => rfl

variable (w m v g : (⟨S16x128, .f32⟩ : BufTy).Contents (Elt Ideal))

theorem ref24 : val_main_v24 (F := Ideal) w m v g = fun i => change (g (place i)) (m (place i)) (v (place i)) (w (place i)) :=
  funext fun i => by
    rw [val_main_v24_apply, show idx_main_v24 i = place i from place_eq i]
    rfl

theorem ref25 : val_main_v25 (F := Ideal) m g = fun i => firstMoment (g (place i)) (m (place i)) :=
  funext fun i => by
    rw [val_main_v25_apply, show idx_main_v25 i = place i from place_eq i]
    rfl

theorem ref26 : val_main_v26 (F := Ideal) v g = fun i => secondMoment (g (place i)) (v (place i)) :=
  funext fun i => by
    rw [val_main_v26_apply, show idx_main_v26 i = place i from place_eq i]
    rfl

end Reference

end Cert.Kernel6Ideal.Gen

namespace Cert.Proof.Six

open Idealize.ShloMosaic Idealize.SL.Sem Cert.Reference6Ideal.Read

theorem frame_p : @Cert.quiescent_Kernel6 Cert.Kernel6.Gen.facts := fun m ρ _ => Cert.Kernel6.Gen.frame m ρ trivial

theorem frame_pi : @Cert.quiescent_Kernel6Ideal Cert.Kernel6Ideal.Gen.facts := fun m ρ _ => Cert.Kernel6Ideal.Gen.frame m ρ trivial

/-- The reference has no counters. -/
theorem frame_ri : @Cert.quiescent_Reference6Ideal Cert.Reference6Ideal.Gen.facts := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem algebraic : @Cert.algebraic_Kernel6Ideal_Reference6Ideal Cert.Kernel6Ideal.Gen.facts Cert.Reference6Ideal.Gen.facts := by
  intro m ρ m' ρ' _ hm
  refine ⟨Cert.Kernel6Ideal.Gen.changes m, Cert.Kernel6Ideal.Gen.firsts m, Cert.Kernel6Ideal.Gen.seconds m,
    θ_run_mono (θ_run_and (Cert.Kernel6Ideal.Gen.kernel_run m ρ) (Cert.Kernel6Ideal.Gen.frame m ρ trivial)) fun r h c => ?_,
    θ_run_mono (Cert.Reference6Ideal.Value.run (F := Ideal) m' ρ') fun r h c => ?_⟩
  · obtain ⟨h0, h1, h2⟩ := h.1 c
    exact ⟨h0, h1, h2, h.2.1 c⟩
  · obtain ⟨h0, h1, h2, h3⟩ := h c
    obtain ⟨e0, e1, e2, e3⟩ := hm c
    refine ⟨h0.trans ?_, h1.trans ?_, h2.trans ?_, h3⟩
    · exact ((val_main_v24_eq ..).trans (Cert.Kernel6Ideal.Gen.ref24 ..)).trans (by rw [e0, e1, e2, e3]; rfl)
    · exact ((val_main_v25_eq ..).trans (Cert.Kernel6Ideal.Gen.ref25 ..)).trans (by rw [e1, e3]; rfl)
    · exact ((val_main_v26_eq ..).trans (Cert.Kernel6Ideal.Gen.ref26 ..)).trans (by rw [e2, e3]; rfl)

end Cert.Proof.Six

end
-- ==== Proof.Update7.lean ====
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import proofs.«01_k».proof.Proof.Update
public import Idealize.ShloMosaic.Lib.KernelVsHost

@[expose] public section

/-!
  # The update of the small weights, packed in one array for the call

  The call moves a packed array; its results' pieces are the weights', each moved by its own gradient (Update.lean).
-/

set_option maxRecDepth 16384

noncomputable section

namespace Cert.Kernel7Ideal.Gen

open Idealize.ShloMosaic Idealize.ShloMosaic.TcCoe Idealize.SL.Sem Idealize.ShloMosaic.Pipeline
open Cert.Kernel7Ideal Cert.Proof

/-! ## The packed weights -/

/-- What the weights' rows are filled up with. -/
def filler : (⟨S_, .f32⟩ : BufTy).Contents (Elt Ideal) := sitofp (F := Ideal) .f32 (constantI S_ 32 0#32)

/-- Rows of weights, filled up and laid out as the call reads them. -/
def packed (xs : List ((s : Shape) × (s.Idx → Elt Ideal .f32))) (h : Shape.Concatenates (xs.map (·.1)) S2x7836 1) : S1x16x1024.Idx → Elt Ideal .f32 :=
  shapeCast S1x16x1024 (shapeCast S16x1024 (pad S2x8192 ![0, 0] ![0, 356] ![0, 0] (concatenate S2x7836 1 xs h) filler pads_S2x7836_S2x8192_000_03560 h_S_)
    shapeCasts_S2x8192_S16x1024) shapeCasts_S16x1024_S1x16x1024

/-- The weight of `k` entries a layer that stands at `o`. -/
def piece (k o : Nat) (h : S2x8192.Slices ![0, o] ⟨2, ![2, k]⟩) (x : S1x16x1024.Idx → Elt Ideal .f32) : (⟨2, ![2, k]⟩ : Shape).Idx → Elt Ideal .f32 :=
  extractStridedSlice ⟨2, ![2, k]⟩ ![0, o] (shapeCast S2x8192 x shapeCasts_S1x16x1024_S2x8192) h

/-- The weights' shapes. -/
def widths : List Shape := [S2x1024, S2x1024, S2x1024, S2x1024, S2x1024, S2x1024, S2x768, S2x512, S2x256, S2x128, S2x8, S2x8, S2x8, S2x4]

/-- A packed weight is found where its predecessors end. -/
theorem piece_packed {k o : Nat} (h : S2x8192.Slices ![0, o] ⟨2, ![2, k]⟩) (xs : List ((s : Shape) × (s.Idx → Elt Ideal .f32)))
    (hx : Shape.Concatenates (xs.map (·.1)) S2x7836 1) (n : Nat) (x : (⟨2, ![2, k]⟩ : Shape).Idx → Elt Ideal .f32) (hk : xs[n]? = some ⟨⟨2, ![2, k]⟩, x⟩)
    (hw : xs.map (·.1) = widths) (ho : ((widths.take n).map fun s => if h : s.rank = S2x7836.rank then s.size ((1 : Fin S2x7836.rank).cast h.symm) else 0).sum = o) (hb : o + k ≤ 7836) :
    piece k o h (packed xs hx) = x := by
  obtain ⟨hn, hk⟩ := List.getElem?_eq_some_iff.mp hk
  unfold piece packed
  rw [shapeCast_comp, shapeCast_shapeCast]
  funext y
  have hy : (y 1).val < k := (y 1).isLt
  have hy0 : (y 0).val < 2 := (y 0).isLt
  rw [extractStridedSlice_apply _ _ _ y (ix2 ⟨(y 0).val, hy0⟩ ⟨o + (y 1).val, by omega⟩) (by intro a; fin_cases a <;> simp [ix2]),
    pad_apply_of_inside _ _ _ _ _ _ _ _ (ix2 ⟨(y 0).val, hy0⟩ ⟨o + (y 1).val, by omega⟩) (by intro a; fin_cases a <;> simp [ix2])]
  exact concatenate_apply_piece 1 xs hx _ n hn _ x hk rfl o (by rw [List.map_take, hw]; exact ho) y (by intro b hb; fin_cases b <;> simp_all [ix2]) rfl

/-- The weights' rows fill the packed array's. -/
theorem fits : Shape.Concatenates widths S2x7836 1 := concatenates_S2x1024_S2x1024_S2x1024_S2x1024_S2x1024_S2x1024_S2x768_S2x512_S2x256_S2x128_S2x8_S2x8_S2x8_S2x4_S2x7836_d1

/-- The fourteen weights' rows. -/
def rows (x0 x1 x2 x3 x4 x5 : S2x1024.Idx → Elt Ideal .f32) (x6 : S2x768.Idx → Elt Ideal .f32) (x7 : S2x512.Idx → Elt Ideal .f32) (x8 : S2x256.Idx → Elt Ideal .f32) (x9 : S2x128.Idx → Elt Ideal .f32) (x10 x11 x12 : S2x8.Idx → Elt Ideal .f32) (x13 : S2x4.Idx → Elt Ideal .f32) : List ((s : Shape) × (s.Idx → Elt Ideal .f32)) :=
  [⟨S2x1024, x0⟩, ⟨S2x1024, x1⟩, ⟨S2x1024, x2⟩, ⟨S2x1024, x3⟩, ⟨S2x1024, x4⟩, ⟨S2x1024, x5⟩, ⟨S2x768, x6⟩, ⟨S2x512, x7⟩, ⟨S2x256, x8⟩, ⟨S2x128, x9⟩, ⟨S2x8, x10⟩, ⟨S2x8, x11⟩, ⟨S2x8, x12⟩, ⟨S2x4, x13⟩]

/-- Every weight is found again. -/
theorem piece_rows (x0 x1 x2 x3 x4 x5 : S2x1024.Idx → Elt Ideal .f32) (x6 : S2x768.Idx → Elt Ideal .f32) (x7 : S2x512.Idx → Elt Ideal .f32) (x8 : S2x256.Idx → Elt Ideal .f32) (x9 : S2x128.Idx → Elt Ideal .f32) (x10 x11 x12 : S2x8.Idx → Elt Ideal .f32) (x13 : S2x4.Idx → Elt Ideal .f32) :
    piece 1024 0 slices_S2x8192_S2x1024_0_0 (packed (rows x0 x1 x2 x3 x4 x5 x6 x7 x8 x9 x10 x11 x12 x13) fits) = x0
    ∧ piece 1024 1024 slices_S2x8192_S2x1024_0_1024 (packed (rows x0 x1 x2 x3 x4 x5 x6 x7 x8 x9 x10 x11 x12 x13) fits) = x1
    ∧ piece 1024 2048 slices_S2x8192_S2x1024_0_2048 (packed (rows x0 x1 x2 x3 x4 x5 x6 x7 x8 x9 x10 x11 x12 x13) fits) = x2
    ∧ piece 1024 3072 slices_S2x8192_S2x1024_0_3072 (packed (rows x0 x1 x2 x3 x4 x5 x6 x7 x8 x9 x10 x11 x12 x13) fits) = x3
    ∧ piece 1024 4096 slices_S2x8192_S2x1024_0_4096 (packed (rows x0 x1 x2 x3 x4 x5 x6 x7 x8 x9 x10 x11 x12 x13) fits) = x4
    ∧ piece 1024 5120 slices_S2x8192_S2x1024_0_5120 (packed (rows x0 x1 x2 x3 x4 x5 x6 x7 x8 x9 x10 x11 x12 x13) fits) = x5
    ∧ piece 768 6144 slices_S2x8192_S2x768_0_6144 (packed (rows x0 x1 x2 x3 x4 x5 x6 x7 x8 x9 x10 x11 x12 x13) fits) = x6
    ∧ piece 512 6912 slices_S2x8192_S2x512_0_6912 (packed (rows x0 x1 x2 x3 x4 x5 x6 x7 x8 x9 x10 x11 x12 x13) fits) = x7
    ∧ piece 256 7424 slices_S2x8192_S2x256_0_7424 (packed (rows x0 x1 x2 x3 x4 x5 x6 x7 x8 x9 x10 x11 x12 x13) fits) = x8
    ∧ piece 128 7680 slices_S2x8192_S2x128_0_7680 (packed (rows x0 x1 x2 x3 x4 x5 x6 x7 x8 x9 x10 x11 x12 x13) fits) = x9
    ∧ piece 8 7808 slices_S2x8192_S2x8_0_7808 (packed (rows x0 x1 x2 x3 x4 x5 x6 x7 x8 x9 x10 x11 x12 x13) fits) = x10
    ∧ piece 8 7816 slices_S2x8192_S2x8_0_7816 (packed (rows x0 x1 x2 x3 x4 x5 x6 x7 x8 x9 x10 x11 x12 x13) fits) = x11
    ∧ piece 8 7824 slices_S2x8192_S2x8_0_7824 (packed (rows x0 x1 x2 x3 x4 x5 x6 x7 x8 x9 x10 x11 x12 x13) fits) = x12
    ∧ piece 4 7832 slices_S2x8192_S2x4_0_7832 (packed (rows x0 x1 x2 x3 x4 x5 x6 x7 x8 x9 x10 x11 x12 x13) fits) = x13 :=
  ⟨piece_packed _ _ _ 0 _ rfl rfl (by decide) (by decide), piece_packed _ _ _ 1 _ rfl rfl (by decide) (by decide), piece_packed _ _ _ 2 _ rfl rfl (by decide) (by decide), piece_packed _ _ _ 3 _ rfl rfl (by decide) (by decide), piece_packed _ _ _ 4 _ rfl rfl (by decide) (by decide), piece_packed _ _ _ 5 _ rfl rfl (by decide) (by decide), piece_packed _ _ _ 6 _ rfl rfl (by decide) (by decide), piece_packed _ _ _ 7 _ rfl rfl (by decide) (by decide), piece_packed _ _ _ 8 _ rfl rfl (by decide) (by decide), piece_packed _ _ _ 9 _ rfl rfl (by decide) (by decide), piece_packed _ _ _ 10 _ rfl rfl (by decide) (by decide), piece_packed _ _ _ 11 _ rfl rfl (by decide) (by decide), piece_packed _ _ _ 12 _ rfl rfl (by decide) (by decide), piece_packed _ _ _ 13 _ rfl rfl (by decide) (by decide)⟩

section Kernel

variable (m : (ℓ : Loc nD τ sig) → Buf (Elt Ideal) ℓ) (ρ : Dev nD → PrngReg) (c : Dev nD)

/-- No block index reads the table. -/
theorem ok {F : FTy → Type} [FloatOps F] (m : (ℓ : Loc nD τ sig) → Buf (Elt F) ℓ) : Ok m := trivial

/-- What the body leaves of a point's blocks. -/
theorem out_val (i : grid0.Coords) (arg3 arg4 arg5 arg6 arg7 arg8 arg9 : Memref sig .tc .vmem S1x16x1024 .f32)
    (h3 : arg3.IsWhole) (h4 : arg4.IsWhole) (h5 : arg5.IsWhole) (h6 : arg6.IsWhole) (h7 : arg7.IsWhole) (h8 : arg8.IsWhole) (h9 : arg9.IsWhole)
    (w m v g : Vec Ideal S1x16x1024 .f32) (xt : TbBuf0 (F := Ideal) c tbM0_0) (y : S1x16x1024.Idx) :
    out0_A_4 c i arg3 h3 arg4 h4 arg5 h5 arg6 h6 arg7 h7 arg8 h8 arg9 h9 w m v g xt y = change (g y) (m y) (v y) (w y)
    ∧ out0_A_5 c i arg3 h3 arg4 h4 arg5 h5 arg6 h6 arg7 h7 arg8 h8 arg9 h9 w m v g xt y = firstMoment (g y) (m y)
    ∧ out0_A_6 c i arg3 h3 arg4 h4 arg5 h5 arg6 h6 arg7 h7 arg8 h8 arg9 h9 w m v g xt y = secondMoment (g y) (v y) := by
  refine ⟨?_, ?_, ?_⟩ <;> frame_out <;> pointwise [k0_pay1, k0_pay2, k0_pay3, k0_pay7, k0_pay6, k0_pay5, k0_pay4] <;> rfl

/-! ## The results' arrays: the blocks cover them -/

theorem size_pos : ∀ a : Fin 3, 0 < S1x16x1024.size a := by decide
theorem onto : ∀ β : (a : Fin 3) → Fin ((S1x16x1024.size a + S1x16x1024.size a - 1) / S1x16x1024.size a), ∃ i : grid0.Coords, ∀ a, cc0_transform_4 i a = β a := by
  decide +kernel

theorem cov4 : ((cfgM m (ok m)).win 4).Covers :=
  Window.covers_of_indexMap_surj _ rfl size_pos onto

theorem cov5 : ((cfgM m (ok m)).win 5).Covers :=
  Window.covers_of_indexMap_surj _ rfl size_pos onto

theorem cov6 : ((cfgM m (ok m)).win 6).Covers :=
  Window.covers_of_indexMap_surj _ rfl size_pos onto

theorem arr4 : (dats m (ok m) 0 c).arrAt 4 (cfgM m (ok m)).N = fun i => change (V m c main_v16 i) (V m c main_v14 i) (V m c main_v15 i) (V m c main_v13 i) := by
  refine (dats m (ok m) 0 c).arrAt_eq_of_covers 4 _ (cov4 m) fun t hf y => ?_
  blk_simp
  rw [after0_4]
  unfold outsAt0
  dsimp only
  exact (out_val ..).1

theorem arr5 : (dats m (ok m) 0 c).arrAt 5 (cfgM m (ok m)).N = fun i => firstMoment (V m c main_v16 i) (V m c main_v14 i) := by
  refine (dats m (ok m) 0 c).arrAt_eq_of_covers 5 _ (cov5 m) fun t hf y => ?_
  blk_simp
  rw [after0_5]
  unfold outsAt0
  dsimp only
  exact (out_val ..).2.1

theorem arr6 : (dats m (ok m) 0 c).arrAt 6 (cfgM m (ok m)).N = fun i => secondMoment (V m c main_v16 i) (V m c main_v15 i) := by
  refine (dats m (ok m) 0 c).arrAt_eq_of_covers 6 _ (cov6 m) fun t hf y => ?_
  blk_simp
  rw [after0_6]
  unfold outsAt0
  dsimp only
  exact (out_val ..).2.2

/-- An argument's contents. -/
abbrev arg (b : Ref sig .tc) : Buf (Elt Ideal) ((c.tc : Thread nD τ).loc b) := m ((c.tc : Thread nD τ).loc b)

/-- The region finds the arguments, packed. -/
theorem entry : V m c main_v13 = packed (rows (arg m c main_arg0) (arg m c main_arg4) (arg m c main_arg8) (arg m c main_arg12) (arg m c main_arg16) (arg m c main_arg20) (arg m c main_arg24) (arg m c main_arg28) (arg m c main_arg32) (arg m c main_arg36) (arg m c main_arg40) (arg m c main_arg44) (arg m c main_arg48) (arg m c main_arg52)) fits
    ∧ V m c main_v14 = packed (rows (arg m c main_arg1) (arg m c main_arg5) (arg m c main_arg9) (arg m c main_arg13) (arg m c main_arg17) (arg m c main_arg21) (arg m c main_arg25) (arg m c main_arg29) (arg m c main_arg33) (arg m c main_arg37) (arg m c main_arg41) (arg m c main_arg45) (arg m c main_arg49) (arg m c main_arg53)) fits
    ∧ V m c main_v15 = packed (rows (arg m c main_arg2) (arg m c main_arg6) (arg m c main_arg10) (arg m c main_arg14) (arg m c main_arg18) (arg m c main_arg22) (arg m c main_arg26) (arg m c main_arg30) (arg m c main_arg34) (arg m c main_arg38) (arg m c main_arg42) (arg m c main_arg46) (arg m c main_arg50) (arg m c main_arg54)) fits
    ∧ V m c main_v16 = packed (rows (arg m c main_arg3) (arg m c main_arg7) (arg m c main_arg11) (arg m c main_arg15) (arg m c main_arg19) (arg m c main_arg23) (arg m c main_arg27) (arg m c main_arg31) (arg m c main_arg35) (arg m c main_arg39) (arg m c main_arg43) (arg m c main_arg47) (arg m c main_arg51) (arg m c main_arg55)) fits := by
  refine ⟨?_, ?_, ?_, ?_⟩ <;>
    (simp only [V, V0, hostOps0, hostOps0_1, hostOps0_2, hostOps0_3, hostOps0_4, hostOps0_5, hostOps0_6, hostOps0_7, hostOps0_8, List.flatten_cons, List.flatten_nil, List.cons_append, List.nil_append, List.append_nil]; entry_read
     unfold packed
     refine congrArg (fun p => shapeCast S1x16x1024 p shapeCasts_S16x1024_S1x16x1024) ?_
     refine congrArg (fun p => shapeCast S16x1024 p shapeCasts_S2x8192_S16x1024) ?_
     refine congrArg₂ (fun (p : (⟨S2x7836, .f32⟩ : BufTy).Contents (Elt Ideal)) (z : (⟨S_, .f32⟩ : BufTy).Contents (Elt Ideal)) => pad S2x8192 ![0, 0] ![0, 356] ![0, 0] p z pads_S2x7836_S2x8192_000_03560 h_S_) ?_ ?_
     · rfl
     · rfl)

/-- What the lines after the call leave of a buffer. -/
abbrev left (b : Ref sig .tc) : Buf (Elt Ideal) ((c.tc : Thread nD τ).loc b) :=
  Pipeline.afterTail pcfgs (fun _ => adm m (ok m)) (dats m (ok m)) 0 (V0 m) [hostOps1] c b

theorem arr_left (w : Fin 7) : Pipeline.withArrays (Pipeline.pin (pcfgs (F := Ideal)) (fun _ => adm m (ok m)) 0).spec c (V0 m c) (fun w => (dats m (ok m) 0 c).arrAt w (Pipeline.pin (pcfgs (F := Ideal)) (fun _ => adm m (ok m)) 0).N)
    (Proc.devRef .tc (Pipeline.arrRef (Pipeline.pin (pcfgs (F := Ideal)) (fun _ => adm m (ok m)) 0).spec w)) = (dats m (ok m) 0 c).arrAt w (cfgM m (ok m)).N :=
  Pipeline.withArrays_arr (Pipeline.pin (pcfgs (F := Ideal)) (fun _ => adm m (ok m)) 0).spec (launch0 (F := Ideal)).win.arr_inj c (V0 m c) _ w

/-- A weight's piece of what the call leaves, from the weights' pieces. -/
theorem piece_arr (k o : Nat) (h : S2x8192.Slices ![0, o] ⟨2, ![2, k]⟩) :
    piece k o h ((dats m (ok m) 0 c).arrAt 4 (cfgM m (ok m)).N) = (fun y => change (piece k o h (V m c main_v16) y) (piece k o h (V m c main_v14) y) (piece k o h (V m c main_v15) y) (piece k o h (V m c main_v13) y))
    ∧ piece k o h ((dats m (ok m) 0 c).arrAt 5 (cfgM m (ok m)).N) = (fun y => firstMoment (piece k o h (V m c main_v16) y) (piece k o h (V m c main_v14) y))
    ∧ piece k o h ((dats m (ok m) 0 c).arrAt 6 (cfgM m (ok m)).N) = (fun y => secondMoment (piece k o h (V m c main_v16) y) (piece k o h (V m c main_v15) y)) := by
  rw [arr4, arr5, arr6]
  exact ⟨rfl, rfl, rfl⟩

/-- The run leaves every buffer as the lines after the call do. -/
theorem kernel_run :
    θ_run defs (onTc (τ := τ) (main (F := Ideal))) ⟨m, fun _ => 0, ρ⟩ (fun r => ∀ (c : Dev nD) (b : Ref sig .tc), b.isScoped = false →
      (∀ w, (spec0 w).arr.view.ref ≠ b) → r.2.mem ((c.tc : Thread nD τ).loc b) = left m c b) :=
  θ_run_mono (run_main m ρ (ok m)) fun _ h c b hs ha => (h c).2 b (Pipeline.mem_restRefs_of b hs ha)

end Kernel

end Cert.Kernel7Ideal.Gen

namespace Cert.Proof.Seven

open Idealize.ShloMosaic Idealize.ShloMosaic.TcCoe Idealize.SL.Sem Cert.Kernel7Ideal Cert.Kernel7Ideal.Gen

theorem frame_p : @Cert.quiescent_Kernel7 Cert.Kernel7.Gen.facts := fun m ρ _ => Cert.Kernel7.Gen.frame m ρ trivial

theorem frame_pi : @Cert.quiescent_Kernel7Ideal Cert.Kernel7Ideal.Gen.facts := fun m ρ _ => Cert.Kernel7Ideal.Gen.frame m ρ trivial

/-- The reference has no counters. -/
theorem frame_ri : @Cert.quiescent_Reference7Ideal Cert.Reference7Ideal.Gen.facts := fun m ρ _ =>
  (θ_run Cert.Reference7Ideal.defs _ _).mono (fun r h => ⟨fun c => (h c).2.2.2.2.2.2.2.2.2.2.2.2.2.2.2.2.2.2.2.2.2.2.2.2.2.2.2.2.2.2.2.2.2.2.2.2.2.2.2.2.2.2, sem_eq_zero_of_no_sems (by decide) r.2⟩)
    (Cert.Reference7Ideal.Value.run (F := Ideal) m ρ)

section Congr

variable {s : Type} {g g' m m' v v' w w' : s → Ideal .f32} (hg : g' = g) (hm : m' = m) (hv : v' = v) (hw : w' = w)

include hg hm in
theorem first_congr : (fun y => firstMoment (g' y) (m' y)) = fun y => firstMoment (g y) (m y) := by rw [hg, hm]

include hg hv in
theorem second_congr : (fun y => secondMoment (g' y) (v' y)) = fun y => secondMoment (g y) (v y) := by rw [hg, hv]

include hg hm hv hw in
theorem change_congr : (fun y => change (g' y) (m' y) (v' y) (w' y)) = fun y => change (g y) (m y) (v y) (w y) := by rw [hg, hm, hv, hw]

end Congr

set_option maxHeartbeats 8000000 in
theorem algebraic : @Cert.algebraic_Kernel7Ideal_Reference7Ideal Cert.Kernel7Ideal.Gen.facts Cert.Reference7Ideal.Gen.facts := by
  intro m ρ m' ρ' _ hm
  refine ⟨fun c y => change (arg m c main_arg3 y) (arg m c main_arg1 y) (arg m c main_arg2 y) (arg m c main_arg0 y),
    fun c y => firstMoment (arg m c main_arg3 y) (arg m c main_arg1 y),
    fun c y => secondMoment (arg m c main_arg3 y) (arg m c main_arg2 y),
    fun c y => change (arg m c main_arg7 y) (arg m c main_arg5 y) (arg m c main_arg6 y) (arg m c main_arg4 y),
    fun c y => firstMoment (arg m c main_arg7 y) (arg m c main_arg5 y),
    fun c y => secondMoment (arg m c main_arg7 y) (arg m c main_arg6 y),
    fun c y => change (arg m c main_arg11 y) (arg m c main_arg9 y) (arg m c main_arg10 y) (arg m c main_arg8 y),
    fun c y => firstMoment (arg m c main_arg11 y) (arg m c main_arg9 y),
    fun c y => secondMoment (arg m c main_arg11 y) (arg m c main_arg10 y),
    fun c y => change (arg m c main_arg15 y) (arg m c main_arg13 y) (arg m c main_arg14 y) (arg m c main_arg12 y),
    fun c y => firstMoment (arg m c main_arg15 y) (arg m c main_arg13 y),
    fun c y => secondMoment (arg m c main_arg15 y) (arg m c main_arg14 y),
    fun c y => change (arg m c main_arg19 y) (arg m c main_arg17 y) (arg m c main_arg18 y) (arg m c main_arg16 y),
    fun c y => firstMoment (arg m c main_arg19 y) (arg m c main_arg17 y),
    fun c y => secondMoment (arg m c main_arg19 y) (arg m c main_arg18 y),
    fun c y => change (arg m c main_arg23 y) (arg m c main_arg21 y) (arg m c main_arg22 y) (arg m c main_arg20 y),
    fun c y => firstMoment (arg m c main_arg23 y) (arg m c main_arg21 y),
    fun c y => secondMoment (arg m c main_arg23 y) (arg m c main_arg22 y),
    fun c y => change (arg m c main_arg27 y) (arg m c main_arg25 y) (arg m c main_arg26 y) (arg m c main_arg24 y),
    fun c y => firstMoment (arg m c main_arg27 y) (arg m c main_arg25 y),
    fun c y => secondMoment (arg m c main_arg27 y) (arg m c main_arg26 y),
    fun c y => change (arg m c main_arg31 y) (arg m c main_arg29 y) (arg m c main_arg30 y) (arg m c main_arg28 y),
    fun c y => firstMoment (arg m c main_arg31 y) (arg m c main_arg29 y),
    fun c y => secondMoment (arg m c main_arg31 y) (arg m c main_arg30 y),
    fun c y => change (arg m c main_arg35 y) (arg m c main_arg33 y) (arg m c main_arg34 y) (arg m c main_arg32 y),
    fun c y => firstMoment (arg m c main_arg35 y) (arg m c main_arg33 y),
    fun c y => secondMoment (arg m c main_arg35 y) (arg m c main_arg34 y),
    fun c y => change (arg m c main_arg39 y) (arg m c main_arg37 y) (arg m c main_arg38 y) (arg m c main_arg36 y),
    fun c y => firstMoment (arg m c main_arg39 y) (arg m c main_arg37 y),
    fun c y => secondMoment (arg m c main_arg39 y) (arg m c main_arg38 y),
    fun c y => change (arg m c main_arg43 y) (arg m c main_arg41 y) (arg m c main_arg42 y) (arg m c main_arg40 y),
    fun c y => firstMoment (arg m c main_arg43 y) (arg m c main_arg41 y),
    fun c y => secondMoment (arg m c main_arg43 y) (arg m c main_arg42 y),
    fun c y => change (arg m c main_arg47 y) (arg m c main_arg45 y) (arg m c main_arg46 y) (arg m c main_arg44 y),
    fun c y => firstMoment (arg m c main_arg47 y) (arg m c main_arg45 y),
    fun c y => secondMoment (arg m c main_arg47 y) (arg m c main_arg46 y),
    fun c y => change (arg m c main_arg51 y) (arg m c main_arg49 y) (arg m c main_arg50 y) (arg m c main_arg48 y),
    fun c y => firstMoment (arg m c main_arg51 y) (arg m c main_arg49 y),
    fun c y => secondMoment (arg m c main_arg51 y) (arg m c main_arg50 y),
    fun c y => change (arg m c main_arg55 y) (arg m c main_arg53 y) (arg m c main_arg54 y) (arg m c main_arg52 y),
    fun c y => firstMoment (arg m c main_arg55 y) (arg m c main_arg53 y),
    fun c y => secondMoment (arg m c main_arg55 y) (arg m c main_arg54 y),
    θ_run_mono (θ_run_and (kernel_run m ρ) (frame m ρ trivial)) fun r h c =>
      ⟨(h.1 c main_v19 rfl (by decide)).trans ?_, (h.1 c main_v34 rfl (by decide)).trans ?_, (h.1 c main_v49 rfl (by decide)).trans ?_, (h.1 c main_v20 rfl (by decide)).trans ?_, (h.1 c main_v35 rfl (by decide)).trans ?_, (h.1 c main_v50 rfl (by decide)).trans ?_, (h.1 c main_v21 rfl (by decide)).trans ?_, (h.1 c main_v36 rfl (by decide)).trans ?_, (h.1 c main_v51 rfl (by decide)).trans ?_, (h.1 c main_v22 rfl (by decide)).trans ?_, (h.1 c main_v37 rfl (by decide)).trans ?_, (h.1 c main_v52 rfl (by decide)).trans ?_, (h.1 c main_v23 rfl (by decide)).trans ?_, (h.1 c main_v38 rfl (by decide)).trans ?_, (h.1 c main_v53 rfl (by decide)).trans ?_, (h.1 c main_v24 rfl (by decide)).trans ?_, (h.1 c main_v39 rfl (by decide)).trans ?_, (h.1 c main_v54 rfl (by decide)).trans ?_, (h.1 c main_v25 rfl (by decide)).trans ?_, (h.1 c main_v40 rfl (by decide)).trans ?_, (h.1 c main_v55 rfl (by decide)).trans ?_, (h.1 c main_v26 rfl (by decide)).trans ?_, (h.1 c main_v41 rfl (by decide)).trans ?_, (h.1 c main_v56 rfl (by decide)).trans ?_, (h.1 c main_v27 rfl (by decide)).trans ?_, (h.1 c main_v42 rfl (by decide)).trans ?_, (h.1 c main_v57 rfl (by decide)).trans ?_, (h.1 c main_v28 rfl (by decide)).trans ?_, (h.1 c main_v43 rfl (by decide)).trans ?_, (h.1 c main_v58 rfl (by decide)).trans ?_, (h.1 c main_v29 rfl (by decide)).trans ?_, (h.1 c main_v44 rfl (by decide)).trans ?_, (h.1 c main_v59 rfl (by decide)).trans ?_, (h.1 c main_v30 rfl (by decide)).trans ?_, (h.1 c main_v45 rfl (by decide)).trans ?_, (h.1 c main_v60 rfl (by decide)).trans ?_, (h.1 c main_v31 rfl (by decide)).trans ?_, (h.1 c main_v46 rfl (by decide)).trans ?_, (h.1 c main_v61 rfl (by decide)).trans ?_, (h.1 c main_v32 rfl (by decide)).trans ?_, (h.1 c main_v47 rfl (by decide)).trans ?_, (h.1 c main_v62 rfl (by decide)).trans ?_, h.2.1 c⟩,
    θ_run_mono (Cert.Reference7Ideal.Value.run (F := Ideal) m' ρ') fun r h c => ?_⟩
  on_goal 43 =>
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42⟩ := h c
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55⟩ := hm c
    exact ⟨h0.trans (change_congr e3 e1 e2 e0), h1.trans (first_congr e3 e1), h2.trans (second_congr e3 e2), h3.trans (change_congr e7 e5 e6 e4), h4.trans (first_congr e7 e5), h5.trans (second_congr e7 e6), h6.trans (change_congr e11 e9 e10 e8), h7.trans (first_congr e11 e9), h8.trans (second_congr e11 e10), h9.trans (change_congr e15 e13 e14 e12), h10.trans (first_congr e15 e13), h11.trans (second_congr e15 e14), h12.trans (change_congr e19 e17 e18 e16), h13.trans (first_congr e19 e17), h14.trans (second_congr e19 e18), h15.trans (change_congr e23 e21 e22 e20), h16.trans (first_congr e23 e21), h17.trans (second_congr e23 e22), h18.trans (change_congr e27 e25 e26 e24), h19.trans (first_congr e27 e25), h20.trans (second_congr e27 e26), h21.trans (change_congr e31 e29 e30 e28), h22.trans (first_congr e31 e29), h23.trans (second_congr e31 e30), h24.trans (change_congr e35 e33 e34 e32), h25.trans (first_congr e35 e33), h26.trans (second_congr e35 e34), h27.trans (change_congr e39 e37 e38 e36), h28.trans (first_congr e39 e37), h29.trans (second_congr e39 e38), h30.trans (change_congr e43 e41 e42 e40), h31.trans (first_congr e43 e41), h32.trans (second_congr e43 e42), h33.trans (change_congr e47 e45 e46 e44), h34.trans (first_congr e47 e45), h35.trans (second_congr e47 e46), h36.trans (change_congr e51 e49 e50 e48), h37.trans (first_congr e51 e49), h38.trans (second_congr e51 e50), h39.trans (change_congr e55 e53 e54 e52), h40.trans (first_congr e55 e53), h41.trans (second_congr e55 e54), h42⟩
  all_goals
    unfold left Pipeline.afterTail
    simp only [hostOps1, List.flatten_cons, List.flatten_nil, List.append_nil]
    after_results
    first
      | refine (congrArg (piece _ _ _) (arr_left m c 4)).trans ((piece_arr m c _ _ _).1.trans ?_)
      | refine (congrArg (piece _ _ _) (arr_left m c 5)).trans ((piece_arr m c _ _ _).2.1.trans ?_)
      | refine (congrArg (piece _ _ _) (arr_left m c 6)).trans ((piece_arr m c _ _ _).2.2.trans ?_)
    simp only [entry m c, piece_rows]
    try rfl

end Cert.Proof.Seven

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Frames
public import proofs.«01_k».proof.Proof.Algebraic
public import proofs.«01_k».proof.Proof.Frames2
public import proofs.«01_k».proof.Proof.Algebraic2
public import proofs.«01_k».proof.Proof.Frames3
public import proofs.«01_k».proof.Proof.Algebraic3
public import proofs.«01_k».proof.Proof.Frames4
public import proofs.«01_k».proof.Proof.Algebraic4
public import proofs.«01_k».proof.Proof.Update5
public import proofs.«01_k».proof.Proof.Update6
public import proofs.«01_k».proof.Proof.Update7
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite.Gen.facts, Cert.Pre_finite2.Gen.facts,
    frame_p, frame_pi, fun m ρ _ => frame_pi m ρ trivial, frame_ri, fun m ρ _ => frame_ri m ρ trivial,
    Two.frame_p, Two.frame_pi, fun m ρ _ => Two.frame_pi m ρ trivial, Two.frame_ri, fun m ρ _ => Two.frame_ri m ρ trivial,
    Three.frame_p, Three.frame_pi, Three.frame_ri, Four.frame_p, Four.frame_pi, Four.frame_ri,
    Five.frame_p, Five.frame_pi, Five.frame_ri, Six.frame_p, Six.frame_pi, Six.frame_ri, Seven.frame_p, Seven.frame_pi, Seven.frame_ri,
    trivial, algebraic, trivial, Two.algebraic, trivial, Three.algebraic, trivial, Four.algebraic,
    trivial, Five.algebraic, trivial, Six.algebraic, trivial, Seven.algebraic⟩

end Cert.Proof

end
